-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelDownDx (m : (ℓ : Loc Cert.KernelDownDx.nD Cert.KernelDownDx.τ Cert.KernelDownDx.sig) → Buf (Elt Bits) ℓ) : Prop :=
  True

def Pre_KernelDownDxIdeal (m : (ℓ : Loc Cert.KernelDownDxIdeal.nD Cert.KernelDownDxIdeal.τ Cert.KernelDownDxIdeal.sig) → Buf (Elt Ideal) ℓ) : Prop :=
  True

def Pre_ReferenceDownDxIdeal (m : (ℓ : Loc Cert.ReferenceDownDxIdeal.nD Cert.ReferenceDownDxIdeal.τ Cert.ReferenceDownDxIdeal.sig) → Buf (Elt Ideal) ℓ) : Prop :=
  True

def Pre_KernelDownDw (m : (ℓ : Loc Cert.KernelDownDw.nD Cert.KernelDownDw.τ Cert.KernelDownDw.sig) → Buf (Elt Bits) ℓ) : Prop :=
  True

def Pre_KernelDownDwIdeal (m : (ℓ : Loc Cert.KernelDownDwIdeal.nD Cert.KernelDownDwIdeal.τ Cert.KernelDownDwIdeal.sig) → Buf (Elt Ideal) ℓ) : Prop :=
  True

def Pre_ReferenceDownDwIdeal (m : (ℓ : Loc Cert.ReferenceDownDwIdeal.nD Cert.ReferenceDownDwIdeal.τ Cert.ReferenceDownDwIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelUpDx (m : (ℓ : Loc Cert.KernelUpDx.nD Cert.KernelUpDx.τ Cert.KernelUpDx.sig) → Buf (Elt Bits) ℓ) : Prop :=
  True

def Pre_KernelUpDxIdeal (m : (ℓ : Loc Cert.KernelUpDxIdeal.nD Cert.KernelUpDxIdeal.τ Cert.KernelUpDxIdeal.sig) → Buf (Elt Ideal) ℓ) : Prop :=
  True

def Pre_ReferenceUpDxIdeal (m : (ℓ : Loc Cert.ReferenceUpDxIdeal.nD Cert.ReferenceUpDxIdeal.τ Cert.ReferenceUpDxIdeal.sig) → Buf (Elt Ideal) ℓ) : Prop :=
  True

def Pre_KernelUpDw (m : (ℓ : Loc Cert.KernelUpDw.nD Cert.KernelUpDw.τ Cert.KernelUpDw.sig) → Buf (Elt Bits) ℓ) : Prop :=
  True

def Pre_KernelUpDwIdeal (m : (ℓ : Loc Cert.KernelUpDwIdeal.nD Cert.KernelUpDwIdeal.τ Cert.KernelUpDwIdeal.sig) → Buf (Elt Ideal) ℓ) : Prop :=
  True

def Pre_ReferenceUpDwIdeal (m : (ℓ : Loc Cert.ReferenceUpDwIdeal.nD Cert.ReferenceUpDwIdeal.τ Cert.ReferenceUpDwIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelInDx (m : (ℓ : Loc Cert.KernelInDx.nD Cert.KernelInDx.τ Cert.KernelInDx.sig) → Buf (Elt Bits) ℓ) : Prop :=
  True

def Pre_KernelInDxIdeal (m : (ℓ : Loc Cert.KernelInDxIdeal.nD Cert.KernelInDxIdeal.τ Cert.KernelInDxIdeal.sig) → Buf (Elt Ideal) ℓ) : Prop :=
  True

def Pre_ReferenceInDxIdeal (m : (ℓ : Loc Cert.ReferenceInDxIdeal.nD Cert.ReferenceInDxIdeal.τ Cert.ReferenceInDxIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelMergeBwd (m : (ℓ : Loc Cert.KernelMergeBwd.nD Cert.KernelMergeBwd.τ Cert.KernelMergeBwd.sig) → Buf (Elt Bits) ℓ) : Prop :=
  True

def Pre_KernelMergeBwdIdeal (m : (ℓ : Loc Cert.KernelMergeBwdIdeal.nD Cert.KernelMergeBwdIdeal.τ Cert.KernelMergeBwdIdeal.sig) → Buf (Elt Ideal) ℓ) : Prop :=
  True

def Pre_ReferenceMergeBwdIdeal (m : (ℓ : Loc Cert.ReferenceMergeBwdIdeal.nD Cert.ReferenceMergeBwdIdeal.τ Cert.ReferenceMergeBwdIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelBrDw (m : (ℓ : Loc Cert.KernelBrDw.nD Cert.KernelBrDw.τ Cert.KernelBrDw.sig) → Buf (Elt Bits) ℓ) : Prop :=
  True

def Pre_KernelBrDwIdeal (m : (ℓ : Loc Cert.KernelBrDwIdeal.nD Cert.KernelBrDwIdeal.τ Cert.KernelBrDwIdeal.sig) → Buf (Elt Ideal) ℓ) : Prop :=
  True

def Pre_ReferenceBrDwIdeal (m : (ℓ : Loc Cert.ReferenceBrDwIdeal.nD Cert.ReferenceBrDwIdeal.τ Cert.ReferenceBrDwIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamRows (m : (ℓ : Loc Cert.KernelAdamRows.nD Cert.KernelAdamRows.τ Cert.KernelAdamRows.sig) → Buf (Elt Bits) ℓ) : Prop :=
  True

def Pre_KernelAdamRowsIdeal (m : (ℓ : Loc Cert.KernelAdamRowsIdeal.nD Cert.KernelAdamRowsIdeal.τ Cert.KernelAdamRowsIdeal.sig) → Buf (Elt Ideal) ℓ) : Prop :=
  True

def Pre_ReferenceAdamRowsIdeal (m : (ℓ : Loc Cert.ReferenceAdamRowsIdeal.nD Cert.ReferenceAdamRowsIdeal.τ Cert.ReferenceAdamRowsIdeal.sig) → Buf (Elt Ideal) ℓ) : Prop :=
  True

def Pre_KernelAdamBr (m : (ℓ : Loc Cert.KernelAdamBr.nD Cert.KernelAdamBr.τ Cert.KernelAdamBr.sig) → Buf (Elt Bits) ℓ) : Prop :=
  True

def Pre_KernelAdamBrIdeal (m : (ℓ : Loc Cert.KernelAdamBrIdeal.nD Cert.KernelAdamBrIdeal.τ Cert.KernelAdamBrIdeal.sig) → Buf (Elt Ideal) ℓ) : Prop :=
  True

def Pre_ReferenceAdamBrIdeal (m : (ℓ : Loc Cert.ReferenceAdamBrIdeal.nD Cert.ReferenceAdamBrIdeal.τ Cert.ReferenceAdamBrIdeal.sig) → Buf (Elt Ideal) ℓ) : Prop :=
  True

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelAdamConv (m : (ℓ : Loc Cert.KernelAdamConv.nD Cert.KernelAdamConv.τ Cert.KernelAdamConv.sig) → Buf (Elt Bits) ℓ) : Prop :=
  True

def Pre_KernelAdamConvIdeal (m : (ℓ : Loc Cert.KernelAdamConvIdeal.nD Cert.KernelAdamConvIdeal.τ Cert.KernelAdamConvIdeal.sig) → Buf (Elt Ideal) ℓ) : Prop :=
  True

def Pre_ReferenceAdamConvIdeal (m : (ℓ : Loc Cert.ReferenceAdamConvIdeal.nD Cert.ReferenceAdamConvIdeal.τ Cert.ReferenceAdamConvIdeal.sig) → Buf (Elt Ideal) ℓ) : Prop :=
  True

def Pre_KernelKvProj (m : (ℓ : Loc Cert.KernelKvProj.nD Cert.KernelKvProj.τ Cert.KernelKvProj.sig) → Buf (Elt Bits) ℓ) : Prop :=
  True

def Pre_KernelKvProjIdeal (m : (ℓ : Loc Cert.KernelKvProjIdeal.nD Cert.KernelKvProjIdeal.τ Cert.KernelKvProjIdeal.sig) → Buf (Elt Ideal) ℓ) : Prop :=
  True

def Pre_ReferenceKvProjIdeal (m : (ℓ : Loc Cert.ReferenceKvProjIdeal.nD Cert.ReferenceKvProjIdeal.τ Cert.ReferenceKvProjIdeal.sig) → Buf (Elt Ideal) ℓ) : Prop :=
  True

def Pre_KernelKvDw (m : (ℓ : Loc Cert.KernelKvDw.nD Cert.KernelKvDw.τ Cert.KernelKvDw.sig) → Buf (Elt Bits) ℓ) : Prop :=
  True

def Pre_KernelKvDwIdeal (m : (ℓ : Loc Cert.KernelKvDwIdeal.nD Cert.KernelKvDwIdeal.τ Cert.KernelKvDwIdeal.sig) → Buf (Elt Ideal) ℓ) : Prop :=
  True

def Pre_ReferenceKvDwIdeal (m : (ℓ : Loc Cert.ReferenceKvDwIdeal.nD Cert.ReferenceKvDwIdeal.τ Cert.ReferenceKvDwIdeal.sig) → Buf (Elt Ideal) ℓ) : Prop :=
  True

def Pre_KernelKvDx (m : (ℓ : Loc Cert.KernelKvDx.nD Cert.KernelKvDx.τ Cert.KernelKvDx.sig) → Buf (Elt Bits) ℓ) : Prop :=
  True

def Pre_KernelKvDxIdeal (m : (ℓ : Loc Cert.KernelKvDxIdeal.nD Cert.KernelKvDxIdeal.τ Cert.KernelKvDxIdeal.sig) → Buf (Elt Ideal) ℓ) : Prop :=
  True

def Pre_ReferenceKvDxIdeal (m : (ℓ : Loc Cert.ReferenceKvDxIdeal.nD Cert.ReferenceKvDxIdeal.τ Cert.ReferenceKvDxIdeal.sig) → Buf (Elt Ideal) ℓ) : Prop :=
  True

def Pre_KernelMemFwd (m : (ℓ : Loc Cert.KernelMemFwd.nD Cert.KernelMemFwd.τ Cert.KernelMemFwd.sig) → Buf (Elt Bits) ℓ) : Prop :=
  True

def Pre_KernelMemFwdIdeal (m : (ℓ : Loc Cert.KernelMemFwdIdeal.nD Cert.KernelMemFwdIdeal.τ Cert.KernelMemFwdIdeal.sig) → Buf (Elt Ideal) ℓ) : Prop :=
  True

def Pre_ReferenceMemFwdIdeal (m : (ℓ : Loc Cert.ReferenceMemFwdIdeal.nD Cert.ReferenceMemFwdIdeal.τ Cert.ReferenceMemFwdIdeal.sig) → Buf (Elt Ideal) ℓ) : Prop :=
  True

def Pre_KernelNormFwd (m : (ℓ : Loc Cert.KernelNormFwd.nD Cert.KernelNormFwd.τ Cert.KernelNormFwd.sig) → Buf (Elt Bits) ℓ) : Prop :=
  True

def Pre_KernelNormFwdIdeal (m : (ℓ : Loc Cert.KernelNormFwdIdeal.nD Cert.KernelNormFwdIdeal.τ Cert.KernelNormFwdIdeal.sig) → Buf (Elt Ideal) ℓ) : Prop :=
  True

def Pre_ReferenceNormFwdIdeal (m : (ℓ : Loc Cert.ReferenceNormFwdIdeal.nD Cert.ReferenceNormFwdIdeal.τ Cert.ReferenceNormFwdIdeal.sig) → Buf (Elt Ideal) ℓ) : Prop :=
  True

def Pre_KernelNormMemFwd (m : (ℓ : Loc Cert.KernelNormMemFwd.nD Cert.KernelNormMemFwd.τ Cert.KernelNormMemFwd.sig) → Buf (Elt Bits) ℓ) : Prop :=
  True

def Pre_KernelNormMemFwdIdeal (m : (ℓ : Loc Cert.KernelNormMemFwdIdeal.nD Cert.KernelNormMemFwdIdeal.τ Cert.KernelNormMemFwdIdeal.sig) → Buf (Elt Ideal) ℓ) : Prop :=
  True

def Pre_ReferenceNormMemFwdIdeal (m : (ℓ : Loc Cert.ReferenceNormMemFwdIdeal.nD Cert.ReferenceNormMemFwdIdeal.τ Cert.ReferenceNormMemFwdIdeal.sig) → Buf (Elt Ideal) ℓ) : Prop :=
  True

def Pre_KernelNormMemBwd (m : (ℓ : Loc Cert.KernelNormMemBwd.nD Cert.KernelNormMemBwd.τ Cert.KernelNormMemBwd.sig) → Buf (Elt Bits) ℓ) : Prop :=
  True

def Pre_KernelNormMemBwdIdeal (m : (ℓ : Loc Cert.KernelNormMemBwdIdeal.nD Cert.KernelNormMemBwdIdeal.τ Cert.KernelNormMemBwdIdeal.sig) → Buf (Elt Ideal) ℓ) : Prop :=
  True

def Pre_ReferenceNormMemBwdIdeal (m : (ℓ : Loc Cert.ReferenceNormMemBwdIdeal.nD Cert.ReferenceNormMemBwdIdeal.τ Cert.ReferenceNormMemBwdIdeal.sig) → Buf (Elt Ideal) ℓ) : Prop :=
  True

def Pre_KernelForget (m : (ℓ : Loc Cert.KernelForget.nD Cert.KernelForget.τ Cert.KernelForget.sig) → Buf (Elt Bits) ℓ) : Prop :=
  True

def Pre_KernelForgetIdeal (m : (ℓ : Loc Cert.KernelForgetIdeal.nD Cert.KernelForgetIdeal.τ Cert.KernelForgetIdeal.sig) → Buf (Elt Ideal) ℓ) : Prop :=
  True

def Pre_ReferenceForgetIdeal (m : (ℓ : Loc Cert.ReferenceForgetIdeal.nD Cert.ReferenceForgetIdeal.τ Cert.ReferenceForgetIdeal.sig) → Buf (Elt Ideal) ℓ) : Prop :=
  True

def Pre_KernelForgetDw (m : (ℓ : Loc Cert.KernelForgetDw.nD Cert.KernelForgetDw.τ Cert.KernelForgetDw.sig) → Buf (Elt Bits) ℓ) : Prop :=
  True

def Pre_KernelForgetDwIdeal (m : (ℓ : Loc Cert.KernelForgetDwIdeal.nD Cert.KernelForgetDwIdeal.τ Cert.KernelForgetDwIdeal.sig) → Buf (Elt Ideal) ℓ) : Prop :=
  True

def Pre_ReferenceForgetDwIdeal (m : (ℓ : Loc Cert.ReferenceForgetDwIdeal.nD Cert.ReferenceForgetDwIdeal.τ Cert.ReferenceForgetDwIdeal.sig) → Buf (Elt Ideal) ℓ) : Prop :=
  True

def Pre_KernelForgetDx (m : (ℓ : Loc Cert.KernelForgetDx.nD Cert.KernelForgetDx.τ Cert.KernelForgetDx.sig) → Buf (Elt Bits) ℓ) : Prop :=
  True

def Pre_KernelForgetDxIdeal (m : (ℓ : Loc Cert.KernelForgetDxIdeal.nD Cert.KernelForgetDxIdeal.τ Cert.KernelForgetDxIdeal.sig) → Buf (Elt Ideal) ℓ) : Prop :=
  True

def Pre_ReferenceForgetDxIdeal (m : (ℓ : Loc Cert.ReferenceForgetDxIdeal.nD Cert.ReferenceForgetDxIdeal.τ Cert.ReferenceForgetDxIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3))
      ∧ r.2.sem = fun _ => 0)

def quiescent_KernelDownDx [hKernelDownDx : Cert.KernelDownDx.Facts] : Prop :=
  ∀ (m : (ℓ : Loc Cert.KernelDownDx.nD Cert.KernelDownDx.τ Cert.KernelDownDx.sig) → Buf (Elt Bits) ℓ) (g : Dev Cert.KernelDownDx.nD → PrngReg), Pre_KernelDownDx m →
    θ_run (Cert.KernelDownDx.defs (F := Bits)) (onTc (τ := Cert.KernelDownDx.τ) (Cert.KernelDownDx.main (F := Bits))) ⟨m, fun _ => 0, g⟩ (fun r => (∀ c : Dev Cert.KernelDownDx.nD,
      r.2.mem ((c.tc : Thread Cert.KernelDownDx.nD Cert.KernelDownDx.τ).loc Cert.KernelDownDx.main_arg0) = m ((c.tc : Thread Cert.KernelDownDx.nD Cert.KernelDownDx.τ).loc Cert.KernelDownDx.main_arg0)
      ∧ r.2.mem ((c.tc : Thread Cert.KernelDownDx.nD Cert.KernelDownDx.τ).loc Cert.KernelDownDx.main_arg1) = m ((c.tc : Thread Cert.KernelDownDx.nD Cert.KernelDownDx.τ).loc Cert.KernelDownDx.main_arg1))
      ∧ r.2.sem = fun _ => 0)

def quiescent_KernelDownDxIdeal [hKernelDownDxIdeal : Cert.KernelDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg), Pre_KernelDownDxIdeal m →
    θ_run (Cert.KernelDownDxIdeal.defs (F := Ideal)) (onTc (τ := Cert.KernelDownDxIdeal.τ) (Cert.KernelDownDxIdeal.main (F := Ideal))) ⟨m, fun _ => 0, g⟩ (fun r => (∀ c : Dev Cert.KernelDownDxIdeal.nD,
      r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
      ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ r.2.sem = fun _ => 0)

def quiescent_ReferenceDownDxIdeal [hReferenceDownDxIdeal : Cert.ReferenceDownDxIdeal.Facts] : Prop :=
  ∀ (m : (ℓ : Loc Cert.ReferenceDownDxIdeal.nD Cert.ReferenceDownDxIdeal.τ Cert.ReferenceDownDxIdeal.sig) → Buf (Elt Ideal) ℓ) (g : Dev Cert.ReferenceDownDxIdeal.nD → PrngReg), Pre_ReferenceDownDxIdeal m →
    θ_run (Cert.ReferenceDownDxIdeal.defs (F := Ideal)) (onTc (τ := Cert.ReferenceDownDxIdeal.τ) (Cert.ReferenceDownDxIdeal.main (F := Ideal))) ⟨m, fun _ => 0, g⟩ (fun r => (∀ c : Dev Cert.ReferenceDownDxIdeal.nD,
      r.2.mem ((c.tc : Thread Cert.ReferenceDownDxIdeal.nD Cert.ReferenceDownDxIdeal.τ).loc Cert.ReferenceDownDxIdeal.main_arg0) = m ((c.tc : Thread Cert.ReferenceDownDxIdeal.nD Cert.ReferenceDownDxIdeal.τ).loc Cert.ReferenceDownDxIdeal.main_arg0)
      ∧ r.2.mem ((c.tc : Thread Cert.ReferenceDownDxIdeal.nD Cert.ReferenceDownDxIdeal.τ).loc Cert.ReferenceDownDxIdeal.main_arg1) = m ((c.tc : Thread Cert.ReferenceDownDxIdeal.nD Cert.ReferenceDownDxIdeal.τ).loc Cert.ReferenceDownDxIdeal.main_arg1))
      ∧ r.2.sem = fun _ => 0)

def quiescent_KernelDownDw [hKernelDownDw : Cert.KernelDownDw.Facts] : Prop :=
  ∀ (m : (ℓ : Loc Cert.KernelDownDw.nD Cert.KernelDownDw.τ Cert.KernelDownDw.sig) → Buf (Elt Bits) ℓ) (g : Dev Cert.KernelDownDw.nD → PrngReg), Pre_KernelDownDw m →
    θ_run (Cert.KernelDownDw.defs (F := Bits)) (onTc (τ := Cert.KernelDownDw.τ) (Cert.KernelDownDw.main (F := Bits))) ⟨m, fun _ => 0, g⟩ (fun r => (∀ c : Dev Cert.KernelDownDw.nD,
      r.2.mem ((c.tc : Thread Cert.KernelDownDw.nD Cert.KernelDownDw.τ).loc Cert.KernelDownDw.main_arg0) = m ((c.tc : Thread Cert.KernelDownDw.nD Cert.KernelDownDw.τ).loc Cert.KernelDownDw.main_arg0)
      ∧ r.2.mem ((c.tc : Thread Cert.KernelDownDw.nD Cert.KernelDownDw.τ).loc Cert.KernelDownDw.main_arg1) = m ((c.tc : Thread Cert.KernelDownDw.nD Cert.KernelDownDw.τ).loc Cert.KernelDownDw.main_arg1))
      ∧ r.2.sem = fun _ => 0)

def quiescent_KernelDownDwIdeal [hKernelDownDwIdeal : Cert.KernelDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg), Pre_KernelDownDwIdeal m →
    θ_run (Cert.KernelDownDwIdeal.defs (F := Ideal)) (onTc (τ := Cert.KernelDownDwIdeal.τ) (Cert.KernelDownDwIdeal.main (F := Ideal))) ⟨m, fun _ => 0, g⟩ (fun r => (∀ c : Dev Cert.KernelDownDwIdeal.nD,
      r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
      ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ r.2.sem = fun _ => 0)

def quiescent_ReferenceDownDwIdeal [hReferenceDownDwIdeal : Cert.ReferenceDownDwIdeal.Facts] : Prop :=
  ∀ (m : (ℓ : Loc Cert.ReferenceDownDwIdeal.nD Cert.ReferenceDownDwIdeal.τ Cert.ReferenceDownDwIdeal.sig) → Buf (Elt Ideal) ℓ) (g : Dev Cert.ReferenceDownDwIdeal.nD → PrngReg), Pre_ReferenceDownDwIdeal m →
    θ_run (Cert.ReferenceDownDwIdeal.defs (F := Ideal)) (onTc (τ := Cert.ReferenceDownDwIdeal.τ) (Cert.ReferenceDownDwIdeal.main (F := Ideal))) ⟨m, fun _ => 0, g⟩ (fun r => (∀ c : Dev Cert.ReferenceDownDwIdeal.nD,
      r.2.mem ((c.tc : Thread Cert.ReferenceDownDwIdeal.nD Cert.ReferenceDownDwIdeal.τ).loc Cert.ReferenceDownDwIdeal.main_arg0) = m ((c.tc : Thread Cert.ReferenceDownDwIdeal.nD Cert.ReferenceDownDwIdeal.τ).loc Cert.ReferenceDownDwIdeal.main_arg0)
      ∧ r.2.mem ((c.tc : Thread Cert.ReferenceDownDwIdeal.nD Cert.ReferenceDownDwIdeal.τ).loc Cert.ReferenceDownDwIdeal.main_arg1) = m ((c.tc : Thread Cert.ReferenceDownDwIdeal.nD Cert.ReferenceDownDwIdeal.τ).loc Cert.ReferenceDownDwIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelUpDx [hKernelUpDx : Cert.KernelUpDx.Facts] : Prop :=
  ∀ (m : (ℓ : Loc Cert.KernelUpDx.nD Cert.KernelUpDx.τ Cert.KernelUpDx.sig) → Buf (Elt Bits) ℓ) (g : Dev Cert.KernelUpDx.nD → PrngReg), Pre_KernelUpDx m →
    θ_run (Cert.KernelUpDx.defs (F := Bits)) (onTc (τ := Cert.KernelUpDx.τ) (Cert.KernelUpDx.main (F := Bits))) ⟨m, fun _ => 0, g⟩ (fun r => (∀ c : Dev Cert.KernelUpDx.nD,
      r.2.mem ((c.tc : Thread Cert.KernelUpDx.nD Cert.KernelUpDx.τ).loc Cert.KernelUpDx.main_arg0) = m ((c.tc : Thread Cert.KernelUpDx.nD Cert.KernelUpDx.τ).loc Cert.KernelUpDx.main_arg0)
      ∧ r.2.mem ((c.tc : Thread Cert.KernelUpDx.nD Cert.KernelUpDx.τ).loc Cert.KernelUpDx.main_arg1) = m ((c.tc : Thread Cert.KernelUpDx.nD Cert.KernelUpDx.τ).loc Cert.KernelUpDx.main_arg1)
      ∧ r.2.mem ((c.tc : Thread Cert.KernelUpDx.nD Cert.KernelUpDx.τ).loc Cert.KernelUpDx.main_arg2) = m ((c.tc : Thread Cert.KernelUpDx.nD Cert.KernelUpDx.τ).loc Cert.KernelUpDx.main_arg2)
      ∧ r.2.mem ((c.tc : Thread Cert.KernelUpDx.nD Cert.KernelUpDx.τ).loc Cert.KernelUpDx.main_arg3) = m ((c.tc : Thread Cert.KernelUpDx.nD Cert.KernelUpDx.τ).loc Cert.KernelUpDx.main_arg3)
      ∧ r.2.mem ((c.tc : Thread Cert.KernelUpDx.nD Cert.KernelUpDx.τ).loc Cert.KernelUpDx.main_arg4) = m ((c.tc : Thread Cert.KernelUpDx.nD Cert.KernelUpDx.τ).loc Cert.KernelUpDx.main_arg4)
      ∧ r.2.mem ((c.tc : Thread Cert.KernelUpDx.nD Cert.KernelUpDx.τ).loc Cert.KernelUpDx.main_arg5) = m ((c.tc : Thread Cert.KernelUpDx.nD Cert.KernelUpDx.τ).loc Cert.KernelUpDx.main_arg5))
      ∧ r.2.sem = fun _ => 0)

def quiescent_KernelUpDxIdeal [hKernelUpDxIdeal : Cert.KernelUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg), Pre_KernelUpDxIdeal m →
    θ_run (Cert.KernelUpDxIdeal.defs (F := Ideal)) (onTc (τ := Cert.KernelUpDxIdeal.τ) (Cert.KernelUpDxIdeal.main (F := Ideal))) ⟨m, fun _ => 0, g⟩ (fun r => (∀ c : Dev Cert.KernelUpDxIdeal.nD,
      r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
      ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1)
      ∧ r.2.mem ((c.tc : Thread Cert.KernelUpDxIdeal.nD Cert.KernelUpDxIdeal.τ).loc Cert.KernelUpDxIdeal.main_arg2) = m ((c.tc : Thread Cert.KernelUpDxIdeal.nD Cert.KernelUpDxIdeal.τ).loc Cert.KernelUpDxIdeal.main_arg2)
      ∧ r.2.mem ((c.tc : Thread Cert.KernelUpDxIdeal.nD Cert.KernelUpDxIdeal.τ).loc Cert.KernelUpDxIdeal.main_arg3) = m ((c.tc : Thread Cert.KernelUpDxIdeal.nD Cert.KernelUpDxIdeal.τ).loc Cert.KernelUpDxIdeal.main_arg3)
      ∧ r.2.mem ((c.tc : Thread Cert.KernelUpDxIdeal.nD Cert.KernelUpDxIdeal.τ).loc Cert.KernelUpDxIdeal.main_arg4) = m ((c.tc : Thread Cert.KernelUpDxIdeal.nD Cert.KernelUpDxIdeal.τ).loc Cert.KernelUpDxIdeal.main_arg4)
      ∧ r.2.mem ((c.tc : Thread Cert.KernelUpDxIdeal.nD Cert.KernelUpDxIdeal.τ).loc Cert.KernelUpDxIdeal.main_arg5) = m ((c.tc : Thread Cert.KernelUpDxIdeal.nD Cert.KernelUpDxIdeal.τ).loc Cert.KernelUpDxIdeal.main_arg5))
      ∧ r.2.sem = fun _ => 0)

def quiescent_ReferenceUpDxIdeal [hReferenceUpDxIdeal : Cert.ReferenceUpDxIdeal.Facts] : Prop :=
  ∀ (m : (ℓ : Loc Cert.ReferenceUpDxIdeal.nD Cert.ReferenceUpDxIdeal.τ Cert.ReferenceUpDxIdeal.sig) → Buf (Elt Ideal) ℓ) (g : Dev Cert.ReferenceUpDxIdeal.nD → PrngReg), Pre_ReferenceUpDxIdeal m →
    θ_run (Cert.ReferenceUpDxIdeal.defs (F := Ideal)) (onTc (τ := Cert.ReferenceUpDxIdeal.τ) (Cert.ReferenceUpDxIdeal.main (F := Ideal))) ⟨m, fun _ => 0, g⟩ (fun r => (∀ c : Dev Cert.ReferenceUpDxIdeal.nD,
      r.2.mem ((c.tc : Thread Cert.ReferenceUpDxIdeal.nD Cert.ReferenceUpDxIdeal.τ).loc Cert.ReferenceUpDxIdeal.main_arg0) = m ((c.tc : Thread Cert.ReferenceUpDxIdeal.nD Cert.ReferenceUpDxIdeal.τ).loc Cert.ReferenceUpDxIdeal.main_arg0)
      ∧ r.2.mem ((c.tc : Thread Cert.ReferenceUpDxIdeal.nD Cert.ReferenceUpDxIdeal.τ).loc Cert.ReferenceUpDxIdeal.main_arg1) = m ((c.tc : Thread Cert.ReferenceUpDxIdeal.nD Cert.ReferenceUpDxIdeal.τ).loc Cert.ReferenceUpDxIdeal.main_arg1)
      ∧ r.2.mem ((c.tc : Thread Cert.ReferenceUpDxIdeal.nD Cert.ReferenceUpDxIdeal.τ).loc Cert.ReferenceUpDxIdeal.main_arg2) = m ((c.tc : Thread Cert.ReferenceUpDxIdeal.nD Cert.ReferenceUpDxIdeal.τ).loc Cert.ReferenceUpDxIdeal.main_arg2)
      ∧ r.2.mem ((c.tc : Thread Cert.ReferenceUpDxIdeal.nD Cert.ReferenceUpDxIdeal.τ).loc Cert.ReferenceUpDxIdeal.main_arg3) = m ((c.tc : Thread Cert.ReferenceUpDxIdeal.nD Cert.ReferenceUpDxIdeal.τ).loc Cert.ReferenceUpDxIdeal.main_arg3)
      ∧ r.2.mem ((c.tc : Thread Cert.ReferenceUpDxIdeal.nD Cert.ReferenceUpDxIdeal.τ).loc Cert.ReferenceUpDxIdeal.main_arg4) = m ((c.tc : Thread Cert.ReferenceUpDxIdeal.nD Cert.ReferenceUpDxIdeal.τ).loc Cert.ReferenceUpDxIdeal.main_arg4)
      ∧ r.2.mem ((c.tc : Thread Cert.ReferenceUpDxIdeal.nD Cert.ReferenceUpDxIdeal.τ).loc Cert.ReferenceUpDxIdeal.main_arg5) = m ((c.tc : Thread Cert.ReferenceUpDxIdeal.nD Cert.ReferenceUpDxIdeal.τ).loc Cert.ReferenceUpDxIdeal.main_arg5))
      ∧ r.2.sem = fun _ => 0)

def quiescent_KernelUpDw [hKernelUpDw : Cert.KernelUpDw.Facts] : Prop :=
  ∀ (m : (ℓ : Loc Cert.KernelUpDw.nD Cert.KernelUpDw.τ Cert.KernelUpDw.sig) → Buf (Elt Bits) ℓ) (g : Dev Cert.KernelUpDw.nD → PrngReg), Pre_KernelUpDw m →
    θ_run (Cert.KernelUpDw.defs (F := Bits)) (onTc (τ := Cert.KernelUpDw.τ) (Cert.KernelUpDw.main (F := Bits))) ⟨m, fun _ => 0, g⟩ (fun r => (∀ c : Dev Cert.KernelUpDw.nD,
      r.2.mem ((c.tc : Thread Cert.KernelUpDw.nD Cert.KernelUpDw.τ).loc Cert.KernelUpDw.main_arg0) = m ((c.tc : Thread Cert.KernelUpDw.nD Cert.KernelUpDw.τ).loc Cert.KernelUpDw.main_arg0)
      ∧ r.2.mem ((c.tc : Thread Cert.KernelUpDw.nD Cert.KernelUpDw.τ).loc Cert.KernelUpDw.main_arg1) = m ((c.tc : Thread Cert.KernelUpDw.nD Cert.KernelUpDw.τ).loc Cert.KernelUpDw.main_arg1)
      ∧ r.2.mem ((c.tc : Thread Cert.KernelUpDw.nD Cert.KernelUpDw.τ).loc Cert.KernelUpDw.main_arg2) = m ((c.tc : Thread Cert.KernelUpDw.nD Cert.KernelUpDw.τ).loc Cert.KernelUpDw.main_arg2))
      ∧ r.2.sem = fun _ => 0)

def quiescent_KernelUpDwIdeal [hKernelUpDwIdeal : Cert.KernelUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg), Pre_KernelUpDwIdeal m →
    θ_run (Cert.KernelUpDwIdeal.defs (F := Ideal)) (onTc (τ := Cert.KernelUpDwIdeal.τ) (Cert.KernelUpDwIdeal.main (F := Ideal))) ⟨m, fun _ => 0, g⟩ (fun r => (∀ c : Dev Cert.KernelUpDwIdeal.nD,
      r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
      ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1)
      ∧ r.2.mem ((c.tc : Thread Cert.KernelUpDwIdeal.nD Cert.KernelUpDwIdeal.τ).loc Cert.KernelUpDwIdeal.main_arg2) = m ((c.tc : Thread Cert.KernelUpDwIdeal.nD Cert.KernelUpDwIdeal.τ).loc Cert.KernelUpDwIdeal.main_arg2))
      ∧ r.2.sem = fun _ => 0)

def quiescent_ReferenceUpDwIdeal [hReferenceUpDwIdeal : Cert.ReferenceUpDwIdeal.Facts] : Prop :=
  ∀ (m : (ℓ : Loc Cert.ReferenceUpDwIdeal.nD Cert.ReferenceUpDwIdeal.τ Cert.ReferenceUpDwIdeal.sig) → Buf (Elt Ideal) ℓ) (g : Dev Cert.ReferenceUpDwIdeal.nD → PrngReg), Pre_ReferenceUpDwIdeal m →
    θ_run (Cert.ReferenceUpDwIdeal.defs (F := Ideal)) (onTc (τ := Cert.ReferenceUpDwIdeal.τ) (Cert.ReferenceUpDwIdeal.main (F := Ideal))) ⟨m, fun _ => 0, g⟩ (fun r => (∀ c : Dev Cert.ReferenceUpDwIdeal.nD,
      r.2.mem ((c.tc : Thread Cert.ReferenceUpDwIdeal.nD Cert.ReferenceUpDwIdeal.τ).loc Cert.ReferenceUpDwIdeal.main_arg0) = m ((c.tc : Thread Cert.ReferenceUpDwIdeal.nD Cert.ReferenceUpDwIdeal.τ).loc Cert.ReferenceUpDwIdeal.main_arg0)
      ∧ r.2.mem ((c.tc : Thread Cert.ReferenceUpDwIdeal.nD Cert.ReferenceUpDwIdeal.τ).loc Cert.ReferenceUpDwIdeal.main_arg1) = m ((c.tc : Thread Cert.ReferenceUpDwIdeal.nD Cert.ReferenceUpDwIdeal.τ).loc Cert.ReferenceUpDwIdeal.main_arg1)
      ∧ r.2.mem ((c.tc : Thread Cert.ReferenceUpDwIdeal.nD Cert.ReferenceUpDwIdeal.τ).loc Cert.ReferenceUpDwIdeal.main_arg2) = m ((c.tc : Thread Cert.ReferenceUpDwIdeal.nD Cert.ReferenceUpDwIdeal.τ).loc Cert.ReferenceUpDwIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1))
      ∧ r.2.sem = fun _ => 0)

def quiescent_KernelInDx [hKernelInDx : Cert.KernelInDx.Facts] : Prop :=
  ∀ (m : (ℓ : Loc Cert.KernelInDx.nD Cert.KernelInDx.τ Cert.KernelInDx.sig) → Buf (Elt Bits) ℓ) (g : Dev Cert.KernelInDx.nD → PrngReg), Pre_KernelInDx m →
    θ_run (Cert.KernelInDx.defs (F := Bits)) (onTc (τ := Cert.KernelInDx.τ) (Cert.KernelInDx.main (F := Bits))) ⟨m, fun _ => 0, g⟩ (fun r => (∀ c : Dev Cert.KernelInDx.nD,
      r.2.mem ((c.tc : Thread Cert.KernelInDx.nD Cert.KernelInDx.τ).loc Cert.KernelInDx.main_arg0) = m ((c.tc : Thread Cert.KernelInDx.nD Cert.KernelInDx.τ).loc Cert.KernelInDx.main_arg0)
      ∧ r.2.mem ((c.tc : Thread Cert.KernelInDx.nD Cert.KernelInDx.τ).loc Cert.KernelInDx.main_arg1) = m ((c.tc : Thread Cert.KernelInDx.nD Cert.KernelInDx.τ).loc Cert.KernelInDx.main_arg1))
      ∧ r.2.sem = fun _ => 0)

def quiescent_KernelInDxIdeal [hKernelInDxIdeal : Cert.KernelInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg), Pre_KernelInDxIdeal m →
    θ_run (Cert.KernelInDxIdeal.defs (F := Ideal)) (onTc (τ := Cert.KernelInDxIdeal.τ) (Cert.KernelInDxIdeal.main (F := Ideal))) ⟨m, fun _ => 0, g⟩ (fun r => (∀ c : Dev Cert.KernelInDxIdeal.nD,
      r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
      ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ r.2.sem = fun _ => 0)

def quiescent_ReferenceInDxIdeal [hReferenceInDxIdeal : Cert.ReferenceInDxIdeal.Facts] : Prop :=
  ∀ (m : (ℓ : Loc Cert.ReferenceInDxIdeal.nD Cert.ReferenceInDxIdeal.τ Cert.ReferenceInDxIdeal.sig) → Buf (Elt Ideal) ℓ) (g : Dev Cert.ReferenceInDxIdeal.nD → PrngReg), Pre_ReferenceInDxIdeal m →
    θ_run (Cert.ReferenceInDxIdeal.defs (F := Ideal)) (onTc (τ := Cert.ReferenceInDxIdeal.τ) (Cert.ReferenceInDxIdeal.main (F := Ideal))) ⟨m, fun _ => 0, g⟩ (fun r => (∀ c : Dev Cert.ReferenceInDxIdeal.nD,
      r.2.mem ((c.tc : Thread Cert.ReferenceInDxIdeal.nD Cert.ReferenceInDxIdeal.τ).loc Cert.ReferenceInDxIdeal.main_arg0) = m ((c.tc : Thread Cert.ReferenceInDxIdeal.nD Cert.ReferenceInDxIdeal.τ).loc Cert.ReferenceInDxIdeal.main_arg0)
      ∧ r.2.mem ((c.tc : Thread Cert.ReferenceInDxIdeal.nD Cert.ReferenceInDxIdeal.τ).loc Cert.ReferenceInDxIdeal.main_arg1) = m ((c.tc : Thread Cert.ReferenceInDxIdeal.nD Cert.ReferenceInDxIdeal.τ).loc Cert.ReferenceInDxIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3)
      ∧ r.2.mem ((c.tc : Thread Cert.KernelNorm.nD Cert.KernelNorm.τ).loc Cert.KernelNorm.main_arg4) = m ((c.tc : Thread Cert.KernelNorm.nD Cert.KernelNorm.τ).loc Cert.KernelNorm.main_arg4))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9))
      ∧ r.2.sem = fun _ => 0)

def quiescent_KernelMergeBwd [hKernelMergeBwd : Cert.KernelMergeBwd.Facts] : Prop :=
  ∀ (m : (ℓ : Loc Cert.KernelMergeBwd.nD Cert.KernelMergeBwd.τ Cert.KernelMergeBwd.sig) → Buf (Elt Bits) ℓ) (g : Dev Cert.KernelMergeBwd.nD → PrngReg), Pre_KernelMergeBwd m →
    θ_run (Cert.KernelMergeBwd.defs (F := Bits)) (onTc (τ := Cert.KernelMergeBwd.τ) (Cert.KernelMergeBwd.main (F := Bits))) ⟨m, fun _ => 0, g⟩ (fun r => (∀ c : Dev Cert.KernelMergeBwd.nD,
      r.2.mem ((c.tc : Thread Cert.KernelMergeBwd.nD Cert.KernelMergeBwd.τ).loc Cert.KernelMergeBwd.main_arg0) = m ((c.tc : Thread Cert.KernelMergeBwd.nD Cert.KernelMergeBwd.τ).loc Cert.KernelMergeBwd.main_arg0)
      ∧ r.2.mem ((c.tc : Thread Cert.KernelMergeBwd.nD Cert.KernelMergeBwd.τ).loc Cert.KernelMergeBwd.main_arg1) = m ((c.tc : Thread Cert.KernelMergeBwd.nD Cert.KernelMergeBwd.τ).loc Cert.KernelMergeBwd.main_arg1)
      ∧ r.2.mem ((c.tc : Thread Cert.KernelMergeBwd.nD Cert.KernelMergeBwd.τ).loc Cert.KernelMergeBwd.main_arg2) = m ((c.tc : Thread Cert.KernelMergeBwd.nD Cert.KernelMergeBwd.τ).loc Cert.KernelMergeBwd.main_arg2)
      ∧ r.2.mem ((c.tc : Thread Cert.KernelMergeBwd.nD Cert.KernelMergeBwd.τ).loc Cert.KernelMergeBwd.main_arg3) = m ((c.tc : Thread Cert.KernelMergeBwd.nD Cert.KernelMergeBwd.τ).loc Cert.KernelMergeBwd.main_arg3)
      ∧ r.2.mem ((c.tc : Thread Cert.KernelMergeBwd.nD Cert.KernelMergeBwd.τ).loc Cert.KernelMergeBwd.main_arg4) = m ((c.tc : Thread Cert.KernelMergeBwd.nD Cert.KernelMergeBwd.τ).loc Cert.KernelMergeBwd.main_arg4)
      ∧ r.2.mem ((c.tc : Thread Cert.KernelMergeBwd.nD Cert.KernelMergeBwd.τ).loc Cert.KernelMergeBwd.main_arg5) = m ((c.tc : Thread Cert.KernelMergeBwd.nD Cert.KernelMergeBwd.τ).loc Cert.KernelMergeBwd.main_arg5)
      ∧ r.2.mem ((c.tc : Thread Cert.KernelMergeBwd.nD Cert.KernelMergeBwd.τ).loc Cert.KernelMergeBwd.main_arg6) = m ((c.tc : Thread Cert.KernelMergeBwd.nD Cert.KernelMergeBwd.τ).loc Cert.KernelMergeBwd.main_arg6)
      ∧ r.2.mem ((c.tc : Thread Cert.KernelMergeBwd.nD Cert.KernelMergeBwd.τ).loc Cert.KernelMergeBwd.main_arg7) = m ((c.tc : Thread Cert.KernelMergeBwd.nD Cert.KernelMergeBwd.τ).loc Cert.KernelMergeBwd.main_arg7)
      ∧ r.2.mem ((c.tc : Thread Cert.KernelMergeBwd.nD Cert.KernelMergeBwd.τ).loc Cert.KernelMergeBwd.main_arg8) = m ((c.tc : Thread Cert.KernelMergeBwd.nD Cert.KernelMergeBwd.τ).loc Cert.KernelMergeBwd.main_arg8))
      ∧ r.2.sem = fun _ => 0)

def quiescent_KernelMergeBwdIdeal [hKernelMergeBwdIdeal : Cert.KernelMergeBwdIdeal.Facts] : Prop :=
  ∀ (m : (ℓ : Loc Cert.KernelMergeBwdIdeal.nD Cert.KernelMergeBwdIdeal.τ Cert.KernelMergeBwdIdeal.sig) → Buf (Elt Ideal) ℓ) (g : Dev Cert.KernelMergeBwdIdeal.nD → PrngReg), Pre_KernelMergeBwdIdeal m →
    θ_run (Cert.KernelMergeBwdIdeal.defs (F := Ideal)) (onTc (τ := Cert.KernelMergeBwdIdeal.τ) (Cert.KernelMergeBwdIdeal.main (F := Ideal))) ⟨m, fun _ => 0, g⟩ (fun r => (∀ c : Dev Cert.KernelMergeBwdIdeal.nD,
      r.2.mem ((c.tc : Thread Cert.KernelMergeBwdIdeal.nD Cert.KernelMergeBwdIdeal.τ).loc Cert.KernelMergeBwdIdeal.main_arg0) = m ((c.tc : Thread Cert.KernelMergeBwdIdeal.nD Cert.KernelMergeBwdIdeal.τ).loc Cert.KernelMergeBwdIdeal.main_arg0)
      ∧ r.2.mem ((c.tc : Thread Cert.KernelMergeBwdIdeal.nD Cert.KernelMergeBwdIdeal.τ).loc Cert.KernelMergeBwdIdeal.main_arg1) = m ((c.tc : Thread Cert.KernelMergeBwdIdeal.nD Cert.KernelMergeBwdIdeal.τ).loc Cert.KernelMergeBwdIdeal.main_arg1)
      ∧ r.2.mem ((c.tc : Thread Cert.KernelMergeBwdIdeal.nD Cert.KernelMergeBwdIdeal.τ).loc Cert.KernelMergeBwdIdeal.main_arg2) = m ((c.tc : Thread Cert.KernelMergeBwdIdeal.nD Cert.KernelMergeBwdIdeal.τ).loc Cert.KernelMergeBwdIdeal.main_arg2)
      ∧ r.2.mem ((c.tc : Thread Cert.KernelMergeBwdIdeal.nD Cert.KernelMergeBwdIdeal.τ).loc Cert.KernelMergeBwdIdeal.main_arg3) = m ((c.tc : Thread Cert.KernelMergeBwdIdeal.nD Cert.KernelMergeBwdIdeal.τ).loc Cert.KernelMergeBwdIdeal.main_arg3)
      ∧ r.2.mem ((c.tc : Thread Cert.KernelMergeBwdIdeal.nD Cert.KernelMergeBwdIdeal.τ).loc Cert.KernelMergeBwdIdeal.main_arg4) = m ((c.tc : Thread Cert.KernelMergeBwdIdeal.nD Cert.KernelMergeBwdIdeal.τ).loc Cert.KernelMergeBwdIdeal.main_arg4)
      ∧ r.2.mem ((c.tc : Thread Cert.KernelMergeBwdIdeal.nD Cert.KernelMergeBwdIdeal.τ).loc Cert.KernelMergeBwdIdeal.main_arg5) = m ((c.tc : Thread Cert.KernelMergeBwdIdeal.nD Cert.KernelMergeBwdIdeal.τ).loc Cert.KernelMergeBwdIdeal.main_arg5)
      ∧ r.2.mem ((c.tc : Thread Cert.KernelMergeBwdIdeal.nD Cert.KernelMergeBwdIdeal.τ).loc Cert.KernelMergeBwdIdeal.main_arg6) = m ((c.tc : Thread Cert.KernelMergeBwdIdeal.nD Cert.KernelMergeBwdIdeal.τ).loc Cert.KernelMergeBwdIdeal.main_arg6)
      ∧ r.2.mem ((c.tc : Thread Cert.KernelMergeBwdIdeal.nD Cert.KernelMergeBwdIdeal.τ).loc Cert.KernelMergeBwdIdeal.main_arg7) = m ((c.tc : Thread Cert.KernelMergeBwdIdeal.nD Cert.KernelMergeBwdIdeal.τ).loc Cert.KernelMergeBwdIdeal.main_arg7)
      ∧ r.2.mem ((c.tc : Thread Cert.KernelMergeBwdIdeal.nD Cert.KernelMergeBwdIdeal.τ).loc Cert.KernelMergeBwdIdeal.main_arg8) = m ((c.tc : Thread Cert.KernelMergeBwdIdeal.nD Cert.KernelMergeBwdIdeal.τ).loc Cert.KernelMergeBwdIdeal.main_arg8))
      ∧ r.2.sem = fun _ => 0)

def quiescent_ReferenceMergeBwdIdeal [hReferenceMergeBwdIdeal : Cert.ReferenceMergeBwdIdeal.Facts] : Prop :=
  ∀ (m : (ℓ : Loc Cert.ReferenceMergeBwdIdeal.nD Cert.ReferenceMergeBwdIdeal.τ Cert.ReferenceMergeBwdIdeal.sig) → Buf (Elt Ideal) ℓ) (g : Dev Cert.ReferenceMergeBwdIdeal.nD → PrngReg), Pre_ReferenceMergeBwdIdeal m →
    θ_run (Cert.ReferenceMergeBwdIdeal.defs (F := Ideal)) (onTc (τ := Cert.ReferenceMergeBwdIdeal.τ) (Cert.ReferenceMergeBwdIdeal.main (F := Ideal))) ⟨m, fun _ => 0, g⟩ (fun r => (∀ c : Dev Cert.ReferenceMergeBwdIdeal.nD,
      r.2.mem ((c.tc : Thread Cert.ReferenceMergeBwdIdeal.nD Cert.ReferenceMergeBwdIdeal.τ).loc Cert.ReferenceMergeBwdIdeal.main_arg0) = m ((c.tc : Thread Cert.ReferenceMergeBwdIdeal.nD Cert.ReferenceMergeBwdIdeal.τ).loc Cert.ReferenceMergeBwdIdeal.main_arg0)
      ∧ r.2.mem ((c.tc : Thread Cert.ReferenceMergeBwdIdeal.nD Cert.ReferenceMergeBwdIdeal.τ).loc Cert.ReferenceMergeBwdIdeal.main_arg1) = m ((c.tc : Thread Cert.ReferenceMergeBwdIdeal.nD Cert.ReferenceMergeBwdIdeal.τ).loc Cert.ReferenceMergeBwdIdeal.main_arg1)
      ∧ r.2.mem ((c.tc : Thread Cert.ReferenceMergeBwdIdeal.nD Cert.ReferenceMergeBwdIdeal.τ).loc Cert.ReferenceMergeBwdIdeal.main_arg2) = m ((c.tc : Thread Cert.ReferenceMergeBwdIdeal.nD Cert.ReferenceMergeBwdIdeal.τ).loc Cert.ReferenceMergeBwdIdeal.main_arg2)
      ∧ r.2.mem ((c.tc : Thread Cert.ReferenceMergeBwdIdeal.nD Cert.ReferenceMergeBwdIdeal.τ).loc Cert.ReferenceMergeBwdIdeal.main_arg3) = m ((c.tc : Thread Cert.ReferenceMergeBwdIdeal.nD Cert.ReferenceMergeBwdIdeal.τ).loc Cert.ReferenceMergeBwdIdeal.main_arg3)
      ∧ r.2.mem ((c.tc : Thread Cert.ReferenceMergeBwdIdeal.nD Cert.ReferenceMergeBwdIdeal.τ).loc Cert.ReferenceMergeBwdIdeal.main_arg4) = m ((c.tc : Thread Cert.ReferenceMergeBwdIdeal.nD Cert.ReferenceMergeBwdIdeal.τ).loc Cert.ReferenceMergeBwdIdeal.main_arg4)
      ∧ r.2.mem ((c.tc : Thread Cert.ReferenceMergeBwdIdeal.nD Cert.ReferenceMergeBwdIdeal.τ).loc Cert.ReferenceMergeBwdIdeal.main_arg5) = m ((c.tc : Thread Cert.ReferenceMergeBwdIdeal.nD Cert.ReferenceMergeBwdIdeal.τ).loc Cert.ReferenceMergeBwdIdeal.main_arg5)
      ∧ r.2.mem ((c.tc : Thread Cert.ReferenceMergeBwdIdeal.nD Cert.ReferenceMergeBwdIdeal.τ).loc Cert.ReferenceMergeBwdIdeal.main_arg6) = m ((c.tc : Thread Cert.ReferenceMergeBwdIdeal.nD Cert.ReferenceMergeBwdIdeal.τ).loc Cert.ReferenceMergeBwdIdeal.main_arg6)
      ∧ r.2.mem ((c.tc : Thread Cert.ReferenceMergeBwdIdeal.nD Cert.ReferenceMergeBwdIdeal.τ).loc Cert.ReferenceMergeBwdIdeal.main_arg7) = m ((c.tc : Thread Cert.ReferenceMergeBwdIdeal.nD Cert.ReferenceMergeBwdIdeal.τ).loc Cert.ReferenceMergeBwdIdeal.main_arg7)
      ∧ r.2.mem ((c.tc : Thread Cert.ReferenceMergeBwdIdeal.nD Cert.ReferenceMergeBwdIdeal.τ).loc Cert.ReferenceMergeBwdIdeal.main_arg8) = m ((c.tc : Thread Cert.ReferenceMergeBwdIdeal.nD Cert.ReferenceMergeBwdIdeal.τ).loc Cert.ReferenceMergeBwdIdeal.main_arg8))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1))
      ∧ r.2.sem = fun _ => 0)

def quiescent_KernelBrDw [hKernelBrDw : Cert.KernelBrDw.Facts] : Prop :=
  ∀ (m : (ℓ : Loc Cert.KernelBrDw.nD Cert.KernelBrDw.τ Cert.KernelBrDw.sig) → Buf (Elt Bits) ℓ) (g : Dev Cert.KernelBrDw.nD → PrngReg), Pre_KernelBrDw m →
    θ_run (Cert.KernelBrDw.defs (F := Bits)) (onTc (τ := Cert.KernelBrDw.τ) (Cert.KernelBrDw.main (F := Bits))) ⟨m, fun _ => 0, g⟩ (fun r => (∀ c : Dev Cert.KernelBrDw.nD,
      r.2.mem ((c.tc : Thread Cert.KernelBrDw.nD Cert.KernelBrDw.τ).loc Cert.KernelBrDw.main_arg0) = m ((c.tc : Thread Cert.KernelBrDw.nD Cert.KernelBrDw.τ).loc Cert.KernelBrDw.main_arg0)
      ∧ r.2.mem ((c.tc : Thread Cert.KernelBrDw.nD Cert.KernelBrDw.τ).loc Cert.KernelBrDw.main_arg1) = m ((c.tc : Thread Cert.KernelBrDw.nD Cert.KernelBrDw.τ).loc Cert.KernelBrDw.main_arg1))
      ∧ r.2.sem = fun _ => 0)

def quiescent_KernelBrDwIdeal [hKernelBrDwIdeal : Cert.KernelBrDwIdeal.Facts] : Prop :=
  ∀ (m : (ℓ : Loc Cert.KernelBrDwIdeal.nD Cert.KernelBrDwIdeal.τ Cert.KernelBrDwIdeal.sig) → Buf (Elt Ideal) ℓ) (g : Dev Cert.KernelBrDwIdeal.nD → PrngReg), Pre_KernelBrDwIdeal m →
    θ_run (Cert.KernelBrDwIdeal.defs (F := Ideal)) (onTc (τ := Cert.KernelBrDwIdeal.τ) (Cert.KernelBrDwIdeal.main (F := Ideal))) ⟨m, fun _ => 0, g⟩ (fun r => (∀ c : Dev Cert.KernelBrDwIdeal.nD,
      r.2.mem ((c.tc : Thread Cert.KernelBrDwIdeal.nD Cert.KernelBrDwIdeal.τ).loc Cert.KernelBrDwIdeal.main_arg0) = m ((c.tc : Thread Cert.KernelBrDwIdeal.nD Cert.KernelBrDwIdeal.τ).loc Cert.KernelBrDwIdeal.main_arg0)
      ∧ r.2.mem ((c.tc : Thread Cert.KernelBrDwIdeal.nD Cert.KernelBrDwIdeal.τ).loc Cert.KernelBrDwIdeal.main_arg1) = m ((c.tc : Thread Cert.KernelBrDwIdeal.nD Cert.KernelBrDwIdeal.τ).loc Cert.KernelBrDwIdeal.main_arg1))
      ∧ r.2.sem = fun _ => 0)

def quiescent_ReferenceBrDwIdeal [hReferenceBrDwIdeal : Cert.ReferenceBrDwIdeal.Facts] : Prop :=
  ∀ (m : (ℓ : Loc Cert.ReferenceBrDwIdeal.nD Cert.ReferenceBrDwIdeal.τ Cert.ReferenceBrDwIdeal.sig) → Buf (Elt Ideal) ℓ) (g : Dev Cert.ReferenceBrDwIdeal.nD → PrngReg), Pre_ReferenceBrDwIdeal m →
    θ_run (Cert.ReferenceBrDwIdeal.defs (F := Ideal)) (onTc (τ := Cert.ReferenceBrDwIdeal.τ) (Cert.ReferenceBrDwIdeal.main (F := Ideal))) ⟨m, fun _ => 0, g⟩ (fun r => (∀ c : Dev Cert.ReferenceBrDwIdeal.nD,
      r.2.mem ((c.tc : Thread Cert.ReferenceBrDwIdeal.nD Cert.ReferenceBrDwIdeal.τ).loc Cert.ReferenceBrDwIdeal.main_arg0) = m ((c.tc : Thread Cert.ReferenceBrDwIdeal.nD Cert.ReferenceBrDwIdeal.τ).loc Cert.ReferenceBrDwIdeal.main_arg0)
      ∧ r.2.mem ((c.tc : Thread Cert.ReferenceBrDwIdeal.nD Cert.ReferenceBrDwIdeal.τ).loc Cert.ReferenceBrDwIdeal.main_arg1) = m ((c.tc : Thread Cert.ReferenceBrDwIdeal.nD Cert.ReferenceBrDwIdeal.τ).loc Cert.ReferenceBrDwIdeal.main_arg1))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamRows [hKernelAdamRows : Cert.KernelAdamRows.Facts] : Prop :=
  ∀ (m : (ℓ : Loc Cert.KernelAdamRows.nD Cert.KernelAdamRows.τ Cert.KernelAdamRows.sig) → Buf (Elt Bits) ℓ) (g : Dev Cert.KernelAdamRows.nD → PrngReg), Pre_KernelAdamRows m →
    θ_run (Cert.KernelAdamRows.defs (F := Bits)) (onTc (τ := Cert.KernelAdamRows.τ) (Cert.KernelAdamRows.main (F := Bits))) ⟨m, fun _ => 0, g⟩ (fun r => (∀ c : Dev Cert.KernelAdamRows.nD,
      r.2.mem ((c.tc : Thread Cert.KernelAdamRows.nD Cert.KernelAdamRows.τ).loc Cert.KernelAdamRows.main_arg0) = m ((c.tc : Thread Cert.KernelAdamRows.nD Cert.KernelAdamRows.τ).loc Cert.KernelAdamRows.main_arg0)
      ∧ r.2.mem ((c.tc : Thread Cert.KernelAdamRows.nD Cert.KernelAdamRows.τ).loc Cert.KernelAdamRows.main_arg1) = m ((c.tc : Thread Cert.KernelAdamRows.nD Cert.KernelAdamRows.τ).loc Cert.KernelAdamRows.main_arg1)
      ∧ r.2.mem ((c.tc : Thread Cert.KernelAdamRows.nD Cert.KernelAdamRows.τ).loc Cert.KernelAdamRows.main_arg2) = m ((c.tc : Thread Cert.KernelAdamRows.nD Cert.KernelAdamRows.τ).loc Cert.KernelAdamRows.main_arg2)
      ∧ r.2.mem ((c.tc : Thread Cert.KernelAdamRows.nD Cert.KernelAdamRows.τ).loc Cert.KernelAdamRows.main_arg3) = m ((c.tc : Thread Cert.KernelAdamRows.nD Cert.KernelAdamRows.τ).loc Cert.KernelAdamRows.main_arg3))
      ∧ r.2.sem = fun _ => 0)

def quiescent_KernelAdamRowsIdeal [hKernelAdamRowsIdeal : Cert.KernelAdamRowsIdeal.Facts] : Prop :=
  ∀ (m : (ℓ : Loc Cert.KernelAdamRowsIdeal.nD Cert.KernelAdamRowsIdeal.τ Cert.KernelAdamRowsIdeal.sig) → Buf (Elt Ideal) ℓ) (g : Dev Cert.KernelAdamRowsIdeal.nD → PrngReg), Pre_KernelAdamRowsIdeal m →
    θ_run (Cert.KernelAdamRowsIdeal.defs (F := Ideal)) (onTc (τ := Cert.KernelAdamRowsIdeal.τ) (Cert.KernelAdamRowsIdeal.main (F := Ideal))) ⟨m, fun _ => 0, g⟩ (fun r => (∀ c : Dev Cert.KernelAdamRowsIdeal.nD,
      r.2.mem ((c.tc : Thread Cert.KernelAdamRowsIdeal.nD Cert.KernelAdamRowsIdeal.τ).loc Cert.KernelAdamRowsIdeal.main_arg0) = m ((c.tc : Thread Cert.KernelAdamRowsIdeal.nD Cert.KernelAdamRowsIdeal.τ).loc Cert.KernelAdamRowsIdeal.main_arg0)
      ∧ r.2.mem ((c.tc : Thread Cert.KernelAdamRowsIdeal.nD Cert.KernelAdamRowsIdeal.τ).loc Cert.KernelAdamRowsIdeal.main_arg1) = m ((c.tc : Thread Cert.KernelAdamRowsIdeal.nD Cert.KernelAdamRowsIdeal.τ).loc Cert.KernelAdamRowsIdeal.main_arg1)
      ∧ r.2.mem ((c.tc : Thread Cert.KernelAdamRowsIdeal.nD Cert.KernelAdamRowsIdeal.τ).loc Cert.KernelAdamRowsIdeal.main_arg2) = m ((c.tc : Thread Cert.KernelAdamRowsIdeal.nD Cert.KernelAdamRowsIdeal.τ).loc Cert.KernelAdamRowsIdeal.main_arg2)
      ∧ r.2.mem ((c.tc : Thread Cert.KernelAdamRowsIdeal.nD Cert.KernelAdamRowsIdeal.τ).loc Cert.KernelAdamRowsIdeal.main_arg3) = m ((c.tc : Thread Cert.KernelAdamRowsIdeal.nD Cert.KernelAdamRowsIdeal.τ).loc Cert.KernelAdamRowsIdeal.main_arg3))
      ∧ r.2.sem = fun _ => 0)

def quiescent_ReferenceAdamRowsIdeal [hReferenceAdamRowsIdeal : Cert.ReferenceAdamRowsIdeal.Facts] : Prop :=
  ∀ (m : (ℓ : Loc Cert.ReferenceAdamRowsIdeal.nD Cert.ReferenceAdamRowsIdeal.τ Cert.ReferenceAdamRowsIdeal.sig) → Buf (Elt Ideal) ℓ) (g : Dev Cert.ReferenceAdamRowsIdeal.nD → PrngReg), Pre_ReferenceAdamRowsIdeal m →
    θ_run (Cert.ReferenceAdamRowsIdeal.defs (F := Ideal)) (onTc (τ := Cert.ReferenceAdamRowsIdeal.τ) (Cert.ReferenceAdamRowsIdeal.main (F := Ideal))) ⟨m, fun _ => 0, g⟩ (fun r => (∀ c : Dev Cert.ReferenceAdamRowsIdeal.nD,
      r.2.mem ((c.tc : Thread Cert.ReferenceAdamRowsIdeal.nD Cert.ReferenceAdamRowsIdeal.τ).loc Cert.ReferenceAdamRowsIdeal.main_arg0) = m ((c.tc : Thread Cert.ReferenceAdamRowsIdeal.nD Cert.ReferenceAdamRowsIdeal.τ).loc Cert.ReferenceAdamRowsIdeal.main_arg0)
      ∧ r.2.mem ((c.tc : Thread Cert.ReferenceAdamRowsIdeal.nD Cert.ReferenceAdamRowsIdeal.τ).loc Cert.ReferenceAdamRowsIdeal.main_arg1) = m ((c.tc : Thread Cert.ReferenceAdamRowsIdeal.nD Cert.ReferenceAdamRowsIdeal.τ).loc Cert.ReferenceAdamRowsIdeal.main_arg1)
      ∧ r.2.mem ((c.tc : Thread Cert.ReferenceAdamRowsIdeal.nD Cert.ReferenceAdamRowsIdeal.τ).loc Cert.ReferenceAdamRowsIdeal.main_arg2) = m ((c.tc : Thread Cert.ReferenceAdamRowsIdeal.nD Cert.ReferenceAdamRowsIdeal.τ).loc Cert.ReferenceAdamRowsIdeal.main_arg2)
      ∧ r.2.mem ((c.tc : Thread Cert.ReferenceAdamRowsIdeal.nD Cert.ReferenceAdamRowsIdeal.τ).loc Cert.ReferenceAdamRowsIdeal.main_arg3) = m ((c.tc : Thread Cert.ReferenceAdamRowsIdeal.nD Cert.ReferenceAdamRowsIdeal.τ).loc Cert.ReferenceAdamRowsIdeal.main_arg3))
      ∧ r.2.sem = fun _ => 0)

def quiescent_KernelAdamBr [hKernelAdamBr : Cert.KernelAdamBr.Facts] : Prop :=
  ∀ (m : (ℓ : Loc Cert.KernelAdamBr.nD Cert.KernelAdamBr.τ Cert.KernelAdamBr.sig) → Buf (Elt Bits) ℓ) (g : Dev Cert.KernelAdamBr.nD → PrngReg), Pre_KernelAdamBr m →
    θ_run (Cert.KernelAdamBr.defs (F := Bits)) (onTc (τ := Cert.KernelAdamBr.τ) (Cert.KernelAdamBr.main (F := Bits))) ⟨m, fun _ => 0, g⟩ (fun r => (∀ c : Dev Cert.KernelAdamBr.nD,
      r.2.mem ((c.tc : Thread Cert.KernelAdamBr.nD Cert.KernelAdamBr.τ).loc Cert.KernelAdamBr.main_arg0) = m ((c.tc : Thread Cert.KernelAdamBr.nD Cert.KernelAdamBr.τ).loc Cert.KernelAdamBr.main_arg0)
      ∧ r.2.mem ((c.tc : Thread Cert.KernelAdamBr.nD Cert.KernelAdamBr.τ).loc Cert.KernelAdamBr.main_arg1) = m ((c.tc : Thread Cert.KernelAdamBr.nD Cert.KernelAdamBr.τ).loc Cert.KernelAdamBr.main_arg1)
      ∧ r.2.mem ((c.tc : Thread Cert.KernelAdamBr.nD Cert.KernelAdamBr.τ).loc Cert.KernelAdamBr.main_arg2) = m ((c.tc : Thread Cert.KernelAdamBr.nD Cert.KernelAdamBr.τ).loc Cert.KernelAdamBr.main_arg2)
      ∧ r.2.mem ((c.tc : Thread Cert.KernelAdamBr.nD Cert.KernelAdamBr.τ).loc Cert.KernelAdamBr.main_arg3) = m ((c.tc : Thread Cert.KernelAdamBr.nD Cert.KernelAdamBr.τ).loc Cert.KernelAdamBr.main_arg3))
      ∧ r.2.sem = fun _ => 0)

def quiescent_KernelAdamBrIdeal [hKernelAdamBrIdeal : Cert.KernelAdamBrIdeal.Facts] : Prop :=
  ∀ (m : (ℓ : Loc Cert.KernelAdamBrIdeal.nD Cert.KernelAdamBrIdeal.τ Cert.KernelAdamBrIdeal.sig) → Buf (Elt Ideal) ℓ) (g : Dev Cert.KernelAdamBrIdeal.nD → PrngReg), Pre_KernelAdamBrIdeal m →
    θ_run (Cert.KernelAdamBrIdeal.defs (F := Ideal)) (onTc (τ := Cert.KernelAdamBrIdeal.τ) (Cert.KernelAdamBrIdeal.main (F := Ideal))) ⟨m, fun _ => 0, g⟩ (fun r => (∀ c : Dev Cert.KernelAdamBrIdeal.nD,
      r.2.mem ((c.tc : Thread Cert.KernelAdamBrIdeal.nD Cert.KernelAdamBrIdeal.τ).loc Cert.KernelAdamBrIdeal.main_arg0) = m ((c.tc : Thread Cert.KernelAdamBrIdeal.nD Cert.KernelAdamBrIdeal.τ).loc Cert.KernelAdamBrIdeal.main_arg0)
      ∧ r.2.mem ((c.tc : Thread Cert.KernelAdamBrIdeal.nD Cert.KernelAdamBrIdeal.τ).loc Cert.KernelAdamBrIdeal.main_arg1) = m ((c.tc : Thread Cert.KernelAdamBrIdeal.nD Cert.KernelAdamBrIdeal.τ).loc Cert.KernelAdamBrIdeal.main_arg1)
      ∧ r.2.mem ((c.tc : Thread Cert.KernelAdamBrIdeal.nD Cert.KernelAdamBrIdeal.τ).loc Cert.KernelAdamBrIdeal.main_arg2) = m ((c.tc : Thread Cert.KernelAdamBrIdeal.nD Cert.KernelAdamBrIdeal.τ).loc Cert.KernelAdamBrIdeal.main_arg2)
      ∧ r.2.mem ((c.tc : Thread Cert.KernelAdamBrIdeal.nD Cert.KernelAdamBrIdeal.τ).loc Cert.KernelAdamBrIdeal.main_arg3) = m ((c.tc : Thread Cert.KernelAdamBrIdeal.nD Cert.KernelAdamBrIdeal.τ).loc Cert.KernelAdamBrIdeal.main_arg3))
      ∧ r.2.sem = fun _ => 0)

def quiescent_ReferenceAdamBrIdeal [hReferenceAdamBrIdeal : Cert.ReferenceAdamBrIdeal.Facts] : Prop :=
  ∀ (m : (ℓ : Loc Cert.ReferenceAdamBrIdeal.nD Cert.ReferenceAdamBrIdeal.τ Cert.ReferenceAdamBrIdeal.sig) → Buf (Elt Ideal) ℓ) (g : Dev Cert.ReferenceAdamBrIdeal.nD → PrngReg), Pre_ReferenceAdamBrIdeal m →
    θ_run (Cert.ReferenceAdamBrIdeal.defs (F := Ideal)) (onTc (τ := Cert.ReferenceAdamBrIdeal.τ) (Cert.ReferenceAdamBrIdeal.main (F := Ideal))) ⟨m, fun _ => 0, g⟩ (fun r => (∀ c : Dev Cert.ReferenceAdamBrIdeal.nD,
      r.2.mem ((c.tc : Thread Cert.ReferenceAdamBrIdeal.nD Cert.ReferenceAdamBrIdeal.τ).loc Cert.ReferenceAdamBrIdeal.main_arg0) = m ((c.tc : Thread Cert.ReferenceAdamBrIdeal.nD Cert.ReferenceAdamBrIdeal.τ).loc Cert.ReferenceAdamBrIdeal.main_arg0)
      ∧ r.2.mem ((c.tc : Thread Cert.ReferenceAdamBrIdeal.nD Cert.ReferenceAdamBrIdeal.τ).loc Cert.ReferenceAdamBrIdeal.main_arg1) = m ((c.tc : Thread Cert.ReferenceAdamBrIdeal.nD Cert.ReferenceAdamBrIdeal.τ).loc Cert.ReferenceAdamBrIdeal.main_arg1)
      ∧ r.2.mem ((c.tc : Thread Cert.ReferenceAdamBrIdeal.nD Cert.ReferenceAdamBrIdeal.τ).loc Cert.ReferenceAdamBrIdeal.main_arg2) = m ((c.tc : Thread Cert.ReferenceAdamBrIdeal.nD Cert.ReferenceAdamBrIdeal.τ).loc Cert.ReferenceAdamBrIdeal.main_arg2)
      ∧ r.2.mem ((c.tc : Thread Cert.ReferenceAdamBrIdeal.nD Cert.ReferenceAdamBrIdeal.τ).loc Cert.ReferenceAdamBrIdeal.main_arg3) = m ((c.tc : Thread Cert.ReferenceAdamBrIdeal.nD Cert.ReferenceAdamBrIdeal.τ).loc Cert.ReferenceAdamBrIdeal.main_arg3))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3))
      ∧ r.2.sem = fun _ => 0)

def quiescent_KernelAdamConv [hKernelAdamConv : Cert.KernelAdamConv.Facts] : Prop :=
  ∀ (m : (ℓ : Loc Cert.KernelAdamConv.nD Cert.KernelAdamConv.τ Cert.KernelAdamConv.sig) → Buf (Elt Bits) ℓ) (g : Dev Cert.KernelAdamConv.nD → PrngReg), Pre_KernelAdamConv m →
    θ_run (Cert.KernelAdamConv.defs (F := Bits)) (onTc (τ := Cert.KernelAdamConv.τ) (Cert.KernelAdamConv.main (F := Bits))) ⟨m, fun _ => 0, g⟩ (fun r => (∀ c : Dev Cert.KernelAdamConv.nD,
      r.2.mem ((c.tc : Thread Cert.KernelAdamConv.nD Cert.KernelAdamConv.τ).loc Cert.KernelAdamConv.main_arg0) = m ((c.tc : Thread Cert.KernelAdamConv.nD Cert.KernelAdamConv.τ).loc Cert.KernelAdamConv.main_arg0)
      ∧ r.2.mem ((c.tc : Thread Cert.KernelAdamConv.nD Cert.KernelAdamConv.τ).loc Cert.KernelAdamConv.main_arg1) = m ((c.tc : Thread Cert.KernelAdamConv.nD Cert.KernelAdamConv.τ).loc Cert.KernelAdamConv.main_arg1)
      ∧ r.2.mem ((c.tc : Thread Cert.KernelAdamConv.nD Cert.KernelAdamConv.τ).loc Cert.KernelAdamConv.main_arg2) = m ((c.tc : Thread Cert.KernelAdamConv.nD Cert.KernelAdamConv.τ).loc Cert.KernelAdamConv.main_arg2)
      ∧ r.2.mem ((c.tc : Thread Cert.KernelAdamConv.nD Cert.KernelAdamConv.τ).loc Cert.KernelAdamConv.main_arg3) = m ((c.tc : Thread Cert.KernelAdamConv.nD Cert.KernelAdamConv.τ).loc Cert.KernelAdamConv.main_arg3))
      ∧ r.2.sem = fun _ => 0)

def quiescent_KernelAdamConvIdeal [hKernelAdamConvIdeal : Cert.KernelAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg), Pre_KernelAdamConvIdeal m →
    θ_run (Cert.KernelAdamConvIdeal.defs (F := Ideal)) (onTc (τ := Cert.KernelAdamConvIdeal.τ) (Cert.KernelAdamConvIdeal.main (F := Ideal))) ⟨m, fun _ => 0, g⟩ (fun r => (∀ c : Dev Cert.KernelAdamConvIdeal.nD,
      r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
      ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
      ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
      ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ r.2.sem = fun _ => 0)

def quiescent_ReferenceAdamConvIdeal [hReferenceAdamConvIdeal : Cert.ReferenceAdamConvIdeal.Facts] : Prop :=
  ∀ (m : (ℓ : Loc Cert.ReferenceAdamConvIdeal.nD Cert.ReferenceAdamConvIdeal.τ Cert.ReferenceAdamConvIdeal.sig) → Buf (Elt Ideal) ℓ) (g : Dev Cert.ReferenceAdamConvIdeal.nD → PrngReg), Pre_ReferenceAdamConvIdeal m →
    θ_run (Cert.ReferenceAdamConvIdeal.defs (F := Ideal)) (onTc (τ := Cert.ReferenceAdamConvIdeal.τ) (Cert.ReferenceAdamConvIdeal.main (F := Ideal))) ⟨m, fun _ => 0, g⟩ (fun r => (∀ c : Dev Cert.ReferenceAdamConvIdeal.nD,
      r.2.mem ((c.tc : Thread Cert.ReferenceAdamConvIdeal.nD Cert.ReferenceAdamConvIdeal.τ).loc Cert.ReferenceAdamConvIdeal.main_arg0) = m ((c.tc : Thread Cert.ReferenceAdamConvIdeal.nD Cert.ReferenceAdamConvIdeal.τ).loc Cert.ReferenceAdamConvIdeal.main_arg0)
      ∧ r.2.mem ((c.tc : Thread Cert.ReferenceAdamConvIdeal.nD Cert.ReferenceAdamConvIdeal.τ).loc Cert.ReferenceAdamConvIdeal.main_arg1) = m ((c.tc : Thread Cert.ReferenceAdamConvIdeal.nD Cert.ReferenceAdamConvIdeal.τ).loc Cert.ReferenceAdamConvIdeal.main_arg1)
      ∧ r.2.mem ((c.tc : Thread Cert.ReferenceAdamConvIdeal.nD Cert.ReferenceAdamConvIdeal.τ).loc Cert.ReferenceAdamConvIdeal.main_arg2) = m ((c.tc : Thread Cert.ReferenceAdamConvIdeal.nD Cert.ReferenceAdamConvIdeal.τ).loc Cert.ReferenceAdamConvIdeal.main_arg2)
      ∧ r.2.mem ((c.tc : Thread Cert.ReferenceAdamConvIdeal.nD Cert.ReferenceAdamConvIdeal.τ).loc Cert.ReferenceAdamConvIdeal.main_arg3) = m ((c.tc : Thread Cert.ReferenceAdamConvIdeal.nD Cert.ReferenceAdamConvIdeal.τ).loc Cert.ReferenceAdamConvIdeal.main_arg3))
      ∧ r.2.sem = fun _ => 0)

def quiescent_KernelKvProj [hKernelKvProj : Cert.KernelKvProj.Facts] : Prop :=
  ∀ (m : (ℓ : Loc Cert.KernelKvProj.nD Cert.KernelKvProj.τ Cert.KernelKvProj.sig) → Buf (Elt Bits) ℓ) (g : Dev Cert.KernelKvProj.nD → PrngReg), Pre_KernelKvProj m →
    θ_run (Cert.KernelKvProj.defs (F := Bits)) (onTc (τ := Cert.KernelKvProj.τ) (Cert.KernelKvProj.main (F := Bits))) ⟨m, fun _ => 0, g⟩ (fun r => (∀ c : Dev Cert.KernelKvProj.nD,
      r.2.mem ((c.tc : Thread Cert.KernelKvProj.nD Cert.KernelKvProj.τ).loc Cert.KernelKvProj.main_arg0) = m ((c.tc : Thread Cert.KernelKvProj.nD Cert.KernelKvProj.τ).loc Cert.KernelKvProj.main_arg0)
      ∧ r.2.mem ((c.tc : Thread Cert.KernelKvProj.nD Cert.KernelKvProj.τ).loc Cert.KernelKvProj.main_arg1) = m ((c.tc : Thread Cert.KernelKvProj.nD Cert.KernelKvProj.τ).loc Cert.KernelKvProj.main_arg1))
      ∧ r.2.sem = fun _ => 0)

def quiescent_KernelKvProjIdeal [hKernelKvProjIdeal : Cert.KernelKvProjIdeal.Facts] : Prop :=
  ∀ (m : (ℓ : Loc Cert.KernelKvProjIdeal.nD Cert.KernelKvProjIdeal.τ Cert.KernelKvProjIdeal.sig) → Buf (Elt Ideal) ℓ) (g : Dev Cert.KernelKvProjIdeal.nD → PrngReg), Pre_KernelKvProjIdeal m →
    θ_run (Cert.KernelKvProjIdeal.defs (F := Ideal)) (onTc (τ := Cert.KernelKvProjIdeal.τ) (Cert.KernelKvProjIdeal.main (F := Ideal))) ⟨m, fun _ => 0, g⟩ (fun r => (∀ c : Dev Cert.KernelKvProjIdeal.nD,
      r.2.mem ((c.tc : Thread Cert.KernelKvProjIdeal.nD Cert.KernelKvProjIdeal.τ).loc Cert.KernelKvProjIdeal.main_arg0) = m ((c.tc : Thread Cert.KernelKvProjIdeal.nD Cert.KernelKvProjIdeal.τ).loc Cert.KernelKvProjIdeal.main_arg0)
      ∧ r.2.mem ((c.tc : Thread Cert.KernelKvProjIdeal.nD Cert.KernelKvProjIdeal.τ).loc Cert.KernelKvProjIdeal.main_arg1) = m ((c.tc : Thread Cert.KernelKvProjIdeal.nD Cert.KernelKvProjIdeal.τ).loc Cert.KernelKvProjIdeal.main_arg1))
      ∧ r.2.sem = fun _ => 0)

def quiescent_ReferenceKvProjIdeal [hReferenceKvProjIdeal : Cert.ReferenceKvProjIdeal.Facts] : Prop :=
  ∀ (m : (ℓ : Loc Cert.ReferenceKvProjIdeal.nD Cert.ReferenceKvProjIdeal.τ Cert.ReferenceKvProjIdeal.sig) → Buf (Elt Ideal) ℓ) (g : Dev Cert.ReferenceKvProjIdeal.nD → PrngReg), Pre_ReferenceKvProjIdeal m →
    θ_run (Cert.ReferenceKvProjIdeal.defs (F := Ideal)) (onTc (τ := Cert.ReferenceKvProjIdeal.τ) (Cert.ReferenceKvProjIdeal.main (F := Ideal))) ⟨m, fun _ => 0, g⟩ (fun r => (∀ c : Dev Cert.ReferenceKvProjIdeal.nD,
      r.2.mem ((c.tc : Thread Cert.ReferenceKvProjIdeal.nD Cert.ReferenceKvProjIdeal.τ).loc Cert.ReferenceKvProjIdeal.main_arg0) = m ((c.tc : Thread Cert.ReferenceKvProjIdeal.nD Cert.ReferenceKvProjIdeal.τ).loc Cert.ReferenceKvProjIdeal.main_arg0)
      ∧ r.2.mem ((c.tc : Thread Cert.ReferenceKvProjIdeal.nD Cert.ReferenceKvProjIdeal.τ).loc Cert.ReferenceKvProjIdeal.main_arg1) = m ((c.tc : Thread Cert.ReferenceKvProjIdeal.nD Cert.ReferenceKvProjIdeal.τ).loc Cert.ReferenceKvProjIdeal.main_arg1))
      ∧ r.2.sem = fun _ => 0)

def quiescent_KernelKvDw [hKernelKvDw : Cert.KernelKvDw.Facts] : Prop :=
  ∀ (m : (ℓ : Loc Cert.KernelKvDw.nD Cert.KernelKvDw.τ Cert.KernelKvDw.sig) → Buf (Elt Bits) ℓ) (g : Dev Cert.KernelKvDw.nD → PrngReg), Pre_KernelKvDw m →
    θ_run (Cert.KernelKvDw.defs (F := Bits)) (onTc (τ := Cert.KernelKvDw.τ) (Cert.KernelKvDw.main (F := Bits))) ⟨m, fun _ => 0, g⟩ (fun r => (∀ c : Dev Cert.KernelKvDw.nD,
      r.2.mem ((c.tc : Thread Cert.KernelKvDw.nD Cert.KernelKvDw.τ).loc Cert.KernelKvDw.main_arg0) = m ((c.tc : Thread Cert.KernelKvDw.nD Cert.KernelKvDw.τ).loc Cert.KernelKvDw.main_arg0)
      ∧ r.2.mem ((c.tc : Thread Cert.KernelKvDw.nD Cert.KernelKvDw.τ).loc Cert.KernelKvDw.main_arg1) = m ((c.tc : Thread Cert.KernelKvDw.nD Cert.KernelKvDw.τ).loc Cert.KernelKvDw.main_arg1))
      ∧ r.2.sem = fun _ => 0)

def quiescent_KernelKvDwIdeal [hKernelKvDwIdeal : Cert.KernelKvDwIdeal.Facts] : Prop :=
  ∀ (m : (ℓ : Loc Cert.KernelKvDwIdeal.nD Cert.KernelKvDwIdeal.τ Cert.KernelKvDwIdeal.sig) → Buf (Elt Ideal) ℓ) (g : Dev Cert.KernelKvDwIdeal.nD → PrngReg), Pre_KernelKvDwIdeal m →
    θ_run (Cert.KernelKvDwIdeal.defs (F := Ideal)) (onTc (τ := Cert.KernelKvDwIdeal.τ) (Cert.KernelKvDwIdeal.main (F := Ideal))) ⟨m, fun _ => 0, g⟩ (fun r => (∀ c : Dev Cert.KernelKvDwIdeal.nD,
      r.2.mem ((c.tc : Thread Cert.KernelKvDwIdeal.nD Cert.KernelKvDwIdeal.τ).loc Cert.KernelKvDwIdeal.main_arg0) = m ((c.tc : Thread Cert.KernelKvDwIdeal.nD Cert.KernelKvDwIdeal.τ).loc Cert.KernelKvDwIdeal.main_arg0)
      ∧ r.2.mem ((c.tc : Thread Cert.KernelKvDwIdeal.nD Cert.KernelKvDwIdeal.τ).loc Cert.KernelKvDwIdeal.main_arg1) = m ((c.tc : Thread Cert.KernelKvDwIdeal.nD Cert.KernelKvDwIdeal.τ).loc Cert.KernelKvDwIdeal.main_arg1))
      ∧ r.2.sem = fun _ => 0)

def quiescent_ReferenceKvDwIdeal [hReferenceKvDwIdeal : Cert.ReferenceKvDwIdeal.Facts] : Prop :=
  ∀ (m : (ℓ : Loc Cert.ReferenceKvDwIdeal.nD Cert.ReferenceKvDwIdeal.τ Cert.ReferenceKvDwIdeal.sig) → Buf (Elt Ideal) ℓ) (g : Dev Cert.ReferenceKvDwIdeal.nD → PrngReg), Pre_ReferenceKvDwIdeal m →
    θ_run (Cert.ReferenceKvDwIdeal.defs (F := Ideal)) (onTc (τ := Cert.ReferenceKvDwIdeal.τ) (Cert.ReferenceKvDwIdeal.main (F := Ideal))) ⟨m, fun _ => 0, g⟩ (fun r => (∀ c : Dev Cert.ReferenceKvDwIdeal.nD,
      r.2.mem ((c.tc : Thread Cert.ReferenceKvDwIdeal.nD Cert.ReferenceKvDwIdeal.τ).loc Cert.ReferenceKvDwIdeal.main_arg0) = m ((c.tc : Thread Cert.ReferenceKvDwIdeal.nD Cert.ReferenceKvDwIdeal.τ).loc Cert.ReferenceKvDwIdeal.main_arg0)
      ∧ r.2.mem ((c.tc : Thread Cert.ReferenceKvDwIdeal.nD Cert.ReferenceKvDwIdeal.τ).loc Cert.ReferenceKvDwIdeal.main_arg1) = m ((c.tc : Thread Cert.ReferenceKvDwIdeal.nD Cert.ReferenceKvDwIdeal.τ).loc Cert.ReferenceKvDwIdeal.main_arg1))
      ∧ r.2.sem = fun _ => 0)

def quiescent_KernelKvDx [hKernelKvDx : Cert.KernelKvDx.Facts] : Prop :=
  ∀ (m : (ℓ : Loc Cert.KernelKvDx.nD Cert.KernelKvDx.τ Cert.KernelKvDx.sig) → Buf (Elt Bits) ℓ) (g : Dev Cert.KernelKvDx.nD → PrngReg), Pre_KernelKvDx m →
    θ_run (Cert.KernelKvDx.defs (F := Bits)) (onTc (τ := Cert.KernelKvDx.τ) (Cert.KernelKvDx.main (F := Bits))) ⟨m, fun _ => 0, g⟩ (fun r => (∀ c : Dev Cert.KernelKvDx.nD,
      r.2.mem ((c.tc : Thread Cert.KernelKvDx.nD Cert.KernelKvDx.τ).loc Cert.KernelKvDx.main_arg0) = m ((c.tc : Thread Cert.KernelKvDx.nD Cert.KernelKvDx.τ).loc Cert.KernelKvDx.main_arg0)
      ∧ r.2.mem ((c.tc : Thread Cert.KernelKvDx.nD Cert.KernelKvDx.τ).loc Cert.KernelKvDx.main_arg1) = m ((c.tc : Thread Cert.KernelKvDx.nD Cert.KernelKvDx.τ).loc Cert.KernelKvDx.main_arg1))
      ∧ r.2.sem = fun _ => 0)

def quiescent_KernelKvDxIdeal [hKernelKvDxIdeal : Cert.KernelKvDxIdeal.Facts] : Prop :=
  ∀ (m : (ℓ : Loc Cert.KernelKvDxIdeal.nD Cert.KernelKvDxIdeal.τ Cert.KernelKvDxIdeal.sig) → Buf (Elt Ideal) ℓ) (g : Dev Cert.KernelKvDxIdeal.nD → PrngReg), Pre_KernelKvDxIdeal m →
    θ_run (Cert.KernelKvDxIdeal.defs (F := Ideal)) (onTc (τ := Cert.KernelKvDxIdeal.τ) (Cert.KernelKvDxIdeal.main (F := Ideal))) ⟨m, fun _ => 0, g⟩ (fun r => (∀ c : Dev Cert.KernelKvDxIdeal.nD,
      r.2.mem ((c.tc : Thread Cert.KernelKvDxIdeal.nD Cert.KernelKvDxIdeal.τ).loc Cert.KernelKvDxIdeal.main_arg0) = m ((c.tc : Thread Cert.KernelKvDxIdeal.nD Cert.KernelKvDxIdeal.τ).loc Cert.KernelKvDxIdeal.main_arg0)
      ∧ r.2.mem ((c.tc : Thread Cert.KernelKvDxIdeal.nD Cert.KernelKvDxIdeal.τ).loc Cert.KernelKvDxIdeal.main_arg1) = m ((c.tc : Thread Cert.KernelKvDxIdeal.nD Cert.KernelKvDxIdeal.τ).loc Cert.KernelKvDxIdeal.main_arg1))
      ∧ r.2.sem = fun _ => 0)

def quiescent_ReferenceKvDxIdeal [hReferenceKvDxIdeal : Cert.ReferenceKvDxIdeal.Facts] : Prop :=
  ∀ (m : (ℓ : Loc Cert.ReferenceKvDxIdeal.nD Cert.ReferenceKvDxIdeal.τ Cert.ReferenceKvDxIdeal.sig) → Buf (Elt Ideal) ℓ) (g : Dev Cert.ReferenceKvDxIdeal.nD → PrngReg), Pre_ReferenceKvDxIdeal m →
    θ_run (Cert.ReferenceKvDxIdeal.defs (F := Ideal)) (onTc (τ := Cert.ReferenceKvDxIdeal.τ) (Cert.ReferenceKvDxIdeal.main (F := Ideal))) ⟨m, fun _ => 0, g⟩ (fun r => (∀ c : Dev Cert.ReferenceKvDxIdeal.nD,
      r.2.mem ((c.tc : Thread Cert.ReferenceKvDxIdeal.nD Cert.ReferenceKvDxIdeal.τ).loc Cert.ReferenceKvDxIdeal.main_arg0) = m ((c.tc : Thread Cert.ReferenceKvDxIdeal.nD Cert.ReferenceKvDxIdeal.τ).loc Cert.ReferenceKvDxIdeal.main_arg0)
      ∧ r.2.mem ((c.tc : Thread Cert.ReferenceKvDxIdeal.nD Cert.ReferenceKvDxIdeal.τ).loc Cert.ReferenceKvDxIdeal.main_arg1) = m ((c.tc : Thread Cert.ReferenceKvDxIdeal.nD Cert.ReferenceKvDxIdeal.τ).loc Cert.ReferenceKvDxIdeal.main_arg1))
      ∧ r.2.sem = fun _ => 0)

def quiescent_KernelMemFwd [hKernelMemFwd : Cert.KernelMemFwd.Facts] : Prop :=
  ∀ (m : (ℓ : Loc Cert.KernelMemFwd.nD Cert.KernelMemFwd.τ Cert.KernelMemFwd.sig) → Buf (Elt Bits) ℓ) (g : Dev Cert.KernelMemFwd.nD → PrngReg), Pre_KernelMemFwd m →
    θ_run (Cert.KernelMemFwd.defs (F := Bits)) (onTc (τ := Cert.KernelMemFwd.τ) (Cert.KernelMemFwd.main (F := Bits))) ⟨m, fun _ => 0, g⟩ (fun r => (∀ c : Dev Cert.KernelMemFwd.nD,
      r.2.mem ((c.tc : Thread Cert.KernelMemFwd.nD Cert.KernelMemFwd.τ).loc Cert.KernelMemFwd.main_arg0) = m ((c.tc : Thread Cert.KernelMemFwd.nD Cert.KernelMemFwd.τ).loc Cert.KernelMemFwd.main_arg0)
      ∧ r.2.mem ((c.tc : Thread Cert.KernelMemFwd.nD Cert.KernelMemFwd.τ).loc Cert.KernelMemFwd.main_arg1) = m ((c.tc : Thread Cert.KernelMemFwd.nD Cert.KernelMemFwd.τ).loc Cert.KernelMemFwd.main_arg1)
      ∧ r.2.mem ((c.tc : Thread Cert.KernelMemFwd.nD Cert.KernelMemFwd.τ).loc Cert.KernelMemFwd.main_arg2) = m ((c.tc : Thread Cert.KernelMemFwd.nD Cert.KernelMemFwd.τ).loc Cert.KernelMemFwd.main_arg2)
      ∧ r.2.mem ((c.tc : Thread Cert.KernelMemFwd.nD Cert.KernelMemFwd.τ).loc Cert.KernelMemFwd.main_arg3) = m ((c.tc : Thread Cert.KernelMemFwd.nD Cert.KernelMemFwd.τ).loc Cert.KernelMemFwd.main_arg3))
      ∧ r.2.sem = fun _ => 0)

def quiescent_KernelMemFwdIdeal [hKernelMemFwdIdeal : Cert.KernelMemFwdIdeal.Facts] : Prop :=
  ∀ (m : (ℓ : Loc Cert.KernelMemFwdIdeal.nD Cert.KernelMemFwdIdeal.τ Cert.KernelMemFwdIdeal.sig) → Buf (Elt Ideal) ℓ) (g : Dev Cert.KernelMemFwdIdeal.nD → PrngReg), Pre_KernelMemFwdIdeal m →
    θ_run (Cert.KernelMemFwdIdeal.defs (F := Ideal)) (onTc (τ := Cert.KernelMemFwdIdeal.τ) (Cert.KernelMemFwdIdeal.main (F := Ideal))) ⟨m, fun _ => 0, g⟩ (fun r => (∀ c : Dev Cert.KernelMemFwdIdeal.nD,
      r.2.mem ((c.tc : Thread Cert.KernelMemFwdIdeal.nD Cert.KernelMemFwdIdeal.τ).loc Cert.KernelMemFwdIdeal.main_arg0) = m ((c.tc : Thread Cert.KernelMemFwdIdeal.nD Cert.KernelMemFwdIdeal.τ).loc Cert.KernelMemFwdIdeal.main_arg0)
      ∧ r.2.mem ((c.tc : Thread Cert.KernelMemFwdIdeal.nD Cert.KernelMemFwdIdeal.τ).loc Cert.KernelMemFwdIdeal.main_arg1) = m ((c.tc : Thread Cert.KernelMemFwdIdeal.nD Cert.KernelMemFwdIdeal.τ).loc Cert.KernelMemFwdIdeal.main_arg1)
      ∧ r.2.mem ((c.tc : Thread Cert.KernelMemFwdIdeal.nD Cert.KernelMemFwdIdeal.τ).loc Cert.KernelMemFwdIdeal.main_arg2) = m ((c.tc : Thread Cert.KernelMemFwdIdeal.nD Cert.KernelMemFwdIdeal.τ).loc Cert.KernelMemFwdIdeal.main_arg2)
      ∧ r.2.mem ((c.tc : Thread Cert.KernelMemFwdIdeal.nD Cert.KernelMemFwdIdeal.τ).loc Cert.KernelMemFwdIdeal.main_arg3) = m ((c.tc : Thread Cert.KernelMemFwdIdeal.nD Cert.KernelMemFwdIdeal.τ).loc Cert.KernelMemFwdIdeal.main_arg3))
      ∧ r.2.sem = fun _ => 0)

def quiescent_ReferenceMemFwdIdeal [hReferenceMemFwdIdeal : Cert.ReferenceMemFwdIdeal.Facts] : Prop :=
  ∀ (m : (ℓ : Loc Cert.ReferenceMemFwdIdeal.nD Cert.ReferenceMemFwdIdeal.τ Cert.ReferenceMemFwdIdeal.sig) → Buf (Elt Ideal) ℓ) (g : Dev Cert.ReferenceMemFwdIdeal.nD → PrngReg), Pre_ReferenceMemFwdIdeal m →
    θ_run (Cert.ReferenceMemFwdIdeal.defs (F := Ideal)) (onTc (τ := Cert.ReferenceMemFwdIdeal.τ) (Cert.ReferenceMemFwdIdeal.main (F := Ideal))) ⟨m, fun _ => 0, g⟩ (fun r => (∀ c : Dev Cert.ReferenceMemFwdIdeal.nD,
      r.2.mem ((c.tc : Thread Cert.ReferenceMemFwdIdeal.nD Cert.ReferenceMemFwdIdeal.τ).loc Cert.ReferenceMemFwdIdeal.main_arg0) = m ((c.tc : Thread Cert.ReferenceMemFwdIdeal.nD Cert.ReferenceMemFwdIdeal.τ).loc Cert.ReferenceMemFwdIdeal.main_arg0)
      ∧ r.2.mem ((c.tc : Thread Cert.ReferenceMemFwdIdeal.nD Cert.ReferenceMemFwdIdeal.τ).loc Cert.ReferenceMemFwdIdeal.main_arg1) = m ((c.tc : Thread Cert.ReferenceMemFwdIdeal.nD Cert.ReferenceMemFwdIdeal.τ).loc Cert.ReferenceMemFwdIdeal.main_arg1)
      ∧ r.2.mem ((c.tc : Thread Cert.ReferenceMemFwdIdeal.nD Cert.ReferenceMemFwdIdeal.τ).loc Cert.ReferenceMemFwdIdeal.main_arg2) = m ((c.tc : Thread Cert.ReferenceMemFwdIdeal.nD Cert.ReferenceMemFwdIdeal.τ).loc Cert.ReferenceMemFwdIdeal.main_arg2)
      ∧ r.2.mem ((c.tc : Thread Cert.ReferenceMemFwdIdeal.nD Cert.ReferenceMemFwdIdeal.τ).loc Cert.ReferenceMemFwdIdeal.main_arg3) = m ((c.tc : Thread Cert.ReferenceMemFwdIdeal.nD Cert.ReferenceMemFwdIdeal.τ).loc Cert.ReferenceMemFwdIdeal.main_arg3))
      ∧ r.2.sem = fun _ => 0)

def quiescent_KernelNormFwd [hKernelNormFwd : Cert.KernelNormFwd.Facts] : Prop :=
  ∀ (m : (ℓ : Loc Cert.KernelNormFwd.nD Cert.KernelNormFwd.τ Cert.KernelNormFwd.sig) → Buf (Elt Bits) ℓ) (g : Dev Cert.KernelNormFwd.nD → PrngReg), Pre_KernelNormFwd m →
    θ_run (Cert.KernelNormFwd.defs (F := Bits)) (onTc (τ := Cert.KernelNormFwd.τ) (Cert.KernelNormFwd.main (F := Bits))) ⟨m, fun _ => 0, g⟩ (fun r => (∀ c : Dev Cert.KernelNormFwd.nD,
      r.2.mem ((c.tc : Thread Cert.KernelNormFwd.nD Cert.KernelNormFwd.τ).loc Cert.KernelNormFwd.main_arg0) = m ((c.tc : Thread Cert.KernelNormFwd.nD Cert.KernelNormFwd.τ).loc Cert.KernelNormFwd.main_arg0)
      ∧ r.2.mem ((c.tc : Thread Cert.KernelNormFwd.nD Cert.KernelNormFwd.τ).loc Cert.KernelNormFwd.main_arg1) = m ((c.tc : Thread Cert.KernelNormFwd.nD Cert.KernelNormFwd.τ).loc Cert.KernelNormFwd.main_arg1))
      ∧ r.2.sem = fun _ => 0)

def quiescent_KernelNormFwdIdeal [hKernelNormFwdIdeal : Cert.KernelNormFwdIdeal.Facts] : Prop :=
  ∀ (m : (ℓ : Loc Cert.KernelNormFwdIdeal.nD Cert.KernelNormFwdIdeal.τ Cert.KernelNormFwdIdeal.sig) → Buf (Elt Ideal) ℓ) (g : Dev Cert.KernelNormFwdIdeal.nD → PrngReg), Pre_KernelNormFwdIdeal m →
    θ_run (Cert.KernelNormFwdIdeal.defs (F := Ideal)) (onTc (τ := Cert.KernelNormFwdIdeal.τ) (Cert.KernelNormFwdIdeal.main (F := Ideal))) ⟨m, fun _ => 0, g⟩ (fun r => (∀ c : Dev Cert.KernelNormFwdIdeal.nD,
      r.2.mem ((c.tc : Thread Cert.KernelNormFwdIdeal.nD Cert.KernelNormFwdIdeal.τ).loc Cert.KernelNormFwdIdeal.main_arg0) = m ((c.tc : Thread Cert.KernelNormFwdIdeal.nD Cert.KernelNormFwdIdeal.τ).loc Cert.KernelNormFwdIdeal.main_arg0)
      ∧ r.2.mem ((c.tc : Thread Cert.KernelNormFwdIdeal.nD Cert.KernelNormFwdIdeal.τ).loc Cert.KernelNormFwdIdeal.main_arg1) = m ((c.tc : Thread Cert.KernelNormFwdIdeal.nD Cert.KernelNormFwdIdeal.τ).loc Cert.KernelNormFwdIdeal.main_arg1))
      ∧ r.2.sem = fun _ => 0)

def quiescent_ReferenceNormFwdIdeal [hReferenceNormFwdIdeal : Cert.ReferenceNormFwdIdeal.Facts] : Prop :=
  ∀ (m : (ℓ : Loc Cert.ReferenceNormFwdIdeal.nD Cert.ReferenceNormFwdIdeal.τ Cert.ReferenceNormFwdIdeal.sig) → Buf (Elt Ideal) ℓ) (g : Dev Cert.ReferenceNormFwdIdeal.nD → PrngReg), Pre_ReferenceNormFwdIdeal m →
    θ_run (Cert.ReferenceNormFwdIdeal.defs (F := Ideal)) (onTc (τ := Cert.ReferenceNormFwdIdeal.τ) (Cert.ReferenceNormFwdIdeal.main (F := Ideal))) ⟨m, fun _ => 0, g⟩ (fun r => (∀ c : Dev Cert.ReferenceNormFwdIdeal.nD,
      r.2.mem ((c.tc : Thread Cert.ReferenceNormFwdIdeal.nD Cert.ReferenceNormFwdIdeal.τ).loc Cert.ReferenceNormFwdIdeal.main_arg0) = m ((c.tc : Thread Cert.ReferenceNormFwdIdeal.nD Cert.ReferenceNormFwdIdeal.τ).loc Cert.ReferenceNormFwdIdeal.main_arg0)
      ∧ r.2.mem ((c.tc : Thread Cert.ReferenceNormFwdIdeal.nD Cert.ReferenceNormFwdIdeal.τ).loc Cert.ReferenceNormFwdIdeal.main_arg1) = m ((c.tc : Thread Cert.ReferenceNormFwdIdeal.nD Cert.ReferenceNormFwdIdeal.τ).loc Cert.ReferenceNormFwdIdeal.main_arg1))
      ∧ r.2.sem = fun _ => 0)

def quiescent_KernelNormMemFwd [hKernelNormMemFwd : Cert.KernelNormMemFwd.Facts] : Prop :=
  ∀ (m : (ℓ : Loc Cert.KernelNormMemFwd.nD Cert.KernelNormMemFwd.τ Cert.KernelNormMemFwd.sig) → Buf (Elt Bits) ℓ) (g : Dev Cert.KernelNormMemFwd.nD → PrngReg), Pre_KernelNormMemFwd m →
    θ_run (Cert.KernelNormMemFwd.defs (F := Bits)) (onTc (τ := Cert.KernelNormMemFwd.τ) (Cert.KernelNormMemFwd.main (F := Bits))) ⟨m, fun _ => 0, g⟩ (fun r => (∀ c : Dev Cert.KernelNormMemFwd.nD,
      r.2.mem ((c.tc : Thread Cert.KernelNormMemFwd.nD Cert.KernelNormMemFwd.τ).loc Cert.KernelNormMemFwd.main_arg0) = m ((c.tc : Thread Cert.KernelNormMemFwd.nD Cert.KernelNormMemFwd.τ).loc Cert.KernelNormMemFwd.main_arg0)
      ∧ r.2.mem ((c.tc : Thread Cert.KernelNormMemFwd.nD Cert.KernelNormMemFwd.τ).loc Cert.KernelNormMemFwd.main_arg1) = m ((c.tc : Thread Cert.KernelNormMemFwd.nD Cert.KernelNormMemFwd.τ).loc Cert.KernelNormMemFwd.main_arg1))
      ∧ r.2.sem = fun _ => 0)

def quiescent_KernelNormMemFwdIdeal [hKernelNormMemFwdIdeal : Cert.KernelNormMemFwdIdeal.Facts] : Prop :=
  ∀ (m : (ℓ : Loc Cert.KernelNormMemFwdIdeal.nD Cert.KernelNormMemFwdIdeal.τ Cert.KernelNormMemFwdIdeal.sig) → Buf (Elt Ideal) ℓ) (g : Dev Cert.KernelNormMemFwdIdeal.nD → PrngReg), Pre_KernelNormMemFwdIdeal m →
    θ_run (Cert.KernelNormMemFwdIdeal.defs (F := Ideal)) (onTc (τ := Cert.KernelNormMemFwdIdeal.τ) (Cert.KernelNormMemFwdIdeal.main (F := Ideal))) ⟨m, fun _ => 0, g⟩ (fun r => (∀ c : Dev Cert.KernelNormMemFwdIdeal.nD,
      r.2.mem ((c.tc : Thread Cert.KernelNormMemFwdIdeal.nD Cert.KernelNormMemFwdIdeal.τ).loc Cert.KernelNormMemFwdIdeal.main_arg0) = m ((c.tc : Thread Cert.KernelNormMemFwdIdeal.nD Cert.KernelNormMemFwdIdeal.τ).loc Cert.KernelNormMemFwdIdeal.main_arg0)
      ∧ r.2.mem ((c.tc : Thread Cert.KernelNormMemFwdIdeal.nD Cert.KernelNormMemFwdIdeal.τ).loc Cert.KernelNormMemFwdIdeal.main_arg1) = m ((c.tc : Thread Cert.KernelNormMemFwdIdeal.nD Cert.KernelNormMemFwdIdeal.τ).loc Cert.KernelNormMemFwdIdeal.main_arg1))
      ∧ r.2.sem = fun _ => 0)

def quiescent_ReferenceNormMemFwdIdeal [hReferenceNormMemFwdIdeal : Cert.ReferenceNormMemFwdIdeal.Facts] : Prop :=
  ∀ (m : (ℓ : Loc Cert.ReferenceNormMemFwdIdeal.nD Cert.ReferenceNormMemFwdIdeal.τ Cert.ReferenceNormMemFwdIdeal.sig) → Buf (Elt Ideal) ℓ) (g : Dev Cert.ReferenceNormMemFwdIdeal.nD → PrngReg), Pre_ReferenceNormMemFwdIdeal m →
    θ_run (Cert.ReferenceNormMemFwdIdeal.defs (F := Ideal)) (onTc (τ := Cert.ReferenceNormMemFwdIdeal.τ) (Cert.ReferenceNormMemFwdIdeal.main (F := Ideal))) ⟨m, fun _ => 0, g⟩ (fun r => (∀ c : Dev Cert.ReferenceNormMemFwdIdeal.nD,
      r.2.mem ((c.tc : Thread Cert.ReferenceNormMemFwdIdeal.nD Cert.ReferenceNormMemFwdIdeal.τ).loc Cert.ReferenceNormMemFwdIdeal.main_arg0) = m ((c.tc : Thread Cert.ReferenceNormMemFwdIdeal.nD Cert.ReferenceNormMemFwdIdeal.τ).loc Cert.ReferenceNormMemFwdIdeal.main_arg0)
      ∧ r.2.mem ((c.tc : Thread Cert.ReferenceNormMemFwdIdeal.nD Cert.ReferenceNormMemFwdIdeal.τ).loc Cert.ReferenceNormMemFwdIdeal.main_arg1) = m ((c.tc : Thread Cert.ReferenceNormMemFwdIdeal.nD Cert.ReferenceNormMemFwdIdeal.τ).loc Cert.ReferenceNormMemFwdIdeal.main_arg1))
      ∧ r.2.sem = fun _ => 0)

def quiescent_KernelNormMemBwd [hKernelNormMemBwd : Cert.KernelNormMemBwd.Facts] : Prop :=
  ∀ (m : (ℓ : Loc Cert.KernelNormMemBwd.nD Cert.KernelNormMemBwd.τ Cert.KernelNormMemBwd.sig) → Buf (Elt Bits) ℓ) (g : Dev Cert.KernelNormMemBwd.nD → PrngReg), Pre_KernelNormMemBwd m →
    θ_run (Cert.KernelNormMemBwd.defs (F := Bits)) (onTc (τ := Cert.KernelNormMemBwd.τ) (Cert.KernelNormMemBwd.main (F := Bits))) ⟨m, fun _ => 0, g⟩ (fun r => (∀ c : Dev Cert.KernelNormMemBwd.nD,
      r.2.mem ((c.tc : Thread Cert.KernelNormMemBwd.nD Cert.KernelNormMemBwd.τ).loc Cert.KernelNormMemBwd.main_arg0) = m ((c.tc : Thread Cert.KernelNormMemBwd.nD Cert.KernelNormMemBwd.τ).loc Cert.KernelNormMemBwd.main_arg0)
      ∧ r.2.mem ((c.tc : Thread Cert.KernelNormMemBwd.nD Cert.KernelNormMemBwd.τ).loc Cert.KernelNormMemBwd.main_arg1) = m ((c.tc : Thread Cert.KernelNormMemBwd.nD Cert.KernelNormMemBwd.τ).loc Cert.KernelNormMemBwd.main_arg1)
      ∧ r.2.mem ((c.tc : Thread Cert.KernelNormMemBwd.nD Cert.KernelNormMemBwd.τ).loc Cert.KernelNormMemBwd.main_arg2) = m ((c.tc : Thread Cert.KernelNormMemBwd.nD Cert.KernelNormMemBwd.τ).loc Cert.KernelNormMemBwd.main_arg2))
      ∧ r.2.sem = fun _ => 0)

def quiescent_KernelNormMemBwdIdeal [hKernelNormMemBwdIdeal : Cert.KernelNormMemBwdIdeal.Facts] : Prop :=
  ∀ (m : (ℓ : Loc Cert.KernelNormMemBwdIdeal.nD Cert.KernelNormMemBwdIdeal.τ Cert.KernelNormMemBwdIdeal.sig) → Buf (Elt Ideal) ℓ) (g : Dev Cert.KernelNormMemBwdIdeal.nD → PrngReg), Pre_KernelNormMemBwdIdeal m →
    θ_run (Cert.KernelNormMemBwdIdeal.defs (F := Ideal)) (onTc (τ := Cert.KernelNormMemBwdIdeal.τ) (Cert.KernelNormMemBwdIdeal.main (F := Ideal))) ⟨m, fun _ => 0, g⟩ (fun r => (∀ c : Dev Cert.KernelNormMemBwdIdeal.nD,
      r.2.mem ((c.tc : Thread Cert.KernelNormMemBwdIdeal.nD Cert.KernelNormMemBwdIdeal.τ).loc Cert.KernelNormMemBwdIdeal.main_arg0) = m ((c.tc : Thread Cert.KernelNormMemBwdIdeal.nD Cert.KernelNormMemBwdIdeal.τ).loc Cert.KernelNormMemBwdIdeal.main_arg0)
      ∧ r.2.mem ((c.tc : Thread Cert.KernelNormMemBwdIdeal.nD Cert.KernelNormMemBwdIdeal.τ).loc Cert.KernelNormMemBwdIdeal.main_arg1) = m ((c.tc : Thread Cert.KernelNormMemBwdIdeal.nD Cert.KernelNormMemBwdIdeal.τ).loc Cert.KernelNormMemBwdIdeal.main_arg1)
      ∧ r.2.mem ((c.tc : Thread Cert.KernelNormMemBwdIdeal.nD Cert.KernelNormMemBwdIdeal.τ).loc Cert.KernelNormMemBwdIdeal.main_arg2) = m ((c.tc : Thread Cert.KernelNormMemBwdIdeal.nD Cert.KernelNormMemBwdIdeal.τ).loc Cert.KernelNormMemBwdIdeal.main_arg2))
      ∧ r.2.sem = fun _ => 0)

def quiescent_ReferenceNormMemBwdIdeal [hReferenceNormMemBwdIdeal : Cert.ReferenceNormMemBwdIdeal.Facts] : Prop :=
  ∀ (m : (ℓ : Loc Cert.ReferenceNormMemBwdIdeal.nD Cert.ReferenceNormMemBwdIdeal.τ Cert.ReferenceNormMemBwdIdeal.sig) → Buf (Elt Ideal) ℓ) (g : Dev Cert.ReferenceNormMemBwdIdeal.nD → PrngReg), Pre_ReferenceNormMemBwdIdeal m →
    θ_run (Cert.ReferenceNormMemBwdIdeal.defs (F := Ideal)) (onTc (τ := Cert.ReferenceNormMemBwdIdeal.τ) (Cert.ReferenceNormMemBwdIdeal.main (F := Ideal))) ⟨m, fun _ => 0, g⟩ (fun r => (∀ c : Dev Cert.ReferenceNormMemBwdIdeal.nD,
      r.2.mem ((c.tc : Thread Cert.ReferenceNormMemBwdIdeal.nD Cert.ReferenceNormMemBwdIdeal.τ).loc Cert.ReferenceNormMemBwdIdeal.main_arg0) = m ((c.tc : Thread Cert.ReferenceNormMemBwdIdeal.nD Cert.ReferenceNormMemBwdIdeal.τ).loc Cert.ReferenceNormMemBwdIdeal.main_arg0)
      ∧ r.2.mem ((c.tc : Thread Cert.ReferenceNormMemBwdIdeal.nD Cert.ReferenceNormMemBwdIdeal.τ).loc Cert.ReferenceNormMemBwdIdeal.main_arg1) = m ((c.tc : Thread Cert.ReferenceNormMemBwdIdeal.nD Cert.ReferenceNormMemBwdIdeal.τ).loc Cert.ReferenceNormMemBwdIdeal.main_arg1)
      ∧ r.2.mem ((c.tc : Thread Cert.ReferenceNormMemBwdIdeal.nD Cert.ReferenceNormMemBwdIdeal.τ).loc Cert.ReferenceNormMemBwdIdeal.main_arg2) = m ((c.tc : Thread Cert.ReferenceNormMemBwdIdeal.nD Cert.ReferenceNormMemBwdIdeal.τ).loc Cert.ReferenceNormMemBwdIdeal.main_arg2))
      ∧ r.2.sem = fun _ => 0)

def quiescent_KernelForget [hKernelForget : Cert.KernelForget.Facts] : Prop :=
  ∀ (m : (ℓ : Loc Cert.KernelForget.nD Cert.KernelForget.τ Cert.KernelForget.sig) → Buf (Elt Bits) ℓ) (g : Dev Cert.KernelForget.nD → PrngReg), Pre_KernelForget m →
    θ_run (Cert.KernelForget.defs (F := Bits)) (onTc (τ := Cert.KernelForget.τ) (Cert.KernelForget.main (F := Bits))) ⟨m, fun _ => 0, g⟩ (fun r => (∀ c : Dev Cert.KernelForget.nD,
      r.2.mem ((c.tc : Thread Cert.KernelForget.nD Cert.KernelForget.τ).loc Cert.KernelForget.main_arg0) = m ((c.tc : Thread Cert.KernelForget.nD Cert.KernelForget.τ).loc Cert.KernelForget.main_arg0)
      ∧ r.2.mem ((c.tc : Thread Cert.KernelForget.nD Cert.KernelForget.τ).loc Cert.KernelForget.main_arg1) = m ((c.tc : Thread Cert.KernelForget.nD Cert.KernelForget.τ).loc Cert.KernelForget.main_arg1))
      ∧ r.2.sem = fun _ => 0)

def quiescent_KernelForgetIdeal [hKernelForgetIdeal : Cert.KernelForgetIdeal.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg), Pre_KernelForgetIdeal m →
    θ_run (Cert.KernelForgetIdeal.defs (F := Ideal)) (onTc (τ := Cert.KernelForgetIdeal.τ) (Cert.KernelForgetIdeal.main (F := Ideal))) ⟨m, fun _ => 0, g⟩ (fun r => (∀ c : Dev Cert.KernelForgetIdeal.nD,
      r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
      ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1))
      ∧ r.2.sem = fun _ => 0)

def quiescent_ReferenceForgetIdeal [hReferenceForgetIdeal : Cert.ReferenceForgetIdeal.Facts] : Prop :=
  ∀ (m : (ℓ : Loc Cert.ReferenceForgetIdeal.nD Cert.ReferenceForgetIdeal.τ Cert.ReferenceForgetIdeal.sig) → Buf (Elt Ideal) ℓ) (g : Dev Cert.ReferenceForgetIdeal.nD → PrngReg), Pre_ReferenceForgetIdeal m →
    θ_run (Cert.ReferenceForgetIdeal.defs (F := Ideal)) (onTc (τ := Cert.ReferenceForgetIdeal.τ) (Cert.ReferenceForgetIdeal.main (F := Ideal))) ⟨m, fun _ => 0, g⟩ (fun r => (∀ c : Dev Cert.ReferenceForgetIdeal.nD,
      r.2.mem ((c.tc : Thread Cert.ReferenceForgetIdeal.nD Cert.ReferenceForgetIdeal.τ).loc Cert.ReferenceForgetIdeal.main_arg0) = m ((c.tc : Thread Cert.ReferenceForgetIdeal.nD Cert.ReferenceForgetIdeal.τ).loc Cert.ReferenceForgetIdeal.main_arg0)
      ∧ r.2.mem ((c.tc : Thread Cert.ReferenceForgetIdeal.nD Cert.ReferenceForgetIdeal.τ).loc Cert.ReferenceForgetIdeal.main_arg1) = m ((c.tc : Thread Cert.ReferenceForgetIdeal.nD Cert.ReferenceForgetIdeal.τ).loc Cert.ReferenceForgetIdeal.main_arg1))
      ∧ r.2.sem = fun _ => 0)

def quiescent_KernelForgetDw [hKernelForgetDw : Cert.KernelForgetDw.Facts] : Prop :=
  ∀ (m : (ℓ : Loc Cert.KernelForgetDw.nD Cert.KernelForgetDw.τ Cert.KernelForgetDw.sig) → Buf (Elt Bits) ℓ) (g : Dev Cert.KernelForgetDw.nD → PrngReg), Pre_KernelForgetDw m →
    θ_run (Cert.KernelForgetDw.defs (F := Bits)) (onTc (τ := Cert.KernelForgetDw.τ) (Cert.KernelForgetDw.main (F := Bits))) ⟨m, fun _ => 0, g⟩ (fun r => (∀ c : Dev Cert.KernelForgetDw.nD,
      r.2.mem ((c.tc : Thread Cert.KernelForgetDw.nD Cert.KernelForgetDw.τ).loc Cert.KernelForgetDw.main_arg0) = m ((c.tc : Thread Cert.KernelForgetDw.nD Cert.KernelForgetDw.τ).loc Cert.KernelForgetDw.main_arg0)
      ∧ r.2.mem ((c.tc : Thread Cert.KernelForgetDw.nD Cert.KernelForgetDw.τ).loc Cert.KernelForgetDw.main_arg1) = m ((c.tc : Thread Cert.KernelForgetDw.nD Cert.KernelForgetDw.τ).loc Cert.KernelForgetDw.main_arg1))
      ∧ r.2.sem = fun _ => 0)

def quiescent_KernelForgetDwIdeal [hKernelForgetDwIdeal : Cert.KernelForgetDwIdeal.Facts] : Prop :=
  ∀ (m : (ℓ : Loc Cert.KernelForgetDwIdeal.nD Cert.KernelForgetDwIdeal.τ Cert.KernelForgetDwIdeal.sig) → Buf (Elt Ideal) ℓ) (g : Dev Cert.KernelForgetDwIdeal.nD → PrngReg), Pre_KernelForgetDwIdeal m →
    θ_run (Cert.KernelForgetDwIdeal.defs (F := Ideal)) (onTc (τ := Cert.KernelForgetDwIdeal.τ) (Cert.KernelForgetDwIdeal.main (F := Ideal))) ⟨m, fun _ => 0, g⟩ (fun r => (∀ c : Dev Cert.KernelForgetDwIdeal.nD,
      r.2.mem ((c.tc : Thread Cert.KernelForgetDwIdeal.nD Cert.KernelForgetDwIdeal.τ).loc Cert.KernelForgetDwIdeal.main_arg0) = m ((c.tc : Thread Cert.KernelForgetDwIdeal.nD Cert.KernelForgetDwIdeal.τ).loc Cert.KernelForgetDwIdeal.main_arg0)
      ∧ r.2.mem ((c.tc : Thread Cert.KernelForgetDwIdeal.nD Cert.KernelForgetDwIdeal.τ).loc Cert.KernelForgetDwIdeal.main_arg1) = m ((c.tc : Thread Cert.KernelForgetDwIdeal.nD Cert.KernelForgetDwIdeal.τ).loc Cert.KernelForgetDwIdeal.main_arg1))
      ∧ r.2.sem = fun _ => 0)

def quiescent_ReferenceForgetDwIdeal [hReferenceForgetDwIdeal : Cert.ReferenceForgetDwIdeal.Facts] : Prop :=
  ∀ (m : (ℓ : Loc Cert.ReferenceForgetDwIdeal.nD Cert.ReferenceForgetDwIdeal.τ Cert.ReferenceForgetDwIdeal.sig) → Buf (Elt Ideal) ℓ) (g : Dev Cert.ReferenceForgetDwIdeal.nD → PrngReg), Pre_ReferenceForgetDwIdeal m →
    θ_run (Cert.ReferenceForgetDwIdeal.defs (F := Ideal)) (onTc (τ := Cert.ReferenceForgetDwIdeal.τ) (Cert.ReferenceForgetDwIdeal.main (F := Ideal))) ⟨m, fun _ => 0, g⟩ (fun r => (∀ c : Dev Cert.ReferenceForgetDwIdeal.nD,
      r.2.mem ((c.tc : Thread Cert.ReferenceForgetDwIdeal.nD Cert.ReferenceForgetDwIdeal.τ).loc Cert.ReferenceForgetDwIdeal.main_arg0) = m ((c.tc : Thread Cert.ReferenceForgetDwIdeal.nD Cert.ReferenceForgetDwIdeal.τ).loc Cert.ReferenceForgetDwIdeal.main_arg0)
      ∧ r.2.mem ((c.tc : Thread Cert.ReferenceForgetDwIdeal.nD Cert.ReferenceForgetDwIdeal.τ).loc Cert.ReferenceForgetDwIdeal.main_arg1) = m ((c.tc : Thread Cert.ReferenceForgetDwIdeal.nD Cert.ReferenceForgetDwIdeal.τ).loc Cert.ReferenceForgetDwIdeal.main_arg1))
      ∧ r.2.sem = fun _ => 0)

def quiescent_KernelForgetDx [hKernelForgetDx : Cert.KernelForgetDx.Facts] : Prop :=
  ∀ (m : (ℓ : Loc Cert.KernelForgetDx.nD Cert.KernelForgetDx.τ Cert.KernelForgetDx.sig) → Buf (Elt Bits) ℓ) (g : Dev Cert.KernelForgetDx.nD → PrngReg), Pre_KernelForgetDx m →
    θ_run (Cert.KernelForgetDx.defs (F := Bits)) (onTc (τ := Cert.KernelForgetDx.τ) (Cert.KernelForgetDx.main (F := Bits))) ⟨m, fun _ => 0, g⟩ (fun r => (∀ c : Dev Cert.KernelForgetDx.nD,
      r.2.mem ((c.tc : Thread Cert.KernelForgetDx.nD Cert.KernelForgetDx.τ).loc Cert.KernelForgetDx.main_arg0) = m ((c.tc : Thread Cert.KernelForgetDx.nD Cert.KernelForgetDx.τ).loc Cert.KernelForgetDx.main_arg0)
      ∧ r.2.mem ((c.tc : Thread Cert.KernelForgetDx.nD Cert.KernelForgetDx.τ).loc Cert.KernelForgetDx.main_arg1) = m ((c.tc : Thread Cert.KernelForgetDx.nD Cert.KernelForgetDx.τ).loc Cert.KernelForgetDx.main_arg1))
      ∧ r.2.sem = fun _ => 0)

def quiescent_KernelForgetDxIdeal [hKernelForgetDxIdeal : Cert.KernelForgetDxIdeal.Facts] : Prop :=
  ∀ (m : (ℓ : Loc Cert.KernelForgetDxIdeal.nD Cert.KernelForgetDxIdeal.τ Cert.KernelForgetDxIdeal.sig) → Buf (Elt Ideal) ℓ) (g : Dev Cert.KernelForgetDxIdeal.nD → PrngReg), Pre_KernelForgetDxIdeal m →
    θ_run (Cert.KernelForgetDxIdeal.defs (F := Ideal)) (onTc (τ := Cert.KernelForgetDxIdeal.τ) (Cert.KernelForgetDxIdeal.main (F := Ideal))) ⟨m, fun _ => 0, g⟩ (fun r => (∀ c : Dev Cert.KernelForgetDxIdeal.nD,
      r.2.mem ((c.tc : Thread Cert.KernelForgetDxIdeal.nD Cert.KernelForgetDxIdeal.τ).loc Cert.KernelForgetDxIdeal.main_arg0) = m ((c.tc : Thread Cert.KernelForgetDxIdeal.nD Cert.KernelForgetDxIdeal.τ).loc Cert.KernelForgetDxIdeal.main_arg0)
      ∧ r.2.mem ((c.tc : Thread Cert.KernelForgetDxIdeal.nD Cert.KernelForgetDxIdeal.τ).loc Cert.KernelForgetDxIdeal.main_arg1) = m ((c.tc : Thread Cert.KernelForgetDxIdeal.nD Cert.KernelForgetDxIdeal.τ).loc Cert.KernelForgetDxIdeal.main_arg1))
      ∧ r.2.sem = fun _ => 0)

def quiescent_ReferenceForgetDxIdeal [hReferenceForgetDxIdeal : Cert.ReferenceForgetDxIdeal.Facts] : Prop :=
  ∀ (m : (ℓ : Loc Cert.ReferenceForgetDxIdeal.nD Cert.ReferenceForgetDxIdeal.τ Cert.ReferenceForgetDxIdeal.sig) → Buf (Elt Ideal) ℓ) (g : Dev Cert.ReferenceForgetDxIdeal.nD → PrngReg), Pre_ReferenceForgetDxIdeal m →
    θ_run (Cert.ReferenceForgetDxIdeal.defs (F := Ideal)) (onTc (τ := Cert.ReferenceForgetDxIdeal.τ) (Cert.ReferenceForgetDxIdeal.main (F := Ideal))) ⟨m, fun _ => 0, g⟩ (fun r => (∀ c : Dev Cert.ReferenceForgetDxIdeal.nD,
      r.2.mem ((c.tc : Thread Cert.ReferenceForgetDxIdeal.nD Cert.ReferenceForgetDxIdeal.τ).loc Cert.ReferenceForgetDxIdeal.main_arg0) = m ((c.tc : Thread Cert.ReferenceForgetDxIdeal.nD Cert.ReferenceForgetDxIdeal.τ).loc Cert.ReferenceForgetDxIdeal.main_arg0)
      ∧ r.2.mem ((c.tc : Thread Cert.ReferenceForgetDxIdeal.nD Cert.ReferenceForgetDxIdeal.τ).loc Cert.ReferenceForgetDxIdeal.main_arg1) = m ((c.tc : Thread Cert.ReferenceForgetDxIdeal.nD Cert.ReferenceForgetDxIdeal.τ).loc Cert.ReferenceForgetDxIdeal.main_arg1))
      ∧ r.2.sem = fun _ => 0)

def preserves_Kernel_KernelIdeal : Prop :=
  True

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v141) = v3 c
          ∧ r.2.mem ((c.tc : Thread Cert.ReferenceIdeal.nD Cert.ReferenceIdeal.τ).loc Cert.ReferenceIdeal.main_v140) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)) →
    ∃ (v0 : (c : Dev Cert.KernelLossIdeal.nD) → Buf (Elt Ideal) ((c.tc : Thread Cert.KernelLossIdeal.nD Cert.KernelLossIdeal.τ).loc Cert.KernelLossIdeal.main_v1)) (v1 : (c : Dev Cert.KernelLossIdeal.nD) → Buf (Elt Ideal) ((c.tc : Thread Cert.KernelLossIdeal.nD Cert.KernelLossIdeal.τ).loc Cert.KernelLossIdeal.main_v0_0)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v1) = v0 c
          ∧ r.2.mem ((c.tc : Thread Cert.KernelLossIdeal.nD Cert.KernelLossIdeal.τ).loc Cert.KernelLossIdeal.main_v0_0) = v1 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v12) = v0 c
          ∧ r.2.mem ((c.tc : Thread Cert.ReferenceLossIdeal.nD Cert.ReferenceLossIdeal.τ).loc Cert.ReferenceLossIdeal.main_v18) = v1 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3))

def preserves_KernelDownDx_KernelDownDxIdeal : Prop :=
  True

def algebraic_KernelDownDxIdeal_ReferenceDownDxIdeal [hKernelDownDxIdeal : Cert.KernelDownDxIdeal.Facts] [hReferenceDownDxIdeal : Cert.ReferenceDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg)
    (m' : (ℓ : Loc Cert.ReferenceDownDxIdeal.nD Cert.ReferenceDownDxIdeal.τ Cert.ReferenceDownDxIdeal.sig) → Buf (Elt Ideal) ℓ) (g' : Dev Cert.ReferenceDownDxIdeal.nD → PrngReg), Pre_KernelDownDxIdeal m →
    (∀ c : Dev Cert.KernelDownDxIdeal.nD,
      m' ((c.tc : Thread Cert.ReferenceDownDxIdeal.nD Cert.ReferenceDownDxIdeal.τ).loc Cert.ReferenceDownDxIdeal.main_arg0) = m ((c.tc : Thread Cert.KernelDownDxIdeal.nD Cert.KernelDownDxIdeal.τ).loc Cert.KernelDownDxIdeal.main_arg0)
      ∧ m' ((c.tc : Thread Cert.ReferenceDownDxIdeal.nD Cert.ReferenceDownDxIdeal.τ).loc Cert.ReferenceDownDxIdeal.main_arg1) = m ((c.tc : Thread Cert.KernelDownDxIdeal.nD Cert.KernelDownDxIdeal.τ).loc Cert.KernelDownDxIdeal.main_arg1)) →
    ∃ (v0 : (c : Dev Cert.KernelDownDxIdeal.nD) → Buf (Elt Ideal) ((c.tc : Thread Cert.KernelDownDxIdeal.nD Cert.KernelDownDxIdeal.τ).loc Cert.KernelDownDxIdeal.main_v0)),
      θ_run (Cert.KernelDownDxIdeal.defs (F := Ideal)) (onTc (τ := Cert.KernelDownDxIdeal.τ) (Cert.KernelDownDxIdeal.main (F := Ideal))) ⟨m, fun _ => 0, g⟩ (fun r => ∀ c : Dev Cert.KernelDownDxIdeal.nD,
          r.2.mem ((c.tc : Thread Cert.KernelDownDxIdeal.nD Cert.KernelDownDxIdeal.τ).loc Cert.KernelDownDxIdeal.main_v0) = v0 c
          ∧ r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
          ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ θ_run (Cert.ReferenceDownDxIdeal.defs (F := Ideal)) (onTc (τ := Cert.ReferenceDownDxIdeal.τ) (Cert.ReferenceDownDxIdeal.main (F := Ideal))) ⟨m', fun _ => 0, g'⟩ (fun r => ∀ c : Dev Cert.ReferenceDownDxIdeal.nD,
          r.2.mem ((c.tc : Thread Cert.ReferenceDownDxIdeal.nD Cert.ReferenceDownDxIdeal.τ).loc Cert.ReferenceDownDxIdeal.main_v3) = v0 c
          ∧ r.2.mem ((c.tc : Thread Cert.ReferenceDownDxIdeal.nD Cert.ReferenceDownDxIdeal.τ).loc Cert.ReferenceDownDxIdeal.main_arg0) = m' ((c.tc : Thread Cert.ReferenceDownDxIdeal.nD Cert.ReferenceDownDxIdeal.τ).loc Cert.ReferenceDownDxIdeal.main_arg0)
          ∧ r.2.mem ((c.tc : Thread Cert.ReferenceDownDxIdeal.nD Cert.ReferenceDownDxIdeal.τ).loc Cert.ReferenceDownDxIdeal.main_arg1) = m' ((c.tc : Thread Cert.ReferenceDownDxIdeal.nD Cert.ReferenceDownDxIdeal.τ).loc Cert.ReferenceDownDxIdeal.main_arg1))

def preserves_KernelDownDw_KernelDownDwIdeal : Prop :=
  True

def algebraic_KernelDownDwIdeal_ReferenceDownDwIdeal [hKernelDownDwIdeal : Cert.KernelDownDwIdeal.Facts] [hReferenceDownDwIdeal : Cert.ReferenceDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg)
    (m' : (ℓ : Loc Cert.ReferenceDownDwIdeal.nD Cert.ReferenceDownDwIdeal.τ Cert.ReferenceDownDwIdeal.sig) → Buf (Elt Ideal) ℓ) (g' : Dev Cert.ReferenceDownDwIdeal.nD → PrngReg), Pre_KernelDownDwIdeal m →
    (∀ c : Dev Cert.KernelDownDwIdeal.nD,
      m' ((c.tc : Thread Cert.ReferenceDownDwIdeal.nD Cert.ReferenceDownDwIdeal.τ).loc Cert.ReferenceDownDwIdeal.main_arg0) = m ((c.tc : Thread Cert.KernelDownDwIdeal.nD Cert.KernelDownDwIdeal.τ).loc Cert.KernelDownDwIdeal.main_arg0)
      ∧ m' ((c.tc : Thread Cert.ReferenceDownDwIdeal.nD Cert.ReferenceDownDwIdeal.τ).loc Cert.ReferenceDownDwIdeal.main_arg1) = m ((c.tc : Thread Cert.KernelDownDwIdeal.nD Cert.KernelDownDwIdeal.τ).loc Cert.KernelDownDwIdeal.main_arg1)) →
    ∃ (v0 : (c : Dev Cert.KernelDownDwIdeal.nD) → Buf (Elt Ideal) ((c.tc : Thread Cert.KernelDownDwIdeal.nD Cert.KernelDownDwIdeal.τ).loc Cert.KernelDownDwIdeal.main_v0)),
      θ_run (Cert.KernelDownDwIdeal.defs (F := Ideal)) (onTc (τ := Cert.KernelDownDwIdeal.τ) (Cert.KernelDownDwIdeal.main (F := Ideal))) ⟨m, fun _ => 0, g⟩ (fun r => ∀ c : Dev Cert.KernelDownDwIdeal.nD,
          r.2.mem ((c.tc : Thread Cert.KernelDownDwIdeal.nD Cert.KernelDownDwIdeal.τ).loc Cert.KernelDownDwIdeal.main_v0) = v0 c
          ∧ r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
          ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ θ_run (Cert.ReferenceDownDwIdeal.defs (F := Ideal)) (onTc (τ := Cert.ReferenceDownDwIdeal.τ) (Cert.ReferenceDownDwIdeal.main (F := Ideal))) ⟨m', fun _ => 0, g'⟩ (fun r => ∀ c : Dev Cert.ReferenceDownDwIdeal.nD,
          r.2.mem ((c.tc : Thread Cert.ReferenceDownDwIdeal.nD Cert.ReferenceDownDwIdeal.τ).loc Cert.ReferenceDownDwIdeal.main_v4) = v0 c
          ∧ r.2.mem ((c.tc : Thread Cert.ReferenceDownDwIdeal.nD Cert.ReferenceDownDwIdeal.τ).loc Cert.ReferenceDownDwIdeal.main_arg0) = m' ((c.tc : Thread Cert.ReferenceDownDwIdeal.nD Cert.ReferenceDownDwIdeal.τ).loc Cert.ReferenceDownDwIdeal.main_arg0)
          ∧ r.2.mem ((c.tc : Thread Cert.ReferenceDownDwIdeal.nD Cert.ReferenceDownDwIdeal.τ).loc Cert.ReferenceDownDwIdeal.main_arg1) = m' ((c.tc : Thread Cert.ReferenceDownDwIdeal.nD Cert.ReferenceDownDwIdeal.τ).loc Cert.ReferenceDownDwIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v11) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelUpDx_KernelUpDxIdeal : Prop :=
  True

def algebraic_KernelUpDxIdeal_ReferenceUpDxIdeal [hKernelUpDxIdeal : Cert.KernelUpDxIdeal.Facts] [hReferenceUpDxIdeal : Cert.ReferenceUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg)
    (m' : (ℓ : Loc Cert.ReferenceUpDxIdeal.nD Cert.ReferenceUpDxIdeal.τ Cert.ReferenceUpDxIdeal.sig) → Buf (Elt Ideal) ℓ) (g' : Dev Cert.ReferenceUpDxIdeal.nD → PrngReg), Pre_KernelUpDxIdeal m →
    (∀ c : Dev Cert.KernelUpDxIdeal.nD,
      m' ((c.tc : Thread Cert.ReferenceUpDxIdeal.nD Cert.ReferenceUpDxIdeal.τ).loc Cert.ReferenceUpDxIdeal.main_arg0) = m ((c.tc : Thread Cert.KernelUpDxIdeal.nD Cert.KernelUpDxIdeal.τ).loc Cert.KernelUpDxIdeal.main_arg0)
      ∧ m' ((c.tc : Thread Cert.ReferenceUpDxIdeal.nD Cert.ReferenceUpDxIdeal.τ).loc Cert.ReferenceUpDxIdeal.main_arg1) = m ((c.tc : Thread Cert.KernelUpDxIdeal.nD Cert.KernelUpDxIdeal.τ).loc Cert.KernelUpDxIdeal.main_arg1)
      ∧ m' ((c.tc : Thread Cert.ReferenceUpDxIdeal.nD Cert.ReferenceUpDxIdeal.τ).loc Cert.ReferenceUpDxIdeal.main_arg2) = m ((c.tc : Thread Cert.KernelUpDxIdeal.nD Cert.KernelUpDxIdeal.τ).loc Cert.KernelUpDxIdeal.main_arg2)
      ∧ m' ((c.tc : Thread Cert.ReferenceUpDxIdeal.nD Cert.ReferenceUpDxIdeal.τ).loc Cert.ReferenceUpDxIdeal.main_arg3) = m ((c.tc : Thread Cert.KernelUpDxIdeal.nD Cert.KernelUpDxIdeal.τ).loc Cert.KernelUpDxIdeal.main_arg3)
      ∧ m' ((c.tc : Thread Cert.ReferenceUpDxIdeal.nD Cert.ReferenceUpDxIdeal.τ).loc Cert.ReferenceUpDxIdeal.main_arg4) = m ((c.tc : Thread Cert.KernelUpDxIdeal.nD Cert.KernelUpDxIdeal.τ).loc Cert.KernelUpDxIdeal.main_arg4)
      ∧ m' ((c.tc : Thread Cert.ReferenceUpDxIdeal.nD Cert.ReferenceUpDxIdeal.τ).loc Cert.ReferenceUpDxIdeal.main_arg5) = m ((c.tc : Thread Cert.KernelUpDxIdeal.nD Cert.KernelUpDxIdeal.τ).loc Cert.KernelUpDxIdeal.main_arg5)) →
    ∃ (v0 : (c : Dev Cert.KernelUpDxIdeal.nD) → Buf (Elt Ideal) ((c.tc : Thread Cert.KernelUpDxIdeal.nD Cert.KernelUpDxIdeal.τ).loc Cert.KernelUpDxIdeal.main_v0_0)) (v1 : (c : Dev Cert.KernelUpDxIdeal.nD) → Buf (Elt Ideal) ((c.tc : Thread Cert.KernelUpDxIdeal.nD Cert.KernelUpDxIdeal.τ).loc Cert.KernelUpDxIdeal.main_v0_1)),
      θ_run (Cert.KernelUpDxIdeal.defs (F := Ideal)) (onTc (τ := Cert.KernelUpDxIdeal.τ) (Cert.KernelUpDxIdeal.main (F := Ideal))) ⟨m, fun _ => 0, g⟩ (fun r => ∀ c : Dev Cert.KernelUpDxIdeal.nD,
          r.2.mem ((c.tc : Thread Cert.KernelUpDxIdeal.nD Cert.KernelUpDxIdeal.τ).loc Cert.KernelUpDxIdeal.main_v0_0) = v0 c
          ∧ r.2.mem ((c.tc : Thread Cert.KernelUpDxIdeal.nD Cert.KernelUpDxIdeal.τ).loc Cert.KernelUpDxIdeal.main_v0_1) = v1 c
          ∧ r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
          ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1)
          ∧ r.2.mem ((c.tc : Thread Cert.KernelUpDxIdeal.nD Cert.KernelUpDxIdeal.τ).loc Cert.KernelUpDxIdeal.main_arg2) = m ((c.tc : Thread Cert.KernelUpDxIdeal.nD Cert.KernelUpDxIdeal.τ).loc Cert.KernelUpDxIdeal.main_arg2)
          ∧ r.2.mem ((c.tc : Thread Cert.KernelUpDxIdeal.nD Cert.KernelUpDxIdeal.τ).loc Cert.KernelUpDxIdeal.main_arg3) = m ((c.tc : Thread Cert.KernelUpDxIdeal.nD Cert.KernelUpDxIdeal.τ).loc Cert.KernelUpDxIdeal.main_arg3)
          ∧ r.2.mem ((c.tc : Thread Cert.KernelUpDxIdeal.nD Cert.KernelUpDxIdeal.τ).loc Cert.KernelUpDxIdeal.main_arg4) = m ((c.tc : Thread Cert.KernelUpDxIdeal.nD Cert.KernelUpDxIdeal.τ).loc Cert.KernelUpDxIdeal.main_arg4)
          ∧ r.2.mem ((c.tc : Thread Cert.KernelUpDxIdeal.nD Cert.KernelUpDxIdeal.τ).loc Cert.KernelUpDxIdeal.main_arg5) = m ((c.tc : Thread Cert.KernelUpDxIdeal.nD Cert.KernelUpDxIdeal.τ).loc Cert.KernelUpDxIdeal.main_arg5))
      ∧ θ_run (Cert.ReferenceUpDxIdeal.defs (F := Ideal)) (onTc (τ := Cert.ReferenceUpDxIdeal.τ) (Cert.ReferenceUpDxIdeal.main (F := Ideal))) ⟨m', fun _ => 0, g'⟩ (fun r => ∀ c : Dev Cert.ReferenceUpDxIdeal.nD,
          r.2.mem ((c.tc : Thread Cert.ReferenceUpDxIdeal.nD Cert.ReferenceUpDxIdeal.τ).loc Cert.ReferenceUpDxIdeal.main_v51) = v0 c
          ∧ r.2.mem ((c.tc : Thread Cert.ReferenceUpDxIdeal.nD Cert.ReferenceUpDxIdeal.τ).loc Cert.ReferenceUpDxIdeal.main_v52) = v1 c
          ∧ r.2.mem ((c.tc : Thread Cert.ReferenceUpDxIdeal.nD Cert.ReferenceUpDxIdeal.τ).loc Cert.ReferenceUpDxIdeal.main_arg0) = m' ((c.tc : Thread Cert.ReferenceUpDxIdeal.nD Cert.ReferenceUpDxIdeal.τ).loc Cert.ReferenceUpDxIdeal.main_arg0)
          ∧ r.2.mem ((c.tc : Thread Cert.ReferenceUpDxIdeal.nD Cert.ReferenceUpDxIdeal.τ).loc Cert.ReferenceUpDxIdeal.main_arg1) = m' ((c.tc : Thread Cert.ReferenceUpDxIdeal.nD Cert.ReferenceUpDxIdeal.τ).loc Cert.ReferenceUpDxIdeal.main_arg1)
          ∧ r.2.mem ((c.tc : Thread Cert.ReferenceUpDxIdeal.nD Cert.ReferenceUpDxIdeal.τ).loc Cert.ReferenceUpDxIdeal.main_arg2) = m' ((c.tc : Thread Cert.ReferenceUpDxIdeal.nD Cert.ReferenceUpDxIdeal.τ).loc Cert.ReferenceUpDxIdeal.main_arg2)
          ∧ r.2.mem ((c.tc : Thread Cert.ReferenceUpDxIdeal.nD Cert.ReferenceUpDxIdeal.τ).loc Cert.ReferenceUpDxIdeal.main_arg3) = m' ((c.tc : Thread Cert.ReferenceUpDxIdeal.nD Cert.ReferenceUpDxIdeal.τ).loc Cert.ReferenceUpDxIdeal.main_arg3)
          ∧ r.2.mem ((c.tc : Thread Cert.ReferenceUpDxIdeal.nD Cert.ReferenceUpDxIdeal.τ).loc Cert.ReferenceUpDxIdeal.main_arg4) = m' ((c.tc : Thread Cert.ReferenceUpDxIdeal.nD Cert.ReferenceUpDxIdeal.τ).loc Cert.ReferenceUpDxIdeal.main_arg4)
          ∧ r.2.mem ((c.tc : Thread Cert.ReferenceUpDxIdeal.nD Cert.ReferenceUpDxIdeal.τ).loc Cert.ReferenceUpDxIdeal.main_arg5) = m' ((c.tc : Thread Cert.ReferenceUpDxIdeal.nD Cert.ReferenceUpDxIdeal.τ).loc Cert.ReferenceUpDxIdeal.main_arg5))

def preserves_KernelUpDw_KernelUpDwIdeal : Prop :=
  True

def algebraic_KernelUpDwIdeal_ReferenceUpDwIdeal [hKernelUpDwIdeal : Cert.KernelUpDwIdeal.Facts] [hReferenceUpDwIdeal : Cert.ReferenceUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg)
    (m' : (ℓ : Loc Cert.ReferenceUpDwIdeal.nD Cert.ReferenceUpDwIdeal.τ Cert.ReferenceUpDwIdeal.sig) → Buf (Elt Ideal) ℓ) (g' : Dev Cert.ReferenceUpDwIdeal.nD → PrngReg), Pre_KernelUpDwIdeal m →
    (∀ c : Dev Cert.KernelUpDwIdeal.nD,
      m' ((c.tc : Thread Cert.ReferenceUpDwIdeal.nD Cert.ReferenceUpDwIdeal.τ).loc Cert.ReferenceUpDwIdeal.main_arg0) = m ((c.tc : Thread Cert.KernelUpDwIdeal.nD Cert.KernelUpDwIdeal.τ).loc Cert.KernelUpDwIdeal.main_arg0)
      ∧ m' ((c.tc : Thread Cert.ReferenceUpDwIdeal.nD Cert.ReferenceUpDwIdeal.τ).loc Cert.ReferenceUpDwIdeal.main_arg1) = m ((c.tc : Thread Cert.KernelUpDwIdeal.nD Cert.KernelUpDwIdeal.τ).loc Cert.KernelUpDwIdeal.main_arg1)
      ∧ m' ((c.tc : Thread Cert.ReferenceUpDwIdeal.nD Cert.ReferenceUpDwIdeal.τ).loc Cert.ReferenceUpDwIdeal.main_arg2) = m ((c.tc : Thread Cert.KernelUpDwIdeal.nD Cert.KernelUpDwIdeal.τ).loc Cert.KernelUpDwIdeal.main_arg2)) →
    ∃ (v0 : (c : Dev Cert.KernelUpDwIdeal.nD) → Buf (Elt Ideal) ((c.tc : Thread Cert.KernelUpDwIdeal.nD Cert.KernelUpDwIdeal.τ).loc Cert.KernelUpDwIdeal.main_v0)),
      θ_run (Cert.KernelUpDwIdeal.defs (F := Ideal)) (onTc (τ := Cert.KernelUpDwIdeal.τ) (Cert.KernelUpDwIdeal.main (F := Ideal))) ⟨m, fun _ => 0, g⟩ (fun r => ∀ c : Dev Cert.KernelUpDwIdeal.nD,
          r.2.mem ((c.tc : Thread Cert.KernelUpDwIdeal.nD Cert.KernelUpDwIdeal.τ).loc Cert.KernelUpDwIdeal.main_v0) = v0 c
          ∧ r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
          ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1)
          ∧ r.2.mem ((c.tc : Thread Cert.KernelUpDwIdeal.nD Cert.KernelUpDwIdeal.τ).loc Cert.KernelUpDwIdeal.main_arg2) = m ((c.tc : Thread Cert.KernelUpDwIdeal.nD Cert.KernelUpDwIdeal.τ).loc Cert.KernelUpDwIdeal.main_arg2))
      ∧ θ_run (Cert.ReferenceUpDwIdeal.defs (F := Ideal)) (onTc (τ := Cert.ReferenceUpDwIdeal.τ) (Cert.ReferenceUpDwIdeal.main (F := Ideal))) ⟨m', fun _ => 0, g'⟩ (fun r => ∀ c : Dev Cert.ReferenceUpDwIdeal.nD,
          r.2.mem ((c.tc : Thread Cert.ReferenceUpDwIdeal.nD Cert.ReferenceUpDwIdeal.τ).loc Cert.ReferenceUpDwIdeal.main_v30) = v0 c
          ∧ r.2.mem ((c.tc : Thread Cert.ReferenceUpDwIdeal.nD Cert.ReferenceUpDwIdeal.τ).loc Cert.ReferenceUpDwIdeal.main_arg0) = m' ((c.tc : Thread Cert.ReferenceUpDwIdeal.nD Cert.ReferenceUpDwIdeal.τ).loc Cert.ReferenceUpDwIdeal.main_arg0)
          ∧ r.2.mem ((c.tc : Thread Cert.ReferenceUpDwIdeal.nD Cert.ReferenceUpDwIdeal.τ).loc Cert.ReferenceUpDwIdeal.main_arg1) = m' ((c.tc : Thread Cert.ReferenceUpDwIdeal.nD Cert.ReferenceUpDwIdeal.τ).loc Cert.ReferenceUpDwIdeal.main_arg1)
          ∧ r.2.mem ((c.tc : Thread Cert.ReferenceUpDwIdeal.nD Cert.ReferenceUpDwIdeal.τ).loc Cert.ReferenceUpDwIdeal.main_arg2) = m' ((c.tc : Thread Cert.ReferenceUpDwIdeal.nD Cert.ReferenceUpDwIdeal.τ).loc Cert.ReferenceUpDwIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v2) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)) →
    ∃ (v0 : (c : Dev Cert.KernelInDwIdeal.nD) → Buf (Elt Ideal) ((c.tc : Thread Cert.KernelInDwIdeal.nD Cert.KernelInDwIdeal.τ).loc Cert.KernelInDwIdeal.main_v0)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v0) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v5) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1))

def preserves_KernelInDx_KernelInDxIdeal : Prop :=
  True

def algebraic_KernelInDxIdeal_ReferenceInDxIdeal [hKernelInDxIdeal : Cert.KernelInDxIdeal.Facts] [hReferenceInDxIdeal : Cert.ReferenceInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg)
    (m' : (ℓ : Loc Cert.ReferenceInDxIdeal.nD Cert.ReferenceInDxIdeal.τ Cert.ReferenceInDxIdeal.sig) → Buf (Elt Ideal) ℓ) (g' : Dev Cert.ReferenceInDxIdeal.nD → PrngReg), Pre_KernelInDxIdeal m →
    (∀ c : Dev Cert.KernelInDxIdeal.nD,
      m' ((c.tc : Thread Cert.ReferenceInDxIdeal.nD Cert.ReferenceInDxIdeal.τ).loc Cert.ReferenceInDxIdeal.main_arg0) = m ((c.tc : Thread Cert.KernelInDxIdeal.nD Cert.KernelInDxIdeal.τ).loc Cert.KernelInDxIdeal.main_arg0)
      ∧ m' ((c.tc : Thread Cert.ReferenceInDxIdeal.nD Cert.ReferenceInDxIdeal.τ).loc Cert.ReferenceInDxIdeal.main_arg1) = m ((c.tc : Thread Cert.KernelInDxIdeal.nD Cert.KernelInDxIdeal.τ).loc Cert.KernelInDxIdeal.main_arg1)) →
    ∃ (v0 : (c : Dev Cert.KernelInDxIdeal.nD) → Buf (Elt Ideal) ((c.tc : Thread Cert.KernelInDxIdeal.nD Cert.KernelInDxIdeal.τ).loc Cert.KernelInDxIdeal.main_v0)),
      θ_run (Cert.KernelInDxIdeal.defs (F := Ideal)) (onTc (τ := Cert.KernelInDxIdeal.τ) (Cert.KernelInDxIdeal.main (F := Ideal))) ⟨m, fun _ => 0, g⟩ (fun r => ∀ c : Dev Cert.KernelInDxIdeal.nD,
          r.2.mem ((c.tc : Thread Cert.KernelInDxIdeal.nD Cert.KernelInDxIdeal.τ).loc Cert.KernelInDxIdeal.main_v0) = v0 c
          ∧ r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
          ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ θ_run (Cert.ReferenceInDxIdeal.defs (F := Ideal)) (onTc (τ := Cert.ReferenceInDxIdeal.τ) (Cert.ReferenceInDxIdeal.main (F := Ideal))) ⟨m', fun _ => 0, g'⟩ (fun r => ∀ c : Dev Cert.ReferenceInDxIdeal.nD,
          r.2.mem ((c.tc : Thread Cert.ReferenceInDxIdeal.nD Cert.ReferenceInDxIdeal.τ).loc Cert.ReferenceInDxIdeal.main_v4) = v0 c
          ∧ r.2.mem ((c.tc : Thread Cert.ReferenceInDxIdeal.nD Cert.ReferenceInDxIdeal.τ).loc Cert.ReferenceInDxIdeal.main_arg0) = m' ((c.tc : Thread Cert.ReferenceInDxIdeal.nD Cert.ReferenceInDxIdeal.τ).loc Cert.ReferenceInDxIdeal.main_arg0)
          ∧ r.2.mem ((c.tc : Thread Cert.ReferenceInDxIdeal.nD Cert.ReferenceInDxIdeal.τ).loc Cert.ReferenceInDxIdeal.main_arg1) = m' ((c.tc : Thread Cert.ReferenceInDxIdeal.nD Cert.ReferenceInDxIdeal.τ).loc Cert.ReferenceInDxIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)
      ∧ m' ((c.tc : Thread Cert.ReferenceNormIdeal.nD Cert.ReferenceNormIdeal.τ).loc Cert.ReferenceNormIdeal.main_arg4) = m ((c.tc : Thread Cert.KernelNormIdeal.nD Cert.KernelNormIdeal.τ).loc Cert.KernelNormIdeal.main_arg4)) →
    ∃ (v0 : (c : Dev Cert.KernelNormIdeal.nD) → Buf (Elt Ideal) ((c.tc : Thread Cert.KernelNormIdeal.nD Cert.KernelNormIdeal.τ).loc Cert.KernelNormIdeal.main_v0_0)) (v1 : (c : Dev Cert.KernelNormIdeal.nD) → Buf (Elt Ideal) ((c.tc : Thread Cert.KernelNormIdeal.nD Cert.KernelNormIdeal.τ).loc Cert.KernelNormIdeal.main_v0_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v0_0) = v0 c
          ∧ r.2.mem ((c.tc : Thread Cert.KernelNormIdeal.nD Cert.KernelNormIdeal.τ).loc Cert.KernelNormIdeal.main_v0_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
          ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v38) = v0 c
          ∧ r.2.mem ((c.tc : Thread Cert.ReferenceNormIdeal.nD Cert.ReferenceNormIdeal.τ).loc Cert.ReferenceNormIdeal.main_v39) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3)
          ∧ r.2.mem ((c.tc : Thread Cert.ReferenceNormIdeal.nD Cert.ReferenceNormIdeal.τ).loc Cert.ReferenceNormIdeal.main_arg4) = m' ((c.tc : Thread Cert.ReferenceNormIdeal.nD Cert.ReferenceNormIdeal.τ).loc Cert.ReferenceNormIdeal.main_arg4))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)) →
    ∃ (v0 : (c : Dev Cert.KernelMergeIdeal.nD) → Buf (Elt Ideal) ((c.tc : Thread Cert.KernelMergeIdeal.nD Cert.KernelMergeIdeal.τ).loc Cert.KernelMergeIdeal.main_v0_0)) (v1 : (c : Dev Cert.KernelMergeIdeal.nD) → Buf (Elt Ideal) ((c.tc : Thread Cert.KernelMergeIdeal.nD Cert.KernelMergeIdeal.τ).loc Cert.KernelMergeIdeal.main_v0_1)) (v2 : (c : Dev Cert.KernelMergeIdeal.nD) → Buf (Elt Ideal) ((c.tc : Thread Cert.KernelMergeIdeal.nD Cert.KernelMergeIdeal.τ).loc Cert.KernelMergeIdeal.main_v0_2)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0_0) = v0 c
          ∧ r.2.mem ((c.tc : Thread Cert.KernelMergeIdeal.nD Cert.KernelMergeIdeal.τ).loc Cert.KernelMergeIdeal.main_v0_1) = v1 c
          ∧ r.2.mem ((c.tc : Thread Cert.KernelMergeIdeal.nD Cert.KernelMergeIdeal.τ).loc Cert.KernelMergeIdeal.main_v0_2) = v2 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v27) = v0 c
          ∧ r.2.mem ((c.tc : Thread Cert.ReferenceMergeIdeal.nD Cert.ReferenceMergeIdeal.τ).loc Cert.ReferenceMergeIdeal.main_v28) = v1 c
          ∧ r.2.mem ((c.tc : Thread Cert.ReferenceMergeIdeal.nD Cert.ReferenceMergeIdeal.τ).loc Cert.ReferenceMergeIdeal.main_v43) = v2 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9))

def preserves_KernelMergeBwd_KernelMergeBwdIdeal : Prop :=
  True

def algebraic_KernelMergeBwdIdeal_ReferenceMergeBwdIdeal [hKernelMergeBwdIdeal : Cert.KernelMergeBwdIdeal.Facts] [hReferenceMergeBwdIdeal : Cert.ReferenceMergeBwdIdeal.Facts] : Prop :=
  ∀ (m : (ℓ : Loc Cert.KernelMergeBwdIdeal.nD Cert.KernelMergeBwdIdeal.τ Cert.KernelMergeBwdIdeal.sig) → Buf (Elt Ideal) ℓ) (g : Dev Cert.KernelMergeBwdIdeal.nD → PrngReg)
    (m' : (ℓ : Loc Cert.ReferenceMergeBwdIdeal.nD Cert.ReferenceMergeBwdIdeal.τ Cert.ReferenceMergeBwdIdeal.sig) → Buf (Elt Ideal) ℓ) (g' : Dev Cert.ReferenceMergeBwdIdeal.nD → PrngReg), Pre_KernelMergeBwdIdeal m →
    (∀ c : Dev Cert.KernelMergeBwdIdeal.nD,
      m' ((c.tc : Thread Cert.ReferenceMergeBwdIdeal.nD Cert.ReferenceMergeBwdIdeal.τ).loc Cert.ReferenceMergeBwdIdeal.main_arg0) = m ((c.tc : Thread Cert.KernelMergeBwdIdeal.nD Cert.KernelMergeBwdIdeal.τ).loc Cert.KernelMergeBwdIdeal.main_arg0)
      ∧ m' ((c.tc : Thread Cert.ReferenceMergeBwdIdeal.nD Cert.ReferenceMergeBwdIdeal.τ).loc Cert.ReferenceMergeBwdIdeal.main_arg1) = m ((c.tc : Thread Cert.KernelMergeBwdIdeal.nD Cert.KernelMergeBwdIdeal.τ).loc Cert.KernelMergeBwdIdeal.main_arg1)
      ∧ m' ((c.tc : Thread Cert.ReferenceMergeBwdIdeal.nD Cert.ReferenceMergeBwdIdeal.τ).loc Cert.ReferenceMergeBwdIdeal.main_arg2) = m ((c.tc : Thread Cert.KernelMergeBwdIdeal.nD Cert.KernelMergeBwdIdeal.τ).loc Cert.KernelMergeBwdIdeal.main_arg2)
      ∧ m' ((c.tc : Thread Cert.ReferenceMergeBwdIdeal.nD Cert.ReferenceMergeBwdIdeal.τ).loc Cert.ReferenceMergeBwdIdeal.main_arg3) = m ((c.tc : Thread Cert.KernelMergeBwdIdeal.nD Cert.KernelMergeBwdIdeal.τ).loc Cert.KernelMergeBwdIdeal.main_arg3)
      ∧ m' ((c.tc : Thread Cert.ReferenceMergeBwdIdeal.nD Cert.ReferenceMergeBwdIdeal.τ).loc Cert.ReferenceMergeBwdIdeal.main_arg4) = m ((c.tc : Thread Cert.KernelMergeBwdIdeal.nD Cert.KernelMergeBwdIdeal.τ).loc Cert.KernelMergeBwdIdeal.main_arg4)
      ∧ m' ((c.tc : Thread Cert.ReferenceMergeBwdIdeal.nD Cert.ReferenceMergeBwdIdeal.τ).loc Cert.ReferenceMergeBwdIdeal.main_arg5) = m ((c.tc : Thread Cert.KernelMergeBwdIdeal.nD Cert.KernelMergeBwdIdeal.τ).loc Cert.KernelMergeBwdIdeal.main_arg5)
      ∧ m' ((c.tc : Thread Cert.ReferenceMergeBwdIdeal.nD Cert.ReferenceMergeBwdIdeal.τ).loc Cert.ReferenceMergeBwdIdeal.main_arg6) = m ((c.tc : Thread Cert.KernelMergeBwdIdeal.nD Cert.KernelMergeBwdIdeal.τ).loc Cert.KernelMergeBwdIdeal.main_arg6)
      ∧ m' ((c.tc : Thread Cert.ReferenceMergeBwdIdeal.nD Cert.ReferenceMergeBwdIdeal.τ).loc Cert.ReferenceMergeBwdIdeal.main_arg7) = m ((c.tc : Thread Cert.KernelMergeBwdIdeal.nD Cert.KernelMergeBwdIdeal.τ).loc Cert.KernelMergeBwdIdeal.main_arg7)
      ∧ m' ((c.tc : Thread Cert.ReferenceMergeBwdIdeal.nD Cert.ReferenceMergeBwdIdeal.τ).loc Cert.ReferenceMergeBwdIdeal.main_arg8) = m ((c.tc : Thread Cert.KernelMergeBwdIdeal.nD Cert.KernelMergeBwdIdeal.τ).loc Cert.KernelMergeBwdIdeal.main_arg8)) →
    ∃ (v0 : (c : Dev Cert.KernelMergeBwdIdeal.nD) → Buf (Elt Ideal) ((c.tc : Thread Cert.KernelMergeBwdIdeal.nD Cert.KernelMergeBwdIdeal.τ).loc Cert.KernelMergeBwdIdeal.main_v1)) (v1 : (c : Dev Cert.KernelMergeBwdIdeal.nD) → Buf (Elt Ideal) ((c.tc : Thread Cert.KernelMergeBwdIdeal.nD Cert.KernelMergeBwdIdeal.τ).loc Cert.KernelMergeBwdIdeal.main_v0_1)) (v2 : (c : Dev Cert.KernelMergeBwdIdeal.nD) → Buf (Elt Ideal) ((c.tc : Thread Cert.KernelMergeBwdIdeal.nD Cert.KernelMergeBwdIdeal.τ).loc Cert.KernelMergeBwdIdeal.main_v0_2)) (v3 : (c : Dev Cert.KernelMergeBwdIdeal.nD) → Buf (Elt Ideal) ((c.tc : Thread Cert.KernelMergeBwdIdeal.nD Cert.KernelMergeBwdIdeal.τ).loc Cert.KernelMergeBwdIdeal.main_v0_3)) (v4 : (c : Dev Cert.KernelMergeBwdIdeal.nD) → Buf (Elt Ideal) ((c.tc : Thread Cert.KernelMergeBwdIdeal.nD Cert.KernelMergeBwdIdeal.τ).loc Cert.KernelMergeBwdIdeal.main_v0_4)) (v5 : (c : Dev Cert.KernelMergeBwdIdeal.nD) → Buf (Elt Ideal) ((c.tc : Thread Cert.KernelMergeBwdIdeal.nD Cert.KernelMergeBwdIdeal.τ).loc Cert.KernelMergeBwdIdeal.main_v0_5)) (v6 : (c : Dev Cert.KernelMergeBwdIdeal.nD) → Buf (Elt Ideal) ((c.tc : Thread Cert.KernelMergeBwdIdeal.nD Cert.KernelMergeBwdIdeal.τ).loc Cert.KernelMergeBwdIdeal.main_v0_6)),
      θ_run (Cert.KernelMergeBwdIdeal.defs (F := Ideal)) (onTc (τ := Cert.KernelMergeBwdIdeal.τ) (Cert.KernelMergeBwdIdeal.main (F := Ideal))) ⟨m, fun _ => 0, g⟩ (fun r => ∀ c : Dev Cert.KernelMergeBwdIdeal.nD,
          r.2.mem ((c.tc : Thread Cert.KernelMergeBwdIdeal.nD Cert.KernelMergeBwdIdeal.τ).loc Cert.KernelMergeBwdIdeal.main_v1) = v0 c
          ∧ r.2.mem ((c.tc : Thread Cert.KernelMergeBwdIdeal.nD Cert.KernelMergeBwdIdeal.τ).loc Cert.KernelMergeBwdIdeal.main_v0_1) = v1 c
          ∧ r.2.mem ((c.tc : Thread Cert.KernelMergeBwdIdeal.nD Cert.KernelMergeBwdIdeal.τ).loc Cert.KernelMergeBwdIdeal.main_v0_2) = v2 c
          ∧ r.2.mem ((c.tc : Thread Cert.KernelMergeBwdIdeal.nD Cert.KernelMergeBwdIdeal.τ).loc Cert.KernelMergeBwdIdeal.main_v0_3) = v3 c
          ∧ r.2.mem ((c.tc : Thread Cert.KernelMergeBwdIdeal.nD Cert.KernelMergeBwdIdeal.τ).loc Cert.KernelMergeBwdIdeal.main_v0_4) = v4 c
          ∧ r.2.mem ((c.tc : Thread Cert.KernelMergeBwdIdeal.nD Cert.KernelMergeBwdIdeal.τ).loc Cert.KernelMergeBwdIdeal.main_v0_5) = v5 c
          ∧ r.2.mem ((c.tc : Thread Cert.KernelMergeBwdIdeal.nD Cert.KernelMergeBwdIdeal.τ).loc Cert.KernelMergeBwdIdeal.main_v0_6) = v6 c
          ∧ r.2.mem ((c.tc : Thread Cert.KernelMergeBwdIdeal.nD Cert.KernelMergeBwdIdeal.τ).loc Cert.KernelMergeBwdIdeal.main_arg0) = m ((c.tc : Thread Cert.KernelMergeBwdIdeal.nD Cert.KernelMergeBwdIdeal.τ).loc Cert.KernelMergeBwdIdeal.main_arg0)
          ∧ r.2.mem ((c.tc : Thread Cert.KernelMergeBwdIdeal.nD Cert.KernelMergeBwdIdeal.τ).loc Cert.KernelMergeBwdIdeal.main_arg1) = m ((c.tc : Thread Cert.KernelMergeBwdIdeal.nD Cert.KernelMergeBwdIdeal.τ).loc Cert.KernelMergeBwdIdeal.main_arg1)
          ∧ r.2.mem ((c.tc : Thread Cert.KernelMergeBwdIdeal.nD Cert.KernelMergeBwdIdeal.τ).loc Cert.KernelMergeBwdIdeal.main_arg2) = m ((c.tc : Thread Cert.KernelMergeBwdIdeal.nD Cert.KernelMergeBwdIdeal.τ).loc Cert.KernelMergeBwdIdeal.main_arg2)
          ∧ r.2.mem ((c.tc : Thread Cert.KernelMergeBwdIdeal.nD Cert.KernelMergeBwdIdeal.τ).loc Cert.KernelMergeBwdIdeal.main_arg3) = m ((c.tc : Thread Cert.KernelMergeBwdIdeal.nD Cert.KernelMergeBwdIdeal.τ).loc Cert.KernelMergeBwdIdeal.main_arg3)
          ∧ r.2.mem ((c.tc : Thread Cert.KernelMergeBwdIdeal.nD Cert.KernelMergeBwdIdeal.τ).loc Cert.KernelMergeBwdIdeal.main_arg4) = m ((c.tc : Thread Cert.KernelMergeBwdIdeal.nD Cert.KernelMergeBwdIdeal.τ).loc Cert.KernelMergeBwdIdeal.main_arg4)
          ∧ r.2.mem ((c.tc : Thread Cert.KernelMergeBwdIdeal.nD Cert.KernelMergeBwdIdeal.τ).loc Cert.KernelMergeBwdIdeal.main_arg5) = m ((c.tc : Thread Cert.KernelMergeBwdIdeal.nD Cert.KernelMergeBwdIdeal.τ).loc Cert.KernelMergeBwdIdeal.main_arg5)
          ∧ r.2.mem ((c.tc : Thread Cert.KernelMergeBwdIdeal.nD Cert.KernelMergeBwdIdeal.τ).loc Cert.KernelMergeBwdIdeal.main_arg6) = m ((c.tc : Thread Cert.KernelMergeBwdIdeal.nD Cert.KernelMergeBwdIdeal.τ).loc Cert.KernelMergeBwdIdeal.main_arg6)
          ∧ r.2.mem ((c.tc : Thread Cert.KernelMergeBwdIdeal.nD Cert.KernelMergeBwdIdeal.τ).loc Cert.KernelMergeBwdIdeal.main_arg7) = m ((c.tc : Thread Cert.KernelMergeBwdIdeal.nD Cert.KernelMergeBwdIdeal.τ).loc Cert.KernelMergeBwdIdeal.main_arg7)
          ∧ r.2.mem ((c.tc : Thread Cert.KernelMergeBwdIdeal.nD Cert.KernelMergeBwdIdeal.τ).loc Cert.KernelMergeBwdIdeal.main_arg8) = m ((c.tc : Thread Cert.KernelMergeBwdIdeal.nD Cert.KernelMergeBwdIdeal.τ).loc Cert.KernelMergeBwdIdeal.main_arg8))
      ∧ θ_run (Cert.ReferenceMergeBwdIdeal.defs (F := Ideal)) (onTc (τ := Cert.ReferenceMergeBwdIdeal.τ) (Cert.ReferenceMergeBwdIdeal.main (F := Ideal))) ⟨m', fun _ => 0, g'⟩ (fun r => ∀ c : Dev Cert.ReferenceMergeBwdIdeal.nD,
          r.2.mem ((c.tc : Thread Cert.ReferenceMergeBwdIdeal.nD Cert.ReferenceMergeBwdIdeal.τ).loc Cert.ReferenceMergeBwdIdeal.main_v47) = v0 c
          ∧ r.2.mem ((c.tc : Thread Cert.ReferenceMergeBwdIdeal.nD Cert.ReferenceMergeBwdIdeal.τ).loc Cert.ReferenceMergeBwdIdeal.main_v48) = v1 c
          ∧ r.2.mem ((c.tc : Thread Cert.ReferenceMergeBwdIdeal.nD Cert.ReferenceMergeBwdIdeal.τ).loc Cert.ReferenceMergeBwdIdeal.main_v49) = v2 c
          ∧ r.2.mem ((c.tc : Thread Cert.ReferenceMergeBwdIdeal.nD Cert.ReferenceMergeBwdIdeal.τ).loc Cert.ReferenceMergeBwdIdeal.main_v50) = v3 c
          ∧ r.2.mem ((c.tc : Thread Cert.ReferenceMergeBwdIdeal.nD Cert.ReferenceMergeBwdIdeal.τ).loc Cert.ReferenceMergeBwdIdeal.main_v51) = v4 c
          ∧ r.2.mem ((c.tc : Thread Cert.ReferenceMergeBwdIdeal.nD Cert.ReferenceMergeBwdIdeal.τ).loc Cert.ReferenceMergeBwdIdeal.main_v52) = v5 c
          ∧ r.2.mem ((c.tc : Thread Cert.ReferenceMergeBwdIdeal.nD Cert.ReferenceMergeBwdIdeal.τ).loc Cert.ReferenceMergeBwdIdeal.main_v53) = v6 c
          ∧ r.2.mem ((c.tc : Thread Cert.ReferenceMergeBwdIdeal.nD Cert.ReferenceMergeBwdIdeal.τ).loc Cert.ReferenceMergeBwdIdeal.main_arg0) = m' ((c.tc : Thread Cert.ReferenceMergeBwdIdeal.nD Cert.ReferenceMergeBwdIdeal.τ).loc Cert.ReferenceMergeBwdIdeal.main_arg0)
          ∧ r.2.mem ((c.tc : Thread Cert.ReferenceMergeBwdIdeal.nD Cert.ReferenceMergeBwdIdeal.τ).loc Cert.ReferenceMergeBwdIdeal.main_arg1) = m' ((c.tc : Thread Cert.ReferenceMergeBwdIdeal.nD Cert.ReferenceMergeBwdIdeal.τ).loc Cert.ReferenceMergeBwdIdeal.main_arg1)
          ∧ r.2.mem ((c.tc : Thread Cert.ReferenceMergeBwdIdeal.nD Cert.ReferenceMergeBwdIdeal.τ).loc Cert.ReferenceMergeBwdIdeal.main_arg2) = m' ((c.tc : Thread Cert.ReferenceMergeBwdIdeal.nD Cert.ReferenceMergeBwdIdeal.τ).loc Cert.ReferenceMergeBwdIdeal.main_arg2)
          ∧ r.2.mem ((c.tc : Thread Cert.ReferenceMergeBwdIdeal.nD Cert.ReferenceMergeBwdIdeal.τ).loc Cert.ReferenceMergeBwdIdeal.main_arg3) = m' ((c.tc : Thread Cert.ReferenceMergeBwdIdeal.nD Cert.ReferenceMergeBwdIdeal.τ).loc Cert.ReferenceMergeBwdIdeal.main_arg3)
          ∧ r.2.mem ((c.tc : Thread Cert.ReferenceMergeBwdIdeal.nD Cert.ReferenceMergeBwdIdeal.τ).loc Cert.ReferenceMergeBwdIdeal.main_arg4) = m' ((c.tc : Thread Cert.ReferenceMergeBwdIdeal.nD Cert.ReferenceMergeBwdIdeal.τ).loc Cert.ReferenceMergeBwdIdeal.main_arg4)
          ∧ r.2.mem ((c.tc : Thread Cert.ReferenceMergeBwdIdeal.nD Cert.ReferenceMergeBwdIdeal.τ).loc Cert.ReferenceMergeBwdIdeal.main_arg5) = m' ((c.tc : Thread Cert.ReferenceMergeBwdIdeal.nD Cert.ReferenceMergeBwdIdeal.τ).loc Cert.ReferenceMergeBwdIdeal.main_arg5)
          ∧ r.2.mem ((c.tc : Thread Cert.ReferenceMergeBwdIdeal.nD Cert.ReferenceMergeBwdIdeal.τ).loc Cert.ReferenceMergeBwdIdeal.main_arg6) = m' ((c.tc : Thread Cert.ReferenceMergeBwdIdeal.nD Cert.ReferenceMergeBwdIdeal.τ).loc Cert.ReferenceMergeBwdIdeal.main_arg6)
          ∧ r.2.mem ((c.tc : Thread Cert.ReferenceMergeBwdIdeal.nD Cert.ReferenceMergeBwdIdeal.τ).loc Cert.ReferenceMergeBwdIdeal.main_arg7) = m' ((c.tc : Thread Cert.ReferenceMergeBwdIdeal.nD Cert.ReferenceMergeBwdIdeal.τ).loc Cert.ReferenceMergeBwdIdeal.main_arg7)
          ∧ r.2.mem ((c.tc : Thread Cert.ReferenceMergeBwdIdeal.nD Cert.ReferenceMergeBwdIdeal.τ).loc Cert.ReferenceMergeBwdIdeal.main_arg8) = m' ((c.tc : Thread Cert.ReferenceMergeBwdIdeal.nD Cert.ReferenceMergeBwdIdeal.τ).loc Cert.ReferenceMergeBwdIdeal.main_arg8))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)) →
    ∃ (v0 : (c : Dev Cert.KernelOutDwIdeal.nD) → Buf (Elt Ideal) ((c.tc : Thread Cert.KernelOutDwIdeal.nD Cert.KernelOutDwIdeal.τ).loc Cert.KernelOutDwIdeal.main_v0)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v0) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v4) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1))

def preserves_KernelBrDw_KernelBrDwIdeal : Prop :=
  True

def algebraic_KernelBrDwIdeal_ReferenceBrDwIdeal [hKernelBrDwIdeal : Cert.KernelBrDwIdeal.Facts] [hReferenceBrDwIdeal : Cert.ReferenceBrDwIdeal.Facts] : Prop :=
  ∀ (m : (ℓ : Loc Cert.KernelBrDwIdeal.nD Cert.KernelBrDwIdeal.τ Cert.KernelBrDwIdeal.sig) → Buf (Elt Ideal) ℓ) (g : Dev Cert.KernelBrDwIdeal.nD → PrngReg)
    (m' : (ℓ : Loc Cert.ReferenceBrDwIdeal.nD Cert.ReferenceBrDwIdeal.τ Cert.ReferenceBrDwIdeal.sig) → Buf (Elt Ideal) ℓ) (g' : Dev Cert.ReferenceBrDwIdeal.nD → PrngReg), Pre_KernelBrDwIdeal m →
    (∀ c : Dev Cert.KernelBrDwIdeal.nD,
      m' ((c.tc : Thread Cert.ReferenceBrDwIdeal.nD Cert.ReferenceBrDwIdeal.τ).loc Cert.ReferenceBrDwIdeal.main_arg0) = m ((c.tc : Thread Cert.KernelBrDwIdeal.nD Cert.KernelBrDwIdeal.τ).loc Cert.KernelBrDwIdeal.main_arg0)
      ∧ m' ((c.tc : Thread Cert.ReferenceBrDwIdeal.nD Cert.ReferenceBrDwIdeal.τ).loc Cert.ReferenceBrDwIdeal.main_arg1) = m ((c.tc : Thread Cert.KernelBrDwIdeal.nD Cert.KernelBrDwIdeal.τ).loc Cert.KernelBrDwIdeal.main_arg1)) →
    ∃ (v0 : (c : Dev Cert.KernelBrDwIdeal.nD) → Buf (Elt Ideal) ((c.tc : Thread Cert.KernelBrDwIdeal.nD Cert.KernelBrDwIdeal.τ).loc Cert.KernelBrDwIdeal.main_v0)),
      θ_run (Cert.KernelBrDwIdeal.defs (F := Ideal)) (onTc (τ := Cert.KernelBrDwIdeal.τ) (Cert.KernelBrDwIdeal.main (F := Ideal))) ⟨m, fun _ => 0, g⟩ (fun r => ∀ c : Dev Cert.KernelBrDwIdeal.nD,
          r.2.mem ((c.tc : Thread Cert.KernelBrDwIdeal.nD Cert.KernelBrDwIdeal.τ).loc Cert.KernelBrDwIdeal.main_v0) = v0 c
          ∧ r.2.mem ((c.tc : Thread Cert.KernelBrDwIdeal.nD Cert.KernelBrDwIdeal.τ).loc Cert.KernelBrDwIdeal.main_arg0) = m ((c.tc : Thread Cert.KernelBrDwIdeal.nD Cert.KernelBrDwIdeal.τ).loc Cert.KernelBrDwIdeal.main_arg0)
          ∧ r.2.mem ((c.tc : Thread Cert.KernelBrDwIdeal.nD Cert.KernelBrDwIdeal.τ).loc Cert.KernelBrDwIdeal.main_arg1) = m ((c.tc : Thread Cert.KernelBrDwIdeal.nD Cert.KernelBrDwIdeal.τ).loc Cert.KernelBrDwIdeal.main_arg1))
      ∧ θ_run (Cert.ReferenceBrDwIdeal.defs (F := Ideal)) (onTc (τ := Cert.ReferenceBrDwIdeal.τ) (Cert.ReferenceBrDwIdeal.main (F := Ideal))) ⟨m', fun _ => 0, g'⟩ (fun r => ∀ c : Dev Cert.ReferenceBrDwIdeal.nD,
          r.2.mem ((c.tc : Thread Cert.ReferenceBrDwIdeal.nD Cert.ReferenceBrDwIdeal.τ).loc Cert.ReferenceBrDwIdeal.main_v4) = v0 c
          ∧ r.2.mem ((c.tc : Thread Cert.ReferenceBrDwIdeal.nD Cert.ReferenceBrDwIdeal.τ).loc Cert.ReferenceBrDwIdeal.main_arg0) = m' ((c.tc : Thread Cert.ReferenceBrDwIdeal.nD Cert.ReferenceBrDwIdeal.τ).loc Cert.ReferenceBrDwIdeal.main_arg0)
          ∧ r.2.mem ((c.tc : Thread Cert.ReferenceBrDwIdeal.nD Cert.ReferenceBrDwIdeal.τ).loc Cert.ReferenceBrDwIdeal.main_arg1) = m' ((c.tc : Thread Cert.ReferenceBrDwIdeal.nD Cert.ReferenceBrDwIdeal.τ).loc Cert.ReferenceBrDwIdeal.main_arg1))

def preserves_KernelAdamIn_KernelAdamInIdeal : Prop :=
  IdealRules.named_const.Statement Cert.KernelAdamInIdeal.κ "c1" .f32 0x3FC48605#32 (((5463681 / 8388608)⁻¹ : ℝ) : EReal)
  ∧ IdealRules.named_const.Statement Cert.KernelAdamInIdeal.κ "c2" .f32 0x42C8E6D3#32 (((2672307 / 268435456)⁻¹ : ℝ) : EReal)

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v5)) (v1 : (c : Dev Cert.KernelAdamInIdeal.nD) → Buf (Elt Ideal) ((c.tc : Thread Cert.KernelAdamInIdeal.nD Cert.KernelAdamInIdeal.τ).loc Cert.KernelAdamInIdeal.main_v6)) (v2 : (c : Dev Cert.KernelAdamInIdeal.nD) → Buf (Elt Ideal) ((c.tc : Thread Cert.KernelAdamInIdeal.nD Cert.KernelAdamInIdeal.τ).loc Cert.KernelAdamInIdeal.main_v7)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v5) = v0 c
          ∧ r.2.mem ((c.tc : Thread Cert.KernelAdamInIdeal.nD Cert.KernelAdamInIdeal.τ).loc Cert.KernelAdamInIdeal.main_v6) = v1 c
          ∧ r.2.mem ((c.tc : Thread Cert.KernelAdamInIdeal.nD Cert.KernelAdamInIdeal.τ).loc Cert.KernelAdamInIdeal.main_v7) = v2 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v23) = v0 c
          ∧ r.2.mem ((c.tc : Thread Cert.ReferenceAdamInIdeal.nD Cert.ReferenceAdamInIdeal.τ).loc Cert.ReferenceAdamInIdeal.main_v4) = v1 c
          ∧ r.2.mem ((c.tc : Thread Cert.ReferenceAdamInIdeal.nD Cert.ReferenceAdamInIdeal.τ).loc Cert.ReferenceAdamInIdeal.main_v10) = v2 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamRows_KernelAdamRowsIdeal : Prop :=
  IdealRules.named_const.Statement Cert.KernelAdamRowsIdeal.κ "c1" .f32 0x3FC48605#32 (((5463681 / 8388608)⁻¹ : ℝ) : EReal)
  ∧ IdealRules.named_const.Statement Cert.KernelAdamRowsIdeal.κ "c2" .f32 0x42C8E6D3#32 (((2672307 / 268435456)⁻¹ : ℝ) : EReal)

def algebraic_KernelAdamRowsIdeal_ReferenceAdamRowsIdeal [hKernelAdamRowsIdeal : Cert.KernelAdamRowsIdeal.Facts] [hReferenceAdamRowsIdeal : Cert.ReferenceAdamRowsIdeal.Facts] : Prop :=
  ∀ (m : (ℓ : Loc Cert.KernelAdamRowsIdeal.nD Cert.KernelAdamRowsIdeal.τ Cert.KernelAdamRowsIdeal.sig) → Buf (Elt Ideal) ℓ) (g : Dev Cert.KernelAdamRowsIdeal.nD → PrngReg)
    (m' : (ℓ : Loc Cert.ReferenceAdamRowsIdeal.nD Cert.ReferenceAdamRowsIdeal.τ Cert.ReferenceAdamRowsIdeal.sig) → Buf (Elt Ideal) ℓ) (g' : Dev Cert.ReferenceAdamRowsIdeal.nD → PrngReg), Pre_KernelAdamRowsIdeal m →
    (∀ c : Dev Cert.KernelAdamRowsIdeal.nD,
      m' ((c.tc : Thread Cert.ReferenceAdamRowsIdeal.nD Cert.ReferenceAdamRowsIdeal.τ).loc Cert.ReferenceAdamRowsIdeal.main_arg0) = m ((c.tc : Thread Cert.KernelAdamRowsIdeal.nD Cert.KernelAdamRowsIdeal.τ).loc Cert.KernelAdamRowsIdeal.main_arg0)
      ∧ m' ((c.tc : Thread Cert.ReferenceAdamRowsIdeal.nD Cert.ReferenceAdamRowsIdeal.τ).loc Cert.ReferenceAdamRowsIdeal.main_arg1) = m ((c.tc : Thread Cert.KernelAdamRowsIdeal.nD Cert.KernelAdamRowsIdeal.τ).loc Cert.KernelAdamRowsIdeal.main_arg1)
      ∧ m' ((c.tc : Thread Cert.ReferenceAdamRowsIdeal.nD Cert.ReferenceAdamRowsIdeal.τ).loc Cert.ReferenceAdamRowsIdeal.main_arg2) = m ((c.tc : Thread Cert.KernelAdamRowsIdeal.nD Cert.KernelAdamRowsIdeal.τ).loc Cert.KernelAdamRowsIdeal.main_arg2)
      ∧ m' ((c.tc : Thread Cert.ReferenceAdamRowsIdeal.nD Cert.ReferenceAdamRowsIdeal.τ).loc Cert.ReferenceAdamRowsIdeal.main_arg3) = m ((c.tc : Thread Cert.KernelAdamRowsIdeal.nD Cert.KernelAdamRowsIdeal.τ).loc Cert.KernelAdamRowsIdeal.main_arg3)) →
    ∃ (v0 : (c : Dev Cert.KernelAdamRowsIdeal.nD) → Buf (Elt Ideal) ((c.tc : Thread Cert.KernelAdamRowsIdeal.nD Cert.KernelAdamRowsIdeal.τ).loc Cert.KernelAdamRowsIdeal.main_v0_0)) (v1 : (c : Dev Cert.KernelAdamRowsIdeal.nD) → Buf (Elt Ideal) ((c.tc : Thread Cert.KernelAdamRowsIdeal.nD Cert.KernelAdamRowsIdeal.τ).loc Cert.KernelAdamRowsIdeal.main_v0_1)) (v2 : (c : Dev Cert.KernelAdamRowsIdeal.nD) → Buf (Elt Ideal) ((c.tc : Thread Cert.KernelAdamRowsIdeal.nD Cert.KernelAdamRowsIdeal.τ).loc Cert.KernelAdamRowsIdeal.main_v0_2)),
      θ_run (Cert.KernelAdamRowsIdeal.defs (F := Ideal)) (onTc (τ := Cert.KernelAdamRowsIdeal.τ) (Cert.KernelAdamRowsIdeal.main (F := Ideal))) ⟨m, fun _ => 0, g⟩ (fun r => ∀ c : Dev Cert.KernelAdamRowsIdeal.nD,
          r.2.mem ((c.tc : Thread Cert.KernelAdamRowsIdeal.nD Cert.KernelAdamRowsIdeal.τ).loc Cert.KernelAdamRowsIdeal.main_v0_0) = v0 c
          ∧ r.2.mem ((c.tc : Thread Cert.KernelAdamRowsIdeal.nD Cert.KernelAdamRowsIdeal.τ).loc Cert.KernelAdamRowsIdeal.main_v0_1) = v1 c
          ∧ r.2.mem ((c.tc : Thread Cert.KernelAdamRowsIdeal.nD Cert.KernelAdamRowsIdeal.τ).loc Cert.KernelAdamRowsIdeal.main_v0_2) = v2 c
          ∧ r.2.mem ((c.tc : Thread Cert.KernelAdamRowsIdeal.nD Cert.KernelAdamRowsIdeal.τ).loc Cert.KernelAdamRowsIdeal.main_arg0) = m ((c.tc : Thread Cert.KernelAdamRowsIdeal.nD Cert.KernelAdamRowsIdeal.τ).loc Cert.KernelAdamRowsIdeal.main_arg0)
          ∧ r.2.mem ((c.tc : Thread Cert.KernelAdamRowsIdeal.nD Cert.KernelAdamRowsIdeal.τ).loc Cert.KernelAdamRowsIdeal.main_arg1) = m ((c.tc : Thread Cert.KernelAdamRowsIdeal.nD Cert.KernelAdamRowsIdeal.τ).loc Cert.KernelAdamRowsIdeal.main_arg1)
          ∧ r.2.mem ((c.tc : Thread Cert.KernelAdamRowsIdeal.nD Cert.KernelAdamRowsIdeal.τ).loc Cert.KernelAdamRowsIdeal.main_arg2) = m ((c.tc : Thread Cert.KernelAdamRowsIdeal.nD Cert.KernelAdamRowsIdeal.τ).loc Cert.KernelAdamRowsIdeal.main_arg2)
          ∧ r.2.mem ((c.tc : Thread Cert.KernelAdamRowsIdeal.nD Cert.KernelAdamRowsIdeal.τ).loc Cert.KernelAdamRowsIdeal.main_arg3) = m ((c.tc : Thread Cert.KernelAdamRowsIdeal.nD Cert.KernelAdamRowsIdeal.τ).loc Cert.KernelAdamRowsIdeal.main_arg3))
      ∧ θ_run (Cert.ReferenceAdamRowsIdeal.defs (F := Ideal)) (onTc (τ := Cert.ReferenceAdamRowsIdeal.τ) (Cert.ReferenceAdamRowsIdeal.main (F := Ideal))) ⟨m', fun _ => 0, g'⟩ (fun r => ∀ c : Dev Cert.ReferenceAdamRowsIdeal.nD,
          r.2.mem ((c.tc : Thread Cert.ReferenceAdamRowsIdeal.nD Cert.ReferenceAdamRowsIdeal.τ).loc Cert.ReferenceAdamRowsIdeal.main_v23) = v0 c
          ∧ r.2.mem ((c.tc : Thread Cert.ReferenceAdamRowsIdeal.nD Cert.ReferenceAdamRowsIdeal.τ).loc Cert.ReferenceAdamRowsIdeal.main_v4) = v1 c
          ∧ r.2.mem ((c.tc : Thread Cert.ReferenceAdamRowsIdeal.nD Cert.ReferenceAdamRowsIdeal.τ).loc Cert.ReferenceAdamRowsIdeal.main_v10) = v2 c
          ∧ r.2.mem ((c.tc : Thread Cert.ReferenceAdamRowsIdeal.nD Cert.ReferenceAdamRowsIdeal.τ).loc Cert.ReferenceAdamRowsIdeal.main_arg0) = m' ((c.tc : Thread Cert.ReferenceAdamRowsIdeal.nD Cert.ReferenceAdamRowsIdeal.τ).loc Cert.ReferenceAdamRowsIdeal.main_arg0)
          ∧ r.2.mem ((c.tc : Thread Cert.ReferenceAdamRowsIdeal.nD Cert.ReferenceAdamRowsIdeal.τ).loc Cert.ReferenceAdamRowsIdeal.main_arg1) = m' ((c.tc : Thread Cert.ReferenceAdamRowsIdeal.nD Cert.ReferenceAdamRowsIdeal.τ).loc Cert.ReferenceAdamRowsIdeal.main_arg1)
          ∧ r.2.mem ((c.tc : Thread Cert.ReferenceAdamRowsIdeal.nD Cert.ReferenceAdamRowsIdeal.τ).loc Cert.ReferenceAdamRowsIdeal.main_arg2) = m' ((c.tc : Thread Cert.ReferenceAdamRowsIdeal.nD Cert.ReferenceAdamRowsIdeal.τ).loc Cert.ReferenceAdamRowsIdeal.main_arg2)
          ∧ r.2.mem ((c.tc : Thread Cert.ReferenceAdamRowsIdeal.nD Cert.ReferenceAdamRowsIdeal.τ).loc Cert.ReferenceAdamRowsIdeal.main_arg3) = m' ((c.tc : Thread Cert.ReferenceAdamRowsIdeal.nD Cert.ReferenceAdamRowsIdeal.τ).loc Cert.ReferenceAdamRowsIdeal.main_arg3))

def preserves_KernelAdamBr_KernelAdamBrIdeal : Prop :=
  IdealRules.named_const.Statement Cert.KernelAdamBrIdeal.κ "c1" .f32 0x3FC48605#32 (((5463681 / 8388608)⁻¹ : ℝ) : EReal)
  ∧ IdealRules.named_const.Statement Cert.KernelAdamBrIdeal.κ "c2" .f32 0x42C8E6D3#32 (((2672307 / 268435456)⁻¹ : ℝ) : EReal)

def algebraic_KernelAdamBrIdeal_ReferenceAdamBrIdeal [hKernelAdamBrIdeal : Cert.KernelAdamBrIdeal.Facts] [hReferenceAdamBrIdeal : Cert.ReferenceAdamBrIdeal.Facts] : Prop :=
  ∀ (m : (ℓ : Loc Cert.KernelAdamBrIdeal.nD Cert.KernelAdamBrIdeal.τ Cert.KernelAdamBrIdeal.sig) → Buf (Elt Ideal) ℓ) (g : Dev Cert.KernelAdamBrIdeal.nD → PrngReg)
    (m' : (ℓ : Loc Cert.ReferenceAdamBrIdeal.nD Cert.ReferenceAdamBrIdeal.τ Cert.ReferenceAdamBrIdeal.sig) → Buf (Elt Ideal) ℓ) (g' : Dev Cert.ReferenceAdamBrIdeal.nD → PrngReg), Pre_KernelAdamBrIdeal m →
    (∀ c : Dev Cert.KernelAdamBrIdeal.nD,
      m' ((c.tc : Thread Cert.ReferenceAdamBrIdeal.nD Cert.ReferenceAdamBrIdeal.τ).loc Cert.ReferenceAdamBrIdeal.main_arg0) = m ((c.tc : Thread Cert.KernelAdamBrIdeal.nD Cert.KernelAdamBrIdeal.τ).loc Cert.KernelAdamBrIdeal.main_arg0)
      ∧ m' ((c.tc : Thread Cert.ReferenceAdamBrIdeal.nD Cert.ReferenceAdamBrIdeal.τ).loc Cert.ReferenceAdamBrIdeal.main_arg1) = m ((c.tc : Thread Cert.KernelAdamBrIdeal.nD Cert.KernelAdamBrIdeal.τ).loc Cert.KernelAdamBrIdeal.main_arg1)
      ∧ m' ((c.tc : Thread Cert.ReferenceAdamBrIdeal.nD Cert.ReferenceAdamBrIdeal.τ).loc Cert.ReferenceAdamBrIdeal.main_arg2) = m ((c.tc : Thread Cert.KernelAdamBrIdeal.nD Cert.KernelAdamBrIdeal.τ).loc Cert.KernelAdamBrIdeal.main_arg2)
      ∧ m' ((c.tc : Thread Cert.ReferenceAdamBrIdeal.nD Cert.ReferenceAdamBrIdeal.τ).loc Cert.ReferenceAdamBrIdeal.main_arg3) = m ((c.tc : Thread Cert.KernelAdamBrIdeal.nD Cert.KernelAdamBrIdeal.τ).loc Cert.KernelAdamBrIdeal.main_arg3)) →
    ∃ (v0 : (c : Dev Cert.KernelAdamBrIdeal.nD) → Buf (Elt Ideal) ((c.tc : Thread Cert.KernelAdamBrIdeal.nD Cert.KernelAdamBrIdeal.τ).loc Cert.KernelAdamBrIdeal.main_v0_0)) (v1 : (c : Dev Cert.KernelAdamBrIdeal.nD) → Buf (Elt Ideal) ((c.tc : Thread Cert.KernelAdamBrIdeal.nD Cert.KernelAdamBrIdeal.τ).loc Cert.KernelAdamBrIdeal.main_v0_1)) (v2 : (c : Dev Cert.KernelAdamBrIdeal.nD) → Buf (Elt Ideal) ((c.tc : Thread Cert.KernelAdamBrIdeal.nD Cert.KernelAdamBrIdeal.τ).loc Cert.KernelAdamBrIdeal.main_v0_2)),
      θ_run (Cert.KernelAdamBrIdeal.defs (F := Ideal)) (onTc (τ := Cert.KernelAdamBrIdeal.τ) (Cert.KernelAdamBrIdeal.main (F := Ideal))) ⟨m, fun _ => 0, g⟩ (fun r => ∀ c : Dev Cert.KernelAdamBrIdeal.nD,
          r.2.mem ((c.tc : Thread Cert.KernelAdamBrIdeal.nD Cert.KernelAdamBrIdeal.τ).loc Cert.KernelAdamBrIdeal.main_v0_0) = v0 c
          ∧ r.2.mem ((c.tc : Thread Cert.KernelAdamBrIdeal.nD Cert.KernelAdamBrIdeal.τ).loc Cert.KernelAdamBrIdeal.main_v0_1) = v1 c
          ∧ r.2.mem ((c.tc : Thread Cert.KernelAdamBrIdeal.nD Cert.KernelAdamBrIdeal.τ).loc Cert.KernelAdamBrIdeal.main_v0_2) = v2 c
          ∧ r.2.mem ((c.tc : Thread Cert.KernelAdamBrIdeal.nD Cert.KernelAdamBrIdeal.τ).loc Cert.KernelAdamBrIdeal.main_arg0) = m ((c.tc : Thread Cert.KernelAdamBrIdeal.nD Cert.KernelAdamBrIdeal.τ).loc Cert.KernelAdamBrIdeal.main_arg0)
          ∧ r.2.mem ((c.tc : Thread Cert.KernelAdamBrIdeal.nD Cert.KernelAdamBrIdeal.τ).loc Cert.KernelAdamBrIdeal.main_arg1) = m ((c.tc : Thread Cert.KernelAdamBrIdeal.nD Cert.KernelAdamBrIdeal.τ).loc Cert.KernelAdamBrIdeal.main_arg1)
          ∧ r.2.mem ((c.tc : Thread Cert.KernelAdamBrIdeal.nD Cert.KernelAdamBrIdeal.τ).loc Cert.KernelAdamBrIdeal.main_arg2) = m ((c.tc : Thread Cert.KernelAdamBrIdeal.nD Cert.KernelAdamBrIdeal.τ).loc Cert.KernelAdamBrIdeal.main_arg2)
          ∧ r.2.mem ((c.tc : Thread Cert.KernelAdamBrIdeal.nD Cert.KernelAdamBrIdeal.τ).loc Cert.KernelAdamBrIdeal.main_arg3) = m ((c.tc : Thread Cert.KernelAdamBrIdeal.nD Cert.KernelAdamBrIdeal.τ).loc Cert.KernelAdamBrIdeal.main_arg3))
      ∧ θ_run (Cert.ReferenceAdamBrIdeal.defs (F := Ideal)) (onTc (τ := Cert.ReferenceAdamBrIdeal.τ) (Cert.ReferenceAdamBrIdeal.main (F := Ideal))) ⟨m', fun _ => 0, g'⟩ (fun r => ∀ c : Dev Cert.ReferenceAdamBrIdeal.nD,
          r.2.mem ((c.tc : Thread Cert.ReferenceAdamBrIdeal.nD Cert.ReferenceAdamBrIdeal.τ).loc Cert.ReferenceAdamBrIdeal.main_v23) = v0 c
          ∧ r.2.mem ((c.tc : Thread Cert.ReferenceAdamBrIdeal.nD Cert.ReferenceAdamBrIdeal.τ).loc Cert.ReferenceAdamBrIdeal.main_v4) = v1 c
          ∧ r.2.mem ((c.tc : Thread Cert.ReferenceAdamBrIdeal.nD Cert.ReferenceAdamBrIdeal.τ).loc Cert.ReferenceAdamBrIdeal.main_v10) = v2 c
          ∧ r.2.mem ((c.tc : Thread Cert.ReferenceAdamBrIdeal.nD Cert.ReferenceAdamBrIdeal.τ).loc Cert.ReferenceAdamBrIdeal.main_arg0) = m' ((c.tc : Thread Cert.ReferenceAdamBrIdeal.nD Cert.ReferenceAdamBrIdeal.τ).loc Cert.ReferenceAdamBrIdeal.main_arg0)
          ∧ r.2.mem ((c.tc : Thread Cert.ReferenceAdamBrIdeal.nD Cert.ReferenceAdamBrIdeal.τ).loc Cert.ReferenceAdamBrIdeal.main_arg1) = m' ((c.tc : Thread Cert.ReferenceAdamBrIdeal.nD Cert.ReferenceAdamBrIdeal.τ).loc Cert.ReferenceAdamBrIdeal.main_arg1)
          ∧ r.2.mem ((c.tc : Thread Cert.ReferenceAdamBrIdeal.nD Cert.ReferenceAdamBrIdeal.τ).loc Cert.ReferenceAdamBrIdeal.main_arg2) = m' ((c.tc : Thread Cert.ReferenceAdamBrIdeal.nD Cert.ReferenceAdamBrIdeal.τ).loc Cert.ReferenceAdamBrIdeal.main_arg2)
          ∧ r.2.mem ((c.tc : Thread Cert.ReferenceAdamBrIdeal.nD Cert.ReferenceAdamBrIdeal.τ).loc Cert.ReferenceAdamBrIdeal.main_arg3) = m' ((c.tc : Thread Cert.ReferenceAdamBrIdeal.nD Cert.ReferenceAdamBrIdeal.τ).loc Cert.ReferenceAdamBrIdeal.main_arg3))

def preserves_KernelAdamUp_KernelAdamUpIdeal : Prop :=
  IdealRules.named_const.Statement Cert.KernelAdamUpIdeal.κ "c1" .f32 0x3FC48605#32 (((5463681 / 8388608)⁻¹ : ℝ) : EReal)
  ∧ IdealRules.named_const.Statement Cert.KernelAdamUpIdeal.κ "c2" .f32 0x42C8E6D3#32 (((2672307 / 268435456)⁻¹ : ℝ) : EReal)

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)) →
    ∃ (v0 : (c : Dev Cert.KernelAdamUpIdeal.nD) → Buf (Elt Ideal) ((c.tc : Thread Cert.KernelAdamUpIdeal.nD Cert.KernelAdamUpIdeal.τ).loc Cert.KernelAdamUpIdeal.main_v0_0)) (v1 : (c : Dev Cert.KernelAdamUpIdeal.nD) → Buf (Elt Ideal) ((c.tc : Thread Cert.KernelAdamUpIdeal.nD Cert.KernelAdamUpIdeal.τ).loc Cert.KernelAdamUpIdeal.main_v0_1)) (v2 : (c : Dev Cert.KernelAdamUpIdeal.nD) → Buf (Elt Ideal) ((c.tc : Thread Cert.KernelAdamUpIdeal.nD Cert.KernelAdamUpIdeal.τ).loc Cert.KernelAdamUpIdeal.main_v0_2)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v0_0) = v0 c
          ∧ r.2.mem ((c.tc : Thread Cert.KernelAdamUpIdeal.nD Cert.KernelAdamUpIdeal.τ).loc Cert.KernelAdamUpIdeal.main_v0_1) = v1 c
          ∧ r.2.mem ((c.tc : Thread Cert.KernelAdamUpIdeal.nD Cert.KernelAdamUpIdeal.τ).loc Cert.KernelAdamUpIdeal.main_v0_2) = v2 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_v23) = v0 c
          ∧ r.2.mem ((c.tc : Thread Cert.ReferenceAdamUpIdeal.nD Cert.ReferenceAdamUpIdeal.τ).loc Cert.ReferenceAdamUpIdeal.main_v4) = v1 c
          ∧ r.2.mem ((c.tc : Thread Cert.ReferenceAdamUpIdeal.nD Cert.ReferenceAdamUpIdeal.τ).loc Cert.ReferenceAdamUpIdeal.main_v10) = v2 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3))

def preserves_KernelAdamDown_KernelAdamDownIdeal : Prop :=
  IdealRules.named_const.Statement Cert.KernelAdamDownIdeal.κ "c1" .f32 0x3FC48605#32 (((5463681 / 8388608)⁻¹ : ℝ) : EReal)
  ∧ IdealRules.named_const.Statement Cert.KernelAdamDownIdeal.κ "c2" .f32 0x42C8E6D3#32 (((2672307 / 268435456)⁻¹ : ℝ) : EReal)

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)) →
    ∃ (v0 : (c : Dev Cert.KernelAdamDownIdeal.nD) → Buf (Elt Ideal) ((c.tc : Thread Cert.KernelAdamDownIdeal.nD Cert.KernelAdamDownIdeal.τ).loc Cert.KernelAdamDownIdeal.main_v0_0)) (v1 : (c : Dev Cert.KernelAdamDownIdeal.nD) → Buf (Elt Ideal) ((c.tc : Thread Cert.KernelAdamDownIdeal.nD Cert.KernelAdamDownIdeal.τ).loc Cert.KernelAdamDownIdeal.main_v0_1)) (v2 : (c : Dev Cert.KernelAdamDownIdeal.nD) → Buf (Elt Ideal) ((c.tc : Thread Cert.KernelAdamDownIdeal.nD Cert.KernelAdamDownIdeal.τ).loc Cert.KernelAdamDownIdeal.main_v0_2)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v0_0) = v0 c
          ∧ r.2.mem ((c.tc : Thread Cert.KernelAdamDownIdeal.nD Cert.KernelAdamDownIdeal.τ).loc Cert.KernelAdamDownIdeal.main_v0_1) = v1 c
          ∧ r.2.mem ((c.tc : Thread Cert.KernelAdamDownIdeal.nD Cert.KernelAdamDownIdeal.τ).loc Cert.KernelAdamDownIdeal.main_v0_2) = v2 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v23) = v0 c
          ∧ r.2.mem ((c.tc : Thread Cert.ReferenceAdamDownIdeal.nD Cert.ReferenceAdamDownIdeal.τ).loc Cert.ReferenceAdamDownIdeal.main_v4) = v1 c
          ∧ r.2.mem ((c.tc : Thread Cert.ReferenceAdamDownIdeal.nD Cert.ReferenceAdamDownIdeal.τ).loc Cert.ReferenceAdamDownIdeal.main_v10) = v2 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3))

def preserves_KernelAdamConv_KernelAdamConvIdeal : Prop :=
  IdealRules.named_const.Statement Cert.KernelAdamConvIdeal.κ "c1" .f32 0x3FC48605#32 (((5463681 / 8388608)⁻¹ : ℝ) : EReal)
  ∧ IdealRules.named_const.Statement Cert.KernelAdamConvIdeal.κ "c2" .f32 0x42C8E6D3#32 (((2672307 / 268435456)⁻¹ : ℝ) : EReal)

def algebraic_KernelAdamConvIdeal_ReferenceAdamConvIdeal [hKernelAdamConvIdeal : Cert.KernelAdamConvIdeal.Facts] [hReferenceAdamConvIdeal : Cert.ReferenceAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg)
    (m' : (ℓ : Loc Cert.ReferenceAdamConvIdeal.nD Cert.ReferenceAdamConvIdeal.τ Cert.ReferenceAdamConvIdeal.sig) → Buf (Elt Ideal) ℓ) (g' : Dev Cert.ReferenceAdamConvIdeal.nD → PrngReg), Pre_KernelAdamConvIdeal m →
    (∀ c : Dev Cert.KernelAdamConvIdeal.nD,
      m' ((c.tc : Thread Cert.ReferenceAdamConvIdeal.nD Cert.ReferenceAdamConvIdeal.τ).loc Cert.ReferenceAdamConvIdeal.main_arg0) = m ((c.tc : Thread Cert.KernelAdamConvIdeal.nD Cert.KernelAdamConvIdeal.τ).loc Cert.KernelAdamConvIdeal.main_arg0)
      ∧ m' ((c.tc : Thread Cert.ReferenceAdamConvIdeal.nD Cert.ReferenceAdamConvIdeal.τ).loc Cert.ReferenceAdamConvIdeal.main_arg1) = m ((c.tc : Thread Cert.KernelAdamConvIdeal.nD Cert.KernelAdamConvIdeal.τ).loc Cert.KernelAdamConvIdeal.main_arg1)
      ∧ m' ((c.tc : Thread Cert.ReferenceAdamConvIdeal.nD Cert.ReferenceAdamConvIdeal.τ).loc Cert.ReferenceAdamConvIdeal.main_arg2) = m ((c.tc : Thread Cert.KernelAdamConvIdeal.nD Cert.KernelAdamConvIdeal.τ).loc Cert.KernelAdamConvIdeal.main_arg2)
      ∧ m' ((c.tc : Thread Cert.ReferenceAdamConvIdeal.nD Cert.ReferenceAdamConvIdeal.τ).loc Cert.ReferenceAdamConvIdeal.main_arg3) = m ((c.tc : Thread Cert.KernelAdamConvIdeal.nD Cert.KernelAdamConvIdeal.τ).loc Cert.KernelAdamConvIdeal.main_arg3)) →
    ∃ (v0 : (c : Dev Cert.KernelAdamConvIdeal.nD) → Buf (Elt Ideal) ((c.tc : Thread Cert.KernelAdamConvIdeal.nD Cert.KernelAdamConvIdeal.τ).loc Cert.KernelAdamConvIdeal.main_v0_0)) (v1 : (c : Dev Cert.KernelAdamConvIdeal.nD) → Buf (Elt Ideal) ((c.tc : Thread Cert.KernelAdamConvIdeal.nD Cert.KernelAdamConvIdeal.τ).loc Cert.KernelAdamConvIdeal.main_v0_1)) (v2 : (c : Dev Cert.KernelAdamConvIdeal.nD) → Buf (Elt Ideal) ((c.tc : Thread Cert.KernelAdamConvIdeal.nD Cert.KernelAdamConvIdeal.τ).loc Cert.KernelAdamConvIdeal.main_v0_2)),
      θ_run (Cert.KernelAdamConvIdeal.defs (F := Ideal)) (onTc (τ := Cert.KernelAdamConvIdeal.τ) (Cert.KernelAdamConvIdeal.main (F := Ideal))) ⟨m, fun _ => 0, g⟩ (fun r => ∀ c : Dev Cert.KernelAdamConvIdeal.nD,
          r.2.mem ((c.tc : Thread Cert.KernelAdamConvIdeal.nD Cert.KernelAdamConvIdeal.τ).loc Cert.KernelAdamConvIdeal.main_v0_0) = v0 c
          ∧ r.2.mem ((c.tc : Thread Cert.KernelAdamConvIdeal.nD Cert.KernelAdamConvIdeal.τ).loc Cert.KernelAdamConvIdeal.main_v0_1) = v1 c
          ∧ r.2.mem ((c.tc : Thread Cert.KernelAdamConvIdeal.nD Cert.KernelAdamConvIdeal.τ).loc Cert.KernelAdamConvIdeal.main_v0_2) = v2 c
          ∧ r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
          ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
          ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
          ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ θ_run (Cert.ReferenceAdamConvIdeal.defs (F := Ideal)) (onTc (τ := Cert.ReferenceAdamConvIdeal.τ) (Cert.ReferenceAdamConvIdeal.main (F := Ideal))) ⟨m', fun _ => 0, g'⟩ (fun r => ∀ c : Dev Cert.ReferenceAdamConvIdeal.nD,
          r.2.mem ((c.tc : Thread Cert.ReferenceAdamConvIdeal.nD Cert.ReferenceAdamConvIdeal.τ).loc Cert.ReferenceAdamConvIdeal.main_v23) = v0 c
          ∧ r.2.mem ((c.tc : Thread Cert.ReferenceAdamConvIdeal.nD Cert.ReferenceAdamConvIdeal.τ).loc Cert.ReferenceAdamConvIdeal.main_v4) = v1 c
          ∧ r.2.mem ((c.tc : Thread Cert.ReferenceAdamConvIdeal.nD Cert.ReferenceAdamConvIdeal.τ).loc Cert.ReferenceAdamConvIdeal.main_v10) = v2 c
          ∧ r.2.mem ((c.tc : Thread Cert.ReferenceAdamConvIdeal.nD Cert.ReferenceAdamConvIdeal.τ).loc Cert.ReferenceAdamConvIdeal.main_arg0) = m' ((c.tc : Thread Cert.ReferenceAdamConvIdeal.nD Cert.ReferenceAdamConvIdeal.τ).loc Cert.ReferenceAdamConvIdeal.main_arg0)
          ∧ r.2.mem ((c.tc : Thread Cert.ReferenceAdamConvIdeal.nD Cert.ReferenceAdamConvIdeal.τ).loc Cert.ReferenceAdamConvIdeal.main_arg1) = m' ((c.tc : Thread Cert.ReferenceAdamConvIdeal.nD Cert.ReferenceAdamConvIdeal.τ).loc Cert.ReferenceAdamConvIdeal.main_arg1)
          ∧ r.2.mem ((c.tc : Thread Cert.ReferenceAdamConvIdeal.nD Cert.ReferenceAdamConvIdeal.τ).loc Cert.ReferenceAdamConvIdeal.main_arg2) = m' ((c.tc : Thread Cert.ReferenceAdamConvIdeal.nD Cert.ReferenceAdamConvIdeal.τ).loc Cert.ReferenceAdamConvIdeal.main_arg2)
          ∧ r.2.mem ((c.tc : Thread Cert.ReferenceAdamConvIdeal.nD Cert.ReferenceAdamConvIdeal.τ).loc Cert.ReferenceAdamConvIdeal.main_arg3) = m' ((c.tc : Thread Cert.ReferenceAdamConvIdeal.nD Cert.ReferenceAdamConvIdeal.τ).loc Cert.ReferenceAdamConvIdeal.main_arg3))

def preserves_KernelKvProj_KernelKvProjIdeal : Prop :=
  True

def algebraic_KernelKvProjIdeal_ReferenceKvProjIdeal [hKernelKvProjIdeal : Cert.KernelKvProjIdeal.Facts] [hReferenceKvProjIdeal : Cert.ReferenceKvProjIdeal.Facts] : Prop :=
  ∀ (m : (ℓ : Loc Cert.KernelKvProjIdeal.nD Cert.KernelKvProjIdeal.τ Cert.KernelKvProjIdeal.sig) → Buf (Elt Ideal) ℓ) (g : Dev Cert.KernelKvProjIdeal.nD → PrngReg)
    (m' : (ℓ : Loc Cert.ReferenceKvProjIdeal.nD Cert.ReferenceKvProjIdeal.τ Cert.ReferenceKvProjIdeal.sig) → Buf (Elt Ideal) ℓ) (g' : Dev Cert.ReferenceKvProjIdeal.nD → PrngReg), Pre_KernelKvProjIdeal m →
    (∀ c : Dev Cert.KernelKvProjIdeal.nD,
      m' ((c.tc : Thread Cert.ReferenceKvProjIdeal.nD Cert.ReferenceKvProjIdeal.τ).loc Cert.ReferenceKvProjIdeal.main_arg0) = m ((c.tc : Thread Cert.KernelKvProjIdeal.nD Cert.KernelKvProjIdeal.τ).loc Cert.KernelKvProjIdeal.main_arg0)
      ∧ m' ((c.tc : Thread Cert.ReferenceKvProjIdeal.nD Cert.ReferenceKvProjIdeal.τ).loc Cert.ReferenceKvProjIdeal.main_arg1) = m ((c.tc : Thread Cert.KernelKvProjIdeal.nD Cert.KernelKvProjIdeal.τ).loc Cert.KernelKvProjIdeal.main_arg1)) →
    ∃ (v0 : (c : Dev Cert.KernelKvProjIdeal.nD) → Buf (Elt Ideal) ((c.tc : Thread Cert.KernelKvProjIdeal.nD Cert.KernelKvProjIdeal.τ).loc Cert.KernelKvProjIdeal.main_v0)),
      θ_run (Cert.KernelKvProjIdeal.defs (F := Ideal)) (onTc (τ := Cert.KernelKvProjIdeal.τ) (Cert.KernelKvProjIdeal.main (F := Ideal))) ⟨m, fun _ => 0, g⟩ (fun r => ∀ c : Dev Cert.KernelKvProjIdeal.nD,
          r.2.mem ((c.tc : Thread Cert.KernelKvProjIdeal.nD Cert.KernelKvProjIdeal.τ).loc Cert.KernelKvProjIdeal.main_v0) = v0 c
          ∧ r.2.mem ((c.tc : Thread Cert.KernelKvProjIdeal.nD Cert.KernelKvProjIdeal.τ).loc Cert.KernelKvProjIdeal.main_arg0) = m ((c.tc : Thread Cert.KernelKvProjIdeal.nD Cert.KernelKvProjIdeal.τ).loc Cert.KernelKvProjIdeal.main_arg0)
          ∧ r.2.mem ((c.tc : Thread Cert.KernelKvProjIdeal.nD Cert.KernelKvProjIdeal.τ).loc Cert.KernelKvProjIdeal.main_arg1) = m ((c.tc : Thread Cert.KernelKvProjIdeal.nD Cert.KernelKvProjIdeal.τ).loc Cert.KernelKvProjIdeal.main_arg1))
      ∧ θ_run (Cert.ReferenceKvProjIdeal.defs (F := Ideal)) (onTc (τ := Cert.ReferenceKvProjIdeal.τ) (Cert.ReferenceKvProjIdeal.main (F := Ideal))) ⟨m', fun _ => 0, g'⟩ (fun r => ∀ c : Dev Cert.ReferenceKvProjIdeal.nD,
          r.2.mem ((c.tc : Thread Cert.ReferenceKvProjIdeal.nD Cert.ReferenceKvProjIdeal.τ).loc Cert.ReferenceKvProjIdeal.main_v2) = v0 c
          ∧ r.2.mem ((c.tc : Thread Cert.ReferenceKvProjIdeal.nD Cert.ReferenceKvProjIdeal.τ).loc Cert.ReferenceKvProjIdeal.main_arg0) = m' ((c.tc : Thread Cert.ReferenceKvProjIdeal.nD Cert.ReferenceKvProjIdeal.τ).loc Cert.ReferenceKvProjIdeal.main_arg0)
          ∧ r.2.mem ((c.tc : Thread Cert.ReferenceKvProjIdeal.nD Cert.ReferenceKvProjIdeal.τ).loc Cert.ReferenceKvProjIdeal.main_arg1) = m' ((c.tc : Thread Cert.ReferenceKvProjIdeal.nD Cert.ReferenceKvProjIdeal.τ).loc Cert.ReferenceKvProjIdeal.main_arg1))

def preserves_KernelKvDw_KernelKvDwIdeal : Prop :=
  True

def algebraic_KernelKvDwIdeal_ReferenceKvDwIdeal [hKernelKvDwIdeal : Cert.KernelKvDwIdeal.Facts] [hReferenceKvDwIdeal : Cert.ReferenceKvDwIdeal.Facts] : Prop :=
  ∀ (m : (ℓ : Loc Cert.KernelKvDwIdeal.nD Cert.KernelKvDwIdeal.τ Cert.KernelKvDwIdeal.sig) → Buf (Elt Ideal) ℓ) (g : Dev Cert.KernelKvDwIdeal.nD → PrngReg)
    (m' : (ℓ : Loc Cert.ReferenceKvDwIdeal.nD Cert.ReferenceKvDwIdeal.τ Cert.ReferenceKvDwIdeal.sig) → Buf (Elt Ideal) ℓ) (g' : Dev Cert.ReferenceKvDwIdeal.nD → PrngReg), Pre_KernelKvDwIdeal m →
    (∀ c : Dev Cert.KernelKvDwIdeal.nD,
      m' ((c.tc : Thread Cert.ReferenceKvDwIdeal.nD Cert.ReferenceKvDwIdeal.τ).loc Cert.ReferenceKvDwIdeal.main_arg0) = m ((c.tc : Thread Cert.KernelKvDwIdeal.nD Cert.KernelKvDwIdeal.τ).loc Cert.KernelKvDwIdeal.main_arg0)
      ∧ m' ((c.tc : Thread Cert.ReferenceKvDwIdeal.nD Cert.ReferenceKvDwIdeal.τ).loc Cert.ReferenceKvDwIdeal.main_arg1) = m ((c.tc : Thread Cert.KernelKvDwIdeal.nD Cert.KernelKvDwIdeal.τ).loc Cert.KernelKvDwIdeal.main_arg1)) →
    ∃ (v0 : (c : Dev Cert.KernelKvDwIdeal.nD) → Buf (Elt Ideal) ((c.tc : Thread Cert.KernelKvDwIdeal.nD Cert.KernelKvDwIdeal.τ).loc Cert.KernelKvDwIdeal.main_v0)),
      θ_run (Cert.KernelKvDwIdeal.defs (F := Ideal)) (onTc (τ := Cert.KernelKvDwIdeal.τ) (Cert.KernelKvDwIdeal.main (F := Ideal))) ⟨m, fun _ => 0, g⟩ (fun r => ∀ c : Dev Cert.KernelKvDwIdeal.nD,
          r.2.mem ((c.tc : Thread Cert.KernelKvDwIdeal.nD Cert.KernelKvDwIdeal.τ).loc Cert.KernelKvDwIdeal.main_v0) = v0 c
          ∧ r.2.mem ((c.tc : Thread Cert.KernelKvDwIdeal.nD Cert.KernelKvDwIdeal.τ).loc Cert.KernelKvDwIdeal.main_arg0) = m ((c.tc : Thread Cert.KernelKvDwIdeal.nD Cert.KernelKvDwIdeal.τ).loc Cert.KernelKvDwIdeal.main_arg0)
          ∧ r.2.mem ((c.tc : Thread Cert.KernelKvDwIdeal.nD Cert.KernelKvDwIdeal.τ).loc Cert.KernelKvDwIdeal.main_arg1) = m ((c.tc : Thread Cert.KernelKvDwIdeal.nD Cert.KernelKvDwIdeal.τ).loc Cert.KernelKvDwIdeal.main_arg1))
      ∧ θ_run (Cert.ReferenceKvDwIdeal.defs (F := Ideal)) (onTc (τ := Cert.ReferenceKvDwIdeal.τ) (Cert.ReferenceKvDwIdeal.main (F := Ideal))) ⟨m', fun _ => 0, g'⟩ (fun r => ∀ c : Dev Cert.ReferenceKvDwIdeal.nD,
          r.2.mem ((c.tc : Thread Cert.ReferenceKvDwIdeal.nD Cert.ReferenceKvDwIdeal.τ).loc Cert.ReferenceKvDwIdeal.main_v4) = v0 c
          ∧ r.2.mem ((c.tc : Thread Cert.ReferenceKvDwIdeal.nD Cert.ReferenceKvDwIdeal.τ).loc Cert.ReferenceKvDwIdeal.main_arg0) = m' ((c.tc : Thread Cert.ReferenceKvDwIdeal.nD Cert.ReferenceKvDwIdeal.τ).loc Cert.ReferenceKvDwIdeal.main_arg0)
          ∧ r.2.mem ((c.tc : Thread Cert.ReferenceKvDwIdeal.nD Cert.ReferenceKvDwIdeal.τ).loc Cert.ReferenceKvDwIdeal.main_arg1) = m' ((c.tc : Thread Cert.ReferenceKvDwIdeal.nD Cert.ReferenceKvDwIdeal.τ).loc Cert.ReferenceKvDwIdeal.main_arg1))

def preserves_KernelKvDx_KernelKvDxIdeal : Prop :=
  True

def algebraic_KernelKvDxIdeal_ReferenceKvDxIdeal [hKernelKvDxIdeal : Cert.KernelKvDxIdeal.Facts] [hReferenceKvDxIdeal : Cert.ReferenceKvDxIdeal.Facts] : Prop :=
  ∀ (m : (ℓ : Loc Cert.KernelKvDxIdeal.nD Cert.KernelKvDxIdeal.τ Cert.KernelKvDxIdeal.sig) → Buf (Elt Ideal) ℓ) (g : Dev Cert.KernelKvDxIdeal.nD → PrngReg)
    (m' : (ℓ : Loc Cert.ReferenceKvDxIdeal.nD Cert.ReferenceKvDxIdeal.τ Cert.ReferenceKvDxIdeal.sig) → Buf (Elt Ideal) ℓ) (g' : Dev Cert.ReferenceKvDxIdeal.nD → PrngReg), Pre_KernelKvDxIdeal m →
    (∀ c : Dev Cert.KernelKvDxIdeal.nD,
      m' ((c.tc : Thread Cert.ReferenceKvDxIdeal.nD Cert.ReferenceKvDxIdeal.τ).loc Cert.ReferenceKvDxIdeal.main_arg0) = m ((c.tc : Thread Cert.KernelKvDxIdeal.nD Cert.KernelKvDxIdeal.τ).loc Cert.KernelKvDxIdeal.main_arg0)
      ∧ m' ((c.tc : Thread Cert.ReferenceKvDxIdeal.nD Cert.ReferenceKvDxIdeal.τ).loc Cert.ReferenceKvDxIdeal.main_arg1) = m ((c.tc : Thread Cert.KernelKvDxIdeal.nD Cert.KernelKvDxIdeal.τ).loc Cert.KernelKvDxIdeal.main_arg1)) →
    ∃ (v0 : (c : Dev Cert.KernelKvDxIdeal.nD) → Buf (Elt Ideal) ((c.tc : Thread Cert.KernelKvDxIdeal.nD Cert.KernelKvDxIdeal.τ).loc Cert.KernelKvDxIdeal.main_v0)),
      θ_run (Cert.KernelKvDxIdeal.defs (F := Ideal)) (onTc (τ := Cert.KernelKvDxIdeal.τ) (Cert.KernelKvDxIdeal.main (F := Ideal))) ⟨m, fun _ => 0, g⟩ (fun r => ∀ c : Dev Cert.KernelKvDxIdeal.nD,
          r.2.mem ((c.tc : Thread Cert.KernelKvDxIdeal.nD Cert.KernelKvDxIdeal.τ).loc Cert.KernelKvDxIdeal.main_v0) = v0 c
          ∧ r.2.mem ((c.tc : Thread Cert.KernelKvDxIdeal.nD Cert.KernelKvDxIdeal.τ).loc Cert.KernelKvDxIdeal.main_arg0) = m ((c.tc : Thread Cert.KernelKvDxIdeal.nD Cert.KernelKvDxIdeal.τ).loc Cert.KernelKvDxIdeal.main_arg0)
          ∧ r.2.mem ((c.tc : Thread Cert.KernelKvDxIdeal.nD Cert.KernelKvDxIdeal.τ).loc Cert.KernelKvDxIdeal.main_arg1) = m ((c.tc : Thread Cert.KernelKvDxIdeal.nD Cert.KernelKvDxIdeal.τ).loc Cert.KernelKvDxIdeal.main_arg1))
      ∧ θ_run (Cert.ReferenceKvDxIdeal.defs (F := Ideal)) (onTc (τ := Cert.ReferenceKvDxIdeal.τ) (Cert.ReferenceKvDxIdeal.main (F := Ideal))) ⟨m', fun _ => 0, g'⟩ (fun r => ∀ c : Dev Cert.ReferenceKvDxIdeal.nD,
          r.2.mem ((c.tc : Thread Cert.ReferenceKvDxIdeal.nD Cert.ReferenceKvDxIdeal.τ).loc Cert.ReferenceKvDxIdeal.main_v3) = v0 c
          ∧ r.2.mem ((c.tc : Thread Cert.ReferenceKvDxIdeal.nD Cert.ReferenceKvDxIdeal.τ).loc Cert.ReferenceKvDxIdeal.main_arg0) = m' ((c.tc : Thread Cert.ReferenceKvDxIdeal.nD Cert.ReferenceKvDxIdeal.τ).loc Cert.ReferenceKvDxIdeal.main_arg0)
          ∧ r.2.mem ((c.tc : Thread Cert.ReferenceKvDxIdeal.nD Cert.ReferenceKvDxIdeal.τ).loc Cert.ReferenceKvDxIdeal.main_arg1) = m' ((c.tc : Thread Cert.ReferenceKvDxIdeal.nD Cert.ReferenceKvDxIdeal.τ).loc Cert.ReferenceKvDxIdeal.main_arg1))

def preserves_KernelMemFwd_KernelMemFwdIdeal : Prop :=
  True

def algebraic_KernelMemFwdIdeal_ReferenceMemFwdIdeal [hKernelMemFwdIdeal : Cert.KernelMemFwdIdeal.Facts] [hReferenceMemFwdIdeal : Cert.ReferenceMemFwdIdeal.Facts] : Prop :=
  ∀ (m : (ℓ : Loc Cert.KernelMemFwdIdeal.nD Cert.KernelMemFwdIdeal.τ Cert.KernelMemFwdIdeal.sig) → Buf (Elt Ideal) ℓ) (g : Dev Cert.KernelMemFwdIdeal.nD → PrngReg)
    (m' : (ℓ : Loc Cert.ReferenceMemFwdIdeal.nD Cert.ReferenceMemFwdIdeal.τ Cert.ReferenceMemFwdIdeal.sig) → Buf (Elt Ideal) ℓ) (g' : Dev Cert.ReferenceMemFwdIdeal.nD → PrngReg), Pre_KernelMemFwdIdeal m →
    (∀ c : Dev Cert.KernelMemFwdIdeal.nD,
      m' ((c.tc : Thread Cert.ReferenceMemFwdIdeal.nD Cert.ReferenceMemFwdIdeal.τ).loc Cert.ReferenceMemFwdIdeal.main_arg0) = m ((c.tc : Thread Cert.KernelMemFwdIdeal.nD Cert.KernelMemFwdIdeal.τ).loc Cert.KernelMemFwdIdeal.main_arg0)
      ∧ m' ((c.tc : Thread Cert.ReferenceMemFwdIdeal.nD Cert.ReferenceMemFwdIdeal.τ).loc Cert.ReferenceMemFwdIdeal.main_arg1) = m ((c.tc : Thread Cert.KernelMemFwdIdeal.nD Cert.KernelMemFwdIdeal.τ).loc Cert.KernelMemFwdIdeal.main_arg1)
      ∧ m' ((c.tc : Thread Cert.ReferenceMemFwdIdeal.nD Cert.ReferenceMemFwdIdeal.τ).loc Cert.ReferenceMemFwdIdeal.main_arg2) = m ((c.tc : Thread Cert.KernelMemFwdIdeal.nD Cert.KernelMemFwdIdeal.τ).loc Cert.KernelMemFwdIdeal.main_arg2)
      ∧ m' ((c.tc : Thread Cert.ReferenceMemFwdIdeal.nD Cert.ReferenceMemFwdIdeal.τ).loc Cert.ReferenceMemFwdIdeal.main_arg3) = m ((c.tc : Thread Cert.KernelMemFwdIdeal.nD Cert.KernelMemFwdIdeal.τ).loc Cert.KernelMemFwdIdeal.main_arg3)) →
    ∃ (v0 : (c : Dev Cert.KernelMemFwdIdeal.nD) → Buf (Elt Ideal) ((c.tc : Thread Cert.KernelMemFwdIdeal.nD Cert.KernelMemFwdIdeal.τ).loc Cert.KernelMemFwdIdeal.main_v0)),
      θ_run (Cert.KernelMemFwdIdeal.defs (F := Ideal)) (onTc (τ := Cert.KernelMemFwdIdeal.τ) (Cert.KernelMemFwdIdeal.main (F := Ideal))) ⟨m, fun _ => 0, g⟩ (fun r => ∀ c : Dev Cert.KernelMemFwdIdeal.nD,
          r.2.mem ((c.tc : Thread Cert.KernelMemFwdIdeal.nD Cert.KernelMemFwdIdeal.τ).loc Cert.KernelMemFwdIdeal.main_v0) = v0 c
          ∧ r.2.mem ((c.tc : Thread Cert.KernelMemFwdIdeal.nD Cert.KernelMemFwdIdeal.τ).loc Cert.KernelMemFwdIdeal.main_arg0) = m ((c.tc : Thread Cert.KernelMemFwdIdeal.nD Cert.KernelMemFwdIdeal.τ).loc Cert.KernelMemFwdIdeal.main_arg0)
          ∧ r.2.mem ((c.tc : Thread Cert.KernelMemFwdIdeal.nD Cert.KernelMemFwdIdeal.τ).loc Cert.KernelMemFwdIdeal.main_arg1) = m ((c.tc : Thread Cert.KernelMemFwdIdeal.nD Cert.KernelMemFwdIdeal.τ).loc Cert.KernelMemFwdIdeal.main_arg1)
          ∧ r.2.mem ((c.tc : Thread Cert.KernelMemFwdIdeal.nD Cert.KernelMemFwdIdeal.τ).loc Cert.KernelMemFwdIdeal.main_arg2) = m ((c.tc : Thread Cert.KernelMemFwdIdeal.nD Cert.KernelMemFwdIdeal.τ).loc Cert.KernelMemFwdIdeal.main_arg2)
          ∧ r.2.mem ((c.tc : Thread Cert.KernelMemFwdIdeal.nD Cert.KernelMemFwdIdeal.τ).loc Cert.KernelMemFwdIdeal.main_arg3) = m ((c.tc : Thread Cert.KernelMemFwdIdeal.nD Cert.KernelMemFwdIdeal.τ).loc Cert.KernelMemFwdIdeal.main_arg3))
      ∧ θ_run (Cert.ReferenceMemFwdIdeal.defs (F := Ideal)) (onTc (τ := Cert.ReferenceMemFwdIdeal.τ) (Cert.ReferenceMemFwdIdeal.main (F := Ideal))) ⟨m', fun _ => 0, g'⟩ (fun r => ∀ c : Dev Cert.ReferenceMemFwdIdeal.nD,
          r.2.mem ((c.tc : Thread Cert.ReferenceMemFwdIdeal.nD Cert.ReferenceMemFwdIdeal.τ).loc Cert.ReferenceMemFwdIdeal.main_v50) = v0 c
          ∧ r.2.mem ((c.tc : Thread Cert.ReferenceMemFwdIdeal.nD Cert.ReferenceMemFwdIdeal.τ).loc Cert.ReferenceMemFwdIdeal.main_arg0) = m' ((c.tc : Thread Cert.ReferenceMemFwdIdeal.nD Cert.ReferenceMemFwdIdeal.τ).loc Cert.ReferenceMemFwdIdeal.main_arg0)
          ∧ r.2.mem ((c.tc : Thread Cert.ReferenceMemFwdIdeal.nD Cert.ReferenceMemFwdIdeal.τ).loc Cert.ReferenceMemFwdIdeal.main_arg1) = m' ((c.tc : Thread Cert.ReferenceMemFwdIdeal.nD Cert.ReferenceMemFwdIdeal.τ).loc Cert.ReferenceMemFwdIdeal.main_arg1)
          ∧ r.2.mem ((c.tc : Thread Cert.ReferenceMemFwdIdeal.nD Cert.ReferenceMemFwdIdeal.τ).loc Cert.ReferenceMemFwdIdeal.main_arg2) = m' ((c.tc : Thread Cert.ReferenceMemFwdIdeal.nD Cert.ReferenceMemFwdIdeal.τ).loc Cert.ReferenceMemFwdIdeal.main_arg2)
          ∧ r.2.mem ((c.tc : Thread Cert.ReferenceMemFwdIdeal.nD Cert.ReferenceMemFwdIdeal.τ).loc Cert.ReferenceMemFwdIdeal.main_arg3) = m' ((c.tc : Thread Cert.ReferenceMemFwdIdeal.nD Cert.ReferenceMemFwdIdeal.τ).loc Cert.ReferenceMemFwdIdeal.main_arg3))

def preserves_KernelNormFwd_KernelNormFwdIdeal : Prop :=
  True

def algebraic_KernelNormFwdIdeal_ReferenceNormFwdIdeal [hKernelNormFwdIdeal : Cert.KernelNormFwdIdeal.Facts] [hReferenceNormFwdIdeal : Cert.ReferenceNormFwdIdeal.Facts] : Prop :=
  ∀ (m : (ℓ : Loc Cert.KernelNormFwdIdeal.nD Cert.KernelNormFwdIdeal.τ Cert.KernelNormFwdIdeal.sig) → Buf (Elt Ideal) ℓ) (g : Dev Cert.KernelNormFwdIdeal.nD → PrngReg)
    (m' : (ℓ : Loc Cert.ReferenceNormFwdIdeal.nD Cert.ReferenceNormFwdIdeal.τ Cert.ReferenceNormFwdIdeal.sig) → Buf (Elt Ideal) ℓ) (g' : Dev Cert.ReferenceNormFwdIdeal.nD → PrngReg), Pre_KernelNormFwdIdeal m →
    (∀ c : Dev Cert.KernelNormFwdIdeal.nD,
      m' ((c.tc : Thread Cert.ReferenceNormFwdIdeal.nD Cert.ReferenceNormFwdIdeal.τ).loc Cert.ReferenceNormFwdIdeal.main_arg0) = m ((c.tc : Thread Cert.KernelNormFwdIdeal.nD Cert.KernelNormFwdIdeal.τ).loc Cert.KernelNormFwdIdeal.main_arg0)
      ∧ m' ((c.tc : Thread Cert.ReferenceNormFwdIdeal.nD Cert.ReferenceNormFwdIdeal.τ).loc Cert.ReferenceNormFwdIdeal.main_arg1) = m ((c.tc : Thread Cert.KernelNormFwdIdeal.nD Cert.KernelNormFwdIdeal.τ).loc Cert.KernelNormFwdIdeal.main_arg1)) →
    ∃ (v0 : (c : Dev Cert.KernelNormFwdIdeal.nD) → Buf (Elt Ideal) ((c.tc : Thread Cert.KernelNormFwdIdeal.nD Cert.KernelNormFwdIdeal.τ).loc Cert.KernelNormFwdIdeal.main_v0)),
      θ_run (Cert.KernelNormFwdIdeal.defs (F := Ideal)) (onTc (τ := Cert.KernelNormFwdIdeal.τ) (Cert.KernelNormFwdIdeal.main (F := Ideal))) ⟨m, fun _ => 0, g⟩ (fun r => ∀ c : Dev Cert.KernelNormFwdIdeal.nD,
          r.2.mem ((c.tc : Thread Cert.KernelNormFwdIdeal.nD Cert.KernelNormFwdIdeal.τ).loc Cert.KernelNormFwdIdeal.main_v0) = v0 c
          ∧ r.2.mem ((c.tc : Thread Cert.KernelNormFwdIdeal.nD Cert.KernelNormFwdIdeal.τ).loc Cert.KernelNormFwdIdeal.main_arg0) = m ((c.tc : Thread Cert.KernelNormFwdIdeal.nD Cert.KernelNormFwdIdeal.τ).loc Cert.KernelNormFwdIdeal.main_arg0)
          ∧ r.2.mem ((c.tc : Thread Cert.KernelNormFwdIdeal.nD Cert.KernelNormFwdIdeal.τ).loc Cert.KernelNormFwdIdeal.main_arg1) = m ((c.tc : Thread Cert.KernelNormFwdIdeal.nD Cert.KernelNormFwdIdeal.τ).loc Cert.KernelNormFwdIdeal.main_arg1))
      ∧ θ_run (Cert.ReferenceNormFwdIdeal.defs (F := Ideal)) (onTc (τ := Cert.ReferenceNormFwdIdeal.τ) (Cert.ReferenceNormFwdIdeal.main (F := Ideal))) ⟨m', fun _ => 0, g'⟩ (fun r => ∀ c : Dev Cert.ReferenceNormFwdIdeal.nD,
          r.2.mem ((c.tc : Thread Cert.ReferenceNormFwdIdeal.nD Cert.ReferenceNormFwdIdeal.τ).loc Cert.ReferenceNormFwdIdeal.main_v14) = v0 c
          ∧ r.2.mem ((c.tc : Thread Cert.ReferenceNormFwdIdeal.nD Cert.ReferenceNormFwdIdeal.τ).loc Cert.ReferenceNormFwdIdeal.main_arg0) = m' ((c.tc : Thread Cert.ReferenceNormFwdIdeal.nD Cert.ReferenceNormFwdIdeal.τ).loc Cert.ReferenceNormFwdIdeal.main_arg0)
          ∧ r.2.mem ((c.tc : Thread Cert.ReferenceNormFwdIdeal.nD Cert.ReferenceNormFwdIdeal.τ).loc Cert.ReferenceNormFwdIdeal.main_arg1) = m' ((c.tc : Thread Cert.ReferenceNormFwdIdeal.nD Cert.ReferenceNormFwdIdeal.τ).loc Cert.ReferenceNormFwdIdeal.main_arg1))

def preserves_KernelNormMemFwd_KernelNormMemFwdIdeal : Prop :=
  True

def algebraic_KernelNormMemFwdIdeal_ReferenceNormMemFwdIdeal [hKernelNormMemFwdIdeal : Cert.KernelNormMemFwdIdeal.Facts] [hReferenceNormMemFwdIdeal : Cert.ReferenceNormMemFwdIdeal.Facts] : Prop :=
  ∀ (m : (ℓ : Loc Cert.KernelNormMemFwdIdeal.nD Cert.KernelNormMemFwdIdeal.τ Cert.KernelNormMemFwdIdeal.sig) → Buf (Elt Ideal) ℓ) (g : Dev Cert.KernelNormMemFwdIdeal.nD → PrngReg)
    (m' : (ℓ : Loc Cert.ReferenceNormMemFwdIdeal.nD Cert.ReferenceNormMemFwdIdeal.τ Cert.ReferenceNormMemFwdIdeal.sig) → Buf (Elt Ideal) ℓ) (g' : Dev Cert.ReferenceNormMemFwdIdeal.nD → PrngReg), Pre_KernelNormMemFwdIdeal m →
    (∀ c : Dev Cert.KernelNormMemFwdIdeal.nD,
      m' ((c.tc : Thread Cert.ReferenceNormMemFwdIdeal.nD Cert.ReferenceNormMemFwdIdeal.τ).loc Cert.ReferenceNormMemFwdIdeal.main_arg0) = m ((c.tc : Thread Cert.KernelNormMemFwdIdeal.nD Cert.KernelNormMemFwdIdeal.τ).loc Cert.KernelNormMemFwdIdeal.main_arg0)
      ∧ m' ((c.tc : Thread Cert.ReferenceNormMemFwdIdeal.nD Cert.ReferenceNormMemFwdIdeal.τ).loc Cert.ReferenceNormMemFwdIdeal.main_arg1) = m ((c.tc : Thread Cert.KernelNormMemFwdIdeal.nD Cert.KernelNormMemFwdIdeal.τ).loc Cert.KernelNormMemFwdIdeal.main_arg1)) →
    ∃ (v0 : (c : Dev Cert.KernelNormMemFwdIdeal.nD) → Buf (Elt Ideal) ((c.tc : Thread Cert.KernelNormMemFwdIdeal.nD Cert.KernelNormMemFwdIdeal.τ).loc Cert.KernelNormMemFwdIdeal.main_v0)),
      θ_run (Cert.KernelNormMemFwdIdeal.defs (F := Ideal)) (onTc (τ := Cert.KernelNormMemFwdIdeal.τ) (Cert.KernelNormMemFwdIdeal.main (F := Ideal))) ⟨m, fun _ => 0, g⟩ (fun r => ∀ c : Dev Cert.KernelNormMemFwdIdeal.nD,
          r.2.mem ((c.tc : Thread Cert.KernelNormMemFwdIdeal.nD Cert.KernelNormMemFwdIdeal.τ).loc Cert.KernelNormMemFwdIdeal.main_v0) = v0 c
          ∧ r.2.mem ((c.tc : Thread Cert.KernelNormMemFwdIdeal.nD Cert.KernelNormMemFwdIdeal.τ).loc Cert.KernelNormMemFwdIdeal.main_arg0) = m ((c.tc : Thread Cert.KernelNormMemFwdIdeal.nD Cert.KernelNormMemFwdIdeal.τ).loc Cert.KernelNormMemFwdIdeal.main_arg0)
          ∧ r.2.mem ((c.tc : Thread Cert.KernelNormMemFwdIdeal.nD Cert.KernelNormMemFwdIdeal.τ).loc Cert.KernelNormMemFwdIdeal.main_arg1) = m ((c.tc : Thread Cert.KernelNormMemFwdIdeal.nD Cert.KernelNormMemFwdIdeal.τ).loc Cert.KernelNormMemFwdIdeal.main_arg1))
      ∧ θ_run (Cert.ReferenceNormMemFwdIdeal.defs (F := Ideal)) (onTc (τ := Cert.ReferenceNormMemFwdIdeal.τ) (Cert.ReferenceNormMemFwdIdeal.main (F := Ideal))) ⟨m', fun _ => 0, g'⟩ (fun r => ∀ c : Dev Cert.ReferenceNormMemFwdIdeal.nD,
          r.2.mem ((c.tc : Thread Cert.ReferenceNormMemFwdIdeal.nD Cert.ReferenceNormMemFwdIdeal.τ).loc Cert.ReferenceNormMemFwdIdeal.main_v14) = v0 c
          ∧ r.2.mem ((c.tc : Thread Cert.ReferenceNormMemFwdIdeal.nD Cert.ReferenceNormMemFwdIdeal.τ).loc Cert.ReferenceNormMemFwdIdeal.main_arg0) = m' ((c.tc : Thread Cert.ReferenceNormMemFwdIdeal.nD Cert.ReferenceNormMemFwdIdeal.τ).loc Cert.ReferenceNormMemFwdIdeal.main_arg0)
          ∧ r.2.mem ((c.tc : Thread Cert.ReferenceNormMemFwdIdeal.nD Cert.ReferenceNormMemFwdIdeal.τ).loc Cert.ReferenceNormMemFwdIdeal.main_arg1) = m' ((c.tc : Thread Cert.ReferenceNormMemFwdIdeal.nD Cert.ReferenceNormMemFwdIdeal.τ).loc Cert.ReferenceNormMemFwdIdeal.main_arg1))

def preserves_KernelNormMemBwd_KernelNormMemBwdIdeal : Prop :=
  True

def algebraic_KernelNormMemBwdIdeal_ReferenceNormMemBwdIdeal [hKernelNormMemBwdIdeal : Cert.KernelNormMemBwdIdeal.Facts] [hReferenceNormMemBwdIdeal : Cert.ReferenceNormMemBwdIdeal.Facts] : Prop :=
  ∀ (m : (ℓ : Loc Cert.KernelNormMemBwdIdeal.nD Cert.KernelNormMemBwdIdeal.τ Cert.KernelNormMemBwdIdeal.sig) → Buf (Elt Ideal) ℓ) (g : Dev Cert.KernelNormMemBwdIdeal.nD → PrngReg)
    (m' : (ℓ : Loc Cert.ReferenceNormMemBwdIdeal.nD Cert.ReferenceNormMemBwdIdeal.τ Cert.ReferenceNormMemBwdIdeal.sig) → Buf (Elt Ideal) ℓ) (g' : Dev Cert.ReferenceNormMemBwdIdeal.nD → PrngReg), Pre_KernelNormMemBwdIdeal m →
    (∀ c : Dev Cert.KernelNormMemBwdIdeal.nD,
      m' ((c.tc : Thread Cert.ReferenceNormMemBwdIdeal.nD Cert.ReferenceNormMemBwdIdeal.τ).loc Cert.ReferenceNormMemBwdIdeal.main_arg0) = m ((c.tc : Thread Cert.KernelNormMemBwdIdeal.nD Cert.KernelNormMemBwdIdeal.τ).loc Cert.KernelNormMemBwdIdeal.main_arg0)
      ∧ m' ((c.tc : Thread Cert.ReferenceNormMemBwdIdeal.nD Cert.ReferenceNormMemBwdIdeal.τ).loc Cert.ReferenceNormMemBwdIdeal.main_arg1) = m ((c.tc : Thread Cert.KernelNormMemBwdIdeal.nD Cert.KernelNormMemBwdIdeal.τ).loc Cert.KernelNormMemBwdIdeal.main_arg1)
      ∧ m' ((c.tc : Thread Cert.ReferenceNormMemBwdIdeal.nD Cert.ReferenceNormMemBwdIdeal.τ).loc Cert.ReferenceNormMemBwdIdeal.main_arg2) = m ((c.tc : Thread Cert.KernelNormMemBwdIdeal.nD Cert.KernelNormMemBwdIdeal.τ).loc Cert.KernelNormMemBwdIdeal.main_arg2)) →
    ∃ (v0 : (c : Dev Cert.KernelNormMemBwdIdeal.nD) → Buf (Elt Ideal) ((c.tc : Thread Cert.KernelNormMemBwdIdeal.nD Cert.KernelNormMemBwdIdeal.τ).loc Cert.KernelNormMemBwdIdeal.main_v0_0)) (v1 : (c : Dev Cert.KernelNormMemBwdIdeal.nD) → Buf (Elt Ideal) ((c.tc : Thread Cert.KernelNormMemBwdIdeal.nD Cert.KernelNormMemBwdIdeal.τ).loc Cert.KernelNormMemBwdIdeal.main_v0_1)),
      θ_run (Cert.KernelNormMemBwdIdeal.defs (F := Ideal)) (onTc (τ := Cert.KernelNormMemBwdIdeal.τ) (Cert.KernelNormMemBwdIdeal.main (F := Ideal))) ⟨m, fun _ => 0, g⟩ (fun r => ∀ c : Dev Cert.KernelNormMemBwdIdeal.nD,
          r.2.mem ((c.tc : Thread Cert.KernelNormMemBwdIdeal.nD Cert.KernelNormMemBwdIdeal.τ).loc Cert.KernelNormMemBwdIdeal.main_v0_0) = v0 c
          ∧ r.2.mem ((c.tc : Thread Cert.KernelNormMemBwdIdeal.nD Cert.KernelNormMemBwdIdeal.τ).loc Cert.KernelNormMemBwdIdeal.main_v0_1) = v1 c
          ∧ r.2.mem ((c.tc : Thread Cert.KernelNormMemBwdIdeal.nD Cert.KernelNormMemBwdIdeal.τ).loc Cert.KernelNormMemBwdIdeal.main_arg0) = m ((c.tc : Thread Cert.KernelNormMemBwdIdeal.nD Cert.KernelNormMemBwdIdeal.τ).loc Cert.KernelNormMemBwdIdeal.main_arg0)
          ∧ r.2.mem ((c.tc : Thread Cert.KernelNormMemBwdIdeal.nD Cert.KernelNormMemBwdIdeal.τ).loc Cert.KernelNormMemBwdIdeal.main_arg1) = m ((c.tc : Thread Cert.KernelNormMemBwdIdeal.nD Cert.KernelNormMemBwdIdeal.τ).loc Cert.KernelNormMemBwdIdeal.main_arg1)
          ∧ r.2.mem ((c.tc : Thread Cert.KernelNormMemBwdIdeal.nD Cert.KernelNormMemBwdIdeal.τ).loc Cert.KernelNormMemBwdIdeal.main_arg2) = m ((c.tc : Thread Cert.KernelNormMemBwdIdeal.nD Cert.KernelNormMemBwdIdeal.τ).loc Cert.KernelNormMemBwdIdeal.main_arg2))
      ∧ θ_run (Cert.ReferenceNormMemBwdIdeal.defs (F := Ideal)) (onTc (τ := Cert.ReferenceNormMemBwdIdeal.τ) (Cert.ReferenceNormMemBwdIdeal.main (F := Ideal))) ⟨m', fun _ => 0, g'⟩ (fun r => ∀ c : Dev Cert.ReferenceNormMemBwdIdeal.nD,
          r.2.mem ((c.tc : Thread Cert.ReferenceNormMemBwdIdeal.nD Cert.ReferenceNormMemBwdIdeal.τ).loc Cert.ReferenceNormMemBwdIdeal.main_v36) = v0 c
          ∧ r.2.mem ((c.tc : Thread Cert.ReferenceNormMemBwdIdeal.nD Cert.ReferenceNormMemBwdIdeal.τ).loc Cert.ReferenceNormMemBwdIdeal.main_v37) = v1 c
          ∧ r.2.mem ((c.tc : Thread Cert.ReferenceNormMemBwdIdeal.nD Cert.ReferenceNormMemBwdIdeal.τ).loc Cert.ReferenceNormMemBwdIdeal.main_arg0) = m' ((c.tc : Thread Cert.ReferenceNormMemBwdIdeal.nD Cert.ReferenceNormMemBwdIdeal.τ).loc Cert.ReferenceNormMemBwdIdeal.main_arg0)
          ∧ r.2.mem ((c.tc : Thread Cert.ReferenceNormMemBwdIdeal.nD Cert.ReferenceNormMemBwdIdeal.τ).loc Cert.ReferenceNormMemBwdIdeal.main_arg1) = m' ((c.tc : Thread Cert.ReferenceNormMemBwdIdeal.nD Cert.ReferenceNormMemBwdIdeal.τ).loc Cert.ReferenceNormMemBwdIdeal.main_arg1)
          ∧ r.2.mem ((c.tc : Thread Cert.ReferenceNormMemBwdIdeal.nD Cert.ReferenceNormMemBwdIdeal.τ).loc Cert.ReferenceNormMemBwdIdeal.main_arg2) = m' ((c.tc : Thread Cert.ReferenceNormMemBwdIdeal.nD Cert.ReferenceNormMemBwdIdeal.τ).loc Cert.ReferenceNormMemBwdIdeal.main_arg2))

def preserves_KernelForget_KernelForgetIdeal : Prop :=
  True

def algebraic_KernelForgetIdeal_ReferenceForgetIdeal [hKernelForgetIdeal : Cert.KernelForgetIdeal.Facts] [hReferenceForgetIdeal : Cert.ReferenceForgetIdeal.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg)
    (m' : (ℓ : Loc Cert.ReferenceForgetIdeal.nD Cert.ReferenceForgetIdeal.τ Cert.ReferenceForgetIdeal.sig) → Buf (Elt Ideal) ℓ) (g' : Dev Cert.ReferenceForgetIdeal.nD → PrngReg), Pre_KernelForgetIdeal m →
    (∀ c : Dev Cert.KernelForgetIdeal.nD,
      m' ((c.tc : Thread Cert.ReferenceForgetIdeal.nD Cert.ReferenceForgetIdeal.τ).loc Cert.ReferenceForgetIdeal.main_arg0) = m ((c.tc : Thread Cert.KernelForgetIdeal.nD Cert.KernelForgetIdeal.τ).loc Cert.KernelForgetIdeal.main_arg0)
      ∧ m' ((c.tc : Thread Cert.ReferenceForgetIdeal.nD Cert.ReferenceForgetIdeal.τ).loc Cert.ReferenceForgetIdeal.main_arg1) = m ((c.tc : Thread Cert.KernelForgetIdeal.nD Cert.KernelForgetIdeal.τ).loc Cert.KernelForgetIdeal.main_arg1)) →
    ∃ (v0 : (c : Dev Cert.KernelForgetIdeal.nD) → Buf (Elt Ideal) ((c.tc : Thread Cert.KernelForgetIdeal.nD Cert.KernelForgetIdeal.τ).loc Cert.KernelForgetIdeal.main_v0)),
      θ_run (Cert.KernelForgetIdeal.defs (F := Ideal)) (onTc (τ := Cert.KernelForgetIdeal.τ) (Cert.KernelForgetIdeal.main (F := Ideal))) ⟨m, fun _ => 0, g⟩ (fun r => ∀ c : Dev Cert.KernelForgetIdeal.nD,
          r.2.mem ((c.tc : Thread Cert.KernelForgetIdeal.nD Cert.KernelForgetIdeal.τ).loc Cert.KernelForgetIdeal.main_v0) = v0 c
          ∧ r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
          ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1))
      ∧ θ_run (Cert.ReferenceForgetIdeal.defs (F := Ideal)) (onTc (τ := Cert.ReferenceForgetIdeal.τ) (Cert.ReferenceForgetIdeal.main (F := Ideal))) ⟨m', fun _ => 0, g'⟩ (fun r => ∀ c : Dev Cert.ReferenceForgetIdeal.nD,
          r.2.mem ((c.tc : Thread Cert.ReferenceForgetIdeal.nD Cert.ReferenceForgetIdeal.τ).loc Cert.ReferenceForgetIdeal.main_v2) = v0 c
          ∧ r.2.mem ((c.tc : Thread Cert.ReferenceForgetIdeal.nD Cert.ReferenceForgetIdeal.τ).loc Cert.ReferenceForgetIdeal.main_arg0) = m' ((c.tc : Thread Cert.ReferenceForgetIdeal.nD Cert.ReferenceForgetIdeal.τ).loc Cert.ReferenceForgetIdeal.main_arg0)
          ∧ r.2.mem ((c.tc : Thread Cert.ReferenceForgetIdeal.nD Cert.ReferenceForgetIdeal.τ).loc Cert.ReferenceForgetIdeal.main_arg1) = m' ((c.tc : Thread Cert.ReferenceForgetIdeal.nD Cert.ReferenceForgetIdeal.τ).loc Cert.ReferenceForgetIdeal.main_arg1))

def preserves_KernelForgetDw_KernelForgetDwIdeal : Prop :=
  True

def algebraic_KernelForgetDwIdeal_ReferenceForgetDwIdeal [hKernelForgetDwIdeal : Cert.KernelForgetDwIdeal.Facts] [hReferenceForgetDwIdeal : Cert.ReferenceForgetDwIdeal.Facts] : Prop :=
  ∀ (m : (ℓ : Loc Cert.KernelForgetDwIdeal.nD Cert.KernelForgetDwIdeal.τ Cert.KernelForgetDwIdeal.sig) → Buf (Elt Ideal) ℓ) (g : Dev Cert.KernelForgetDwIdeal.nD → PrngReg)
    (m' : (ℓ : Loc Cert.ReferenceForgetDwIdeal.nD Cert.ReferenceForgetDwIdeal.τ Cert.ReferenceForgetDwIdeal.sig) → Buf (Elt Ideal) ℓ) (g' : Dev Cert.ReferenceForgetDwIdeal.nD → PrngReg), Pre_KernelForgetDwIdeal m →
    (∀ c : Dev Cert.KernelForgetDwIdeal.nD,
      m' ((c.tc : Thread Cert.ReferenceForgetDwIdeal.nD Cert.ReferenceForgetDwIdeal.τ).loc Cert.ReferenceForgetDwIdeal.main_arg0) = m ((c.tc : Thread Cert.KernelForgetDwIdeal.nD Cert.KernelForgetDwIdeal.τ).loc Cert.KernelForgetDwIdeal.main_arg0)
      ∧ m' ((c.tc : Thread Cert.ReferenceForgetDwIdeal.nD Cert.ReferenceForgetDwIdeal.τ).loc Cert.ReferenceForgetDwIdeal.main_arg1) = m ((c.tc : Thread Cert.KernelForgetDwIdeal.nD Cert.KernelForgetDwIdeal.τ).loc Cert.KernelForgetDwIdeal.main_arg1)) →
    ∃ (v0 : (c : Dev Cert.KernelForgetDwIdeal.nD) → Buf (Elt Ideal) ((c.tc : Thread Cert.KernelForgetDwIdeal.nD Cert.KernelForgetDwIdeal.τ).loc Cert.KernelForgetDwIdeal.main_v0)),
      θ_run (Cert.KernelForgetDwIdeal.defs (F := Ideal)) (onTc (τ := Cert.KernelForgetDwIdeal.τ) (Cert.KernelForgetDwIdeal.main (F := Ideal))) ⟨m, fun _ => 0, g⟩ (fun r => ∀ c : Dev Cert.KernelForgetDwIdeal.nD,
          r.2.mem ((c.tc : Thread Cert.KernelForgetDwIdeal.nD Cert.KernelForgetDwIdeal.τ).loc Cert.KernelForgetDwIdeal.main_v0) = v0 c
          ∧ r.2.mem ((c.tc : Thread Cert.KernelForgetDwIdeal.nD Cert.KernelForgetDwIdeal.τ).loc Cert.KernelForgetDwIdeal.main_arg0) = m ((c.tc : Thread Cert.KernelForgetDwIdeal.nD Cert.KernelForgetDwIdeal.τ).loc Cert.KernelForgetDwIdeal.main_arg0)
          ∧ r.2.mem ((c.tc : Thread Cert.KernelForgetDwIdeal.nD Cert.KernelForgetDwIdeal.τ).loc Cert.KernelForgetDwIdeal.main_arg1) = m ((c.tc : Thread Cert.KernelForgetDwIdeal.nD Cert.KernelForgetDwIdeal.τ).loc Cert.KernelForgetDwIdeal.main_arg1))
      ∧ θ_run (Cert.ReferenceForgetDwIdeal.defs (F := Ideal)) (onTc (τ := Cert.ReferenceForgetDwIdeal.τ) (Cert.ReferenceForgetDwIdeal.main (F := Ideal))) ⟨m', fun _ => 0, g'⟩ (fun r => ∀ c : Dev Cert.ReferenceForgetDwIdeal.nD,
          r.2.mem ((c.tc : Thread Cert.ReferenceForgetDwIdeal.nD Cert.ReferenceForgetDwIdeal.τ).loc Cert.ReferenceForgetDwIdeal.main_v5) = v0 c
          ∧ r.2.mem ((c.tc : Thread Cert.ReferenceForgetDwIdeal.nD Cert.ReferenceForgetDwIdeal.τ).loc Cert.ReferenceForgetDwIdeal.main_arg0) = m' ((c.tc : Thread Cert.ReferenceForgetDwIdeal.nD Cert.ReferenceForgetDwIdeal.τ).loc Cert.ReferenceForgetDwIdeal.main_arg0)
          ∧ r.2.mem ((c.tc : Thread Cert.ReferenceForgetDwIdeal.nD Cert.ReferenceForgetDwIdeal.τ).loc Cert.ReferenceForgetDwIdeal.main_arg1) = m' ((c.tc : Thread Cert.ReferenceForgetDwIdeal.nD Cert.ReferenceForgetDwIdeal.τ).loc Cert.ReferenceForgetDwIdeal.main_arg1))

def preserves_KernelForgetDx_KernelForgetDxIdeal : Prop :=
  True

def algebraic_KernelForgetDxIdeal_ReferenceForgetDxIdeal [hKernelForgetDxIdeal : Cert.KernelForgetDxIdeal.Facts] [hReferenceForgetDxIdeal : Cert.ReferenceForgetDxIdeal.Facts] : Prop :=
  ∀ (m : (ℓ : Loc Cert.KernelForgetDxIdeal.nD Cert.KernelForgetDxIdeal.τ Cert.KernelForgetDxIdeal.sig) → Buf (Elt Ideal) ℓ) (g : Dev Cert.KernelForgetDxIdeal.nD → PrngReg)
    (m' : (ℓ : Loc Cert.ReferenceForgetDxIdeal.nD Cert.ReferenceForgetDxIdeal.τ Cert.ReferenceForgetDxIdeal.sig) → Buf (Elt Ideal) ℓ) (g' : Dev Cert.ReferenceForgetDxIdeal.nD → PrngReg), Pre_KernelForgetDxIdeal m →
    (∀ c : Dev Cert.KernelForgetDxIdeal.nD,
      m' ((c.tc : Thread Cert.ReferenceForgetDxIdeal.nD Cert.ReferenceForgetDxIdeal.τ).loc Cert.ReferenceForgetDxIdeal.main_arg0) = m ((c.tc : Thread Cert.KernelForgetDxIdeal.nD Cert.KernelForgetDxIdeal.τ).loc Cert.KernelForgetDxIdeal.main_arg0)
      ∧ m' ((c.tc : Thread Cert.ReferenceForgetDxIdeal.nD Cert.ReferenceForgetDxIdeal.τ).loc Cert.ReferenceForgetDxIdeal.main_arg1) = m ((c.tc : Thread Cert.KernelForgetDxIdeal.nD Cert.KernelForgetDxIdeal.τ).loc Cert.KernelForgetDxIdeal.main_arg1)) →
    ∃ (v0 : (c : Dev Cert.KernelForgetDxIdeal.nD) → Buf (Elt Ideal) ((c.tc : Thread Cert.KernelForgetDxIdeal.nD Cert.KernelForgetDxIdeal.τ).loc Cert.KernelForgetDxIdeal.main_v0)),
      θ_run (Cert.KernelForgetDxIdeal.defs (F := Ideal)) (onTc (τ := Cert.KernelForgetDxIdeal.τ) (Cert.KernelForgetDxIdeal.main (F := Ideal))) ⟨m, fun _ => 0, g⟩ (fun r => ∀ c : Dev Cert.KernelForgetDxIdeal.nD,
          r.2.mem ((c.tc : Thread Cert.KernelForgetDxIdeal.nD Cert.KernelForgetDxIdeal.τ).loc Cert.KernelForgetDxIdeal.main_v0) = v0 c
          ∧ r.2.mem ((c.tc : Thread Cert.KernelForgetDxIdeal.nD Cert.KernelForgetDxIdeal.τ).loc Cert.KernelForgetDxIdeal.main_arg0) = m ((c.tc : Thread Cert.KernelForgetDxIdeal.nD Cert.KernelForgetDxIdeal.τ).loc Cert.KernelForgetDxIdeal.main_arg0)
          ∧ r.2.mem ((c.tc : Thread Cert.KernelForgetDxIdeal.nD Cert.KernelForgetDxIdeal.τ).loc Cert.KernelForgetDxIdeal.main_arg1) = m ((c.tc : Thread Cert.KernelForgetDxIdeal.nD Cert.KernelForgetDxIdeal.τ).loc Cert.KernelForgetDxIdeal.main_arg1))
      ∧ θ_run (Cert.ReferenceForgetDxIdeal.defs (F := Ideal)) (onTc (τ := Cert.ReferenceForgetDxIdeal.τ) (Cert.ReferenceForgetDxIdeal.main (F := Ideal))) ⟨m', fun _ => 0, g'⟩ (fun r => ∀ c : Dev Cert.ReferenceForgetDxIdeal.nD,
          r.2.mem ((c.tc : Thread Cert.ReferenceForgetDxIdeal.nD Cert.ReferenceForgetDxIdeal.τ).loc Cert.ReferenceForgetDxIdeal.main_v4) = v0 c
          ∧ r.2.mem ((c.tc : Thread Cert.ReferenceForgetDxIdeal.nD Cert.ReferenceForgetDxIdeal.τ).loc Cert.ReferenceForgetDxIdeal.main_arg0) = m' ((c.tc : Thread Cert.ReferenceForgetDxIdeal.nD Cert.ReferenceForgetDxIdeal.τ).loc Cert.ReferenceForgetDxIdeal.main_arg0)
          ∧ r.2.mem ((c.tc : Thread Cert.ReferenceForgetDxIdeal.nD Cert.ReferenceForgetDxIdeal.τ).loc Cert.ReferenceForgetDxIdeal.main_arg1) = m' ((c.tc : Thread Cert.ReferenceForgetDxIdeal.nD Cert.ReferenceForgetDxIdeal.τ).loc Cert.ReferenceForgetDxIdeal.main_arg1))

def Claim : Prop :=
  ∃ (hKernel : Cert.Kernel.Facts) (hKernelIdeal : Cert.KernelIdeal.Facts) (hReferenceIdeal : Cert.ReferenceIdeal.Facts) (hKernelLoss : Cert.KernelLoss.Facts) (hKernelLossIdeal : Cert.KernelLossIdeal.Facts) (hReferenceLossIdeal : Cert.ReferenceLossIdeal.Facts) (hKernelDownDx : Cert.KernelDownDx.Facts) (hKernelDownDxIdeal : Cert.KernelDownDxIdeal.Facts) (hReferenceDownDxIdeal : Cert.ReferenceDownDxIdeal.Facts) (hKernelDownDw : Cert.KernelDownDw.Facts) (hKernelDownDwIdeal : Cert.KernelDownDwIdeal.Facts) (hReferenceDownDwIdeal : Cert.ReferenceDownDwIdeal.Facts) (hKernelUp : Cert.KernelUp.Facts) (hKernelUpIdeal : Cert.KernelUpIdeal.Facts) (hReferenceUpIdeal : Cert.ReferenceUpIdeal.Facts) (hKernelUpDx : Cert.KernelUpDx.Facts) (hKernelUpDxIdeal : Cert.KernelUpDxIdeal.Facts) (hReferenceUpDxIdeal : Cert.ReferenceUpDxIdeal.Facts) (hKernelUpDw : Cert.KernelUpDw.Facts) (hKernelUpDwIdeal : Cert.KernelUpDwIdeal.Facts) (hReferenceUpDwIdeal : Cert.ReferenceUpDwIdeal.Facts) (hKernelIn : Cert.KernelIn.Facts) (hKernelInIdeal : Cert.KernelInIdeal.Facts) (hReferenceInIdeal : Cert.ReferenceInIdeal.Facts) (hKernelInDw : Cert.KernelInDw.Facts) (hKernelInDwIdeal : Cert.KernelInDwIdeal.Facts) (hReferenceInDwIdeal : Cert.ReferenceInDwIdeal.Facts) (hKernelInDx : Cert.KernelInDx.Facts) (hKernelInDxIdeal : Cert.KernelInDxIdeal.Facts) (hReferenceInDxIdeal : Cert.ReferenceInDxIdeal.Facts) (hKernelNorm : Cert.KernelNorm.Facts) (hKernelNormIdeal : Cert.KernelNormIdeal.Facts) (hReferenceNormIdeal : Cert.ReferenceNormIdeal.Facts) (hKernelMerge : Cert.KernelMerge.Facts) (hKernelMergeIdeal : Cert.KernelMergeIdeal.Facts) (hReferenceMergeIdeal : Cert.ReferenceMergeIdeal.Facts) (hKernelMergeBwd : Cert.KernelMergeBwd.Facts) (hKernelMergeBwdIdeal : Cert.KernelMergeBwdIdeal.Facts) (hReferenceMergeBwdIdeal : Cert.ReferenceMergeBwdIdeal.Facts) (hKernelOutDw : Cert.KernelOutDw.Facts) (hKernelOutDwIdeal : Cert.KernelOutDwIdeal.Facts) (hReferenceOutDwIdeal : Cert.ReferenceOutDwIdeal.Facts) (hKernelBrDw : Cert.KernelBrDw.Facts) (hKernelBrDwIdeal : Cert.KernelBrDwIdeal.Facts) (hReferenceBrDwIdeal : Cert.ReferenceBrDwIdeal.Facts) (hKernelAdamIn : Cert.KernelAdamIn.Facts) (hKernelAdamInIdeal : Cert.KernelAdamInIdeal.Facts) (hReferenceAdamInIdeal : Cert.ReferenceAdamInIdeal.Facts) (hKernelAdamRows : Cert.KernelAdamRows.Facts) (hKernelAdamRowsIdeal : Cert.KernelAdamRowsIdeal.Facts) (hReferenceAdamRowsIdeal : Cert.ReferenceAdamRowsIdeal.Facts) (hKernelAdamBr : Cert.KernelAdamBr.Facts) (hKernelAdamBrIdeal : Cert.KernelAdamBrIdeal.Facts) (hReferenceAdamBrIdeal : Cert.ReferenceAdamBrIdeal.Facts) (hKernelAdamUp : Cert.KernelAdamUp.Facts) (hKernelAdamUpIdeal : Cert.KernelAdamUpIdeal.Facts) (hReferenceAdamUpIdeal : Cert.ReferenceAdamUpIdeal.Facts) (hKernelAdamDown : Cert.KernelAdamDown.Facts) (hKernelAdamDownIdeal : Cert.KernelAdamDownIdeal.Facts) (hReferenceAdamDownIdeal : Cert.ReferenceAdamDownIdeal.Facts) (hKernelAdamConv : Cert.KernelAdamConv.Facts) (hKernelAdamConvIdeal : Cert.KernelAdamConvIdeal.Facts) (hReferenceAdamConvIdeal : Cert.ReferenceAdamConvIdeal.Facts) (hKernelKvProj : Cert.KernelKvProj.Facts) (hKernelKvProjIdeal : Cert.KernelKvProjIdeal.Facts) (hReferenceKvProjIdeal : Cert.ReferenceKvProjIdeal.Facts) (hKernelKvDw : Cert.KernelKvDw.Facts) (hKernelKvDwIdeal : Cert.KernelKvDwIdeal.Facts) (hReferenceKvDwIdeal : Cert.ReferenceKvDwIdeal.Facts) (hKernelKvDx : Cert.KernelKvDx.Facts) (hKernelKvDxIdeal : Cert.KernelKvDxIdeal.Facts) (hReferenceKvDxIdeal : Cert.ReferenceKvDxIdeal.Facts) (hKernelMemFwd : Cert.KernelMemFwd.Facts) (hKernelMemFwdIdeal : Cert.KernelMemFwdIdeal.Facts) (hReferenceMemFwdIdeal : Cert.ReferenceMemFwdIdeal.Facts) (hKernelNormFwd : Cert.KernelNormFwd.Facts) (hKernelNormFwdIdeal : Cert.KernelNormFwdIdeal.Facts) (hReferenceNormFwdIdeal : Cert.ReferenceNormFwdIdeal.Facts) (hKernelNormMemFwd : Cert.KernelNormMemFwd.Facts) (hKernelNormMemFwdIdeal : Cert.KernelNormMemFwdIdeal.Facts) (hReferenceNormMemFwdIdeal : Cert.ReferenceNormMemFwdIdeal.Facts) (hKernelNormMemBwd : Cert.KernelNormMemBwd.Facts) (hKernelNormMemBwdIdeal : Cert.KernelNormMemBwdIdeal.Facts) (hReferenceNormMemBwdIdeal : Cert.ReferenceNormMemBwdIdeal.Facts) (hKernelForget : Cert.KernelForget.Facts) (hKernelForgetIdeal : Cert.KernelForgetIdeal.Facts) (hReferenceForgetIdeal : Cert.ReferenceForgetIdeal.Facts) (hKernelForgetDw : Cert.KernelForgetDw.Facts) (hKernelForgetDwIdeal : Cert.KernelForgetDwIdeal.Facts) (hReferenceForgetDwIdeal : Cert.ReferenceForgetDwIdeal.Facts) (hKernelForgetDx : Cert.KernelForgetDx.Facts) (hKernelForgetDxIdeal : Cert.KernelForgetDxIdeal.Facts) (hReferenceForgetDxIdeal : Cert.ReferenceForgetDxIdeal.Facts) (hPre_finite_gains : Cert.Pre_finite_gains.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelDownDx (hKernelDownDx := hKernelDownDx)
    ∧ quiescent_KernelDownDxIdeal (hKernelDownDxIdeal := hKernelDownDxIdeal)
    ∧ quiescent_ReferenceDownDxIdeal (hReferenceDownDxIdeal := hReferenceDownDxIdeal)
    ∧ quiescent_KernelDownDw (hKernelDownDw := hKernelDownDw)
    ∧ quiescent_KernelDownDwIdeal (hKernelDownDwIdeal := hKernelDownDwIdeal)
    ∧ quiescent_ReferenceDownDwIdeal (hReferenceDownDwIdeal := hReferenceDownDwIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelUpDx (hKernelUpDx := hKernelUpDx)
    ∧ quiescent_KernelUpDxIdeal (hKernelUpDxIdeal := hKernelUpDxIdeal)
    ∧ quiescent_ReferenceUpDxIdeal (hReferenceUpDxIdeal := hReferenceUpDxIdeal)
    ∧ quiescent_KernelUpDw (hKernelUpDw := hKernelUpDw)
    ∧ quiescent_KernelUpDwIdeal (hKernelUpDwIdeal := hKernelUpDwIdeal)
    ∧ quiescent_ReferenceUpDwIdeal (hReferenceUpDwIdeal := hReferenceUpDwIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelInDx (hKernelInDx := hKernelInDx)
    ∧ quiescent_KernelInDxIdeal (hKernelInDxIdeal := hKernelInDxIdeal)
    ∧ quiescent_ReferenceInDxIdeal (hReferenceInDxIdeal := hReferenceInDxIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelMergeBwd (hKernelMergeBwd := hKernelMergeBwd)
    ∧ quiescent_KernelMergeBwdIdeal (hKernelMergeBwdIdeal := hKernelMergeBwdIdeal)
    ∧ quiescent_ReferenceMergeBwdIdeal (hReferenceMergeBwdIdeal := hReferenceMergeBwdIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelBrDw (hKernelBrDw := hKernelBrDw)
    ∧ quiescent_KernelBrDwIdeal (hKernelBrDwIdeal := hKernelBrDwIdeal)
    ∧ quiescent_ReferenceBrDwIdeal (hReferenceBrDwIdeal := hReferenceBrDwIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamRows (hKernelAdamRows := hKernelAdamRows)
    ∧ quiescent_KernelAdamRowsIdeal (hKernelAdamRowsIdeal := hKernelAdamRowsIdeal)
    ∧ quiescent_ReferenceAdamRowsIdeal (hReferenceAdamRowsIdeal := hReferenceAdamRowsIdeal)
    ∧ quiescent_KernelAdamBr (hKernelAdamBr := hKernelAdamBr)
    ∧ quiescent_KernelAdamBrIdeal (hKernelAdamBrIdeal := hKernelAdamBrIdeal)
    ∧ quiescent_ReferenceAdamBrIdeal (hReferenceAdamBrIdeal := hReferenceAdamBrIdeal)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelAdamConv (hKernelAdamConv := hKernelAdamConv)
    ∧ quiescent_KernelAdamConvIdeal (hKernelAdamConvIdeal := hKernelAdamConvIdeal)
    ∧ quiescent_ReferenceAdamConvIdeal (hReferenceAdamConvIdeal := hReferenceAdamConvIdeal)
    ∧ quiescent_KernelKvProj (hKernelKvProj := hKernelKvProj)
    ∧ quiescent_KernelKvProjIdeal (hKernelKvProjIdeal := hKernelKvProjIdeal)
    ∧ quiescent_ReferenceKvProjIdeal (hReferenceKvProjIdeal := hReferenceKvProjIdeal)
    ∧ quiescent_KernelKvDw (hKernelKvDw := hKernelKvDw)
    ∧ quiescent_KernelKvDwIdeal (hKernelKvDwIdeal := hKernelKvDwIdeal)
    ∧ quiescent_ReferenceKvDwIdeal (hReferenceKvDwIdeal := hReferenceKvDwIdeal)
    ∧ quiescent_KernelKvDx (hKernelKvDx := hKernelKvDx)
    ∧ quiescent_KernelKvDxIdeal (hKernelKvDxIdeal := hKernelKvDxIdeal)
    ∧ quiescent_ReferenceKvDxIdeal (hReferenceKvDxIdeal := hReferenceKvDxIdeal)
    ∧ quiescent_KernelMemFwd (hKernelMemFwd := hKernelMemFwd)
    ∧ quiescent_KernelMemFwdIdeal (hKernelMemFwdIdeal := hKernelMemFwdIdeal)
    ∧ quiescent_ReferenceMemFwdIdeal (hReferenceMemFwdIdeal := hReferenceMemFwdIdeal)
    ∧ quiescent_KernelNormFwd (hKernelNormFwd := hKernelNormFwd)
    ∧ quiescent_KernelNormFwdIdeal (hKernelNormFwdIdeal := hKernelNormFwdIdeal)
    ∧ quiescent_ReferenceNormFwdIdeal (hReferenceNormFwdIdeal := hReferenceNormFwdIdeal)
    ∧ quiescent_KernelNormMemFwd (hKernelNormMemFwd := hKernelNormMemFwd)
    ∧ quiescent_KernelNormMemFwdIdeal (hKernelNormMemFwdIdeal := hKernelNormMemFwdIdeal)
    ∧ quiescent_ReferenceNormMemFwdIdeal (hReferenceNormMemFwdIdeal := hReferenceNormMemFwdIdeal)
    ∧ quiescent_KernelNormMemBwd (hKernelNormMemBwd := hKernelNormMemBwd)
    ∧ quiescent_KernelNormMemBwdIdeal (hKernelNormMemBwdIdeal := hKernelNormMemBwdIdeal)
    ∧ quiescent_ReferenceNormMemBwdIdeal (hReferenceNormMemBwdIdeal := hReferenceNormMemBwdIdeal)
    ∧ quiescent_KernelForget (hKernelForget := hKernelForget)
    ∧ quiescent_KernelForgetIdeal (hKernelForgetIdeal := hKernelForgetIdeal)
    ∧ quiescent_ReferenceForgetIdeal (hReferenceForgetIdeal := hReferenceForgetIdeal)
    ∧ quiescent_KernelForgetDw (hKernelForgetDw := hKernelForgetDw)
    ∧ quiescent_KernelForgetDwIdeal (hKernelForgetDwIdeal := hKernelForgetDwIdeal)
    ∧ quiescent_ReferenceForgetDwIdeal (hReferenceForgetDwIdeal := hReferenceForgetDwIdeal)
    ∧ quiescent_KernelForgetDx (hKernelForgetDx := hKernelForgetDx)
    ∧ quiescent_KernelForgetDxIdeal (hKernelForgetDxIdeal := hKernelForgetDxIdeal)
    ∧ quiescent_ReferenceForgetDxIdeal (hReferenceForgetDxIdeal := hReferenceForgetDxIdeal)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_KernelLoss_KernelLossIdeal
    ∧ algebraic_KernelLossIdeal_ReferenceLossIdeal (hKernelLossIdeal := hKernelLossIdeal) (hReferenceLossIdeal := hReferenceLossIdeal)
    ∧ preserves_KernelDownDx_KernelDownDxIdeal
    ∧ algebraic_KernelDownDxIdeal_ReferenceDownDxIdeal (hKernelDownDxIdeal := hKernelDownDxIdeal) (hReferenceDownDxIdeal := hReferenceDownDxIdeal)
    ∧ preserves_KernelDownDw_KernelDownDwIdeal
    ∧ algebraic_KernelDownDwIdeal_ReferenceDownDwIdeal (hKernelDownDwIdeal := hKernelDownDwIdeal) (hReferenceDownDwIdeal := hReferenceDownDwIdeal)
    ∧ preserves_KernelUp_KernelUpIdeal
    ∧ algebraic_KernelUpIdeal_ReferenceUpIdeal (hKernelUpIdeal := hKernelUpIdeal) (hReferenceUpIdeal := hReferenceUpIdeal)
    ∧ preserves_KernelUpDx_KernelUpDxIdeal
    ∧ algebraic_KernelUpDxIdeal_ReferenceUpDxIdeal (hKernelUpDxIdeal := hKernelUpDxIdeal) (hReferenceUpDxIdeal := hReferenceUpDxIdeal)
    ∧ preserves_KernelUpDw_KernelUpDwIdeal
    ∧ algebraic_KernelUpDwIdeal_ReferenceUpDwIdeal (hKernelUpDwIdeal := hKernelUpDwIdeal) (hReferenceUpDwIdeal := hReferenceUpDwIdeal)
    ∧ preserves_KernelIn_KernelInIdeal
    ∧ algebraic_KernelInIdeal_ReferenceInIdeal (hKernelInIdeal := hKernelInIdeal) (hReferenceInIdeal := hReferenceInIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelInDx_KernelInDxIdeal
    ∧ algebraic_KernelInDxIdeal_ReferenceInDxIdeal (hKernelInDxIdeal := hKernelInDxIdeal) (hReferenceInDxIdeal := hReferenceInDxIdeal)
    ∧ preserves_KernelNorm_KernelNormIdeal
    ∧ algebraic_KernelNormIdeal_ReferenceNormIdeal (hKernelNormIdeal := hKernelNormIdeal) (hReferenceNormIdeal := hReferenceNormIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelMergeBwd_KernelMergeBwdIdeal
    ∧ algebraic_KernelMergeBwdIdeal_ReferenceMergeBwdIdeal (hKernelMergeBwdIdeal := hKernelMergeBwdIdeal) (hReferenceMergeBwdIdeal := hReferenceMergeBwdIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelBrDw_KernelBrDwIdeal
    ∧ algebraic_KernelBrDwIdeal_ReferenceBrDwIdeal (hKernelBrDwIdeal := hKernelBrDwIdeal) (hReferenceBrDwIdeal := hReferenceBrDwIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamRows_KernelAdamRowsIdeal
    ∧ algebraic_KernelAdamRowsIdeal_ReferenceAdamRowsIdeal (hKernelAdamRowsIdeal := hKernelAdamRowsIdeal) (hReferenceAdamRowsIdeal := hReferenceAdamRowsIdeal)
    ∧ preserves_KernelAdamBr_KernelAdamBrIdeal
    ∧ algebraic_KernelAdamBrIdeal_ReferenceAdamBrIdeal (hKernelAdamBrIdeal := hKernelAdamBrIdeal) (hReferenceAdamBrIdeal := hReferenceAdamBrIdeal)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelAdamConv_KernelAdamConvIdeal
    ∧ algebraic_KernelAdamConvIdeal_ReferenceAdamConvIdeal (hKernelAdamConvIdeal := hKernelAdamConvIdeal) (hReferenceAdamConvIdeal := hReferenceAdamConvIdeal)
    ∧ preserves_KernelKvProj_KernelKvProjIdeal
    ∧ algebraic_KernelKvProjIdeal_ReferenceKvProjIdeal (hKernelKvProjIdeal := hKernelKvProjIdeal) (hReferenceKvProjIdeal := hReferenceKvProjIdeal)
    ∧ preserves_KernelKvDw_KernelKvDwIdeal
    ∧ algebraic_KernelKvDwIdeal_ReferenceKvDwIdeal (hKernelKvDwIdeal := hKernelKvDwIdeal) (hReferenceKvDwIdeal := hReferenceKvDwIdeal)
    ∧ preserves_KernelKvDx_KernelKvDxIdeal
    ∧ algebraic_KernelKvDxIdeal_ReferenceKvDxIdeal (hKernelKvDxIdeal := hKernelKvDxIdeal) (hReferenceKvDxIdeal := hReferenceKvDxIdeal)
    ∧ preserves_KernelMemFwd_KernelMemFwdIdeal
    ∧ algebraic_KernelMemFwdIdeal_ReferenceMemFwdIdeal (hKernelMemFwdIdeal := hKernelMemFwdIdeal) (hReferenceMemFwdIdeal := hReferenceMemFwdIdeal)
    ∧ preserves_KernelNormFwd_KernelNormFwdIdeal
    ∧ algebraic_KernelNormFwdIdeal_ReferenceNormFwdIdeal (hKernelNormFwdIdeal := hKernelNormFwdIdeal) (hReferenceNormFwdIdeal := hReferenceNormFwdIdeal)
    ∧ preserves_KernelNormMemFwd_KernelNormMemFwdIdeal
    ∧ algebraic_KernelNormMemFwdIdeal_ReferenceNormMemFwdIdeal (hKernelNormMemFwdIdeal := hKernelNormMemFwdIdeal) (hReferenceNormMemFwdIdeal := hReferenceNormMemFwdIdeal)
    ∧ preserves_KernelNormMemBwd_KernelNormMemBwdIdeal
    ∧ algebraic_KernelNormMemBwdIdeal_ReferenceNormMemBwdIdeal (hKernelNormMemBwdIdeal := hKernelNormMemBwdIdeal) (hReferenceNormMemBwdIdeal := hReferenceNormMemBwdIdeal)
    ∧ preserves_KernelForget_KernelForgetIdeal
    ∧ algebraic_KernelForgetIdeal_ReferenceForgetIdeal (hKernelForgetIdeal := hKernelForgetIdeal) (hReferenceForgetIdeal := hReferenceForgetIdeal)
    ∧ preserves_KernelForgetDw_KernelForgetDwIdeal
    ∧ algebraic_KernelForgetDwIdeal_ReferenceForgetDwIdeal (hKernelForgetDwIdeal := hKernelForgetDwIdeal) (hReferenceForgetDwIdeal := hReferenceForgetDwIdeal)
    ∧ preserves_KernelForgetDx_KernelForgetDxIdeal
    ∧ algebraic_KernelForgetDxIdeal_ReferenceForgetDxIdeal (hKernelForgetDxIdeal := hKernelForgetDxIdeal) (hReferenceForgetDxIdeal := hReferenceForgetDxIdeal)
-- ==== Pre_finite_gains.lean ====
abbrev S4x2048x7168 : Shape := ⟨3, ![4, 2048, 7168]⟩
abbrev S4x256x1024 : Shape := ⟨3, ![4, 256, 1024]⟩
abbrev S4x2048x512 : Shape := ⟨3, ![4, 2048, 512]⟩
abbrev S1x128 : Shape := ⟨2, ![1, 128]⟩
abbrev S_ : Shape := ⟨0, ![]⟩

class Facts : Prop where
  bcast_S_S1x128 : S_.BroadcastsInDim S1x128 (![] : Fin 0 → Fin S1x128.rank)

variable [Facts]

def fn {F : FTy → Type} [FloatOps F] (main_arg0 : FVec F S4x2048x7168 .f32) (main_arg1 : FVec F S4x256x1024 .f32) (main_arg2 : FVec F S4x2048x512 .f32) (main_arg3 : FVec F S1x128 .f32) (main_arg4 : FVec F S1x128 .f32) (main_arg5 : FVec F S4x2048x7168 .bf16) : IVec S1x128 1 :=
  let main_v0 : FVec F S1x128 .f32 := Host.absf main_arg3
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_v3 : FVec F S1x128 .f32 := Host.absf main_arg4
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : IVec S1x128 1 := andi main_v2 main_v5
  main_v6
-- ==== Kernel.lean ====
abbrev S4x2048x7168 : Shape := ⟨3, ![4, 2048, 7168]⟩
abbrev S4x256x1024 : Shape := ⟨3, ![4, 256, 1024]⟩
abbrev S4x2048x512 : Shape := ⟨3, ![4, 2048, 512]⟩
abbrev S1x128 : Shape := ⟨2, ![1, 128]⟩
abbrev S4x256x512 : Shape := ⟨3, ![4, 256, 512]⟩
abbrev S1x2048x128 : Shape := ⟨3, ![1, 2048, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S2048x128 : Shape := ⟨2, ![2048, 128]⟩
abbrev S2048 : Shape := ⟨1, ![2048]⟩
abbrev S2048x1 : Shape := ⟨2, ![2048, 1]⟩
abbrev S2048x256 : Shape := ⟨2, ![2048, 256]⟩
abbrev S128 : Shape := ⟨1, ![128]⟩

abbrev nBuf : Space → Nat
  | .hbm => 11
  | .vmem => 18
  | .smem => 0
  | _ => 0

abbrev bufTy : (tb : Table) → Fin (tcTables nBuf tb) → BufTy
  | .hbm, ⟨0, _⟩ => ⟨S4x2048x7168, .f32⟩
  | .hbm, ⟨1, _⟩ => ⟨S4x256x1024, .f32⟩
  | .hbm, ⟨2, _⟩ => ⟨S4x2048x512, .f32⟩
  | .hbm, ⟨3, _⟩ => ⟨S1x128, .f32⟩
  | .hbm, ⟨4, _⟩ => ⟨S1x128, .f32⟩
  | .hbm, ⟨5, _⟩ => ⟨S4x2048x7168, .bf16⟩
  | .hbm, ⟨6, _⟩ => ⟨S4x2048x7168, .bf16⟩
  | .hbm, ⟨7, _⟩ => ⟨S4x256x512, .f32⟩
  | .hbm, ⟨8, _⟩ => ⟨S4x256x512, .f32⟩
  | .hbm, ⟨9, _⟩ => ⟨S1x128, .f32⟩
  | .hbm, ⟨10, _⟩ => ⟨S1x128, .f32⟩
  | .local _ .vmem, ⟨0, _⟩ => ⟨S1x2048x128, .f32⟩
  | .local _ .vmem, ⟨1, _⟩ => ⟨S1x2048x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x2048x128, .f32⟩
  | .local _ .vmem, ⟨7, _⟩ => ⟨S1x2048x128, .f32⟩
  | .local _ .vmem, ⟨8, _⟩ => ⟨S1x128, .f32⟩
  | .local _ .vmem, ⟨9, _⟩ => ⟨S1x128, .f32⟩
  | .local _ .vmem, ⟨10, _⟩ => ⟨S1x2048x128, .bf16⟩
  | .local _ .vmem, ⟨11, _⟩ => ⟨S1x2048x128, .bf16⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x128, .f32⟩
  | .local _ .vmem, ⟨17, _⟩ => ⟨S1x128, .f32⟩
  | _, _ => ⟨S4x2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c2048_i32 : BitVec 32 := 2048#32
  let v24 : BitVec 32 := Scalar.muli c0_i32 c2048_i32
  v24
def k0_off1 : Fin 3 → Nat :=
  let c0_14 : Index := 0#32
  let c0_i32 : BitVec 32 := 0#32
  let c2048_i32 : BitVec 32 := 2048#32
  let v24 : BitVec 32 := Scalar.muli c0_i32 c2048_i32
  let v25 : BitVec 32 := v24
  let v26 : Index := Scalar.indexCast v25
  let c0_15 : Index := 0#32
  ![0, v26.toNat, 0]
def k0_cond1 (i : grid0.Coords) : BitVec 1 :=
  let arg0 : BitVec 32 := BitVec.ofNat 32 (i 0).val
  let c0_i32_50 : BitVec 32 := 0#32
  let v143 : BitVec 1 := Scalar.cmpi .eq arg0 c0_i32_50
  let arg1 : BitVec 32 := BitVec.ofNat 32 (i 1).val
  let c0_i32_51 : BitVec 32 := 0#32
  let v144 : BitVec 1 := Scalar.cmpi .eq arg1 c0_i32_51
  let v145 : BitVec 1 := Scalar.andi v143 v144
  let v146 : BitVec 32 := Scalar.extui v145
  let c0_i32_52 : BitVec 32 := 0#32
  let v147 : BitVec 1 := Scalar.cmpi .ne v146 c0_i32_52
  v147

def k0_cond2 (i : grid0.Coords) : BitVec 1 :=
  let arg0 : BitVec 32 := BitVec.ofNat 32 (i 0).val
  let c0_i32_50 : BitVec 32 := 0#32
  let v143 : BitVec 1 := Scalar.cmpi .eq arg0 c0_i32_50
  let arg1 : BitVec 32 := BitVec.ofNat 32 (i 1).val
  let c0_i32_51 : BitVec 32 := 0#32
  let v144 : BitVec 1 := Scalar.cmpi .eq arg1 c0_i32_51
  let v145 : BitVec 1 := Scalar.andi v143 v144
  let v_true : BitVec 1 := 1#1
  let v148 : BitVec 1 := Scalar.xori v145 v_true
  let v149 : BitVec 32 := Scalar.extui v148
  let c0_i32_53 : BitVec 32 := 0#32
  let v150 : BitVec 1 := Scalar.cmpi .ne v149 c0_i32_53
  v150

def k0_cond3 (i : grid0.Coords) : BitVec 1 :=
  let arg0 : BitVec 32 := BitVec.ofNat 32 (i 0).val
  let c0_i32_50 : BitVec 32 := 0#32
  let v143 : BitVec 1 := Scalar.cmpi .eq arg0 c0_i32_50
  let arg1 : BitVec 32 := BitVec.ofNat 32 (i 1).val
  let c0_i32_51 : BitVec 32 := 0#32
  let v144 : BitVec 1 := Scalar.cmpi .eq arg1 c0_i32_51
  let v145 : BitVec 1 := Scalar.andi v143 v144
  let v151 : BitVec 32 := Scalar.extui v145
  let c0_i32_54 : BitVec 32 := 0#32
  let v152 : BitVec 1 := Scalar.cmpi .ne v151 c0_i32_54
  v152

def k0_cond4 (i : grid0.Coords) : BitVec 1 :=
  let arg0 : BitVec 32 := BitVec.ofNat 32 (i 0).val
  let c0_i32_50 : BitVec 32 := 0#32
  let v143 : BitVec 1 := Scalar.cmpi .eq arg0 c0_i32_50
  let arg1 : BitVec 32 := BitVec.ofNat 32 (i 1).val
  let c0_i32_51 : BitVec 32 := 0#32
  let v144 : BitVec 1 := Scalar.cmpi .eq arg1 c0_i32_51
  let v145 : BitVec 1 := Scalar.andi v143 v144
  let true_55 : BitVec 1 := 1#1
  let v153 : BitVec 1 := Scalar.xori v145 true_55
  let v154 : BitVec 32 := Scalar.extui v153
  let c0_i32_56 : BitVec 32 := 0#32
  let v155 : BitVec 1 := Scalar.cmpi .ne v154 c0_i32_56
  v155

def cc0_transform_0 (i : grid0.Coords) : Fin 3 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S4x2048x7168 : Shape := ⟨3, ![4, 2048, 7168]⟩
abbrev S4x256x1024 : Shape := ⟨3, ![4, 256, 1024]⟩
abbrev S4x2048x512 : Shape := ⟨3, ![4, 2048, 512]⟩
abbrev S1x128 : Shape := ⟨2, ![1, 128]⟩
abbrev S4x256x512 : Shape := ⟨3, ![4, 256, 512]⟩
abbrev S128 : Shape := ⟨1, ![128]⟩
abbrev S4x2048x4x128 : Shape := ⟨4, ![4, 2048, 4, 128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x4x128x256 : Shape := ⟨4, ![4, 4, 128, 256]⟩
abbrev S4x4x256x128 : Shape := ⟨4, ![4, 4, 256, 128]⟩
abbrev S4x4x2048x128 : Shape := ⟨4, ![4, 4, 2048, 128]⟩
abbrev S4x2048x6656 : Shape := ⟨3, ![4, 2048, 6656]⟩

abbrev nBuf : Space → Nat
  | .hbm => 183
  | .vmem => 0
  | .smem => 0
  | _ => 0

abbrev hbmTy0_0 (i : Nat) : BufTy := match i % 128 with
  | 0 => ⟨S4x2048x7168, .f32⟩
  | 1 => ⟨S4x256x1024, .f32⟩
  | 2 => ⟨S4x2048x512, .f32⟩
  | 3 => ⟨S1x128, .f32⟩
  | 4 => ⟨S1x128, .f32⟩
  | 5 => ⟨S4x2048x7168, .bf16⟩
  | 6 => ⟨S4x256x512, .f32⟩
  | 7 => ⟨S4x256x512, .f32⟩
  | 8 => ⟨S4x2048x512, .f32⟩
  | 9 => ⟨S128, .f32⟩
  | 10 => ⟨S128, .f32⟩
  | 11 => ⟨S4x2048x4x128, .f32⟩
  | 12 => ⟨S4x2048x4x128, .f32⟩
  | 13 => ⟨S_, .f32⟩
  | 14 => ⟨S4x2048x4, .f32⟩
  | 15 => ⟨S4x2048x4x1, .f32⟩
  | 16 => ⟨S_, .f32⟩
  | 17 => ⟨S4x2048x4x1, .f32⟩
  | 18 => ⟨S4x2048x4x1, .f32⟩
  | 19 => ⟨S_, .f32⟩
  | 20 => ⟨S4x2048x4x1, .f32⟩
  | 21 => ⟨S4x2048x4x1, .f32⟩
  | 22 => ⟨S4x2048x4x1, .f32⟩
  | 23 => ⟨S4x2048x4x1, .f32⟩
  | 24 => ⟨S_, .f32⟩
  | 25 => ⟨S4x2048x4x1, .f32⟩
  | 26 => ⟨S4x2048x4x1, .f32⟩
  | 27 => ⟨S4x2048x4x128, .f32⟩
  | 28 => ⟨S4x2048x4x128, .f32⟩
  | 29 => ⟨S1x1x1x128, .f32⟩
  | 30 => ⟨S4x2048x4x128, .f32⟩
  | 31 => ⟨S4x2048x4x128, .f32⟩
  | 32 => ⟨S4x256x4x128, .f32⟩
  | 33 => ⟨S4x256x4x128, .f32⟩
  | 34 => ⟨S_, .f32⟩
  | 35 => ⟨S4x256x4, .f32⟩
  | 36 => ⟨S4x256x4x1, .f32⟩
  | 37 => ⟨S_, .f32⟩
  | 38 => ⟨S4x256x4x1, .f32⟩
  | 39 => ⟨S4x256x4x1, .f32⟩
  | 40 => ⟨S_, .f32⟩
  | 41 => ⟨S4x256x4x1, .f32⟩
  | 42 => ⟨S4x256x4x1, .f32⟩
  | 43 => ⟨S4x256x4x1, .f32⟩
  | 44 => ⟨S4x256x4x1, .f32⟩
  | 45 => ⟨S_, .f32⟩
  | 46 => ⟨S4x256x4x1, .f32⟩
  | 47 => ⟨S4x256x4x1, .f32⟩
  | 48 => ⟨S4x256x4x128, .f32⟩
  | 49 => ⟨S4x256x4x128, .f32⟩
  | 50 => ⟨S1x1x1x128, .f32⟩
  | 51 => ⟨S4x256x4x128, .f32⟩
  | 52 => ⟨S4x256x4x128, .f32⟩
  | 53 => ⟨S4x256x4x128, .f32⟩
  | 54 => ⟨S4x4x2048x256, .f32⟩
  | 55 => ⟨S_, .f32⟩
  | 56 => ⟨S4x4x2048x256, .f32⟩
  | 57 => ⟨S4x4x2048x256, .f32⟩
  | 58 => ⟨S_, .f32⟩
  | 59 => ⟨S4x4x2048, .f32⟩
  | 60 => ⟨S4x4x2048x1, .f32⟩
  | 61 => ⟨S4x4x2048x256, .f32⟩
  | 62 => ⟨S4x4x2048x256, .i1⟩
  | 63 => ⟨S4x4x2048x256, .f32⟩
  | 64 => ⟨S_, .f32⟩
  | 65 => ⟨S4x4x2048, .f32⟩
  | 66 => ⟨S_, .f32⟩
  | 67 => ⟨S4x4x2048, .f32⟩
  | 68 => ⟨S4x4x2048, .f32⟩
  | 69 => ⟨S_, .f32⟩
  | 70 => ⟨S4x4x2048, .f32⟩
  | 71 => ⟨S4x4x2048, .i1⟩
  | 72 => ⟨S_, .f32⟩
  | 73 => ⟨S4x4x2048, .f32⟩
  | 74 => ⟨S4x4x2048, .i1⟩
  | 75 => ⟨S_, .f32⟩
  | 76 => ⟨S4x4x2048, .f32⟩
  | 77 => ⟨S_, .f32⟩
  | 78 => ⟨S4x4x2048, .f32⟩
  | 79 => ⟨S_, .f32⟩
  | 80 => ⟨S4x4x2048, .f32⟩
  | 81 => ⟨S4x4x2048, .f32⟩
  | 82 => ⟨S4x4x2048, .f32⟩
  | 83 => ⟨S4x4x2048x1, .f32⟩
  | 84 => ⟨S4x4x2048x256, .f32⟩
  | 85 => ⟨S4x4x2048x256, .f32⟩
  | 86 => ⟨S4x4x2048x256, .f32⟩
  | 87 => ⟨S_, .f32⟩
  | 88 => ⟨S4x4x2048, .f32⟩
  | 89 => ⟨S4x4x2048x1, .f32⟩
  | 90 => ⟨S4x4x2048x256, .f32⟩
  | 91 => ⟨S4x4x2048x256, .f32⟩
  | 92 => ⟨S4x4x2048x1, .f32⟩
  | 93 => ⟨S_, .f32⟩
  | 94 => ⟨S4x4x2048x1, .f32⟩
  | 95 => ⟨S4x4x2048x1, .f32⟩
  | 96 => ⟨S4x4x128x2048, .f32⟩
  | 97 => ⟨S4x2048x4x128, .f32⟩
  | 98 => ⟨S4x2048x512, .f32⟩
  | 99 => ⟨S4x2048x4x128, .f32⟩
  | 100 => ⟨S4x4x128x2048, .f32⟩
  | 101 => ⟨S4x4x2048x256, .f32⟩
  | 102 => ⟨S4x4x128x256, .f32⟩
  | 103 => ⟨S4x256x4x128, .f32⟩
  | 104 => ⟨S4x4x2048x256, .f32⟩
  | 105 => ⟨S4x4x2048x256, .f32⟩
  | 106 => ⟨S4x4x2048x256, .f32⟩
  | 107 => ⟨S_, .f32⟩
  | 108 => ⟨S4x4x2048, .f32⟩
  | 109 => ⟨S4x4x2048x1, .f32⟩
  | 110 => ⟨S4x4x2048x1, .f32⟩
  | 111 => ⟨S4x4x2048x256, .f32⟩
  | 112 => ⟨S4x4x2048x256, .f32⟩
  | 113 => ⟨S_, .f32⟩
  | 114 => ⟨S4x4x2048, .f32⟩
  | 115 => ⟨S4x4x2048x256, .f32⟩
  | 116 => ⟨S4x4x2048x256, .f32⟩
  | 117 => ⟨S4x4x2048x256, .f32⟩
  | 118 => ⟨S_, .f32⟩
  | 119 => ⟨S4x4x2048x256, .f32⟩
  | 120 => ⟨S4x4x2048x256, .f32⟩
  | 121 => ⟨S4x4x256x128, .f32⟩
  | 122 => ⟨S4x256x4x128, .f32⟩
  | 123 => ⟨S4x4x2048x128, .f32⟩
  | 124 => ⟨S4x2048x4x128, .f32⟩
  | 125 => ⟨S4x256x512, .f32⟩
  | 126 => ⟨S4x256x4x128, .f32⟩
  | 127 => ⟨S_, .f32⟩
  | _ => ⟨S4x2048x7168, .f32⟩

abbrev hbmTy0_1 (i : Nat) : BufTy := match i % 128 with
  | 0 => ⟨S128, .f32⟩
  | 1 => ⟨S1x1x1x128, .f32⟩
  | 2 => ⟨S4x256x4x128, .f32⟩
  | 3 => ⟨S4x256x4x128, .f32⟩
  | 4 => ⟨S_, .f32⟩
  | 5 => ⟨S128, .f32⟩
  | 6 => ⟨S4x256x4x128, .f32⟩
  | 7 => ⟨S_, .f32⟩
  | 8 => ⟨S4x256x4, .f32⟩
  | 9 => ⟨S4x256x4x1, .f32⟩
  | 10 => ⟨S4x256x4x128, .f32⟩
  | 11 => ⟨S4x256x4x128, .f32⟩
  | 12 => ⟨S4x256x4x1, .f32⟩
  | 13 => ⟨S_, .f32⟩
  | 14 => ⟨S4x256x4x1, .f32⟩
  | 15 => ⟨S4x256x4x1, .f32⟩
  | 16 => ⟨S_, .f32⟩
  | 17 => ⟨S4x256x4, .f32⟩
  | 18 => ⟨S4x256x4x128, .f32⟩
  | 19 => ⟨S4x256x4x128, .f32⟩
  | 20 => ⟨S4x256x4x128, .f32⟩
  | 21 => ⟨S4x256x4x128, .f32⟩
  | 22 => ⟨S4x256x4x128, .f32⟩
  | 23 => ⟨S4x256x512, .f32⟩
  | 24 => ⟨S4x2048x4x128, .f32⟩
  | 25 => ⟨S_, .f32⟩
  | 26 => ⟨S128, .f32⟩
  | 27 => ⟨S1x1x1x128, .f32⟩
  | 28 => ⟨S4x2048x4x128, .f32⟩
  | 29 => ⟨S4x2048x4x128, .f32⟩
  | 30 => ⟨S_, .f32⟩
  | 31 => ⟨S128, .f32⟩
  | 32 => ⟨S4x2048x4x128, .f32⟩
  | 33 => ⟨S_, .f32⟩
  | 34 => ⟨S4x2048x4, .f32⟩
  | 35 => ⟨S4x2048x4x1, .f32⟩
  | 36 => ⟨S4x2048x4x128, .f32⟩
  | 37 => ⟨S4x2048x4x128, .f32⟩
  | 38 => ⟨S4x2048x4x1, .f32⟩
  | 39 => ⟨S_, .f32⟩
  | 40 => ⟨S4x2048x4x1, .f32⟩
  | 41 => ⟨S4x2048x4x1, .f32⟩
  | 42 => ⟨S_, .f32⟩
  | 43 => ⟨S4x2048x4, .f32⟩
  | 44 => ⟨S4x2048x4x128, .f32⟩
  | 45 => ⟨S4x2048x4x128, .f32⟩
  | 46 => ⟨S4x2048x4x128, .f32⟩
  | 47 => ⟨S4x2048x4x128, .f32⟩
  | 48 => ⟨S4x2048x4x128, .f32⟩
  | 49 => ⟨S4x2048x512, .f32⟩
  | 50 => ⟨S1x128, .f32⟩
  | 51 => ⟨S1x128, .f32⟩
  | 52 => ⟨S4x2048x6656, .bf16⟩
  | 53 => ⟨S4x2048x512, .bf16⟩
  | 54 => ⟨S4x2048x7168, .bf16⟩
  | _ => ⟨S4x2048x7168, .f32⟩

abbrev hbmTy (i : Nat) : BufTy := match i / 128 with
  | 0 => hbmTy0_0 i
  | 1 => hbmTy0_1 i
  | _ => ⟨S4x2048x7168, .f32⟩

abbrev bufTy : (tb : Table) → Fin (tcTables nBuf tb) → BufTy
  | .hbm, ⟨i, _⟩ => hbmTy i
  | _, _ => ⟨S4x2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_17 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_18 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_19 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_20 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_21 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_22 : Ref sig .tc := ⟨.hbm, 132, rfl⟩
abbrev main_v103 : Ref sig .tc := ⟨.hbm, 133, rfl⟩
abbrev main_v104 : Ref sig .tc := ⟨.hbm, 134, rfl⟩
abbrev main_cst_23 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_24 : Ref sig .tc := ⟨.hbm, 141, rfl⟩
abbrev main_v110 : Ref sig .tc := ⟨.hbm, 142, rfl⟩
abbrev main_v111 : Ref sig .tc := ⟨.hbm, 143, rfl⟩
abbrev main_cst_25 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_26 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_27 : Ref sig .tc := ⟨.hbm, 158, rfl⟩
abbrev main_v124 : Ref sig .tc := ⟨.hbm, 159, rfl⟩
abbrev main_v125 : Ref sig .tc := ⟨.hbm, 160, rfl⟩
abbrev main_cst_28 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_29 : Ref sig .tc := ⟨.hbm, 167, rfl⟩
abbrev main_v131 : Ref sig .tc := ⟨.hbm, 168, rfl⟩
abbrev main_v132 : Ref sig .tc := ⟨.hbm, 169, rfl⟩
abbrev main_cst_30 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩

abbrev nD : Nat := 1
abbrev τ : Topo := Topo.v7x

variable {F : FTy → Type} [FloatOps F]
-- ==== KernelLoss.lean ====
abbrev S8192x2816 : Shape := ⟨2, ![8192, 2816]⟩
abbrev S8192x1024 : Shape := ⟨2, ![8192, 1024]⟩
abbrev S2816x1024 : Shape := ⟨2, ![2816, 1024]⟩
abbrev S1x1024 : Shape := ⟨2, ![1, 1024]⟩
abbrev S512x1408 : Shape := ⟨2, ![512, 1408]⟩
abbrev S1408x1024 : Shape := ⟨2, ![1408, 1024]⟩
abbrev S512x1024 : Shape := ⟨2, ![512, 1024]⟩
abbrev S1024 : Shape := ⟨1, ![1024]⟩
abbrev S_ : Shape := ⟨0, ![]⟩

abbrev nBuf : Space → Nat
  | .hbm => 8
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x1024, .f32⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S_, .f32⟩
  | .hbm, ⟨7, _⟩ => ⟨S_, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_5 : BitVec 32 := 0#32
  let v11 : BitVec 1 := Scalar.cmpi .ne v10 c0_i32_5
  v11

def k0_cond4 (i : grid0.Coords) : BitVec 1 :=
  let arg0 : BitVec 32 := BitVec.ofNat 32 (i 0).val
  let c0_i32_17 : BitVec 32 := 0#32
  let v25 : BitVec 1 := Scalar.cmpi .eq arg0 c0_i32_17
  let v26 : BitVec 32 := Scalar.extui v25
  let c0_i32_18 : BitVec 32 := 0#32
  let v27 : BitVec 1 := Scalar.cmpi .ne v26 c0_i32_18
  v27

def k0_cond5 (i : grid0.Coords) : BitVec 1 :=
  let arg0 : BitVec 32 := BitVec.ofNat 32 (i 0).val
  let c0_i32_17 : BitVec 32 := 0#32
  let v25 : BitVec 1 := Scalar.cmpi .eq arg0 c0_i32_17
  let true_19 : BitVec 1 := 1#1
  let v28 : BitVec 1 := Scalar.xori v25 true_19
  let v29 : BitVec 32 := Scalar.extui v28
  let c0_i32_20 : BitVec 32 := 0#32
  let v30 : BitVec 1 := Scalar.cmpi .ne v29 c0_i32_20
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceLossIdeal.lean ====
abbrev S8192x2816 : Shape := ⟨2, ![8192, 2816]⟩
abbrev S8192x1024 : Shape := ⟨2, ![8192, 1024]⟩
abbrev S2816x1024 : Shape := ⟨2, ![2816, 1024]⟩
abbrev S_ : Shape := ⟨0, ![]⟩
abbrev S8192 : Shape := ⟨1, ![8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x1024, .f32⟩
  | .hbm, ⟨3, _⟩ => ⟨S2816x1024, .bf16⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1024, .f32⟩
  | .hbm, ⟨30, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== KernelDownDx.lean ====
abbrev S8192x1024 : Shape := ⟨2, ![8192, 1024]⟩
abbrev S2816x1024 : Shape := ⟨2, ![2816, 1024]⟩
abbrev S8192x2816 : Shape := ⟨2, ![8192, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .local _ .vmem, ⟨0, _⟩ => ⟨S2048x1024, .f32⟩
  | .local _ .vmem, ⟨1, _⟩ => ⟨S2048x1024, .f32⟩
  | .local _ .vmem, ⟨2, _⟩ => ⟨S1408x1024, .bf16⟩
  | .local _ .vmem, ⟨3, _⟩ => ⟨S1408x1024, .bf16⟩
  | .local _ .vmem, ⟨4, _⟩ => ⟨S2048x1408, .f32⟩
  | .local _ .vmem, ⟨5, _⟩ => ⟨S2048x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDxIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDownDw.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32 : BitVec 32 := 0#32
  let v4 : BitVec 1 := Scalar.cmpi .eq arg2 c0_i32
  let v_true : BitVec 1 := 1#1
  let v7 : BitVec 1 := Scalar.xori v4 v_true
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDwIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelUp.lean ====
abbrev S8192x1024 : Shape := ⟨2, ![8192, 1024]⟩
abbrev S4x1024x1408 : Shape := ⟨3, ![4, 1024, 1408]⟩
abbrev S8192x5632 : Shape := ⟨2, ![8192, 5632]⟩
abbrev S2048x1024 : Shape := ⟨2, ![2048, 1024]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x5632, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .f32⟩
  | .local _ .vmem, ⟨5, _⟩ => ⟨S2048x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S8192x1024 : Shape := ⟨2, ![8192, 1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S8192x5632 : Shape := ⟨2, ![8192, 5632]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x1024, .f32⟩
  | .hbm, ⟨3, _⟩ => ⟨S4x1024x1408, .f32⟩
  | .hbm, ⟨4, _⟩ => ⟨S1x1024x1408, .f32⟩
  | .hbm, ⟨5, _⟩ => ⟨S1024x1408, .f32⟩
  | .hbm, ⟨6, _⟩ => ⟨S1x1024x1408, .f32⟩
  | .hbm, ⟨7, _⟩ => ⟨S1024x1408, .f32⟩
  | .hbm, ⟨8, _⟩ => ⟨S1x1024x1408, .f32⟩
  | .hbm, ⟨9, _⟩ => ⟨S1024x1408, .f32⟩
  | .hbm, ⟨10, _⟩ => ⟨S1x1024x1408, .f32⟩
  | .hbm, ⟨11, _⟩ => ⟨S1024x1408, .f32⟩
  | .hbm, ⟨12, _⟩ => ⟨S1024x5632, .f32⟩
  | .hbm, ⟨13, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== KernelUpDx.lean ====
abbrev S8192x1024 : Shape := ⟨2, ![8192, 1024]⟩
abbrev S1x1024 : Shape := ⟨2, ![1, 1024]⟩
abbrev S4x1024x1408 : Shape := ⟨3, ![4, 1024, 1408]⟩
abbrev S8192x2816 : Shape := ⟨2, ![8192, 2816]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1408, .bf16⟩
  | .hbm, ⟨3, _⟩ => ⟨S8192x2816, .bf16⟩
  | .hbm, ⟨4, _⟩ => ⟨S8192x2816, .bf16⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_12 : BitVec 32 := 0#32
  let v17 : BitVec 1 := Scalar.cmpi .ne v16 c0_i32_12
  v17

def k0_cond4 (i : grid0.Coords) : BitVec 1 :=
  let arg0 : BitVec 32 := BitVec.ofNat 32 (i 0).val
  let c0_i32_29 : BitVec 32 := 0#32
  let v53 : BitVec 1 := Scalar.cmpi .eq arg0 c0_i32_29
  let v54 : BitVec 32 := Scalar.extui v53
  let c0_i32_30 : BitVec 32 := 0#32
  let v55 : BitVec 1 := Scalar.cmpi .ne v54 c0_i32_30
  v55

def k0_cond5 (i : grid0.Coords) : BitVec 1 :=
  let arg0 : BitVec 32 := BitVec.ofNat 32 (i 0).val
  let c0_i32_29 : BitVec 32 := 0#32
  let v53 : BitVec 1 := Scalar.cmpi .eq arg0 c0_i32_29
  let true_31 : BitVec 1 := 1#1
  let v56 : BitVec 1 := Scalar.xori v53 true_31
  let v57 : BitVec 32 := Scalar.extui v56
  let c0_i32_32 : BitVec 32 := 0#32
  let v58 : BitVec 1 := Scalar.cmpi .ne v57 c0_i32_32
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceUpDxIdeal.lean ====
abbrev S8192x1024 : Shape := ⟨2, ![8192, 1024]⟩
abbrev S1x1024 : Shape := ⟨2, ![1, 1024]⟩
abbrev S4x1024x1408 : Shape := ⟨3, ![4, 1024, 1408]⟩
abbrev S8192x2816 : Shape := ⟨2, ![8192, 2816]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x1408 : Shape := ⟨3, ![1, 1024, 1408]⟩
abbrev S1024x1408 : Shape := ⟨2, ![1024, 1408]⟩
abbrev S1024x5632 : Shape := ⟨2, ![1024, 5632]⟩
abbrev S8192x5632 : Shape := ⟨2, ![8192, 5632]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1408, .bf16⟩
  | .hbm, ⟨3, _⟩ => ⟨S8192x2816, .bf16⟩
  | .hbm, ⟨4, _⟩ => ⟨S8192x2816, .bf16⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S4x1024x1408, .f32⟩
  | .hbm, ⟨28, _⟩ => ⟨S1x1024x1408, .f32⟩
  | .hbm, ⟨29, _⟩ => ⟨S1024x1408, .f32⟩
  | .hbm, ⟨30, _⟩ => ⟨S1x1024x1408, .f32⟩
  | .hbm, ⟨31, _⟩ => ⟨S1024x1408, .f32⟩
  | .hbm, ⟨32, _⟩ => ⟨S1x1024x1408, .f32⟩
  | .hbm, ⟨33, _⟩ => ⟨S1024x1408, .f32⟩
  | .hbm, ⟨34, _⟩ => ⟨S1x1024x1408, .f32⟩
  | .hbm, ⟨35, _⟩ => ⟨S1024x1408, .f32⟩
  | .hbm, ⟨36, _⟩ => ⟨S1024x5632, .f32⟩
  | .hbm, ⟨37, _⟩ => ⟨S8192x5632, .f32⟩
  | .hbm, ⟨38, _⟩ => ⟨S8192x5632, .bf16⟩
  | .hbm, ⟨39, _⟩ => ⟨S8192x5632, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== KernelUpDw.lean ====
abbrev S8192x1024 : Shape := ⟨2, ![8192, 1024]⟩
abbrev S8192x2816 : Shape := ⟨2, ![8192, 2816]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .f32⟩
  | .local _ .vmem, ⟨7, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_5 : BitVec 32 := 0#32
  let v8 : BitVec 1 := Scalar.cmpi .ne v7 c0_i32_5
  v8

def k0_cond2 (i : grid0.Coords) : BitVec 1 :=
  let arg2 : BitVec 32 := BitVec.ofNat 32 (i 2).val
  let c0_i32 : BitVec 32 := 0#32
  let v6 : BitVec 1 := Scalar.cmpi .eq arg2 c0_i32
  let v_true : BitVec 1 := 1#1
  let v9 : BitVec 1 := Scalar.xori v6 v_true
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceUpDwIdeal.lean ====
abbrev S8192x1024 : Shape := ⟨2, ![8192, 1024]⟩
abbrev S8192x2816 : Shape := ⟨2, ![8192, 2816]⟩
abbrev S8192x5632 : Shape := ⟨2, ![8192, 5632]⟩
abbrev S_ : Shape := ⟨0, ![]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S5632x1024 : Shape := ⟨2, ![5632, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x5632, .bf16⟩
  | .hbm, ⟨4, _⟩ => ⟨S8192x5632, .f32⟩
  | .hbm, ⟨5, _⟩ => ⟨S_, .f32⟩
  | .hbm, ⟨6, _⟩ => ⟨S4x1024x1408, .f32⟩
  | .hbm, ⟨7, _⟩ => ⟨S8192x1024, .f32⟩
  | .hbm, ⟨8, _⟩ => ⟨S1x1024x1408, .f32⟩
  | .hbm, ⟨9, _⟩ => ⟨S1024x1408, .f32⟩
  | .hbm, ⟨10, _⟩ => ⟨S1x1024x1408, .f32⟩
  | .hbm, ⟨11, _⟩ => ⟨S1024x1408, .f32⟩
  | .hbm, ⟨12, _⟩ => ⟨S1x1024x1408, .f32⟩
  | .hbm, ⟨13, _⟩ => ⟨S1024x1408, .f32⟩
  | .hbm, ⟨14, _⟩ => ⟨S1x1024x1408, .f32⟩
  | .hbm, ⟨15, _⟩ => ⟨S1024x1408, .f32⟩
  | .hbm, ⟨16, _⟩ => ⟨S1024x5632, .f32⟩
  | .hbm, ⟨17, _⟩ => ⟨S8192x5632, .f32⟩
  | .hbm, ⟨18, _⟩ => ⟨S5632x1024, .f32⟩
  | .hbm, ⟨19, _⟩ => ⟨S1024x5632, .f32⟩
  | .hbm, ⟨20, _⟩ => ⟨S1024x1408, .f32⟩
  | .hbm, ⟨21, _⟩ => ⟨S1024x1408, .f32⟩
  | .hbm, ⟨22, _⟩ => ⟨S1024x1408, .f32⟩
  | .hbm, ⟨23, _⟩ => ⟨S1024x1408, .f32⟩
  | .hbm, ⟨24, _⟩ => ⟨S1x1024x1408, .f32⟩
  | .hbm, ⟨25, _⟩ => ⟨S_, .f32⟩
  | .hbm, ⟨26, _⟩ => ⟨S4x1024x1408, .f32⟩
  | .hbm, ⟨27, _⟩ => ⟨S1x1024x1408, .f32⟩
  | .hbm, ⟨28, _⟩ => ⟨S_, .f32⟩
  | .hbm, ⟨29, _⟩ => ⟨S4x1024x1408, .f32⟩
  | .hbm, ⟨30, _⟩ => ⟨S4x1024x1408, .f32⟩
  | .hbm, ⟨31, _⟩ => ⟨S1x1024x1408, .f32⟩
  | .hbm, ⟨32, _⟩ => ⟨S_, .f32⟩
  | .hbm, ⟨33, _⟩ => ⟨S4x1024x1408, .f32⟩
  | .hbm, ⟨34, _⟩ => ⟨S4x1024x1408, .f32⟩
  | .hbm, ⟨35, _⟩ => ⟨S1x1024x1408, .f32⟩
  | .hbm, ⟨36, _⟩ => ⟨S_, .f32⟩
  | .hbm, ⟨37, _⟩ => ⟨S4x1024x1408, .f32⟩
  | .hbm, ⟨38, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== KernelIn.lean ====
abbrev S8192x1024 : Shape := ⟨2, ![8192, 1024]⟩
abbrev S1024x7168 : Shape := ⟨2, ![1024, 7168]⟩
abbrev S8192x7168 : Shape := ⟨2, ![8192, 7168]⟩
abbrev S2048x1024 : Shape := ⟨2, ![2048, 1024]⟩
abbrev S1024x1792 : Shape := ⟨2, ![1024, 1792]⟩
abbrev S2048x1792 : Shape := ⟨2, ![2048, 1792]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x7168, .f32⟩
  | .local _ .vmem, ⟨0, _⟩ => ⟨S2048x1024, .bf16⟩
  | .local _ .vmem, ⟨1, _⟩ => ⟨S2048x1024, .bf16⟩
  | .local _ .vmem, ⟨2, _⟩ => ⟨S1024x1792, .bf16⟩
  | .local _ .vmem, ⟨3, _⟩ => ⟨S1024x1792, .bf16⟩
  | .local _ .vmem, ⟨4, _⟩ => ⟨S2048x1792, .f32⟩
  | .local _ .vmem, ⟨5, _⟩ => ⟨S2048x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S8192x1024 : Shape := ⟨2, ![8192, 1024]⟩
abbrev S1024x7168 : Shape := ⟨2, ![1024, 7168]⟩
abbrev S8192x7168 : Shape := ⟨2, ![8192, 7168]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x1024, .f32⟩
  | .hbm, ⟨3, _⟩ => ⟨S1024x7168, .f32⟩
  | .hbm, ⟨4, _⟩ => ⟨S8192x7168, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelInDw.lean ====
abbrev S8192x1024 : Shape := ⟨2, ![8192, 1024]⟩
abbrev S8192x7168 : Shape := ⟨2, ![8192, 7168]⟩
abbrev S1024x7168 : Shape := ⟨2, ![1024, 7168]⟩
abbrev S1024x1024 : Shape := ⟨2, ![1024, 1024]⟩
abbrev S1024x1792 : Shape := ⟨2, ![1024, 1792]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S1024x7168, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .f32⟩
  | .local _ .vmem, ⟨5, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDwIdeal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S_, .f32⟩
  | .hbm, ⟨3, _⟩ => ⟨S1024x7168, .f32⟩
  | .hbm, ⟨4, _⟩ => ⟨S8192x1024, .f32⟩
  | .hbm, ⟨5, _⟩ => ⟨S8192x7168, .f32⟩
  | .hbm, ⟨6, _⟩ => ⟨S8192x7168, .f32⟩
  | .hbm, ⟨7, _⟩ => ⟨S7168x1024, .f32⟩
  | .hbm, ⟨8, _⟩ => ⟨S1024x7168, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelInDx.lean ====
abbrev S8192x7168 : Shape := ⟨2, ![8192, 7168]⟩
abbrev S1024x7168 : Shape := ⟨2, ![1024, 7168]⟩
abbrev S8192x1024 : Shape := ⟨2, ![8192, 1024]⟩
abbrev S2048x1792 : Shape := ⟨2, ![2048, 1792]⟩
abbrev S1024x1792 : Shape := ⟨2, ![1024, 1792]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S8192x1024, .f32⟩
  | .local _ .vmem, ⟨0, _⟩ => ⟨S2048x1792, .bf16⟩
  | .local _ .vmem, ⟨1, _⟩ => ⟨S2048x1792, .bf16⟩
  | .local _ .vmem, ⟨2, _⟩ => ⟨S1024x1792, .bf16⟩
  | .local _ .vmem, ⟨3, _⟩ => ⟨S1024x1792, .bf16⟩
  | .local _ .vmem, ⟨4, _⟩ => ⟨S2048x1024, .f32⟩
  | .local _ .vmem, ⟨5, _⟩ => ⟨S2048x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDxIdeal.lean ====
abbrev S8192x7168 : Shape := ⟨2, ![8192, 7168]⟩
abbrev S1024x7168 : Shape := ⟨2, ![1024, 7168]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S_, .f32⟩
  | .hbm, ⟨3, _⟩ => ⟨S8192x1024, .f32⟩
  | .hbm, ⟨4, _⟩ => ⟨S1024x7168, .f32⟩
  | .hbm, ⟨5, _⟩ => ⟨S8192x7168, .f32⟩
  | .hbm, ⟨6, _⟩ => ⟨S8192x7168, .f32⟩
  | .hbm, ⟨7, _⟩ => ⟨S8192x1024, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelNorm.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_16 : BitVec 32 := 0#32
  let v39 : BitVec 1 := Scalar.cmpi .ne v38 c0_i32_16
  v39

def k0_cond2 (i : grid0.Coords) : BitVec 1 :=
  let arg0 : BitVec 32 := BitVec.ofNat 32 (i 0).val
  let c0_i32 : BitVec 32 := 0#32
  let v37 : BitVec 1 := Scalar.cmpi .eq arg0 c0_i32
  let v_true : BitVec 1 := 1#1
  let v40 : BitVec 1 := Scalar.xori v37 v_true
  let v41 : BitVec 32 := Scalar.extui v40
  let c0_i32_17 : BitVec 32 := 0#32
  let v42 : BitVec 1 := Scalar.cmpi .ne v41 c0_i32_17
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceNormIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelMerge.lean ====
abbrev S8192x1024 : Shape := ⟨2, ![8192, 1024]⟩
abbrev S8192x512 : Shape := ⟨2, ![8192, 512]⟩
abbrev S8192x7168 : Shape := ⟨2, ![8192, 7168]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 13
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x7168, .f32⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceMergeIdeal.lean ====
abbrev S8192x1024 : Shape := ⟨2, ![8192, 1024]⟩
abbrev S8192x512 : Shape := ⟨2, ![8192, 512]⟩
abbrev S8192x7168 : Shape := ⟨2, ![8192, 7168]⟩
abbrev S512x1024 : Shape := ⟨2, ![512, 1024]⟩
abbrev S1024x1024 : Shape := ⟨2, ![1024, 1024]⟩
abbrev S1x1024 : Shape := ⟨2, ![1, 1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩
abbrev S1024 : Shape := ⟨1, ![1024]⟩
abbrev S8192 : Shape := ⟨1, ![8192]⟩
abbrev S8192x1 : Shape := ⟨2, ![8192, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x7168, .f32⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S1x1024, .f32⟩
  | .hbm, ⟨10, _⟩ => ⟨S8192x3072, .f32⟩
  | .hbm, ⟨11, _⟩ => ⟨S512x1024, .f32⟩
  | .hbm, ⟨12, _⟩ => ⟨S8192x1024, .f32⟩
  | .hbm, ⟨13, _⟩ => ⟨S512x1024, .f32⟩
  | .hbm, ⟨14, _⟩ => ⟨S8192x1024, .f32⟩
  | .hbm, ⟨15, _⟩ => ⟨S512x1024, .f32⟩
  | .hbm, ⟨16, _⟩ => ⟨S8192x1024, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S8192x3x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1024x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== KernelMergeBwd.lean ====
abbrev S8192x1024 : Shape := ⟨2, ![8192, 1024]⟩
abbrev S8192x512 : Shape := ⟨2, ![8192, 512]⟩
abbrev S8192x7168 : Shape := ⟨2, ![8192, 7168]⟩
abbrev S512x1024 : Shape := ⟨2, ![512, 1024]⟩
abbrev S1024x1024 : Shape := ⟨2, ![1024, 1024]⟩
abbrev S256x1024 : Shape := ⟨2, ![256, 1024]⟩
abbrev S256x512 : Shape := ⟨2, ![256, 512]⟩
abbrev S256x3072 : Shape := ⟨2, ![256, 3072]⟩
abbrev S8192x3072 : Shape := ⟨2, ![8192, 3072]⟩

abbrev nBuf : Space → Nat
  | .hbm => 17
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x7168, .f32⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S8192x7168, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x3072, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S256x3072, .bf16⟩
  | .local _ .vmem, ⟨19, _⟩ => ⟨S256x3072, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceMergeBwdIdeal.lean ====
abbrev S8192x1024 : Shape := ⟨2, ![8192, 1024]⟩
abbrev S8192x512 : Shape := ⟨2, ![8192, 512]⟩
abbrev S8192x7168 : Shape := ⟨2, ![8192, 7168]⟩
abbrev S512x1024 : Shape := ⟨2, ![512, 1024]⟩
abbrev S1024x1024 : Shape := ⟨2, ![1024, 1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x7168, .f32⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S512x1024, .f32⟩
  | .hbm, ⟨10, _⟩ => ⟨S8192x1024, .f32⟩
  | .hbm, ⟨11, _⟩ => ⟨S512x1024, .f32⟩
  | .hbm, ⟨12, _⟩ => ⟨S8192x1024, .f32⟩
  | .hbm, ⟨13, _⟩ => ⟨S512x1024, .f32⟩
  | .hbm, ⟨14, _⟩ => ⟨S8192x1024, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S_, .f32⟩
  | .hbm, ⟨22, _⟩ => ⟨S8192x3072, .f32⟩
  | .hbm, ⟨23, _⟩ => ⟨S8192x3072, .f32⟩
  | .hbm, ⟨24, _⟩ => ⟨S_, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1024x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1x1024, .f32⟩
  | .hbm, ⟨46, _⟩ => ⟨S_, .f32⟩
  | .hbm, ⟨47, _⟩ => ⟨S8192x3x1024, .f32⟩
  | .hbm, ⟨48, _⟩ => ⟨S8192x1024, .f32⟩
  | .hbm, ⟨49, _⟩ => ⟨S8192x1024, .f32⟩
  | .hbm, ⟨50, _⟩ => ⟨S8192x1x1024, .f32⟩
  | .hbm, ⟨51, _⟩ => ⟨S_, .f32⟩
  | .hbm, ⟨52, _⟩ => ⟨S8192x3x1024, .f32⟩
  | .hbm, ⟨53, _⟩ => ⟨S8192x3x1024, .f32⟩
  | .hbm, ⟨54, _⟩ => ⟨S8192x1024, .f32⟩
  | .hbm, ⟨55, _⟩ => ⟨S8192x1024, .f32⟩
  | .hbm, ⟨56, _⟩ => ⟨S8192x1x1024, .f32⟩
  | .hbm, ⟨57, _⟩ => ⟨S_, .f32⟩
  | .hbm, ⟨58, _⟩ => ⟨S8192x3x1024, .f32⟩
  | .hbm, ⟨59, _⟩ => ⟨S8192x3x1024, .f32⟩
  | .hbm, ⟨60, _⟩ => ⟨S8192x3072, .f32⟩
  | .hbm, ⟨61, _⟩ => ⟨S8192x3072, .f32⟩
  | .hbm, ⟨62, _⟩ => ⟨S8192x3072, .bf16⟩
  | .hbm, ⟨63, _⟩ => ⟨S8192x1024, .bf16⟩
  | .hbm, ⟨64, _⟩ => ⟨S8192x1024, .bf16⟩
  | .hbm, ⟨65, _⟩ => ⟨S8192x1024, .bf16⟩
  | .hbm, ⟨66, _⟩ => ⟨S8192x512, .f32⟩
  | .hbm, ⟨67, _⟩ => ⟨S8192x512, .f32⟩
  | .hbm, ⟨68, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== KernelOutDw.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32 : BitVec 32 := 0#32
  let v4 : BitVec 1 := Scalar.cmpi .eq arg2 c0_i32
  let v_true : BitVec 1 := 1#1
  let v7 : BitVec 1 := Scalar.xori v4 v_true
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceOutDwIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelBrDw.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32 : BitVec 32 := 0#32
  let v4 : BitVec 1 := Scalar.cmpi .eq arg2 c0_i32
  let v_true : BitVec 1 := 1#1
  let v7 : BitVec 1 := Scalar.xori v4 v_true
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceBrDwIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S8192x1024, .f32⟩
  | .hbm, ⟨6, _⟩ => ⟨S1024x512, .f32⟩
  | .hbm, ⟨7, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelAdamIn.lean ====
abbrev S1x1024x1794 : Shape := ⟨3, ![1, 1024, 1794]⟩
abbrev S1x1794x1024 : Shape := ⟨3, ![1, 1794, 1024]⟩
abbrev S1x1794x256 : Shape := ⟨3, ![1, 1794, 256]⟩

abbrev nBuf : Space → Nat
  | .hbm => 14
  | .vmem => 14
  | .smem => 0
  | _ => 0

abbrev bufTy : (tb : Table) → Fin (tcTables nBuf tb) → BufTy
  | .hbm, ⟨0, _⟩ => ⟨S1x1024x1794, .f32⟩
  | .hbm, ⟨1, _⟩ => ⟨S1x1024x1794, .f32⟩
  | .hbm, ⟨2, _⟩ => ⟨S1x1024x1794, .f32⟩
  | .hbm, ⟨3, _⟩ => ⟨S1x1024x1794, .f32⟩
  | .hbm, ⟨4, _⟩ => ⟨S1x1794x1024, .f32⟩
  | .hbm, ⟨5, _⟩ => ⟨S1x1794x1024, .f32⟩
  | .hbm, ⟨6, _⟩ => ⟨S1x1794x1024, .f32⟩
  | .hbm, ⟨7, _⟩ => ⟨S1x1794x1024, .f32⟩
  | .hbm, ⟨8, _⟩ => ⟨S1x1794x1024, .f32⟩
  | .hbm, ⟨9, _⟩ => ⟨S1x1794x1024, .f32⟩
  | .hbm, ⟨10, _⟩ => ⟨S1x1794x1024, .f32⟩
  | .hbm, ⟨11, _⟩ => ⟨S1x1024x1794, .f32⟩
  | .hbm, ⟨12, _⟩ => ⟨S1x1024x1794, .f32⟩
  | .hbm, ⟨13, _⟩ => ⟨S1x1024x1794, .f32⟩
  | .local _ .vmem, ⟨0, _⟩ => ⟨S1x1794x256, .f32⟩
  | .local _ .vmem, ⟨1, _⟩ => ⟨S1x1794x256, .f32⟩
  | .local _ .vmem, ⟨2, _⟩ => ⟨S1x1794x256, .f32⟩
  | .local _ .vmem, ⟨3, _⟩ => ⟨S1x1794x256, .f32⟩
  | .local _ .vmem, ⟨4, _⟩ => ⟨S1x1794x256, .f32⟩
  | .local _ .vmem, ⟨5, _⟩ => ⟨S1x1794x256, .f32⟩
  | .local _ .vmem, ⟨6, _⟩ => ⟨S1x1794x256, .f32⟩
  | .local _ .vmem, ⟨7, _⟩ => ⟨S1x1794x256, .f32⟩
  | .local _ .vmem, ⟨8, _⟩ => ⟨S1x1794x256, .f32⟩
  | .local _ .vmem, ⟨9, _⟩ => ⟨S1x1794x256, .f32⟩
  | .local _ .vmem, ⟨10, _⟩ => ⟨S1x1794x256, .f32⟩
  | .local _ .vmem, ⟨11, _⟩ => ⟨S1x1794x256, .f32⟩
  | .local _ .vmem, ⟨12, _⟩ => ⟨S1x1794x256, .f32⟩
  | .local _ .vmem, ⟨13, _⟩ => ⟨S1x1794x256, .f32⟩
  | _, _ => ⟨S1x1024x1794, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x1794x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1794x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1794x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1794x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1794x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1794x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1794x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamInIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== ReferenceAdamInIdeal.lean ====
abbrev S1x1024x1794 : Shape := ⟨3, ![1, 1024, 1794]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x1794, .f32⟩
  | .hbm, ⟨1, _⟩ => ⟨S1x1024x1794, .f32⟩
  | .hbm, ⟨2, _⟩ => ⟨S1x1024x1794, .f32⟩
  | .hbm, ⟨3, _⟩ => ⟨S1x1024x1794, .f32⟩
  | .hbm, ⟨4, _⟩ => ⟨S_, .f32⟩
  | .hbm, ⟨5, _⟩ => ⟨S1x1024x1794, .f32⟩
  | .hbm, ⟨6, _⟩ => ⟨S1x1024x1794, .f32⟩
  | .hbm, ⟨7, _⟩ => ⟨S_, .f32⟩
  | .hbm, ⟨8, _⟩ => ⟨S1x1024x1794, .f32⟩
  | .hbm, ⟨9, _⟩ => ⟨S1x1024x1794, .f32⟩
  | .hbm, ⟨10, _⟩ => ⟨S1x1024x1794, .f32⟩
  | .hbm, ⟨11, _⟩ => ⟨S_, .f32⟩
  | .hbm, ⟨12, _⟩ => ⟨S1x1024x1794, .f32⟩
  | .hbm, ⟨13, _⟩ => ⟨S1x1024x1794, .f32⟩
  | .hbm, ⟨14, _⟩ => ⟨S1x1024x1794, .f32⟩
  | .hbm, ⟨15, _⟩ => ⟨S_, .f32⟩
  | .hbm, ⟨16, _⟩ => ⟨S1x1024x1794, .f32⟩
  | .hbm, ⟨17, _⟩ => ⟨S1x1024x1794, .f32⟩
  | .hbm, ⟨18, _⟩ => ⟨S1x1024x1794, .f32⟩
  | .hbm, ⟨19, _⟩ => ⟨S_, .f32⟩
  | .hbm, ⟨20, _⟩ => ⟨S1x1024x1794, .f32⟩
  | .hbm, ⟨21, _⟩ => ⟨S1x1024x1794, .f32⟩
  | .hbm, ⟨22, _⟩ => ⟨S_, .f32⟩
  | .hbm, ⟨23, _⟩ => ⟨S1x1024x1794, .f32⟩
  | .hbm, ⟨24, _⟩ => ⟨S1x1024x1794, .f32⟩
  | .hbm, ⟨25, _⟩ => ⟨S1x1024x1794, .f32⟩
  | .hbm, ⟨26, _⟩ => ⟨S_, .f32⟩
  | .hbm, ⟨27, _⟩ => ⟨S1x1024x1794, .f32⟩
  | .hbm, ⟨28, _⟩ => ⟨S1x1024x1794, .f32⟩
  | .hbm, ⟨29, _⟩ => ⟨S1x1024x1794, .f32⟩
  | .hbm, ⟨30, _⟩ => ⟨S_, .f32⟩
  | .hbm, ⟨31, _⟩ => ⟨S1x1024x1794, .f32⟩
  | .hbm, ⟨32, _⟩ => ⟨S1x1024x1794, .f32⟩
  | .hbm, ⟨33, _⟩ => ⟨S1x1024x1794, .f32⟩
  | .hbm, ⟨34, _⟩ => ⟨S_, .f32⟩
  | .hbm, ⟨35, _⟩ => ⟨S1x1024x1794, .f32⟩
  | .hbm, ⟨36, _⟩ => ⟨S1x1024x1794, .f32⟩
  | _, _ => ⟨S1x1024x1794, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamRows.lean ====
abbrev S1x256x1024 : Shape := ⟨3, ![1, 256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamRowsIdeal.lean ====
abbrev S1x256x1024 : Shape := ⟨3, ![1, 256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamRowsIdeal.lean ====
abbrev S1x256x1024 : Shape := ⟨3, ![1, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamBr.lean ====
abbrev S1x512x256 : Shape := ⟨3, ![1, 512, 256]⟩
abbrev S1x256x256 : Shape := ⟨3, ![1, 256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S1x512x256, .f32⟩
  | .hbm, ⟨5, _⟩ => ⟨S1x512x256, .f32⟩
  | .hbm, ⟨6, _⟩ => ⟨S1x512x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamBrIdeal.lean ====
abbrev S1x512x256 : Shape := ⟨3, ![1, 512, 256]⟩
abbrev S1x256x256 : Shape := ⟨3, ![1, 256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S1x512x256, .f32⟩
  | .hbm, ⟨5, _⟩ => ⟨S1x512x256, .f32⟩
  | .hbm, ⟨6, _⟩ => ⟨S1x512x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamBrIdeal.lean ====
abbrev S1x512x256 : Shape := ⟨3, ![1, 512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S_, .f32⟩
  | .hbm, ⟨5, _⟩ => ⟨S1x512x256, .f32⟩
  | .hbm, ⟨6, _⟩ => ⟨S1x512x256, .f32⟩
  | .hbm, ⟨7, _⟩ => ⟨S_, .f32⟩
  | .hbm, ⟨8, _⟩ => ⟨S1x512x256, .f32⟩
  | .hbm, ⟨9, _⟩ => ⟨S1x512x256, .f32⟩
  | .hbm, ⟨10, _⟩ => ⟨S1x512x256, .f32⟩
  | .hbm, ⟨11, _⟩ => ⟨S_, .f32⟩
  | .hbm, ⟨12, _⟩ => ⟨S1x512x256, .f32⟩
  | .hbm, ⟨13, _⟩ => ⟨S1x512x256, .f32⟩
  | .hbm, ⟨14, _⟩ => ⟨S1x512x256, .f32⟩
  | .hbm, ⟨15, _⟩ => ⟨S_, .f32⟩
  | .hbm, ⟨16, _⟩ => ⟨S1x512x256, .f32⟩
  | .hbm, ⟨17, _⟩ => ⟨S1x512x256, .f32⟩
  | .hbm, ⟨18, _⟩ => ⟨S1x512x256, .f32⟩
  | .hbm, ⟨19, _⟩ => ⟨S_, .f32⟩
  | .hbm, ⟨20, _⟩ => ⟨S1x512x256, .f32⟩
  | .hbm, ⟨21, _⟩ => ⟨S1x512x256, .f32⟩
  | .hbm, ⟨22, _⟩ => ⟨S_, .f32⟩
  | .hbm, ⟨23, _⟩ => ⟨S1x512x256, .f32⟩
  | .hbm, ⟨24, _⟩ => ⟨S1x512x256, .f32⟩
  | .hbm, ⟨25, _⟩ => ⟨S1x512x256, .f32⟩
  | .hbm, ⟨26, _⟩ => ⟨S_, .f32⟩
  | .hbm, ⟨27, _⟩ => ⟨S1x512x256, .f32⟩
  | .hbm, ⟨28, _⟩ => ⟨S1x512x256, .f32⟩
  | .hbm, ⟨29, _⟩ => ⟨S1x512x256, .f32⟩
  | .hbm, ⟨30, _⟩ => ⟨S_, .f32⟩
  | .hbm, ⟨31, _⟩ => ⟨S1x512x256, .f32⟩
  | .hbm, ⟨32, _⟩ => ⟨S1x512x256, .f32⟩
  | .hbm, ⟨33, _⟩ => ⟨S1x512x256, .f32⟩
  | .hbm, ⟨34, _⟩ => ⟨S_, .f32⟩
  | .hbm, ⟨35, _⟩ => ⟨S1x512x256, .f32⟩
  | .hbm, ⟨36, _⟩ => ⟨S1x512x256, .f32⟩
  | _, _ => ⟨S1x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamUp.lean ====
abbrev S1x1024x1408 : Shape := ⟨3, ![1, 1024, 1408]⟩
abbrev S1x256x1408 : Shape := ⟨3, ![1, 256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamUpIdeal.lean ====
abbrev S1x1024x1408 : Shape := ⟨3, ![1, 1024, 1408]⟩
abbrev S1x256x1408 : Shape := ⟨3, ![1, 256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamUpIdeal.lean ====
abbrev S1x1024x1408 : Shape := ⟨3, ![1, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1x1024x1408, .f32⟩
  | .hbm, ⟨2, _⟩ => ⟨S1x1024x1408, .f32⟩
  | .hbm, ⟨3, _⟩ => ⟨S1x1024x1408, .f32⟩
  | .hbm, ⟨4, _⟩ => ⟨S_, .f32⟩
  | .hbm, ⟨5, _⟩ => ⟨S1x1024x1408, .f32⟩
  | .hbm, ⟨6, _⟩ => ⟨S1x1024x1408, .f32⟩
  | .hbm, ⟨7, _⟩ => ⟨S_, .f32⟩
  | .hbm, ⟨8, _⟩ => ⟨S1x1024x1408, .f32⟩
  | .hbm, ⟨9, _⟩ => ⟨S1x1024x1408, .f32⟩
  | .hbm, ⟨10, _⟩ => ⟨S1x1024x1408, .f32⟩
  | .hbm, ⟨11, _⟩ => ⟨S_, .f32⟩
  | .hbm, ⟨12, _⟩ => ⟨S1x1024x1408, .f32⟩
  | .hbm, ⟨13, _⟩ => ⟨S1x1024x1408, .f32⟩
  | .hbm, ⟨14, _⟩ => ⟨S1x1024x1408, .f32⟩
  | .hbm, ⟨15, _⟩ => ⟨S_, .f32⟩
  | .hbm, ⟨16, _⟩ => ⟨S1x1024x1408, .f32⟩
  | .hbm, ⟨17, _⟩ => ⟨S1x1024x1408, .f32⟩
  | .hbm, ⟨18, _⟩ => ⟨S1x1024x1408, .f32⟩
  | .hbm, ⟨19, _⟩ => ⟨S_, .f32⟩
  | .hbm, ⟨20, _⟩ => ⟨S1x1024x1408, .f32⟩
  | .hbm, ⟨21, _⟩ => ⟨S1x1024x1408, .f32⟩
  | .hbm, ⟨22, _⟩ => ⟨S_, .f32⟩
  | .hbm, ⟨23, _⟩ => ⟨S1x1024x1408, .f32⟩
  | .hbm, ⟨24, _⟩ => ⟨S1x1024x1408, .f32⟩
  | .hbm, ⟨25, _⟩ => ⟨S1x1024x1408, .f32⟩
  | .hbm, ⟨26, _⟩ => ⟨S_, .f32⟩
  | .hbm, ⟨27, _⟩ => ⟨S1x1024x1408, .f32⟩
  | .hbm, ⟨28, _⟩ => ⟨S1x1024x1408, .f32⟩
  | .hbm, ⟨29, _⟩ => ⟨S1x1024x1408, .f32⟩
  | .hbm, ⟨30, _⟩ => ⟨S_, .f32⟩
  | .hbm, ⟨31, _⟩ => ⟨S1x1024x1408, .f32⟩
  | .hbm, ⟨32, _⟩ => ⟨S1x1024x1408, .f32⟩
  | .hbm, ⟨33, _⟩ => ⟨S1x1024x1408, .f32⟩
  | .hbm, ⟨34, _⟩ => ⟨S_, .f32⟩
  | .hbm, ⟨35, _⟩ => ⟨S1x1024x1408, .f32⟩
  | .hbm, ⟨36, _⟩ => ⟨S1x1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamDown.lean ====
abbrev S1x704x1024 : Shape := ⟨3, ![1, 704, 1024]⟩
abbrev S1x176x1024 : Shape := ⟨3, ![1, 176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAdamDownIdeal.lean ====
abbrev S1x704x1024 : Shape := ⟨3, ![1, 704, 1024]⟩
abbrev S1x176x1024 : Shape := ⟨3, ![1, 176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamDownIdeal.lean ====
abbrev S1x704x1024 : Shape := ⟨3, ![1, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S_, .f32⟩
  | .hbm, ⟨5, _⟩ => ⟨S1x704x1024, .f32⟩
  | .hbm, ⟨6, _⟩ => ⟨S1x704x1024, .f32⟩
  | .hbm, ⟨7, _⟩ => ⟨S_, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S_, .f32⟩
  | .hbm, ⟨23, _⟩ => ⟨S1x704x1024, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamConv.lean ====
abbrev S1x3x704 : Shape := ⟨3, ![1, 3, 704]⟩

abbrev nBuf : Space → Nat
  | .hbm => 7
  | .vmem => 7
  | .smem => 0
  | _ => 0

abbrev bufTy : (tb : Table) → Fin (tcTables nBuf tb) → BufTy
  | .hbm, ⟨0, _⟩ => ⟨S1x3x704, .f32⟩
  | .hbm, ⟨1, _⟩ => ⟨S1x3x704, .f32⟩
  | .hbm, ⟨2, _⟩ => ⟨S1x3x704, .f32⟩
  | .hbm, ⟨3, _⟩ => ⟨S1x3x704, .f32⟩
  | .hbm, ⟨4, _⟩ => ⟨S1x3x704, .f32⟩
  | .hbm, ⟨5, _⟩ => ⟨S1x3x704, .f32⟩
  | .hbm, ⟨6, _⟩ => ⟨S1x3x704, .f32⟩
  | .local _ .vmem, ⟨0, _⟩ => ⟨S1x3x704, .f32⟩
  | .local _ .vmem, ⟨1, _⟩ => ⟨S1x3x704, .f32⟩
  | .local _ .vmem, ⟨2, _⟩ => ⟨S1x3x704, .f32⟩
  | .local _ .vmem, ⟨3, _⟩ => ⟨S1x3x704, .f32⟩
  | .local _ .vmem, ⟨4, _⟩ => ⟨S1x3x704, .f32⟩
  | .local _ .vmem, ⟨5, _⟩ => ⟨S1x3x704, .f32⟩
  | .local _ .vmem, ⟨6, _⟩ => ⟨S1x3x704, .f32⟩
  | _, _ => ⟨S1x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelAdamConvIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== ReferenceAdamConvIdeal.lean ====
abbrev S1x3x704 : Shape := ⟨3, ![1, 3, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x3x704, .f32⟩
  | .hbm, ⟨1, _⟩ => ⟨S1x3x704, .f32⟩
  | .hbm, ⟨2, _⟩ => ⟨S1x3x704, .f32⟩
  | .hbm, ⟨3, _⟩ => ⟨S1x3x704, .f32⟩
  | .hbm, ⟨4, _⟩ => ⟨S_, .f32⟩
  | .hbm, ⟨5, _⟩ => ⟨S1x3x704, .f32⟩
  | .hbm, ⟨6, _⟩ => ⟨S1x3x704, .f32⟩
  | .hbm, ⟨7, _⟩ => ⟨S_, .f32⟩
  | .hbm, ⟨8, _⟩ => ⟨S1x3x704, .f32⟩
  | .hbm, ⟨9, _⟩ => ⟨S1x3x704, .f32⟩
  | .hbm, ⟨10, _⟩ => ⟨S1x3x704, .f32⟩
  | .hbm, ⟨11, _⟩ => ⟨S_, .f32⟩
  | .hbm, ⟨12, _⟩ => ⟨S1x3x704, .f32⟩
  | .hbm, ⟨13, _⟩ => ⟨S1x3x704, .f32⟩
  | .hbm, ⟨14, _⟩ => ⟨S1x3x704, .f32⟩
  | .hbm, ⟨15, _⟩ => ⟨S_, .f32⟩
  | .hbm, ⟨16, _⟩ => ⟨S1x3x704, .f32⟩
  | .hbm, ⟨17, _⟩ => ⟨S1x3x704, .f32⟩
  | .hbm, ⟨18, _⟩ => ⟨S1x3x704, .f32⟩
  | .hbm, ⟨19, _⟩ => ⟨S_, .f32⟩
  | .hbm, ⟨20, _⟩ => ⟨S1x3x704, .f32⟩
  | .hbm, ⟨21, _⟩ => ⟨S1x3x704, .f32⟩
  | .hbm, ⟨22, _⟩ => ⟨S_, .f32⟩
  | .hbm, ⟨23, _⟩ => ⟨S1x3x704, .f32⟩
  | .hbm, ⟨24, _⟩ => ⟨S1x3x704, .f32⟩
  | .hbm, ⟨25, _⟩ => ⟨S1x3x704, .f32⟩
  | .hbm, ⟨26, _⟩ => ⟨S_, .f32⟩
  | .hbm, ⟨27, _⟩ => ⟨S1x3x704, .f32⟩
  | .hbm, ⟨28, _⟩ => ⟨S1x3x704, .f32⟩
  | .hbm, ⟨29, _⟩ => ⟨S1x3x704, .f32⟩
  | .hbm, ⟨30, _⟩ => ⟨S_, .f32⟩
  | .hbm, ⟨31, _⟩ => ⟨S1x3x704, .f32⟩
  | .hbm, ⟨32, _⟩ => ⟨S1x3x704, .f32⟩
  | .hbm, ⟨33, _⟩ => ⟨S1x3x704, .f32⟩
  | .hbm, ⟨34, _⟩ => ⟨S_, .f32⟩
  | .hbm, ⟨35, _⟩ => ⟨S1x3x704, .f32⟩
  | .hbm, ⟨36, _⟩ => ⟨S1x3x704, .f32⟩
  | _, _ => ⟨S1x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelKvProj.lean ====
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceKvProjIdeal.lean ====
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelKvDw.lean ====
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .f32⟩
  | .local _ .vmem, ⟨2, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceKvDwIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .f32⟩
  | .hbm, ⟨2, _⟩ => ⟨S_, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelKvDx.lean ====
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S1024x1024, .f32⟩
  | .local _ .vmem, ⟨0, _⟩ => ⟨S1024x1024, .f32⟩
  | .local _ .vmem, ⟨1, _⟩ => ⟨S1024x1024, .bf16⟩
  | .local _ .vmem, ⟨2, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceKvDxIdeal.lean ====
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S_, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelMemFwd.lean ====
abbrev S4x2048x7168 : Shape := ⟨3, ![4, 2048, 7168]⟩
abbrev S4x256x1024 : Shape := ⟨3, ![4, 256, 1024]⟩
abbrev S1x128 : Shape := ⟨2, ![1, 128]⟩
abbrev S4x2048x512 : Shape := ⟨3, ![4, 2048, 512]⟩
abbrev S1x2048x128 : Shape := ⟨3, ![1, 2048, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S2048x128 : Shape := ⟨2, ![2048, 128]⟩
abbrev S2048 : Shape := ⟨1, ![2048]⟩
abbrev S2048x1 : Shape := ⟨2, ![2048, 1]⟩
abbrev S2048x256 : Shape := ⟨2, ![2048, 256]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x7168, .f32⟩
  | .hbm, ⟨1, _⟩ => ⟨S4x256x1024, .f32⟩
  | .hbm, ⟨2, _⟩ => ⟨S1x128, .f32⟩
  | .hbm, ⟨3, _⟩ => ⟨S1x128, .f32⟩
  | .hbm, ⟨4, _⟩ => ⟨S4x2048x512, .f32⟩
  | .local _ .vmem, ⟨0, _⟩ => ⟨S1x2048x128, .f32⟩
  | .local _ .vmem, ⟨1, _⟩ => ⟨S1x2048x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x128, .f32⟩
  | .local _ .vmem, ⟨7, _⟩ => ⟨S1x128, .f32⟩
  | .local _ .vmem, ⟨8, _⟩ => ⟨S1x2048x128, .f32⟩
  | .local _ .vmem, ⟨9, _⟩ => ⟨S1x2048x128, .f32⟩
  | _, _ => ⟨S4x2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c2048_i32 : BitVec 32 := 2048#32
  let v22 : BitVec 32 := Scalar.muli c0_i32 c2048_i32
  v22
def k0_off1 : Fin 3 → Nat :=
  let c0_12 : Index := 0#32
  let c0_i32 : BitVec 32 := 0#32
  let c2048_i32 : BitVec 32 := 2048#32
  let v22 : BitVec 32 := Scalar.muli c0_i32 c2048_i32
  let v23 : BitVec 32 := v22
  let v24 : Index := Scalar.indexCast v23
  let c0_13 : Index := 0#32
  ![0, v24.toNat, 0]
def cc0_transform_0 (i : grid0.Coords) : Fin 3 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceMemFwdIdeal.lean ====
abbrev S4x2048x7168 : Shape := ⟨3, ![4, 2048, 7168]⟩
abbrev S4x256x1024 : Shape := ⟨3, ![4, 256, 1024]⟩
abbrev S1x128 : Shape := ⟨2, ![1, 128]⟩
abbrev S4x256x512 : Shape := ⟨3, ![4, 256, 512]⟩
abbrev S4x2048x512 : Shape := ⟨3, ![4, 2048, 512]⟩
abbrev S128 : Shape := ⟨1, ![128]⟩
abbrev S4x2048x4x128 : Shape := ⟨4, ![4, 2048, 4, 128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 65
  | .vmem => 0
  | .smem => 0
  | _ => 0

abbrev bufTy : (tb : Table) → Fin (tcTables nBuf tb) → BufTy
  | .hbm, ⟨0, _⟩ => ⟨S4x2048x7168, .f32⟩
  | .hbm, ⟨1, _⟩ => ⟨S4x256x1024, .f32⟩
  | .hbm, ⟨2, _⟩ => ⟨S1x128, .f32⟩
  | .hbm, ⟨3, _⟩ => ⟨S1x128, .f32⟩
  | .hbm, ⟨4, _⟩ => ⟨S4x256x512, .f32⟩
  | .hbm, ⟨5, _⟩ => ⟨S4x256x512, .f32⟩
  | .hbm, ⟨6, _⟩ => ⟨S4x2048x512, .f32⟩
  | .hbm, ⟨7, _⟩ => ⟨S128, .f32⟩
  | .hbm, ⟨8, _⟩ => ⟨S128, .f32⟩
  | .hbm, ⟨9, _⟩ => ⟨S4x2048x4x128, .f32⟩
  | .hbm, ⟨10, _⟩ => ⟨S4x2048x4x128, .f32⟩
  | .hbm, ⟨11, _⟩ => ⟨S_, .f32⟩
  | .hbm, ⟨12, _⟩ => ⟨S4x2048x4, .f32⟩
  | .hbm, ⟨13, _⟩ => ⟨S4x2048x4x1, .f32⟩
  | .hbm, ⟨14, _⟩ => ⟨S_, .f32⟩
  | .hbm, ⟨15, _⟩ => ⟨S4x2048x4x1, .f32⟩
  | .hbm, ⟨16, _⟩ => ⟨S4x2048x4x1, .f32⟩
  | .hbm, ⟨17, _⟩ => ⟨S_, .f32⟩
  | .hbm, ⟨18, _⟩ => ⟨S4x2048x4x1, .f32⟩
  | .hbm, ⟨19, _⟩ => ⟨S4x2048x4x1, .f32⟩
  | .hbm, ⟨20, _⟩ => ⟨S4x2048x4x1, .f32⟩
  | .hbm, ⟨21, _⟩ => ⟨S4x2048x4x128, .f32⟩
  | .hbm, ⟨22, _⟩ => ⟨S4x2048x4x128, .f32⟩
  | .hbm, ⟨23, _⟩ => ⟨S1x1x1x128, .f32⟩
  | .hbm, ⟨24, _⟩ => ⟨S4x2048x4x128, .f32⟩
  | .hbm, ⟨25, _⟩ => ⟨S4x2048x4x128, .f32⟩
  | .hbm, ⟨26, _⟩ => ⟨S4x256x4x128, .f32⟩
  | .hbm, ⟨27, _⟩ => ⟨S4x256x4x128, .f32⟩
  | .hbm, ⟨28, _⟩ => ⟨S_, .f32⟩
  | .hbm, ⟨29, _⟩ => ⟨S4x256x4, .f32⟩
  | .hbm, ⟨30, _⟩ => ⟨S4x256x4x1, .f32⟩
  | .hbm, ⟨31, _⟩ => ⟨S_, .f32⟩
  | .hbm, ⟨32, _⟩ => ⟨S4x256x4x1, .f32⟩
  | .hbm, ⟨33, _⟩ => ⟨S4x256x4x1, .f32⟩
  | .hbm, ⟨34, _⟩ => ⟨S_, .f32⟩
  | .hbm, ⟨35, _⟩ => ⟨S4x256x4x1, .f32⟩
  | .hbm, ⟨36, _⟩ => ⟨S4x256x4x1, .f32⟩
  | .hbm, ⟨37, _⟩ => ⟨S4x256x4x1, .f32⟩
  | .hbm, ⟨38, _⟩ => ⟨S4x256x4x128, .f32⟩
  | .hbm, ⟨39, _⟩ => ⟨S4x256x4x128, .f32⟩
  | .hbm, ⟨40, _⟩ => ⟨S1x1x1x128, .f32⟩
  | .hbm, ⟨41, _⟩ => ⟨S4x256x4x128, .f32⟩
  | .hbm, ⟨42, _⟩ => ⟨S4x256x4x128, .f32⟩
  | .hbm, ⟨43, _⟩ => ⟨S4x256x4x128, .f32⟩
  | .hbm, ⟨44, _⟩ => ⟨S4x4x2048x256, .f32⟩
  | .hbm, ⟨45, _⟩ => ⟨S_, .f32⟩
  | .hbm, ⟨46, _⟩ => ⟨S4x4x2048x256, .f32⟩
  | .hbm, ⟨47, _⟩ => ⟨S4x4x2048x256, .f32⟩
  | .hbm, ⟨48, _⟩ => ⟨S_, .f32⟩
  | .hbm, ⟨49, _⟩ => ⟨S4x4x2048, .f32⟩
  | .hbm, ⟨50, _⟩ => ⟨S_, .f32⟩
  | .hbm, ⟨51, _⟩ => ⟨S4x4x2048, .f32⟩
  | .hbm, ⟨52, _⟩ => ⟨S4x4x2048, .f32⟩
  | .hbm, ⟨53, _⟩ => ⟨S4x4x2048x1, .f32⟩
  | .hbm, ⟨54, _⟩ => ⟨S4x4x2048x256, .f32⟩
  | .hbm, ⟨55, _⟩ => ⟨S4x4x2048x256, .f32⟩
  | .hbm, ⟨56, _⟩ => ⟨S4x4x2048x256, .f32⟩
  | .hbm, ⟨57, _⟩ => ⟨S_, .f32⟩
  | .hbm, ⟨58, _⟩ => ⟨S4x4x2048, .f32⟩
  | .hbm, ⟨59, _⟩ => ⟨S4x4x2048x1, .f32⟩
  | .hbm, ⟨60, _⟩ => ⟨S4x4x2048x256, .f32⟩
  | .hbm, ⟨61, _⟩ => ⟨S4x4x2048x256, .f32⟩
  | .hbm, ⟨62, _⟩ => ⟨S4x4x128x2048, .f32⟩
  | .hbm, ⟨63, _⟩ => ⟨S4x2048x4x128, .f32⟩
  | .hbm, ⟨64, _⟩ => ⟨S4x2048x512, .f32⟩
  | _, _ => ⟨S4x2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== KernelNormFwd.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormFwdIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelNormMemFwd.lean ====
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .bf16⟩
  | .local _ .vmem, ⟨0, _⟩ => ⟨S1024x1024, .f32⟩
  | .local _ .vmem, ⟨1, _⟩ => ⟨S1x1024, .f32⟩
  | .local _ .vmem, ⟨2, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceNormMemFwdIdeal.lean ====
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1024x1 : Shape := ⟨2, ![1024, 1]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelNormMemBwd.lean ====
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024, .f32⟩
  | .hbm, ⟨3, _⟩ => ⟨S1024x1024, .f32⟩
  | .hbm, ⟨4, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_12 : BitVec 32 := 0#32
  let v35 : BitVec 1 := Scalar.cmpi .ne v34 c0_i32_12
  v35

def k0_cond2 (i : grid0.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v36 : BitVec 1 := Scalar.xori v33 v_true
  let v37 : BitVec 32 := Scalar.extui v36
  let c0_i32_13 : BitVec 32 := 0#32
  let v38 : BitVec 1 := Scalar.cmpi .ne v37 c0_i32_13
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceNormMemBwdIdeal.lean ====
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1024x1 : Shape := ⟨2, ![1024, 1]⟩

abbrev nBuf : Space → Nat
  | .hbm => 50
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x1024, .f32⟩
  | .hbm, ⟨20, _⟩ => ⟨S1024x1024, .f32⟩
  | .hbm, ⟨21, _⟩ => ⟨S1x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024, .f32⟩
  | .hbm, ⟨32, _⟩ => ⟨S1024x1024, .f32⟩
  | .hbm, ⟨33, _⟩ => ⟨S_, .f32⟩
  | .hbm, ⟨34, _⟩ => ⟨S1024, .f32⟩
  | .hbm, ⟨35, _⟩ => ⟨S1024x1, .f32⟩
  | .hbm, ⟨36, _⟩ => ⟨S1024x1024, .f32⟩
  | .hbm, ⟨37, _⟩ => ⟨S1024x1024, .f32⟩
  | .hbm, ⟨38, _⟩ => ⟨S1024x1, .f32⟩
  | .hbm, ⟨39, _⟩ => ⟨S_, .f32⟩
  | .hbm, ⟨40, _⟩ => ⟨S1024x1, .f32⟩
  | .hbm, ⟨41, _⟩ => ⟨S1024x1, .f32⟩
  | .hbm, ⟨42, _⟩ => ⟨S_, .f32⟩
  | .hbm, ⟨43, _⟩ => ⟨S1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S1x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== KernelForget.lean ====
abbrev S8192x1024 : Shape := ⟨2, ![8192, 1024]⟩
abbrev S1024x128 : Shape := ⟨2, ![1024, 128]⟩
abbrev S8192x128 : Shape := ⟨2, ![8192, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S2048x1024, .bf16⟩
  | .local _ .vmem, ⟨1, _⟩ => ⟨S2048x1024, .bf16⟩
  | .local _ .vmem, ⟨2, _⟩ => ⟨S1024x128, .bf16⟩
  | .local _ .vmem, ⟨3, _⟩ => ⟨S2048x128, .f32⟩
  | .local _ .vmem, ⟨4, _⟩ => ⟨S2048x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceForgetIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelForgetDw.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceForgetDwIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S128x1024, .f32⟩
  | .hbm, ⟨8, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelForgetDx.lean ====
abbrev S8192x128 : Shape := ⟨2, ![8192, 128]⟩
abbrev S1024x128 : Shape := ⟨2, ![1024, 128]⟩
abbrev S8192x1024 : Shape := ⟨2, ![8192, 1024]⟩
abbrev S2048x128 : Shape := ⟨2, ![2048, 128]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S2048x1024, .f32⟩
  | .local _ .vmem, ⟨4, _⟩ => ⟨S2048x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceForgetDxIdeal.lean ====
abbrev S8192x128 : Shape := ⟨2, ![8192, 128]⟩
abbrev S1024x128 : Shape := ⟨2, ![1024, 128]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S_, .f32⟩
  | .hbm, ⟨3, _⟩ => ⟨S8192x1024, .f32⟩
  | .hbm, ⟨4, _⟩ => ⟨S1024x128, .f32⟩
  | .hbm, ⟨5, _⟩ => ⟨S8192x128, .f32⟩
  | .hbm, ⟨6, _⟩ => ⟨S8192x128, .f32⟩
  | .hbm, ⟨7, _⟩ => ⟨S8192x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.MemPoint.lean ====
/-
  What one grid point of the gradient of the memory attention leaves in its five output blocks, as terms of
  the point's six input blocks: the query rows, the key rows, the value rows, the incoming gradient and the two gains.
  A point of case A (the first one) starts the two gain gradients; a point of case B adds to what the point before left.
-/
module

public import proofs.«01_k».proof.Proof.Gen.KernelIdeal.Frame
public import Idealize.ShloMosaic.Lib.Pipeline.Value

@[expose] public section

set_option maxRecDepth 16384

noncomputable section

namespace Cert.MemPoint

open Cert.KernelIdeal Cert.KernelIdeal.Gen Idealize.ShloMosaic Idealize.ShloMosaic.TcCoe Idealize.SL.Sem

variable {F : FTy → Type} [FloatOps F]

/-- The block's offsets are all zero. -/
theorem off2 : (![0, 0] : Fin 2 → Nat) = fun _ => 0 := by decide
theorem off3 : (![0, 0, 0] : Fin 3 → Nat) = fun _ => 0 := by decide
theorem offq : k0_off1 = fun _ => 0 := by decide

theorem ldK (x : Vec F S1x256x128 .f32) (h : ∀ a, (![0, 0, 0] : Fin 3 → Nat) a + S1x256x128.size a ≤ S1x256x128.size a) :
    View.ld x (Rect.unit ![0, 0, 0] ![1, 256, 128] h) = x := View.ld_unit_zero (S := S1x256x128) off3 h x
theorem ldQ (x : Vec F S1x2048x128 .f32) :
    View.ld x (Rect.unit (s := S1x2048x128) k0_off1 ![1, 2048, 128] k0_off1_inb) = x :=
  View.ld_unit_zero (S := S1x2048x128) offq k0_off1_inb x
theorem ldG (x : Vec F S1x128 .f32) (h : ∀ a, (![0, 0] : Fin 2 → Nat) a + S1x128.size a ≤ S1x128.size a) :
    View.ld x (Rect.unit ![0, 0] ![1, 128] h) = x := View.ld_unit_zero (S := S1x128) off2 h x

section Terms

variable (q : Vec F S1x2048x128 .f32) (k v : Vec F S1x256x128 .f32) (dy : Vec F S1x2048x128 .f32) (gq gk : Vec F S1x128 .f32)

/-- The normalised query rows, scaled. -/
def qn : FVec F S2048x128 .bf16 := k0_pay15 (k0_pay6 gq) (k0_pay12 q) (k0_pay13 q) (k0_pay14 (F := F))
/-- The attention weights. -/
def pm : FVec F S2048x256 .f32 := k0_pay16 (k0_pay6 gq) (k0_pay8 gk k) (k0_pay12 q) (k0_pay13 q) (k0_pay14 (F := F))
/-- The gradient of the scores. -/
def ds : FVec F S2048x256 .f32 :=
  k0_pay18 (k0_pay6 gq) (k0_pay8 gk k) (k0_pay9 v) (k0_pay12 q) (k0_pay13 q) (k0_pay14 (F := F)) dy
/-- The gradient of the normalised query rows. -/
def dqn : FVec F S2048x128 .f32 :=
  k0_pay19 (k0_pay6 gq) (k0_pay8 gk k) (k0_pay9 v) (k0_pay12 q) (k0_pay13 q) (k0_pay14 (F := F)) dy
/-- The gradient of the normalised key rows. -/
def dkn : FVec F S256x128 .f32 := k0_pay26 (k0_pay10 (F := F)) (qn q gq) (ds q k v dy gq gk)
/-- The block of the queries' gradient. -/
def dqOut : FVec F S1x2048x128 .bf16 :=
  k0_pay25 (k0_pay22 (k0_pay6 gq) (k0_pay8 gk k) (k0_pay9 v) (k0_pay12 q) (k0_pay13 q) (k0_pay14 (F := F)) dy)
    (k0_pay23 (k0_pay12 q))
    (k0_pay24 (k0_pay6 gq) (k0_pay8 gk k) (k0_pay9 v) (k0_pay12 q) (k0_pay13 q) (k0_pay14 (F := F)) dy)
/-- The block of the keys' gradient. -/
def dkOut : FVec F S1x256x128 .f32 :=
  k0_pay2 (k0_pay31 gk (k0_pay7 k) (k0_pay10 (F := F)) (qn q gq) (ds q k v dy gq gk)) (k0_pay32 (k0_pay7 k))
    (k0_pay33 gk (k0_pay7 k) (k0_pay10 (F := F)) (qn q gq) (ds q k v dy gq gk))
/-- The block of the values' gradient. -/
def dvOut : FVec F S1x256x128 .f32 := k0_pay3 (k0_pay27 (k0_pay10 (F := F)) (pm q k gq gk) (k0_pay17 dy))
/-- The point's share of the query gain's gradient. -/
def dgqPart : FVec F S1x128 .f32 :=
  k0_pay28 (k0_pay11 (F := F)) (k0_pay12 q) (dqn q k v dy gq gk) (k0_pay20 (k0_pay12 q))
/-- The point's share of the key gain's gradient. -/
def dgkPart : FVec F S1x128 .f32 := k0_pay1 (k0_pay7 k) (dkn q k v dy gq gk) (k0_pay29 (k0_pay7 k))

end Terms

theorem out_A_6 (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x128 .f32) (harg7 : arg7.IsWhole) (arg9 : Memref sig .tc .vmem S1x2048x128 .bf16) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x128 .f32) (harg12 : arg12.IsWhole) (arg13 : Memref sig .tc .vmem S1x128 .f32) (harg13 : arg13.IsWhole) (hc0 : cond0_0 i) (hc1 : ¬cond0_1 i) (hc2 : cond0_2 i) (hc3 : ¬cond0_3 i)
    (x0 : Vec F S1x2048x128 .f32) (x1 : Vec F S1x256x128 .f32) (x2 : Vec F S1x256x128 .f32) (x3 : Vec F S1x2048x128 .f32) (x4 : Vec F S1x128 .f32) (x5 : Vec F S1x128 .f32) :
    out0_A_6 c i arg2 harg2 arg3 harg3 arg4 harg4 arg5 harg5 arg6 harg6 arg7 harg7 arg9 harg9 arg10 harg10 arg11 harg11 arg12 harg12 arg13 harg13 hc0 hc1 hc2 hc3 x0 x1 x2 x3 x4 x5 = dqOut x0 x1 x2 x3 x4 x5 := by
  unfold out0_A_6
  rw [View.read_writes_eq_canon _ _ _ (cover0_A_6 c i arg2 harg2 arg3 harg3 arg4 harg4 arg5 harg5 arg6 harg6 arg7 harg7 arg9 harg9 arg10 harg10 arg11 harg11 arg12 harg12 arg13 harg13 hc0 hc1 hc2 hc3 x0 x1 x2 x3 x4 x5)]
  unfold kernelRun0_A
  dsimp only
  sl_unfold_run_names
  rw [View.canon_unit_zero (S := S1x2048x128) offq]
  simp only [View.readAt_eq_ld, harg2.read_unread, harg3.read_unread, harg4.read_unread, harg5.read_unread, harg6.read_unread, harg7.read_unread, harg9.read_unread, harg10.read_unread, harg11.read_unread, harg12.read_unread, harg13.read_unread, ldK, ldQ, ldG]
  rfl

theorem out_A_7 (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x128 .f32) (harg7 : arg7.IsWhole) (arg9 : Memref sig .tc .vmem S1x2048x128 .bf16) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x128 .f32) (harg12 : arg12.IsWhole) (arg13 : Memref sig .tc .vmem S1x128 .f32) (harg13 : arg13.IsWhole) (hc0 : cond0_0 i) (hc1 : ¬cond0_1 i) (hc2 : cond0_2 i) (hc3 : ¬cond0_3 i)
    (x0 : Vec F S1x2048x128 .f32) (x1 : Vec F S1x256x128 .f32) (x2 : Vec F S1x256x128 .f32) (x3 : Vec F S1x2048x128 .f32) (x4 : Vec F S1x128 .f32) (x5 : Vec F S1x128 .f32) :
    out0_A_7 c i arg2 harg2 arg3 harg3 arg4 harg4 arg5 harg5 arg6 harg6 arg7 harg7 arg9 harg9 arg10 harg10 arg11 harg11 arg12 harg12 arg13 harg13 hc0 hc1 hc2 hc3 x0 x1 x2 x3 x4 x5 = dkOut x0 x1 x2 x3 x4 x5 := by
  unfold out0_A_7
  rw [View.read_writes_eq_canon _ _ _ (cover0_A_7 c i arg2 harg2 arg3 harg3 arg4 harg4 arg5 harg5 arg6 harg6 arg7 harg7 arg9 harg9 arg10 harg10 arg11 harg11 arg12 harg12 arg13 harg13 hc0 hc1 hc2 hc3 x0 x1 x2 x3 x4 x5)]
  unfold kernelRun0_A
  dsimp only
  sl_unfold_run_names
  rw [View.canon_unit_zero (S := S1x256x128) off3]
  simp only [View.readAt_eq_ld, harg2.read_unread, harg3.read_unread, harg4.read_unread, harg5.read_unread, harg6.read_unread, harg7.read_unread, harg9.read_unread, harg10.read_unread, harg11.read_unread, harg12.read_unread, harg13.read_unread, ldK, ldQ, ldG]
  rfl

theorem out_A_8 (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x128 .f32) (harg7 : arg7.IsWhole) (arg9 : Memref sig .tc .vmem S1x2048x128 .bf16) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x128 .f32) (harg12 : arg12.IsWhole) (arg13 : Memref sig .tc .vmem S1x128 .f32) (harg13 : arg13.IsWhole) (hc0 : cond0_0 i) (hc1 : ¬cond0_1 i) (hc2 : cond0_2 i) (hc3 : ¬cond0_3 i)
    (x0 : Vec F S1x2048x128 .f32) (x1 : Vec F S1x256x128 .f32) (x2 : Vec F S1x256x128 .f32) (x3 : Vec F S1x2048x128 .f32) (x4 : Vec F S1x128 .f32) (x5 : Vec F S1x128 .f32) :
    out0_A_8 c i arg2 harg2 arg3 harg3 arg4 harg4 arg5 harg5 arg6 harg6 arg7 harg7 arg9 harg9 arg10 harg10 arg11 harg11 arg12 harg12 arg13 harg13 hc0 hc1 hc2 hc3 x0 x1 x2 x3 x4 x5 = dvOut x0 x1 x3 x4 x5 := by
  unfold out0_A_8
  rw [View.read_writes_eq_canon _ _ _ (cover0_A_8 c i arg2 harg2 arg3 harg3 arg4 harg4 arg5 harg5 arg6 harg6 arg7 harg7 arg9 harg9 arg10 harg10 arg11 harg11 arg12 harg12 arg13 harg13 hc0 hc1 hc2 hc3 x0 x1 x2 x3 x4 x5)]
  unfold kernelRun0_A
  dsimp only
  sl_unfold_run_names
  rw [View.canon_unit_zero (S := S1x256x128) off3]
  simp only [View.readAt_eq_ld, harg2.read_unread, harg3.read_unread, harg4.read_unread, harg5.read_unread, harg6.read_unread, harg7.read_unread, harg9.read_unread, harg10.read_unread, harg11.read_unread, harg12.read_unread, harg13.read_unread, ldK, ldQ, ldG]
  rfl

theorem out_A_9 (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x128 .f32) (harg7 : arg7.IsWhole) (arg9 : Memref sig .tc .vmem S1x2048x128 .bf16) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x128 .f32) (harg12 : arg12.IsWhole) (arg13 : Memref sig .tc .vmem S1x128 .f32) (harg13 : arg13.IsWhole) (hc0 : cond0_0 i) (hc1 : ¬cond0_1 i) (hc2 : cond0_2 i) (hc3 : ¬cond0_3 i)
    (x0 : Vec F S1x2048x128 .f32) (x1 : Vec F S1x256x128 .f32) (x2 : Vec F S1x256x128 .f32) (x3 : Vec F S1x2048x128 .f32) (x4 : Vec F S1x128 .f32) (x5 : Vec F S1x128 .f32) :
    out0_A_9 c i arg2 harg2 arg3 harg3 arg4 harg4 arg5 harg5 arg6 harg6 arg7 harg7 arg9 harg9 arg10 harg10 arg11 harg11 arg12 harg12 arg13 harg13 hc0 hc1 hc2 hc3 x0 x1 x2 x3 x4 x5 = dgqPart x0 x1 x2 x3 x4 x5 := by
  unfold out0_A_9
  rw [View.read_writes_eq_canon _ _ _ (cover0_A_9 c i arg2 harg2 arg3 harg3 arg4 harg4 arg5 harg5 arg6 harg6 arg7 harg7 arg9 harg9 arg10 harg10 arg11 harg11 arg12 harg12 arg13 harg13 hc0 hc1 hc2 hc3 x0 x1 x2 x3 x4 x5)]
  unfold kernelRun0_A
  dsimp only
  sl_unfold_run_names
  rw [View.canon_unit_zero (S := S1x128) off2]
  simp only [View.readAt_eq_ld, harg2.read_unread, harg3.read_unread, harg4.read_unread, harg5.read_unread, harg6.read_unread, harg7.read_unread, harg9.read_unread, harg10.read_unread, harg11.read_unread, harg12.read_unread, harg13.read_unread, ldK, ldQ, ldG]
  rfl

theorem out_A_10 (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x128 .f32) (harg7 : arg7.IsWhole) (arg9 : Memref sig .tc .vmem S1x2048x128 .bf16) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x128 .f32) (harg12 : arg12.IsWhole) (arg13 : Memref sig .tc .vmem S1x128 .f32) (harg13 : arg13.IsWhole) (hc0 : cond0_0 i) (hc1 : ¬cond0_1 i) (hc2 : cond0_2 i) (hc3 : ¬cond0_3 i)
    (x0 : Vec F S1x2048x128 .f32) (x1 : Vec F S1x256x128 .f32) (x2 : Vec F S1x256x128 .f32) (x3 : Vec F S1x2048x128 .f32) (x4 : Vec F S1x128 .f32) (x5 : Vec F S1x128 .f32) :
    out0_A_10 c i arg2 harg2 arg3 harg3 arg4 harg4 arg5 harg5 arg6 harg6 arg7 harg7 arg9 harg9 arg10 harg10 arg11 harg11 arg12 harg12 arg13 harg13 hc0 hc1 hc2 hc3 x0 x1 x2 x3 x4 x5 = dgkPart x0 x1 x2 x3 x4 x5 := by
  unfold out0_A_10
  rw [View.read_writes_eq_canon _ _ _ (cover0_A_10 c i arg2 harg2 arg3 harg3 arg4 harg4 arg5 harg5 arg6 harg6 arg7 harg7 arg9 harg9 arg10 harg10 arg11 harg11 arg12 harg12 arg13 harg13 hc0 hc1 hc2 hc3 x0 x1 x2 x3 x4 x5)]
  unfold kernelRun0_A
  dsimp only
  sl_unfold_run_names
  rw [View.canon_unit_zero (S := S1x128) off2]
  simp only [View.readAt_eq_ld, harg2.read_unread, harg3.read_unread, harg4.read_unread, harg5.read_unread, harg6.read_unread, harg7.read_unread, harg9.read_unread, harg10.read_unread, harg11.read_unread, harg12.read_unread, harg13.read_unread, ldK, ldQ, ldG]
  rfl

theorem out_B_6 (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x128 .f32) (harg7 : arg7.IsWhole) (arg9 : Memref sig .tc .vmem S1x2048x128 .bf16) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x128 .f32) (harg12 : arg12.IsWhole) (arg13 : Memref sig .tc .vmem S1x128 .f32) (harg13 : arg13.IsWhole) (hc0 : ¬cond0_0 i) (hc1 : cond0_1 i) (hc2 : ¬cond0_2 i) (hc3 : cond0_3 i)
    (x0 : Vec F S1x2048x128 .f32) (x1 : Vec F S1x256x128 .f32) (x2 : Vec F S1x256x128 .f32) (x3 : Vec F S1x2048x128 .f32) (x4 : Vec F S1x128 .f32) (x5 : Vec F S1x128 .f32) (xo9 : Vec F S1x128 .f32) (xo10 : Vec F S1x128 .f32) :
    out0_B_6 c i arg2 harg2 arg3 harg3 arg4 harg4 arg5 harg5 arg6 harg6 arg7 harg7 arg9 harg9 arg10 harg10 arg11 harg11 arg12 harg12 arg13 harg13 hc0 hc1 hc2 hc3 x0 x1 x2 x3 x4 x5 xo9 xo10 = dqOut x0 x1 x2 x3 x4 x5 := by
  unfold out0_B_6
  rw [View.read_writes_eq_canon _ _ _ (cover0_B_6 c i arg2 harg2 arg3 harg3 arg4 harg4 arg5 harg5 arg6 harg6 arg7 harg7 arg9 harg9 arg10 harg10 arg11 harg11 arg12 harg12 arg13 harg13 hc0 hc1 hc2 hc3 x0 x1 x2 x3 x4 x5 xo9 xo10)]
  unfold kernelRun0_B
  dsimp only
  sl_unfold_run_names
  rw [View.canon_unit_zero (S := S1x2048x128) offq]
  simp only [View.readAt_eq_ld, harg2.read_unread, harg3.read_unread, harg4.read_unread, harg5.read_unread, harg6.read_unread, harg7.read_unread, harg9.read_unread, harg10.read_unread, harg11.read_unread, harg12.read_unread, harg13.read_unread, ldK, ldQ, ldG]
  rfl

theorem out_B_7 (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x128 .f32) (harg7 : arg7.IsWhole) (arg9 : Memref sig .tc .vmem S1x2048x128 .bf16) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x128 .f32) (harg12 : arg12.IsWhole) (arg13 : Memref sig .tc .vmem S1x128 .f32) (harg13 : arg13.IsWhole) (hc0 : ¬cond0_0 i) (hc1 : cond0_1 i) (hc2 : ¬cond0_2 i) (hc3 : cond0_3 i)
    (x0 : Vec F S1x2048x128 .f32) (x1 : Vec F S1x256x128 .f32) (x2 : Vec F S1x256x128 .f32) (x3 : Vec F S1x2048x128 .f32) (x4 : Vec F S1x128 .f32) (x5 : Vec F S1x128 .f32) (xo9 : Vec F S1x128 .f32) (xo10 : Vec F S1x128 .f32) :
    out0_B_7 c i arg2 harg2 arg3 harg3 arg4 harg4 arg5 harg5 arg6 harg6 arg7 harg7 arg9 harg9 arg10 harg10 arg11 harg11 arg12 harg12 arg13 harg13 hc0 hc1 hc2 hc3 x0 x1 x2 x3 x4 x5 xo9 xo10 = dkOut x0 x1 x2 x3 x4 x5 := by
  unfold out0_B_7
  rw [View.read_writes_eq_canon _ _ _ (cover0_B_7 c i arg2 harg2 arg3 harg3 arg4 harg4 arg5 harg5 arg6 harg6 arg7 harg7 arg9 harg9 arg10 harg10 arg11 harg11 arg12 harg12 arg13 harg13 hc0 hc1 hc2 hc3 x0 x1 x2 x3 x4 x5 xo9 xo10)]
  unfold kernelRun0_B
  dsimp only
  sl_unfold_run_names
  rw [View.canon_unit_zero (S := S1x256x128) off3]
  simp only [View.readAt_eq_ld, harg2.read_unread, harg3.read_unread, harg4.read_unread, harg5.read_unread, harg6.read_unread, harg7.read_unread, harg9.read_unread, harg10.read_unread, harg11.read_unread, harg12.read_unread, harg13.read_unread, ldK, ldQ, ldG]
  rfl

theorem out_B_8 (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x128 .f32) (harg7 : arg7.IsWhole) (arg9 : Memref sig .tc .vmem S1x2048x128 .bf16) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x128 .f32) (harg12 : arg12.IsWhole) (arg13 : Memref sig .tc .vmem S1x128 .f32) (harg13 : arg13.IsWhole) (hc0 : ¬cond0_0 i) (hc1 : cond0_1 i) (hc2 : ¬cond0_2 i) (hc3 : cond0_3 i)
    (x0 : Vec F S1x2048x128 .f32) (x1 : Vec F S1x256x128 .f32) (x2 : Vec F S1x256x128 .f32) (x3 : Vec F S1x2048x128 .f32) (x4 : Vec F S1x128 .f32) (x5 : Vec F S1x128 .f32) (xo9 : Vec F S1x128 .f32) (xo10 : Vec F S1x128 .f32) :
    out0_B_8 c i arg2 harg2 arg3 harg3 arg4 harg4 arg5 harg5 arg6 harg6 arg7 harg7 arg9 harg9 arg10 harg10 arg11 harg11 arg12 harg12 arg13 harg13 hc0 hc1 hc2 hc3 x0 x1 x2 x3 x4 x5 xo9 xo10 = dvOut x0 x1 x3 x4 x5 := by
  unfold out0_B_8
  rw [View.read_writes_eq_canon _ _ _ (cover0_B_8 c i arg2 harg2 arg3 harg3 arg4 harg4 arg5 harg5 arg6 harg6 arg7 harg7 arg9 harg9 arg10 harg10 arg11 harg11 arg12 harg12 arg13 harg13 hc0 hc1 hc2 hc3 x0 x1 x2 x3 x4 x5 xo9 xo10)]
  unfold kernelRun0_B
  dsimp only
  sl_unfold_run_names
  rw [View.canon_unit_zero (S := S1x256x128) off3]
  simp only [View.readAt_eq_ld, harg2.read_unread, harg3.read_unread, harg4.read_unread, harg5.read_unread, harg6.read_unread, harg7.read_unread, harg9.read_unread, harg10.read_unread, harg11.read_unread, harg12.read_unread, harg13.read_unread, ldK, ldQ, ldG]
  rfl

theorem out_B_9 (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x128 .f32) (harg7 : arg7.IsWhole) (arg9 : Memref sig .tc .vmem S1x2048x128 .bf16) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x128 .f32) (harg12 : arg12.IsWhole) (arg13 : Memref sig .tc .vmem S1x128 .f32) (harg13 : arg13.IsWhole) (hc0 : ¬cond0_0 i) (hc1 : cond0_1 i) (hc2 : ¬cond0_2 i) (hc3 : cond0_3 i)
    (x0 : Vec F S1x2048x128 .f32) (x1 : Vec F S1x256x128 .f32) (x2 : Vec F S1x256x128 .f32) (x3 : Vec F S1x2048x128 .f32) (x4 : Vec F S1x128 .f32) (x5 : Vec F S1x128 .f32) (xo9 : Vec F S1x128 .f32) (xo10 : Vec F S1x128 .f32) :
    out0_B_9 c i arg2 harg2 arg3 harg3 arg4 harg4 arg5 harg5 arg6 harg6 arg7 harg7 arg9 harg9 arg10 harg10 arg11 harg11 arg12 harg12 arg13 harg13 hc0 hc1 hc2 hc3 x0 x1 x2 x3 x4 x5 xo9 xo10 = k0_pay4 (dgqPart x0 x1 x2 x3 x4 x5) xo9 := by
  unfold out0_B_9
  rw [View.read_writes_eq_canon _ _ _ (cover0_B_9 c i arg2 harg2 arg3 harg3 arg4 harg4 arg5 harg5 arg6 harg6 arg7 harg7 arg9 harg9 arg10 harg10 arg11 harg11 arg12 harg12 arg13 harg13 hc0 hc1 hc2 hc3 x0 x1 x2 x3 x4 x5 xo9 xo10)]
  unfold kernelRun0_B
  dsimp only
  sl_unfold_run_names
  rw [View.canon_unit_zero (S := S1x128) off2]
  simp only [View.readAt_eq_ld, harg2.read_unread, harg3.read_unread, harg4.read_unread, harg5.read_unread, harg6.read_unread, harg7.read_unread, harg9.read_unread, harg10.read_unread, harg11.read_unread, harg12.read_unread, harg13.read_unread, ldK, ldQ, ldG]
  rfl

theorem out_B_10 (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x128 .f32) (harg7 : arg7.IsWhole) (arg9 : Memref sig .tc .vmem S1x2048x128 .bf16) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x128 .f32) (harg12 : arg12.IsWhole) (arg13 : Memref sig .tc .vmem S1x128 .f32) (harg13 : arg13.IsWhole) (hc0 : ¬cond0_0 i) (hc1 : cond0_1 i) (hc2 : ¬cond0_2 i) (hc3 : cond0_3 i)
    (x0 : Vec F S1x2048x128 .f32) (x1 : Vec F S1x256x128 .f32) (x2 : Vec F S1x256x128 .f32) (x3 : Vec F S1x2048x128 .f32) (x4 : Vec F S1x128 .f32) (x5 : Vec F S1x128 .f32) (xo9 : Vec F S1x128 .f32) (xo10 : Vec F S1x128 .f32) :
    out0_B_10 c i arg2 harg2 arg3 harg3 arg4 harg4 arg5 harg5 arg6 harg6 arg7 harg7 arg9 harg9 arg10 harg10 arg11 harg11 arg12 harg12 arg13 harg13 hc0 hc1 hc2 hc3 x0 x1 x2 x3 x4 x5 xo9 xo10 = addf (shapeCast S1x128 xo10 shapeCasts_S1x128_S1x128) (dgkPart x0 x1 x2 x3 x4 x5) := by
  unfold out0_B_10
  rw [View.read_writes_eq_canon _ _ _ (cover0_B_10 c i arg2 harg2 arg3 harg3 arg4 harg4 arg5 harg5 arg6 harg6 arg7 harg7 arg9 harg9 arg10 harg10 arg11 harg11 arg12 harg12 arg13 harg13 hc0 hc1 hc2 hc3 x0 x1 x2 x3 x4 x5 xo9 xo10)]
  unfold kernelRun0_B
  dsimp only
  sl_unfold_run_names
  rw [View.canon_unit_zero (S := S1x128) off2]
  simp only [View.readAt_eq_ld, harg2.read_unread, harg3.read_unread, harg4.read_unread, harg5.read_unread, harg6.read_unread, harg7.read_unread, harg9.read_unread, harg10.read_unread, harg11.read_unread, harg12.read_unread, harg13.read_unread, ldK, ldQ, ldG]
  rfl

end Cert.MemPoint

end
-- ==== Proof.Arith.lean ====
/-
  Arithmetic on the extended reals which the value claims share: products of sums with a real factor, the reciprocal
  root mean square of a row, and its backward pass in the kernel's spelling and in the reference's.
-/
module

public import Idealize.ShloMosaic.PureOps.Ideal
public import Idealize.ShloMosaic.PureOps.Ideal.Laws

@[expose] public section

noncomputable section

namespace Cert.Arith

open Idealize.ShloMosaic
open scoped BigOperators

/-! ## Sums times a real number -/

/-- A nonnegative real factor distributes over a sum of two. -/
theorem add_mul_real {c : ℝ} (hc : 0 ≤ c) (a b : EReal) : (a + b) * (c : EReal) = a * c + b * c :=
  EReal.right_distrib_of_nonneg_of_ne_top (by exact_mod_cast hc) (EReal.coe_ne_top c) a b

/-- A nonnegative real factor distributes over a finite sum. -/
theorem sum_mul_real {ι : Type*} (s : Finset ι) {c : ℝ} (hc : 0 ≤ c) (f : ι → EReal) :
    (∑ i ∈ s, f i) * (c : EReal) = ∑ i ∈ s, f i * c := by
  classical
  induction s using Finset.induction_on with
  | empty => simp
  | insert a s ha ih => rw [Finset.sum_insert ha, Finset.sum_insert ha, add_mul_real hc, ih]

/-- A sum of real numbers is a real number. -/
theorem sum_real {ι : Type*} (s : Finset ι) (f : ι → EReal) (h : ∀ i, ∃ r : ℝ, f i = r) :
    ∃ r : ℝ, ∑ i ∈ s, f i = r := by
  classical
  choose g hg using h
  refine ⟨∑ i ∈ s, g i, ?_⟩
  induction s using Finset.induction_on with
  | empty => simp
  | insert a s ha ih => rw [Finset.sum_insert ha, Finset.sum_insert ha, ih, hg, EReal.coe_add]

theorem mul_real {a b : EReal} (ha : ∃ r : ℝ, a = r) (hb : ∃ r : ℝ, b = r) : ∃ r : ℝ, a * b = r := by
  obtain ⟨r, rfl⟩ := ha; obtain ⟨t, rfl⟩ := hb; exact ⟨r * t, (EReal.coe_mul r t).symm⟩

/-- A square is not negative. -/
theorem sq_nonneg (x : EReal) : 0 ≤ x * x := by
  induction x with
  | bot => simp
  | top => simp
  | coe r => exact_mod_cast mul_self_nonneg r

/-- Minus a half of a number, taken twice, is minus the number. -/
theorem half_twice (y : EReal) : y * ((-(1 / 2) : ℝ) : EReal) + y * ((-(1 / 2) : ℝ) : EReal) = -y := by
  induction y with
  | bot => rw [EReal.bot_mul_coe_of_neg (by norm_num)]; simp
  | top => rw [EReal.top_mul_coe_of_neg (by norm_num)]; simp
  | coe r =>
    rw [← EReal.coe_mul, ← EReal.coe_add, ← EReal.coe_neg]
    congr 1; ring

/-! ## The reciprocal root mean square of a row -/

section Norm

variable {ι : Type*} [Fintype ι]

/-- The mean square of a row of width `n`, with the stabiliser. -/
def msq (n ε : ℝ) (x : ι → EReal) : EReal := Ideal.div (∑ i, x i * x i) (n : EReal) + (ε : EReal)
/-- Its reciprocal root. -/
def rs (n ε : ℝ) (x : ι → EReal) : EReal := Ideal.rsqrt (msq n ε x)

variable {n ε : ℝ} (hn : 0 < n) (hε : 0 < ε) (x : ι → EReal)

include hn hε in
/-- The mean square is plus infinity or a positive real number, and in the second case the row is real. -/
theorem msq_cases : msq n ε x = ⊤ ∨ ((∃ m : ℝ, 0 < m ∧ msq n ε x = m) ∧ ∀ i, ∃ r : ℝ, x i = r) := by
  unfold msq
  rw [Ideal.div_coe hn.ne']
  have h0 : 0 ≤ ∑ i, x i * x i := Finset.sum_nonneg fun i _ => sq_nonneg (x i)
  by_cases ht : ∑ i, x i * x i = ⊤
  · left
    rw [ht, EReal.top_mul_coe_of_pos (by positivity), EReal.top_add_coe]
  · right
    have hx : ∀ i, ∃ r : ℝ, x i = r := fun i => by
      have hi : x i * x i ≠ ⊤ := fun h => ht (top_le_iff.mp (h ▸
        Finset.single_le_sum (f := fun i => x i * x i) (fun j _ => sq_nonneg (x j)) (Finset.mem_univ i)))
      refine ⟨(x i).toReal, (EReal.coe_toReal ?_ ?_).symm⟩
      · intro h; rw [h] at hi; simp at hi
      · intro h; rw [h] at hi; simp at hi
    refine ⟨?_, hx⟩
    obtain ⟨S, hS⟩ := sum_real Finset.univ (fun i => x i * x i) fun i => mul_real (hx i) (hx i)
    rw [hS] at h0 ⊢
    have h0' : (0 : ℝ) ≤ S := by exact_mod_cast h0
    refine ⟨S * (1 / n) + ε, by positivity, ?_⟩
    rw [EReal.coe_add, EReal.coe_mul]

include hn hε in
/-- The reciprocal root is a nonnegative real number. -/
theorem rs_real : ∃ r : ℝ, 0 ≤ r ∧ rs n ε x = r := by
  rcases msq_cases hn hε x with h | ⟨⟨m, hm, h⟩, -⟩
  · exact ⟨0, le_rfl, by rw [rs, h]; rfl⟩
  · exact ⟨(Real.sqrt m)⁻¹, by positivity, by
      rw [rs, h, Ideal.rsqrt_coe, if_neg (not_lt.mpr hm.le), if_neg hm.ne']⟩

include hn hε in
/-- An element times its row's reciprocal root is real, also where the row holds an infinity (there it is zero). -/
theorem mul_rs_real (i : ι) : ∃ r : ℝ, x i * rs n ε x = r := by
  rcases msq_cases hn hε x with h | ⟨-, hx⟩
  · exact ⟨0, by rw [rs, h, Ideal.rsqrt_top, mul_zero]; rfl⟩
  · obtain ⟨r, -, hr⟩ := rs_real hn hε x
    exact mul_real (hx i) ⟨r, hr⟩

include hn hε in
/-- The reciprocal root divided by the mean square is its cube. -/
theorem div_rs : Ideal.div (rs n ε x) (msq n ε x) = rs n ε x * rs n ε x * rs n ε x := by
  rcases msq_cases hn hε x with h | ⟨⟨m, hm, h⟩, -⟩
  · rw [rs, h, Ideal.rsqrt_top]; simp [Ideal.div]
  · rw [rs, h, Ideal.rsqrt_coe, if_neg (not_lt.mpr hm.le), if_neg hm.ne', Ideal.div_coe hm.ne', ← EReal.coe_mul,
      ← EReal.coe_mul, ← EReal.coe_mul]
    congr 1
    have hs : Real.sqrt m * Real.sqrt m = m := Real.mul_self_sqrt hm.le
    have hp : Real.sqrt m ≠ 0 := (Real.sqrt_pos.mpr hm).ne'
    rw [one_div, ← hs, Real.sqrt_mul_self (Real.sqrt_nonneg m)]
    field_simp

/-- The normalisation's backward pass as the kernel writes it, for the gradient `g` of the normalised row. -/
def normBwdK (n ε : ℝ) (x g : ι → EReal) (i : ι) : EReal :=
  rs n ε x * g i - x i * (rs n ε x * rs n ε x * rs n ε x) * Ideal.div (∑ j, g j * x j) (n : EReal)

/-- The factor by which the row itself enters the reference's backward pass, twice. -/
def coefR (n ε : ℝ) (x g : ι → EReal) : EReal :=
  Ideal.div ((∑ j, x j * g j) * (((-(1 / 2) : ℝ) : EReal) * Ideal.div (rs n ε x) (msq n ε x))) (n : EReal)

/-- The same pass as the reference has it. -/
def normBwdR (n ε : ℝ) (x g : ι → EReal) (i : ι) : EReal :=
  g i * rs n ε x + x i * coefR n ε x g + coefR n ε x g * x i

include hn hε in
theorem normBwd_eq (g : ι → EReal) (i : ι) : normBwdK n ε x g i = normBwdR n ε x g i := by
  unfold normBwdK normBwdR coefR
  rw [div_rs hn hε, Ideal.div_coe hn.ne', Ideal.div_coe hn.ne', add_assoc, sub_eq_add_neg, mul_comm (g i)]
  congr 1
  have hsum : ∑ j, g j * x j = ∑ j, x j * g j := Finset.sum_congr rfl fun j _ => mul_comm _ _
  rw [hsum, ← half_twice]
  congr 1 <;> ac_rfl

end Norm

end Cert.Arith

end
-- ==== Proof.MemMath.lean ====
/-
  The mathematics of the memory cross-attention's backward pass for one batch row and one head, over the extended
  reals: `K…` as the kernel computes it, `R…` as the reference does, and their equality when the two gain vectors are
  finite.

  The kernel puts the scale into the queries' gain, divides by the softmax sum before it takes the row's mean, and
  writes both normalisations' backward passes with the cube of the reciprocal root.
-/
module

public import proofs.«01_k».proof.Proof.Arith

@[expose] public section

noncomputable section

namespace Cert.MemMath

open Idealize.ShloMosaic Cert.Arith
open scoped BigOperators

variable {T M D : Type} [Fintype T] [Fintype M] [Fintype D]

section Defs

variable (n ε c : ℝ) (q : T → D → EReal) (k v : M → D → EReal) (dy : T → D → EReal) (gq gk : D → EReal)

/-! ## As the kernel computes it -/

/-- The normalised queries, scaled. -/
def Kq (t : T) (i : D) : EReal := q t i * rs n ε (q t) * (gq i * (c : EReal))
/-- The normalised keys (both sides). -/
def Kk (m : M) (i : D) : EReal := k m i * rs n ε (k m) * gk i
/-- The scores. -/
def Ks (t : T) (m : M) : EReal := ∑ i, Kq n ε c q gq t i * Kk n ε k gk m i
/-- A row of weights before its division, from a row of scores. -/
def expo (s : M → EReal) (m : M) : EReal := Ideal.exp (s m - Finset.univ.fold max ⊥ s)
/-- The weights. -/
def Kp (t : T) (m : M) : EReal :=
  Ideal.div (expo (Ks n ε c q k gq gk t) m) (∑ m', expo (Ks n ε c q k gq gk t) m')
/-- The gradient of the weights (both sides). -/
def dp (t : T) (m : M) : EReal := ∑ i, dy t i * v m i
/-- The gradient of the scores. -/
def Kds (t : T) (m : M) : EReal :=
  Kp n ε c q k gq gk t m * (dp v dy t m - ∑ m', dp v dy t m' * Kp n ε c q k gq gk t m')
/-- The gradient of the normalised queries, but for the scale. -/
def Kdqn (t : T) (i : D) : EReal := ∑ m, Kds n ε c q k v dy gq gk t m * Kk n ε k gk m i
/-- The gradient of the queries. -/
def Kdq (t : T) (i : D) : EReal :=
  normBwdK n ε (q t) (fun j => Kdqn n ε c q k v dy gq gk t j * (gq j * (c : EReal))) i
/-- The gradient of the normalised keys. -/
def Kdkn (m : M) (i : D) : EReal := ∑ t, Kds n ε c q k v dy gq gk t m * Kq n ε c q gq t i
/-- The gradient of the keys. -/
def Kdk (m : M) (i : D) : EReal := normBwdK n ε (k m) (fun j => Kdkn n ε c q k v dy gq gk m j * gk j) i
/-- The gradient of the values. -/
def Kdv (m : M) (i : D) : EReal := ∑ t, Kp n ε c q k gq gk t m * dy t i
/-- The queries' gain's gradient. -/
def Kgq (i : D) : EReal := (∑ t, Kdqn n ε c q k v dy gq gk t i * q t i * rs n ε (q t)) * (c : EReal)
/-- The keys' gain's gradient. -/
def Kgk (i : D) : EReal := ∑ m, Kdkn n ε c q k v dy gq gk m i * k m i * rs n ε (k m)

/-! ## As the reference computes it -/

/-- The normalised queries. -/
def Rq (t : T) (i : D) : EReal := q t i * rs n ε (q t) * gq i
/-- The scores. -/
def Rs (t : T) (m : M) : EReal := (∑ i, Rq n ε q gq t i * Kk n ε k gk m i) * (c : EReal)
/-- A row of weights before its division. -/
def Rexpo (s : M → EReal) (m : M) : EReal := Ideal.exp (s m - max ⊥ (Finset.univ.fold max ⊥ s))
/-- The weights. -/
def Rp (t : T) (m : M) : EReal :=
  Ideal.div (Rexpo (Rs n ε c q k gq gk t) m) (∑ m', Rexpo (Rs n ε c q k gq gk t) m')
/-- The gradient of a row's sum. -/
def Rneg (t : T) : EReal :=
  -∑ m, dp v dy t m * Ideal.div 1 ((∑ m', Rexpo (Rs n ε c q k gq gk t) m') * (∑ m', Rexpo (Rs n ε c q k gq gk t) m'))
    * Rexpo (Rs n ε c q k gq gk t) m
/-- The gradient of the scores before the scale. -/
def Rds (t : T) (m : M) : EReal :=
  (Ideal.div (dp v dy t m) (∑ m', Rexpo (Rs n ε c q k gq gk t) m') + Rneg n ε c q k v dy gq gk t)
    * Rexpo (Rs n ε c q k gq gk t) m * (c : EReal)
/-- The gradient of the normalised queries. -/
def Rdqn (t : T) (i : D) : EReal := ∑ m, Rds n ε c q k v dy gq gk t m * Kk n ε k gk m i
/-- The gradient of the queries. -/
def Rdq (t : T) (i : D) : EReal := normBwdR n ε (q t) (fun j => Rdqn n ε c q k v dy gq gk t j * gq j) i
/-- The gradient of the normalised keys. -/
def Rdkn (m : M) (i : D) : EReal := ∑ t, Rds n ε c q k v dy gq gk t m * Rq n ε q gq t i
/-- The gradient of the keys. -/
def Rdk (m : M) (i : D) : EReal := normBwdR n ε (k m) (fun j => Rdkn n ε c q k v dy gq gk m j * gk j) i
/-- The gradient of the values. -/
def Rdv (m : M) (i : D) : EReal := ∑ t, dy t i * Rp n ε c q k gq gk t m
/-- This batch row's and head's part of the queries' gain's gradient. -/
def Rgq (i : D) : EReal := ∑ t, q t i * rs n ε (q t) * Rdqn n ε c q k v dy gq gk t i
/-- This batch row's and head's part of the keys' gain's gradient. -/
def Rgk (i : D) : EReal := ∑ m, k m i * rs n ε (k m) * Rdkn n ε c q k v dy gq gk m i

end Defs

/-! ## The softmax -/

theorem Rexpo_eq (s : M → EReal) : Rexpo s = expo s := by
  funext m; unfold Rexpo expo; rw [max_eq_right bot_le]

/-- Of a row of real scores the weights before the division are positive real numbers. -/
theorem expo_real (s : M → EReal) (h : ∀ m, ∃ r : ℝ, s m = r) (m : M) : ∃ r : ℝ, 0 < r ∧ expo s m = r := by
  obtain ⟨a, ha⟩ := h m
  have hlo : (a : EReal) ≤ Finset.univ.fold max ⊥ s := by
    rw [← ha]; exact (Finset.le_fold_max _).mpr (Or.inr ⟨m, Finset.mem_univ m, le_rfl⟩)
  have hhi : Finset.univ.fold max ⊥ s < ⊤ :=
    (Finset.fold_max_lt _).mpr ⟨bot_lt_top, fun j _ => by obtain ⟨r, hr⟩ := h j; rw [hr]; exact EReal.coe_lt_top r⟩
  obtain ⟨b, hb⟩ : ∃ b : ℝ, Finset.univ.fold max ⊥ s = b :=
    ⟨_, (EReal.coe_toReal hhi.ne (fun e => by rw [e] at hlo; exact absurd hlo (not_le.mpr (EReal.bot_lt_coe a)))).symm⟩
  exact ⟨Real.exp (a - b), Real.exp_pos _, by unfold expo; rw [ha, hb, ← EReal.coe_sub, Ideal.exp_coe]⟩

/-- So is their sum. -/
theorem sum_expo_real [Nonempty M] (s : M → EReal) (h : ∀ m, ∃ r : ℝ, s m = r) :
    ∃ r : ℝ, 0 < r ∧ ∑ m, expo s m = r := by
  choose g hg he using expo_real s h
  refine ⟨∑ m, g m, Finset.sum_pos (fun m _ => hg m) Finset.univ_nonempty, ?_⟩
  rw [Finset.sum_congr rfl fun m _ => he m]
  classical
  induction (Finset.univ : Finset M) using Finset.induction_on with
  | empty => simp
  | insert a s ha ih => rw [Finset.sum_insert ha, Finset.sum_insert ha, ih, EReal.coe_add]

/-- The softmax's backward pass: the reference's gradient of a row's scores is the kernel's, where the weights before
    the division (`e`) and their sum (`S`) are positive real numbers; the weights' gradient (`d`) may be infinite. -/
theorem softmax_bwd (d e : M → EReal) (he : ∀ m, ∃ r : ℝ, 0 < r ∧ e m = r) (S : EReal) (hS : ∃ r : ℝ, 0 < r ∧ S = r) (m : M) :
    (Ideal.div (d m) S + -∑ m', d m' * Ideal.div 1 (S * S) * e m') * e m
      = Ideal.div (e m) S * (d m - ∑ m', d m' * Ideal.div (e m') S) := by
  obtain ⟨σ, hσ, rfl⟩ := hS
  have hu : (0 : ℝ) ≤ 1 / σ := by positivity
  have h2 : Ideal.div 1 ((σ : EReal) * σ) = ((1 / σ : ℝ) : EReal) * ((1 / σ : ℝ) : EReal) := by
    rw [← EReal.coe_mul, Ideal.div_coe (mul_pos hσ hσ).ne', one_mul, ← EReal.coe_mul]; congr 1; field_simp
  have hsum : ∑ m', d m' * Ideal.div 1 ((σ : EReal) * σ) * e m'
      = (∑ m', d m' * Ideal.div (e m') (σ : EReal)) * ((1 / σ : ℝ) : EReal) := by
    rw [sum_mul_real _ hu]
    refine Finset.sum_congr rfl fun j _ => ?_
    rw [h2, Ideal.div_coe hσ.ne']; ac_rfl
  rw [hsum, Ideal.div_coe hσ.ne', Ideal.div_coe hσ.ne', ← EReal.neg_mul, ← add_mul_real hu, sub_eq_add_neg]
  ac_rfl

/-! ## The equalities -/

section Eqs

variable {n ε c : ℝ} (hn : 0 < n) (hε : 0 < ε) (hc : 0 ≤ c)
variable (q : T → D → EReal) (k v : M → D → EReal) (dy : T → D → EReal) (gq gk : D → EReal)

include hc in
/-- The scores agree. -/
theorem scores_eq : Rs n ε c q k gq gk = Ks n ε c q k gq gk := by
  funext t m
  unfold Rs Ks
  rw [sum_mul_real _ hc]
  refine Finset.sum_congr rfl fun i _ => ?_
  unfold Rq Kq; ac_rfl

variable (hgq : ∀ i, ∃ r : ℝ, gq i = r) (hgk : ∀ i, ∃ r : ℝ, gk i = r)

include hn hε hgq hgk in
/-- The scores are real numbers, whatever the queries and keys hold. -/
theorem scores_real (t : T) (m : M) : ∃ r : ℝ, Ks n ε c q k gq gk t m = r :=
  sum_real _ _ fun i => mul_real (mul_real (mul_rs_real hn hε (q t) i) (mul_real (hgq i) ⟨c, rfl⟩))
    (mul_real (mul_rs_real hn hε (k m) i) (hgk i))

include hc in
/-- The weights agree. -/
theorem p_eq : Rp n ε c q k gq gk = Kp n ε c q k gq gk := by
  funext t m
  unfold Rp Kp
  rw [scores_eq hc, Rexpo_eq]

include hc in
/-- The values' gradient. -/
theorem dv_eq : Kdv n ε c q k dy gq gk = Rdv n ε c q k dy gq gk := by
  funext m i
  unfold Kdv Rdv
  rw [p_eq hc]
  exact Finset.sum_congr rfl fun t _ => mul_comm _ _

variable [Nonempty M]

include hn hε hc hgq hgk in
/-- The scores' gradient: the reference's holds the scale. -/
theorem ds_eq (t : T) (m : M) : Rds n ε c q k v dy gq gk t m = Kds n ε c q k v dy gq gk t m * (c : EReal) := by
  unfold Rds Kds Rneg Kp
  rw [scores_eq hc, Rexpo_eq]
  exact congrArg (· * (c : EReal)) (softmax_bwd (dp v dy t) _ (expo_real _ (scores_real hn hε q k gq gk hgq hgk t)) _
    (sum_expo_real _ (scores_real hn hε q k gq gk hgq hgk t)) m)

include hn hε hc hgq hgk in
theorem dqn_eq (t : T) (i : D) : Rdqn n ε c q k v dy gq gk t i = Kdqn n ε c q k v dy gq gk t i * (c : EReal) := by
  unfold Rdqn Kdqn
  rw [sum_mul_real _ hc]
  refine Finset.sum_congr rfl fun m _ => ?_
  rw [ds_eq hn hε hc q k v dy gq gk hgq hgk]; ac_rfl

include hn hε hc hgq hgk in
theorem dkn_eq (m : M) (i : D) : Rdkn n ε c q k v dy gq gk m i = Kdkn n ε c q k v dy gq gk m i := by
  unfold Rdkn Kdkn
  refine Finset.sum_congr rfl fun t _ => ?_
  rw [ds_eq hn hε hc q k v dy gq gk hgq hgk]; unfold Rq Kq; ac_rfl

include hn hε hc hgq hgk in
/-- The queries' gradient. -/
theorem dq_eq : Kdq n ε c q k v dy gq gk = Rdq n ε c q k v dy gq gk := by
  funext t i
  unfold Kdq Rdq
  rw [normBwd_eq hn hε]
  refine congrArg (fun g => normBwdR n ε (q t) g i) (funext fun j => ?_)
  rw [dqn_eq hn hε hc q k v dy gq gk hgq hgk]; ac_rfl

include hn hε hc hgq hgk in
/-- The keys' gradient. -/
theorem dk_eq : Kdk n ε c q k v dy gq gk = Rdk n ε c q k v dy gq gk := by
  funext m i
  unfold Kdk Rdk
  rw [normBwd_eq hn hε]
  refine congrArg (fun g => normBwdR n ε (k m) g i) (funext fun j => ?_)
  rw [dkn_eq hn hε hc q k v dy gq gk hgq hgk]

include hn hε hc hgq hgk in
/-- The queries' gain. -/
theorem gq_eq : Kgq n ε c q k v dy gq gk = Rgq n ε c q k v dy gq gk := by
  funext i
  unfold Kgq Rgq
  rw [sum_mul_real _ hc]
  refine Finset.sum_congr rfl fun t _ => ?_
  rw [dqn_eq hn hε hc q k v dy gq gk hgq hgk]; ac_rfl

include hn hε hc hgq hgk in
/-- The keys' gain. -/
theorem gk_eq : Kgk n ε c q k v dy gq gk = Rgk n ε c q k v dy gq gk := by
  funext i
  unfold Kgk Rgk
  refine Finset.sum_congr rfl fun m _ => ?_
  rw [dkn_eq hn hε hc q k v dy gq gk hgq hgk]; ac_rfl

end Eqs

end Cert.MemMath

end
-- ==== Proof.Lits.lean ====
/-
  The programs' float constants as real numbers.
-/
module

public import Idealize.ShloMosaic.PureOps.Ideal
public import Idealize.ShloMosaic.PureOps.Ideal.Laws

@[expose] public section

noncomputable section

namespace Cert.Lits

open Idealize.ShloMosaic

/-- The normalisations' stabiliser, `1e-6` as a single-precision number. -/
def eps : ℝ := 8796093 / 2 ^ 43
/-- The attention's scale, `128 ^ (-1/2)` as a single-precision number. -/
def scale : ℝ := 11863283 / 2 ^ 27

theorem eps_pos : 0 < eps := by unfold eps; positivity
theorem scale_nonneg : 0 ≤ scale := by unfold scale; positivity

theorem lit_128 : Ideal.ofBits .f32 0x43000000#32 = ((128 : ℝ) : EReal) := by
  simp [Ideal.ofBits, Ideal.ieee, -EReal.coe_mul]; norm_num
theorem lit_eps : Ideal.ofBits .f32 0x358637BD#32 = (eps : EReal) := by
  simp [Ideal.ofBits, Ideal.ieee, -EReal.coe_mul, eps]; norm_num
theorem lit_scale : Ideal.ofBits .f32 0x3DB504F3#32 = (scale : EReal) := by
  simp [Ideal.ofBits, Ideal.ieee, -EReal.coe_mul, scale]; norm_num
theorem lit_mhalf : Ideal.ofBits .f32 0xBF000000#32 = ((-(1 / 2) : ℝ) : EReal) := by
  simp [Ideal.ofBits, Ideal.ieee, -EReal.coe_mul]; norm_num
theorem lit_bot : Ideal.ofBits .f32 0xFF800000#32 = ⊥ := by
  simp [Ideal.ofBits, Ideal.ieee]
theorem lit_one : Ideal.ofBits .f32 0x3F800000#32 = 1 := by
  simp [Ideal.ofBits, Ideal.ieee, -EReal.coe_mul]; norm_num
theorem lit_zero : Ideal.ofBits .f32 0x00000000#32 = 0 := by
  simp [Ideal.ofBits, Ideal.ieee]

end Cert.Lits

end
-- ==== Proof.MemBlock.lean ====
/-
  What one grid point's six loaded blocks give, at an index, over the extended reals: the point's outputs
  (`MemPoint.lean`) as the functions of `MemMath.lean`.
-/
module

public import proofs.«01_k».proof.Proof.MemPoint
public import proofs.«01_k».proof.Proof.MemMath
public import proofs.«01_k».proof.Proof.Lits
public import Idealize.ShloMosaic.Lib.ValueIdx
public import Idealize.ShloMosaic.Lib.Pointwise
public import Idealize.ShloMosaic.PureOps.Ideal.Laws

@[expose] public section

set_option maxRecDepth 16384

noncomputable section

namespace Cert.MemBlock

open Cert.KernelIdeal Cert.KernelIdeal.Gen Idealize.ShloMosaic Idealize.ShloMosaic.TcCoe Cert.Lits
open Cert.MemMath Cert.Arith
open scoped BigOperators

/-- A block's rows, of a block with one leading axis of extent one. -/
def rows {a b : Nat} (x : Shape.Idx ⟨3, ![1, a, b]⟩ → EReal) (t : Fin a) (i : Fin b) : EReal := x (ix3 0 t i)
/-- A one-row block's row. -/
def row {b : Nat} (x : Shape.Idx ⟨2, ![1, b]⟩ → EReal) (i : Fin b) : EReal := x (ix2 0 i)

variable (q : Vec Ideal S1x2048x128 .f32) (k v : Vec Ideal S1x256x128 .f32) (dy : Vec Ideal S1x2048x128 .f32)
variable (gq gk : Vec Ideal S1x128 .f32)

theorem qn_at (t : Fin 2048) (i : Fin 128) :
    MemPoint.qn q gq (ix2 t i) = Kq 128 eps scale (rows q) (row gq) t i := by
  unfold MemPoint.qn
  unfold_payloads
  pointwise
  rw [lit_128, lit_eps, lit_scale]
  rfl

theorem kn_at (m : Fin 256) (i : Fin 128) : k0_pay8 gk k (ix2 m i) = Kk 128 eps (rows k) (row gk) m i := by
  unfold_payloads
  pointwise
  rw [lit_128, lit_eps]
  rfl

theorem pm_at (t : Fin 2048) (m : Fin 256) :
    MemPoint.pm q k gq gk (ix2 t m) = Kp 128 eps scale (rows q) (rows k) (row gq) (row gk) t m := by
  unfold MemPoint.pm k0_pay16
  pointwise
  change _ = _
  have h := qn_at q gq
  unfold MemPoint.qn at h
  simp only [h, kn_at, lit_bot]
  rfl

theorem dp_at (t : Fin 2048) (m : Fin 256) :
    (matmul dot_S2048x128_S256x128_S2048x256_1_1_0_0_n_n none (k0_pay17 dy) (k0_pay9 v)
      (constant S2048x256 .f32 0x00000000#32) : FVec Ideal S2048x256 .f32) (ix2 t m) = dp (rows v) (rows dy) t m := by
  unfold_payloads
  pointwise
  rfl

theorem ds_at (t : Fin 2048) (m : Fin 256) :
    MemPoint.ds q k v dy gq gk (ix2 t m)
      = Kds 128 eps scale (rows q) (rows k) (rows v) (rows dy) (row gq) (row gk) t m := by
  have hp := pm_at q k gq gk
  have hd := dp_at v dy
  unfold MemPoint.ds k0_pay18
  unfold MemPoint.pm at hp
  generalize k0_pay16 (k0_pay6 gq) (k0_pay8 gk k) (k0_pay12 q) (k0_pay13 q) k0_pay14 = P at hp ⊢
  generalize (matmul dot_S2048x128_S256x128_S2048x256_1_1_0_0_n_n none (k0_pay17 dy) (k0_pay9 v)
      (constant S2048x256 .f32 0x00000000#32) : FVec Ideal S2048x256 .f32) = W at hd ⊢
  pointwise
  simp only [hp, hd]
  rfl

theorem dqn_at (t : Fin 2048) (i : Fin 128) :
    MemPoint.dqn q k v dy gq gk (ix2 t i)
      = Kdqn 128 eps scale (rows q) (rows k) (rows v) (rows dy) (row gq) (row gk) t i := by
  have hs := ds_at q k v dy gq gk
  unfold MemPoint.dqn k0_pay19
  unfold MemPoint.ds at hs
  generalize k0_pay18 (F := Ideal) _ _ _ _ _ _ _ = P at hs ⊢
  pointwise
  simp only [hs, kn_at]
  rfl

theorem dkn_at (m : Fin 256) (i : Fin 128) :
    MemPoint.dkn q k v dy gq gk (ix2 m i)
      = Kdkn 128 eps scale (rows q) (rows k) (rows v) (rows dy) (row gq) (row gk) m i := by
  unfold MemPoint.dkn k0_pay26 k0_pay10
  have hs := ds_at q k v dy gq gk
  have hq := qn_at q gq
  generalize MemPoint.ds q k v dy gq gk = P at hs ⊢
  generalize MemPoint.qn q gq = W at hq ⊢
  pointwise
  simp only [hs, hq, lit_zero, zero_add]
  rfl

/-- The queries' gradient. -/
theorem dqOut_at (t : Fin 2048) (i : Fin 128) :
    MemPoint.dqOut q k v dy gq gk (ix3 0 t i)
      = Kdq 128 eps scale (rows q) (rows k) (rows v) (rows dy) (row gq) (row gk) t i := by
  have hd := dqn_at q k v dy gq gk
  unfold MemPoint.dqOut k0_pay25 k0_pay22 k0_pay23 k0_pay24 k0_pay21 k0_pay20 k0_pay12 k0_pay6
  unfold MemPoint.dqn at hd
  unfold k0_pay12 k0_pay6 at hd
  generalize k0_pay19 (F := Ideal) _ _ _ _ _ _ _ = P at hd ⊢
  pointwise
  simp only [hd, lit_128, lit_eps, lit_scale]
  rfl

/-- The keys' gradient. -/
theorem dkOut_at (m : Fin 256) (i : Fin 128) :
    MemPoint.dkOut q k v dy gq gk (ix3 0 m i)
      = Kdk 128 eps scale (rows q) (rows k) (rows v) (rows dy) (row gq) (row gk) m i := by
  have hd := dkn_at q k v dy gq gk
  unfold MemPoint.dkOut k0_pay2 k0_pay31 k0_pay32 k0_pay33 k0_pay30 k0_pay29 k0_pay7
  unfold MemPoint.dkn at hd
  generalize k0_pay26 (F := Ideal) _ _ _ = P at hd ⊢
  pointwise
  simp only [hd, lit_128, lit_eps]
  rfl

/-- The values' gradient. -/
theorem dvOut_at (m : Fin 256) (i : Fin 128) :
    MemPoint.dvOut q k dy gq gk (ix3 0 m i)
      = Kdv 128 eps scale (rows q) (rows k) (rows dy) (row gq) (row gk) m i := by
  have hp := pm_at q k gq gk
  unfold MemPoint.dvOut k0_pay3 k0_pay27 k0_pay17 k0_pay10
  generalize MemPoint.pm q k gq gk = P at hp ⊢
  pointwise
  simp only [hp, lit_zero, zero_add]
  rfl

/-- The point's share of the queries' gain's gradient. -/
theorem dgqPart_at (i : Fin 128) :
    MemPoint.dgqPart q k v dy gq gk (ix2 0 i)
      = Kgq 128 eps scale (rows q) (rows k) (rows v) (rows dy) (row gq) (row gk) i := by
  have hd := dqn_at q k v dy gq gk
  unfold MemPoint.dgqPart k0_pay28 k0_pay20 k0_pay12 k0_pay11
  generalize MemPoint.dqn q k v dy gq gk = P at hd ⊢
  pointwise
  simp only [hd, lit_128, lit_eps, lit_scale, lit_zero, zero_add]
  rfl

/-- The point's share of the keys' gain's gradient. -/
theorem dgkPart_at (i : Fin 128) :
    MemPoint.dgkPart q k v dy gq gk (ix2 0 i)
      = Kgk 128 eps scale (rows q) (rows k) (rows v) (rows dy) (row gq) (row gk) i := by
  have hd := dkn_at q k v dy gq gk
  unfold MemPoint.dgkPart k0_pay1 k0_pay29 k0_pay7
  generalize MemPoint.dkn q k v dy gq gk = P at hd ⊢
  pointwise
  simp only [hd, lit_128, lit_eps]
  rfl

end Cert.MemBlock

end
-- ==== Proof.MemArrays.lean ====
/-
  What the five arrays of the kernel hold after its run, element by element, in terms of the six argument arrays.
  Grid point `t` works on batch row `t / 4` and head `t % 4`; a head is 128 columns of its array.
-/
module

public import proofs.«01_k».proof.Proof.MemBlock
public import proofs.«01_k».proof.Proof.Gen.KernelIdeal.Value
public import Idealize.ShloMosaic.Lib.Pipeline.ValueKit.Partial
public import Idealize.ShloMosaic.Lib.Claim

@[expose] public section

set_option maxRecDepth 16384

noncomputable section

namespace Cert.MemArrays

open Cert.KernelIdeal Cert.KernelIdeal.Gen Idealize.ShloMosaic Idealize.ShloMosaic.TcCoe Cert.Lits
open Cert.MemMath Cert.Arith Cert.MemBlock Cert.MemPoint
open Idealize.ShloMosaic.Pipeline (Dat)
open scoped BigOperators

/-- Head `h` of batch row `b` of an array, its columns starting at column `o`. -/
def head {T C : ℕ} (o : ℕ) (ho : o + 512 ≤ C) (x : (⟨3, ![4, T, C]⟩ : Shape).Idx → EReal) (b h : Fin 4) (t : Fin T) (i : Fin 128) : EReal :=
  x (ix3 b t ⟨o + 128 * h + i, by omega⟩)

abbrev zq (x : (⟨3, ![4, 2048, 7168]⟩ : Shape).Idx → EReal) := head (T := 2048) 6656 (by decide) x
abbrev ck (x : (⟨3, ![4, 256, 1024]⟩ : Shape).Idx → EReal) := head (T := 256) 0 (by decide) x
abbrev cv (x : (⟨3, ![4, 256, 1024]⟩ : Shape).Idx → EReal) := head (T := 256) 512 (by decide) x
abbrev yy (x : (⟨3, ![4, 2048, 512]⟩ : Shape).Idx → EReal) := head (T := 2048) 0 (by decide) x

variable (m : (ℓ : Loc nD τ sig) → Buf (Elt Ideal) ℓ)

/-- The batch row of a grid point. -/
def pb (t : Fin cfg0.N) : Fin 4 := ⟨t.val / 4, by have h : t.val < 16 := t.isLt; omega⟩
/-- The head of a grid point. -/
def ph (t : Fin cfg0.N) : Fin 4 := ⟨t.val % 4, by omega⟩

theorem idx : ∀ t : Fin cfg0.N,
    win0_0.index t = ![t.val / 4, 0, 52 + t.val % 4] ∧ win0_1.index t = ![t.val / 4, 0, t.val % 4] ∧
    win0_2.index t = ![t.val / 4, 0, 4 + t.val % 4] ∧ win0_3.index t = ![t.val / 4, 0, t.val % 4] ∧
    win0_4.index t = ![0, 0] ∧ win0_5.index t = ![0, 0] ∧
    win0_6.index t = ![t.val / 4, 0, 52 + t.val % 4] ∧ win0_7.index t = ![t.val / 4, 0, t.val % 4] ∧
    win0_8.index t = ![t.val / 4, 0, t.val % 4] :=
  (by decide +kernel : ∀ t : Fin grid0.N,
    win0_0.index t = ![t.val / 4, 0, 52 + t.val % 4] ∧ win0_1.index t = ![t.val / 4, 0, t.val % 4] ∧
    win0_2.index t = ![t.val / 4, 0, 4 + t.val % 4] ∧ win0_3.index t = ![t.val / 4, 0, t.val % 4] ∧
    win0_4.index t = ![0, 0] ∧ win0_5.index t = ![0, 0] ∧
    win0_6.index t = ![t.val / 4, 0, 52 + t.val % 4] ∧ win0_7.index t = ![t.val / 4, 0, t.val % 4] ∧
    win0_8.index t = ![t.val / 4, 0, t.val % 4])

theorem blk0 (c : Dev nD) (t : Fin cfg0.N) : rows (iblk m c 0 t) = zq (m ((c : Thread nD τ).loc main_arg0)) (pb t) (ph t) := by
  funext r i
  unfold rows zq head
  blk_ext [iblk, V, (idx t).1, pb, ph]

theorem blk1 (c : Dev nD) (t : Fin cfg0.N) : rows (iblk m c 1 t) = ck (m ((c : Thread nD τ).loc main_arg1)) (pb t) (ph t) := by
  funext r i
  unfold rows ck head
  blk_ext [iblk, V, (idx t).2.1, pb, ph]

theorem blk2 (c : Dev nD) (t : Fin cfg0.N) : rows (iblk m c 2 t) = cv (m ((c : Thread nD τ).loc main_arg1)) (pb t) (ph t) := by
  funext r i
  unfold rows cv head
  blk_ext [iblk, V, (idx t).2.2.1, pb, ph]

theorem blk3 (c : Dev nD) (t : Fin cfg0.N) : rows (iblk m c 3 t) = yy (m ((c : Thread nD τ).loc main_arg2)) (pb t) (ph t) := by
  funext r i
  unfold rows yy head
  blk_ext [iblk, V, (idx t).2.2.2.1, pb, ph]

theorem blk4 (c : Dev nD) (t : Fin cfg0.N) : row (iblk m c 4 t) = row (m ((c : Thread nD τ).loc main_arg3)) := by
  funext i
  unfold row
  blk_ext [iblk, V, (idx t).2.2.2.2.1]

theorem blk5 (c : Dev nD) (t : Fin cfg0.N) : row (iblk m c 5 t) = row (m ((c : Thread nD τ).loc main_arg4)) := by
  funext i
  unfold row
  blk_ext [iblk, V, (idx t).2.2.2.2.2.1]

/-- What grid point `t` leaves in output window 6: the same function of its input blocks at the first point and after. -/
theorem left6 (c : Dev nD) (t : Fin cfg0.N) : (outsAt0 m c t.val t.isLt).1 = dqOut (iblk m c 0 t) (iblk m c 1 t) (iblk m c 2 t) (iblk m c 3 t) (iblk m c 4 t) (iblk m c 5 t) := by
  have hN : t.val < 16 := t.isLt
  by_cases h : t.val = 0
  · rw [outsAt0_A m c t (by omega) (by omega) (by omega) (by omega)]
    dsimp only
    exact out_A_6 (F := Ideal) ..
  · rw [outsAt0_B m c t (by omega) (by omega) (by omega) (by omega)]
    dsimp only
    exact out_B_6 (F := Ideal) ..

/-- What grid point `t` leaves in output window 7: the same function of its input blocks at the first point and after. -/
theorem left7 (c : Dev nD) (t : Fin cfg0.N) : (outsAt0 m c t.val t.isLt).2.1 = dkOut (iblk m c 0 t) (iblk m c 1 t) (iblk m c 2 t) (iblk m c 3 t) (iblk m c 4 t) (iblk m c 5 t) := by
  have hN : t.val < 16 := t.isLt
  by_cases h : t.val = 0
  · rw [outsAt0_A m c t (by omega) (by omega) (by omega) (by omega)]
    dsimp only
    exact out_A_7 (F := Ideal) ..
  · rw [outsAt0_B m c t (by omega) (by omega) (by omega) (by omega)]
    dsimp only
    exact out_B_7 (F := Ideal) ..

/-- What grid point `t` leaves in output window 8: the same function of its input blocks at the first point and after. -/
theorem left8 (c : Dev nD) (t : Fin cfg0.N) : (outsAt0 m c t.val t.isLt).2.2.1 = dvOut (iblk m c 0 t) (iblk m c 1 t) (iblk m c 3 t) (iblk m c 4 t) (iblk m c 5 t) := by
  have hN : t.val < 16 := t.isLt
  by_cases h : t.val = 0
  · rw [outsAt0_A m c t (by omega) (by omega) (by omega) (by omega)]
    dsimp only
    exact out_A_8 (F := Ideal) ..
  · rw [outsAt0_B m c t (by omega) (by omega) (by omega) (by omega)]
    dsimp only
    exact out_B_8 (F := Ideal) ..

theorem first9 (c : Dev nD) (t : Fin cfg0.N) (h : t.val = 0) : (outsAt0 m c t.val t.isLt).2.2.2.1 = dgqPart (iblk m c 0 t) (iblk m c 1 t) (iblk m c 2 t) (iblk m c 3 t) (iblk m c 4 t) (iblk m c 5 t) := by
  rw [outsAt0_A m c t (by omega) (by omega) (by omega) (by omega)]
  dsimp only
  exact out_A_9 (F := Ideal) ..

theorem next9 (c : Dev nD) (t : Fin cfg0.N) (h : t.val ≠ 0) :
    (outsAt0 m c t.val t.isLt).2.2.2.1 = k0_pay4 (dgqPart (iblk m c 0 t) (iblk m c 1 t) (iblk m c 2 t) (iblk m c 3 t) (iblk m c 4 t) (iblk m c 5 t)) (outsAt0 m c (t.val - 1) (Nat.lt_of_le_of_lt (Nat.sub_le _ _) t.isLt)).2.2.2.1 := by
  have hN : t.val < 16 := t.isLt
  rw [outsAt0_B m c t (by omega) (by omega) (by omega) (by omega)]
  dsimp only
  exact out_B_9 (F := Ideal) ..

theorem first10 (c : Dev nD) (t : Fin cfg0.N) (h : t.val = 0) : (outsAt0 m c t.val t.isLt).2.2.2.2 = dgkPart (iblk m c 0 t) (iblk m c 1 t) (iblk m c 2 t) (iblk m c 3 t) (iblk m c 4 t) (iblk m c 5 t) := by
  rw [outsAt0_A m c t (by omega) (by omega) (by omega) (by omega)]
  dsimp only
  exact out_A_10 (F := Ideal) ..

theorem next10 (c : Dev nD) (t : Fin cfg0.N) (h : t.val ≠ 0) :
    (outsAt0 m c t.val t.isLt).2.2.2.2 = addf (shapeCast S1x128 (outsAt0 m c (t.val - 1) (Nat.lt_of_le_of_lt (Nat.sub_le _ _) t.isLt)).2.2.2.2 shapeCasts_S1x128_S1x128) (dgkPart (iblk m c 0 t) (iblk m c 1 t) (iblk m c 2 t) (iblk m c 3 t) (iblk m c 4 t) (iblk m c 5 t)) := by
  have hN : t.val < 16 := t.isLt
  rw [outsAt0_B m c t (by omega) (by omega) (by omega) (by omega)]
  dsimp only
  exact out_B_10 (F := Ideal) ..

/-- The head and the place in it of a column, past an offset. -/
def hd (o n : ℕ) (j : ℕ) (hj : o ≤ j ∧ j < o + 512) : Fin 4 := ⟨(j - o) / 128, by omega⟩
def inHead (j : ℕ) : Fin 128 := ⟨j % 128, by omega⟩

abbrev Z := (⟨3, ![4, 2048, 7168]⟩ : Shape).Idx → EReal
abbrev C := (⟨3, ![4, 256, 1024]⟩ : Shape).Idx → EReal
abbrev Y := (⟨3, ![4, 2048, 512]⟩ : Shape).Idx → EReal
abbrev G := (⟨2, ![1, 128]⟩ : Shape).Idx → EReal

/-- The kernel's gradient of the queries, head by head. -/
def KQ (x0 : Z) (x1 : C) (x2 : Y) (x3 x4 : G) (b h : Fin 4) : Fin 2048 → Fin 128 → EReal :=
  Kdq 128 eps scale (zq x0 b h) (ck x1 b h) (cv x1 b h) (yy x2 b h) (row x3) (row x4)
def KK (x0 : Z) (x1 : C) (x2 : Y) (x3 x4 : G) (b h : Fin 4) : Fin 256 → Fin 128 → EReal :=
  Kdk 128 eps scale (zq x0 b h) (ck x1 b h) (cv x1 b h) (yy x2 b h) (row x3) (row x4)
def KV (x0 : Z) (x1 : C) (x2 : Y) (x3 x4 : G) (b h : Fin 4) : Fin 256 → Fin 128 → EReal :=
  Kdv 128 eps scale (zq x0 b h) (ck x1 b h) (yy x2 b h) (row x3) (row x4)
def KGQ (x0 : Z) (x1 : C) (x2 : Y) (x3 x4 : G) (b h : Fin 4) : Fin 128 → EReal :=
  Kgq 128 eps scale (zq x0 b h) (ck x1 b h) (cv x1 b h) (yy x2 b h) (row x3) (row x4)
def KGK (x0 : Z) (x1 : C) (x2 : Y) (x3 x4 : G) (b h : Fin 4) : Fin 128 → EReal :=
  Kgk 128 eps scale (zq x0 b h) (ck x1 b h) (cv x1 b h) (yy x2 b h) (row x3) (row x4)

theorem at4 {α T I : Type} (f : Fin 4 → Fin 4 → T → I → α) {b b' h h' : Fin 4} {r r' : T} {i i' : I} (e0 : b' = b) (e1 : h' = h) (e2 : r' = r)
    (e3 : i' = i) : f b h r i = f b' h' r' i' := by rw [e0, e1, e2, e3]

theorem ix3_of {a b : ℕ} (y : (⟨3, ![1, a, b]⟩ : Shape).Idx) : y = ix3 0 (y 1) (y 2) := by
  funext k
  match k with
  | ⟨0, _⟩ => exact Subsingleton.elim (α := Fin 1) _ _
  | ⟨1, _⟩ => rfl
  | ⟨2, _⟩ => rfl

theorem point6 (c : Dev nD) (t : Fin cfg0.N) (y : S1x2048x128.Idx) :
    dqOut (iblk m c 0 t) (iblk m c 1 t) (iblk m c 2 t) (iblk m c 3 t) (iblk m c 4 t) (iblk m c 5 t) y = KQ (m ((c : Thread nD τ).loc main_arg0)) (m ((c : Thread nD τ).loc main_arg1)) (m ((c : Thread nD τ).loc main_arg2)) (m ((c : Thread nD τ).loc main_arg3)) (m ((c : Thread nD τ).loc main_arg4)) (pb t) (ph t) (y 1) (y 2) := by
  rw [ix3_of y]
  refine (dqOut_at ..).trans ?_
  simp only [blk0, blk1, blk2, blk3, blk4, blk5]
  rfl

theorem point7 (c : Dev nD) (t : Fin cfg0.N) (y : S1x256x128.Idx) :
    dkOut (iblk m c 0 t) (iblk m c 1 t) (iblk m c 2 t) (iblk m c 3 t) (iblk m c 4 t) (iblk m c 5 t) y = KK (m ((c : Thread nD τ).loc main_arg0)) (m ((c : Thread nD τ).loc main_arg1)) (m ((c : Thread nD τ).loc main_arg2)) (m ((c : Thread nD τ).loc main_arg3)) (m ((c : Thread nD τ).loc main_arg4)) (pb t) (ph t) (y 1) (y 2) := by
  rw [ix3_of y]
  refine (dkOut_at ..).trans ?_
  simp only [blk0, blk1, blk2, blk3, blk4, blk5]
  rfl

theorem point8 (c : Dev nD) (t : Fin cfg0.N) (y : S1x256x128.Idx) :
    dvOut (iblk m c 0 t) (iblk m c 1 t) (iblk m c 3 t) (iblk m c 4 t) (iblk m c 5 t) y = KV (m ((c : Thread nD τ).loc main_arg0)) (m ((c : Thread nD τ).loc main_arg1)) (m ((c : Thread nD τ).loc main_arg2)) (m ((c : Thread nD τ).loc main_arg3)) (m ((c : Thread nD τ).loc main_arg4)) (pb t) (ph t) (y 1) (y 2) := by
  rw [ix3_of y]
  refine (dvOut_at ..).trans ?_
  simp only [blk0, blk1, blk3, blk4, blk5]
  rfl

theorem point9 (c : Dev nD) (t : Fin cfg0.N) (i : Fin 128) :
    dgqPart (iblk m c 0 t) (iblk m c 1 t) (iblk m c 2 t) (iblk m c 3 t) (iblk m c 4 t) (iblk m c 5 t) (ix2 0 i) = KGQ (m ((c : Thread nD τ).loc main_arg0)) (m ((c : Thread nD τ).loc main_arg1)) (m ((c : Thread nD τ).loc main_arg2)) (m ((c : Thread nD τ).loc main_arg3)) (m ((c : Thread nD τ).loc main_arg4)) (pb t) (ph t) i := by
  refine (dgqPart_at ..).trans ?_
  simp only [blk0, blk1, blk2, blk3, blk4, blk5]
  rfl

theorem point10 (c : Dev nD) (t : Fin cfg0.N) (i : Fin 128) :
    dgkPart (iblk m c 0 t) (iblk m c 1 t) (iblk m c 2 t) (iblk m c 3 t) (iblk m c 4 t) (iblk m c 5 t) (ix2 0 i) = KGK (m ((c : Thread nD τ).loc main_arg0)) (m ((c : Thread nD τ).loc main_arg1)) (m ((c : Thread nD τ).loc main_arg2)) (m ((c : Thread nD τ).loc main_arg3)) (m ((c : Thread nD τ).loc main_arg4)) (pb t) (ph t) i := by
  refine (dgkPart_at ..).trans ?_
  simp only [blk0, blk1, blk2, blk3, blk4, blk5]
  rfl

theorem arr7 (c : Dev nD) : (dats m 0 c).arrAt 7 cfg0.N
    = fun j : S4x256x512.Idx => KK (m ((c : Thread nD τ).loc main_arg0)) (m ((c : Thread nD τ).loc main_arg1)) (m ((c : Thread nD τ).loc main_arg2)) (m ((c : Thread nD τ).loc main_arg3)) (m ((c : Thread nD τ).loc main_arg4)) (j 0) ⟨(j 2 : ℕ) / 128, by have : (j 2 : ℕ) < 512 := (j 2).isLt; omega⟩ (j 1) (inHead (j 2)) := by
  refine (dats m 0 c).arrAt_eq_of_covers 7 _ (by decide +kernel) fun t hf y => ?_
  blk_simp
  rw [after0_7, left7]
  have h2 : (y 2 : ℕ) < 128 := (y 2).isLt
  have h0 : (y 0 : ℕ) < 1 := (y 0).isLt
  refine (point7 m c t y).trans (at4 (KK (m ((c : Thread nD τ).loc main_arg0)) (m ((c : Thread nD τ).loc main_arg1)) (m ((c : Thread nD τ).loc main_arg2)) (m ((c : Thread nD τ).loc main_arg3)) (m ((c : Thread nD τ).loc main_arg4))) (Fin.ext ?_) (Fin.ext ?_) (Fin.ext ?_) (Fin.ext ?_))
  · blk_simp [(idx t).2.2.2.2.2.2.2.1, pb]
  · blk_simp [(idx t).2.2.2.2.2.2.2.1, ph]; dsimp only; omega
  · blk_simp [(idx t).2.2.2.2.2.2.2.1]
  · blk_simp [(idx t).2.2.2.2.2.2.2.1, inHead]; dsimp only; omega

theorem arr8 (c : Dev nD) : (dats m 0 c).arrAt 8 cfg0.N
    = fun j : S4x256x512.Idx => KV (m ((c : Thread nD τ).loc main_arg0)) (m ((c : Thread nD τ).loc main_arg1)) (m ((c : Thread nD τ).loc main_arg2)) (m ((c : Thread nD τ).loc main_arg3)) (m ((c : Thread nD τ).loc main_arg4)) (j 0) ⟨(j 2 : ℕ) / 128, by have : (j 2 : ℕ) < 512 := (j 2).isLt; omega⟩ (j 1) (inHead (j 2)) := by
  refine (dats m 0 c).arrAt_eq_of_covers 8 _ (by decide +kernel) fun t hf y => ?_
  blk_simp
  rw [after0_8, left8]
  have h2 : (y 2 : ℕ) < 128 := (y 2).isLt
  have h0 : (y 0 : ℕ) < 1 := (y 0).isLt
  refine (point8 m c t y).trans (at4 (KV (m ((c : Thread nD τ).loc main_arg0)) (m ((c : Thread nD τ).loc main_arg1)) (m ((c : Thread nD τ).loc main_arg2)) (m ((c : Thread nD τ).loc main_arg3)) (m ((c : Thread nD τ).loc main_arg4))) (Fin.ext ?_) (Fin.ext ?_) (Fin.ext ?_) (Fin.ext ?_))
  · blk_simp [(idx t).2.2.2.2.2.2.2.2, pb]
  · blk_simp [(idx t).2.2.2.2.2.2.2.2, ph]; dsimp only; omega
  · blk_simp [(idx t).2.2.2.2.2.2.2.2]
  · blk_simp [(idx t).2.2.2.2.2.2.2.2, inHead]; dsimp only; omega

theorem arr6 (c : Dev nD) : (dats m 0 c).arrAt 6 cfg0.N
    = fun j : S4x2048x7168.Idx => if 52 ≤ (j 2 : ℕ) / 128 then KQ (m ((c : Thread nD τ).loc main_arg0)) (m ((c : Thread nD τ).loc main_arg1)) (m ((c : Thread nD τ).loc main_arg2)) (m ((c : Thread nD τ).loc main_arg3)) (m ((c : Thread nD τ).loc main_arg4)) (j 0) ⟨((j 2 : ℕ) / 128 - 52), by have : (j 2 : ℕ) < 7168 := (j 2).isLt; omega⟩ (j 1) (inHead (j 2))
      else (m ((c : Thread nD τ).loc main_arg5)) j := by
  refine Eq.trans ((dats m 0 c).arrAt_eq_of_coversWhere 6 (fun j : S4x2048x7168.Idx => KQ (m ((c : Thread nD τ).loc main_arg0)) (m ((c : Thread nD τ).loc main_arg1)) (m ((c : Thread nD τ).loc main_arg2)) (m ((c : Thread nD τ).loc main_arg3)) (m ((c : Thread nD τ).loc main_arg4)) (j 0) ⟨((j 2 : ℕ) / 128 - 52), by have : (j 2 : ℕ) < 7168 := (j 2).isLt; omega⟩ (j 1) (inHead (j 2))) (P := fun j : S4x2048x7168.Idx => 52 ≤ (j 2 : ℕ) / 128) (fun β => 52 ≤ β (2 : Fin _)) (by decide +kernel)
    (fun t hf y => ?_) (fun j => Iff.rfl)) ?_
  · blk_simp
    rw [after0_6, left6]
    have h2 : (y 2 : ℕ) < 128 := (y 2).isLt
    have h0 : (y 0 : ℕ) < 1 := (y 0).isLt
    refine (point6 m c t y).trans (at4 (KQ (m ((c : Thread nD τ).loc main_arg0)) (m ((c : Thread nD τ).loc main_arg1)) (m ((c : Thread nD τ).loc main_arg2)) (m ((c : Thread nD τ).loc main_arg3)) (m ((c : Thread nD τ).loc main_arg4))) (Fin.ext ?_) (Fin.ext ?_) (Fin.ext ?_) (Fin.ext ?_))
    · blk_simp [(idx t).2.2.2.2.2.2.1, pb]
    · blk_simp [(idx t).2.2.2.2.2.2.1, ph]; dsimp only; omega
    · blk_simp [(idx t).2.2.2.2.2.2.1]
    · blk_simp [(idx t).2.2.2.2.2.2.1, inHead]; dsimp only; omega
  · funext j
    split
    · rfl
    · show V m c main_v0_0 j = _
      entry_read
      rfl

theorem sum9 (c : Dev nD) : ∀ (n : ℕ) (h : n < cfg0.N) (i : Fin 128),
    (outsAt0 m c n h).2.2.2.1 (ix2 0 i) = ∑ s : Fin (n + 1), KGQ (m ((c : Thread nD τ).loc main_arg0)) (m ((c : Thread nD τ).loc main_arg1)) (m ((c : Thread nD τ).loc main_arg2)) (m ((c : Thread nD τ).loc main_arg3)) (m ((c : Thread nD τ).loc main_arg4)) (pb ⟨s, by have := s.isLt; omega⟩) (ph ⟨s, by have := s.isLt; omega⟩) i
  | 0, h, i => by
    rw [first9 m c ⟨0, h⟩ rfl, point9]
    simp
  | n + 1, h, i => by
    rw [next9 m c ⟨n + 1, h⟩ (Nat.succ_ne_zero n), Fin.sum_univ_castSucc]
    unfold k0_pay4
    pointwise
    refine congrArg₂ (· + ·) (sum9 c n (Nat.lt_of_succ_lt h) i) (point9 m c ⟨n + 1, h⟩ i)

theorem sum10 (c : Dev nD) : ∀ (n : ℕ) (h : n < cfg0.N) (i : Fin 128),
    (outsAt0 m c n h).2.2.2.2 (ix2 0 i) = ∑ s : Fin (n + 1), KGK (m ((c : Thread nD τ).loc main_arg0)) (m ((c : Thread nD τ).loc main_arg1)) (m ((c : Thread nD τ).loc main_arg2)) (m ((c : Thread nD τ).loc main_arg3)) (m ((c : Thread nD τ).loc main_arg4)) (pb ⟨s, by have := s.isLt; omega⟩) (ph ⟨s, by have := s.isLt; omega⟩) i
  | 0, h, i => by
    rw [first10 m c ⟨0, h⟩ rfl, point10]
    simp
  | n + 1, h, i => by
    rw [next10 m c ⟨n + 1, h⟩ (Nat.succ_ne_zero n), Fin.sum_univ_castSucc]
    pointwise
    refine congrArg₂ (· + ·) (sum10 c n (Nat.lt_of_succ_lt h) i) (point10 m c ⟨n + 1, h⟩ i)

/-- The sixteen grid points are the four batch rows by the four heads. -/
theorem sum16 (f : Fin 4 → Fin 4 → EReal) : ∑ s : Fin 16, f (pb s) (ph s) = ∑ b, ∑ h, f b h := by
  rw [← Fintype.sum_prod_type' f, ← (finProdFinEquiv (m := 4) (n := 4)).symm.sum_comp]
  rfl

theorem arr9 (c : Dev nD) : (dats m 0 c).arrAt 9 cfg0.N
    = fun j : S1x128.Idx => ∑ b, ∑ h, KGQ (m ((c : Thread nD τ).loc main_arg0)) (m ((c : Thread nD τ).loc main_arg1)) (m ((c : Thread nD τ).loc main_arg2)) (m ((c : Thread nD τ).loc main_arg3)) (m ((c : Thread nD τ).loc main_arg4)) b h (j 1) := by
  refine (dats m 0 c).arrAt_eq_of_after_last 9 (⟨15, by decide⟩ : Fin grid0.N) (by decide +kernel) _ fun j => ?_
  have e : (j : S1x128.Idx) = ix2 0 (j 1) := by
    funext a
    match a with
    | ⟨0, _⟩ => exact Subsingleton.elim (α := Fin 1) _ _
    | ⟨1, _⟩ => rfl
  refine Eq.trans ?_ ((sum9 m c 15 (by decide) (j 1)).trans (sum16 fun b h => KGQ _ _ _ _ _ b h (j 1)))
  exact (congrFun (after0_9 m c (⟨15, by decide⟩ : Fin cfg0.N)) j).trans (congrArg (outsAt0 m c 15 (by decide)).2.2.2.1 e)

theorem arr10 (c : Dev nD) : (dats m 0 c).arrAt 10 cfg0.N
    = fun j : S1x128.Idx => ∑ b, ∑ h, KGK (m ((c : Thread nD τ).loc main_arg0)) (m ((c : Thread nD τ).loc main_arg1)) (m ((c : Thread nD τ).loc main_arg2)) (m ((c : Thread nD τ).loc main_arg3)) (m ((c : Thread nD τ).loc main_arg4)) b h (j 1) := by
  refine (dats m 0 c).arrAt_eq_of_after_last 10 (⟨15, by decide⟩ : Fin grid0.N) (by decide +kernel) _ fun j => ?_
  have e : (j : S1x128.Idx) = ix2 0 (j 1) := by
    funext a
    match a with
    | ⟨0, _⟩ => exact Subsingleton.elim (α := Fin 1) _ _
    | ⟨1, _⟩ => rfl
  refine Eq.trans ?_ ((sum10 m c 15 (by decide) (j 1)).trans (sum16 fun b h => KGK _ _ _ _ _ b h (j 1)))
  exact (congrFun (after0_10 m c (⟨15, by decide⟩ : Fin cfg0.N)) j).trans (congrArg (outsAt0 m c 15 (by decide)).2.2.2.2 e)

end Cert.MemArrays
-- ==== Proof.MemRef.lean ====
/-
  The reference's five results, element by element: each stage of its program read at an index, head by head, as the
  functions of `MemMath`.
-/
module

public import proofs.«01_k».proof.Proof.MemArrays
public import proofs.«01_k».proof.Proof.Gen.ReferenceIdeal.Read

@[expose] public section

set_option maxRecDepth 16384

noncomputable section

namespace Cert.MemRef

open Cert.ReferenceIdeal Cert.ReferenceIdeal.Read Idealize.ShloMosaic Idealize.ShloMosaic.TcCoe Cert.Lits
open Cert.MemMath Cert.Arith Cert.MemBlock
open Cert.MemArrays (zq ck cv yy head Z C Y G)
open scoped BigOperators

variable (x0 : Z) (x1 : C) (x2 : Y) (x3 x4 : G)

/-! ## The arrays the program starts from -/

theorem v5_at (b : Fin 4) (t : Fin 2048) (h : Fin 4) (i : Fin 128) : val_main_v5 (F := Ideal) x0 (ix4 b t h i) = zq x0 b h t i := by
  unfold val_main_v5 val_main_v2
  pointwise
  unfold zq head
  exact congrArg x0 (congrArg (ix3 b t) (Fin.ext (by dsimp only; omega)))

theorem v22_at (b : Fin 4) (m : Fin 256) (h : Fin 4) (i : Fin 128) : val_main_v22 (F := Ideal) x1 (ix4 b m h i) = ck x1 b h m i := by
  unfold val_main_v22 val_main_v0
  pointwise
  unfold ck head
  exact congrArg x1 (congrArg (ix3 b m) (Fin.ext (by dsimp only; omega)))

theorem v39_at (b : Fin 4) (m : Fin 256) (h : Fin 4) (i : Fin 128) : val_main_v39 (F := Ideal) x1 (ix4 b m h i) = cv x1 b h m i := by
  unfold val_main_v39 val_main_v1
  pointwise
  unfold cv head
  exact congrArg x1 (congrArg (ix3 b m) (Fin.ext (by dsimp only; omega)))

theorem v74_at (b : Fin 4) (t : Fin 2048) (h : Fin 4) (i : Fin 128) : val_main_v74 (F := Ideal) x2 (ix4 b t h i) = yy x2 b h t i := by
  unfold val_main_v74
  pointwise
  unfold yy head
  exact congrArg x2 (congrArg (ix3 b t) (Fin.ext (by dsimp only; omega)))

theorem v3_at (i : Fin 128) : val_main_v3 (F := Ideal) x3 (ix1 i) = row x3 i := by
  unfold val_main_v3
  pointwise
  rfl

theorem v4_at (i : Fin 128) : val_main_v4 (F := Ideal) x4 (ix1 i) = row x4 i := by
  unfold val_main_v4
  pointwise
  rfl

/-! ## The normalised rows -/

theorem v12_at (b : Fin 4) (t : Fin 2048) (h : Fin 4) (z : Fin 1) : val_main_v12 (F := Ideal) x0 (ix4 b t h z) = msq 128 eps (zq x0 b h t) := by
  have e5 := v5_at x0
  unfold val_main_v12 val_main_v11 val_main_v10 val_main_v9 val_main_v8 val_main_v7 val_main_v6 val_main_cst val_main_cst_0 val_main_cst_1
  generalize val_main_v5 (F := Ideal) x0 = P5 at e5 ⊢
  pointwise
  simp only [e5, lit_128, lit_eps, lit_scale, lit_mhalf, lit_bot, lit_one, lit_zero, zero_add]
  all_goals rfl

theorem v13_at (b : Fin 4) (t : Fin 2048) (h : Fin 4) (z : Fin 1) : val_main_v13 (F := Ideal) x0 (ix4 b t h z) = rs 128 eps (zq x0 b h t) := by
  have e12 := v12_at x0
  unfold val_main_v13
  generalize val_main_v12 (F := Ideal) x0 = P12 at e12 ⊢
  pointwise
  simp only [e12, lit_128, lit_eps, lit_scale, lit_mhalf, lit_bot, lit_one, lit_zero, zero_add]
  all_goals rfl

theorem v16_at (b : Fin 4) (t : Fin 2048) (h : Fin 4) (z : Fin 1) : val_main_v16 (F := Ideal) x0 (ix4 b t h z) = ((-(1 / 2) : ℝ) : EReal) * Ideal.div (rs 128 eps (zq x0 b h t)) (msq 128 eps (zq x0 b h t)) := by
  have e13 := v13_at x0
  have e12 := v12_at x0
  unfold val_main_v16 val_main_v15 val_main_v14 val_main_cst_2
  generalize val_main_v13 (F := Ideal) x0 = P13 at e13 ⊢
  generalize val_main_v12 (F := Ideal) x0 = P12 at e12 ⊢
  pointwise
  simp only [e13, e12, lit_128, lit_eps, lit_scale, lit_mhalf, lit_bot, lit_one, lit_zero, zero_add]
  all_goals rfl

theorem v18_at (b : Fin 4) (t : Fin 2048) (h : Fin 4) (i : Fin 128) : val_main_v18 (F := Ideal) x0 (ix4 b t h i) = (zq x0 b h t) i * rs 128 eps (zq x0 b h t) := by
  have e5 := v5_at x0
  have e13 := v13_at x0
  unfold val_main_v18 val_main_v17
  generalize val_main_v5 (F := Ideal) x0 = P5 at e5 ⊢
  generalize val_main_v13 (F := Ideal) x0 = P13 at e13 ⊢
  pointwise
  simp only [e5, e13, lit_128, lit_eps, lit_scale, lit_mhalf, lit_bot, lit_one, lit_zero, zero_add]
  all_goals rfl

theorem v21_at (b : Fin 4) (t : Fin 2048) (h : Fin 4) (i : Fin 128) : val_main_v21 (F := Ideal) x0 x3 (ix4 b t h i) = Rq 128 eps (zq x0 b h) (row x3) t i := by
  have e18 := v18_at x0
  have e3 := v3_at x3
  unfold val_main_v21 val_main_v20 val_main_v19
  generalize val_main_v18 (F := Ideal) x0 = P18 at e18 ⊢
  generalize val_main_v3 (F := Ideal) x3 = P3 at e3 ⊢
  pointwise
  simp only [e18, e3, lit_128, lit_eps, lit_scale, lit_mhalf, lit_bot, lit_one, lit_zero, zero_add]
  all_goals rfl

theorem v29_at (b : Fin 4) (m : Fin 256) (h : Fin 4) (z : Fin 1) : val_main_v29 (F := Ideal) x1 (ix4 b m h z) = msq 128 eps (ck x1 b h m) := by
  have e22 := v22_at x1
  unfold val_main_v29 val_main_v28 val_main_v27 val_main_v26 val_main_v25 val_main_v24 val_main_v23 val_main_cst_3 val_main_cst_4 val_main_cst_5
  generalize val_main_v22 (F := Ideal) x1 = P22 at e22 ⊢
  pointwise
  simp only [e22, lit_128, lit_eps, lit_scale, lit_mhalf, lit_bot, lit_one, lit_zero, zero_add]
  all_goals rfl

theorem v30_at (b : Fin 4) (m : Fin 256) (h : Fin 4) (z : Fin 1) : val_main_v30 (F := Ideal) x1 (ix4 b m h z) = rs 128 eps (ck x1 b h m) := by
  have e29 := v29_at x1
  unfold val_main_v30
  generalize val_main_v29 (F := Ideal) x1 = P29 at e29 ⊢
  pointwise
  simp only [e29, lit_128, lit_eps, lit_scale, lit_mhalf, lit_bot, lit_one, lit_zero, zero_add]
  all_goals rfl

theorem v33_at (b : Fin 4) (m : Fin 256) (h : Fin 4) (z : Fin 1) : val_main_v33 (F := Ideal) x1 (ix4 b m h z) = ((-(1 / 2) : ℝ) : EReal) * Ideal.div (rs 128 eps (ck x1 b h m)) (msq 128 eps (ck x1 b h m)) := by
  have e30 := v30_at x1
  have e29 := v29_at x1
  unfold val_main_v33 val_main_v32 val_main_v31 val_main_cst_6
  generalize val_main_v30 (F := Ideal) x1 = P30 at e30 ⊢
  generalize val_main_v29 (F := Ideal) x1 = P29 at e29 ⊢
  pointwise
  simp only [e30, e29, lit_128, lit_eps, lit_scale, lit_mhalf, lit_bot, lit_one, lit_zero, zero_add]
  all_goals rfl

theorem v35_at (b : Fin 4) (m : Fin 256) (h : Fin 4) (i : Fin 128) : val_main_v35 (F := Ideal) x1 (ix4 b m h i) = (ck x1 b h m) i * rs 128 eps (ck x1 b h m) := by
  have e22 := v22_at x1
  have e30 := v30_at x1
  unfold val_main_v35 val_main_v34
  generalize val_main_v22 (F := Ideal) x1 = P22 at e22 ⊢
  generalize val_main_v30 (F := Ideal) x1 = P30 at e30 ⊢
  pointwise
  simp only [e22, e30, lit_128, lit_eps, lit_scale, lit_mhalf, lit_bot, lit_one, lit_zero, zero_add]
  all_goals rfl

theorem v38_at (b : Fin 4) (m : Fin 256) (h : Fin 4) (i : Fin 128) : val_main_v38 (F := Ideal) x1 x4 (ix4 b m h i) = Kk 128 eps (ck x1 b h) (row x4) m i := by
  have e35 := v35_at x1
  have e4 := v4_at x4
  unfold val_main_v38 val_main_v37 val_main_v36
  generalize val_main_v35 (F := Ideal) x1 = P35 at e35 ⊢
  generalize val_main_v4 (F := Ideal) x4 = P4 at e4 ⊢
  pointwise
  simp only [e35, e4, lit_128, lit_eps, lit_scale, lit_mhalf, lit_bot, lit_one, lit_zero, zero_add]
  all_goals rfl

/-! ## The softmax -/

theorem v42_at (b h : Fin 4) (t : Fin 2048) (m : Fin 256) : val_main_v42 (F := Ideal) x0 x1 x3 x4 (ix4 b h t m) = Rs 128 eps scale (zq x0 b h) (ck x1 b h) (row x3) (row x4) t m := by
  have e21 := v21_at x0 x3
  have e38 := v38_at x1 x4
  unfold val_main_v42 val_main_v41 val_main_v40 val_main_cst_7
  generalize val_main_v21 (F := Ideal) x0 x3 = P21 at e21 ⊢
  generalize val_main_v38 (F := Ideal) x1 x4 = P38 at e38 ⊢
  pointwise
  simp only [e21, e38, lit_128, lit_eps, lit_scale, lit_mhalf, lit_bot, lit_one, lit_zero, zero_add]
  all_goals rfl

theorem v43_at (b h : Fin 4) (t : Fin 2048) : val_main_v43 (F := Ideal) x0 x1 x3 x4 (ix3 b h t) = Finset.univ.fold max ⊥ (Rs 128 eps scale (zq x0 b h) (ck x1 b h) (row x3) (row x4) t) := by
  have e42 := v42_at x0 x1 x3 x4
  unfold val_main_v43 val_main_cst_8
  generalize val_main_v42 (F := Ideal) x0 x1 x3 x4 = P42 at e42 ⊢
  pointwise
  simp only [e42, lit_128, lit_eps, lit_scale, lit_mhalf, lit_bot, lit_one, lit_zero, zero_add]
  all_goals rfl

theorem v50_at (b h : Fin 4) (t : Fin 2048) : val_main_v50 (F := Ideal) x0 x1 x3 x4 (ix3 b h t) = max ⊥ (Finset.univ.fold max ⊥ (Rs 128 eps scale (zq x0 b h) (ck x1 b h) (row x3) (row x4) t)) := by
  rw [val_main_v50_apply, val_main_v49_apply, v43_at]
  unfold val_main_cst_10
  exact congrArg (fun z => max z _) lit_bot

theorem v63_at (b h : Fin 4) (t : Fin 2048) (m : Fin 256) : val_main_v63 (F := Ideal) x0 x1 x3 x4 (ix4 b h t m) = Rexpo (Rs 128 eps scale (zq x0 b h) (ck x1 b h) (row x3) (row x4) t) m := by
  have e42 := v42_at x0 x1 x3 x4
  have e50 := v50_at x0 x1 x3 x4
  unfold val_main_v63 val_main_v62 val_main_v61 val_main_v60
  generalize val_main_v42 (F := Ideal) x0 x1 x3 x4 = P42 at e42 ⊢
  generalize val_main_v50 (F := Ideal) x0 x1 x3 x4 = P50 at e50 ⊢
  pointwise
  simp only [e42, e50, lit_128, lit_eps, lit_scale, lit_mhalf, lit_bot, lit_one, lit_zero, zero_add]
  all_goals rfl

theorem v65_at (b h : Fin 4) (t : Fin 2048) (z : Fin 1) : val_main_v65 (F := Ideal) x0 x1 x3 x4 (ix4 b h t z) = ∑ m', Rexpo (Rs 128 eps scale (zq x0 b h) (ck x1 b h) (row x3) (row x4) t) m' := by
  have e63 := v63_at x0 x1 x3 x4
  unfold val_main_v65 val_main_v64 val_main_cst_16
  generalize val_main_v63 (F := Ideal) x0 x1 x3 x4 = P63 at e63 ⊢
  pointwise
  simp only [e63, lit_128, lit_eps, lit_scale, lit_mhalf, lit_bot, lit_one, lit_zero, zero_add]
  all_goals rfl

theorem v67_at (b h : Fin 4) (t : Fin 2048) (m : Fin 256) : val_main_v67 (F := Ideal) x0 x1 x3 x4 (ix4 b h t m) = Rp 128 eps scale (zq x0 b h) (ck x1 b h) (row x3) (row x4) t m := by
  have e63 := v63_at x0 x1 x3 x4
  have e65 := v65_at x0 x1 x3 x4
  unfold val_main_v67 val_main_v66
  generalize val_main_v63 (F := Ideal) x0 x1 x3 x4 = P63 at e63 ⊢
  generalize val_main_v65 (F := Ideal) x0 x1 x3 x4 = P65 at e65 ⊢
  pointwise
  simp only [e63, e65, lit_128, lit_eps, lit_scale, lit_mhalf, lit_bot, lit_one, lit_zero, zero_add]
  all_goals rfl

theorem v70_at (b h : Fin 4) (t : Fin 2048) (z : Fin 1) : val_main_v70 (F := Ideal) x0 x1 x3 x4 (ix4 b h t z) = Ideal.div 1 ((∑ m', Rexpo (Rs 128 eps scale (zq x0 b h) (ck x1 b h) (row x3) (row x4) t) m') * (∑ m', Rexpo (Rs 128 eps scale (zq x0 b h) (ck x1 b h) (row x3) (row x4) t) m')) := by
  have e65 := v65_at x0 x1 x3 x4
  unfold val_main_v70 val_main_v69 val_main_v68 val_main_cst_17
  generalize val_main_v65 (F := Ideal) x0 x1 x3 x4 = P65 at e65 ⊢
  pointwise
  simp only [e65, lit_128, lit_eps, lit_scale, lit_mhalf, lit_bot, lit_one, lit_zero, zero_add]
  all_goals rfl

/-! ## The gradient of the scores -/

theorem v76_at (b h : Fin 4) (t : Fin 2048) (m : Fin 256) : val_main_v76 (F := Ideal) x1 x2 (ix4 b h t m) = dp (cv x1 b h) (yy x2 b h) t m := by
  have e74 := v74_at x2
  have e39 := v39_at x1
  unfold val_main_v76 val_main_v75
  generalize val_main_v74 (F := Ideal) x2 = P74 at e74 ⊢
  generalize val_main_v39 (F := Ideal) x1 = P39 at e39 ⊢
  pointwise
  simp only [e74, e39, lit_128, lit_eps, lit_scale, lit_mhalf, lit_bot, lit_one, lit_zero, zero_add]
  all_goals rfl

theorem v84_at (b h : Fin 4) (t : Fin 2048) (z : Fin 1) : val_main_v84 (F := Ideal) x0 x1 x2 x3 x4 (ix4 b h t z) = Rneg 128 eps scale (zq x0 b h) (ck x1 b h) (cv x1 b h) (yy x2 b h) (row x3) (row x4) t := by
  have e76 := v76_at x1 x2
  have e70 := v70_at x0 x1 x3 x4
  have e63 := v63_at x0 x1 x3 x4
  unfold val_main_v84 val_main_v83 val_main_v82 val_main_v81 val_main_v80 val_main_v79 val_main_cst_18
  generalize val_main_v76 (F := Ideal) x1 x2 = P76 at e76 ⊢
  generalize val_main_v70 (F := Ideal) x0 x1 x3 x4 = P70 at e70 ⊢
  generalize val_main_v63 (F := Ideal) x0 x1 x3 x4 = P63 at e63 ⊢
  pointwise
  simp only [e76, e70, e63, lit_128, lit_eps, lit_scale, lit_mhalf, lit_bot, lit_one, lit_zero, zero_add]
  all_goals rfl

theorem v92_at (b h : Fin 4) (t : Fin 2048) (m : Fin 256) : val_main_v92 (F := Ideal) x0 x1 x2 x3 x4 (ix4 b h t m) = Rds 128 eps scale (zq x0 b h) (ck x1 b h) (cv x1 b h) (yy x2 b h) (row x3) (row x4) t m := by
  have e76 := v76_at x1 x2
  have e65 := v65_at x0 x1 x3 x4
  have e84 := v84_at x0 x1 x2 x3 x4
  have e63 := v63_at x0 x1 x3 x4
  unfold val_main_v92 val_main_v91 val_main_v90 val_main_v89 val_main_v88 val_main_v87 val_main_v86 val_main_v85 val_main_cst_19 val_main_cst_20
  generalize val_main_v76 (F := Ideal) x1 x2 = P76 at e76 ⊢
  generalize val_main_v65 (F := Ideal) x0 x1 x3 x4 = P65 at e65 ⊢
  generalize val_main_v84 (F := Ideal) x0 x1 x2 x3 x4 = P84 at e84 ⊢
  generalize val_main_v63 (F := Ideal) x0 x1 x3 x4 = P63 at e63 ⊢
  pointwise
  simp only [e76, e65, e84, e63, lit_128, lit_eps, lit_scale, lit_mhalf, lit_bot, lit_one, lit_zero, zero_add, Finset.sum_const, Finset.card_univ, Fintype.card_fin, one_smul]
  all_goals rfl

/-! ## The gradients of the normalised rows and of the values -/

theorem v78_at (b : Fin 4) (m : Fin 256) (h : Fin 4) (i : Fin 128) : val_main_v78 (F := Ideal) x0 x1 x2 x3 x4 (ix4 b m h i) = Rdv 128 eps scale (zq x0 b h) (ck x1 b h) (yy x2 b h) (row x3) (row x4) m i := by
  have e74 := v74_at x2
  have e67 := v67_at x0 x1 x3 x4
  unfold val_main_v78 val_main_v77 val_main_v75
  generalize val_main_v74 (F := Ideal) x2 = P74 at e74 ⊢
  generalize val_main_v67 (F := Ideal) x0 x1 x3 x4 = P67 at e67 ⊢
  pointwise
  simp only [e74, e67, lit_128, lit_eps, lit_scale, lit_mhalf, lit_bot, lit_one, lit_zero, zero_add]
  all_goals rfl

theorem v94_at (b : Fin 4) (m : Fin 256) (h : Fin 4) (i : Fin 128) : val_main_v94 (F := Ideal) x0 x1 x2 x3 x4 (ix4 b m h i) = Rdkn 128 eps scale (zq x0 b h) (ck x1 b h) (cv x1 b h) (yy x2 b h) (row x3) (row x4) m i := by
  have e92 := v92_at x0 x1 x2 x3 x4
  have e21 := v21_at x0 x3
  unfold val_main_v94 val_main_v93
  generalize val_main_v92 (F := Ideal) x0 x1 x2 x3 x4 = P92 at e92 ⊢
  generalize val_main_v21 (F := Ideal) x0 x3 = P21 at e21 ⊢
  pointwise
  simp only [e92, e21, lit_128, lit_eps, lit_scale, lit_mhalf, lit_bot, lit_one, lit_zero, zero_add]
  all_goals rfl

theorem v96_at (b : Fin 4) (t : Fin 2048) (h : Fin 4) (i : Fin 128) : val_main_v96 (F := Ideal) x0 x1 x2 x3 x4 (ix4 b t h i) = Rdqn 128 eps scale (zq x0 b h) (ck x1 b h) (cv x1 b h) (yy x2 b h) (row x3) (row x4) t i := by
  have e92 := v92_at x0 x1 x2 x3 x4
  have e38 := v38_at x1 x4
  unfold val_main_v96 val_main_v95
  generalize val_main_v92 (F := Ideal) x0 x1 x2 x3 x4 = P92 at e92 ⊢
  generalize val_main_v38 (F := Ideal) x1 x4 = P38 at e38 ⊢
  pointwise
  simp only [e92, e38, lit_128, lit_eps, lit_scale, lit_mhalf, lit_bot, lit_one, lit_zero, zero_add]
  all_goals rfl

/-! ## The five results -/

/-- The head a column of 512 is in. -/
def hd (j : Fin 512) : Fin 4 := ⟨(j : ℕ) / 128, by omega⟩
/-- Its place there. -/
def pl (j : Fin 512) : Fin 128 := ⟨(j : ℕ) % 128, by omega⟩

theorem v97_at (b : Fin 4) (m : Fin 256) (j : Fin 512) : val_main_v97 (F := Ideal) x0 x1 x2 x3 x4 (ix3 b m j) = Rdv 128 eps scale (zq x0 b (hd j)) (ck x1 b (hd j)) (yy x2 b (hd j)) (row x3) (row x4) m (pl j) := by
  have e78 := v78_at x0 x1 x2 x3 x4
  unfold val_main_v97
  generalize val_main_v78 (F := Ideal) x0 x1 x2 x3 x4 = P78 at e78 ⊢
  pointwise
  simp only [e78, lit_128, lit_eps, lit_scale, lit_mhalf, lit_bot, lit_one, lit_zero, zero_add]
  all_goals rfl

theorem v118_at (b : Fin 4) (m : Fin 256) (j : Fin 512) : val_main_v118 (F := Ideal) x0 x1 x2 x3 x4 (ix3 b m j) = Rdk 128 eps scale (zq x0 b (hd j)) (ck x1 b (hd j)) (cv x1 b (hd j)) (yy x2 b (hd j)) (row x3) (row x4) m (pl j) := by
  have e22 := v22_at x1
  have e94 := v94_at x0 x1 x2 x3 x4
  have e30 := v30_at x1
  have e33 := v33_at x1
  have e4 := v4_at x4
  unfold val_main_v118 val_main_v117 val_main_v116 val_main_v115 val_main_v114 val_main_v113 val_main_v112 val_main_v111 val_main_v110 val_main_v109 val_main_v108 val_main_v107 val_main_v106 val_main_v105 val_main_v104 val_main_v102 val_main_v101 val_main_v36 val_main_cst_23 val_main_cst_24 val_main_cst_25
  generalize val_main_v22 (F := Ideal) x1 = P22 at e22 ⊢
  generalize val_main_v94 (F := Ideal) x0 x1 x2 x3 x4 = P94 at e94 ⊢
  generalize val_main_v30 (F := Ideal) x1 = P30 at e30 ⊢
  generalize val_main_v33 (F := Ideal) x1 = P33 at e33 ⊢
  generalize val_main_v4 (F := Ideal) x4 = P4 at e4 ⊢
  pointwise
  simp only [e22, e94, e30, e33, e4, lit_128, lit_eps, lit_scale, lit_mhalf, lit_bot, lit_one, lit_zero, zero_add, Finset.sum_const, Finset.card_univ, Fintype.card_fin, one_smul]
  all_goals rfl

theorem v139_at (b : Fin 4) (t : Fin 2048) (j : Fin 512) : val_main_v139 (F := Ideal) x0 x1 x2 x3 x4 (ix3 b t j) = Rdq 128 eps scale (zq x0 b (hd j)) (ck x1 b (hd j)) (cv x1 b (hd j)) (yy x2 b (hd j)) (row x3) (row x4) t (pl j) := by
  have e5 := v5_at x0
  have e96 := v96_at x0 x1 x2 x3 x4
  have e13 := v13_at x0
  have e16 := v16_at x0
  have e3 := v3_at x3
  unfold val_main_v139 val_main_v138 val_main_v137 val_main_v136 val_main_v135 val_main_v134 val_main_v133 val_main_v132 val_main_v131 val_main_v130 val_main_v129 val_main_v128 val_main_v127 val_main_v126 val_main_v125 val_main_v123 val_main_v122 val_main_v19 val_main_cst_28 val_main_cst_29 val_main_cst_30
  generalize val_main_v5 (F := Ideal) x0 = P5 at e5 ⊢
  generalize val_main_v96 (F := Ideal) x0 x1 x2 x3 x4 = P96 at e96 ⊢
  generalize val_main_v13 (F := Ideal) x0 = P13 at e13 ⊢
  generalize val_main_v16 (F := Ideal) x0 = P16 at e16 ⊢
  generalize val_main_v3 (F := Ideal) x3 = P3 at e3 ⊢
  pointwise
  simp only [e5, e96, e13, e16, e3, lit_128, lit_eps, lit_scale, lit_mhalf, lit_bot, lit_one, lit_zero, zero_add, Finset.sum_const, Finset.card_univ, Fintype.card_fin, one_smul]
  all_goals rfl

/-- The indices of a rank-four array that a reduction of its first three axes sends to one place of the last. -/
theorem sumLead {A B C' D : ℕ} (h : (⟨4, ![A, B, C', D]⟩ : Shape).ReducesTo [0, 1, 2] ⟨1, ![D]⟩)
    (v : (⟨4, ![A, B, C', D]⟩ : Shape).Idx → EReal) (i : Fin D) :
    Ideal.hostReduceAdd h v 0 (ix1 i) = ∑ a, ∑ b, ∑ c, v (ix4 a b c i) := by
  have key (e : (⟨4, ![A, B, C', D]⟩ : Shape).Idx) : h.drop e = ix1 i ↔ ∃ k : Fin A × Fin B × Fin C', ix4 k.1 k.2.1 k.2.2 i = e := by
    constructor
    · intro he
      refine ⟨(e 0, e 1, e 2), funext fun a => Fin.ext ?_⟩
      match a with
      | ⟨0, _⟩ => rfl
      | ⟨1, _⟩ => rfl
      | ⟨2, _⟩ => rfl
      | ⟨3, _⟩ => exact (congrArg Fin.val (congrFun he 0)).symm
    · rintro ⟨k, rfl⟩
      funext a
      match a with
      | ⟨0, _⟩ => rfl
  refine (zero_add _).trans ?_
  refine (Finset.sum_filter_eq_sum_of_fiber _ (fun k : Fin A × Fin B × Fin C' => ix4 k.1 k.2.1 k.2.2 i)
    (fun _ _ e => Prod.ext (congrFun e 0) (Prod.ext (congrFun e 1) (congrFun e 2))) key v).trans ?_
  simp only [Fintype.sum_prod_type]

theorem v99_at (i : Fin 128) : val_main_v99 (F := Ideal) x0 x1 x2 x3 x4 (ix1 i) = ∑ b, ∑ h, Rgk 128 eps scale (zq x0 b h) (ck x1 b h) (cv x1 b h) (yy x2 b h) (row x3) (row x4) i := by
  have e35 := v35_at x1
  have e94 := v94_at x0 x1 x2 x3 x4
  unfold val_main_v99 val_main_v98 val_main_cst_21
  generalize val_main_v35 (F := Ideal) x1 = P35 at e35 ⊢
  generalize val_main_v94 (F := Ideal) x0 x1 x2 x3 x4 = P94 at e94 ⊢
  pointwise
  rw [sumLead]
  pointwise
  simp only [e35, e94]
  exact Finset.sum_congr rfl fun b _ => Finset.sum_comm

theorem v140_at (i : Fin 128) : val_main_v140 (F := Ideal) x0 x1 x2 x3 x4 (ix2 0 i) = ∑ b, ∑ h, Rgk 128 eps scale (zq x0 b h) (ck x1 b h) (cv x1 b h) (yy x2 b h) (row x3) (row x4) i := by
  have e99 := v99_at x0 x1 x2 x3 x4
  unfold val_main_v140 val_main_v103 val_main_v100 val_main_cst_22
  generalize val_main_v99 (F := Ideal) x0 x1 x2 x3 x4 = P99 at e99 ⊢
  pointwise
  rw [sumLead]
  pointwise
  simp only [e99, Finset.univ_unique, Finset.sum_singleton]

theorem v120_at (i : Fin 128) : val_main_v120 (F := Ideal) x0 x1 x2 x3 x4 (ix1 i) = ∑ b, ∑ h, Rgq 128 eps scale (zq x0 b h) (ck x1 b h) (cv x1 b h) (yy x2 b h) (row x3) (row x4) i := by
  have e18 := v18_at x0
  have e96 := v96_at x0 x1 x2 x3 x4
  unfold val_main_v120 val_main_v119 val_main_cst_26
  generalize val_main_v18 (F := Ideal) x0 = P18 at e18 ⊢
  generalize val_main_v96 (F := Ideal) x0 x1 x2 x3 x4 = P96 at e96 ⊢
  pointwise
  rw [sumLead]
  pointwise
  simp only [e18, e96]
  exact Finset.sum_congr rfl fun b _ => Finset.sum_comm

theorem v141_at (i : Fin 128) : val_main_v141 (F := Ideal) x0 x1 x2 x3 x4 (ix2 0 i) = ∑ b, ∑ h, Rgq 128 eps scale (zq x0 b h) (ck x1 b h) (cv x1 b h) (yy x2 b h) (row x3) (row x4) i := by
  have e120 := v120_at x0 x1 x2 x3 x4
  unfold val_main_v141 val_main_v124 val_main_v121 val_main_cst_27
  generalize val_main_v120 (F := Ideal) x0 x1 x2 x3 x4 = P120 at e120 ⊢
  pointwise
  rw [sumLead]
  pointwise
  simp only [e120, Finset.univ_unique, Finset.sum_singleton]

theorem v144_at (x5 : (⟨3, ![4, 2048, 7168]⟩ : Shape).Idx → EReal) (b : Fin 4) (t : Fin 2048) (j : Fin 7168) :
    val_main_v144 (F := Ideal) x0 x1 x2 x3 x4 x5 (ix3 b t j)
      = if h : (j : ℕ) < 6656 then x5 (ix3 b t j) else val_main_v139 (F := Ideal) x0 x1 x2 x3 x4 (ix3 b t ⟨j - 6656, by omega⟩) := by
  unfold val_main_v144 val_main_v143 val_main_v142
  pointwise

end Cert.MemRef
-- ==== Proof.MemEq.lean ====
/-
  The two sides meet: under finite gains each result of the reference is the kernel's array.
-/
module

public import proofs.«01_k».proof.Proof.MemRef
public import proofs.«01_k».proof.Proof.Gen.Pre_finite_gains

@[expose] public section

set_option maxRecDepth 16384

noncomputable section

/-! ## The precondition -/

namespace Cert.Gains

open Idealize.ShloMosaic Cert.Lits

/-- An extended real whose absolute value is below the top is a real. -/
theorem real_of_abs_lt (x : EReal) (h : max x (-x) < ⊤) : ∃ r : ℝ, x = r := by
  induction x using EReal.rec with
  | bot => simp at h
  | coe r => exact ⟨r, rfl⟩
  | top => simp at h

/-- The word of the float infinity. -/
theorem lit_top : Ideal.ofBits .f32 0x7F800000#32 = ⊤ := by
  simp [Ideal.ofBits, Ideal.ieee]

open Cert.Pre_finite_gains in
/-- The printed precondition says that every element of the two gains is a real. -/
theorem real (x0 : FVec Ideal S4x2048x7168 .f32) (x1 : FVec Ideal S4x256x1024 .f32) (x2 : FVec Ideal S4x2048x512 .f32) (x3 x4 : FVec Ideal S1x128 .f32)
    (x5 : FVec Ideal S4x2048x7168 .bf16) [Cert.Pre_finite_gains.Facts] (h : fn x0 x1 x2 x3 x4 x5 = fun _ => 1#1) (j : S1x128.Idx) :
    (∃ r : ℝ, x3 j = r) ∧ ∃ r : ℝ, x4 j = r := by
  have e : IntOp.andi (Ideal.cmp .olt (max (x3 j) (-(x3 j))) (Ideal.ofBits .f32 0x7F800000#32))
      (Ideal.cmp .olt (max (x4 j) (-(x4 j))) (Ideal.ofBits .f32 0x7F800000#32)) = 1#1 := congrFun h j
  rw [IntOp.andi_eq_one, lit_top] at e
  have key (x : EReal) (hx : Ideal.cmp .olt x ⊤ = 1#1) : x < ⊤ := by
    unfold Ideal.cmp at hx
    by_contra hn
    simp [hn] at hx
  exact ⟨real_of_abs_lt _ (key _ e.1), real_of_abs_lt _ (key _ e.2)⟩

end Cert.Gains

namespace Cert.MemEq

open Cert.ReferenceIdeal Cert.ReferenceIdeal.Read Idealize.ShloMosaic Idealize.ShloMosaic.TcCoe Cert.Lits
open Cert.MemMath Cert.Arith Cert.MemBlock Cert.MemRef
open Cert.MemArrays (zq ck cv yy head Z C Y G KQ KK KV KGQ KGK inHead)
open scoped BigOperators

variable (x0 : Z) (x1 : C) (x2 : Y) (x3 x4 : G) (h3 : ∀ i, ∃ r : ℝ, row x3 i = r) (h4 : ∀ i, ∃ r : ℝ, row x4 i = r)

theorem n_pos : (0 : ℝ) < 128 := by norm_num

theorem ext3 {α : Type} {a b c : ℕ} {f g : (⟨3, ![a, b, c]⟩ : Shape).Idx → α} (h : ∀ x y z, f (ix3 x y z) = g (ix3 x y z)) : f = g := by
  funext j
  have e : j = ix3 (j 0) (j 1) (j 2) := by
    funext k
    match k with
    | ⟨0, _⟩ => rfl
    | ⟨1, _⟩ => rfl
    | ⟨2, _⟩ => rfl
  rw [e]
  exact h _ _ _

theorem ext2 {α : Type} {a : ℕ} {f g : (⟨2, ![1, a]⟩ : Shape).Idx → α} (h : ∀ y, f (ix2 0 y) = g (ix2 0 y)) : f = g := by
  funext j
  have e : j = ix2 0 (j 1) := by
    funext k
    match k with
    | ⟨0, _⟩ => exact Subsingleton.elim (α := Fin 1) _ _
    | ⟨1, _⟩ => rfl
  rw [e]
  exact h _

include h3 h4 in
/-- The gradient of the keys. -/
theorem keys : val_main_v118 (F := Ideal) x0 x1 x2 x3 x4
    = fun j : S4x256x512.Idx => KK x0 x1 x2 x3 x4 (j 0) ⟨(j 2 : ℕ) / 128, by have : (j 2 : ℕ) < 512 := (j 2).isLt; omega⟩ (j 1) (inHead (j 2)) := by
  refine ext3 fun b m j => (v118_at ..).trans ?_
  exact (congrFun (congrFun (dk_eq n_pos eps_pos scale_nonneg _ _ _ _ _ _ h3 h4) _) _).symm

include h3 h4 in
/-- The gradient of the values. -/
theorem vals : val_main_v97 (F := Ideal) x0 x1 x2 x3 x4
    = fun j : S4x256x512.Idx => KV x0 x1 x2 x3 x4 (j 0) ⟨(j 2 : ℕ) / 128, by have : (j 2 : ℕ) < 512 := (j 2).isLt; omega⟩ (j 1) (inHead (j 2)) := by
  refine ext3 fun b m j => (v97_at ..).trans ?_
  exact (congrFun (congrFun (dv_eq scale_nonneg _ _ _ _ _) _) _).symm

include h3 h4 in
/-- The gradient of the queries, placed past the columns the call leaves. -/
theorem queries (x5 : Z) : val_main_v144 (F := Ideal) x0 x1 x2 x3 x4 x5
    = fun j : S4x2048x7168.Idx => if 52 ≤ (j 2 : ℕ) / 128 then
        KQ x0 x1 x2 x3 x4 (j 0) ⟨((j 2 : ℕ) / 128 - 52), by have : (j 2 : ℕ) < 7168 := (j 2).isLt; omega⟩ (j 1) (inHead (j 2))
      else x5 j := by
  refine ext3 fun b t j => (v144_at ..).trans ?_
  show _ = if 52 ≤ (j : ℕ) / 128 then KQ x0 x1 x2 x3 x4 b ⟨((j : ℕ) / 128 - 52), _⟩ t (inHead j) else x5 (ix3 b t j)
  by_cases h : 52 ≤ (j : ℕ) / 128
  · rw [if_pos h, dif_neg (by omega), v139_at]
    refine (congrFun (congrFun (dq_eq n_pos eps_pos scale_nonneg _ _ _ _ _ _ h3 h4) _) _).symm.trans ?_
    refine Cert.MemArrays.at4 (KQ x0 x1 x2 x3 x4) rfl (Fin.ext ?_) rfl (Fin.ext ?_)
    · show (j : ℕ) / 128 - 52 = ((j : ℕ) - 6656) / 128; omega
    · show (j : ℕ) % 128 = ((j : ℕ) - 6656) % 128; omega
  · rw [if_neg h, dif_pos (by omega)]

include h3 h4 in
/-- The gradient of the queries' gain. -/
theorem gainQ : val_main_v141 (F := Ideal) x0 x1 x2 x3 x4 = fun j : S1x128.Idx => ∑ b, ∑ h, KGQ x0 x1 x2 x3 x4 b h (j 1) := by
  refine ext2 fun i => (v141_at ..).trans ?_
  exact Finset.sum_congr rfl fun b _ => Finset.sum_congr rfl fun h _ => (congrFun (gq_eq n_pos eps_pos scale_nonneg _ _ _ _ _ _ h3 h4) _).symm

include h3 h4 in
/-- The gradient of the keys' gain. -/
theorem gainK : val_main_v140 (F := Ideal) x0 x1 x2 x3 x4 = fun j : S1x128.Idx => ∑ b, ∑ h, KGK x0 x1 x2 x3 x4 b h (j 1) := by
  refine ext2 fun i => (v140_at ..).trans ?_
  exact Finset.sum_congr rfl fun b _ => Finset.sum_congr rfl fun h _ => (congrFun (gk_eq n_pos eps_pos scale_nonneg _ _ _ _ _ _ h3 h4) _).symm

end Cert.MemEq
-- ==== Proof.Products.lean ====
/-
  The three orientations of a matrix product, and a sum taken a stretch at a time.
-/
module

public import Idealize.ShloMosaic.Lib.ValueIdx
public import Idealize.ShloMosaic.Lib.Pointwise
public import Idealize.ShloMosaic.PureOps.Ideal

@[expose] public section

noncomputable section

namespace Cert.Products

open Idealize.ShloMosaic
open scoped BigOperators

theorem off2 : (![0, 0] : Fin 2 → ℕ) = 0 := by funext k; fin_cases k <;> rfl
theorem off3 : (![0, 0, 0] : Fin 3 → ℕ) = 0 := by funext k; fin_cases k <;> rfl

/-- A matrix over the extended reals. -/
abbrev Mat (a b : ℕ) := (⟨2, ![a, b]⟩ : Shape).Idx → EReal
/-- A stack of matrices. -/
abbrev Stack (n a b : ℕ) := (⟨3, ![n, a, b]⟩ : Shape).Idx → EReal

variable {M N K : ℕ}

/-- `A · B`, at an index. -/
def nn (A : Mat M K) (B : Mat K N) (i : Fin M) (j : Fin N) : EReal := ∑ k, A (ix2 i k) * B (ix2 k j)
/-- `A · Bᵀ`, at an index. -/
def nt (A : Mat M K) (B : Mat N K) (i : Fin M) (j : Fin N) : EReal := ∑ k, A (ix2 i k) * B (ix2 j k)
/-- `Aᵀ · B`, at an index. -/
def tn (A : Mat K M) (B : Mat K N) (i : Fin M) (j : Fin N) : EReal := ∑ k, A (ix2 k i) * B (ix2 k j)

/-- One matrix of a stack. -/
def slab {n : ℕ} (w : Stack n M N) (s : Fin n) : Mat M N := fun i => w (ix3 s (i 0) (i 1))

/-- A stack of column groups of 1408 columns laid side by side. -/
def cols (w : Stack 4 1024 1408) : Mat 1024 5632 := fun i =>
  w (ix3 ⟨(i 1).val / 1408, by have h : (i 1).val < 5632 := (i 1).isLt; omega⟩ (i 0) ⟨(i 1).val % 1408, by omega⟩)

theorem cols_at (w : Stack 4 1024 1408) (k : Fin 1024) (j : Fin 5632) (s : Fin 4) (l : Fin 1408) (h : j.val = 1408 * s.val + l.val) :
    cols w (ix2 k j) = w (ix3 s k l) := by
  have e : (⟨j.val / 1408, by omega⟩ : Fin 4) = s := Fin.ext (by dsimp only; omega)
  have e' : (⟨j.val % 1408, by omega⟩ : Fin 1408) = l := Fin.ext (by dsimp only; omega)
  exact congrArg₂ (fun a b => w (ix3 a k b)) e e'

/-- A product's element depends on the row and the column read only. -/
theorem nn_of {M' N' : ℕ} {A : Mat M K} {B : Mat K N} {A' : Mat M' K} {B' : Mat K N'} {i : Fin M} {j : Fin N} {i' p : Fin M'} {j' q : Fin N'}
    (hA : ∀ k, A (ix2 i k) = A' (ix2 p k)) (hB : ∀ k, B (ix2 k j) = B' (ix2 k q)) (hp : p = i') (hq : q = j') : nn A B i j = nn A' B' i' j' := by
  subst hp hq; exact Finset.sum_congr rfl fun k _ => by rw [hA, hB]

theorem nt_of {M' N' : ℕ} {A : Mat M K} {B : Mat N K} {A' : Mat M' K} {B' : Mat N' K} {i : Fin M} {j : Fin N} {i' p : Fin M'} {j' q : Fin N'}
    (hA : ∀ k, A (ix2 i k) = A' (ix2 p k)) (hB : ∀ k, B (ix2 j k) = B' (ix2 q k)) (hp : p = i') (hq : q = j') : nt A B i j = nt A' B' i' j' := by
  subst hp hq; exact Finset.sum_congr rfl fun k _ => by rw [hA, hB]

theorem tn_of {M' N' : ℕ} {A : Mat K M} {B : Mat K N} {A' : Mat K M'} {B' : Mat K N'} {i : Fin M} {j : Fin N} {i' p : Fin M'} {j' q : Fin N'}
    (hA : ∀ k, A (ix2 k i) = A' (ix2 k p)) (hB : ∀ k, B (ix2 k j) = B' (ix2 k q)) (hp : p = i') (hq : q = j') : tn A B i j = tn A' B' i' j' := by
  subst hp hq; exact Finset.sum_congr rfl fun k _ => by rw [hA, hB]

/-- A sum over `n` stretches of length `T`, the `k`-th place of the `s`-th stretch being `κ s k`. -/
theorem sum_stretches {n T : ℕ} (κ : Fin n → Fin T → Fin K) (hκ : ∀ s k, (κ s k).val = T * s.val + k.val) (hK : K = n * T)
    (f : Fin K → EReal) : ∑ s, ∑ k, f (κ s k) = ∑ k, f k := by
  subst hK
  rw [← Fintype.sum_prod_type', ← (finProdFinEquiv (m := n) (n := T)).sum_comp]
  refine Finset.sum_congr rfl fun p _ => congrArg f (Fin.ext ?_)
  exact (hκ p.1 p.2).trans (add_comm _ _)

/-- A product is the sum of the products of its stretches. -/
theorem nt_stretches {n T M' N' : ℕ} {a : Fin n → Mat M' T} {b : Fin n → Mat N' T} {A : Mat M K} {B : Mat N K} {r : Fin M'} {s : Fin N'}
    {p : Fin n → Fin T → Fin M} {q : Fin n → Fin T → Fin N} {i : Fin M} {j : Fin N} (κ : Fin n → Fin T → Fin K) (hA : ∀ l k, a l (ix2 r k) = A (ix2 (p l k) (κ l k)))
    (hB : ∀ l k, b l (ix2 s k) = B (ix2 (q l k) (κ l k))) (hκ : ∀ l k, (κ l k).val = T * l.val + k.val) (hK : K = n * T)
    (hp : ∀ l k, p l k = i) (hq : ∀ l k, q l k = j) : ∑ l, nt (a l) (b l) r s = nt A B i j := by
  refine Eq.trans ?_ (sum_stretches κ hκ hK fun k => A (ix2 i k) * B (ix2 j k))
  exact Finset.sum_congr rfl fun l _ => Finset.sum_congr rfl fun k _ => by rw [hA, hB, hp, hq]

theorem tn_stretches {n T M' N' : ℕ} {a : Fin n → Mat T M'} {b : Fin n → Mat T N'} {A : Mat K M} {B : Mat K N} {r : Fin M'} {s : Fin N'}
    {p : Fin n → Fin T → Fin M} {q : Fin n → Fin T → Fin N} {i : Fin M} {j : Fin N} (κ : Fin n → Fin T → Fin K) (hA : ∀ l k, a l (ix2 k r) = A (ix2 (κ l k) (p l k)))
    (hB : ∀ l k, b l (ix2 k s) = B (ix2 (κ l k) (q l k))) (hκ : ∀ l k, (κ l k).val = T * l.val + k.val) (hK : K = n * T)
    (hp : ∀ l k, p l k = i) (hq : ∀ l k, q l k = j) : ∑ l, tn (a l) (b l) r s = tn A B i j := by
  refine Eq.trans ?_ (sum_stretches κ hκ hK fun k => A (ix2 k i) * B (ix2 k j))
  exact Finset.sum_congr rfl fun l _ => Finset.sum_congr rfl fun k _ => by rw [hA, hB, hp, hq]

end Cert.Products

end
-- ==== Proof.Norms.lean ====
/-
  The backward pass of the normalisation of a matrix's rows, for the row width 1024 and the programs' stabiliser.
-/
module

public import proofs.«01_k».proof.Proof.Arith
public import proofs.«01_k».proof.Proof.Lits
public import proofs.«01_k».proof.Proof.Products

@[expose] public section

noncomputable section

namespace Cert.Norms

open Idealize.ShloMosaic Cert.Arith Cert.Lits Cert.Products
open scoped BigOperators

theorem lit_1024 : Ideal.ofBits .f32 0x44800000#32 = ((1024 : ℝ) : EReal) := by
  simp [Ideal.ofBits, Ideal.ieee, -EReal.coe_mul]; norm_num

variable {M N : ℕ}

/-- A matrix's row. -/
def row (A : Mat M N) (i : Fin M) : Fin N → EReal := fun k => A (ix2 i k)
/-- The sum of two matrices. -/
def plus (a b : Mat M N) : Mat M N := fun i => a i + b i

/-- The reciprocal root mean square of a row. -/
def inv (x : Mat M 1024) (i : Fin M) : EReal := rs 1024 eps (row x i)

/-- The normalised rows times the gains. -/
def scaled (x : Mat M 1024) (g : Mat 1 1024) (i : Fin M) (j : Fin 1024) : EReal := x (ix2 i j) * inv x i * g (ix2 0 j)

theorem scaled_of {M' : ℕ} {x : Mat M 1024} {g : Mat 1 1024} {x' : Mat M' 1024} {g' : Mat 1 1024} {i : Fin M} {i' p : Fin M'} {j j' : Fin 1024}
    (hx : ∀ k, x (ix2 i k) = x' (ix2 p k)) (hg : ∀ k, g (ix2 0 k) = g' (ix2 0 k)) (hp : p = i') (hj : j = j') :
    scaled x g i j = scaled x' g' i' j' := by
  subst hp hj
  have e1 : row x i = row x' p := funext hx
  unfold scaled inv
  rw [e1, hx, hg]

/-- The gradient of the normalisation's input, for the gradient `d` of its output and the gains `g`, as the kernel writes it. -/
def dxK (x d : Mat M 1024) (g : Mat 1 1024) (i : Fin M) (j : Fin 1024) : EReal :=
  normBwdK 1024 eps (row x i) (fun k => d (ix2 i k) * g (ix2 0 k)) j
/-- The same gradient as the reference has it. -/
def dxR (x d : Mat M 1024) (g : Mat 1 1024) (i : Fin M) (j : Fin 1024) : EReal :=
  normBwdR 1024 eps (row x i) (fun k => d (ix2 i k) * g (ix2 0 k)) j

theorem dx_eq (x d : Mat M 1024) (g : Mat 1 1024) (i : Fin M) (j : Fin 1024) : dxK x d g i j = dxR x d g i j :=
  normBwd_eq (by norm_num) eps_pos _ _ _

/-- A row's part of the gains' gradient. -/
def dgRow (x d : Mat M 1024) (i : Fin M) (j : Fin 1024) : EReal := d (ix2 i j) * x (ix2 i j) * inv x i
/-- The gains' gradient. -/
def dgSum (x d : Mat M 1024) (j : Fin 1024) : EReal := ∑ i, dgRow x d i j

theorem dxK_of {M' : ℕ} {x d : Mat M 1024} {g : Mat 1 1024} {x' d' : Mat M' 1024} {g' : Mat 1 1024} {i : Fin M} {i' p : Fin M'} {j j' : Fin 1024}
    (hx : ∀ k, x (ix2 i k) = x' (ix2 p k)) (hd : ∀ k, d (ix2 i k) = d' (ix2 p k)) (hg : ∀ k, g (ix2 0 k) = g' (ix2 0 k)) (hp : p = i') (hj : j = j') :
    dxK x d g i j = dxK x' d' g' i' j' := by
  subst hp hj
  have e1 : row x i = row x' p := funext hx
  have e2 : (fun k => d (ix2 i k) * g (ix2 0 k)) = fun k => d' (ix2 p k) * g' (ix2 0 k) := funext fun k => by rw [hd, hg]
  unfold dxK
  rw [e1, e2]

theorem dgRow_of {M' : ℕ} {x d : Mat M 1024} {x' d' : Mat M' 1024} {i : Fin M} {i' p : Fin M'} {j j' : Fin 1024}
    (hx : ∀ k, x (ix2 i k) = x' (ix2 p k)) (hd : ∀ k, d (ix2 i k) = d' (ix2 p k)) (hp : p = i') (hj : j = j') :
    dgRow x d i j = dgRow x' d' i' j' := by
  subst hp hj
  have e1 : row x i = row x' p := funext hx
  unfold dgRow inv
  rw [e1, hd, hx]

/-- The gains' gradient is the sum of the gradients of the blocks of rows. -/
theorem dgSum_stretches {K n T : ℕ} {x d : Fin n → Mat T 1024} {x' d' : Mat K 1024} {j j' : Fin 1024} (κ : Fin n → Fin T → Fin K)
    (hx : ∀ l i k, x l (ix2 i k) = x' (ix2 (κ l i) k)) (hd : ∀ l i k, d l (ix2 i k) = d' (ix2 (κ l i) k))
    (hκ : ∀ l k, (κ l k).val = T * l.val + k.val) (hK : K = n * T) (hj : j = j') : ∑ l, dgSum (x l) (d l) j = dgSum x' d' j' := by
  subst hj
  refine Eq.trans ?_ (sum_stretches κ hκ hK fun i => dgRow x' d' i j)
  exact Finset.sum_congr rfl fun l _ => Finset.sum_congr rfl fun i _ => dgRow_of (hx l i) (hd l i) rfl rfl

end Cert.Norms

end
-- ==== Proof.Loss.lean ====
/-
  The down projection with the residual and the loss: a product of two stretches is accumulated for a block of rows; its difference from the target gives the gradient's block, and its squares add to the loss, a column at a time.
-/
module

public import proofs.«01_k».proof.Defs
public import proofs.«01_k».proof.Proof.Lits
public import proofs.«01_k».proof.Proof.Products
public import proofs.«01_k».proof.Proof.Gen.KernelLossIdeal.Frame
public import proofs.«01_k».proof.Proof.Gen.ReferenceLossIdeal.Run
public import proofs.«01_k».proof.Proof.Gen.ReferenceLossIdeal.Read
public import proofs.«01_k».proof.Proof.Norms
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.Loss

open Cert.KernelLossIdeal Cert.KernelLossIdeal.Gen Idealize.ShloMosaic Idealize.ShloMosaic.TcCoe Cert.Lits Cert.Products Cert.Norms Cert.Arith
open Idealize.SL.Sem
open Idealize.ShloMosaic.Pipeline (Dat)
open scoped BigOperators

/-! ## The constants -/

theorem lit_two : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_mean : Ideal.ofBits .f32 0x3A800000#32 = ((1 / 1024 : ℝ) : EReal) := by
  simp [Ideal.ofBits, Ideal.ieee, -EReal.coe_mul]; norm_num
theorem lit_half_mean : Ideal.ofBits .f32 0x3A000000#32 = ((1 / 2048 : ℝ) : EReal) := by
  simp [Ideal.ofBits, Ideal.ieee, -EReal.coe_mul]; norm_num

/-! ## The loss -/

/-- What the last activation misses the target by. -/
def err (a : Mat 8192 2816) (x t : Mat 8192 1024) (w : Mat 2816 1024) : Mat 8192 1024 := fun i => x i + nn a w (i 0) (i 1) - t i

/-- The sum of a column's squares. -/
def colSq {M : ℕ} (e : Mat M 1024) (s : Fin 1024) : EReal := ∑ i, e (ix2 i s) * e (ix2 i s)

theorem colSq_stretches {K n T : ℕ} {e : Fin n → Mat T 1024} {e' : Mat K 1024} {j j' : Fin 1024} (κ : Fin n → Fin T → Fin K)
    (he : ∀ l i, e l (ix2 i j) = e' (ix2 (κ l i) j)) (hκ : ∀ l k, (κ l k).val = T * l.val + k.val) (hK : K = n * T) (hj : j = j') :
    ∑ l, colSq (e l) j = colSq e' j' := by
  subst hj
  refine Eq.trans ?_ (sum_stretches κ hκ hK fun i => e' (ix2 i j) * e' (ix2 i j))
  exact Finset.sum_congr rfl fun l _ => Finset.sum_congr rfl fun i _ => by rw [he]

/-- Half the sum of the rows' mean squares is the sum of the columns' squares over twice their number. -/
theorem loss_eq (e : Mat 8192 1024) : ((1 / 2 : ℝ) : EReal) * ∑ i : Fin 8192, Ideal.div (∑ s : Fin 1024, e (ix2 i s) * e (ix2 i s)) ((1024 : ℝ) : EReal)
    = ∑ s, colSq e s * ((1 / 2048 : ℝ) : EReal) := by
  simp only [Ideal.div_coe (show (1024 : ℝ) ≠ 0 by norm_num)]
  rw [← sum_mul_real _ (by norm_num), ← sum_mul_real _ (by norm_num)]
  unfold colSq
  rw [Finset.sum_comm, mul_comm, mul_assoc, ← EReal.coe_mul]
  refine congrArg (_ * ·) (congrArg _ ?_)
  norm_num

/-- One of the two stretches of the product. -/
def strip (a : Mat 8192 2816) (w : Mat 2816 1024) (p : Fin 8192) (s : Fin 1024) (l : Fin 2) : EReal :=
  ∑ k : Fin 1408, a (ix2 p ⟨1408 * l.val + k.val, by omega⟩) * w (ix2 ⟨1408 * l.val + k.val, by omega⟩ s)

theorem strip_of (a : Mat 8192 2816) (w : Mat 2816 1024) (s : Fin 1024) {p p' : Fin 8192} {l l' : Fin 2} (hp : p = p') (hl : l = l') :
    strip a w p s l = strip a w p' s l' := by subst hp hl; rfl

theorem strips (a : Mat 8192 2816) (w : Mat 2816 1024) (p : Fin 8192) (s : Fin 1024) : strip a w p s 0 + strip a w p s 1 = nn a w p s := by
  have e : ∑ l, strip a w p s l = nn a w p s :=
    sum_stretches (fun (l : Fin 2) (k : Fin 1408) => (⟨1408 * l.val + k.val, by omega⟩ : Fin 2816)) (fun l k => rfl) (by norm_num)
      fun k => a (ix2 p k) * w (ix2 k s)
  rw [← e, Fin.sum_univ_two]

/-! ## A grid point's block -/

theorem pay1_at (v0 : Vec Ideal S512x1408 .bf16) (v1 : Vec Ideal S1408x1024 .bf16) (r : Fin 512) (s : Fin 1024) :
    k0_pay1 v0 v1 (ix2 r s) = nn v0 v1 r s := by
  unfold k0_pay1
  pointwise
  rfl

theorem pay2_at (v0 : Vec Ideal S512x1408 .bf16) (v1 : Vec Ideal S1408x1024 .bf16) (r : Fin 512) (s : Fin 1024) :
    k0_pay2 v0 v1 (ix2 r s) = nn v0 v1 r s := by
  rw [← pay1_at v0 v1]
  unfold k0_pay2
  generalize k0_pay1 v0 v1 = p
  pointwise

theorem pay3_at (v0 : Vec Ideal S512x1408 .bf16) (v1 : Vec Ideal S1408x1024 .bf16) (v12 : Vec Ideal S512x1024 .f32) (r : Fin 512) (s : Fin 1024) :
    k0_pay3 v0 v1 v12 (ix2 r s) = v12 (ix2 r s) + nn v0 v1 r s := by
  rw [← pay1_at v0 v1]
  unfold k0_pay3
  generalize k0_pay1 v0 v1 = p
  pointwise

theorem pay4_at (y x t : Vec Ideal S512x1024 .f32) (r : Fin 512) (s : Fin 1024) : k0_pay4 y x t (ix2 r s) = x (ix2 r s) + y (ix2 r s) - t (ix2 r s) := by
  unfold k0_pay4
  pointwise

theorem pay5_at (y x t : Vec Ideal S512x1024 .f32) (r : Fin 512) (s : Fin 1024) :
    k0_pay5 y x t (ix2 r s) = k0_pay4 y x t (ix2 r s) * ((1 / 1024 : ℝ) : EReal) := by
  unfold k0_pay5
  generalize k0_pay4 y x t = p
  pointwise
  simp only [lit_mean]

theorem pay6_at (y x t : Vec Ideal S512x1024 .f32) (z : Fin 1) (s : Fin 1024) :
    k0_pay6 y x t (ix2 z s) = colSq (k0_pay4 y x t) s * ((1 / 2048 : ℝ) : EReal) := by
  unfold k0_pay6
  generalize k0_pay4 y x t = p
  pointwise
  simp only [lit_half_mean, lit_1024, lit_zero, zero_add]
  rfl

theorem pay7_at (y x t : Vec Ideal S512x1024 .f32) (v : Vec Ideal S1x1024 .f32) (z : Fin 1) (s : Fin 1024) :
    k0_pay7 y x t v (ix2 z s) = v (ix2 z s) + k0_pay6 y x t (ix2 z s) := by
  obtain rfl : z = 0 := Subsingleton.elim _ _
  unfold k0_pay7
  generalize k0_pay6 y x t = p
  pointwise

theorem sout_A {F : FTy → Type} [FloatOps F] (c : Dev nD) (i : grid0.Coords) (arg2 : Memref sig .tc .vmem S512x1408 .bf16) (harg2 : arg2.IsWhole) (arg3 : Memref sig .tc .vmem S1408x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (hc0 : cond0_0 i) (hc1 : ¬cond0_1 i) (hc2 : ¬cond0_2 i)
    (x0 : Vec F S512x1408 .bf16) (x1 : Vec F S1408x1024 .bf16) (x2 : Vec F S512x1024 .f32) (x3 : Vec F S512x1024 .f32) :
    sout0_A_0 c i arg2 harg2 arg3 harg3 arg4 harg4 arg5 harg5 arg6 harg6 arg7 harg7 arg8 harg8 hc0 hc1 hc2 x0 x1 x2 x3 = k0_pay2 x0 x1 := by
  unfold sout0_A_0
  rw [View.read_writes_eq_canon _ _ _ (scover0_A_0 c i arg2 harg2 arg3 harg3 arg4 harg4 arg5 harg5 arg6 harg6 arg7 harg7 arg8 harg8 hc0 hc1 hc2 x0 x1 x2 x3)]
  unfold kernelRun0_A
  dsimp only
  sl_unfold_run_names
  rw [View.canon_unit_zero (S := S512x1024) off2]
  simp only [View.readAt_eq_ld, harg2.read_unread, harg3.read_unread, harg4.read_unread, harg5.read_unread, harg6.read_unread, harg7.read_unread, harg8.read_unread, View.ld_unit_zero (S := S512x1408) off2, View.ld_unit_zero (S := S1408x1024) off2, View.ld_unit_zero (S := S512x1024) off2, View.ld_unit_zero (S := S1x1024) off2]

theorem out_B_4 {F : FTy → Type} [FloatOps F] (c : Dev nD) (i : grid0.Coords) (arg2 : Memref sig .tc .vmem S512x1408 .bf16) (harg2 : arg2.IsWhole) (arg3 : Memref sig .tc .vmem S1408x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (hc0 : ¬cond0_0 i) (hc1 : cond0_1 i) (hc2 : cond0_2 i) (hc3 : cond0_3 i) (hc4 : ¬cond0_4 i)
    (x0 : Vec F S512x1408 .bf16) (x1 : Vec F S1408x1024 .bf16) (x2 : Vec F S512x1024 .f32) (x3 : Vec F S512x1024 .f32) (xs0 : Vec F S512x1024 .f32) :
    out0_B_4 c i arg2 harg2 arg3 harg3 arg4 harg4 arg5 harg5 arg6 harg6 arg7 harg7 arg8 harg8 hc0 hc1 hc2 hc3 hc4 x0 x1 x2 x3 xs0 = k0_pay5 (k0_pay3 x0 x1 xs0) x2 x3 := by
  unfold out0_B_4
  rw [View.read_writes_eq_canon _ _ _ (cover0_B_4 c i arg2 harg2 arg3 harg3 arg4 harg4 arg5 harg5 arg6 harg6 arg7 harg7 arg8 harg8 hc0 hc1 hc2 hc3 hc4 x0 x1 x2 x3 xs0)]
  unfold kernelRun0_B
  dsimp only
  sl_unfold_run_names
  rw [View.canon_unit_zero (S := S512x1024) off2]
  simp (disch := decide) only [View.readAt_eq_ld, harg2.read_unread, harg3.read_unread, harg4.read_unread, harg5.read_unread, harg6.read_unread, harg7.read_unread, harg8.read_unread, View.readCov_unit_lit', View.readCov_cons_unit_lit', View.ld_unit_zero (S := S512x1408) off2, View.ld_unit_zero (S := S1408x1024) off2, View.ld_unit_zero (S := S512x1024) off2, View.ld_unit_zero (S := S1x1024) off2]

theorem out_B_5 {F : FTy → Type} [FloatOps F] (c : Dev nD) (i : grid0.Coords) (arg2 : Memref sig .tc .vmem S512x1408 .bf16) (harg2 : arg2.IsWhole) (arg3 : Memref sig .tc .vmem S1408x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (hc0 : ¬cond0_0 i) (hc1 : cond0_1 i) (hc2 : cond0_2 i) (hc3 : cond0_3 i) (hc4 : ¬cond0_4 i)
    (x0 : Vec F S512x1408 .bf16) (x1 : Vec F S1408x1024 .bf16) (x2 : Vec F S512x1024 .f32) (x3 : Vec F S512x1024 .f32) (xs0 : Vec F S512x1024 .f32) :
    out0_B_5 c i arg2 harg2 arg3 harg3 arg4 harg4 arg5 harg5 arg6 harg6 arg7 harg7 arg8 harg8 hc0 hc1 hc2 hc3 hc4 x0 x1 x2 x3 xs0 = k0_pay6 (k0_pay3 x0 x1 xs0) x2 x3 := by
  unfold out0_B_5
  rw [View.read_writes_eq_canon _ _ _ (cover0_B_5 c i arg2 harg2 arg3 harg3 arg4 harg4 arg5 harg5 arg6 harg6 arg7 harg7 arg8 harg8 hc0 hc1 hc2 hc3 hc4 x0 x1 x2 x3 xs0)]
  unfold kernelRun0_B
  dsimp only
  sl_unfold_run_names
  rw [View.canon_unit_zero (S := S1x1024) off2]
  simp (disch := decide) only [View.readAt_eq_ld, harg2.read_unread, harg3.read_unread, harg4.read_unread, harg5.read_unread, harg6.read_unread, harg7.read_unread, harg8.read_unread, View.readCov_unit_lit', View.readCov_cons_unit_lit', View.ld_unit_zero (S := S512x1408) off2, View.ld_unit_zero (S := S1408x1024) off2, View.ld_unit_zero (S := S512x1024) off2, View.ld_unit_zero (S := S1x1024) off2]

theorem out_C_4 {F : FTy → Type} [FloatOps F] (c : Dev nD) (i : grid0.Coords) (arg2 : Memref sig .tc .vmem S512x1408 .bf16) (harg2 : arg2.IsWhole) (arg3 : Memref sig .tc .vmem S1408x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (hc0 : ¬cond0_0 i) (hc1 : cond0_1 i) (hc2 : cond0_2 i) (hc3 : ¬cond0_3 i) (hc4 : cond0_4 i)
    (x0 : Vec F S512x1408 .bf16) (x1 : Vec F S1408x1024 .bf16) (x2 : Vec F S512x1024 .f32) (x3 : Vec F S512x1024 .f32) (xo5 : Vec F S1x1024 .f32) (xs0 : Vec F S512x1024 .f32) :
    out0_C_4 c i arg2 harg2 arg3 harg3 arg4 harg4 arg5 harg5 arg6 harg6 arg7 harg7 arg8 harg8 hc0 hc1 hc2 hc3 hc4 x0 x1 x2 x3 xo5 xs0 = k0_pay5 (k0_pay3 x0 x1 xs0) x2 x3 := by
  unfold out0_C_4
  rw [View.read_writes_eq_canon _ _ _ (cover0_C_4 c i arg2 harg2 arg3 harg3 arg4 harg4 arg5 harg5 arg6 harg6 arg7 harg7 arg8 harg8 hc0 hc1 hc2 hc3 hc4 x0 x1 x2 x3 xo5 xs0)]
  unfold kernelRun0_C
  dsimp only
  sl_unfold_run_names
  rw [View.canon_unit_zero (S := S512x1024) off2]
  simp (disch := decide) only [View.readAt_eq_ld, harg2.read_unread, harg3.read_unread, harg4.read_unread, harg5.read_unread, harg6.read_unread, harg7.read_unread, harg8.read_unread, View.readCov_unit_lit', View.readCov_cons_unit_lit', View.ld_unit_zero (S := S512x1408) off2, View.ld_unit_zero (S := S1408x1024) off2, View.ld_unit_zero (S := S512x1024) off2, View.ld_unit_zero (S := S1x1024) off2]

theorem out_C_5 {F : FTy → Type} [FloatOps F] (c : Dev nD) (i : grid0.Coords) (arg2 : Memref sig .tc .vmem S512x1408 .bf16) (harg2 : arg2.IsWhole) (arg3 : Memref sig .tc .vmem S1408x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (hc0 : ¬cond0_0 i) (hc1 : cond0_1 i) (hc2 : cond0_2 i) (hc3 : ¬cond0_3 i) (hc4 : cond0_4 i)
    (x0 : Vec F S512x1408 .bf16) (x1 : Vec F S1408x1024 .bf16) (x2 : Vec F S512x1024 .f32) (x3 : Vec F S512x1024 .f32) (xo5 : Vec F S1x1024 .f32) (xs0 : Vec F S512x1024 .f32) :
    out0_C_5 c i arg2 harg2 arg3 harg3 arg4 harg4 arg5 harg5 arg6 harg6 arg7 harg7 arg8 harg8 hc0 hc1 hc2 hc3 hc4 x0 x1 x2 x3 xo5 xs0 = k0_pay7 (k0_pay3 x0 x1 xs0) x2 x3 xo5 := by
  unfold out0_C_5
  rw [View.read_writes_eq_canon _ _ _ (cover0_C_5 c i arg2 harg2 arg3 harg3 arg4 harg4 arg5 harg5 arg6 harg6 arg7 harg7 arg8 harg8 hc0 hc1 hc2 hc3 hc4 x0 x1 x2 x3 xo5 xs0)]
  unfold kernelRun0_C
  dsimp only
  sl_unfold_run_names
  rw [View.canon_unit_zero (S := S1x1024) off2]
  simp (disch := decide) only [View.readAt_eq_ld, harg2.read_unread, harg3.read_unread, harg4.read_unread, harg5.read_unread, harg6.read_unread, harg7.read_unread, harg8.read_unread, View.readCov_unit_lit', View.readCov_cons_unit_lit', View.ld_unit_zero (S := S512x1408) off2, View.ld_unit_zero (S := S1408x1024) off2, View.ld_unit_zero (S := S512x1024) off2, View.ld_unit_zero (S := S1x1024) off2]

/-! ## The blocks of the arrays -/

variable (m : (ℓ : Loc nD τ sig) → Buf (Elt Ideal) ℓ)

theorem idx : ∀ t : Fin cfg0.N, win0_0.index t = ![t.val / 2, t.val % 2] ∧ win0_1.index t = ![t.val % 2, 0] ∧ win0_2.index t = ![t.val / 2, 0] ∧ win0_3.index t = ![t.val / 2, 0] ∧ win0_4.index t = ![t.val / 2, 0] ∧ win0_5.index t = ![0, 0] :=
  (by decide +kernel : ∀ t : Fin grid0.N, win0_0.index t = ![t.val / 2, t.val % 2] ∧ win0_1.index t = ![t.val % 2, 0] ∧ win0_2.index t = ![t.val / 2, 0] ∧ win0_3.index t = ![t.val / 2, 0] ∧ win0_4.index t = ![t.val / 2, 0] ∧ win0_5.index t = ![0, 0])

theorem blk0 (c : Dev nD) (t : Fin cfg0.N) (r : Fin 512) (s : Fin 1408) :
    iblk m c 0 t (ix2 r s) = m ((c : Thread nD τ).loc main_arg0) (ix2 ⟨512 * (t.val / 2) + r, by have h : t.val < 32 := t.isLt; omega⟩ ⟨1408 * (t.val % 2) + s, by omega⟩) := by
  blk_ext [iblk, V, (idx t).1]

theorem blk1 (c : Dev nD) (t : Fin cfg0.N) (r : Fin 1408) (s : Fin 1024) :
    iblk m c 1 t (ix2 r s) = m ((c : Thread nD τ).loc main_arg3) (ix2 ⟨1408 * (t.val % 2) + r, by omega⟩ s) := by
  blk_ext [iblk, V, (idx t).2.1]

theorem blk2 (c : Dev nD) (t : Fin cfg0.N) (r : Fin 512) (s : Fin 1024) :
    iblk m c 2 t (ix2 r s) = m ((c : Thread nD τ).loc main_arg1) (ix2 ⟨512 * (t.val / 2) + r, by have h : t.val < 32 := t.isLt; omega⟩ s) := by
  blk_ext [iblk, V, (idx t).2.2.1]

theorem blk3 (c : Dev nD) (t : Fin cfg0.N) (r : Fin 512) (s : Fin 1024) :
    iblk m c 3 t (ix2 r s) = m ((c : Thread nD τ).loc main_arg2) (ix2 ⟨512 * (t.val / 2) + r, by have h : t.val < 32 := t.isLt; omega⟩ s) := by
  blk_ext [iblk, V, (idx t).2.2.2.1]

theorem part_at (c : Dev nD) (t : Fin cfg0.N) (r : Fin 512) (s : Fin 1024) : nn (iblk m c 0 t) (iblk m c 1 t) r s
    = strip (m ((c : Thread nD τ).loc main_arg0)) (m ((c : Thread nD τ).loc main_arg3)) ⟨512 * (t.val / 2) + r, by have h : t.val < 32 := t.isLt; omega⟩ s ⟨t.val % 2, by omega⟩ :=
  Finset.sum_congr rfl fun k _ => congrArg₂ (· * ·) (blk0 m c t r k) (blk1 m c t k s)

/-! ## The points in turn -/

theorem outs_congr (c : Dev nD) {n n' : ℕ} (h : n < cfg0.N) (h' : n' < cfg0.N) (e : n = n') : outsAt0 m c n h = outsAt0 m c n' h' := by
  subst e; rfl

/-- What an even point leaves in the scratch: its part of the product. -/
theorem scratch_at (c : Dev nD) (t : Fin cfg0.N) (h : t.val % 2 = 0) (r : Fin 512) (s : Fin 1024) : (outsAt0 m c t.val t.isLt).2.2 (ix2 r s)
    = strip (m ((c : Thread nD τ).loc main_arg0)) (m ((c : Thread nD τ).loc main_arg3)) ⟨512 * (t.val / 2) + r, by have h : t.val < 32 := t.isLt; omega⟩ s ⟨t.val % 2, by omega⟩ := by
  rw [outsAt0_A m c t h (by omega) (by omega)]
  dsimp only
  refine (congrFun (sout_A (F := Ideal) ..) (ix2 r s)).trans ?_
  exact (pay2_at _ _ r s).trans (part_at m c t r s)

/-- An even point leaves the loss as it was. -/
theorem carry (c : Dev nD) (t : Fin cfg0.N) (h : t.val % 2 = 0) :
    (outsAt0 m c t.val t.isLt).2.1 = (outsAt0 m c (t.val - 1) (Nat.lt_of_le_of_lt (Nat.sub_le _ _) t.isLt)).2.1 := by
  rw [outsAt0_A m c t h (by omega) (by omega)]
  dsimp only [out0_A_5]

/-- The product at an odd point: that of the point before, and its own. -/
def prod (c : Dev nD) (t : Fin cfg0.N) : Vec Ideal S512x1024 .f32 := k0_pay3 (iblk m c 0 t) (iblk m c 1 t) (outsAt0 m c (t.val - 1) (Nat.lt_of_le_of_lt (Nat.sub_le _ _) t.isLt)).2.2

theorem prod_at (c : Dev nD) (t : Fin cfg0.N) (h : t.val % 2 = 1) (r : Fin 512) (s : Fin 1024) :
    prod m c t (ix2 r s) = nn (m ((c : Thread nD τ).loc main_arg0)) (m ((c : Thread nD τ).loc main_arg3)) ⟨512 * (t.val / 2) + r, by have h : t.val < 32 := t.isLt; omega⟩ s := by
  have hN : t.val < 32 := t.isLt
  have e := scratch_at m c ⟨t.val - 1, Nat.lt_of_le_of_lt (Nat.sub_le _ _) t.isLt⟩ (by dsimp only; omega) r s
  dsimp only at e
  unfold prod
  refine (pay3_at _ _ _ r s).trans ?_
  rw [e, part_at m c t r s, ← strips]
  refine congrArg₂ (· + ·) ?_ ?_
  all_goals refine strip_of _ _ _ (Fin.ext ?_) (Fin.ext ?_)
  all_goals dsimp only
  all_goals first
    | omega
    | (show _ = 0; omega)
    | (show _ = 1; omega)

/-- The block's difference from the target. -/
def diff (c : Dev nD) (t : Fin cfg0.N) : Vec Ideal S512x1024 .f32 := k0_pay4 (prod m c t) (iblk m c 2 t) (iblk m c 3 t)

theorem diff_at (c : Dev nD) (t : Fin cfg0.N) (h : t.val % 2 = 1) (r : Fin 512) (s : Fin 1024) :
    diff m c t (ix2 r s) = (err (m ((c : Thread nD τ).loc main_arg0)) (m ((c : Thread nD τ).loc main_arg1)) (m ((c : Thread nD τ).loc main_arg2)) (m ((c : Thread nD τ).loc main_arg3))) (ix2 ⟨512 * (t.val / 2) + r, by have h : t.val < 32 := t.isLt; omega⟩ s) :=
  (pay4_at _ _ _ r s).trans (congrArg₂ (· - ·) (congrArg₂ (· + ·) (blk2 m c t r s) (prod_at m c t h r s)) (blk3 m c t r s))

theorem first_at (c : Dev nD) (t : Fin cfg0.N) (h : t.val % 2 = 1) (y : S512x1024.Idx) : (outsAt0 m c t.val t.isLt).1 y
    = diff m c t (ix2 (y 0) (y 1)) * ((1 / 1024 : ℝ) : EReal) := by
  by_cases h' : t.val < 2
  · rw [outsAt0_B m c t (by omega) h h h' (by omega)]
    dsimp only
    refine (congrFun (out_B_4 (F := Ideal) ..) y).trans ?_
    rw [eq_ix2 y]
    exact pay5_at _ _ _ (y 0) (y 1)
  · rw [outsAt0_C m c t (by omega) h h h' (by omega)]
    dsimp only
    refine (congrFun (out_C_4 (F := Ideal) ..) y).trans ?_
    rw [eq_ix2 y]
    exact pay5_at _ _ _ (y 0) (y 1)

theorem arr4 (c : Dev nD) : (dats m 0 c).arrAt 4 cfg0.N
    = fun j : S8192x1024.Idx => (err (m ((c : Thread nD τ).loc main_arg0)) (m ((c : Thread nD τ).loc main_arg1)) (m ((c : Thread nD τ).loc main_arg2)) (m ((c : Thread nD τ).loc main_arg3))) (ix2 (j 0) (j 1)) * ((1 / 1024 : ℝ) : EReal) := by
  refine (dats m 0 c).arrAt_eq_of_covers 4 _ (by decide +kernel) fun t hf y => ?_
  blk_simp
  rw [after0_4]
  have h2 : t.val % 2 = 1 := (flush0_4 t).mp hf
  refine (first_at m c t h2 y).trans (congrArg (· * ((1 / 1024 : ℝ) : EReal)) ((diff_at m c t h2 (y 0) (y 1)).trans (congrArg (err (m ((c : Thread nD τ).loc main_arg0)) (m ((c : Thread nD τ).loc main_arg1)) (m ((c : Thread nD τ).loc main_arg2)) (m ((c : Thread nD τ).loc main_arg3))) (congrArg₂ ix2 (Fin.ext ?_) (Fin.ext ?_)))))
  all_goals have h0 : (y 0 : ℕ) < 512 := (y 0).isLt
  all_goals blk_simp [(idx t).2.2.2.2.1]
  all_goals dsimp only
  all_goals omega

/-- The odd point of a block of rows. -/
def pt (b : Fin 16) : Fin cfg0.N := ⟨2 * b.val + 1, show 2 * b.val + 1 < 32 by omega⟩

/-- A block of rows' part of the loss. -/
def part (c : Dev nD) (b : Fin 16) (y : S1x1024.Idx) : EReal := colSq (diff m c (pt b)) (y 1) * ((1 / 2048 : ℝ) : EReal)

/-- The loss as it has been accumulated after a block of rows. -/
def acc (c : Dev nD) (n : ℕ) (h : n < 16) : S1x1024.Idx → EReal := (outsAt0 m c (pt ⟨n, h⟩).val (pt ⟨n, h⟩).isLt).2.1

theorem step_A (c : Dev nD) (b : Fin 16) (h : b.val % 16 = 0) (y : S1x1024.Idx) : acc m c b.val b.isLt y = 0 + part m c b y := by
  have hp : (pt b).val = 2 * b.val + 1 := rfl
  show (outsAt0 m c (pt b).val (pt b).isLt).2.1 y = 0 + part m c b y
  rw [outsAt0_B m c (pt b) (by omega) (by omega) (by omega) (by omega) (by omega)]
  rw [zero_add]
  dsimp only
  refine (congrFun (out_B_5 (F := Ideal) ..) y).trans ?_
  rw [eq_ix2 y]
  exact pay6_at _ _ _ (y 0) (y 1)

theorem before (c : Dev nD) (b : Fin 16) (h : ¬b.val % 16 = 0) (hb : b.val - 1 < 16) :
    (outsAt0 m c ((pt b).val - 1) (Nat.lt_of_le_of_lt (Nat.sub_le _ _) (pt b).isLt)).2.1 = acc m c (b.val - 1) hb := by
  have hp : (pt b).val = 2 * b.val + 1 := rfl
  refine (carry m c ⟨(pt b).val - 1, Nat.lt_of_le_of_lt (Nat.sub_le _ _) (pt b).isLt⟩ (by dsimp only; omega)).trans ?_
  unfold acc
  refine congrArg (fun o => o.2.1) (outs_congr m c _ _ ?_)
  show 2 * b.val + 1 - 1 - 1 = 2 * (b.val - 1) + 1
  omega

theorem step_B (c : Dev nD) (b : Fin 16) (h : ¬b.val % 16 = 0) (y : S1x1024.Idx) :
    acc m c b.val b.isLt y = acc m c (b.val - 1) (Nat.lt_of_le_of_lt (Nat.sub_le _ _) b.isLt) y + part m c b y := by
  have hp : (pt b).val = 2 * b.val + 1 := rfl
  rw [← before m c b h]
  show (outsAt0 m c (pt b).val (pt b).isLt).2.1 y = _
  rw [outsAt0_C m c (pt b) (by omega) (by omega) (by omega) (by omega) (by omega)]
  dsimp only
  refine (congrFun (out_C_5 (F := Ideal) ..) y).trans ?_
  rw [eq_ix2 y]
  exact (pay7_at _ _ _ _ (y 0) (y 1)).trans (congrArg (_ + ·) (pay6_at _ _ _ (y 0) (y 1)))

theorem arr5 (c : Dev nD) : (dats m 0 c).arrAt 5 cfg0.N
    = fun j : S1x1024.Idx => colSq (err (m ((c : Thread nD τ).loc main_arg0)) (m ((c : Thread nD τ).loc main_arg1)) (m ((c : Thread nD τ).loc main_arg2)) (m ((c : Thread nD τ).loc main_arg3))) (j 1) * ((1 / 2048 : ℝ) : EReal) := by
  refine (dats m 0 c).arrAt_eq_of_covers 5 _ (by decide +kernel) fun t hf y => ?_
  blk_simp
  rw [after0_5]
  have hr : t.val % 32 = 31 := (flush0_5 t).mp hf
  have hN : t.val < 32 := t.isLt
  have e : (outsAt0 m c t.val t.isLt).2.1 = acc m c 15 (by norm_num) :=
    congrArg (fun o => o.2.1) (outs_congr m c _ _ (show t.val = 2 * 15 + 1 by omega))
  refine (congrFun e y).trans ?_
  refine (Pipeline.eq_sum_fin_of_reset_step_apply_of_flush (acc m c) 16 (fun _ => 0) (part m c) (step_A m c) (step_B m c) (15 : Fin 16) (by decide) y).trans ?_
  rw [zero_add]
  refine (sum_mul_real _ (by norm_num) fun l => colSq (diff m c (pt _)) (y 1)).symm.trans (congrArg (· * ((1 / 2048 : ℝ) : EReal)) ?_)
  refine colSq_stretches (fun l k => ⟨512 * l.val + k.val, by omega⟩) (fun l i => (diff_at m c _ ?_ i (y 1)).trans (congrArg (err (m ((c : Thread nD τ).loc main_arg0)) (m ((c : Thread nD τ).loc main_arg1)) (m ((c : Thread nD τ).loc main_arg2)) (m ((c : Thread nD τ).loc main_arg3))) (congrArg₂ ix2 (Fin.ext ?_) rfl)))
    (fun l k => rfl) (by norm_num) (Fin.ext ?_)
  · show (2 * (16 * (15 / 16) + l.val) + 1) % 2 = 1
    omega
  · show 512 * ((2 * (16 * (15 / 16) + l.val) + 1) / 2) + i.val = 512 * l.val + i.val
    omega
  · blk_simp [(idx t).2.2.2.2.2]

/-! ## The sum over the columns, after the blocks -/

/-- The loss: the sum of what the call leaves for the columns. -/
def total (c : Dev nD) : S_.Idx → EReal := Host.reduceAdd (F := Ideal) ((dats m 0 c).arrAt 5 cfg0.N : (⟨S1x1024, .f32⟩ : BufTy).Contents (Elt Ideal)) (constant S_ .f32 0x00000000#32) reducesTo_S1x1024_S_d0_1 h_S_

theorem total_eq (c : Dev nD) : total m c = fun _ => ∑ s, colSq (err (m ((c : Thread nD τ).loc main_arg0)) (m ((c : Thread nD τ).loc main_arg1)) (m ((c : Thread nD τ).loc main_arg2)) (m ((c : Thread nD τ).loc main_arg3))) s * ((1 / 2048 : ℝ) : EReal) := by
  funext i
  unfold total
  rw [arr5]
  simp only [Host.reduceAdd, Ideal.hostReduceAdd_def]
  rw [Ideal.hostReduceAdd_total reducesTo_S1x1024_S_d0_1 (fun b => b.elim0)]
  refine Eq.trans (congrArg₂ (· + ·) lit_zero (Idealize.ShloMosaic.sum_idx2 (n0 := 1) (n1 := 1024) _)) ?_
  rw [zero_add, Fin.sum_univ_one]
  rfl

theorem tail (c : Dev nD) : Pipeline.afterTail₀ cfgs (dats m) 0 (V0 m) [hostOps1] c main_v1 = total m c := by
  unfold Pipeline.afterTail₀ total
  refine Eq.trans ?_ (congrArg (fun z : S1x1024.Idx → EReal => Host.reduceAdd (F := Ideal) (z : (⟨S1x1024, .f32⟩ : BufTy).Contents (Elt Ideal)) (constant S_ .f32 0x00000000#32) reducesTo_S1x1024_S_d0_1 h_S_) ((dats m 0 c).withArrays_arrAt (show Pipeline.SharedIn spec0 by decide) (V0 m c) (A_eq m c) 5))
  show StableHlo.after hostOps1 _ _ = _
  unfold hostOps1
  rw [StableHlo.after_cons, StableHlo.after_cons, StableHlo.after_nil]
  refine (StableHlo.binary_result main_v0_1 main_cst main_v1 _ _ _ _ _).trans ?_
  rw [StableHlo.nullary_result]
  exact congrArg (fun z : S1x1024.Idx → EReal => Host.reduceAdd (F := Ideal) (z : (⟨S1x1024, .f32⟩ : BufTy).Contents (Elt Ideal)) (constant S_ .f32 0x00000000#32) reducesTo_S1x1024_S_d0_1 h_S_)
    (StableHlo.nullary_result_ne (y := main_cst) _ _ _ (r := main_v0_1) (by decide))

theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v1) = total m c
      ∧ r.2.mem ((c.tc : Thread nD τ).loc main_v0_0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).2 main_v1 (by decide)).trans (tail m c), (h.1 c).1 4, h.2 c⟩)
    (θ_run_and (run_main (F := Ideal) m ρ) (unchanged (F := Ideal) m ρ))

/-! ## The reference's results -/

section Reference

variable (x0 : S8192x2816.Idx → EReal) (x1 x2 : S8192x1024.Idx → EReal) (x3 : S2816x1024.Idx → EReal)

theorem r4_at (i : Fin 8192) (j : Fin 1024) : Cert.ReferenceLossIdeal.Read.val_main_v4 (F := Ideal) x0 x1 x2 x3 (ix2 i j) = err x0 x1 x2 x3 (ix2 i j) := by
  unfold Cert.ReferenceLossIdeal.Read.val_main_v4 Cert.ReferenceLossIdeal.Read.val_main_v3 Cert.ReferenceLossIdeal.Read.val_main_v2 Cert.ReferenceLossIdeal.Read.val_main_v1 Cert.ReferenceLossIdeal.Read.val_main_v0
  pointwise
  rfl

theorem r10_at (i : Fin 8192) : Cert.ReferenceLossIdeal.Read.val_main_v10 (F := Ideal) x0 x1 x2 x3 (Idealize.ShloMosaic.ix1 i)
    = Ideal.div (∑ s : Fin 1024, err x0 x1 x2 x3 (ix2 i s) * err x0 x1 x2 x3 (ix2 i s)) ((1024 : ℝ) : EReal) := by
  have e := r4_at x0 x1 x2 x3
  unfold Cert.ReferenceLossIdeal.Read.val_main_v10 Cert.ReferenceLossIdeal.Read.val_main_v9 Cert.ReferenceLossIdeal.Read.val_main_v8 Cert.ReferenceLossIdeal.Read.val_main_v5 Cert.ReferenceLossIdeal.Read.val_main_cst_0 Cert.ReferenceLossIdeal.Read.val_main_cst_1
  generalize Cert.ReferenceLossIdeal.Read.val_main_v4 (F := Ideal) x0 x1 x2 x3 = p at e ⊢
  pointwise
  simp only [e, lit_1024, lit_zero, zero_add]

theorem ref_loss : Cert.ReferenceLossIdeal.Read.val_main_v12 (F := Ideal) x0 x1 x2 x3 = fun _ => ∑ s, colSq (err x0 x1 x2 x3) s * ((1 / 2048 : ℝ) : EReal) := by
  funext i
  rw [← loss_eq]
  refine (Cert.ReferenceLossIdeal.Read.val_main_v12_apply (F := Ideal) x0 x1 x2 x3 i).trans (congrArg₂ (· * ·) lit_half ?_)
  refine (Cert.ReferenceLossIdeal.Read.val_main_v11_apply x0 x1 x2 x3 i).trans ?_
  refine (congrArg₂ (· + ·) lit_zero ((Idealize.ShloMosaic.sum_idx1 (n0 := 8192) _).trans (Finset.sum_congr rfl fun k _ => r10_at x0 x1 x2 x3 k))).trans ?_
  rw [zero_add]

theorem r17_at (i : Fin 8192) (j : Fin 1024) : Cert.ReferenceLossIdeal.Read.val_main_v17 (F := Ideal) (ix2 i j) = ((1 / 2048 : ℝ) : EReal) := by
  unfold Cert.ReferenceLossIdeal.Read.val_main_v17 Cert.ReferenceLossIdeal.Read.val_main_v16 Cert.ReferenceLossIdeal.Read.val_main_v15 Cert.ReferenceLossIdeal.Read.val_main_v14 Cert.ReferenceLossIdeal.Read.val_main_v13 Cert.ReferenceLossIdeal.Read.val_main_cst_4 Cert.ReferenceLossIdeal.Read.val_main_cst_5 Cert.ReferenceLossIdeal.Read.val_main_cst_6
  pointwise
  simp only [lit_half, lit_1024, mul_one]
  rw [Ideal.div_coe (by norm_num), ← EReal.coe_mul]
  refine congrArg _ ?_
  norm_num

theorem ref_dy_at (i : Fin 8192) (j : Fin 1024) : Cert.ReferenceLossIdeal.Read.val_main_v18 (F := Ideal) x0 x1 x2 x3 (ix2 i j) = err x0 x1 x2 x3 (ix2 i j) * ((1 / 1024 : ℝ) : EReal) := by
  have e := r4_at x0 x1 x2 x3
  have e' := r17_at
  unfold Cert.ReferenceLossIdeal.Read.val_main_v18 Cert.ReferenceLossIdeal.Read.val_main_v7 Cert.ReferenceLossIdeal.Read.val_main_v6 Cert.ReferenceLossIdeal.Read.val_main_cst
  generalize Cert.ReferenceLossIdeal.Read.val_main_v4 (F := Ideal) x0 x1 x2 x3 = p at e ⊢
  generalize Cert.ReferenceLossIdeal.Read.val_main_v17 (F := Ideal) = q at e' ⊢
  pointwise
  simp only [e, e', lit_two]
  rw [← mul_assoc, ← EReal.coe_mul, mul_comm]
  refine congrArg (fun q : ℝ => err x0 x1 x2 x3 (ix2 i j) * (q : EReal)) ?_
  norm_num

theorem ref_dy : Cert.ReferenceLossIdeal.Read.val_main_v18 (F := Ideal) x0 x1 x2 x3 = fun j => err x0 x1 x2 x3 (ix2 (j 0) (j 1)) * ((1 / 1024 : ℝ) : EReal) :=
  funext fun j => (congrArg _ (eq_ix2 j)).trans (ref_dy_at x0 x1 x2 x3 (j 0) (j 1))

end Reference

/-! ## The claims -/

theorem frameR : Cert.quiescent_ReferenceLossIdeal := fun m ρ _ =>
  (θ_run Cert.ReferenceLossIdeal.defs _ _).mono (fun r h => ⟨fun c => (h c).2.2,
      Idealize.ShloMosaic.sem_eq_zero_of_no_sems (by decide) r.2⟩)
    (Cert.ReferenceLossIdeal.Value.run (F := Ideal) m ρ)

theorem algebraic : Cert.algebraic_KernelLossIdeal_ReferenceLossIdeal := by
  intro m ρ m' ρ' hpre hagree
  refine ⟨fun c => total m c, fun c => (dats m 0 c).arrAt 4 cfg0.N, run m ρ, ?_⟩
  refine (θ_run Cert.ReferenceLossIdeal.defs _ _).mono (fun r h c => ?_) (Cert.ReferenceLossIdeal.Value.run (F := Ideal) m' ρ')
  obtain ⟨r0, r1, kept⟩ := h c
  obtain ⟨a0, a1, a2, a3⟩ := hagree c
  refine ⟨r0.trans ?_, r1.trans ?_, kept⟩
  · refine (Cert.ReferenceLossIdeal.Read.val_main_v12_eq _ _ _ _).trans ?_
    rw [a0, a1, a2, a3]
    exact (ref_loss _ _ _ _).trans (total_eq m c).symm
  · refine (Cert.ReferenceLossIdeal.Read.val_main_v18_eq _ _ _ _).trans ?_
    rw [a0, a1, a2, a3]
    exact (ref_dy _ _ _ _).trans (arr4 m c).symm

end Cert.Loss

end
-- ==== Proof.DownDx.lean ====
/-
  The gradient of the down projection's input: one product, a block of it at each grid point.
-/
module

public import proofs.«01_k».proof.Defs
public import proofs.«01_k».proof.Proof.Lits
public import proofs.«01_k».proof.Proof.Products
public import proofs.«01_k».proof.Proof.Gen.KernelDownDxIdeal.Value
public import proofs.«01_k».proof.Proof.Gen.ReferenceDownDxIdeal.Run
public import proofs.«01_k».proof.Proof.Gen.ReferenceDownDxIdeal.Read
public import Idealize.ShloMosaic.Lib.Pipeline.ValueKit.Partial
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.DownDx

open Cert.KernelDownDxIdeal Cert.KernelDownDxIdeal.Gen Idealize.ShloMosaic Idealize.ShloMosaic.TcCoe Cert.Lits Cert.Products
open Idealize.SL.Sem
open Idealize.ShloMosaic.Pipeline (Dat)
open scoped BigOperators

theorem pay_at (v0 : Vec Ideal S1408x1024 .bf16) (v1 : Vec Ideal S2048x1024 .f32) (r : Fin 2048) (s : Fin 1408) :
    k0_pay1 v0 v1 (ix2 r s) = nt v1 v0 r s := by
  unfold k0_pay1
  pointwise
  rfl

/-- A grid point's block of the product. -/
theorem out_at (x0 : Vec Ideal S2048x1024 .f32) (x1 : Vec Ideal S1408x1024 .bf16) (y : S2048x1408.Idx) :
    out0_2 x0 x1 y = nt x0 x1 (y 0) (y 1) := by
  unfold out0_2
  rw [View.canon_unit_zero (S := S2048x1408) off2]
  rw [View.ld_unit_zero (S := S2048x1024) off2, View.ld_unit_zero (S := S1408x1024) off2]
  rw [eq_ix2 y]
  exact pay_at x1 x0 (y 0) (y 1)

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] :=
  (by decide +kernel : ∀ t : Fin grid0.N, win0_0.index t = ![t.val / 2, 0] ∧ win0_1.index t = ![t.val % 2, 0] ∧ win0_2.index t = ![t.val / 2, t.val % 2])

theorem blk0 (c : Dev nD) (t : Fin cfg0.N) (r : Fin 2048) (k : Fin 1024) :
    iblk m c 0 t (ix2 r k) = m ((c : Thread nD τ).loc main_arg0) (ix2 ⟨2048 * (t.val / 2) + r, by have h : t.val < 8 := t.isLt; omega⟩ k) := by
  blk_ext [iblk, V, (idx t).1]

theorem blk1 (c : Dev nD) (t : Fin cfg0.N) (r : Fin 1408) (k : Fin 1024) :
    iblk m c 1 t (ix2 r k) = m ((c : Thread nD τ).loc main_arg1) (ix2 ⟨1408 * (t.val % 2) + r, by omega⟩ k) := by
  blk_ext [iblk, V, (idx t).2.1]

theorem arr2 (c : Dev nD) : (dats m 0 c).arrAt 2 cfg0.N
    = fun j : S8192x2816.Idx => nt (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  refine (out_at ..).trans (nt_of (blk0 m c t (y 0)) (blk1 m c t (y 1)) (Fin.ext ?_) (Fin.ext ?_))
  · have h0 : (y 0 : ℕ) < 2048 := (y 0).isLt
    blk_simp [(idx t).2.2]
    dsimp only
    omega
  · have h1 : (y 1 : ℕ) < 1408 := (y 1).isLt
    blk_simp [(idx t).2.2]
    dsimp only
    omega

theorem ref_at (x0 : S8192x1024.Idx → EReal) (x1 : S2816x1024.Idx → EReal) :
    Cert.ReferenceDownDxIdeal.Read.val_main_v3 (F := Ideal) x0 x1 = fun j => nt x0 x1 (j 0) (j 1) := by
  funext j
  refine (Cert.ReferenceDownDxIdeal.Read.val_main_v3_apply x0 x1 j).trans (Finset.sum_congr rfl fun k _ => ?_)
  refine congrArg₂ (· * ·) (congrArg x0 ?_) ((Cert.ReferenceDownDxIdeal.Read.val_main_v1_apply (F := Ideal) x1 _).trans (congrArg x1 ?_))
  · funext a; match a with
    | ⟨0, _⟩ => rfl
    | ⟨1, _⟩ => rfl
  · funext a; match a with
    | ⟨0, _⟩ => rfl
    | ⟨1, _⟩ => rfl

theorem frameR : Cert.quiescent_ReferenceDownDxIdeal := fun m ρ _ =>
  (θ_run Cert.ReferenceDownDxIdeal.defs _ _).mono (fun r h => ⟨fun c => (h c).2,
      Idealize.ShloMosaic.sem_eq_zero_of_no_sems (by decide) r.2⟩)
    (Cert.ReferenceDownDxIdeal.Value.run (F := Ideal) m ρ)

theorem algebraic : Cert.algebraic_KernelDownDxIdeal_ReferenceDownDxIdeal := by
  intro m ρ m' ρ' hpre hagree
  refine ⟨fun c => (dats m 0 c).arrAt 2 cfg0.N, Cert.KernelDownDxIdeal.Value.run_blocks (F := Ideal) m ρ, ?_⟩
  refine (θ_run Cert.ReferenceDownDxIdeal.defs _ _).mono (fun r h c => ?_) (Cert.ReferenceDownDxIdeal.Value.run (F := Ideal) m' ρ')
  obtain ⟨r0, kept⟩ := h c
  obtain ⟨a0, a1⟩ := hagree c
  refine ⟨r0.trans ?_, kept⟩
  refine (Cert.ReferenceDownDxIdeal.Read.val_main_v3_eq _ _).trans ?_
  rw [a0, a1]
  exact (ref_at _ _).trans (arr2 m c).symm

end Cert.DownDx

end
-- ==== Proof.DownDw.lean ====
/-
  The gradient of the down projection's weight: one product, accumulated over blocks of rows.
-/
module

public import proofs.«01_k».proof.Defs
public import proofs.«01_k».proof.Proof.Lits
public import proofs.«01_k».proof.Proof.Products
public import proofs.«01_k».proof.Proof.Gen.KernelDownDwIdeal.Value
public import proofs.«01_k».proof.Proof.Gen.ReferenceDownDwIdeal.Run
public import proofs.«01_k».proof.Proof.Gen.ReferenceDownDwIdeal.Read
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.DownDw

open Cert.KernelDownDwIdeal Cert.KernelDownDwIdeal.Gen Idealize.ShloMosaic Idealize.ShloMosaic.TcCoe Cert.Lits Cert.Products
open Idealize.SL.Sem
open Idealize.ShloMosaic.Pipeline (Dat)
open scoped BigOperators

theorem pay_at (v0 : Vec Ideal S1024x1024 .f32) (v1 : Vec Ideal S1024x1408 .bf16) (r : Fin 1408) (s : Fin 1024) :
    k0_pay1 v0 v1 (ix2 r s) = tn v1 v0 r s := by
  unfold k0_pay1
  pointwise
  rfl

theorem pay2_at (v0 : Vec Ideal S1024x1024 .f32) (v1 : Vec Ideal S1024x1408 .bf16) (v2 : Vec Ideal S1408x1024 .f32) (r : Fin 1408) (s : Fin 1024) :
    k0_pay2 v0 v1 v2 (ix2 r s) = v2 (ix2 r s) + tn v1 v0 r s := by
  rw [← pay_at v0 v1]
  unfold k0_pay2
  pointwise

theorem out_A {F : FTy → Type} [FloatOps F] (c : Dev nD) (i : grid0.Coords) (arg3 : Memref sig .tc .vmem S1024x1408 .bf16) (harg3 : arg3.IsWhole) (arg4 : Memref sig .tc .vmem S1024x1024 .f32) (harg4 : arg4.IsWhole) (arg5 : Memref sig .tc .vmem S1408x1024 .f32) (harg5 : arg5.IsWhole) (hc0 : cond0_0 i) (hc1 : ¬cond0_1 i)
    (x0 : Vec F S1024x1408 .bf16) (x1 : Vec F S1024x1024 .f32) :
    out0_A_2 c i arg3 harg3 arg4 harg4 arg5 harg5 hc0 hc1 x0 x1 = k0_pay1 x1 x0 := by
  unfold out0_A_2
  rw [View.read_writes_eq_canon _ _ _ (cover0_A_2 c i arg3 harg3 arg4 harg4 arg5 harg5 hc0 hc1 x0 x1)]
  unfold kernelRun0_A
  dsimp only
  sl_unfold_run_names
  rw [View.canon_unit_zero (S := S1408x1024) off2]
  simp only [View.readAt_eq_ld, harg3.read_unread, harg4.read_unread, harg5.read_unread, View.ld_unit_zero (S := S1024x1408) off2, View.ld_unit_zero (S := S1024x1024) off2, View.ld_unit_zero (S := S1408x1024) off2]

theorem out_B {F : FTy → Type} [FloatOps F] (c : Dev nD) (i : grid0.Coords) (arg3 : Memref sig .tc .vmem S1024x1408 .bf16) (harg3 : arg3.IsWhole) (arg4 : Memref sig .tc .vmem S1024x1024 .f32) (harg4 : arg4.IsWhole) (arg5 : Memref sig .tc .vmem S1408x1024 .f32) (harg5 : arg5.IsWhole) (hc0 : ¬cond0_0 i) (hc1 : cond0_1 i)
    (x0 : Vec F S1024x1408 .bf16) (x1 : Vec F S1024x1024 .f32) (xo2 : Vec F S1408x1024 .f32) :
    out0_B_2 c i arg3 harg3 arg4 harg4 arg5 harg5 hc0 hc1 x0 x1 xo2 = k0_pay2 x1 x0 xo2 := by
  unfold out0_B_2
  rw [View.read_writes_eq_canon _ _ _ (cover0_B_2 c i arg3 harg3 arg4 harg4 arg5 harg5 hc0 hc1 x0 x1 xo2)]
  unfold kernelRun0_B
  dsimp only
  sl_unfold_run_names
  rw [View.canon_unit_zero (S := S1408x1024) off2]
  simp only [View.readAt_eq_ld, harg3.read_unread, harg4.read_unread, harg5.read_unread, View.ld_unit_zero (S := S1024x1408) off2, View.ld_unit_zero (S := S1024x1024) off2, View.ld_unit_zero (S := S1408x1024) off2]

variable (m : (ℓ : Loc nD τ sig) → Buf (Elt Ideal) ℓ)

theorem idx : ∀ t : Fin cfg0.N, win0_0.index t = ![t.val % 8, t.val / 8] ∧ win0_1.index t = ![t.val % 8, 0] ∧ win0_2.index t = ![t.val / 8, 0] :=
  (by decide +kernel : ∀ t : Fin grid0.N, win0_0.index t = ![t.val % 8, t.val / 8] ∧ win0_1.index t = ![t.val % 8, 0] ∧ win0_2.index t = ![t.val / 8, 0])

theorem blk0 (c : Dev nD) (t : Fin cfg0.N) (r : Fin 1024) (s : Fin 1408) :
    iblk m c 0 t (ix2 r s) = m ((c : Thread nD τ).loc main_arg0) (ix2 ⟨1024 * (t.val % 8) + r, by have h : t.val < 16 := t.isLt; omega⟩ ⟨1408 * (t.val / 8) + s, by have h : t.val < 16 := t.isLt; omega⟩) := by
  blk_ext [iblk, V, (idx t).1]

theorem blk1 (c : Dev nD) (t : Fin cfg0.N) (r : Fin 1024) (s : Fin 1024) :
    iblk m c 1 t (ix2 r s) = m ((c : Thread nD τ).loc main_arg1) (ix2 ⟨1024 * (t.val % 8) + r, by have h : t.val < 16 := t.isLt; omega⟩ s) := by
  blk_ext [iblk, V, (idx t).2.1]

/-- A grid point's product of its blocks. -/
def part (c : Dev nD) (t : Fin cfg0.N) (y : S1408x1024.Idx) : EReal :=
  tn (iblk m c 0 t) (iblk m c 1 t) (y 0) (y 1)

theorem step_A (c : Dev nD) (t : Fin cfg0.N) (h : t.val % 8 = 0) (y : S1408x1024.Idx) : outsAt0 m c t.val t.isLt y = 0 + part m c t y := by
  have hN : t.val < 16 := t.isLt
  rw [outsAt0_A m c t (by omega) (by omega)]
  rw [zero_add]
  refine (congrFun (out_A (F := Ideal) ..) y).trans ?_
  rw [eq_ix2 y]
  exact pay_at _ _ (y 0) (y 1)

theorem step_B (c : Dev nD) (t : Fin cfg0.N) (h : ¬t.val % 8 = 0) (y : S1408x1024.Idx) :
    outsAt0 m c t.val t.isLt y = outsAt0 m c (t.val - 1) (Nat.lt_of_le_of_lt (Nat.sub_le _ _) t.isLt) y + part m c t y := by
  have hN : t.val < 16 := t.isLt
  rw [outsAt0_B m c t (by omega) (by omega)]
  refine (congrFun (out_B (F := Ideal) ..) y).trans ?_
  rw [eq_ix2 y]
  exact pay2_at _ _ _ (y 0) (y 1)

theorem arr2 (c : Dev nD) : (dats m 0 c).arrAt 2 cfg0.N
    = fun j : S2816x1024.Idx => tn (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  have hr : t.val % 8 = 8 - 1 := (flush0_2 t).mp hf
  have hN : t.val < 16 := t.isLt
  refine (Pipeline.eq_sum_fin_of_reset_step_apply_of_flush (outsAt0 m c) 8 (fun _ => 0) (part m c) (step_A m c) (step_B m c) t hr y).trans ?_
  rw [zero_add]
  refine tn_stretches (fun l k => ⟨1024 * ((8 * (t.val / 8) + l.val) % 8) + k.val, by omega⟩) (fun l k => blk0 m c _ k (y 0)) (fun l k => blk1 m c _ k (y 1)) (fun l k => by dsimp only; omega) (by norm_num) (fun l k => Fin.ext ?_) (fun l k => Fin.ext ?_)
  · have h : (y 0 : ℕ) < 1408 := (y 0).isLt
    blk_simp [(idx t).2.2]
    dsimp only
    omega
  · have h : (y 1 : ℕ) < 1024 := (y 1).isLt
    blk_simp [(idx t).2.2]

theorem ref_at (x0 : S8192x2816.Idx → EReal) (x1 : S8192x1024.Idx → EReal) :
    Cert.ReferenceDownDwIdeal.Read.val_main_v4 (F := Ideal) x0 x1 = fun j => tn x0 x1 (j 0) (j 1) := by
  funext j
  refine (Cert.ReferenceDownDwIdeal.Read.val_main_v4_apply (F := Ideal) x0 x1 j).trans ?_
  refine (Cert.ReferenceDownDwIdeal.Read.val_main_v3_apply x0 x1 _).trans (Finset.sum_congr rfl fun k _ => ?_)
  refine (mul_comm _ _).trans (congrArg₂ (· * ·) ((Cert.ReferenceDownDwIdeal.Read.val_main_v1_apply (F := Ideal) x0 _).trans (congrArg x0 ?_)) (congrArg x1 ?_))
  · funext a; match a with
    | ⟨0, _⟩ => rfl
    | ⟨1, _⟩ => rfl
  · funext a; match a with
    | ⟨0, _⟩ => rfl
    | ⟨1, _⟩ => rfl

theorem frameR : Cert.quiescent_ReferenceDownDwIdeal := fun m ρ _ =>
  (θ_run Cert.ReferenceDownDwIdeal.defs _ _).mono (fun r h => ⟨fun c => (h c).2,
      Idealize.ShloMosaic.sem_eq_zero_of_no_sems (by decide) r.2⟩)
    (Cert.ReferenceDownDwIdeal.Value.run (F := Ideal) m ρ)

theorem algebraic : Cert.algebraic_KernelDownDwIdeal_ReferenceDownDwIdeal := by
  intro m ρ m' ρ' hpre hagree
  refine ⟨fun c => (dats m 0 c).arrAt 2 cfg0.N, Cert.KernelDownDwIdeal.Value.run_blocks (F := Ideal) m ρ, ?_⟩
  refine (θ_run Cert.ReferenceDownDwIdeal.defs _ _).mono (fun r h c => ?_) (Cert.ReferenceDownDwIdeal.Value.run (F := Ideal) m' ρ')
  obtain ⟨r0, kept⟩ := h c
  obtain ⟨a0, a1⟩ := hagree c
  refine ⟨r0.trans ?_, kept⟩
  refine (Cert.ReferenceDownDwIdeal.Read.val_main_v4_eq _ _).trans ?_
  rw [a0, a1]
  exact (ref_at _ _).trans (arr2 m c).symm

end Cert.DownDw

end
-- ==== Proof.Up.lean ====
/-
  The up projection: one product with a stack of four column groups, a group of a block of rows at each grid point.
-/
module

public import proofs.«01_k».proof.Defs
public import proofs.«01_k».proof.Proof.Lits
public import proofs.«01_k».proof.Proof.Products
public import proofs.«01_k».proof.Proof.Gen.KernelUpIdeal.Value
public import proofs.«01_k».proof.Proof.Gen.ReferenceUpIdeal.Run
public import proofs.«01_k».proof.Proof.Gen.ReferenceUpIdeal.Read
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.Up

open Cert.KernelUpIdeal Cert.KernelUpIdeal.Gen Idealize.ShloMosaic Idealize.ShloMosaic.TcCoe Cert.Lits Cert.Products
open Idealize.SL.Sem
open Idealize.ShloMosaic.Pipeline (Dat)
open scoped BigOperators

theorem pay_at (v0 : Vec Ideal S1x1024x1408 .bf16) (v1 : Vec Ideal S2048x1024 .bf16) (r : Fin 2048) (s : Fin 1408) :
    k0_pay1 v0 v1 (ix2 r s) = nn v1 (slab v0 0) r s := by
  unfold k0_pay1
  pointwise
  rfl

/-- A grid point's block of the product. -/
theorem out_at (x0 : Vec Ideal S2048x1024 .bf16) (x1 : Vec Ideal S1x1024x1408 .bf16) (y : S2048x1408.Idx) :
    out0_2 x0 x1 y = nn x0 (slab x1 0) (y 0) (y 1) := by
  unfold out0_2
  rw [View.canon_unit_zero (S := S2048x1408) off2]
  rw [View.ld_unit_zero (S := S2048x1024) off2, View.ld_unit_zero (S := S1x1024x1408) off3]
  rw [eq_ix2 y]
  exact pay_at x1 x0 (y 0) (y 1)

variable (m : (ℓ : Loc nD τ sig) → Buf (Elt Ideal) ℓ)

theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, win0_0.index t = ![t.val / 4, 0] ∧ win0_1.index t = ![t.val % 4, 0, 0] ∧ win0_2.index t = ![t.val / 4, t.val % 4])

theorem blk0 (c : Dev nD) (t : Fin cfg0.N) (r : Fin 2048) (s : Fin 1024) :
    iblk m c 0 t (ix2 r s) = m ((c : Thread nD τ).loc main_arg0) (ix2 ⟨2048 * (t.val / 4) + r, by have h : t.val < 16 := t.isLt; omega⟩ s) := by
  blk_ext [iblk, V, (idx t).1]

theorem blk1 (c : Dev nD) (t : Fin cfg0.N) (r : Fin 1024) (s : Fin 1408) :
    iblk m c 1 t (ix3 0 r s) = m ((c : Thread nD τ).loc main_arg1) (ix3 ⟨t.val % 4, by omega⟩ r s) := by
  blk_ext [iblk, V, (idx t).2.1]

theorem arr2 (c : Dev nD) : (dats m 0 c).arrAt 2 cfg0.N
    = fun j : S8192x5632.Idx => nn (m ((c : Thread nD τ).loc main_arg0)) (cols (m ((c : Thread nD τ).loc main_arg1))) (j 0) (j 1) := by
  refine (dats m 0 c).arrAt_eq_of_covers 2 _ (by decide +kernel) fun t hf y => ?_
  blk_simp
  rw [after0_2]
  have h1 : (y 1 : ℕ) < 1408 := (y 1).isLt
  refine (out_at ..).trans (nn_of (q := ⟨1408 * (t.val % 4) + (y 1 : ℕ), by omega⟩) (blk0 m c t (y 0))
    (fun k => (blk1 m c t k (y 1)).trans (cols_at _ _ _ _ _ rfl).symm) (Fin.ext ?_) (Fin.ext ?_))
  · have h : (y 0 : ℕ) < 2048 := (y 0).isLt
    blk_simp [(idx t).2.2]
    dsimp only
    omega
  · blk_simp [(idx t).2.2]
    dsimp only
    omega

theorem joined (x1 : S4x1024x1408.Idx → EReal) (k : Fin 1024) (j : Fin 5632) :
    Cert.ReferenceUpIdeal.Read.val_main_v10 (F := Ideal) x1 (ix2 k j) = cols x1 (ix2 k j) := by
  unfold Cert.ReferenceUpIdeal.Read.val_main_v10 Cert.ReferenceUpIdeal.Read.val_main_v9 Cert.ReferenceUpIdeal.Read.val_main_v8 Cert.ReferenceUpIdeal.Read.val_main_v7 Cert.ReferenceUpIdeal.Read.val_main_v6 Cert.ReferenceUpIdeal.Read.val_main_v5 Cert.ReferenceUpIdeal.Read.val_main_v4 Cert.ReferenceUpIdeal.Read.val_main_v3 Cert.ReferenceUpIdeal.Read.val_main_v2 Cert.ReferenceUpIdeal.Read.val_main_v1
  pointwise
  by_cases h0 : j.val < 1408
  · exact (dif_pos h0).trans (cols_at x1 k j 0 _ (by show j.val = 1408 * 0 + j.val; omega)).symm
  refine (dif_neg h0).trans ?_
  by_cases h1 : j.val - 1408 < 1408
  · exact (dif_pos h1).trans (cols_at x1 k j 1 _ (by show j.val = 1408 * 1 + (j.val - 1408); omega)).symm
  refine (dif_neg h1).trans ?_
  by_cases h2 : j.val - 1408 - 1408 < 1408
  · exact (dif_pos h2).trans (cols_at x1 k j 2 _ (by show j.val = 1408 * 2 + (j.val - 1408 - 1408); omega)).symm
  · exact (dif_neg h2).trans (cols_at x1 k j 3 _ (by show j.val = 1408 * 3 + (j.val - 1408 - 1408 - 1408); omega)).symm

theorem ref_at (x0 : S8192x1024.Idx → EReal) (x1 : S4x1024x1408.Idx → EReal) :
    Cert.ReferenceUpIdeal.Read.val_main_v11 (F := Ideal) x0 x1 = fun j => nn x0 (cols x1) (j 0) (j 1) := by
  funext j
  refine (Cert.ReferenceUpIdeal.Read.val_main_v11_apply x0 x1 j).trans (Finset.sum_congr rfl fun k _ => ?_)
  refine congrArg₂ (· * ·) ((Cert.ReferenceUpIdeal.Read.val_main_v0_apply (F := Ideal) x0 _).trans (congrArg x0 ?_)) ((congrArg (Cert.ReferenceUpIdeal.Read.val_main_v10 (F := Ideal) x1) ?_).trans (joined x1 k (j 1)))
  · funext a; match a with
    | ⟨0, _⟩ => rfl
    | ⟨1, _⟩ => rfl
  · funext a; match a with
    | ⟨0, _⟩ => rfl
    | ⟨1, _⟩ => rfl

theorem frameR : Cert.quiescent_ReferenceUpIdeal := fun m ρ _ =>
  (θ_run Cert.ReferenceUpIdeal.defs _ _).mono (fun r h => ⟨fun c => (h c).2,
      Idealize.ShloMosaic.sem_eq_zero_of_no_sems (by decide) r.2⟩)
    (Cert.ReferenceUpIdeal.Value.run (F := Ideal) m ρ)

theorem algebraic : Cert.algebraic_KernelUpIdeal_ReferenceUpIdeal := by
  intro m ρ m' ρ' hpre hagree
  refine ⟨fun c => (dats m 0 c).arrAt 2 cfg0.N, Cert.KernelUpIdeal.Value.run_blocks (F := Ideal) m ρ, ?_⟩
  refine (θ_run Cert.ReferenceUpIdeal.defs _ _).mono (fun r h c => ?_) (Cert.ReferenceUpIdeal.Value.run (F := Ideal) m' ρ')
  obtain ⟨r0, kept⟩ := h c
  obtain ⟨a0, a1⟩ := hagree c
  refine ⟨r0.trans ?_, kept⟩
  refine (Cert.ReferenceUpIdeal.Read.val_main_v11_eq _ _).trans ?_
  rw [a0, a1]
  exact (ref_at _ _).trans (arr2 m c).symm

end Cert.Up

end
-- ==== Proof.UpDx.lean ====
/-
  The gradient of the up projection's input and of the norm before it: two products of two stretches each are accumulated for a block of rows, then the norm's backward pass finishes the block and adds to the gains' gradient.
-/
module

public import proofs.«01_k».proof.Defs
public import proofs.«01_k».proof.Proof.Lits
public import proofs.«01_k».proof.Proof.Products
public import proofs.«01_k».proof.Proof.Gen.KernelUpDxIdeal.Value
public import proofs.«01_k».proof.Proof.Gen.ReferenceUpDxIdeal.Run
public import proofs.«01_k».proof.Proof.Gen.ReferenceUpDxIdeal.Read
public import proofs.«01_k».proof.Proof.Norms
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.UpDx

open Cert.KernelUpDxIdeal Cert.KernelUpDxIdeal.Gen Idealize.ShloMosaic Idealize.ShloMosaic.TcCoe Cert.Lits Cert.Products Cert.Norms Cert.Arith
open Idealize.SL.Sem
open Idealize.ShloMosaic.Pipeline (Dat)
open scoped BigOperators

/-! ## The gradient of the normed rows -/

/-- Two matrices side by side. -/
def two (a b : Mat 8192 2816) : Mat 8192 5632 := fun i =>
  if h : (i 1).val < 2816 then a (ix2 (i 0) ⟨(i 1).val, h⟩) else b (ix2 (i 0) ⟨(i 1).val - 2816, by have h : (i 1).val < 5632 := (i 1).isLt; omega⟩)

theorem two_lo (a b : Mat 8192 2816) (p : Fin 8192) (j : Fin 5632) (l : Fin 2816) (h : j.val = l.val) : two a b (ix2 p j) = a (ix2 p l) := by
  have h' : j.val < 2816 := by omega
  unfold two
  exact (dif_pos h').trans (congrArg a (congrArg (ix2 p) (Fin.ext h)))

theorem two_hi (a b : Mat 8192 2816) (p : Fin 8192) (j : Fin 5632) (l : Fin 2816) (h : j.val = 2816 + l.val) : two a b (ix2 p j) = b (ix2 p l) := by
  have h' : ¬j.val < 2816 := by omega
  unfold two
  exact (dif_neg h').trans (congrArg b (congrArg (ix2 p) (Fin.ext (by show j.val - 2816 = l.val; omega))))

/-- The product of the two matrices with the joined column groups, over the columns. -/
def dhm (w : Stack 4 1024 1408) (a b : Mat 8192 2816) : Mat 8192 1024 := fun i => nt (two a b) (cols w) (i 0) (i 1)

/-- One of the four stretches of that product. -/
def strip (w : Stack 4 1024 1408) (a b : Mat 8192 2816) (p : Fin 8192) (s : Fin 1024) (l : Fin 4) : EReal :=
  ∑ k : Fin 1408, two a b (ix2 p ⟨1408 * l.val + k.val, by omega⟩) * cols w (ix2 s ⟨1408 * l.val + k.val, by omega⟩)

theorem strip_of (w : Stack 4 1024 1408) (a b : Mat 8192 2816) (s : Fin 1024) {p p' : Fin 8192} {l l' : Fin 4} (hp : p = p') (hl : l = l') :
    strip w a b p s l = strip w a b p' s l' := by subst hp hl; rfl

theorem strips (w : Stack 4 1024 1408) (a b : Mat 8192 2816) (p : Fin 8192) (s : Fin 1024) :
    (strip w a b p s 0 + strip w a b p s 2) + (strip w a b p s 1 + strip w a b p s 3) = dhm w a b (ix2 p s) := by
  have e : ∑ l, strip w a b p s l = dhm w a b (ix2 p s) :=
    sum_stretches (fun (l : Fin 4) (k : Fin 1408) => (⟨1408 * l.val + k.val, by omega⟩ : Fin 5632)) (fun l k => rfl) (by norm_num)
      fun k => two a b (ix2 p k) * cols w (ix2 s k)
  rw [← e, Fin.sum_univ_four]
  ac_rfl

/-! ## A grid point's block -/

theorem pay1_at (v0 : Vec Ideal S512x1408 .bf16) (v1 : Vec Ideal S1x1024x1408 .bf16) (v4 : Vec Ideal S512x1408 .bf16) (v5 : Vec Ideal S1x1024x1408 .bf16) (r : Fin 512) (s : Fin 1024) :
    k0_pay1 v0 v1 v4 v5 (ix2 r s) = nt v0 (slab v1 0) r s + nt v4 (slab v5 0) r s := by
  unfold k0_pay1
  pointwise
  rfl

theorem pay2_at (v0 : Vec Ideal S512x1408 .bf16) (v1 : Vec Ideal S1x1024x1408 .bf16) (v4 : Vec Ideal S512x1408 .bf16) (v5 : Vec Ideal S1x1024x1408 .bf16) (r : Fin 512) (s : Fin 1024) :
    k0_pay2 v0 v1 v4 v5 (ix2 r s) = nt v0 (slab v1 0) r s + nt v4 (slab v5 0) r s := by
  rw [← pay1_at v0 v1 v4 v5]
  unfold k0_pay2
  generalize k0_pay1 v0 v1 v4 v5 = p
  pointwise

theorem pay3_at (v0 : Vec Ideal S512x1408 .bf16) (v1 : Vec Ideal S1x1024x1408 .bf16) (v4 : Vec Ideal S512x1408 .bf16) (v5 : Vec Ideal S1x1024x1408 .bf16) (v18 : Vec Ideal S512x1024 .f32) (r : Fin 512) (s : Fin 1024) :
    k0_pay3 v0 v1 v4 v5 v18 (ix2 r s) = v18 (ix2 r s) + (nt v0 (slab v1 0) r s + nt v4 (slab v5 0) r s) := by
  rw [← pay1_at v0 v1 v4 v5]
  unfold k0_pay3
  generalize k0_pay1 v0 v1 v4 v5 = p
  pointwise

theorem inv_at (x : Vec Ideal S512x1024 .f32) (r : Fin 512) (z : Fin 1) : k0_pay5 x (ix2 r z) = inv x r := by
  unfold k0_pay5
  pointwise
  simp only [lit_1024, lit_eps, lit_mhalf, lit_zero, zero_add]
  rfl

theorem pay6_at (d x res : Vec Ideal S512x1024 .f32) (g : Vec Ideal S1x1024 .f32) (r : Fin 512) (s : Fin 1024) :
    k0_pay6 d x res g (ix2 r s) = dxK x d g r s + res (ix2 r s) := by
  rw [add_comm]
  have e := inv_at x
  unfold k0_pay6
  generalize k0_pay5 x = p at e ⊢
  pointwise
  simp only [e, lit_1024, lit_eps, lit_mhalf, lit_zero, zero_add]
  unfold dxK normBwdK
  rw [sub_eq_add_neg, sub_eq_add_neg, ← add_assoc]
  rfl

theorem pay7_at (d x : Vec Ideal S512x1024 .f32) (z : Fin 1) (s : Fin 1024) : k0_pay7 d x (ix2 z s) = dgSum x d s := by
  have e := inv_at x
  unfold k0_pay7
  generalize k0_pay5 x = p at e ⊢
  pointwise
  simp only [e, lit_1024, lit_eps, lit_mhalf, lit_zero, zero_add]
  rfl

theorem pay4_at (p v : Vec Ideal S1x1024 .f32) (z : Fin 1) (s : Fin 1024) : k0_pay4 p v (ix2 z s) = v (ix2 z s) + p (ix2 z s) := by
  obtain rfl : z = 0 := Subsingleton.elim _ _
  unfold k0_pay4
  pointwise

theorem sout_A {F : FTy → Type} [FloatOps F] (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (hc0 : cond0_0 i) (hc1 : ¬cond0_1 i) (hc2 : ¬cond0_2 i)
    (x0 : Vec F S512x1408 .bf16) (x1 : Vec F S512x1408 .bf16) (x2 : Vec F S1x1024x1408 .bf16) (x3 : Vec F S1x1024x1408 .bf16) (x4 : Vec F S512x1024 .f32) (x5 : Vec F S512x1024 .f32) (x6 : Vec F S1x1024 .f32) :
    sout0_A_0 c i arg2 harg2 arg3 harg3 arg4 harg4 arg5 harg5 arg6 harg6 arg7 harg7 arg8 harg8 arg9 harg9 arg10 harg10 arg11 harg11 hc0 hc1 hc2 x0 x1 x2 x3 x4 x5 x6 = k0_pay2 x0 x2 x1 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 hc2 x0 x1 x2 x3 x4 x5 x6)]
  unfold kernelRun0_A
  dsimp only
  sl_unfold_run_names
  rw [View.canon_unit_zero (S := S512x1024) off2]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1408) off2, View.ld_unit_zero (S := S1x1024x1408) off3, View.ld_unit_zero (S := S512x1024) off2, View.ld_unit_zero (S := S1x1024) off2]

theorem out_B_7 {F : FTy → Type} [FloatOps F] (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (hc0 : ¬cond0_0 i) (hc1 : cond0_1 i) (hc2 : cond0_2 i) (hc3 : cond0_3 i) (hc4 : ¬cond0_4 i)
    (x0 : Vec F S512x1408 .bf16) (x1 : Vec F S512x1408 .bf16) (x2 : Vec F S1x1024x1408 .bf16) (x3 : Vec F S1x1024x1408 .bf16) (x4 : Vec F S512x1024 .f32) (x5 : Vec F S512x1024 .f32) (x6 : Vec F S1x1024 .f32) (xs0 : Vec F S512x1024 .f32) :
    out0_B_7 c i arg2 harg2 arg3 harg3 arg4 harg4 arg5 harg5 arg6 harg6 arg7 harg7 arg8 harg8 arg9 harg9 arg10 harg10 arg11 harg11 hc0 hc1 hc2 hc3 hc4 x0 x1 x2 x3 x4 x5 x6 xs0 = k0_pay6 (k0_pay3 x0 x2 x1 x3 xs0) x4 x5 x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 hc2 hc3 hc4 x0 x1 x2 x3 x4 x5 x6 xs0)]
  unfold kernelRun0_B
  dsimp only
  sl_unfold_run_names
  rw [View.canon_unit_zero (S := S512x1024) off2]
  simp (disch := decide) only [View.readAt_eq_ld, harg2.read_unread, harg3.read_unread, harg4.read_unread, harg5.read_unread, harg6.read_unread, harg7.read_unread, harg8.read_unread, harg9.read_unread, harg10.read_unread, harg11.read_unread, View.readCov_unit_lit', View.readCov_cons_unit_lit', View.ld_unit_zero (S := S512x1408) off2, View.ld_unit_zero (S := S1x1024x1408) off3, View.ld_unit_zero (S := S512x1024) off2, View.ld_unit_zero (S := S1x1024) off2]

theorem out_B_8 {F : FTy → Type} [FloatOps F] (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (hc0 : ¬cond0_0 i) (hc1 : cond0_1 i) (hc2 : cond0_2 i) (hc3 : cond0_3 i) (hc4 : ¬cond0_4 i)
    (x0 : Vec F S512x1408 .bf16) (x1 : Vec F S512x1408 .bf16) (x2 : Vec F S1x1024x1408 .bf16) (x3 : Vec F S1x1024x1408 .bf16) (x4 : Vec F S512x1024 .f32) (x5 : Vec F S512x1024 .f32) (x6 : Vec F S1x1024 .f32) (xs0 : Vec F S512x1024 .f32) :
    out0_B_8 c i arg2 harg2 arg3 harg3 arg4 harg4 arg5 harg5 arg6 harg6 arg7 harg7 arg8 harg8 arg9 harg9 arg10 harg10 arg11 harg11 hc0 hc1 hc2 hc3 hc4 x0 x1 x2 x3 x4 x5 x6 xs0 = k0_pay7 (k0_pay3 x0 x2 x1 x3 xs0) x4 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 hc1 hc2 hc3 hc4 x0 x1 x2 x3 x4 x5 x6 xs0)]
  unfold kernelRun0_B
  dsimp only
  sl_unfold_run_names
  rw [View.canon_unit_zero (S := S1x1024) off2]
  simp (disch := decide) only [View.readAt_eq_ld, harg2.read_unread, harg3.read_unread, harg4.read_unread, harg5.read_unread, harg6.read_unread, harg7.read_unread, harg8.read_unread, harg9.read_unread, harg10.read_unread, harg11.read_unread, View.readCov_unit_lit', View.readCov_cons_unit_lit', View.ld_unit_zero (S := S512x1408) off2, View.ld_unit_zero (S := S1x1024x1408) off3, View.ld_unit_zero (S := S512x1024) off2, View.ld_unit_zero (S := S1x1024) off2]

theorem out_C_7 {F : FTy → Type} [FloatOps F] (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (hc0 : ¬cond0_0 i) (hc1 : cond0_1 i) (hc2 : cond0_2 i) (hc3 : ¬cond0_3 i) (hc4 : cond0_4 i)
    (x0 : Vec F S512x1408 .bf16) (x1 : Vec F S512x1408 .bf16) (x2 : Vec F S1x1024x1408 .bf16) (x3 : Vec F S1x1024x1408 .bf16) (x4 : Vec F S512x1024 .f32) (x5 : Vec F S512x1024 .f32) (x6 : Vec F S1x1024 .f32) (xo8 : Vec F S1x1024 .f32) (xs0 : Vec F S512x1024 .f32) :
    out0_C_7 c i arg2 harg2 arg3 harg3 arg4 harg4 arg5 harg5 arg6 harg6 arg7 harg7 arg8 harg8 arg9 harg9 arg10 harg10 arg11 harg11 hc0 hc1 hc2 hc3 hc4 x0 x1 x2 x3 x4 x5 x6 xo8 xs0 = k0_pay6 (k0_pay3 x0 x2 x1 x3 xs0) x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 hc2 hc3 hc4 x0 x1 x2 x3 x4 x5 x6 xo8 xs0)]
  unfold kernelRun0_C
  dsimp only
  sl_unfold_run_names
  rw [View.canon_unit_zero (S := S512x1024) off2]
  simp (disch := decide) only [View.readAt_eq_ld, harg2.read_unread, harg3.read_unread, harg4.read_unread, harg5.read_unread, harg6.read_unread, harg7.read_unread, harg8.read_unread, harg9.read_unread, harg10.read_unread, harg11.read_unread, View.readCov_unit_lit', View.readCov_cons_unit_lit', View.ld_unit_zero (S := S512x1408) off2, View.ld_unit_zero (S := S1x1024x1408) off3, View.ld_unit_zero (S := S512x1024) off2, View.ld_unit_zero (S := S1x1024) off2]

theorem out_C_8 {F : FTy → Type} [FloatOps F] (c : Dev nD) (i : grid0.Coords) (arg2 : Memref sig .tc .vmem S512x1408 .bf16) (harg2 : arg2.IsWhole) (arg3 : Memref sig .tc .vmem S512x1408 .bf16) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (hc0 : ¬cond0_0 i) (hc1 : cond0_1 i) (hc2 : cond0_2 i) (hc3 : ¬cond0_3 i) (hc4 : cond0_4 i)
    (x0 : Vec F S512x1408 .bf16) (x1 : Vec F S512x1408 .bf16) (x2 : Vec F S1x1024x1408 .bf16) (x3 : Vec F S1x1024x1408 .bf16) (x4 : Vec F S512x1024 .f32) (x5 : Vec F S512x1024 .f32) (x6 : Vec F S1x1024 .f32) (xo8 : Vec F S1x1024 .f32) (xs0 : Vec F S512x1024 .f32) :
    out0_C_8 c i arg2 harg2 arg3 harg3 arg4 harg4 arg5 harg5 arg6 harg6 arg7 harg7 arg8 harg8 arg9 harg9 arg10 harg10 arg11 harg11 hc0 hc1 hc2 hc3 hc4 x0 x1 x2 x3 x4 x5 x6 xo8 xs0 = k0_pay4 (k0_pay7 (k0_pay3 x0 x2 x1 x3 xs0) x4) xo8 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 hc2 hc3 hc4 x0 x1 x2 x3 x4 x5 x6 xo8 xs0)]
  unfold kernelRun0_C
  dsimp only
  sl_unfold_run_names
  rw [View.canon_unit_zero (S := S1x1024) off2]
  simp (disch := decide) only [View.readAt_eq_ld, harg2.read_unread, harg3.read_unread, harg4.read_unread, harg5.read_unread, harg6.read_unread, harg7.read_unread, harg8.read_unread, harg9.read_unread, harg10.read_unread, harg11.read_unread, View.readCov_unit_lit', View.readCov_cons_unit_lit', View.ld_unit_zero (S := S512x1408) off2, View.ld_unit_zero (S := S1x1024x1408) off3, View.ld_unit_zero (S := S512x1024) off2, View.ld_unit_zero (S := S1x1024) off2]

/-! ## The blocks of the arrays -/

variable (m : (ℓ : Loc nD τ sig) → Buf (Elt Ideal) ℓ)

theorem idx : ∀ t : Fin cfg0.N, win0_0.index t = ![t.val / 2, t.val % 2] ∧ win0_1.index t = ![t.val / 2, t.val % 2] ∧ win0_2.index t = ![t.val % 2, 0, 0] ∧ win0_3.index t = ![2 + t.val % 2, 0, 0] ∧ win0_4.index t = ![t.val / 2, 0] ∧ win0_5.index t = ![t.val / 2, 0] ∧ win0_6.index t = ![0, 0] ∧ win0_7.index t = ![t.val / 2, 0] ∧ win0_8.index t = ![0, 0] :=
  (by decide +kernel : ∀ t : Fin grid0.N, win0_0.index t = ![t.val / 2, t.val % 2] ∧ win0_1.index t = ![t.val / 2, t.val % 2] ∧ win0_2.index t = ![t.val % 2, 0, 0] ∧ win0_3.index t = ![2 + t.val % 2, 0, 0] ∧ win0_4.index t = ![t.val / 2, 0] ∧ win0_5.index t = ![t.val / 2, 0] ∧ win0_6.index t = ![0, 0] ∧ win0_7.index t = ![t.val / 2, 0] ∧ win0_8.index t = ![0, 0])

theorem blk0 (c : Dev nD) (t : Fin cfg0.N) (r : Fin 512) (s : Fin 1408) :
    iblk m c 0 t (ix2 r s) = m ((c : Thread nD τ).loc main_arg3) (ix2 ⟨512 * (t.val / 2) + r, by have h : t.val < 32 := t.isLt; omega⟩ ⟨1408 * (t.val % 2) + s, by omega⟩) := by
  blk_ext [iblk, V, (idx t).1]

theorem blk1 (c : Dev nD) (t : Fin cfg0.N) (r : Fin 512) (s : Fin 1408) :
    iblk m c 1 t (ix2 r s) = m ((c : Thread nD τ).loc main_arg4) (ix2 ⟨512 * (t.val / 2) + r, by have h : t.val < 32 := t.isLt; omega⟩ ⟨1408 * (t.val % 2) + s, by omega⟩) := by
  blk_ext [iblk, V, (idx t).2.1]

theorem blk2 (c : Dev nD) (t : Fin cfg0.N) (r : Fin 1024) (s : Fin 1408) :
    iblk m c 2 t (ix3 0 r s) = m ((c : Thread nD τ).loc main_arg2) (ix3 ⟨t.val % 2, by omega⟩ r s) := by
  blk_ext [iblk, V, (idx t).2.2.1]

theorem blk3 (c : Dev nD) (t : Fin cfg0.N) (r : Fin 1024) (s : Fin 1408) :
    iblk m c 3 t (ix3 0 r s) = m ((c : Thread nD τ).loc main_arg2) (ix3 ⟨2 + t.val % 2, by omega⟩ r s) := by
  blk_ext [iblk, V, (idx t).2.2.2.1]

theorem blk4 (c : Dev nD) (t : Fin cfg0.N) (r : Fin 512) (s : Fin 1024) :
    iblk m c 4 t (ix2 r s) = m ((c : Thread nD τ).loc main_arg0) (ix2 ⟨512 * (t.val / 2) + r, by have h : t.val < 32 := t.isLt; omega⟩ s) := by
  blk_ext [iblk, V, (idx t).2.2.2.2.1]

theorem blk5 (c : Dev nD) (t : Fin cfg0.N) (r : Fin 512) (s : Fin 1024) :
    iblk m c 5 t (ix2 r s) = m ((c : Thread nD τ).loc main_arg5) (ix2 ⟨512 * (t.val / 2) + r, by have h : t.val < 32 := t.isLt; omega⟩ s) := by
  blk_ext [iblk, V, (idx t).2.2.2.2.2.1]

theorem blk6 (c : Dev nD) (t : Fin cfg0.N) (z : Fin 1) (s : Fin 1024) :
    iblk m c 6 t (ix2 z s) = m ((c : Thread nD τ).loc main_arg1) (ix2 z s) := by
  blk_ext [iblk, V, (idx t).2.2.2.2.2.2.1]

theorem lo_at (c : Dev nD) (t : Fin cfg0.N) (r : Fin 512) (s : Fin 1024) : nt (iblk m c 0 t) (slab (iblk m c 2 t) 0) r s
    = strip (m ((c : Thread nD τ).loc main_arg2)) (m ((c : Thread nD τ).loc main_arg3)) (m ((c : Thread nD τ).loc main_arg4)) ⟨512 * (t.val / 2) + r, by have h : t.val < 32 := t.isLt; omega⟩ s ⟨t.val % 2, by omega⟩ :=
  Finset.sum_congr rfl fun k _ => congrArg₂ (· * ·)
    ((blk0 m c t r k).trans (two_lo _ _ _ _ _ rfl).symm) ((blk2 m c t s k).trans (cols_at _ _ _ _ _ rfl).symm)

theorem hi_at (c : Dev nD) (t : Fin cfg0.N) (r : Fin 512) (s : Fin 1024) : nt (iblk m c 1 t) (slab (iblk m c 3 t) 0) r s
    = strip (m ((c : Thread nD τ).loc main_arg2)) (m ((c : Thread nD τ).loc main_arg3)) (m ((c : Thread nD τ).loc main_arg4)) ⟨512 * (t.val / 2) + r, by have h : t.val < 32 := t.isLt; omega⟩ s ⟨2 + t.val % 2, by omega⟩ :=
  Finset.sum_congr rfl fun k _ => congrArg₂ (· * ·)
    ((blk1 m c t r k).trans (two_hi _ _ _ _ _ (by show 1408 * (2 + t.val % 2) + k.val = 2816 + (1408 * (t.val % 2) + k.val); omega)).symm)
    ((blk3 m c t s k).trans (cols_at _ _ _ _ _ rfl).symm)

/-! ## The points in turn -/

theorem outs_congr (c : Dev nD) {n n' : ℕ} (h : n < cfg0.N) (h' : n' < cfg0.N) (e : n = n') : outsAt0 m c n h = outsAt0 m c n' h' := by
  subst e; rfl

/-- What an even point leaves in the scratch: its part of the product. -/
theorem scratch_at (c : Dev nD) (t : Fin cfg0.N) (h : t.val % 2 = 0) (r : Fin 512) (s : Fin 1024) : (outsAt0 m c t.val t.isLt).2.2 (ix2 r s)
    = strip (m ((c : Thread nD τ).loc main_arg2)) (m ((c : Thread nD τ).loc main_arg3)) (m ((c : Thread nD τ).loc main_arg4)) ⟨512 * (t.val / 2) + r, by have h : t.val < 32 := t.isLt; omega⟩ s ⟨t.val % 2, by omega⟩
      + strip (m ((c : Thread nD τ).loc main_arg2)) (m ((c : Thread nD τ).loc main_arg3)) (m ((c : Thread nD τ).loc main_arg4)) ⟨512 * (t.val / 2) + r, by have h : t.val < 32 := t.isLt; omega⟩ s ⟨2 + t.val % 2, by omega⟩ := by
  rw [outsAt0_A m c t h (by omega) (by omega)]
  dsimp only
  refine (congrFun (sout_A (F := Ideal) ..) (ix2 r s)).trans ?_
  exact (pay2_at _ _ _ _ r s).trans (congrArg₂ (· + ·) (lo_at m c t r s) (hi_at m c t r s))

/-- An even point leaves the gains' gradient as it was. -/
theorem carry (c : Dev nD) (t : Fin cfg0.N) (h : t.val % 2 = 0) :
    (outsAt0 m c t.val t.isLt).2.1 = (outsAt0 m c (t.val - 1) (Nat.lt_of_le_of_lt (Nat.sub_le _ _) t.isLt)).2.1 := by
  rw [outsAt0_A m c t h (by omega) (by omega)]
  dsimp only [out0_A_8]

/-- The product at an odd point: that of the point before, and its own. -/
def dh (c : Dev nD) (t : Fin cfg0.N) : Vec Ideal S512x1024 .f32 :=
  k0_pay3 (iblk m c 0 t) (iblk m c 2 t) (iblk m c 1 t) (iblk m c 3 t) (outsAt0 m c (t.val - 1) (Nat.lt_of_le_of_lt (Nat.sub_le _ _) t.isLt)).2.2

theorem dh_at (c : Dev nD) (t : Fin cfg0.N) (h : t.val % 2 = 1) (r : Fin 512) (s : Fin 1024) :
    dh m c t (ix2 r s) = (dhm (m ((c : Thread nD τ).loc main_arg2)) (m ((c : Thread nD τ).loc main_arg3)) (m ((c : Thread nD τ).loc main_arg4))) (ix2 ⟨512 * (t.val / 2) + r, by have h : t.val < 32 := t.isLt; omega⟩ s) := by
  have hN : t.val < 32 := t.isLt
  have e := scratch_at m c ⟨t.val - 1, Nat.lt_of_le_of_lt (Nat.sub_le _ _) t.isLt⟩ (by dsimp only; omega) r s
  dsimp only at e
  unfold dh
  refine (pay3_at _ _ _ _ _ r s).trans ?_
  rw [e, lo_at m c t r s, hi_at m c t r s, ← strips]
  refine congrArg₂ (· + ·) (congrArg₂ (· + ·) ?_ ?_) (congrArg₂ (· + ·) ?_ ?_)
  all_goals refine strip_of _ _ _ _ (Fin.ext ?_) (Fin.ext ?_)
  all_goals dsimp only
  all_goals first
    | omega
    | (show _ = 0; omega)
    | (show _ = 1; omega)
    | (show _ = 2; omega)
    | (show _ = 3; omega)

theorem first_at (c : Dev nD) (t : Fin cfg0.N) (h : t.val % 2 = 1) (y : S512x1024.Idx) : (outsAt0 m c t.val t.isLt).1 y
    = dxK (iblk m c 4 t) (dh m c t) (iblk m c 6 t) (y 0) (y 1) + iblk m c 5 t (ix2 (y 0) (y 1)) := by
  by_cases h' : t.val < 2
  · rw [outsAt0_B m c t (by omega) h h h' (by omega)]
    dsimp only
    refine (congrFun (out_B_7 (F := Ideal) ..) y).trans ?_
    rw [eq_ix2 y]
    exact pay6_at _ _ _ _ (y 0) (y 1)
  · rw [outsAt0_C m c t (by omega) h h h' (by omega)]
    dsimp only
    refine (congrFun (out_C_7 (F := Ideal) ..) y).trans ?_
    rw [eq_ix2 y]
    exact pay6_at _ _ _ _ (y 0) (y 1)

theorem arr7 (c : Dev nD) : (dats m 0 c).arrAt 7 cfg0.N
    = fun j : S8192x1024.Idx => dxK (m ((c : Thread nD τ).loc main_arg0)) (dhm (m ((c : Thread nD τ).loc main_arg2)) (m ((c : Thread nD τ).loc main_arg3)) (m ((c : Thread nD τ).loc main_arg4))) (m ((c : Thread nD τ).loc main_arg1)) (j 0) (j 1)
      + m ((c : Thread nD τ).loc main_arg5) (ix2 (j 0) (j 1)) := by
  refine (dats m 0 c).arrAt_eq_of_covers 7 _ (by decide +kernel) fun t hf y => ?_
  blk_simp
  rw [after0_7]
  have h2 : t.val % 2 = 1 := (flush0_7 t).mp hf
  refine (first_at m c t h2 y).trans (congrArg₂ (· + ·) (dxK_of (blk4 m c t (y 0)) (fun k => dh_at m c t h2 (y 0) k) (blk6 m c t 0) (Fin.ext ?_) (Fin.ext ?_))
    ((blk5 m c t (y 0) (y 1)).trans (congrArg (m ((c : Thread nD τ).loc main_arg5)) (congrArg₂ ix2 (Fin.ext ?_) (Fin.ext ?_)))))
  all_goals have h0 : (y 0 : ℕ) < 512 := (y 0).isLt
  all_goals blk_simp [(idx t).2.2.2.2.2.2.2.1]
  all_goals dsimp only
  all_goals omega

/-- The odd point of a block of rows. -/
def pt (b : Fin 16) : Fin cfg0.N := ⟨2 * b.val + 1, show 2 * b.val + 1 < 32 by omega⟩

/-- A block of rows' part of the gains' gradient. -/
def part (c : Dev nD) (b : Fin 16) (y : S1x1024.Idx) : EReal := dgSum (iblk m c 4 (pt b)) (dh m c (pt b)) (y 1)

/-- The gains' gradient as it has been accumulated after a block of rows. -/
def acc (c : Dev nD) (n : ℕ) (h : n < 16) : S1x1024.Idx → EReal := (outsAt0 m c (pt ⟨n, h⟩).val (pt ⟨n, h⟩).isLt).2.1

theorem step_A (c : Dev nD) (b : Fin 16) (h : b.val % 16 = 0) (y : S1x1024.Idx) : acc m c b.val b.isLt y = 0 + part m c b y := by
  have hp : (pt b).val = 2 * b.val + 1 := rfl
  show (outsAt0 m c (pt b).val (pt b).isLt).2.1 y = 0 + part m c b y
  rw [outsAt0_B m c (pt b) (by omega) (by omega) (by omega) (by omega) (by omega)]
  rw [zero_add]
  dsimp only
  refine (congrFun (out_B_8 (F := Ideal) ..) y).trans ?_
  rw [eq_ix2 y]
  exact pay7_at _ _ (y 0) (y 1)

theorem before (c : Dev nD) (b : Fin 16) (h : ¬b.val % 16 = 0) (hb : b.val - 1 < 16) :
    (outsAt0 m c ((pt b).val - 1) (Nat.lt_of_le_of_lt (Nat.sub_le _ _) (pt b).isLt)).2.1 = acc m c (b.val - 1) hb := by
  have hp : (pt b).val = 2 * b.val + 1 := rfl
  refine (carry m c ⟨(pt b).val - 1, Nat.lt_of_le_of_lt (Nat.sub_le _ _) (pt b).isLt⟩ (by dsimp only; omega)).trans ?_
  unfold acc
  refine congrArg (fun o => o.2.1) (outs_congr m c _ _ ?_)
  show 2 * b.val + 1 - 1 - 1 = 2 * (b.val - 1) + 1
  omega

theorem step_B (c : Dev nD) (b : Fin 16) (h : ¬b.val % 16 = 0) (y : S1x1024.Idx) :
    acc m c b.val b.isLt y = acc m c (b.val - 1) (Nat.lt_of_le_of_lt (Nat.sub_le _ _) b.isLt) y + part m c b y := by
  have hp : (pt b).val = 2 * b.val + 1 := rfl
  rw [← before m c b h]
  show (outsAt0 m c (pt b).val (pt b).isLt).2.1 y = _
  rw [outsAt0_C m c (pt b) (by omega) (by omega) (by omega) (by omega) (by omega)]
  dsimp only
  refine (congrFun (out_C_8 (F := Ideal) ..) y).trans ?_
  rw [eq_ix2 y]
  exact (pay4_at _ _ (y 0) (y 1)).trans (congrArg (_ + ·) (pay7_at _ _ (y 0) (y 1)))

theorem arr8 (c : Dev nD) : (dats m 0 c).arrAt 8 cfg0.N
    = fun j : S1x1024.Idx => dgSum (m ((c : Thread nD τ).loc main_arg0)) (dhm (m ((c : Thread nD τ).loc main_arg2)) (m ((c : Thread nD τ).loc main_arg3)) (m ((c : Thread nD τ).loc main_arg4))) (j 1) := by
  refine (dats m 0 c).arrAt_eq_of_covers 8 _ (by decide +kernel) fun t hf y => ?_
  blk_simp
  rw [after0_8]
  have hr : t.val % 32 = 31 := (flush0_8 t).mp hf
  have hN : t.val < 32 := t.isLt
  have e : (outsAt0 m c t.val t.isLt).2.1 = acc m c 15 (by norm_num) :=
    congrArg (fun o => o.2.1) (outs_congr m c _ _ (show t.val = 2 * 15 + 1 by omega))
  refine (congrFun e y).trans ?_
  refine (Pipeline.eq_sum_fin_of_reset_step_apply_of_flush (acc m c) 16 (fun _ => 0) (part m c) (step_A m c) (step_B m c) (15 : Fin 16) (by decide) y).trans ?_
  rw [zero_add]
  refine dgSum_stretches (fun l k => ⟨512 * l.val + k.val, by omega⟩) (fun l i k => (blk4 m c _ i k).trans (congrArg (m ((c : Thread nD τ).loc main_arg0)) (congrArg₂ ix2 (Fin.ext ?_) rfl)))
    (fun l i k => (dh_at m c _ ?_ i k).trans (congrArg (dhm (m ((c : Thread nD τ).loc main_arg2)) (m ((c : Thread nD τ).loc main_arg3)) (m ((c : Thread nD τ).loc main_arg4))) (congrArg₂ ix2 (Fin.ext ?_) rfl))) (fun l k => rfl) (by norm_num) (Fin.ext ?_)
  · show 512 * ((2 * (16 * (15 / 16) + l.val) + 1) / 2) + i.val = 512 * l.val + i.val
    omega
  · show (2 * (16 * (15 / 16) + l.val) + 1) % 2 = 1
    omega
  · show 512 * ((2 * (16 * (15 / 16) + l.val) + 1) / 2) + i.val = 512 * l.val + i.val
    omega
  · blk_simp [(idx t).2.2.2.2.2.2.2.2]

/-! ## The reference's results -/

section Reference

variable (x0 : S8192x1024.Idx → EReal) (x1 : S1x1024.Idx → EReal) (x2 : S4x1024x1408.Idx → EReal) (x3 x4 : S8192x2816.Idx → EReal) (x5 : S8192x1024.Idx → EReal)

theorem joined (k : Fin 1024) (j : Fin 5632) :
    Cert.ReferenceUpDxIdeal.Read.val_main_v26 (F := Ideal) x2 (ix2 k j) = cols x2 (ix2 k j) := by
  unfold Cert.ReferenceUpDxIdeal.Read.val_main_v26 Cert.ReferenceUpDxIdeal.Read.val_main_v25 Cert.ReferenceUpDxIdeal.Read.val_main_v24 Cert.ReferenceUpDxIdeal.Read.val_main_v23 Cert.ReferenceUpDxIdeal.Read.val_main_v22 Cert.ReferenceUpDxIdeal.Read.val_main_v21 Cert.ReferenceUpDxIdeal.Read.val_main_v20 Cert.ReferenceUpDxIdeal.Read.val_main_v19 Cert.ReferenceUpDxIdeal.Read.val_main_v18 Cert.ReferenceUpDxIdeal.Read.val_main_v17
  pointwise
  by_cases h0 : j.val < 1408
  · exact (dif_pos h0).trans (cols_at x2 k j 0 _ (by show j.val = 1408 * 0 + j.val; omega)).symm
  refine (dif_neg h0).trans ?_
  by_cases h1 : j.val - 1408 < 1408
  · exact (dif_pos h1).trans (cols_at x2 k j 1 _ (by show j.val = 1408 * 1 + (j.val - 1408); omega)).symm
  refine (dif_neg h1).trans ?_
  by_cases h2 : j.val - 1408 - 1408 < 1408
  · exact (dif_pos h2).trans (cols_at x2 k j 2 _ (by show j.val = 1408 * 2 + (j.val - 1408 - 1408); omega)).symm
  · exact (dif_neg h2).trans (cols_at x2 k j 3 _ (by show j.val = 1408 * 3 + (j.val - 1408 - 1408 - 1408); omega)).symm

theorem beside (p : Fin 8192) (j : Fin 5632) : Cert.ReferenceUpDxIdeal.Read.val_main_v29 (F := Ideal) x3 x4 (ix2 p j) = two x3 x4 (ix2 p j) := by
  unfold Cert.ReferenceUpDxIdeal.Read.val_main_v29 Cert.ReferenceUpDxIdeal.Read.val_main_v28
  pointwise
  by_cases h0 : j.val < 2816
  · exact (dif_pos h0).trans (two_lo x3 x4 p j _ rfl).symm
  · exact (dif_neg h0).trans (two_hi x3 x4 p j _ (by show j.val = 2816 + (j.val - 2816); omega)).symm

theorem r30_at (p : Fin 8192) (s : Fin 1024) : Cert.ReferenceUpDxIdeal.Read.val_main_v30 (F := Ideal) x2 x3 x4 (ix2 p s) = dhm x2 x3 x4 (ix2 p s) := by
  refine (Cert.ReferenceUpDxIdeal.Read.val_main_v30_apply x2 x3 x4 _).trans (show _ = nt (two x3 x4) (cols x2) p s from Finset.sum_congr rfl fun k _ => ?_)
  refine congrArg₂ (· * ·) ((congrArg (Cert.ReferenceUpDxIdeal.Read.val_main_v29 (F := Ideal) x3 x4) ?_).trans (beside x3 x4 p k)) ((congrArg (Cert.ReferenceUpDxIdeal.Read.val_main_v26 (F := Ideal) x2) ?_).trans (joined x2 s k))
  · funext a; match a with
    | ⟨0, _⟩ => rfl
    | ⟨1, _⟩ => rfl
  · funext a; match a with
    | ⟨0, _⟩ => rfl
    | ⟨1, _⟩ => rfl

theorem r7_at (i : Fin 8192) (z : Fin 1) : Cert.ReferenceUpDxIdeal.Read.val_main_v7 (F := Ideal) x0 (ix2 i z) = msq 1024 eps (row x0 i) := by
  unfold Cert.ReferenceUpDxIdeal.Read.val_main_v7 Cert.ReferenceUpDxIdeal.Read.val_main_v6 Cert.ReferenceUpDxIdeal.Read.val_main_v5 Cert.ReferenceUpDxIdeal.Read.val_main_v4 Cert.ReferenceUpDxIdeal.Read.val_main_v3 Cert.ReferenceUpDxIdeal.Read.val_main_v2 Cert.ReferenceUpDxIdeal.Read.val_main_v1 Cert.ReferenceUpDxIdeal.Read.val_main_cst Cert.ReferenceUpDxIdeal.Read.val_main_cst_0 Cert.ReferenceUpDxIdeal.Read.val_main_cst_1
  pointwise
  simp only [lit_1024, lit_eps, lit_mhalf, lit_zero, zero_add]
  rfl

theorem r8_at (i : Fin 8192) (z : Fin 1) : Cert.ReferenceUpDxIdeal.Read.val_main_v8 (F := Ideal) x0 (ix2 i z) = inv x0 i := by
  have e := r7_at x0
  unfold Cert.ReferenceUpDxIdeal.Read.val_main_v8
  generalize Cert.ReferenceUpDxIdeal.Read.val_main_v7 (F := Ideal) x0 = p at e ⊢
  pointwise
  simp only [e]
  rfl

theorem r11_at (i : Fin 8192) (z : Fin 1) : Cert.ReferenceUpDxIdeal.Read.val_main_v11 (F := Ideal) x0 (ix2 i z) = ((-(1 / 2) : ℝ) : EReal) * Ideal.div (inv x0 i) (msq 1024 eps (row x0 i)) := by
  have e := r7_at x0
  have e' := r8_at x0
  unfold Cert.ReferenceUpDxIdeal.Read.val_main_v11 Cert.ReferenceUpDxIdeal.Read.val_main_v10 Cert.ReferenceUpDxIdeal.Read.val_main_v9 Cert.ReferenceUpDxIdeal.Read.val_main_cst_2
  generalize Cert.ReferenceUpDxIdeal.Read.val_main_v7 (F := Ideal) x0 = p at e ⊢
  generalize Cert.ReferenceUpDxIdeal.Read.val_main_v8 (F := Ideal) x0 = q at e' ⊢
  pointwise
  simp only [e, e', lit_1024, lit_eps, lit_mhalf, lit_zero, zero_add]

theorem r35_at (i : Fin 8192) (j : Fin 1024) : Cert.ReferenceUpDxIdeal.Read.val_main_v35 (F := Ideal) x1 x2 x3 x4 (ix2 i j) = dhm x2 x3 x4 (ix2 i j) * x1 (ix2 0 j) := by
  have e := r30_at x2 x3 x4
  unfold Cert.ReferenceUpDxIdeal.Read.val_main_v35 Cert.ReferenceUpDxIdeal.Read.val_main_v34 Cert.ReferenceUpDxIdeal.Read.val_main_v14 Cert.ReferenceUpDxIdeal.Read.val_main_v0
  generalize Cert.ReferenceUpDxIdeal.Read.val_main_v30 (F := Ideal) x2 x3 x4 = p at e ⊢
  pointwise
  simp only [e]

theorem r47_at (i : Fin 8192) (j : Fin 1024) : Cert.ReferenceUpDxIdeal.Read.val_main_v47 (F := Ideal) x0 x1 x2 x3 x4 (ix2 i j)
    = coefR 1024 eps (row x0 i) (fun k => dhm x2 x3 x4 (ix2 i k) * x1 (ix2 0 k)) := by
  have e := r11_at x0
  have e' := r35_at x1 x2 x3 x4
  unfold Cert.ReferenceUpDxIdeal.Read.val_main_v47 Cert.ReferenceUpDxIdeal.Read.val_main_v46 Cert.ReferenceUpDxIdeal.Read.val_main_v45 Cert.ReferenceUpDxIdeal.Read.val_main_v44 Cert.ReferenceUpDxIdeal.Read.val_main_v43 Cert.ReferenceUpDxIdeal.Read.val_main_v39 Cert.ReferenceUpDxIdeal.Read.val_main_v38 Cert.ReferenceUpDxIdeal.Read.val_main_v37 Cert.ReferenceUpDxIdeal.Read.val_main_cst_5 Cert.ReferenceUpDxIdeal.Read.val_main_cst_6 Cert.ReferenceUpDxIdeal.Read.val_main_cst_7
  generalize Cert.ReferenceUpDxIdeal.Read.val_main_v11 (F := Ideal) x0 = p at e ⊢
  generalize Cert.ReferenceUpDxIdeal.Read.val_main_v35 (F := Ideal) x1 x2 x3 x4 = q at e' ⊢
  pointwise
  simp only [e, e', Fin.sum_univ_one, lit_1024, lit_eps, lit_mhalf, lit_zero, zero_add]
  rfl

theorem ref_dx_at (i : Fin 8192) (s : Fin 1024) : Cert.ReferenceUpDxIdeal.Read.val_main_v51 (F := Ideal) x0 x1 x2 x3 x4 x5 (ix2 i s) = dxK x0 (dhm x2 x3 x4) x1 i s + x5 (ix2 i s) := by
  rw [dx_eq, add_comm]
  have e := r8_at x0
  have e' := r35_at x1 x2 x3 x4
  have e'' := r47_at x0 x1 x2 x3 x4
  unfold Cert.ReferenceUpDxIdeal.Read.val_main_v51 Cert.ReferenceUpDxIdeal.Read.val_main_v50 Cert.ReferenceUpDxIdeal.Read.val_main_v49 Cert.ReferenceUpDxIdeal.Read.val_main_v48 Cert.ReferenceUpDxIdeal.Read.val_main_v42 Cert.ReferenceUpDxIdeal.Read.val_main_v41 Cert.ReferenceUpDxIdeal.Read.val_main_v40
  generalize Cert.ReferenceUpDxIdeal.Read.val_main_v8 (F := Ideal) x0 = p at e ⊢
  generalize Cert.ReferenceUpDxIdeal.Read.val_main_v35 (F := Ideal) x1 x2 x3 x4 = q at e' ⊢
  generalize Cert.ReferenceUpDxIdeal.Read.val_main_v47 (F := Ideal) x0 x1 x2 x3 x4 = o at e'' ⊢
  pointwise
  simp only [e, e', e'']
  unfold dxR normBwdR
  rw [← add_assoc, ← add_assoc]
  rfl

theorem ref_dg_at (z : Fin 1) (s : Fin 1024) : Cert.ReferenceUpDxIdeal.Read.val_main_v52 (F := Ideal) x0 x2 x3 x4 (ix2 z s) = dgSum x0 (dhm x2 x3 x4) s := by
  have e := r8_at x0
  have e' := r30_at x2 x3 x4
  unfold Cert.ReferenceUpDxIdeal.Read.val_main_v52 Cert.ReferenceUpDxIdeal.Read.val_main_v36 Cert.ReferenceUpDxIdeal.Read.val_main_v33 Cert.ReferenceUpDxIdeal.Read.val_main_v32 Cert.ReferenceUpDxIdeal.Read.val_main_v31 Cert.ReferenceUpDxIdeal.Read.val_main_v13 Cert.ReferenceUpDxIdeal.Read.val_main_v12 Cert.ReferenceUpDxIdeal.Read.val_main_cst_3 Cert.ReferenceUpDxIdeal.Read.val_main_cst_4
  generalize Cert.ReferenceUpDxIdeal.Read.val_main_v8 (F := Ideal) x0 = p at e ⊢
  generalize Cert.ReferenceUpDxIdeal.Read.val_main_v30 (F := Ideal) x2 x3 x4 = q at e' ⊢
  pointwise
  simp only [e, e', Fin.sum_univ_one, lit_1024, lit_eps, lit_mhalf, lit_zero, zero_add]
  refine Finset.sum_congr rfl fun i _ => ?_
  unfold dgRow
  ac_rfl

theorem ref_dx : Cert.ReferenceUpDxIdeal.Read.val_main_v51 (F := Ideal) x0 x1 x2 x3 x4 x5 = fun j => dxK x0 (dhm x2 x3 x4) x1 (j 0) (j 1) + x5 (ix2 (j 0) (j 1)) :=
  funext fun j => (congrArg _ (eq_ix2 j)).trans (ref_dx_at x0 x1 x2 x3 x4 x5 (j 0) (j 1))

theorem ref_dg : Cert.ReferenceUpDxIdeal.Read.val_main_v52 (F := Ideal) x0 x2 x3 x4 = fun j => dgSum x0 (dhm x2 x3 x4) (j 1) :=
  funext fun j => (congrArg _ (eq_ix2 j)).trans (ref_dg_at x0 x2 x3 x4 (j 0) (j 1))

end Reference

/-! ## The claims -/

theorem frameR : Cert.quiescent_ReferenceUpDxIdeal := fun m ρ _ =>
  (θ_run Cert.ReferenceUpDxIdeal.defs _ _).mono (fun r h => ⟨fun c => (h c).2.2,
      Idealize.ShloMosaic.sem_eq_zero_of_no_sems (by decide) r.2⟩)
    (Cert.ReferenceUpDxIdeal.Value.run (F := Ideal) m ρ)

theorem algebraic : Cert.algebraic_KernelUpDxIdeal_ReferenceUpDxIdeal := by
  intro m ρ m' ρ' hpre hagree
  refine ⟨fun c => (dats m 0 c).arrAt 7 cfg0.N, fun c => (dats m 0 c).arrAt 8 cfg0.N, Cert.KernelUpDxIdeal.Value.run_blocks (F := Ideal) m ρ, ?_⟩
  refine (θ_run Cert.ReferenceUpDxIdeal.defs _ _).mono (fun r h c => ?_) (Cert.ReferenceUpDxIdeal.Value.run (F := Ideal) m' ρ')
  obtain ⟨r0, r1, kept⟩ := h c
  obtain ⟨a0, a1, a2, a3, a4, a5⟩ := hagree c
  refine ⟨r0.trans ?_, r1.trans ?_, kept⟩
  · refine (Cert.ReferenceUpDxIdeal.Read.val_main_v51_eq _ _).trans ?_
    rw [a0, a1, a2, a3, a4, a5]
    exact (ref_dx _ _ _ _ _ _).trans (arr7 m c).symm
  · refine (Cert.ReferenceUpDxIdeal.Read.val_main_v52_eq _ _ _ _).trans ?_
    rw [a0, a2, a3, a4]
    exact (ref_dg _ _ _ _).trans (arr8 m c).symm

end Cert.UpDx

end
-- ==== Proof.UpDw.lean ====
/-
  The gradient of the up projection's weight, a stack of four column groups: each grid point takes its columns from one of two halves, and the products are accumulated over blocks of rows.
-/
module

public import proofs.«01_k».proof.Defs
public import proofs.«01_k».proof.Proof.Lits
public import proofs.«01_k».proof.Proof.Products
public import proofs.«01_k».proof.Proof.Gen.KernelUpDwIdeal.Value
public import proofs.«01_k».proof.Proof.Gen.ReferenceUpDwIdeal.Run
public import proofs.«01_k».proof.Proof.Gen.ReferenceUpDwIdeal.Read
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.UpDw

open Cert.KernelUpDwIdeal Cert.KernelUpDwIdeal.Gen Idealize.ShloMosaic Idealize.ShloMosaic.TcCoe Cert.Lits Cert.Products
open Idealize.SL.Sem
open Idealize.ShloMosaic.Pipeline (Dat)
open scoped BigOperators

/-- One of the four column groups of two matrices laid side by side. -/
def group (a b : Mat 8192 2816) (s : Fin 4) : Mat 8192 1408 := fun i =>
  if s.val < 2 then a (ix2 (i 0) ⟨1408 * (s.val % 2) + (i 1).val, by have h : (i 1).val < 1408 := (i 1).isLt; omega⟩)
  else b (ix2 (i 0) ⟨1408 * (s.val % 2) + (i 1).val, by have h : (i 1).val < 1408 := (i 1).isLt; omega⟩)

theorem at_of (A : Mat 8192 1024) (a b : Mat 8192 2816) {s s' : Fin 4} {i i' : Fin 1024} {j j' : Fin 1408} (hs : s = s') (hi : i = i') (hj : j = j') :
    tn A (group a b s) i j = tn A (group a b s') i' j' := by
  subst hs hi hj; rfl

/-- A grid point's half. -/
def half (i : grid0.Coords) (a b : Mat 1024 1408) : Mat 1024 1408 := if (i 1).val < 2 then a else b

theorem pick : ∀ k : Fin 4, Scalar.cmpi .slt (BitVec.ofNat 32 k.val) 2#32 = if k.val < 2 then 1#1 else 0#1 := by decide

theorem pay1_at (i : grid0.Coords) (v1 v2 : Vec Ideal S1024x1408 .bf16) (v4 : Vec Ideal S1024x1024 .bf16) (r : Fin 1024) (s : Fin 1408) :
    k0_pay1 i v1 v2 v4 (ix2 r s) = tn v4 (half i v1 v2) r s := by
  have h : Scalar.select (Scalar.cmpi .slt (BitVec.ofNat 32 (i 1).val) 2#32) v1 v2 = half i v1 v2 := by
    rw [show Scalar.cmpi .slt (BitVec.ofNat 32 (i 1).val) 2#32 = _ from pick (i 1)]
    unfold half
    by_cases h : (i 1).val < 2
    · rw [if_pos h, if_pos h]; rfl
    · rw [if_neg h, if_neg h]; rfl
  unfold k0_pay1
  dsimp only
  rw [h]
  generalize half i v1 v2 = v3
  pointwise
  rfl

theorem pay2_at (i : grid0.Coords) (v1 v2 : Vec Ideal S1024x1408 .bf16) (v4 : Vec Ideal S1024x1024 .bf16) (z : Fin 1) (r : Fin 1024) (s : Fin 1408) :
    k0_pay2 i v1 v2 v4 (ix3 z r s) = tn v4 (half i v1 v2) r s := by
  rw [← pay1_at i v1 v2]
  unfold k0_pay2
  generalize k0_pay1 i v1 v2 v4 = p
  pointwise

theorem pay3_at (i : grid0.Coords) (v1 v2 : Vec Ideal S1024x1408 .bf16) (v4 : Vec Ideal S1024x1024 .bf16) (v12 : Vec Ideal S1x1024x1408 .f32) (z : Fin 1) (r : Fin 1024) (s : Fin 1408) :
    k0_pay3 i v1 v2 v4 v12 (ix3 z r s) = v12 (ix3 z r s) + tn v4 (half i v1 v2) r s := by
  rw [← pay1_at i v1 v2]
  unfold k0_pay3
  generalize k0_pay1 i v1 v2 v4 = p
  obtain rfl : z = 0 := Subsingleton.elim _ _
  pointwise

theorem out_A {F : FTy → Type} [FloatOps F] (c : Dev nD) (i : grid0.Coords) (arg3 : Memref sig .tc .vmem S1024x1024 .bf16) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1x1024x1408 .f32) (harg6 : arg6.IsWhole) (hc0 : cond0_0 i) (hc1 : ¬cond0_1 i)
    (x0 : Vec F S1024x1024 .bf16) (x1 : Vec F S1024x1408 .bf16) (x2 : Vec F S1024x1408 .bf16) :
    out0_A_3 c i arg3 harg3 arg4 harg4 arg5 harg5 arg6 harg6 hc0 hc1 x0 x1 x2 = k0_pay2 i x1 x2 x0 := by
  unfold out0_A_3
  rw [View.read_writes_eq_canon _ _ _ (cover0_A_3 c i arg3 harg3 arg4 harg4 arg5 harg5 arg6 harg6 hc0 hc1 x0 x1 x2)]
  unfold kernelRun0_A
  dsimp only
  sl_unfold_run_names
  rw [View.canon_unit_zero (S := S1x1024x1408) off3]
  simp only [View.readAt_eq_ld, harg3.read_unread, harg4.read_unread, harg5.read_unread, harg6.read_unread, View.ld_unit_zero (S := S1024x1408) off2, View.ld_unit_zero (S := S1024x1024) off2, View.ld_unit_zero (S := S1x1024x1408) off3]

theorem out_B {F : FTy → Type} [FloatOps F] (c : Dev nD) (i : grid0.Coords) (arg3 : Memref sig .tc .vmem S1024x1024 .bf16) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1x1024x1408 .f32) (harg6 : arg6.IsWhole) (hc0 : ¬cond0_0 i) (hc1 : cond0_1 i)
    (x0 : Vec F S1024x1024 .bf16) (x1 : Vec F S1024x1408 .bf16) (x2 : Vec F S1024x1408 .bf16) (xo3 : Vec F S1x1024x1408 .f32) :
    out0_B_3 c i arg3 harg3 arg4 harg4 arg5 harg5 arg6 harg6 hc0 hc1 x0 x1 x2 xo3 = k0_pay3 i x1 x2 x0 xo3 := by
  unfold out0_B_3
  rw [View.read_writes_eq_canon _ _ _ (cover0_B_3 c i arg3 harg3 arg4 harg4 arg5 harg5 arg6 harg6 hc0 hc1 x0 x1 x2 xo3)]
  unfold kernelRun0_B
  dsimp only
  sl_unfold_run_names
  rw [View.canon_unit_zero (S := S1x1024x1408) off3]
  simp only [View.readAt_eq_ld, harg3.read_unread, harg4.read_unread, harg5.read_unread, harg6.read_unread, View.ld_unit_zero (S := S1024x1408) off2, View.ld_unit_zero (S := S1024x1024) off2, View.ld_unit_zero (S := S1x1024x1408) off3]

variable (m : (ℓ : Loc nD τ sig) → Buf (Elt Ideal) ℓ)

theorem idx : ∀ t : Fin cfg0.N, win0_0.index t = ![t.val % 8, 0] ∧ win0_1.index t = ![t.val % 8, min (t.val / 8) 1] ∧ win0_2.index t = ![t.val % 8, t.val / 8 - 2] ∧ win0_3.index t = ![t.val / 8, 0, 0] ∧ (grid0.coords t 1).val = t.val / 8 :=
  (by decide +kernel : ∀ t : Fin grid0.N, win0_0.index t = ![t.val % 8, 0] ∧ win0_1.index t = ![t.val % 8, min (t.val / 8) 1] ∧ win0_2.index t = ![t.val % 8, t.val / 8 - 2] ∧ win0_3.index t = ![t.val / 8, 0, 0] ∧ (grid0.coords t 1).val = t.val / 8)

theorem blk0 (c : Dev nD) (t : Fin cfg0.N) (r : Fin 1024) (s : Fin 1024) :
    iblk m c 0 t (ix2 r s) = m ((c : Thread nD τ).loc main_arg0) (ix2 ⟨1024 * (t.val % 8) + r, by omega⟩ s) := by
  blk_ext [iblk, V, (idx t).1]

theorem blk1 (c : Dev nD) (t : Fin cfg0.N) (r : Fin 1024) (s : Fin 1408) :
    iblk m c 1 t (ix2 r s) = m ((c : Thread nD τ).loc main_arg1) (ix2 ⟨1024 * (t.val % 8) + r, by omega⟩ ⟨1408 * min (t.val / 8) 1 + s, by omega⟩) := by
  blk_ext [iblk, V, (idx t).2.1]

theorem blk2 (c : Dev nD) (t : Fin cfg0.N) (r : Fin 1024) (s : Fin 1408) :
    iblk m c 2 t (ix2 r s) = m ((c : Thread nD τ).loc main_arg2) (ix2 ⟨1024 * (t.val % 8) + r, by omega⟩ ⟨1408 * (t.val / 8 - 2) + s, by have h : t.val < 32 := t.isLt; omega⟩) := by
  blk_ext [iblk, V, (idx t).2.2.1]

/-- The half that a grid point takes, as columns of the group. -/
theorem half_at (c : Dev nD) (t : Fin cfg0.N) (r : Fin 1024) (s : Fin 1408) :
    half (grid0.coords t) (iblk m c 1 t) (iblk m c 2 t) (ix2 r s) = group (m ((c : Thread nD τ).loc main_arg1)) (m ((c : Thread nD τ).loc main_arg2))
      ⟨t.val / 8, by have h : t.val < 32 := t.isLt; omega⟩ (ix2 ⟨1024 * (t.val % 8) + r, by omega⟩ s) := by
  have hN : t.val < 32 := t.isLt
  have e := (idx t).2.2.2.2
  unfold half group
  by_cases h : t.val / 8 < 2
  · rw [if_pos (by omega)]
    refine (blk1 m c t r s).trans (Eq.trans ?_ (if_pos h).symm)
    refine congrArg (m ((c : Thread nD τ).loc main_arg1)) (congrArg (ix2 _) (Fin.ext ?_))
    show 1408 * min (t.val / 8) 1 + s.val = 1408 * (t.val / 8 % 2) + s.val
    omega
  · rw [if_neg (by omega)]
    refine (blk2 m c t r s).trans (Eq.trans ?_ (if_neg h).symm)
    refine congrArg (m ((c : Thread nD τ).loc main_arg2)) (congrArg (ix2 _) (Fin.ext ?_))
    show 1408 * (t.val / 8 - 2) + s.val = 1408 * (t.val / 8 % 2) + s.val
    omega

/-- A grid point's product of its blocks. -/
def part (c : Dev nD) (t : Fin cfg0.N) (y : S1x1024x1408.Idx) : EReal :=
  tn (iblk m c 0 t) (half (grid0.coords t) (iblk m c 1 t) (iblk m c 2 t)) (y 1) (y 2)

theorem step_A (c : Dev nD) (t : Fin cfg0.N) (h : t.val % 8 = 0) (y : S1x1024x1408.Idx) : outsAt0 m c t.val t.isLt y = 0 + part m c t y := by
  rw [outsAt0_A m c t (by omega) (by omega)]
  rw [zero_add]
  refine (congrFun (out_A (F := Ideal) ..) y).trans ?_
  rw [eq_ix3 y]
  exact pay2_at _ _ _ _ (y 0) (y 1) (y 2)

theorem step_B (c : Dev nD) (t : Fin cfg0.N) (h : ¬t.val % 8 = 0) (y : S1x1024x1408.Idx) :
    outsAt0 m c t.val t.isLt y = outsAt0 m c (t.val - 1) (Nat.lt_of_le_of_lt (Nat.sub_le _ _) t.isLt) y + part m c t y := by
  rw [outsAt0_B m c t (by omega) (by omega)]
  refine (congrFun (out_B (F := Ideal) ..) y).trans ?_
  rw [eq_ix3 y]
  exact pay3_at _ _ _ _ _ (y 0) (y 1) (y 2)

theorem arr3 (c : Dev nD) : (dats m 0 c).arrAt 3 cfg0.N
    = fun j : S4x1024x1408.Idx => tn (m ((c : Thread nD τ).loc main_arg0)) (group (m ((c : Thread nD τ).loc main_arg1)) (m ((c : Thread nD τ).loc main_arg2)) (j 0)) (j 1) (j 2) := by
  refine (dats m 0 c).arrAt_eq_of_covers 3 _ (by decide +kernel) fun t hf y => ?_
  blk_simp
  rw [after0_3]
  have hr : t.val % 8 = 8 - 1 := (flush0_3 t).mp hf
  have hN : t.val < 32 := t.isLt
  refine (Pipeline.eq_sum_fin_of_reset_step_apply_of_flush (outsAt0 m c) 8 (fun _ => 0) (part m c) (step_A m c) (step_B m c) t hr y).trans ?_
  rw [zero_add]
  refine (tn_stretches (B := group (m ((c : Thread nD τ).loc main_arg1)) (m ((c : Thread nD τ).loc main_arg2)) ⟨t.val / 8, by omega⟩)
    (i := y 1) (j := y 2) (fun l k => ⟨1024 * ((8 * (t.val / 8) + l.val) % 8) + k.val, by omega⟩) (fun l k => blk0 m c _ k (y 1))
    (fun l k => (half_at m c _ k (y 2)).trans ?_) (fun l k => by dsimp only; omega) (by norm_num) (fun l k => rfl) (fun l k => rfl)).trans ?_
  · refine congrArg (fun s => group _ _ s _) (Fin.ext ?_)
    dsimp only
    omega
  · have h0 : (y 0 : ℕ) < 1 := (y 0).isLt
    have h1 : (y 1 : ℕ) < 1024 := (y 1).isLt
    have h2 : (y 2 : ℕ) < 1408 := (y 2).isLt
    refine at_of (m ((c : Thread nD τ).loc main_arg0)) (m ((c : Thread nD τ).loc main_arg1)) (m ((c : Thread nD τ).loc main_arg2)) (Fin.ext ?_) (Fin.ext ?_) (Fin.ext ?_)
    · blk_simp [(idx t).2.2.2.1]
    · blk_simp [(idx t).2.2.2.1]
    · blk_simp [(idx t).2.2.2.1]

theorem joined (x0 : S8192x1024.Idx → EReal) (x1 x2 : S8192x2816.Idx → EReal) (s : Fin 4) (r : Fin 1024) (l : Fin 1408) :
    Cert.ReferenceUpDwIdeal.Read.val_main_v30 (F := Ideal) x0 x1 x2 (ix3 s r l)
      = Cert.ReferenceUpDwIdeal.Read.val_main_v14 (F := Ideal) x0 x1 x2 (ix2 ⟨1408 * s.val + l.val, by omega⟩ r) := by
  unfold Cert.ReferenceUpDwIdeal.Read.val_main_v30 Cert.ReferenceUpDwIdeal.Read.val_main_v29 Cert.ReferenceUpDwIdeal.Read.val_main_v28 Cert.ReferenceUpDwIdeal.Read.val_main_v27 Cert.ReferenceUpDwIdeal.Read.val_main_v26 Cert.ReferenceUpDwIdeal.Read.val_main_v25 Cert.ReferenceUpDwIdeal.Read.val_main_v24 Cert.ReferenceUpDwIdeal.Read.val_main_v23 Cert.ReferenceUpDwIdeal.Read.val_main_v22 Cert.ReferenceUpDwIdeal.Read.val_main_v21 Cert.ReferenceUpDwIdeal.Read.val_main_v20 Cert.ReferenceUpDwIdeal.Read.val_main_v19 Cert.ReferenceUpDwIdeal.Read.val_main_v18 Cert.ReferenceUpDwIdeal.Read.val_main_v17 Cert.ReferenceUpDwIdeal.Read.val_main_v16 Cert.ReferenceUpDwIdeal.Read.val_main_v15 Cert.ReferenceUpDwIdeal.Read.val_main_cst_0 Cert.ReferenceUpDwIdeal.Read.val_main_cst_1 Cert.ReferenceUpDwIdeal.Read.val_main_cst_2 Cert.ReferenceUpDwIdeal.Read.val_main_cst_3
  generalize Cert.ReferenceUpDwIdeal.Read.val_main_v14 (F := Ideal) x0 x1 x2 = p
  pointwise
  obtain ⟨s, hs⟩ := s
  interval_cases s <;> simp

theorem halves (x1 x2 : S8192x2816.Idx → EReal) (k : Fin 8192) (s : Fin 4) (l : Fin 1408) :
    Cert.ReferenceUpDwIdeal.Read.val_main_v1 (F := Ideal) x1 x2 (ix2 k ⟨1408 * s.val + l.val, by omega⟩) = group x1 x2 s (ix2 k l) := by
  unfold Cert.ReferenceUpDwIdeal.Read.val_main_v1 Cert.ReferenceUpDwIdeal.Read.val_main_v0 group
  pointwise
  by_cases h : s.val < 2
  · rw [dif_pos (by omega), if_pos h]
    exact congrArg x1 (congrArg (ix2 k) (Fin.ext (by dsimp only; omega)))
  · rw [dif_neg (by omega), if_neg h]
    exact congrArg x2 (congrArg (ix2 k) (Fin.ext (by dsimp only; omega)))

theorem ref_at (x0 : S8192x1024.Idx → EReal) (x1 x2 : S8192x2816.Idx → EReal) :
    Cert.ReferenceUpDwIdeal.Read.val_main_v30 (F := Ideal) x0 x1 x2 = fun j => tn x0 (group x1 x2 (j 0)) (j 1) (j 2) := by
  funext j
  refine ((congrArg _ (eq_ix3 j)).trans (joined x0 x1 x2 (j 0) (j 1) (j 2))).trans ?_
  refine (Cert.ReferenceUpDwIdeal.Read.val_main_v14_apply x0 x1 x2 _).trans (Finset.sum_congr rfl fun k _ => ?_)
  refine (mul_comm _ _).trans (congrArg₂ (· * ·) ((Cert.ReferenceUpDwIdeal.Read.val_main_v3_apply (F := Ideal) x0 _).trans (congrArg x0 ?_))
    ((congrArg (Cert.ReferenceUpDwIdeal.Read.val_main_v1 (F := Ideal) x1 x2) ?_).trans (halves x1 x2 k (j 0) (j 2))))
  · funext a; match a with
    | ⟨0, _⟩ => rfl
    | ⟨1, _⟩ => rfl
  · funext a; match a with
    | ⟨0, _⟩ => rfl
    | ⟨1, _⟩ => rfl

theorem frameR : Cert.quiescent_ReferenceUpDwIdeal := fun m ρ _ =>
  (θ_run Cert.ReferenceUpDwIdeal.defs _ _).mono (fun r h => ⟨fun c => (h c).2,
      Idealize.ShloMosaic.sem_eq_zero_of_no_sems (by decide) r.2⟩)
    (Cert.ReferenceUpDwIdeal.Value.run (F := Ideal) m ρ)

theorem algebraic : Cert.algebraic_KernelUpDwIdeal_ReferenceUpDwIdeal := by
  intro m ρ m' ρ' hpre hagree
  refine ⟨fun c => (dats m 0 c).arrAt 3 cfg0.N, Cert.KernelUpDwIdeal.Value.run_blocks (F := Ideal) m ρ, ?_⟩
  refine (θ_run Cert.ReferenceUpDwIdeal.defs _ _).mono (fun r h c => ?_) (Cert.ReferenceUpDwIdeal.Value.run (F := Ideal) m' ρ')
  obtain ⟨r0, kept⟩ := h c
  obtain ⟨a0, a1, a2⟩ := hagree c
  refine ⟨r0.trans ?_, kept⟩
  refine (Cert.ReferenceUpDwIdeal.Read.val_main_v30_eq _ _ _).trans ?_
  rw [a0, a1, a2]
  exact (ref_at _ _ _).trans (arr3 m c).symm

end Cert.UpDw

end
-- ==== Proof.In.lean ====
/-
  The input projection: one product, a block of it at each grid point.
-/
module

public import proofs.«01_k».proof.Defs
public import proofs.«01_k».proof.Proof.Lits
public import proofs.«01_k».proof.Proof.Products
public import proofs.«01_k».proof.Proof.Gen.KernelInIdeal.Value
public import proofs.«01_k».proof.Proof.Gen.ReferenceInIdeal.Run
public import proofs.«01_k».proof.Proof.Gen.ReferenceInIdeal.Read
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.In

open Cert.KernelInIdeal Cert.KernelInIdeal.Gen Idealize.ShloMosaic Idealize.ShloMosaic.TcCoe Cert.Lits Cert.Products
open Idealize.SL.Sem
open Idealize.ShloMosaic.Pipeline (Dat)
open scoped BigOperators

theorem pay_at (v0 : Vec Ideal S1024x1792 .bf16) (v1 : Vec Ideal S2048x1024 .bf16) (r : Fin 2048) (s : Fin 1792) :
    k0_pay1 v0 v1 (ix2 r s) = nn v1 v0 r s := by
  unfold k0_pay1
  pointwise
  rfl

/-- A grid point's block of the product. -/
theorem out_at (x0 : Vec Ideal S2048x1024 .bf16) (x1 : Vec Ideal S1024x1792 .bf16) (y : S2048x1792.Idx) :
    out0_2 x0 x1 y = nn x0 x1 (y 0) (y 1) := by
  unfold out0_2
  rw [View.canon_unit_zero (S := S2048x1792) off2]
  rw [View.ld_unit_zero (S := S2048x1024) off2, View.ld_unit_zero (S := S1024x1792) off2]
  rw [eq_ix2 y]
  exact pay_at x1 x0 (y 0) (y 1)

variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4] :=
  (by decide +kernel : ∀ t : Fin grid0.N, win0_0.index t = ![t.val / 4, 0] ∧ win0_1.index t = ![0, t.val % 4] ∧ win0_2.index t = ![t.val / 4, t.val % 4])

theorem blk0 (c : Dev nD) (t : Fin cfg0.N) (r : Fin 2048) (s : Fin 1024) :
    iblk m c 0 t (ix2 r s) = m ((c : Thread nD τ).loc main_arg0) (ix2 ⟨2048 * (t.val / 4) + r, by have h : t.val < 16 := t.isLt; omega⟩ s) := by
  blk_ext [iblk, V, (idx t).1]

theorem blk1 (c : Dev nD) (t : Fin cfg0.N) (r : Fin 1024) (s : Fin 1792) :
    iblk m c 1 t (ix2 r s) = m ((c : Thread nD τ).loc main_arg1) (ix2 r ⟨1792 * (t.val % 4) + s, by have h : t.val < 16 := t.isLt; omega⟩) := by
  blk_ext [iblk, V, (idx t).2.1]

theorem arr2 (c : Dev nD) : (dats m 0 c).arrAt 2 cfg0.N
    = fun j : S8192x7168.Idx => nn (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  refine (out_at ..).trans (nn_of (blk0 m c t (y 0)) (fun k => blk1 m c t k (y 1)) (Fin.ext ?_) (Fin.ext ?_))
  · have h : (y 0 : ℕ) < 2048 := (y 0).isLt
    blk_simp [(idx t).2.2]
    dsimp only
    omega
  · have h : (y 1 : ℕ) < 1792 := (y 1).isLt
    blk_simp [(idx t).2.2]
    dsimp only
    omega

theorem ref_at (x0 : S8192x1024.Idx → EReal) (x1 : S1024x7168.Idx → EReal) :
    Cert.ReferenceInIdeal.Read.val_main_v2 (F := Ideal) x0 x1 = fun j => nn x0 x1 (j 0) (j 1) := by
  funext j
  refine (Cert.ReferenceInIdeal.Read.val_main_v2_apply x0 x1 j).trans (Finset.sum_congr rfl fun k _ => ?_)
  refine congrArg₂ (· * ·) ((Cert.ReferenceInIdeal.Read.val_main_v0_apply (F := Ideal) x0 _).trans (congrArg x0 ?_)) ((Cert.ReferenceInIdeal.Read.val_main_v1_apply (F := Ideal) x1 _).trans (congrArg x1 ?_))
  · funext a; match a with
    | ⟨0, _⟩ => rfl
    | ⟨1, _⟩ => rfl
  · funext a; match a with
    | ⟨0, _⟩ => rfl
    | ⟨1, _⟩ => rfl

theorem frameR : Cert.quiescent_ReferenceInIdeal := fun m ρ _ =>
  (θ_run Cert.ReferenceInIdeal.defs _ _).mono (fun r h => ⟨fun c => (h c).2,
      Idealize.ShloMosaic.sem_eq_zero_of_no_sems (by decide) r.2⟩)
    (Cert.ReferenceInIdeal.Value.run (F := Ideal) m ρ)

theorem algebraic : Cert.algebraic_KernelInIdeal_ReferenceInIdeal := by
  intro m ρ m' ρ' hpre hagree
  refine ⟨fun c => (dats m 0 c).arrAt 2 cfg0.N, Cert.KernelInIdeal.Value.run_blocks (F := Ideal) m ρ, ?_⟩
  refine (θ_run Cert.ReferenceInIdeal.defs _ _).mono (fun r h c => ?_) (Cert.ReferenceInIdeal.Value.run (F := Ideal) m' ρ')
  obtain ⟨r0, kept⟩ := h c
  obtain ⟨a0, a1⟩ := hagree c
  refine ⟨r0.trans ?_, kept⟩
  refine (Cert.ReferenceInIdeal.Read.val_main_v2_eq _ _).trans ?_
  rw [a0, a1]
  exact (ref_at _ _).trans (arr2 m c).symm

end Cert.In

end
-- ==== Proof.InDw.lean ====
/-
  The gradient of the input projection's weight: one product, accumulated over blocks of rows.
-/
module

public import proofs.«01_k».proof.Defs
public import proofs.«01_k».proof.Proof.Lits
public import proofs.«01_k».proof.Proof.Products
public import proofs.«01_k».proof.Proof.Gen.KernelInDwIdeal.Value
public import proofs.«01_k».proof.Proof.Gen.ReferenceInDwIdeal.Run
public import proofs.«01_k».proof.Proof.Gen.ReferenceInDwIdeal.Read
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.InDw

open Cert.KernelInDwIdeal Cert.KernelInDwIdeal.Gen Idealize.ShloMosaic Idealize.ShloMosaic.TcCoe Cert.Lits Cert.Products
open Idealize.SL.Sem
open Idealize.ShloMosaic.Pipeline (Dat)
open scoped BigOperators

theorem pay_at (v0 : Vec Ideal S1024x1792 .bf16) (v1 : Vec Ideal S1024x1024 .bf16) (r : Fin 1024) (s : Fin 1792) :
    k0_pay1 v0 v1 (ix2 r s) = tn v1 v0 r s := by
  unfold k0_pay1
  pointwise
  rfl

theorem pay2_at (v0 : Vec Ideal S1024x1792 .bf16) (v1 : Vec Ideal S1024x1024 .bf16) (v2 : Vec Ideal S1024x1792 .f32) (r : Fin 1024) (s : Fin 1792) :
    k0_pay2 v0 v1 v2 (ix2 r s) = v2 (ix2 r s) + tn v1 v0 r s := by
  rw [← pay_at v0 v1]
  unfold k0_pay2
  pointwise

theorem out_A {F : FTy → Type} [FloatOps F] (c : Dev nD) (i : grid0.Coords) (arg3 : Memref sig .tc .vmem S1024x1024 .bf16) (harg3 : arg3.IsWhole) (arg4 : Memref sig .tc .vmem S1024x1792 .bf16) (harg4 : arg4.IsWhole) (arg5 : Memref sig .tc .vmem S1024x1792 .f32) (harg5 : arg5.IsWhole) (hc0 : cond0_0 i) (hc1 : ¬cond0_1 i)
    (x0 : Vec F S1024x1024 .bf16) (x1 : Vec F S1024x1792 .bf16) :
    out0_A_2 c i arg3 harg3 arg4 harg4 arg5 harg5 hc0 hc1 x0 x1 = k0_pay1 x1 x0 := by
  unfold out0_A_2
  rw [View.read_writes_eq_canon _ _ _ (cover0_A_2 c i arg3 harg3 arg4 harg4 arg5 harg5 hc0 hc1 x0 x1)]
  unfold kernelRun0_A
  dsimp only
  sl_unfold_run_names
  rw [View.canon_unit_zero (S := S1024x1792) off2]
  simp only [View.readAt_eq_ld, harg3.read_unread, harg4.read_unread, harg5.read_unread, View.ld_unit_zero (S := S1024x1024) off2, View.ld_unit_zero (S := S1024x1792) off2]

theorem out_B {F : FTy → Type} [FloatOps F] (c : Dev nD) (i : grid0.Coords) (arg3 : Memref sig .tc .vmem S1024x1024 .bf16) (harg3 : arg3.IsWhole) (arg4 : Memref sig .tc .vmem S1024x1792 .bf16) (harg4 : arg4.IsWhole) (arg5 : Memref sig .tc .vmem S1024x1792 .f32) (harg5 : arg5.IsWhole) (hc0 : ¬cond0_0 i) (hc1 : cond0_1 i)
    (x0 : Vec F S1024x1024 .bf16) (x1 : Vec F S1024x1792 .bf16) (xo2 : Vec F S1024x1792 .f32) :
    out0_B_2 c i arg3 harg3 arg4 harg4 arg5 harg5 hc0 hc1 x0 x1 xo2 = k0_pay2 x1 x0 xo2 := by
  unfold out0_B_2
  rw [View.read_writes_eq_canon _ _ _ (cover0_B_2 c i arg3 harg3 arg4 harg4 arg5 harg5 hc0 hc1 x0 x1 xo2)]
  unfold kernelRun0_B
  dsimp only
  sl_unfold_run_names
  rw [View.canon_unit_zero (S := S1024x1792) off2]
  simp only [View.readAt_eq_ld, harg3.read_unread, harg4.read_unread, harg5.read_unread, View.ld_unit_zero (S := S1024x1024) off2, View.ld_unit_zero (S := S1024x1792) off2]

variable (m : (ℓ : Loc nD τ sig) → Buf (Elt Ideal) ℓ)

theorem idx : ∀ t : Fin cfg0.N, win0_0.index t = ![t.val % 8, 0] ∧ win0_1.index t = ![t.val % 8, t.val / 8] ∧ win0_2.index t = ![0, t.val / 8] :=
  (by decide +kernel : ∀ t : Fin grid0.N, win0_0.index t = ![t.val % 8, 0] ∧ win0_1.index t = ![t.val % 8, t.val / 8] ∧ win0_2.index t = ![0, t.val / 8])

theorem blk0 (c : Dev nD) (t : Fin cfg0.N) (r : Fin 1024) (s : Fin 1024) :
    iblk m c 0 t (ix2 r s) = m ((c : Thread nD τ).loc main_arg0) (ix2 ⟨1024 * (t.val % 8) + r, by have h : t.val < 32 := t.isLt; omega⟩ s) := by
  blk_ext [iblk, V, (idx t).1]

theorem blk1 (c : Dev nD) (t : Fin cfg0.N) (r : Fin 1024) (s : Fin 1792) :
    iblk m c 1 t (ix2 r s) = m ((c : Thread nD τ).loc main_arg1) (ix2 ⟨1024 * (t.val % 8) + r, by have h : t.val < 32 := t.isLt; omega⟩ ⟨1792 * (t.val / 8) + s, by have h : t.val < 32 := t.isLt; omega⟩) := by
  blk_ext [iblk, V, (idx t).2.1]

/-- A grid point's product of its blocks. -/
def part (c : Dev nD) (t : Fin cfg0.N) (y : S1024x1792.Idx) : EReal :=
  tn (iblk m c 0 t) (iblk m c 1 t) (y 0) (y 1)

theorem step_A (c : Dev nD) (t : Fin cfg0.N) (h : t.val % 8 = 0) (y : S1024x1792.Idx) : outsAt0 m c t.val t.isLt y = 0 + part m c t y := by
  have hN : t.val < 32 := t.isLt
  rw [outsAt0_A m c t (by omega) (by omega)]
  rw [zero_add]
  refine (congrFun (out_A (F := Ideal) ..) y).trans ?_
  rw [eq_ix2 y]
  exact pay_at _ _ (y 0) (y 1)

theorem step_B (c : Dev nD) (t : Fin cfg0.N) (h : ¬t.val % 8 = 0) (y : S1024x1792.Idx) :
    outsAt0 m c t.val t.isLt y = outsAt0 m c (t.val - 1) (Nat.lt_of_le_of_lt (Nat.sub_le _ _) t.isLt) y + part m c t y := by
  have hN : t.val < 32 := t.isLt
  rw [outsAt0_B m c t (by omega) (by omega)]
  refine (congrFun (out_B (F := Ideal) ..) y).trans ?_
  rw [eq_ix2 y]
  exact pay2_at _ _ _ (y 0) (y 1)

theorem arr2 (c : Dev nD) : (dats m 0 c).arrAt 2 cfg0.N
    = fun j : S1024x7168.Idx => tn (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  have hr : t.val % 8 = 8 - 1 := (flush0_2 t).mp hf
  have hN : t.val < 32 := t.isLt
  refine (Pipeline.eq_sum_fin_of_reset_step_apply_of_flush (outsAt0 m c) 8 (fun _ => 0) (part m c) (step_A m c) (step_B m c) t hr y).trans ?_
  rw [zero_add]
  refine tn_stretches (fun l k => ⟨1024 * ((8 * (t.val / 8) + l.val) % 8) + k.val, by omega⟩) (fun l k => blk0 m c _ k (y 0)) (fun l k => blk1 m c _ k (y 1)) (fun l k => by dsimp only; omega) (by norm_num) (fun l k => Fin.ext ?_) (fun l k => Fin.ext ?_)
  · have h : (y 0 : ℕ) < 1024 := (y 0).isLt
    blk_simp [(idx t).2.2]
  · have h : (y 1 : ℕ) < 1792 := (y 1).isLt
    blk_simp [(idx t).2.2]
    dsimp only
    omega

theorem ref_at (x0 : S8192x1024.Idx → EReal) (x1 : S8192x7168.Idx → EReal) :
    Cert.ReferenceInDwIdeal.Read.val_main_v5 (F := Ideal) x0 x1 = fun j => tn x0 x1 (j 0) (j 1) := by
  funext j
  refine (Cert.ReferenceInDwIdeal.Read.val_main_v5_apply (F := Ideal) x0 x1 j).trans ?_
  refine (Cert.ReferenceInDwIdeal.Read.val_main_v4_apply x0 x1 _).trans (Finset.sum_congr rfl fun k _ => ?_)
  refine (mul_comm _ _).trans (congrArg₂ (· * ·) ((Cert.ReferenceInDwIdeal.Read.val_main_v1_apply (F := Ideal) x0 _).trans (congrArg x0 ?_)) ((Cert.ReferenceInDwIdeal.Read.val_main_v3_apply (F := Ideal) x1 _).trans (congrArg x1 ?_)))
  · funext a; match a with
    | ⟨0, _⟩ => rfl
    | ⟨1, _⟩ => rfl
  · funext a; match a with
    | ⟨0, _⟩ => rfl
    | ⟨1, _⟩ => rfl

theorem frameR : Cert.quiescent_ReferenceInDwIdeal := fun m ρ _ =>
  (θ_run Cert.ReferenceInDwIdeal.defs _ _).mono (fun r h => ⟨fun c => (h c).2,
      Idealize.ShloMosaic.sem_eq_zero_of_no_sems (by decide) r.2⟩)
    (Cert.ReferenceInDwIdeal.Value.run (F := Ideal) m ρ)

theorem algebraic : Cert.algebraic_KernelInDwIdeal_ReferenceInDwIdeal := by
  intro m ρ m' ρ' hpre hagree
  refine ⟨fun c => (dats m 0 c).arrAt 2 cfg0.N, Cert.KernelInDwIdeal.Value.run_blocks (F := Ideal) m ρ, ?_⟩
  refine (θ_run Cert.ReferenceInDwIdeal.defs _ _).mono (fun r h c => ?_) (Cert.ReferenceInDwIdeal.Value.run (F := Ideal) m' ρ')
  obtain ⟨r0, kept⟩ := h c
  obtain ⟨a0, a1⟩ := hagree c
  refine ⟨r0.trans ?_, kept⟩
  refine (Cert.ReferenceInDwIdeal.Read.val_main_v5_eq _ _).trans ?_
  rw [a0, a1]
  exact (ref_at _ _).trans (arr2 m c).symm

end Cert.InDw

end
-- ==== Proof.InDx.lean ====
/-
  The gradient of the input projection's input: one product, accumulated over blocks of columns.
-/
module

public import proofs.«01_k».proof.Defs
public import proofs.«01_k».proof.Proof.Lits
public import proofs.«01_k».proof.Proof.Products
public import proofs.«01_k».proof.Proof.Gen.KernelInDxIdeal.Value
public import proofs.«01_k».proof.Proof.Gen.ReferenceInDxIdeal.Run
public import proofs.«01_k».proof.Proof.Gen.ReferenceInDxIdeal.Read
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.InDx

open Cert.KernelInDxIdeal Cert.KernelInDxIdeal.Gen Idealize.ShloMosaic Idealize.ShloMosaic.TcCoe Cert.Lits Cert.Products
open Idealize.SL.Sem
open Idealize.ShloMosaic.Pipeline (Dat)
open scoped BigOperators

theorem pay_at (v0 : Vec Ideal S1024x1792 .bf16) (v1 : Vec Ideal S2048x1792 .bf16) (r : Fin 2048) (s : Fin 1024) :
    k0_pay1 v0 v1 (ix2 r s) = nt v1 v0 r s := by
  unfold k0_pay1
  pointwise
  rfl

theorem pay2_at (v0 : Vec Ideal S1024x1792 .bf16) (v1 : Vec Ideal S2048x1792 .bf16) (v2 : Vec Ideal S2048x1024 .f32) (r : Fin 2048) (s : Fin 1024) :
    k0_pay2 v0 v1 v2 (ix2 r s) = v2 (ix2 r s) + nt v1 v0 r s := by
  rw [← pay_at v0 v1]
  unfold k0_pay2
  pointwise

theorem out_A {F : FTy → Type} [FloatOps F] (c : Dev nD) (i : grid0.Coords) (arg3 : Memref sig .tc .vmem S2048x1792 .bf16) (harg3 : arg3.IsWhole) (arg4 : Memref sig .tc .vmem S1024x1792 .bf16) (harg4 : arg4.IsWhole) (arg5 : Memref sig .tc .vmem S2048x1024 .f32) (harg5 : arg5.IsWhole) (hc0 : cond0_0 i) (hc1 : ¬cond0_1 i)
    (x0 : Vec F S2048x1792 .bf16) (x1 : Vec F S1024x1792 .bf16) :
    out0_A_2 c i arg3 harg3 arg4 harg4 arg5 harg5 hc0 hc1 x0 x1 = k0_pay1 x1 x0 := by
  unfold out0_A_2
  rw [View.read_writes_eq_canon _ _ _ (cover0_A_2 c i arg3 harg3 arg4 harg4 arg5 harg5 hc0 hc1 x0 x1)]
  unfold kernelRun0_A
  dsimp only
  sl_unfold_run_names
  rw [View.canon_unit_zero (S := S2048x1024) off2]
  simp only [View.readAt_eq_ld, harg3.read_unread, harg4.read_unread, harg5.read_unread, View.ld_unit_zero (S := S2048x1792) off2, View.ld_unit_zero (S := S1024x1792) off2, View.ld_unit_zero (S := S2048x1024) off2]

theorem out_B {F : FTy → Type} [FloatOps F] (c : Dev nD) (i : grid0.Coords) (arg3 : Memref sig .tc .vmem S2048x1792 .bf16) (harg3 : arg3.IsWhole) (arg4 : Memref sig .tc .vmem S1024x1792 .bf16) (harg4 : arg4.IsWhole) (arg5 : Memref sig .tc .vmem S2048x1024 .f32) (harg5 : arg5.IsWhole) (hc0 : ¬cond0_0 i) (hc1 : cond0_1 i)
    (x0 : Vec F S2048x1792 .bf16) (x1 : Vec F S1024x1792 .bf16) (xo2 : Vec F S2048x1024 .f32) :
    out0_B_2 c i arg3 harg3 arg4 harg4 arg5 harg5 hc0 hc1 x0 x1 xo2 = k0_pay2 x1 x0 xo2 := by
  unfold out0_B_2
  rw [View.read_writes_eq_canon _ _ _ (cover0_B_2 c i arg3 harg3 arg4 harg4 arg5 harg5 hc0 hc1 x0 x1 xo2)]
  unfold kernelRun0_B
  dsimp only
  sl_unfold_run_names
  rw [View.canon_unit_zero (S := S2048x1024) off2]
  simp only [View.readAt_eq_ld, harg3.read_unread, harg4.read_unread, harg5.read_unread, View.ld_unit_zero (S := S2048x1792) off2, View.ld_unit_zero (S := S1024x1792) off2, View.ld_unit_zero (S := S2048x1024) off2]

variable (m : (ℓ : Loc nD τ sig) → Buf (Elt Ideal) ℓ)

theorem idx : ∀ t : Fin cfg0.N, win0_0.index t = ![t.val / 4, t.val % 4] ∧ win0_1.index t = ![0, t.val % 4] ∧ win0_2.index t = ![t.val / 4, 0] :=
  (by decide +kernel : ∀ t : Fin grid0.N, win0_0.index t = ![t.val / 4, t.val % 4] ∧ win0_1.index t = ![0, t.val % 4] ∧ win0_2.index t = ![t.val / 4, 0])

theorem blk0 (c : Dev nD) (t : Fin cfg0.N) (r : Fin 2048) (s : Fin 1792) :
    iblk m c 0 t (ix2 r s) = m ((c : Thread nD τ).loc main_arg0) (ix2 ⟨2048 * (t.val / 4) + r, by have h : t.val < 16 := t.isLt; omega⟩ ⟨1792 * (t.val % 4) + s, by have h : t.val < 16 := t.isLt; omega⟩) := by
  blk_ext [iblk, V, (idx t).1]

theorem blk1 (c : Dev nD) (t : Fin cfg0.N) (r : Fin 1024) (s : Fin 1792) :
    iblk m c 1 t (ix2 r s) = m ((c : Thread nD τ).loc main_arg1) (ix2 r ⟨1792 * (t.val % 4) + s, by have h : t.val < 16 := t.isLt; omega⟩) := by
  blk_ext [iblk, V, (idx t).2.1]

/-- A grid point's product of its blocks. -/
def part (c : Dev nD) (t : Fin cfg0.N) (y : S2048x1024.Idx) : EReal :=
  nt (iblk m c 0 t) (iblk m c 1 t) (y 0) (y 1)

theorem step_A (c : Dev nD) (t : Fin cfg0.N) (h : t.val % 4 = 0) (y : S2048x1024.Idx) : outsAt0 m c t.val t.isLt y = 0 + part m c t y := by
  have hN : t.val < 16 := t.isLt
  rw [outsAt0_A m c t (by omega) (by omega)]
  rw [zero_add]
  refine (congrFun (out_A (F := Ideal) ..) y).trans ?_
  rw [eq_ix2 y]
  exact pay_at _ _ (y 0) (y 1)

theorem step_B (c : Dev nD) (t : Fin cfg0.N) (h : ¬t.val % 4 = 0) (y : S2048x1024.Idx) :
    outsAt0 m c t.val t.isLt y = outsAt0 m c (t.val - 1) (Nat.lt_of_le_of_lt (Nat.sub_le _ _) t.isLt) y + part m c t y := by
  have hN : t.val < 16 := t.isLt
  rw [outsAt0_B m c t (by omega) (by omega)]
  refine (congrFun (out_B (F := Ideal) ..) y).trans ?_
  rw [eq_ix2 y]
  exact pay2_at _ _ _ (y 0) (y 1)

theorem arr2 (c : Dev nD) : (dats m 0 c).arrAt 2 cfg0.N
    = fun j : S8192x1024.Idx => nt (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  have hr : t.val % 4 = 4 - 1 := (flush0_2 t).mp hf
  have hN : t.val < 16 := t.isLt
  refine (Pipeline.eq_sum_fin_of_reset_step_apply_of_flush (outsAt0 m c) 4 (fun _ => 0) (part m c) (step_A m c) (step_B m c) t hr y).trans ?_
  rw [zero_add]
  refine nt_stretches (fun l k => ⟨1792 * ((4 * (t.val / 4) + l.val) % 4) + k.val, by omega⟩) (fun l k => blk0 m c _ (y 0) k) (fun l k => blk1 m c _ (y 1) k) (fun l k => by dsimp only; omega) (by norm_num) (fun l k => Fin.ext ?_) (fun l k => Fin.ext ?_)
  · have h : (y 0 : ℕ) < 2048 := (y 0).isLt
    blk_simp [(idx t).2.2]
    dsimp only
    omega
  · have h : (y 1 : ℕ) < 1024 := (y 1).isLt
    blk_simp [(idx t).2.2]

theorem ref_at (x0 : S8192x7168.Idx → EReal) (x1 : S1024x7168.Idx → EReal) :
    Cert.ReferenceInDxIdeal.Read.val_main_v4 (F := Ideal) x0 x1 = fun j => nt x0 x1 (j 0) (j 1) := by
  funext j
  refine (Cert.ReferenceInDxIdeal.Read.val_main_v4_apply x0 x1 j).trans (Finset.sum_congr rfl fun k _ => ?_)
  refine congrArg₂ (· * ·) ((Cert.ReferenceInDxIdeal.Read.val_main_v3_apply (F := Ideal) x0 _).trans (congrArg x0 ?_)) ((Cert.ReferenceInDxIdeal.Read.val_main_v1_apply (F := Ideal) x1 _).trans (congrArg x1 ?_))
  · funext a; match a with
    | ⟨0, _⟩ => rfl
    | ⟨1, _⟩ => rfl
  · funext a; match a with
    | ⟨0, _⟩ => rfl
    | ⟨1, _⟩ => rfl

theorem frameR : Cert.quiescent_ReferenceInDxIdeal := fun m ρ _ =>
  (θ_run Cert.ReferenceInDxIdeal.defs _ _).mono (fun r h => ⟨fun c => (h c).2,
      Idealize.ShloMosaic.sem_eq_zero_of_no_sems (by decide) r.2⟩)
    (Cert.ReferenceInDxIdeal.Value.run (F := Ideal) m ρ)

theorem algebraic : Cert.algebraic_KernelInDxIdeal_ReferenceInDxIdeal := by
  intro m ρ m' ρ' hpre hagree
  refine ⟨fun c => (dats m 0 c).arrAt 2 cfg0.N, Cert.KernelInDxIdeal.Value.run_blocks (F := Ideal) m ρ, ?_⟩
  refine (θ_run Cert.ReferenceInDxIdeal.defs _ _).mono (fun r h c => ?_) (Cert.ReferenceInDxIdeal.Value.run (F := Ideal) m' ρ')
  obtain ⟨r0, kept⟩ := h c
  obtain ⟨a0, a1⟩ := hagree c
  refine ⟨r0.trans ?_, kept⟩
  refine (Cert.ReferenceInDxIdeal.Read.val_main_v4_eq _ _).trans ?_
  rw [a0, a1]
  exact (ref_at _ _).trans (arr2 m c).symm

end Cert.InDx

end
-- ==== Proof.Norm.lean ====
/-
  The backward pass of the normalisation: the gradient of its input, with the residual's added, and of its gains, accumulated over blocks of rows.
-/
module

public import proofs.«01_k».proof.Defs
public import proofs.«01_k».proof.Proof.Lits
public import proofs.«01_k».proof.Proof.Products
public import proofs.«01_k».proof.Proof.Gen.KernelNormIdeal.Value
public import proofs.«01_k».proof.Proof.Gen.ReferenceNormIdeal.Run
public import proofs.«01_k».proof.Proof.Gen.ReferenceNormIdeal.Read
public import proofs.«01_k».proof.Proof.Norms
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.Norm

open Cert.KernelNormIdeal Cert.KernelNormIdeal.Gen Idealize.ShloMosaic Idealize.ShloMosaic.TcCoe Cert.Lits Cert.Products Cert.Norms Cert.Arith
open Idealize.SL.Sem
open Idealize.ShloMosaic.Pipeline (Dat)
open scoped BigOperators

/-! ## A grid point's block -/

theorem inv_at (v0 : Vec Ideal S1024x1024 .f32) (r : Fin 1024) (z : Fin 1) : k0_pay3 v0 (ix2 r z) = inv v0 r := by
  unfold k0_pay3
  pointwise
  simp only [lit_1024, lit_eps, lit_mhalf, lit_zero, zero_add]
  rfl

theorem pay4_at (x a b : Vec Ideal S1024x1024 .f32) (g : Vec Ideal S1x1024 .f32) (res : Vec Ideal S1024x1024 .f32) (r s : Fin 1024) :
    k0_pay4 x a b g res (ix2 r s) = dxK x (plus a b) g r s + res (ix2 r s) := by
  have e := inv_at x
  unfold k0_pay4 k0_pay2
  generalize k0_pay3 x = p at e ⊢
  pointwise
  simp only [e, lit_1024, lit_eps, lit_mhalf, lit_zero, zero_add]
  rfl

theorem pay5_at (x a b : Vec Ideal S1024x1024 .f32) (z : Fin 1) (s : Fin 1024) :
    k0_pay5 x a b (ix2 z s) = dgSum x (plus a b) s := by
  have e := inv_at x
  unfold k0_pay5 k0_pay2
  generalize k0_pay3 x = p at e ⊢
  pointwise
  simp only [e, lit_1024, lit_eps, lit_mhalf, lit_zero, zero_add]
  rfl

theorem pay1_at (p v : Vec Ideal S1x1024 .f32) (z : Fin 1) (s : Fin 1024) : k0_pay1 p v (ix2 z s) = v (ix2 z s) + p (ix2 z s) := by
  obtain rfl : z = 0 := Subsingleton.elim _ _
  unfold k0_pay1
  pointwise

theorem out_A_5 {F : FTy → Type} [FloatOps F] (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (hc0 : cond0_0 i) (hc1 : ¬cond0_1 i)
    (x0 : Vec F S1024x1024 .f32) (x1 : Vec F S1024x1024 .f32) (x2 : Vec F S1024x1024 .f32) (x3 : Vec F S1x1024 .f32) (x4 : Vec F S1024x1024 .f32) :
    out0_A_5 c i arg1 harg1 arg2 harg2 arg3 harg3 arg4 harg4 arg5 harg5 arg6 harg6 arg7 harg7 hc0 hc1 x0 x1 x2 x3 x4 = k0_pay4 x0 x1 x2 x3 x4 := by
  unfold out0_A_5
  rw [View.read_writes_eq_canon _ _ _ (cover0_A_5 c i arg1 harg1 arg2 harg2 arg3 harg3 arg4 harg4 arg5 harg5 arg6 harg6 arg7 harg7 hc0 hc1 x0 x1 x2 x3 x4)]
  unfold kernelRun0_A
  dsimp only
  sl_unfold_run_names
  rw [View.canon_unit_zero (S := S1024x1024) off2]
  simp only [View.readAt_eq_ld, harg1.read_unread, harg2.read_unread, harg3.read_unread, harg4.read_unread, harg5.read_unread, harg6.read_unread, harg7.read_unread, View.ld_unit_zero (S := S1024x1024) off2, View.ld_unit_zero (S := S1x1024) off2]

theorem out_A_6 {F : FTy → Type} [FloatOps F] (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (hc0 : cond0_0 i) (hc1 : ¬cond0_1 i)
    (x0 : Vec F S1024x1024 .f32) (x1 : Vec F S1024x1024 .f32) (x2 : Vec F S1024x1024 .f32) (x3 : Vec F S1x1024 .f32) (x4 : Vec F S1024x1024 .f32) :
    out0_A_6 c i arg1 harg1 arg2 harg2 arg3 harg3 arg4 harg4 arg5 harg5 arg6 harg6 arg7 harg7 hc0 hc1 x0 x1 x2 x3 x4 = k0_pay5 x0 x1 x2 := by
  unfold out0_A_6
  rw [View.read_writes_eq_canon _ _ _ (cover0_A_6 c i arg1 harg1 arg2 harg2 arg3 harg3 arg4 harg4 arg5 harg5 arg6 harg6 arg7 harg7 hc0 hc1 x0 x1 x2 x3 x4)]
  unfold kernelRun0_A
  dsimp only
  sl_unfold_run_names
  rw [View.canon_unit_zero (S := S1x1024) off2]
  simp only [View.readAt_eq_ld, harg1.read_unread, harg2.read_unread, harg3.read_unread, harg4.read_unread, harg5.read_unread, harg6.read_unread, harg7.read_unread, View.ld_unit_zero (S := S1024x1024) off2, View.ld_unit_zero (S := S1x1024) off2]

theorem out_B_5 {F : FTy → Type} [FloatOps F] (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i)
    (x0 : Vec F S1024x1024 .f32) (x1 : Vec F S1024x1024 .f32) (x2 : Vec F S1024x1024 .f32) (x3 : Vec F S1x1024 .f32) (x4 : Vec F S1024x1024 .f32) (xo6 : Vec F S1x1024 .f32) :
    out0_B_5 c i arg1 harg1 arg2 harg2 arg3 harg3 arg4 harg4 arg5 harg5 arg6 harg6 arg7 harg7 hc0 hc1 x0 x1 x2 x3 x4 xo6 = k0_pay4 x0 x1 x2 x3 x4 := by
  unfold out0_B_5
  rw [View.read_writes_eq_canon _ _ _ (cover0_B_5 c i arg1 harg1 arg2 harg2 arg3 harg3 arg4 harg4 arg5 harg5 arg6 harg6 arg7 harg7 hc0 hc1 x0 x1 x2 x3 x4 xo6)]
  unfold kernelRun0_B
  dsimp only
  sl_unfold_run_names
  rw [View.canon_unit_zero (S := S1024x1024) off2]
  simp only [View.readAt_eq_ld, harg1.read_unread, harg2.read_unread, harg3.read_unread, harg4.read_unread, harg5.read_unread, harg6.read_unread, harg7.read_unread, View.ld_unit_zero (S := S1024x1024) off2, View.ld_unit_zero (S := S1x1024) off2]

theorem out_B_6 {F : FTy → Type} [FloatOps F] (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (hc0 : ¬cond0_0 i) (hc1 : cond0_1 i)
    (x0 : Vec F S1024x1024 .f32) (x1 : Vec F S1024x1024 .f32) (x2 : Vec F S1024x1024 .f32) (x3 : Vec F S1x1024 .f32) (x4 : Vec F S1024x1024 .f32) (xo6 : Vec F S1x1024 .f32) :
    out0_B_6 c i arg1 harg1 arg2 harg2 arg3 harg3 arg4 harg4 arg5 harg5 arg6 harg6 arg7 harg7 hc0 hc1 x0 x1 x2 x3 x4 xo6 = k0_pay1 (k0_pay5 x0 x1 x2) xo6 := by
  unfold out0_B_6
  rw [View.read_writes_eq_canon _ _ _ (cover0_B_6 c i arg1 harg1 arg2 harg2 arg3 harg3 arg4 harg4 arg5 harg5 arg6 harg6 arg7 harg7 hc0 hc1 x0 x1 x2 x3 x4 xo6)]
  unfold kernelRun0_B
  dsimp only
  sl_unfold_run_names
  rw [View.canon_unit_zero (S := S1x1024) off2]
  simp only [View.readAt_eq_ld, harg1.read_unread, harg2.read_unread, harg3.read_unread, harg4.read_unread, harg5.read_unread, harg6.read_unread, harg7.read_unread, View.ld_unit_zero (S := S1024x1024) off2, View.ld_unit_zero (S := S1x1024) off2]

/-! ## The blocks of the arrays -/

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0])

theorem blk0 (c : Dev nD) (t : Fin cfg0.N) (r s : Fin 1024) :
    iblk m c 0 t (ix2 r s) = m ((c : Thread nD τ).loc main_arg0) (ix2 ⟨1024 * t.val + r, by have h : t.val < 8 := t.isLt; omega⟩ s) := by
  blk_ext [iblk, V, (idx t).1]

theorem blk1 (c : Dev nD) (t : Fin cfg0.N) (r s : Fin 1024) :
    iblk m c 1 t (ix2 r s) = m ((c : Thread nD τ).loc main_arg1) (ix2 ⟨1024 * t.val + r, by have h : t.val < 8 := t.isLt; omega⟩ s) := by
  blk_ext [iblk, V, (idx t).2.1]

theorem blk2 (c : Dev nD) (t : Fin cfg0.N) (r s : Fin 1024) :
    iblk m c 2 t (ix2 r s) = m ((c : Thread nD τ).loc main_arg2) (ix2 ⟨1024 * t.val + r, by have h : t.val < 8 := t.isLt; omega⟩ s) := by
  blk_ext [iblk, V, (idx t).2.2.1]

theorem blk4 (c : Dev nD) (t : Fin cfg0.N) (r s : Fin 1024) :
    iblk m c 4 t (ix2 r s) = m ((c : Thread nD τ).loc main_arg4) (ix2 ⟨1024 * t.val + r, by have h : t.val < 8 := t.isLt; omega⟩ s) := by
  blk_ext [iblk, V, (idx t).2.2.2.2.1]

theorem blk3 (c : Dev nD) (t : Fin cfg0.N) (z : Fin 1) (s : Fin 1024) :
    iblk m c 3 t (ix2 z s) = m ((c : Thread nD τ).loc main_arg3) (ix2 z s) := by
  blk_ext [iblk, V, (idx t).2.2.2.1]

theorem first_at (c : Dev nD) (t : Fin cfg0.N) (y : S1024x1024.Idx) : (outsAt0 m c t.val t.isLt).1 y
    = dxK (iblk m c 0 t) (plus (iblk m c 1 t) (iblk m c 2 t)) (iblk m c 3 t) (y 0) (y 1) + iblk m c 4 t (ix2 (y 0) (y 1)) := by
  have hN : t.val < 8 := t.isLt
  by_cases h : t.val % 8 = 0
  · rw [outsAt0_A m c t h (by omega)]
    dsimp only
    refine (congrFun (out_A_5 (F := Ideal) ..) y).trans ?_
    rw [eq_ix2 y]
    exact pay4_at _ _ _ _ _ (y 0) (y 1)
  · rw [outsAt0_B m c t h (by omega)]
    dsimp only
    refine (congrFun (out_B_5 (F := Ideal) ..) y).trans ?_
    rw [eq_ix2 y]
    exact pay4_at _ _ _ _ _ (y 0) (y 1)

theorem arr5 (c : Dev nD) : (dats m 0 c).arrAt 5 cfg0.N
    = fun j : S8192x1024.Idx => dxK (m ((c : Thread nD τ).loc main_arg0)) (plus (m ((c : Thread nD τ).loc main_arg1)) (m ((c : Thread nD τ).loc main_arg2)))
        (m ((c : Thread nD τ).loc main_arg3)) (j 0) (j 1) + m ((c : Thread nD τ).loc main_arg4) (ix2 (j 0) (j 1)) := by
  refine (dats m 0 c).arrAt_eq_of_covers 5 _ (by decide +kernel) fun t hf y => ?_
  blk_simp
  rw [after0_5]
  refine (first_at m c t y).trans (congrArg₂ (· + ·) (dxK_of (blk0 m c t (y 0)) (fun k => congrArg₂ (· + ·) (blk1 m c t (y 0) k) (blk2 m c t (y 0) k))
    (blk3 m c t 0) (Fin.ext ?_) (Fin.ext ?_)) ((blk4 m c t (y 0) (y 1)).trans (congrArg (m ((c : Thread nD τ).loc main_arg4)) (congrArg₂ ix2 (Fin.ext ?_) (Fin.ext ?_)))))
  all_goals have h0 : (y 0 : ℕ) < 1024 := (y 0).isLt
  all_goals blk_simp [(idx t).2.2.2.2.2.1]
  all_goals dsimp only
  all_goals omega

/-- A grid point's part of the gains' gradient. -/
def part (c : Dev nD) (t : Fin cfg0.N) (y : S1x1024.Idx) : EReal :=
  dgSum (iblk m c 0 t) (plus (iblk m c 1 t) (iblk m c 2 t)) (y 1)

/-- The gains' gradient as it has been accumulated. -/
def acc (c : Dev nD) (n : ℕ) (h : n < cfg0.N) : S1x1024.Idx → EReal := (outsAt0 m c n h).2

theorem step_A (c : Dev nD) (t : Fin cfg0.N) (h : t.val % 8 = 0) (y : S1x1024.Idx) : acc m c t.val t.isLt y = 0 + part m c t y := by
  have hN : t.val < 8 := t.isLt
  unfold acc
  rw [outsAt0_A m c t (by omega) (by omega)]
  rw [zero_add]
  dsimp only
  refine (congrFun (out_A_6 (F := Ideal) ..) y).trans ?_
  rw [eq_ix2 y]
  exact pay5_at _ _ _ (y 0) (y 1)

theorem step_B (c : Dev nD) (t : Fin cfg0.N) (h : ¬t.val % 8 = 0) (y : S1x1024.Idx) :
    acc m c t.val t.isLt y = acc m c (t.val - 1) (Nat.lt_of_le_of_lt (Nat.sub_le _ _) t.isLt) y + part m c t y := by
  have hN : t.val < 8 := t.isLt
  unfold acc
  rw [outsAt0_B m c t (by omega) (by omega)]
  dsimp only
  refine (congrFun (out_B_6 (F := Ideal) ..) y).trans ?_
  rw [eq_ix2 y]
  exact (pay1_at _ _ (y 0) (y 1)).trans (congrArg (_ + ·) (pay5_at _ _ _ (y 0) (y 1)))

theorem arr6 (c : Dev nD) : (dats m 0 c).arrAt 6 cfg0.N
    = fun j : S1x1024.Idx => dgSum (m ((c : Thread nD τ).loc main_arg0)) (plus (m ((c : Thread nD τ).loc main_arg1)) (m ((c : Thread nD τ).loc main_arg2))) (j 1) := by
  refine (dats m 0 c).arrAt_eq_of_covers 6 _ (by decide +kernel) fun t hf y => ?_
  blk_simp
  rw [after0_6]
  have hr : t.val % 8 = 8 - 1 := (flush0_6 t).mp hf
  have hN : t.val < 8 := t.isLt
  refine (Pipeline.eq_sum_fin_of_reset_step_apply_of_flush (acc m c) 8 (fun _ => 0) (part m c) (step_A m c) (step_B m c) t hr y).trans ?_
  rw [zero_add]
  refine dgSum_stretches (fun l k => ⟨1024 * (8 * (t.val / 8) + l.val) + k.val, by omega⟩) (fun l i k => blk0 m c _ i k)
    (fun l i k => congrArg₂ (· + ·) (blk1 m c _ i k) (blk2 m c _ i k)) (fun l k => by dsimp only; omega) (by norm_num) (Fin.ext ?_)
  blk_simp [(idx t).2.2.2.2.2.2]

/-! ## The reference's results -/

section Reference

variable (x0 x1 x2 : S8192x1024.Idx → EReal) (x3 : S1x1024.Idx → EReal) (x4 : S8192x1024.Idx → EReal)

theorem r7_at (i : Fin 8192) (z : Fin 1) : Cert.ReferenceNormIdeal.Read.val_main_v7 (F := Ideal) x0 (ix2 i z) = msq 1024 eps (row x0 i) := by
  unfold Cert.ReferenceNormIdeal.Read.val_main_v7 Cert.ReferenceNormIdeal.Read.val_main_v6 Cert.ReferenceNormIdeal.Read.val_main_v5 Cert.ReferenceNormIdeal.Read.val_main_v4 Cert.ReferenceNormIdeal.Read.val_main_v3 Cert.ReferenceNormIdeal.Read.val_main_v2 Cert.ReferenceNormIdeal.Read.val_main_v1 Cert.ReferenceNormIdeal.Read.val_main_cst Cert.ReferenceNormIdeal.Read.val_main_cst_0 Cert.ReferenceNormIdeal.Read.val_main_cst_1
  pointwise
  simp only [lit_1024, lit_eps, lit_mhalf, lit_zero, zero_add]
  rfl

theorem r8_at (i : Fin 8192) (z : Fin 1) : Cert.ReferenceNormIdeal.Read.val_main_v8 (F := Ideal) x0 (ix2 i z) = inv x0 i := by
  have e := r7_at x0
  unfold Cert.ReferenceNormIdeal.Read.val_main_v8
  generalize Cert.ReferenceNormIdeal.Read.val_main_v7 (F := Ideal) x0 = p at e ⊢
  pointwise
  simp only [e]
  rfl

theorem r11_at (i : Fin 8192) (z : Fin 1) : Cert.ReferenceNormIdeal.Read.val_main_v11 (F := Ideal) x0 (ix2 i z) = ((-(1 / 2) : ℝ) : EReal) * Ideal.div (inv x0 i) (msq 1024 eps (row x0 i)) := by
  have e := r7_at x0
  have e' := r8_at x0
  unfold Cert.ReferenceNormIdeal.Read.val_main_v11 Cert.ReferenceNormIdeal.Read.val_main_v10 Cert.ReferenceNormIdeal.Read.val_main_v9 Cert.ReferenceNormIdeal.Read.val_main_cst_2
  generalize Cert.ReferenceNormIdeal.Read.val_main_v7 (F := Ideal) x0 = p at e ⊢
  generalize Cert.ReferenceNormIdeal.Read.val_main_v8 (F := Ideal) x0 = q at e' ⊢
  pointwise
  simp only [e, e', lit_1024, lit_eps, lit_mhalf, lit_zero, zero_add]

theorem r22_at (i : Fin 8192) (j : Fin 1024) : Cert.ReferenceNormIdeal.Read.val_main_v22 (F := Ideal) x1 x2 x3 (ix2 i j) = plus x1 x2 (ix2 i j) * x3 (ix2 0 j) := by
  unfold Cert.ReferenceNormIdeal.Read.val_main_v22 Cert.ReferenceNormIdeal.Read.val_main_v21 Cert.ReferenceNormIdeal.Read.val_main_v17 Cert.ReferenceNormIdeal.Read.val_main_v14 Cert.ReferenceNormIdeal.Read.val_main_v0
  pointwise
  rfl

theorem r34_at (i : Fin 8192) (j : Fin 1024) : Cert.ReferenceNormIdeal.Read.val_main_v34 (F := Ideal) x0 x1 x2 x3 (ix2 i j)
    = coefR 1024 eps (row x0 i) (fun k => plus x1 x2 (ix2 i k) * x3 (ix2 0 k)) := by
  have e := r11_at x0
  have e' := r22_at x1 x2 x3
  unfold Cert.ReferenceNormIdeal.Read.val_main_v34 Cert.ReferenceNormIdeal.Read.val_main_v33 Cert.ReferenceNormIdeal.Read.val_main_v32 Cert.ReferenceNormIdeal.Read.val_main_v31 Cert.ReferenceNormIdeal.Read.val_main_v30 Cert.ReferenceNormIdeal.Read.val_main_v26 Cert.ReferenceNormIdeal.Read.val_main_v25 Cert.ReferenceNormIdeal.Read.val_main_v24 Cert.ReferenceNormIdeal.Read.val_main_cst_5 Cert.ReferenceNormIdeal.Read.val_main_cst_6 Cert.ReferenceNormIdeal.Read.val_main_cst_7
  generalize Cert.ReferenceNormIdeal.Read.val_main_v11 (F := Ideal) x0 = p at e ⊢
  generalize Cert.ReferenceNormIdeal.Read.val_main_v22 (F := Ideal) x1 x2 x3 = q at e' ⊢
  pointwise
  simp only [e, e', Fin.sum_univ_one, lit_1024, lit_eps, lit_mhalf, lit_zero, zero_add]
  rfl

theorem ref_dx_at (i : Fin 8192) (s : Fin 1024) : Cert.ReferenceNormIdeal.Read.val_main_v38 (F := Ideal) x0 x1 x2 x3 x4 (ix2 i s) = dxK x0 (plus x1 x2) x3 i s + x4 (ix2 i s) := by
  rw [dx_eq, add_comm]
  have e := r8_at x0
  have e' := r22_at x1 x2 x3
  have e'' := r34_at x0 x1 x2 x3
  unfold Cert.ReferenceNormIdeal.Read.val_main_v38 Cert.ReferenceNormIdeal.Read.val_main_v37 Cert.ReferenceNormIdeal.Read.val_main_v36 Cert.ReferenceNormIdeal.Read.val_main_v35 Cert.ReferenceNormIdeal.Read.val_main_v29 Cert.ReferenceNormIdeal.Read.val_main_v28 Cert.ReferenceNormIdeal.Read.val_main_v27
  generalize Cert.ReferenceNormIdeal.Read.val_main_v8 (F := Ideal) x0 = p at e ⊢
  generalize Cert.ReferenceNormIdeal.Read.val_main_v22 (F := Ideal) x1 x2 x3 = q at e' ⊢
  generalize Cert.ReferenceNormIdeal.Read.val_main_v34 (F := Ideal) x0 x1 x2 x3 = o at e'' ⊢
  pointwise
  simp only [e, e', e'']
  unfold dxR normBwdR
  rw [← add_assoc, ← add_assoc]
  rfl

theorem ref_dg_at (z : Fin 1) (s : Fin 1024) : Cert.ReferenceNormIdeal.Read.val_main_v39 (F := Ideal) x0 x1 x2 (ix2 z s) = dgSum x0 (plus x1 x2) s := by
  have e := r8_at x0
  unfold Cert.ReferenceNormIdeal.Read.val_main_v39 Cert.ReferenceNormIdeal.Read.val_main_v23 Cert.ReferenceNormIdeal.Read.val_main_v20 Cert.ReferenceNormIdeal.Read.val_main_v19 Cert.ReferenceNormIdeal.Read.val_main_v18 Cert.ReferenceNormIdeal.Read.val_main_v17 Cert.ReferenceNormIdeal.Read.val_main_v13 Cert.ReferenceNormIdeal.Read.val_main_v12 Cert.ReferenceNormIdeal.Read.val_main_cst_3 Cert.ReferenceNormIdeal.Read.val_main_cst_4
  generalize Cert.ReferenceNormIdeal.Read.val_main_v8 (F := Ideal) x0 = p at e ⊢
  pointwise
  simp only [e, Fin.sum_univ_one, lit_1024, lit_eps, lit_mhalf, lit_zero, zero_add]
  refine Finset.sum_congr rfl fun i _ => ?_
  unfold dgRow plus
  ac_rfl

theorem ref_dx : Cert.ReferenceNormIdeal.Read.val_main_v38 (F := Ideal) x0 x1 x2 x3 x4 = fun j => dxK x0 (plus x1 x2) x3 (j 0) (j 1) + x4 (ix2 (j 0) (j 1)) :=
  funext fun j => (congrArg _ (eq_ix2 j)).trans (ref_dx_at x0 x1 x2 x3 x4 (j 0) (j 1))

theorem ref_dg : Cert.ReferenceNormIdeal.Read.val_main_v39 (F := Ideal) x0 x1 x2 = fun j => dgSum x0 (plus x1 x2) (j 1) :=
  funext fun j => (congrArg _ (eq_ix2 j)).trans (ref_dg_at x0 x1 x2 (j 0) (j 1))

end Reference

/-! ## The claims -/

theorem frameR : Cert.quiescent_ReferenceNormIdeal := fun m ρ _ =>
  (θ_run Cert.ReferenceNormIdeal.defs _ _).mono (fun r h => ⟨fun c => (h c).2.2,
      Idealize.ShloMosaic.sem_eq_zero_of_no_sems (by decide) r.2⟩)
    (Cert.ReferenceNormIdeal.Value.run (F := Ideal) m ρ)

theorem algebraic : Cert.algebraic_KernelNormIdeal_ReferenceNormIdeal := by
  intro m ρ m' ρ' hpre hagree
  refine ⟨fun c => (dats m 0 c).arrAt 5 cfg0.N, fun c => (dats m 0 c).arrAt 6 cfg0.N, Cert.KernelNormIdeal.Value.run_blocks (F := Ideal) m ρ, ?_⟩
  refine (θ_run Cert.ReferenceNormIdeal.defs _ _).mono (fun r h c => ?_) (Cert.ReferenceNormIdeal.Value.run (F := Ideal) m' ρ')
  obtain ⟨r0, r1, kept⟩ := h c
  obtain ⟨a0, a1, a2, a3, a4⟩ := hagree c
  refine ⟨r0.trans ?_, r1.trans ?_, kept⟩
  · refine (Cert.ReferenceNormIdeal.Read.val_main_v38_eq _ _).trans ?_
    rw [a0, a1, a2, a3, a4]
    exact (ref_dx _ _ _ _ _).trans (arr5 m c).symm
  · refine (Cert.ReferenceNormIdeal.Read.val_main_v39_eq _ _ _).trans ?_
    rw [a0, a1, a2]
    exact (ref_dg _ _ _).trans (arr6 m c).symm

end Cert.Norm

end
-- ==== Proof.Gates.lean ====
/-
  The merge of the three branches, shared by its forward and its backward pass: the branches' products, each under the logistic
  of its columns of the gates, summed.
-/
module

public import proofs.«01_k».proof.Proof.Norms

@[expose] public section

set_option maxRecDepth 16384

noncomputable section

namespace Cert.Gates

open Idealize.ShloMosaic Cert.Lits Cert.Products Cert.Norms
open scoped BigOperators

variable {M : ℕ}

/-- One of three groups of 1024 columns. -/
def zcol (z : Mat M 7168) (b : Fin 3) : Mat M 1024 := fun i =>
  z (ix2 (i 0) ⟨1024 * b.val + (i 1).val, by have h : (i 1).val < 1024 := (i 1).isLt; omega⟩)

/-- A branch under its gate. -/
def gated (z : Mat M 1024) (y : Mat M 512) (w : Mat 512 1024) (i : Fin M) (j : Fin 1024) : EReal :=
  Ideal.logistic (z (ix2 i j)) * nn y w i j

/-- The three branches, each under its gate, summed. -/
def mrg (za zb zc : Mat M 1024) (ya yb yc : Mat M 512) (wa wb wc : Mat 512 1024) : Mat M 1024 := fun i =>
  gated za ya wa (i 0) (i 1) + gated zb yb wb (i 0) (i 1) + gated zc yc wc (i 0) (i 1)

/-- The step's first residual sum. -/
def resid (x d : Mat M 1024) (w : Mat 1024 1024) : Mat M 1024 := fun i => x i + nn d w (i 0) (i 1)

/-- The normed rows under the gains. -/
def normed (x : Mat M 1024) (g : Mat 1 1024) : Mat M 1024 := fun i => x i * inv x (i 0) * g (ix2 0 (i 1))

theorem gated_of {M' : ℕ} {z : Mat M 1024} {y : Mat M 512} {w : Mat 512 1024} {z' : Mat M' 1024} {y' : Mat M' 512} {w' : Mat 512 1024} {r : Fin M} {p : Fin M'} {s : Fin 1024}
    (hz : z (ix2 r s) = z' (ix2 p s)) (hy : ∀ k, y (ix2 r k) = y' (ix2 p k)) (hw : ∀ k, w (ix2 k s) = w' (ix2 k s)) :
    gated z y w r s = gated z' y' w' p s :=
  congrArg₂ (fun a b => Ideal.logistic a * b) hz (nn_of hy hw rfl rfl)

theorem resid_of {M' : ℕ} {x d : Mat M 1024} {w : Mat 1024 1024} {x' d' : Mat M' 1024} {w' : Mat 1024 1024} {r : Fin M} {p : Fin M'} {s : Fin 1024}
    (hx : x (ix2 r s) = x' (ix2 p s)) (hd : ∀ k, d (ix2 r k) = d' (ix2 p k)) (hw : ∀ k, w (ix2 k s) = w' (ix2 k s)) :
    resid x d w (ix2 r s) = resid x' d' w' (ix2 p s) :=
  congrArg₂ (· + ·) hx (nn_of hd hw rfl rfl)

theorem normed_of {M' : ℕ} {x : Mat M 1024} {g : Mat 1 1024} {x' : Mat M' 1024} {g' : Mat 1 1024} {r : Fin M} {p : Fin M'} {s : Fin 1024}
    (hx : ∀ k, x (ix2 r k) = x' (ix2 p k)) (hg : g (ix2 0 s) = g' (ix2 0 s)) : normed x g (ix2 r s) = normed x' g' (ix2 p s) := by
  have e : row x r = row x' p := funext hx
  show x (ix2 r s) * Cert.Arith.rs 1024 eps (row x r) * g (ix2 0 s) = x' (ix2 p s) * Cert.Arith.rs 1024 eps (row x' p) * g' (ix2 0 s)
  rw [e, hx, hg]

/-! ## The backward pass -/

/-- The gradient that reaches the merged branches: the product with the output projection, transposed. -/
def back (d : Mat M 1024) (w : Mat 1024 1024) : Mat M 1024 := fun i => nt d w (i 0) (i 1)

/-- The gradient that reaches a branch's product. -/
def under (z d : Mat M 1024) : Mat M 1024 := fun i => d i * Ideal.logistic (z i)

/-- The gradient that reaches a branch's gate. -/
def dgate (z d : Mat M 1024) (y : Mat M 512) (w : Mat 512 1024) : Mat M 1024 := fun i =>
  d i * nn y w (i 0) (i 1) * Ideal.logistic (z i) * (1 - Ideal.logistic (z i))

/-- The gradient that reaches a branch's vector. -/
def dbranch (z d : Mat M 1024) (w : Mat 512 1024) : Mat M 512 := fun i => nt (under z d) w (i 0) (i 1)

/-- Three groups of 1024 columns side by side. -/
def groups (a b c : Mat M 1024) : Mat M 3072 := fun i =>
  if h : (i 1).val < 1024 then a (ix2 (i 0) ⟨(i 1).val, h⟩)
  else if h' : (i 1).val < 2048 then b (ix2 (i 0) ⟨(i 1).val - 1024, by omega⟩)
  else c (ix2 (i 0) ⟨(i 1).val - 2048, by have h'' : (i 1).val < 3072 := (i 1).isLt; omega⟩)

variable {a b c : Mat M 1024} {i : Fin M} {j : Fin 3072} {s : Fin 1024}

theorem groups_a (h : j.val = s.val) : groups a b c (ix2 i j) = a (ix2 i s) := by
  have e : (ix2 i j 1).val = s.val := h
  exact (dif_pos (e.trans_lt s.isLt)).trans (congrArg (fun k => a (ix2 i k)) (Fin.ext e))

theorem groups_b (h : j.val = 1024 + s.val) : groups a b c (ix2 i j) = b (ix2 i s) := by
  have e : (ix2 i j 1).val = 1024 + s.val := h
  refine (dif_neg (by omega)).trans ((dif_pos (by omega)).trans (congrArg (fun k => b (ix2 i k)) (Fin.ext ?_)))
  show (ix2 i j 1).val - 1024 = s.val
  omega

theorem groups_c (h : j.val = 2048 + s.val) : groups a b c (ix2 i j) = c (ix2 i s) := by
  have e : (ix2 i j 1).val = 2048 + s.val := h
  refine (dif_neg (by omega)).trans ((dif_neg (by omega)).trans (congrArg (fun k => c (ix2 i k)) (Fin.ext ?_)))
  show (ix2 i j 1).val - 2048 = s.val
  omega

/-- An array with the groups' values is the groups side by side. -/
theorem eq_groups (f : Mat M 3072) (ha : ∀ s : Fin 1024, f (ix2 i ⟨s.val, by omega⟩) = a (ix2 i s))
    (hb : ∀ s : Fin 1024, f (ix2 i ⟨1024 + s.val, by omega⟩) = b (ix2 i s)) (hc : ∀ s : Fin 1024, f (ix2 i ⟨2048 + s.val, by omega⟩) = c (ix2 i s)) :
    f (ix2 i j) = groups a b c (ix2 i j) := by
  rcases lt_or_ge j.val 1024 with h | h
  · exact (ha ⟨j.val, h⟩).trans (groups_a (s := ⟨j.val, h⟩) rfl).symm
  rcases lt_or_ge j.val 2048 with h' | h'
  · have e : j.val = 1024 + (j.val - 1024) := by omega
    exact ((congrArg (fun k => f (ix2 i k)) (Fin.ext e)).trans (hb ⟨j.val - 1024, by omega⟩)).trans (groups_b (s := ⟨j.val - 1024, by omega⟩) e).symm
  · have e : j.val = 2048 + (j.val - 2048) := by omega
    exact ((congrArg (fun k => f (ix2 i k)) (Fin.ext e)).trans (hc ⟨j.val - 2048, by omega⟩)).trans (groups_c (s := ⟨j.val - 2048, by omega⟩) e).symm

section

variable {M' : ℕ} {r : Fin M} {p : Fin M'} {z d : Mat M 1024} {z' d' : Mat M' 1024} {y : Mat M 512} {y' : Mat M' 512} {w w' : Mat 512 1024}

theorem back_of {wo wo' : Mat 1024 1024} (hd : ∀ k, d (ix2 r k) = d' (ix2 p k)) (hw : ∀ k, wo (ix2 s k) = wo' (ix2 s k)) :
    back d wo (ix2 r s) = back d' wo' (ix2 p s) := nt_of hd hw rfl rfl

theorem under_of (hz : z (ix2 r s) = z' (ix2 p s)) (hd : d (ix2 r s) = d' (ix2 p s)) : under z d (ix2 r s) = under z' d' (ix2 p s) :=
  congrArg₂ (fun x t => x * Ideal.logistic t) hd hz

theorem dgate_of (hz : z (ix2 r s) = z' (ix2 p s)) (hd : d (ix2 r s) = d' (ix2 p s)) (hy : ∀ k, y (ix2 r k) = y' (ix2 p k))
    (hw : ∀ k, w (ix2 k s) = w' (ix2 k s)) : dgate z d y w (ix2 r s) = dgate z' d' y' w' (ix2 p s) := by
  have e : nn y w r s = nn y' w' p s := nn_of hy hw rfl rfl
  show d (ix2 r s) * nn y w r s * Ideal.logistic (z (ix2 r s)) * (1 - Ideal.logistic (z (ix2 r s)))
    = d' (ix2 p s) * nn y' w' p s * Ideal.logistic (z' (ix2 p s)) * (1 - Ideal.logistic (z' (ix2 p s)))
  rw [e, hd, hz]

theorem dbranch_of {q : Fin 512} (hz : ∀ k, z (ix2 r k) = z' (ix2 p k)) (hd : ∀ k, d (ix2 r k) = d' (ix2 p k))
    (hw : ∀ k, w (ix2 q k) = w' (ix2 q k)) : dbranch z d w (ix2 r q) = dbranch z' d' w' (ix2 p q) :=
  nt_of (fun k => under_of (hz k) (hd k)) hw rfl rfl

end

end Cert.Gates

end
-- ==== Proof.Merge.lean ====
/-
  The merge of the three branches and the step's first residual sum, with the sum normed: a block of rows at each grid point.
-/
module

public import proofs.«01_k».proof.Defs
public import proofs.«01_k».proof.Proof.Lits
public import proofs.«01_k».proof.Proof.Products
public import proofs.«01_k».proof.Proof.Gen.KernelMergeIdeal.Value
public import proofs.«01_k».proof.Proof.Gen.ReferenceMergeIdeal.Run
public import proofs.«01_k».proof.Proof.Gen.ReferenceMergeIdeal.Read
public import proofs.«01_k».proof.Proof.Gates
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.Merge

open Cert.KernelMergeIdeal Cert.KernelMergeIdeal.Gen Idealize.ShloMosaic Idealize.ShloMosaic.TcCoe Cert.Lits Cert.Products Cert.Norms Cert.Gates Cert.Arith
open Idealize.SL.Sem
open Idealize.ShloMosaic.Pipeline (Dat)
open scoped BigOperators

/-! ## A grid point's block -/

theorem pay2_at (za : Vec Ideal S256x1024 .f32) (ya : Vec Ideal S256x512 .f32) (wa : Vec Ideal S512x1024 .bf16) (zb : Vec Ideal S256x1024 .f32) (yb : Vec Ideal S256x512 .f32) (wb : Vec Ideal S512x1024 .bf16) (zc : Vec Ideal S256x1024 .f32) (yc : Vec Ideal S256x512 .f32) (wc : Vec Ideal S512x1024 .bf16) (r : Fin 256) (s : Fin 1024) :
    k0_pay2 za ya wa zb yb wb zc yc wc (ix2 r s) = mrg za zb zc ya yb yc wa wb wc (ix2 r s) := by
  unfold k0_pay2
  pointwise
  rfl

theorem pay3_at (za : Vec Ideal S256x1024 .f32) (ya : Vec Ideal S256x512 .f32) (wa : Vec Ideal S512x1024 .bf16) (zb : Vec Ideal S256x1024 .f32) (yb : Vec Ideal S256x512 .f32) (wb : Vec Ideal S512x1024 .bf16) (zc : Vec Ideal S256x1024 .f32) (yc : Vec Ideal S256x512 .f32) (wc : Vec Ideal S512x1024 .bf16) (r : Fin 256) (s : Fin 1024) :
    k0_pay3 za ya wa zb yb wb zc yc wc (ix2 r s) = mrg za zb zc ya yb yc wa wb wc (ix2 r s) := by
  rw [← pay2_at]
  unfold k0_pay3
  generalize k0_pay2 za ya wa zb yb wb zc yc wc = p
  pointwise

theorem pay4_at (za : Vec Ideal S256x1024 .f32) (ya : Vec Ideal S256x512 .f32) (wa : Vec Ideal S512x1024 .bf16) (zb : Vec Ideal S256x1024 .f32) (yb : Vec Ideal S256x512 .f32) (wb : Vec Ideal S512x1024 .bf16) (zc : Vec Ideal S256x1024 .f32) (yc : Vec Ideal S256x512 .f32) (wc : Vec Ideal S512x1024 .bf16) (x : Vec Ideal S256x1024 .f32) (w : Vec Ideal S1024x1024 .bf16) (r : Fin 256) (s : Fin 1024) :
    k0_pay4 za ya wa zb yb wb zc yc wc x w (ix2 r s) = resid x (mrg za zb zc ya yb yc wa wb wc) w (ix2 r s) := by
  have e := pay2_at za ya wa zb yb wb zc yc wc
  unfold k0_pay4
  generalize k0_pay2 za ya wa zb yb wb zc yc wc = p at e ⊢
  pointwise
  simp only [e]
  rfl

theorem pay1_at (x : Vec Ideal S256x1024 .f32) (g : Vec Ideal S1x1024 .f32) (r : Fin 256) (s : Fin 1024) :
    k0_pay1 x g (ix2 r s) = normed x g (ix2 r s) := by
  unfold k0_pay1
  pointwise
  simp only [lit_1024, lit_eps, lit_one, lit_zero, zero_add]
  rfl

theorem sum_at (x0 : Vec Ideal S256x1024 .f32) (x1 x2 x3 : Vec Ideal S256x512 .f32) (x4 x5 x6 : Vec Ideal S256x1024 .f32) (x7 x8 x9 : Vec Ideal S512x1024 .bf16) (x10 : Vec Ideal S1024x1024 .bf16) (x11 : Vec Ideal S1x1024 .f32) (r : Fin 256) (s : Fin 1024) :
    k0_pay5 x0 x1 x2 x3 x4 x5 x6 x7 x8 x9 x10 x11 (ix2 r s) = resid x0 (mrg x4 x5 x6 x1 x2 x3 x7 x8 x9) x10 (ix2 r s) := by
  unfold k0_pay5
  simp only [View.ld_unit_zero (S := S256x1024) off2, View.ld_unit_zero (S := S256x512) off2, View.ld_unit_zero (S := S512x1024) off2, View.ld_unit_zero (S := S1024x1024) off2, View.ld_unit_zero (S := S1x1024) off2]
  exact pay4_at _ _ _ _ _ _ _ _ _ _ _ r s

theorem out12_at (x0 : Vec Ideal S256x1024 .f32) (x1 x2 x3 : Vec Ideal S256x512 .f32) (x4 x5 x6 : Vec Ideal S256x1024 .f32) (x7 x8 x9 : Vec Ideal S512x1024 .bf16) (x10 : Vec Ideal S1024x1024 .bf16) (x11 : Vec Ideal S1x1024 .f32) (y : S256x1024.Idx) :
    out0_12 x0 x1 x2 x3 x4 x5 x6 x7 x8 x9 x10 x11 y = resid x0 (mrg x4 x5 x6 x1 x2 x3 x7 x8 x9) x10 (ix2 (y 0) (y 1)) := by
  unfold out0_12
  rw [View.canon_unit_zero (S := S256x1024) off2]
  exact (congrArg _ (eq_ix2 y)).trans (sum_at x0 x1 x2 x3 x4 x5 x6 x7 x8 x9 x10 x11 (y 0) (y 1))

theorem out13_at (x0 : Vec Ideal S256x1024 .f32) (x1 x2 x3 : Vec Ideal S256x512 .f32) (x4 x5 x6 : Vec Ideal S256x1024 .f32) (x7 x8 x9 : Vec Ideal S512x1024 .bf16) (x10 : Vec Ideal S1024x1024 .bf16) (x11 : Vec Ideal S1x1024 .f32) (y : S256x1024.Idx) :
    out0_13 x0 x1 x2 x3 x4 x5 x6 x7 x8 x9 x10 x11 y = (mrg x4 x5 x6 x1 x2 x3 x7 x8 x9) (ix2 (y 0) (y 1)) := by
  unfold out0_13
  rw [View.canon_unit_zero (S := S256x1024) off2]
  simp only [View.ld_unit_zero (S := S256x1024) off2, View.ld_unit_zero (S := S256x512) off2, View.ld_unit_zero (S := S512x1024) off2, View.ld_unit_zero (S := S1024x1024) off2, View.ld_unit_zero (S := S1x1024) off2]
  exact (congrArg _ (eq_ix2 y)).trans (pay3_at _ _ _ _ _ _ _ _ _ (y 0) (y 1))

theorem out14_at (x0 : Vec Ideal S256x1024 .f32) (x1 x2 x3 : Vec Ideal S256x512 .f32) (x4 x5 x6 : Vec Ideal S256x1024 .f32) (x7 x8 x9 : Vec Ideal S512x1024 .bf16) (x10 : Vec Ideal S1024x1024 .bf16) (x11 : Vec Ideal S1x1024 .f32) (y : S256x1024.Idx) :
    out0_14 x0 x1 x2 x3 x4 x5 x6 x7 x8 x9 x10 x11 y = normed (resid x0 (mrg x4 x5 x6 x1 x2 x3 x7 x8 x9) x10) x11 (ix2 (y 0) (y 1)) := by
  unfold out0_14
  rw [View.canon_unit_zero (S := S256x1024) off2]
  rw [View.ld_unit_zero (S := S1x1024) off2]
  refine ((congrArg _ (eq_ix2 y)).trans (pay1_at _ _ (y 0) (y 1))).trans ?_
  exact normed_of (fun k => sum_at x0 x1 x2 x3 x4 x5 x6 x7 x8 x9 x10 x11 (y 0) k) rfl

/-! ## The blocks of the arrays -/

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 1] ∧ win0_6.index t = ![t.val, 2] ∧ win0_7.index t = ![0, 0] ∧ win0_8.index t = ![0, 0] ∧ win0_9.index t = ![0, 0] ∧ win0_10.index t = ![0, 0] ∧ win0_11.index t = ![0, 0] ∧ win0_12.index t = ![t.val, 0] ∧ win0_13.index t = ![t.val, 0] ∧ win0_14.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 1] ∧ win0_6.index t = ![t.val, 2] ∧ win0_7.index t = ![0, 0] ∧ win0_8.index t = ![0, 0] ∧ win0_9.index t = ![0, 0] ∧ win0_10.index t = ![0, 0] ∧ win0_11.index t = ![0, 0] ∧ win0_12.index t = ![t.val, 0] ∧ win0_13.index t = ![t.val, 0] ∧ win0_14.index t = ![t.val, 0])

theorem blk0 (c : Dev nD) (t : Fin cfg0.N) (r : Fin 256) (s : Fin 1024) :
    iblk m c 0 t (ix2 r s) = m ((c : Thread nD τ).loc main_arg0) (ix2 ⟨256 * t.val + r, by have h : t.val < 32 := t.isLt; omega⟩ s) := by
  blk_ext [iblk, V, (idx t).1]

theorem blk1 (c : Dev nD) (t : Fin cfg0.N) (r : Fin 256) (s : Fin 512) :
    iblk m c 1 t (ix2 r s) = m ((c : Thread nD τ).loc main_arg1) (ix2 ⟨256 * t.val + r, by have h : t.val < 32 := t.isLt; omega⟩ s) := by
  blk_ext [iblk, V, (idx t).2.1]

theorem blk2 (c : Dev nD) (t : Fin cfg0.N) (r : Fin 256) (s : Fin 512) :
    iblk m c 2 t (ix2 r s) = m ((c : Thread nD τ).loc main_arg2) (ix2 ⟨256 * t.val + r, by have h : t.val < 32 := t.isLt; omega⟩ s) := by
  blk_ext [iblk, V, (idx t).2.2.1]

theorem blk3 (c : Dev nD) (t : Fin cfg0.N) (r : Fin 256) (s : Fin 512) :
    iblk m c 3 t (ix2 r s) = m ((c : Thread nD τ).loc main_arg3) (ix2 ⟨256 * t.val + r, by have h : t.val < 32 := t.isLt; omega⟩ s) := by
  blk_ext [iblk, V, (idx t).2.2.2.1]

theorem blk4 (c : Dev nD) (t : Fin cfg0.N) (r : Fin 256) (s : Fin 1024) :
    iblk m c 4 t (ix2 r s) = zcol (m ((c : Thread nD τ).loc main_arg4)) 0 (ix2 ⟨256 * t.val + r, by have h : t.val < 32 := t.isLt; omega⟩ s) := by
  refine Eq.trans (b := m ((c : Thread nD τ).loc main_arg4) (ix2 ⟨256 * t.val + r, by have h : t.val < 32 := t.isLt; omega⟩ ⟨1024 * 0 + s, by omega⟩)) ?_ rfl
  blk_ext [iblk, V, (idx t).2.2.2.2.1]

theorem blk5 (c : Dev nD) (t : Fin cfg0.N) (r : Fin 256) (s : Fin 1024) :
    iblk m c 5 t (ix2 r s) = zcol (m ((c : Thread nD τ).loc main_arg4)) 1 (ix2 ⟨256 * t.val + r, by have h : t.val < 32 := t.isLt; omega⟩ s) := by
  refine Eq.trans (b := m ((c : Thread nD τ).loc main_arg4) (ix2 ⟨256 * t.val + r, by have h : t.val < 32 := t.isLt; omega⟩ ⟨1024 * 1 + s, by omega⟩)) ?_ rfl
  blk_ext [iblk, V, (idx t).2.2.2.2.2.1]

theorem blk6 (c : Dev nD) (t : Fin cfg0.N) (r : Fin 256) (s : Fin 1024) :
    iblk m c 6 t (ix2 r s) = zcol (m ((c : Thread nD τ).loc main_arg4)) 2 (ix2 ⟨256 * t.val + r, by have h : t.val < 32 := t.isLt; omega⟩ s) := by
  refine Eq.trans (b := m ((c : Thread nD τ).loc main_arg4) (ix2 ⟨256 * t.val + r, by have h : t.val < 32 := t.isLt; omega⟩ ⟨1024 * 2 + s, by omega⟩)) ?_ rfl
  blk_ext [iblk, V, (idx t).2.2.2.2.2.2.1]

theorem blk7 (c : Dev nD) (t : Fin cfg0.N) (r : Fin 512) (s : Fin 1024) :
    iblk m c 7 t (ix2 r s) = m ((c : Thread nD τ).loc main_arg5) (ix2 r s) := by
  blk_ext [iblk, V, (idx t).2.2.2.2.2.2.2.1]

theorem blk8 (c : Dev nD) (t : Fin cfg0.N) (r : Fin 512) (s : Fin 1024) :
    iblk m c 8 t (ix2 r s) = m ((c : Thread nD τ).loc main_arg6) (ix2 r s) := by
  blk_ext [iblk, V, (idx t).2.2.2.2.2.2.2.2.1]

theorem blk9 (c : Dev nD) (t : Fin cfg0.N) (r : Fin 512) (s : Fin 1024) :
    iblk m c 9 t (ix2 r s) = m ((c : Thread nD τ).loc main_arg7) (ix2 r s) := by
  blk_ext [iblk, V, (idx t).2.2.2.2.2.2.2.2.2.1]

theorem blk10 (c : Dev nD) (t : Fin cfg0.N) (r : Fin 1024) (s : Fin 1024) :
    iblk m c 10 t (ix2 r s) = m ((c : Thread nD τ).loc main_arg8) (ix2 r s) := by
  blk_ext [iblk, V, (idx t).2.2.2.2.2.2.2.2.2.2.1]

theorem blk11 (c : Dev nD) (t : Fin cfg0.N) (r : Fin 1) (s : Fin 1024) :
    iblk m c 11 t (ix2 r s) = m ((c : Thread nD τ).loc main_arg9) (ix2 r s) := by
  blk_ext [iblk, V, (idx t).2.2.2.2.2.2.2.2.2.2.2.1]

/-- The merged branches of the whole arrays. -/
def merged (c : Dev nD) : Mat 8192 1024 :=
  mrg (zcol (m ((c : Thread nD τ).loc main_arg4)) 0) (zcol (m ((c : Thread nD τ).loc main_arg4)) 1) (zcol (m ((c : Thread nD τ).loc main_arg4)) 2) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))

/-- The residual sum of the whole arrays. -/
def total (c : Dev nD) : Mat 8192 1024 := resid (m ((c : Thread nD τ).loc main_arg0)) (merged m c) (m ((c : Thread nD τ).loc main_arg8))

theorem merged_at (c : Dev nD) (t : Fin cfg0.N) (r : Fin 256) (s : Fin 1024) :
    mrg (iblk m c 4 t) (iblk m c 5 t) (iblk m c 6 t) (iblk m c 1 t) (iblk m c 2 t) (iblk m c 3 t) (iblk m c 7 t) (iblk m c 8 t) (iblk m c 9 t) (ix2 r s)
      = merged m c (ix2 ⟨256 * t.val + r, by have h : t.val < 32 := t.isLt; omega⟩ s) :=
  congrArg₂ (· + ·) (congrArg₂ (· + ·) (gated_of (blk4 m c t r s) (blk1 m c t r) (fun k => blk7 m c t k s))
    (gated_of (blk5 m c t r s) (blk2 m c t r) (fun k => blk8 m c t k s))) (gated_of (blk6 m c t r s) (blk3 m c t r) (fun k => blk9 m c t k s))

theorem total_at (c : Dev nD) (t : Fin cfg0.N) (r : Fin 256) (s : Fin 1024) :
    resid (iblk m c 0 t) (mrg (iblk m c 4 t) (iblk m c 5 t) (iblk m c 6 t) (iblk m c 1 t) (iblk m c 2 t) (iblk m c 3 t) (iblk m c 7 t) (iblk m c 8 t) (iblk m c 9 t)) (iblk m c 10 t) (ix2 r s)
      = total m c (ix2 ⟨256 * t.val + r, by have h : t.val < 32 := t.isLt; omega⟩ s) :=
  resid_of (blk0 m c t r s) (merged_at m c t r) (fun k => blk10 m c t k s)

theorem arr12 (c : Dev nD) : (dats m 0 c).arrAt 12 cfg0.N = fun j : S8192x1024.Idx => total m c (ix2 (j 0) (j 1)) := by
  refine (dats m 0 c).arrAt_eq_of_covers 12 _ (by decide +kernel) fun t hf y => ?_
  blk_simp
  rw [after0_12]
  refine ((out12_at ..).trans (total_at m c t (y 0) (y 1))).trans (congrArg (total m c) (congrArg₂ ix2 (Fin.ext ?_) (Fin.ext ?_)))
  all_goals have h0 : (y 0 : ℕ) < 256 := (y 0).isLt
  all_goals blk_simp [(idx t).2.2.2.2.2.2.2.2.2.2.2.2.1]
  all_goals dsimp only
  all_goals omega

theorem arr13 (c : Dev nD) : (dats m 0 c).arrAt 13 cfg0.N = fun j : S8192x1024.Idx => merged m c (ix2 (j 0) (j 1)) := by
  refine (dats m 0 c).arrAt_eq_of_covers 13 _ (by decide +kernel) fun t hf y => ?_
  blk_simp
  rw [after0_13]
  refine ((out13_at ..).trans (merged_at m c t (y 0) (y 1))).trans (congrArg (merged m c) (congrArg₂ ix2 (Fin.ext ?_) (Fin.ext ?_)))
  all_goals have h0 : (y 0 : ℕ) < 256 := (y 0).isLt
  all_goals blk_simp [(idx t).2.2.2.2.2.2.2.2.2.2.2.2.2.1]
  all_goals dsimp only
  all_goals omega

theorem arr14 (c : Dev nD) : (dats m 0 c).arrAt 14 cfg0.N = fun j : S8192x1024.Idx => normed (total m c) (m ((c : Thread nD τ).loc main_arg9)) (ix2 (j 0) (j 1)) := by
  refine (dats m 0 c).arrAt_eq_of_covers 14 _ (by decide +kernel) fun t hf y => ?_
  blk_simp
  rw [after0_14]
  refine ((out14_at ..).trans (normed_of (total_at m c t (y 0)) (blk11 m c t 0 (y 1)))).trans (congrArg (normed (total m c) (m ((c : Thread nD τ).loc main_arg9))) (congrArg₂ ix2 (Fin.ext ?_) (Fin.ext ?_)))
  all_goals have h0 : (y 0 : ℕ) < 256 := (y 0).isLt
  all_goals blk_simp [(idx t).2.2.2.2.2.2.2.2.2.2.2.2.2.2]
  all_goals dsimp only
  all_goals omega

/-! ## The reference's results -/

section Reference

variable (x0 : S8192x1024.Idx → EReal) (x1 x2 x3 : S8192x512.Idx → EReal) (x4 : S8192x7168.Idx → EReal) (x5 x6 x7 : S512x1024.Idx → EReal) (x8 : S1024x1024.Idx → EReal) (x9 : S1x1024.Idx → EReal)

theorem r0_at (i : Fin 8192) (j : Fin 3072) : Cert.ReferenceMergeIdeal.Read.val_main_v0 (F := Ideal) x4 (ix2 i j) = x4 (ix2 i ⟨j.val, by omega⟩) := by
  refine (Cert.ReferenceMergeIdeal.Read.val_main_v0_apply (F := Ideal) x4 _).trans (congrArg x4 ?_)
  funext a; match a with
    | ⟨0, _⟩ => exact Fin.ext (by simp)
    | ⟨1, _⟩ => exact Fin.ext (by simp)

theorem gate_at (i : Fin 8192) (j : Fin 3072) : Cert.ReferenceMergeIdeal.Read.val_main_v12 (F := Ideal) x4 (ix2 i j) = Ideal.logistic (x4 (ix2 i ⟨j.val, by omega⟩)) := by
  refine Eq.trans ?_ (congrArg Ideal.logistic (r0_at x4 i j))
  unfold Cert.ReferenceMergeIdeal.Read.val_main_v12 Cert.ReferenceMergeIdeal.Read.val_main_v11 Cert.ReferenceMergeIdeal.Read.val_main_v10 Cert.ReferenceMergeIdeal.Read.val_main_v9 Cert.ReferenceMergeIdeal.Read.val_main_v8 Cert.ReferenceMergeIdeal.Read.val_main_v7 Cert.ReferenceMergeIdeal.Read.val_main_cst Cert.ReferenceMergeIdeal.Read.val_main_cst_0
  generalize Cert.ReferenceMergeIdeal.Read.val_main_v0 (F := Ideal) x4 = p
  pointwise
  rfl

theorem r15_at (i : Fin 8192) (j : Fin 1024) : Cert.ReferenceMergeIdeal.Read.val_main_v15 (F := Ideal) x4 (ix2 i j) = Ideal.logistic (zcol x4 0 (ix2 i j)) := by
  refine Eq.trans (b := Cert.ReferenceMergeIdeal.Read.val_main_v12 (F := Ideal) x4 (ix2 i ⟨1024 * 0 + j.val, by omega⟩)) ?_ (gate_at x4 i _)
  unfold Cert.ReferenceMergeIdeal.Read.val_main_v15 Cert.ReferenceMergeIdeal.Read.val_main_v14 Cert.ReferenceMergeIdeal.Read.val_main_v13
  generalize Cert.ReferenceMergeIdeal.Read.val_main_v12 (F := Ideal) x4 = p
  pointwise

theorem r18_at (i : Fin 8192) (j : Fin 1024) : Cert.ReferenceMergeIdeal.Read.val_main_v18 (F := Ideal) x4 (ix2 i j) = Ideal.logistic (zcol x4 1 (ix2 i j)) := by
  refine Eq.trans (b := Cert.ReferenceMergeIdeal.Read.val_main_v12 (F := Ideal) x4 (ix2 i ⟨1024 * 1 + j.val, by omega⟩)) ?_ (gate_at x4 i _)
  unfold Cert.ReferenceMergeIdeal.Read.val_main_v18 Cert.ReferenceMergeIdeal.Read.val_main_v17 Cert.ReferenceMergeIdeal.Read.val_main_v13
  generalize Cert.ReferenceMergeIdeal.Read.val_main_v12 (F := Ideal) x4 = p
  pointwise

theorem r22_at (i : Fin 8192) (j : Fin 1024) : Cert.ReferenceMergeIdeal.Read.val_main_v22 (F := Ideal) x4 (ix2 i j) = Ideal.logistic (zcol x4 2 (ix2 i j)) := by
  refine Eq.trans (b := Cert.ReferenceMergeIdeal.Read.val_main_v12 (F := Ideal) x4 (ix2 i ⟨1024 * 2 + j.val, by omega⟩)) ?_ (gate_at x4 i _)
  unfold Cert.ReferenceMergeIdeal.Read.val_main_v22 Cert.ReferenceMergeIdeal.Read.val_main_v21 Cert.ReferenceMergeIdeal.Read.val_main_v13
  generalize Cert.ReferenceMergeIdeal.Read.val_main_v12 (F := Ideal) x4 = p
  pointwise

theorem r2_at (i : Fin 8192) (j : Fin 1024) : Cert.ReferenceMergeIdeal.Read.val_main_v2 (F := Ideal) x1 x5 (ix2 i j) = nn x1 x5 i j := by
  refine (Cert.ReferenceMergeIdeal.Read.val_main_v2_apply x1 x5 _).trans (show _ = nn x1 x5 i j from Finset.sum_congr rfl fun k _ => ?_)
  refine congrArg₂ (· * ·) (congrArg x1 ?_) ((Cert.ReferenceMergeIdeal.Read.val_main_v1_apply (F := Ideal) x5 _).trans (congrArg x5 ?_))
  · funext a; match a with
    | ⟨0, _⟩ => rfl
    | ⟨1, _⟩ => rfl
  · funext a; match a with
    | ⟨0, _⟩ => rfl
    | ⟨1, _⟩ => rfl

theorem r4_at (i : Fin 8192) (j : Fin 1024) : Cert.ReferenceMergeIdeal.Read.val_main_v4 (F := Ideal) x2 x6 (ix2 i j) = nn x2 x6 i j := by
  refine (Cert.ReferenceMergeIdeal.Read.val_main_v4_apply x2 x6 _).trans (show _ = nn x2 x6 i j from Finset.sum_congr rfl fun k _ => ?_)
  refine congrArg₂ (· * ·) (congrArg x2 ?_) ((Cert.ReferenceMergeIdeal.Read.val_main_v3_apply (F := Ideal) x6 _).trans (congrArg x6 ?_))
  · funext a; match a with
    | ⟨0, _⟩ => rfl
    | ⟨1, _⟩ => rfl
  · funext a; match a with
    | ⟨0, _⟩ => rfl
    | ⟨1, _⟩ => rfl

theorem r6_at (i : Fin 8192) (j : Fin 1024) : Cert.ReferenceMergeIdeal.Read.val_main_v6 (F := Ideal) x3 x7 (ix2 i j) = nn x3 x7 i j := by
  refine (Cert.ReferenceMergeIdeal.Read.val_main_v6_apply x3 x7 _).trans (show _ = nn x3 x7 i j from Finset.sum_congr rfl fun k _ => ?_)
  refine congrArg₂ (· * ·) (congrArg x3 ?_) ((Cert.ReferenceMergeIdeal.Read.val_main_v5_apply (F := Ideal) x7 _).trans (congrArg x7 ?_))
  · funext a; match a with
    | ⟨0, _⟩ => rfl
    | ⟨1, _⟩ => rfl
  · funext a; match a with
    | ⟨0, _⟩ => rfl
    | ⟨1, _⟩ => rfl

theorem r24_at (i : Fin 8192) (j : Fin 1024) : Cert.ReferenceMergeIdeal.Read.val_main_v24 (F := Ideal) x1 x2 x3 x4 x5 x6 x7 (ix2 i j) = (mrg (zcol x4 0) (zcol x4 1) (zcol x4 2) x1 x2 x3 x5 x6 x7) (ix2 i j) := by
  have a := r15_at x4
  have b := r18_at x4
  have c := r22_at x4
  have d := r2_at x1 x5
  have e := r4_at x2 x6
  have f := r6_at x3 x7
  unfold Cert.ReferenceMergeIdeal.Read.val_main_v24 Cert.ReferenceMergeIdeal.Read.val_main_v23 Cert.ReferenceMergeIdeal.Read.val_main_v20 Cert.ReferenceMergeIdeal.Read.val_main_v19 Cert.ReferenceMergeIdeal.Read.val_main_v16
  generalize Cert.ReferenceMergeIdeal.Read.val_main_v15 (F := Ideal) x4 = p1 at a ⊢
  generalize Cert.ReferenceMergeIdeal.Read.val_main_v18 (F := Ideal) x4 = p2 at b ⊢
  generalize Cert.ReferenceMergeIdeal.Read.val_main_v22 (F := Ideal) x4 = p3 at c ⊢
  generalize Cert.ReferenceMergeIdeal.Read.val_main_v2 (F := Ideal) x1 x5 = p4 at d ⊢
  generalize Cert.ReferenceMergeIdeal.Read.val_main_v4 (F := Ideal) x2 x6 = p5 at e ⊢
  generalize Cert.ReferenceMergeIdeal.Read.val_main_v6 (F := Ideal) x3 x7 = p6 at f ⊢
  pointwise
  simp only [a, b, c, d, e, f]
  rfl

theorem r28_at (i : Fin 8192) (j : Fin 1024) : Cert.ReferenceMergeIdeal.Read.val_main_v28 (F := Ideal) x1 x2 x3 x4 x5 x6 x7 (ix2 i j) = (mrg (zcol x4 0) (zcol x4 1) (zcol x4 2) x1 x2 x3 x5 x6 x7) (ix2 i j) := by
  rw [← r24_at]
  unfold Cert.ReferenceMergeIdeal.Read.val_main_v28
  generalize Cert.ReferenceMergeIdeal.Read.val_main_v24 (F := Ideal) x1 x2 x3 x4 x5 x6 x7 = p
  pointwise

theorem r26_at (i : Fin 8192) (j : Fin 1024) : Cert.ReferenceMergeIdeal.Read.val_main_v26 (F := Ideal) x1 x2 x3 x4 x5 x6 x7 x8 (ix2 i j) = nn (mrg (zcol x4 0) (zcol x4 1) (zcol x4 2) x1 x2 x3 x5 x6 x7) x8 i j := by
  refine (Cert.ReferenceMergeIdeal.Read.val_main_v26_apply x1 x2 x3 x4 x5 x6 x7 x8 _).trans (show _ = nn (mrg (zcol x4 0) (zcol x4 1) (zcol x4 2) x1 x2 x3 x5 x6 x7) x8 i j from Finset.sum_congr rfl fun k _ => ?_)
  refine congrArg₂ (· * ·) ((congrArg (Cert.ReferenceMergeIdeal.Read.val_main_v24 (F := Ideal) x1 x2 x3 x4 x5 x6 x7) ?_).trans (r24_at x1 x2 x3 x4 x5 x6 x7 i k)) ((Cert.ReferenceMergeIdeal.Read.val_main_v25_apply (F := Ideal) x8 _).trans (congrArg x8 ?_))
  · funext a; match a with
    | ⟨0, _⟩ => rfl
    | ⟨1, _⟩ => rfl
  · funext a; match a with
    | ⟨0, _⟩ => rfl
    | ⟨1, _⟩ => rfl

theorem r27_at (i : Fin 8192) (j : Fin 1024) : Cert.ReferenceMergeIdeal.Read.val_main_v27 (F := Ideal) x0 x1 x2 x3 x4 x5 x6 x7 x8 (ix2 i j) = resid x0 (mrg (zcol x4 0) (zcol x4 1) (zcol x4 2) x1 x2 x3 x5 x6 x7) x8 (ix2 i j) := by
  have e := r26_at x1 x2 x3 x4 x5 x6 x7 x8
  unfold Cert.ReferenceMergeIdeal.Read.val_main_v27
  generalize Cert.ReferenceMergeIdeal.Read.val_main_v26 (F := Ideal) x1 x2 x3 x4 x5 x6 x7 x8 = p at e ⊢
  pointwise
  simp only [e]
  rfl

theorem r43_at (i : Fin 8192) (j : Fin 1024) : Cert.ReferenceMergeIdeal.Read.val_main_v43 (F := Ideal) x0 x1 x2 x3 x4 x5 x6 x7 x8 x9 (ix2 i j) = normed (resid x0 (mrg (zcol x4 0) (zcol x4 1) (zcol x4 2) x1 x2 x3 x5 x6 x7) x8) x9 (ix2 i j) := by
  have e := r27_at x0 x1 x2 x3 x4 x5 x6 x7 x8
  unfold Cert.ReferenceMergeIdeal.Read.val_main_v43 Cert.ReferenceMergeIdeal.Read.val_main_v42 Cert.ReferenceMergeIdeal.Read.val_main_v41 Cert.ReferenceMergeIdeal.Read.val_main_v40 Cert.ReferenceMergeIdeal.Read.val_main_v39 Cert.ReferenceMergeIdeal.Read.val_main_v38 Cert.ReferenceMergeIdeal.Read.val_main_v37 Cert.ReferenceMergeIdeal.Read.val_main_v36 Cert.ReferenceMergeIdeal.Read.val_main_v35 Cert.ReferenceMergeIdeal.Read.val_main_v34 Cert.ReferenceMergeIdeal.Read.val_main_v33 Cert.ReferenceMergeIdeal.Read.val_main_v32 Cert.ReferenceMergeIdeal.Read.val_main_v31 Cert.ReferenceMergeIdeal.Read.val_main_v30 Cert.ReferenceMergeIdeal.Read.val_main_v29 Cert.ReferenceMergeIdeal.Read.val_main_cst_1 Cert.ReferenceMergeIdeal.Read.val_main_cst_2 Cert.ReferenceMergeIdeal.Read.val_main_cst_3
  generalize Cert.ReferenceMergeIdeal.Read.val_main_v27 (F := Ideal) x0 x1 x2 x3 x4 x5 x6 x7 x8 = p at e ⊢
  pointwise
  simp only [e, lit_1024, lit_eps, lit_one, lit_zero, zero_add]
  rfl

theorem ref27 : Cert.ReferenceMergeIdeal.Read.val_main_v27 (F := Ideal) x0 x1 x2 x3 x4 x5 x6 x7 x8 = fun j => resid x0 (mrg (zcol x4 0) (zcol x4 1) (zcol x4 2) x1 x2 x3 x5 x6 x7) x8 (ix2 (j 0) (j 1)) :=
  funext fun j => (congrArg _ (eq_ix2 j)).trans (r27_at x0 x1 x2 x3 x4 x5 x6 x7 x8 (j 0) (j 1))

theorem ref28 : Cert.ReferenceMergeIdeal.Read.val_main_v28 (F := Ideal) x1 x2 x3 x4 x5 x6 x7 = fun j => (mrg (zcol x4 0) (zcol x4 1) (zcol x4 2) x1 x2 x3 x5 x6 x7) (ix2 (j 0) (j 1)) :=
  funext fun j => (congrArg _ (eq_ix2 j)).trans (r28_at x1 x2 x3 x4 x5 x6 x7 (j 0) (j 1))

theorem ref43 : Cert.ReferenceMergeIdeal.Read.val_main_v43 (F := Ideal) x0 x1 x2 x3 x4 x5 x6 x7 x8 x9 = fun j => normed (resid x0 (mrg (zcol x4 0) (zcol x4 1) (zcol x4 2) x1 x2 x3 x5 x6 x7) x8) x9 (ix2 (j 0) (j 1)) :=
  funext fun j => (congrArg _ (eq_ix2 j)).trans (r43_at x0 x1 x2 x3 x4 x5 x6 x7 x8 x9 (j 0) (j 1))

end Reference

/-! ## The claims -/

theorem frameR : Cert.quiescent_ReferenceMergeIdeal := fun m ρ _ =>
  (θ_run Cert.ReferenceMergeIdeal.defs _ _).mono (fun r h => ⟨fun c => (h c).2.2.2,
      Idealize.ShloMosaic.sem_eq_zero_of_no_sems (by decide) r.2⟩)
    (Cert.ReferenceMergeIdeal.Value.run (F := Ideal) m ρ)

theorem algebraic : Cert.algebraic_KernelMergeIdeal_ReferenceMergeIdeal := by
  intro m ρ m' ρ' hpre hagree
  refine ⟨fun c => (dats m 0 c).arrAt 12 cfg0.N, fun c => (dats m 0 c).arrAt 13 cfg0.N, fun c => (dats m 0 c).arrAt 14 cfg0.N, Cert.KernelMergeIdeal.Value.run_blocks (F := Ideal) m ρ, ?_⟩
  refine (θ_run Cert.ReferenceMergeIdeal.defs _ _).mono (fun r h c => ?_) (Cert.ReferenceMergeIdeal.Value.run (F := Ideal) m' ρ')
  obtain ⟨r0, r1, r2, kept⟩ := h c
  obtain ⟨a0, a1, a2, a3, a4, a5, a6, a7, a8, a9⟩ := hagree c
  refine ⟨r0.trans ?_, r1.trans ?_, r2.trans ?_, kept⟩
  · refine (Cert.ReferenceMergeIdeal.Read.val_main_v27_eq _ _ _ _ _ _ _ _ _).trans ?_
    rw [a0, a1, a2, a3, a4, a5, a6, a7, a8]
    exact (ref27 _ _ _ _ _ _ _ _ _).trans (arr12 m c).symm
  · refine (Cert.ReferenceMergeIdeal.Read.val_main_v28_eq _ _ _ _ _ _ _).trans ?_
    rw [a1, a2, a3, a4, a5, a6, a7]
    exact (ref28 _ _ _ _ _ _ _).trans (arr13 m c).symm
  · refine (Cert.ReferenceMergeIdeal.Read.val_main_v43_eq _ _).trans ?_
    rw [a0, a1, a2, a3, a4, a5, a6, a7, a8, a9]
    exact (ref43 _ _ _ _ _ _ _ _ _ _).trans (arr14 m c).symm

end Cert.Merge

end
-- ==== Proof.MergeBwd.lean ====
/-
  The merge's backward pass: the gradients of the gates, of the branches' products and of the branches, a block of rows at each grid point.
-/
module

public import proofs.«01_k».proof.Defs
public import proofs.«01_k».proof.Proof.Lits
public import proofs.«01_k».proof.Proof.Products
public import proofs.«01_k».proof.Proof.Gen.KernelMergeBwdIdeal.Frame
public import proofs.«01_k».proof.Proof.Gen.ReferenceMergeBwdIdeal.Run
public import proofs.«01_k».proof.Proof.Gen.ReferenceMergeBwdIdeal.Read
public import proofs.«01_k».proof.Proof.Gates
public import Idealize.ShloMosaic.Lib.Pipeline.ValueKit.Tiles
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.MergeBwd

open Cert.KernelMergeBwdIdeal Cert.KernelMergeBwdIdeal.Gen Idealize.ShloMosaic Idealize.ShloMosaic.TcCoe Cert.Lits Cert.Products Cert.Norms Cert.Gates Cert.Arith
open Idealize.SL.Sem
open Idealize.ShloMosaic.Pipeline (Dat)
open scoped BigOperators

/-! ## A grid point's block -/

section

variable (d z v3 : Vec Ideal S256x1024 .f32) (y : Vec Ideal S256x512 .f32) (w : Vec Ideal S512x1024 .bf16) (wo : Vec Ideal S1024x1024 .bf16)

theorem pay2_at (r : Fin 256) (s : Fin 1024) : k0_pay2 d wo (ix2 r s) = back d wo (ix2 r s) := by
  unfold k0_pay2
  pointwise
  rfl

theorem pay2_eq : k0_pay2 d wo = back d wo :=
  funext fun i => (congrArg _ (eq_ix2 i)).trans ((pay2_at d wo (i 0) (i 1)).trans (congrArg (back d wo) (eq_ix2 i).symm))

theorem pay4_at (r : Fin 256) (s : Fin 1024) : k0_pay4 d wo z y w (ix2 r s) = dgate z (back d wo) y w (ix2 r s) := by
  have e := pay2_at d wo
  unfold k0_pay4 k0_pay3
  generalize k0_pay2 d wo = p at e ⊢
  pointwise
  simp only [e]
  rfl

theorem pay9_at (r : Fin 256) (s : Fin 1024) : k0_pay9 v3 (k0_pay7 z) w (k0_pay8 y) (ix2 r s) = dgate z v3 y w (ix2 r s) := by
  unfold k0_pay9 k0_pay7 k0_pay8
  pointwise
  rfl

theorem pay13_at (r : Fin 256) (s : Fin 1024) : k0_pay13 v3 z y w (ix2 r s) = dgate z v3 y w (ix2 r s) := by
  unfold k0_pay13 k0_pay12
  pointwise
  rfl

theorem pay5_at (r : Fin 256) (s : Fin 1024) : k0_pay5 d wo z (ix2 r s) = under z (back d wo) (ix2 r s) := by
  have e := pay2_at d wo
  unfold k0_pay5 k0_pay3
  generalize k0_pay2 d wo = p at e ⊢
  pointwise
  simp only [e]
  rfl

theorem pay10_at (r : Fin 256) (s : Fin 1024) : k0_pay10 v3 (k0_pay7 z) (ix2 r s) = under z v3 (ix2 r s) := by
  unfold k0_pay10 k0_pay7
  pointwise
  rfl

theorem pay14_at (r : Fin 256) (s : Fin 1024) : k0_pay14 v3 z (ix2 r s) = under z v3 (ix2 r s) := by
  unfold k0_pay14 k0_pay12
  pointwise
  rfl

theorem pay6_at (r : Fin 256) (s : Fin 512) : k0_pay6 d wo z w (ix2 r s) = dbranch z (back d wo) w (ix2 r s) := by
  have e := pay5_at d z wo
  unfold k0_pay6
  generalize k0_pay5 d wo z = p at e ⊢
  pointwise
  simp only [e]
  rfl

theorem pay11_at (r : Fin 256) (s : Fin 512) : k0_pay11 v3 (k0_pay7 z) w (ix2 r s) = dbranch z v3 w (ix2 r s) := by
  have e := pay10_at z v3
  unfold k0_pay11
  generalize k0_pay10 v3 (k0_pay7 z) = p at e ⊢
  pointwise
  simp only [e]
  rfl

theorem pay1_at (r : Fin 256) (s : Fin 512) : k0_pay1 (k0_pay14 v3 z) w (ix2 r s) = dbranch z v3 w (ix2 r s) := by
  have e := pay14_at z v3
  unfold k0_pay1
  generalize k0_pay14 v3 z = p at e ⊢
  pointwise
  simp only [e]
  rfl

end

section

variable (x0 : Vec Ideal S256x1024 .f32) (x1 x2 x3 : Vec Ideal S256x512 .f32) (x4 x5 x6 : Vec Ideal S256x1024 .f32) (x7 x8 x9 : Vec Ideal S512x1024 .bf16) (x10 : Vec Ideal S1024x1024 .bf16)

theorem out11_at (y : S256x3072.Idx) :
    out0_11 x0 x1 x2 x3 x4 x5 x6 x7 x8 x9 x10 y = groups (dgate x4 (back x0 x10) x1 x7) (dgate x5 (back x0 x10) x2 x8) (dgate x6 (back x0 x10) x3 x9) (ix2 (y 0) (y 1)) := by
  unfold out0_11 k0_pay15 k0_pay16
  simp only [View.ld_unit_zero (S := S256x1024) off2, View.ld_unit_zero (S := S256x512) off2, View.ld_unit_zero (S := S512x1024) off2, View.ld_unit_zero (S := S1024x1024) off2]
  canon_tiles x h
  · refine ((congrArg _ (eq_ix2 x)).trans (pay13_at x6 (k0_pay2 x0 x10) x3 x9 (x 0) (x 1))).trans ?_
    refine Eq.trans ?_ (groups_c (s := x 1) h1).symm
    exact congrArg₂ (fun d r => dgate x6 d x3 x9 (ix2 r (x 1))) (pay2_eq x0 x10) (Fin.ext h0.symm)
  · refine ((congrArg _ (eq_ix2 x)).trans (pay9_at x5 (k0_pay2 x0 x10) x2 x8 (x 0) (x 1))).trans ?_
    refine Eq.trans ?_ (groups_b (s := x 1) h1).symm
    exact congrArg₂ (fun d r => dgate x5 d x2 x8 (ix2 r (x 1))) (pay2_eq x0 x10) (Fin.ext h0.symm)
  · refine ((congrArg _ (eq_ix2 x)).trans (pay4_at x0 x4 x1 x7 x10 (x 0) (x 1))).trans ?_
    refine Eq.trans ?_ (groups_a (s := x 1) h1).symm
    exact congrArg (fun r => dgate x4 (back x0 x10) x1 x7 (ix2 r (x 1))) (Fin.ext h0.symm)

theorem out12_at (y : S256x1024.Idx) : out0_12 x0 x1 x2 x3 x4 x5 x6 x7 x8 x9 x10 y = under x4 (back x0 x10) (ix2 (y 0) (y 1)) := by
  unfold out0_12
  try unfold k0_pay15
  try unfold k0_pay16
  rw [View.canon_unit_zero (S := S256x1024) off2]
  simp only [View.ld_unit_zero (S := S256x1024) off2, View.ld_unit_zero (S := S256x512) off2, View.ld_unit_zero (S := S512x1024) off2, View.ld_unit_zero (S := S1024x1024) off2]
  exact (congrArg _ (eq_ix2 y)).trans (pay5_at x0 x4 x10 (y 0) (y 1))

theorem out13_at (y : S256x1024.Idx) : out0_13 x0 x1 x2 x3 x4 x5 x6 x7 x8 x9 x10 y = under x5 (back x0 x10) (ix2 (y 0) (y 1)) := by
  unfold out0_13
  try unfold k0_pay15
  try unfold k0_pay16
  rw [View.canon_unit_zero (S := S256x1024) off2]
  simp only [View.ld_unit_zero (S := S256x1024) off2, View.ld_unit_zero (S := S256x512) off2, View.ld_unit_zero (S := S512x1024) off2, View.ld_unit_zero (S := S1024x1024) off2]
  exact (congrArg _ (eq_ix2 y)).trans ((pay10_at x5 (k0_pay2 x0 x10) (y 0) (y 1)).trans (congrArg (fun d => under x5 d (ix2 (y 0) (y 1))) (pay2_eq x0 x10)))

theorem out14_at (y : S256x1024.Idx) : out0_14 x0 x1 x2 x3 x4 x5 x6 x7 x8 x9 x10 y = under x6 (back x0 x10) (ix2 (y 0) (y 1)) := by
  unfold out0_14
  try unfold k0_pay15
  try unfold k0_pay16
  rw [View.canon_unit_zero (S := S256x1024) off2]
  simp only [View.ld_unit_zero (S := S256x1024) off2, View.ld_unit_zero (S := S256x512) off2, View.ld_unit_zero (S := S512x1024) off2, View.ld_unit_zero (S := S1024x1024) off2]
  exact (congrArg _ (eq_ix2 y)).trans ((pay14_at x6 (k0_pay2 x0 x10) (y 0) (y 1)).trans (congrArg (fun d => under x6 d (ix2 (y 0) (y 1))) (pay2_eq x0 x10)))

theorem out15_at (y : S256x512.Idx) : out0_15 x0 x1 x2 x3 x4 x5 x6 x7 x8 x9 x10 y = dbranch x4 (back x0 x10) x7 (ix2 (y 0) (y 1)) := by
  unfold out0_15
  try unfold k0_pay15
  try unfold k0_pay16
  rw [View.canon_unit_zero (S := S256x512) off2]
  simp only [View.ld_unit_zero (S := S256x1024) off2, View.ld_unit_zero (S := S256x512) off2, View.ld_unit_zero (S := S512x1024) off2, View.ld_unit_zero (S := S1024x1024) off2]
  exact (congrArg _ (eq_ix2 y)).trans (pay6_at x0 x4 x7 x10 (y 0) (y 1))

theorem out16_at (y : S256x512.Idx) : out0_16 x0 x1 x2 x3 x4 x5 x6 x7 x8 x9 x10 y = dbranch x5 (back x0 x10) x8 (ix2 (y 0) (y 1)) := by
  unfold out0_16
  try unfold k0_pay15
  try unfold k0_pay16
  rw [View.canon_unit_zero (S := S256x512) off2]
  simp only [View.ld_unit_zero (S := S256x1024) off2, View.ld_unit_zero (S := S256x512) off2, View.ld_unit_zero (S := S512x1024) off2, View.ld_unit_zero (S := S1024x1024) off2]
  exact (congrArg _ (eq_ix2 y)).trans ((pay11_at x5 (k0_pay2 x0 x10) x8 (y 0) (y 1)).trans (congrArg (fun d => dbranch x5 d x8 (ix2 (y 0) (y 1))) (pay2_eq x0 x10)))

theorem out17_at (y : S256x512.Idx) : out0_17 x0 x1 x2 x3 x4 x5 x6 x7 x8 x9 x10 y = dbranch x6 (back x0 x10) x9 (ix2 (y 0) (y 1)) := by
  unfold out0_17
  try unfold k0_pay15
  try unfold k0_pay16
  rw [View.canon_unit_zero (S := S256x512) off2]
  simp only [View.ld_unit_zero (S := S256x1024) off2, View.ld_unit_zero (S := S256x512) off2, View.ld_unit_zero (S := S512x1024) off2, View.ld_unit_zero (S := S1024x1024) off2]
  exact (congrArg _ (eq_ix2 y)).trans ((pay1_at x6 (k0_pay2 x0 x10) x9 (y 0) (y 1)).trans (congrArg (fun d => dbranch x6 d x9 (ix2 (y 0) (y 1))) (pay2_eq x0 x10)))

end

/-! ## The blocks of the arrays -/

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 1] ∧ win0_6.index t = ![t.val, 2] ∧ win0_7.index t = ![0, 0] ∧ win0_8.index t = ![0, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 1] ∧ win0_6.index t = ![t.val, 2] ∧ win0_7.index t = ![0, 0] ∧ win0_8.index t = ![0, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0])

theorem blk0 (c : Dev nD) (t : Fin cfg0.N) (r : Fin 256) (s : Fin 1024) :
    iblk m c 0 t (ix2 r s) = m ((c : Thread nD τ).loc main_arg0) (ix2 ⟨256 * t.val + r, by have h : t.val < 32 := t.isLt; omega⟩ s) := by
  blk_ext [iblk, V, (idx t).1]

theorem blk1 (c : Dev nD) (t : Fin cfg0.N) (r : Fin 256) (s : Fin 512) :
    iblk m c 1 t (ix2 r s) = m ((c : Thread nD τ).loc main_arg1) (ix2 ⟨256 * t.val + r, by have h : t.val < 32 := t.isLt; omega⟩ s) := by
  blk_ext [iblk, V, (idx t).2.1]

theorem blk2 (c : Dev nD) (t : Fin cfg0.N) (r : Fin 256) (s : Fin 512) :
    iblk m c 2 t (ix2 r s) = m ((c : Thread nD τ).loc main_arg2) (ix2 ⟨256 * t.val + r, by have h : t.val < 32 := t.isLt; omega⟩ s) := by
  blk_ext [iblk, V, (idx t).2.2.1]

theorem blk3 (c : Dev nD) (t : Fin cfg0.N) (r : Fin 256) (s : Fin 512) :
    iblk m c 3 t (ix2 r s) = m ((c : Thread nD τ).loc main_arg3) (ix2 ⟨256 * t.val + r, by have h : t.val < 32 := t.isLt; omega⟩ s) := by
  blk_ext [iblk, V, (idx t).2.2.2.1]

theorem blk4 (c : Dev nD) (t : Fin cfg0.N) (r : Fin 256) (s : Fin 1024) :
    iblk m c 4 t (ix2 r s) = zcol (m ((c : Thread nD τ).loc main_arg4)) 0 (ix2 ⟨256 * t.val + r, by have h : t.val < 32 := t.isLt; omega⟩ s) := by
  refine Eq.trans (b := m ((c : Thread nD τ).loc main_arg4) (ix2 ⟨256 * t.val + r, by have h : t.val < 32 := t.isLt; omega⟩ ⟨1024 * 0 + s, by omega⟩)) ?_ rfl
  blk_ext [iblk, V, (idx t).2.2.2.2.1]

theorem blk5 (c : Dev nD) (t : Fin cfg0.N) (r : Fin 256) (s : Fin 1024) :
    iblk m c 5 t (ix2 r s) = zcol (m ((c : Thread nD τ).loc main_arg4)) 1 (ix2 ⟨256 * t.val + r, by have h : t.val < 32 := t.isLt; omega⟩ s) := by
  refine Eq.trans (b := m ((c : Thread nD τ).loc main_arg4) (ix2 ⟨256 * t.val + r, by have h : t.val < 32 := t.isLt; omega⟩ ⟨1024 * 1 + s, by omega⟩)) ?_ rfl
  blk_ext [iblk, V, (idx t).2.2.2.2.2.1]

theorem blk6 (c : Dev nD) (t : Fin cfg0.N) (r : Fin 256) (s : Fin 1024) :
    iblk m c 6 t (ix2 r s) = zcol (m ((c : Thread nD τ).loc main_arg4)) 2 (ix2 ⟨256 * t.val + r, by have h : t.val < 32 := t.isLt; omega⟩ s) := by
  refine Eq.trans (b := m ((c : Thread nD τ).loc main_arg4) (ix2 ⟨256 * t.val + r, by have h : t.val < 32 := t.isLt; omega⟩ ⟨1024 * 2 + s, by omega⟩)) ?_ rfl
  blk_ext [iblk, V, (idx t).2.2.2.2.2.2.1]

theorem blk7 (c : Dev nD) (t : Fin cfg0.N) (r : Fin 512) (s : Fin 1024) :
    iblk m c 7 t (ix2 r s) = m ((c : Thread nD τ).loc main_arg5) (ix2 r s) := by
  blk_ext [iblk, V, (idx t).2.2.2.2.2.2.2.1]

theorem blk8 (c : Dev nD) (t : Fin cfg0.N) (r : Fin 512) (s : Fin 1024) :
    iblk m c 8 t (ix2 r s) = m ((c : Thread nD τ).loc main_arg6) (ix2 r s) := by
  blk_ext [iblk, V, (idx t).2.2.2.2.2.2.2.2.1]

theorem blk9 (c : Dev nD) (t : Fin cfg0.N) (r : Fin 512) (s : Fin 1024) :
    iblk m c 9 t (ix2 r s) = m ((c : Thread nD τ).loc main_arg7) (ix2 r s) := by
  blk_ext [iblk, V, (idx t).2.2.2.2.2.2.2.2.2.1]

theorem blk10 (c : Dev nD) (t : Fin cfg0.N) (r : Fin 1024) (s : Fin 1024) :
    iblk m c 10 t (ix2 r s) = m ((c : Thread nD τ).loc main_arg8) (ix2 r s) := by
  blk_ext [iblk, V, (idx t).2.2.2.2.2.2.2.2.2.2.1]

/-- The gradient of the merged branches, of the whole arrays. -/
def dmerged (c : Dev nD) : Mat 8192 1024 := back (m ((c : Thread nD τ).loc main_arg0)) (m ((c : Thread nD τ).loc main_arg8))

theorem dmerged_at (c : Dev nD) (t : Fin cfg0.N) (r : Fin 256) (s : Fin 1024) :
    back (iblk m c 0 t) (iblk m c 10 t) (ix2 r s) = dmerged m c (ix2 ⟨256 * t.val + r, by have h : t.val < 32 := t.isLt; omega⟩ s) :=
  back_of (blk0 m c t r) (blk10 m c t s)

/-- The gradient of a gate, of the whole arrays. -/
def dgate0 (c : Dev nD) : Mat 8192 1024 := dgate (zcol (m ((c : Thread nD τ).loc main_arg4)) 0) (dmerged m c) (m ((c : Thread nD τ).loc main_arg1)) (m ((c : Thread nD τ).loc main_arg5))

theorem dgate0_at (c : Dev nD) (t : Fin cfg0.N) (r : Fin 256) (s : Fin 1024) :
    dgate (iblk m c 4 t) (back (iblk m c 0 t) (iblk m c 10 t)) (iblk m c 1 t) (iblk m c 7 t) (ix2 r s) = dgate0 m c (ix2 ⟨256 * t.val + r, by have h : t.val < 32 := t.isLt; omega⟩ s) :=
  dgate_of (blk4 m c t r s) (dmerged_at m c t r s) (blk1 m c t r) (fun k => blk7 m c t k s)

/-- The gradient of a gate, of the whole arrays. -/
def dgate1 (c : Dev nD) : Mat 8192 1024 := dgate (zcol (m ((c : Thread nD τ).loc main_arg4)) 1) (dmerged m c) (m ((c : Thread nD τ).loc main_arg2)) (m ((c : Thread nD τ).loc main_arg6))

theorem dgate1_at (c : Dev nD) (t : Fin cfg0.N) (r : Fin 256) (s : Fin 1024) :
    dgate (iblk m c 5 t) (back (iblk m c 0 t) (iblk m c 10 t)) (iblk m c 2 t) (iblk m c 8 t) (ix2 r s) = dgate1 m c (ix2 ⟨256 * t.val + r, by have h : t.val < 32 := t.isLt; omega⟩ s) :=
  dgate_of (blk5 m c t r s) (dmerged_at m c t r s) (blk2 m c t r) (fun k => blk8 m c t k s)

/-- The gradient of a gate, of the whole arrays. -/
def dgate2 (c : Dev nD) : Mat 8192 1024 := dgate (zcol (m ((c : Thread nD τ).loc main_arg4)) 2) (dmerged m c) (m ((c : Thread nD τ).loc main_arg3)) (m ((c : Thread nD τ).loc main_arg7))

theorem dgate2_at (c : Dev nD) (t : Fin cfg0.N) (r : Fin 256) (s : Fin 1024) :
    dgate (iblk m c 6 t) (back (iblk m c 0 t) (iblk m c 10 t)) (iblk m c 3 t) (iblk m c 9 t) (ix2 r s) = dgate2 m c (ix2 ⟨256 * t.val + r, by have h : t.val < 32 := t.isLt; omega⟩ s) :=
  dgate_of (blk6 m c t r s) (dmerged_at m c t r s) (blk3 m c t r) (fun k => blk9 m c t k s)

theorem groups_at (c : Dev nD) (t : Fin cfg0.N) (r : Fin 256) (s : Fin 3072) :
    groups (dgate (iblk m c 4 t) (back (iblk m c 0 t) (iblk m c 10 t)) (iblk m c 1 t) (iblk m c 7 t)) (dgate (iblk m c 5 t) (back (iblk m c 0 t) (iblk m c 10 t)) (iblk m c 2 t) (iblk m c 8 t)) (dgate (iblk m c 6 t) (back (iblk m c 0 t) (iblk m c 10 t)) (iblk m c 3 t) (iblk m c 9 t)) (ix2 r s)
      = groups (dgate0 m c) (dgate1 m c) (dgate2 m c) (ix2 ⟨256 * t.val + r, by have h : t.val < 32 := t.isLt; omega⟩ s) := by
  symm
  rcases lt_or_ge s.val 1024 with h | h
  · exact (groups_a (s := ⟨s.val, h⟩) rfl).trans ((dgate0_at m c t r _).symm.trans (groups_a (s := ⟨s.val, h⟩) rfl).symm)
  rcases lt_or_ge s.val 2048 with h' | h'
  · have e : s.val = 1024 + (s.val - 1024) := by omega
    exact (groups_b (s := ⟨s.val - 1024, by omega⟩) e).trans ((dgate1_at m c t r _).symm.trans (groups_b (s := ⟨s.val - 1024, by omega⟩) e).symm)
  · have e : s.val = 2048 + (s.val - 2048) := by omega
    exact (groups_c (s := ⟨s.val - 2048, by omega⟩) e).trans ((dgate2_at m c t r _).symm.trans (groups_c (s := ⟨s.val - 2048, by omega⟩) e).symm)

/-- The whole array of which the call writes the gates' columns. -/
def gatesArr (c : Dev nD) : S8192x7168.Idx → EReal := fun i =>
  if h : (i 1).val < 3072 then groups (dgate0 m c) (dgate1 m c) (dgate2 m c) (ix2 (i 0) ⟨(i 1).val, h⟩) else 0

theorem gatesArr_at (c : Dev nD) (i : Fin 8192) (j : Fin 7168) (k : Fin 3072) (h : j.val = k.val) :
    gatesArr m c (ix2 i j) = groups (dgate0 m c) (dgate1 m c) (dgate2 m c) (ix2 i k) := by
  have e : (ix2 i j 1).val = k.val := h
  exact (dif_pos (e.trans_lt k.isLt)).trans (congrArg (fun k => groups (dgate0 m c) (dgate1 m c) (dgate2 m c) (ix2 i k)) (Fin.ext e))

theorem arr11 (c : Dev nD) (i : S8192x7168.Idx) (hi : (i 1).val / 3072 = 0) : (dats m 0 c).arrAt 11 cfg0.N i = gatesArr m c i := by
  refine ((dats m 0 c).arrAt_apply_of_coversWhere 11 (gatesArr m c) (P := fun i : S8192x7168.Idx => (i 1).val / 3072 = 0) (fun β => β (1 : Fin _) = 0) (by decide +kernel)
    (fun t hf y => ?_) (fun j => Iff.rfl) i).trans (if_pos hi)
  blk_simp
  rw [after0_11]
  have hy : ∀ a : Fin 2, (((cfg0.win 11).xinj (cfg0.grid.coords t) y : S256x3072.Idx) a : ℕ) = (y a : ℕ) := fun a => rfl
  generalize ((cfg0.win 11).xinj (cfg0.grid.coords t) y : S256x3072.Idx) = y' at hy ⊢
  refine ((out11_at ..).trans (groups_at m c t (y' 0) (y' 1))).trans ?_
  have h0 : (y' 0 : ℕ) < 256 := (y' 0).isLt
  have h1 : (y' 1 : ℕ) < 3072 := (y' 1).isLt
  have e0 := hy 0
  have e1 := hy 1
  refine (gatesArr_at m c ⟨256 * t.val + (y' 0).val, by have h : t.val < 32 := t.isLt; omega⟩ ⟨(y' 1).val, by omega⟩ (y' 1) rfl).symm.trans (congrArg (gatesArr m c) ?_)
  refine Eq.trans ?_ (eq_ix2 _).symm
  refine congrArg₂ ix2 (Fin.ext ?_) (Fin.ext ?_)
  all_goals blk_simp [(idx t).2.2.2.2.2.2.2.2.2.2.2.1]
  all_goals dsimp only
  all_goals omega

theorem arr12 (c : Dev nD) : (dats m 0 c).arrAt 12 cfg0.N = fun j : S8192x1024.Idx => (under (zcol (m ((c : Thread nD τ).loc main_arg4)) 0) (dmerged m c)) (ix2 (j 0) (j 1)) := by
  refine (dats m 0 c).arrAt_eq_of_covers 12 _ (by decide +kernel) fun t hf y => ?_
  blk_simp
  rw [after0_12]
  refine ((out12_at ..).trans (under_of (blk4 m c t (y 0) (y 1)) (dmerged_at m c t (y 0) (y 1)))).trans (congrArg (under (zcol (m ((c : Thread nD τ).loc main_arg4)) 0) (dmerged m c)) (congrArg₂ ix2 (Fin.ext ?_) (Fin.ext ?_)))
  all_goals have h0 : (y 0 : ℕ) < 256 := (y 0).isLt
  all_goals blk_simp [(idx t).2.2.2.2.2.2.2.2.2.2.2.2.1]
  all_goals dsimp only
  all_goals omega

theorem arr13 (c : Dev nD) : (dats m 0 c).arrAt 13 cfg0.N = fun j : S8192x1024.Idx => (under (zcol (m ((c : Thread nD τ).loc main_arg4)) 1) (dmerged m c)) (ix2 (j 0) (j 1)) := by
  refine (dats m 0 c).arrAt_eq_of_covers 13 _ (by decide +kernel) fun t hf y => ?_
  blk_simp
  rw [after0_13]
  refine ((out13_at ..).trans (under_of (blk5 m c t (y 0) (y 1)) (dmerged_at m c t (y 0) (y 1)))).trans (congrArg (under (zcol (m ((c : Thread nD τ).loc main_arg4)) 1) (dmerged m c)) (congrArg₂ ix2 (Fin.ext ?_) (Fin.ext ?_)))
  all_goals have h0 : (y 0 : ℕ) < 256 := (y 0).isLt
  all_goals blk_simp [(idx t).2.2.2.2.2.2.2.2.2.2.2.2.2.1]
  all_goals dsimp only
  all_goals omega

theorem arr14 (c : Dev nD) : (dats m 0 c).arrAt 14 cfg0.N = fun j : S8192x1024.Idx => (under (zcol (m ((c : Thread nD τ).loc main_arg4)) 2) (dmerged m c)) (ix2 (j 0) (j 1)) := by
  refine (dats m 0 c).arrAt_eq_of_covers 14 _ (by decide +kernel) fun t hf y => ?_
  blk_simp
  rw [after0_14]
  refine ((out14_at ..).trans (under_of (blk6 m c t (y 0) (y 1)) (dmerged_at m c t (y 0) (y 1)))).trans (congrArg (under (zcol (m ((c : Thread nD τ).loc main_arg4)) 2) (dmerged m c)) (congrArg₂ ix2 (Fin.ext ?_) (Fin.ext ?_)))
  all_goals have h0 : (y 0 : ℕ) < 256 := (y 0).isLt
  all_goals blk_simp [(idx t).2.2.2.2.2.2.2.2.2.2.2.2.2.2.1]
  all_goals dsimp only
  all_goals omega

theorem arr15 (c : Dev nD) : (dats m 0 c).arrAt 15 cfg0.N = fun j : S8192x512.Idx => (dbranch (zcol (m ((c : Thread nD τ).loc main_arg4)) 0) (dmerged m c) (m ((c : Thread nD τ).loc main_arg5))) (ix2 (j 0) (j 1)) := by
  refine (dats m 0 c).arrAt_eq_of_covers 15 _ (by decide +kernel) fun t hf y => ?_
  blk_simp
  rw [after0_15]
  refine ((out15_at ..).trans (dbranch_of (blk4 m c t (y 0)) (dmerged_at m c t (y 0)) (blk7 m c t (y 1)))).trans (congrArg (dbranch (zcol (m ((c : Thread nD τ).loc main_arg4)) 0) (dmerged m c) (m ((c : Thread nD τ).loc main_arg5))) (congrArg₂ ix2 (Fin.ext ?_) (Fin.ext ?_)))
  all_goals have h0 : (y 0 : ℕ) < 256 := (y 0).isLt
  all_goals blk_simp [(idx t).2.2.2.2.2.2.2.2.2.2.2.2.2.2.2.1]
  all_goals dsimp only
  all_goals omega

theorem arr16 (c : Dev nD) : (dats m 0 c).arrAt 16 cfg0.N = fun j : S8192x512.Idx => (dbranch (zcol (m ((c : Thread nD τ).loc main_arg4)) 1) (dmerged m c) (m ((c : Thread nD τ).loc main_arg6))) (ix2 (j 0) (j 1)) := by
  refine (dats m 0 c).arrAt_eq_of_covers 16 _ (by decide +kernel) fun t hf y => ?_
  blk_simp
  rw [after0_16]
  refine ((out16_at ..).trans (dbranch_of (blk5 m c t (y 0)) (dmerged_at m c t (y 0)) (blk8 m c t (y 1)))).trans (congrArg (dbranch (zcol (m ((c : Thread nD τ).loc main_arg4)) 1) (dmerged m c) (m ((c : Thread nD τ).loc main_arg6))) (congrArg₂ ix2 (Fin.ext ?_) (Fin.ext ?_)))
  all_goals have h0 : (y 0 : ℕ) < 256 := (y 0).isLt
  all_goals blk_simp [(idx t).2.2.2.2.2.2.2.2.2.2.2.2.2.2.2.2.1]
  all_goals dsimp only
  all_goals omega

theorem arr17 (c : Dev nD) : (dats m 0 c).arrAt 17 cfg0.N = fun j : S8192x512.Idx => (dbranch (zcol (m ((c : Thread nD τ).loc main_arg4)) 2) (dmerged m c) (m ((c : Thread nD τ).loc main_arg7))) (ix2 (j 0) (j 1)) := by
  refine (dats m 0 c).arrAt_eq_of_covers 17 _ (by decide +kernel) fun t hf y => ?_
  blk_simp
  rw [after0_17]
  refine ((out17_at ..).trans (dbranch_of (blk6 m c t (y 0)) (dmerged_at m c t (y 0)) (blk9 m c t (y 1)))).trans (congrArg (dbranch (zcol (m ((c : Thread nD τ).loc main_arg4)) 2) (dmerged m c) (m ((c : Thread nD τ).loc main_arg7))) (congrArg₂ ix2 (Fin.ext ?_) (Fin.ext ?_)))
  all_goals have h0 : (y 0 : ℕ) < 256 := (y 0).isLt
  all_goals blk_simp [(idx t).2.2.2.2.2.2.2.2.2.2.2.2.2.2.2.2.2]
  all_goals dsimp only
  all_goals omega

/-! ## The run, through the columns taken after the call -/

/-- The gates' columns of the array the call writes. -/
def gatesOut (c : Dev nD) : S8192x3072.Idx → EReal :=
  extractStridedSlice S8192x3072 ![0, 0] ((dats m 0 c).arrAt 11 cfg0.N : S8192x7168.Idx → EReal) slices_S8192x7168_S8192x3072_0_0

theorem gatesOut_eq (c : Dev nD) : gatesOut m c = fun j => groups (dgate0 m c) (dgate1 m c) (dgate2 m c) (ix2 (j 0) (j 1)) := by
  funext j
  have h1 : (j 1 : ℕ) < 3072 := (j 1).isLt
  refine (extractStridedSlice_apply ![0, 0] ((dats m 0 c).arrAt 11 cfg0.N : S8192x7168.Idx → EReal) slices_S8192x7168_S8192x3072_0_0 j (ix2 (j 0) ⟨(j 1).val, by omega⟩) (fun a => match a with
    | ⟨0, _⟩ => by show (j 0).val = 0 + (j 0).val; omega
    | ⟨1, _⟩ => by show (j 1).val = 0 + (j 1).val; omega)).trans ?_
  refine (arr11 m c _ ?_).trans (gatesArr_at m c (j 0) ⟨(j 1).val, by omega⟩ (j 1) rfl)
  show (j 1).val / 3072 = 0
  omega

theorem tail (c : Dev nD) : Pipeline.afterTail₀ cfgs (dats m) 0 (V0 m) [hostOps1] c main_v1 = gatesOut m c := by
  unfold Pipeline.afterTail₀ gatesOut
  refine Eq.trans ?_ (congrArg (fun z : S8192x7168.Idx → EReal => extractStridedSlice S8192x3072 ![0, 0] z slices_S8192x7168_S8192x3072_0_0) ((dats m 0 c).withArrays_arrAt launch₀0.sharedIn (V0 m c) (A_eq m c) 11))
  show StableHlo.after hostOps1 _ _ = _
  unfold hostOps1
  rw [StableHlo.after_cons, StableHlo.after_nil]
  exact StableHlo.unary_result main_v0_0 main_v1 _ _ _ _

theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v1) = gatesOut m c
      ∧ r.2.mem ((c.tc : Thread nD τ).loc main_v0_1) = (dats m 0 c).arrAt 12 cfg0.N
      ∧ r.2.mem ((c.tc : Thread nD τ).loc main_v0_2) = (dats m 0 c).arrAt 13 cfg0.N
      ∧ r.2.mem ((c.tc : Thread nD τ).loc main_v0_3) = (dats m 0 c).arrAt 14 cfg0.N
      ∧ r.2.mem ((c.tc : Thread nD τ).loc main_v0_4) = (dats m 0 c).arrAt 15 cfg0.N
      ∧ r.2.mem ((c.tc : Thread nD τ).loc main_v0_5) = (dats m 0 c).arrAt 16 cfg0.N
      ∧ r.2.mem ((c.tc : Thread nD τ).loc main_v0_6) = (dats m 0 c).arrAt 17 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).2 main_v1 (by decide)).trans (tail m c), (h.1 c).1 12, (h.1 c).1 13, (h.1 c).1 14, (h.1 c).1 15, (h.1 c).1 16, (h.1 c).1 17, h.2 c⟩)
    (θ_run_and (run_main (F := Ideal) m ρ) (unchanged (F := Ideal) m ρ))

/-! ## The reference's results -/

section Reference

variable (x0 : S8192x1024.Idx → EReal) (x1 x2 x3 : S8192x512.Idx → EReal) (x4 : S8192x7168.Idx → EReal) (x5 x6 x7 : S512x1024.Idx → EReal) (x8 : S1024x1024.Idx → EReal)

theorem r6_at (i : Fin 8192) (j : Fin 3072) : Cert.ReferenceMergeBwdIdeal.Read.val_main_v6 (F := Ideal) x4 (ix2 i j) = x4 (ix2 i ⟨j.val, by omega⟩) := by
  refine (Cert.ReferenceMergeBwdIdeal.Read.val_main_v6_apply (F := Ideal) x4 _).trans (congrArg x4 ?_)
  funext a; match a with
    | ⟨0, _⟩ => exact Fin.ext (by simp)
    | ⟨1, _⟩ => exact Fin.ext (by simp)

theorem gate_at (i : Fin 8192) (j : Fin 3072) : Cert.ReferenceMergeBwdIdeal.Read.val_main_v12 (F := Ideal) x4 (ix2 i j) = Ideal.logistic (x4 (ix2 i ⟨j.val, by omega⟩)) := by
  refine Eq.trans ?_ (congrArg Ideal.logistic (r6_at x4 i j))
  unfold Cert.ReferenceMergeBwdIdeal.Read.val_main_v12 Cert.ReferenceMergeBwdIdeal.Read.val_main_v11 Cert.ReferenceMergeBwdIdeal.Read.val_main_v10 Cert.ReferenceMergeBwdIdeal.Read.val_main_v9 Cert.ReferenceMergeBwdIdeal.Read.val_main_v8 Cert.ReferenceMergeBwdIdeal.Read.val_main_v7 Cert.ReferenceMergeBwdIdeal.Read.val_main_cst Cert.ReferenceMergeBwdIdeal.Read.val_main_cst_0
  generalize Cert.ReferenceMergeBwdIdeal.Read.val_main_v6 (F := Ideal) x4 = p
  pointwise
  rfl

/-- The reference's derivative of the logistic. -/
theorem r15_at (i : Fin 8192) (j : Fin 3072) : Cert.ReferenceMergeBwdIdeal.Read.val_main_v15 (F := Ideal) x4 (ix2 i j) = Ideal.logistic (x4 (ix2 i ⟨j.val, by omega⟩)) * (1 - Ideal.logistic (x4 (ix2 i ⟨j.val, by omega⟩))) := by
  have e := gate_at x4 i j
  unfold Cert.ReferenceMergeBwdIdeal.Read.val_main_v15 Cert.ReferenceMergeBwdIdeal.Read.val_main_v14 Cert.ReferenceMergeBwdIdeal.Read.val_main_v13 Cert.ReferenceMergeBwdIdeal.Read.val_main_cst_1
  generalize Cert.ReferenceMergeBwdIdeal.Read.val_main_v12 (F := Ideal) x4 = p at e ⊢
  pointwise
  simp only [e]

theorem r18_at (i : Fin 8192) (j : Fin 1024) : Cert.ReferenceMergeBwdIdeal.Read.val_main_v18 (F := Ideal) x4 (ix2 i j) = Ideal.logistic (zcol x4 0 (ix2 i j)) := by
  refine Eq.trans (b := Cert.ReferenceMergeBwdIdeal.Read.val_main_v12 (F := Ideal) x4 (ix2 i ⟨1024 * 0 + j.val, by omega⟩)) ?_ (gate_at x4 i _)
  unfold Cert.ReferenceMergeBwdIdeal.Read.val_main_v18 Cert.ReferenceMergeBwdIdeal.Read.val_main_v17 Cert.ReferenceMergeBwdIdeal.Read.val_main_v16
  generalize Cert.ReferenceMergeBwdIdeal.Read.val_main_v12 (F := Ideal) x4 = p
  pointwise

theorem r21_at (i : Fin 8192) (j : Fin 1024) : Cert.ReferenceMergeBwdIdeal.Read.val_main_v21 (F := Ideal) x4 (ix2 i j) = Ideal.logistic (zcol x4 1 (ix2 i j)) := by
  refine Eq.trans (b := Cert.ReferenceMergeBwdIdeal.Read.val_main_v12 (F := Ideal) x4 (ix2 i ⟨1024 * 1 + j.val, by omega⟩)) ?_ (gate_at x4 i _)
  unfold Cert.ReferenceMergeBwdIdeal.Read.val_main_v21 Cert.ReferenceMergeBwdIdeal.Read.val_main_v20 Cert.ReferenceMergeBwdIdeal.Read.val_main_v16
  generalize Cert.ReferenceMergeBwdIdeal.Read.val_main_v12 (F := Ideal) x4 = p
  pointwise

theorem r25_at (i : Fin 8192) (j : Fin 1024) : Cert.ReferenceMergeBwdIdeal.Read.val_main_v25 (F := Ideal) x4 (ix2 i j) = Ideal.logistic (zcol x4 2 (ix2 i j)) := by
  refine Eq.trans (b := Cert.ReferenceMergeBwdIdeal.Read.val_main_v12 (F := Ideal) x4 (ix2 i ⟨1024 * 2 + j.val, by omega⟩)) ?_ (gate_at x4 i _)
  unfold Cert.ReferenceMergeBwdIdeal.Read.val_main_v25 Cert.ReferenceMergeBwdIdeal.Read.val_main_v24 Cert.ReferenceMergeBwdIdeal.Read.val_main_v16
  generalize Cert.ReferenceMergeBwdIdeal.Read.val_main_v12 (F := Ideal) x4 = p
  pointwise

theorem r1_at (i : Fin 8192) (j : Fin 1024) : Cert.ReferenceMergeBwdIdeal.Read.val_main_v1 (F := Ideal) x1 x5 (ix2 i j) = nn x1 x5 i j := by
  refine (Cert.ReferenceMergeBwdIdeal.Read.val_main_v1_apply x1 x5 _).trans (show _ = nn x1 x5 i j from Finset.sum_congr rfl fun k _ => ?_)
  refine congrArg₂ (· * ·) (congrArg x1 ?_) ((Cert.ReferenceMergeBwdIdeal.Read.val_main_v0_apply (F := Ideal) x5 _).trans (congrArg x5 ?_))
  · funext a; match a with
    | ⟨0, _⟩ => rfl
    | ⟨1, _⟩ => rfl
  · funext a; match a with
    | ⟨0, _⟩ => rfl
    | ⟨1, _⟩ => rfl

theorem r3_at (i : Fin 8192) (j : Fin 1024) : Cert.ReferenceMergeBwdIdeal.Read.val_main_v3 (F := Ideal) x2 x6 (ix2 i j) = nn x2 x6 i j := by
  refine (Cert.ReferenceMergeBwdIdeal.Read.val_main_v3_apply x2 x6 _).trans (show _ = nn x2 x6 i j from Finset.sum_congr rfl fun k _ => ?_)
  refine congrArg₂ (· * ·) (congrArg x2 ?_) ((Cert.ReferenceMergeBwdIdeal.Read.val_main_v2_apply (F := Ideal) x6 _).trans (congrArg x6 ?_))
  · funext a; match a with
    | ⟨0, _⟩ => rfl
    | ⟨1, _⟩ => rfl
  · funext a; match a with
    | ⟨0, _⟩ => rfl
    | ⟨1, _⟩ => rfl

theorem r5_at (i : Fin 8192) (j : Fin 1024) : Cert.ReferenceMergeBwdIdeal.Read.val_main_v5 (F := Ideal) x3 x7 (ix2 i j) = nn x3 x7 i j := by
  refine (Cert.ReferenceMergeBwdIdeal.Read.val_main_v5_apply x3 x7 _).trans (show _ = nn x3 x7 i j from Finset.sum_congr rfl fun k _ => ?_)
  refine congrArg₂ (· * ·) (congrArg x3 ?_) ((Cert.ReferenceMergeBwdIdeal.Read.val_main_v4_apply (F := Ideal) x7 _).trans (congrArg x7 ?_))
  · funext a; match a with
    | ⟨0, _⟩ => rfl
    | ⟨1, _⟩ => rfl
  · funext a; match a with
    | ⟨0, _⟩ => rfl
    | ⟨1, _⟩ => rfl

theorem r30_at (i : Fin 8192) (j : Fin 1024) : Cert.ReferenceMergeBwdIdeal.Read.val_main_v30 (F := Ideal) x0 x8 (ix2 i j) = (back x0 x8) (ix2 i j) := by
  refine (Cert.ReferenceMergeBwdIdeal.Read.val_main_v30_apply x0 x8 _).trans (show _ = nt x0 x8 i j from Finset.sum_congr rfl fun k _ => ?_)
  refine congrArg₂ (· * ·) (congrArg x0 ?_) ((Cert.ReferenceMergeBwdIdeal.Read.val_main_v28_apply (F := Ideal) x8 _).trans (congrArg x8 ?_))
  · funext a; match a with
    | ⟨0, _⟩ => rfl
    | ⟨1, _⟩ => rfl
  · funext a; match a with
    | ⟨0, _⟩ => rfl
    | ⟨1, _⟩ => rfl

theorem r40_at (i : Fin 8192) (j : Fin 1024) : Cert.ReferenceMergeBwdIdeal.Read.val_main_v40 (F := Ideal) x0 x4 x8 (ix2 i j) = under (zcol x4 0) (back x0 x8) (ix2 i j) := by
  have a := r30_at x0 x8
  have e := r18_at x4
  unfold Cert.ReferenceMergeBwdIdeal.Read.val_main_v40
  generalize Cert.ReferenceMergeBwdIdeal.Read.val_main_v30 (F := Ideal) x0 x8 = p at a ⊢
  generalize Cert.ReferenceMergeBwdIdeal.Read.val_main_v18 (F := Ideal) x4 = q at e ⊢
  pointwise
  simp only [a, e]
  exact mul_comm _ _

theorem ref48 : Cert.ReferenceMergeBwdIdeal.Read.val_main_v48 (F := Ideal) x0 x4 x8 = fun j => under (zcol x4 0) (back x0 x8) (ix2 (j 0) (j 1)) := by
  have e := r40_at x0 x4 x8
  unfold Cert.ReferenceMergeBwdIdeal.Read.val_main_v48
  generalize Cert.ReferenceMergeBwdIdeal.Read.val_main_v40 (F := Ideal) x0 x4 x8 = p at e ⊢
  refine funext fun j => Eq.trans ?_ (e (j 0) (j 1))
  refine Eq.trans (congrArg _ (eq_ix2 j)) ?_
  pointwise

theorem r51_at (i : Fin 8192) (j : Fin 512) : Cert.ReferenceMergeBwdIdeal.Read.val_main_v51 (F := Ideal) x0 x4 x5 x8 (ix2 i j) = dbranch (zcol x4 0) (back x0 x8) x5 (ix2 i j) := by
  refine (Cert.ReferenceMergeBwdIdeal.Read.val_main_v51_apply x0 x4 x5 x8 _).trans (show _ = nt (under (zcol x4 0) (back x0 x8)) x5 i j from Finset.sum_congr rfl fun k _ => ?_)
  refine congrArg₂ (· * ·) ((congrArg (Cert.ReferenceMergeBwdIdeal.Read.val_main_v40 (F := Ideal) x0 x4 x8) ?_).trans (r40_at x0 x4 x8 i k)) ((Cert.ReferenceMergeBwdIdeal.Read.val_main_v0_apply (F := Ideal) x5 _).trans (congrArg x5 ?_))
  · funext a; match a with
    | ⟨0, _⟩ => rfl
    | ⟨1, _⟩ => rfl
  · funext a; match a with
    | ⟨0, _⟩ => rfl
    | ⟨1, _⟩ => rfl

theorem ref51 : Cert.ReferenceMergeBwdIdeal.Read.val_main_v51 (F := Ideal) x0 x4 x5 x8 = fun j => dbranch (zcol x4 0) (back x0 x8) x5 (ix2 (j 0) (j 1)) :=
  funext fun j => (congrArg _ (eq_ix2 j)).trans (r51_at x0 x4 x5 x8 (j 0) (j 1))

theorem r41_at (i : Fin 8192) (j : Fin 1024) : Cert.ReferenceMergeBwdIdeal.Read.val_main_v41 (F := Ideal) x0 x1 x5 x8 (ix2 i j) = (back x0 x8) (ix2 i j) * nn x1 x5 i j := by
  have a := r30_at x0 x8
  have e := r1_at x1 x5
  unfold Cert.ReferenceMergeBwdIdeal.Read.val_main_v41
  generalize Cert.ReferenceMergeBwdIdeal.Read.val_main_v30 (F := Ideal) x0 x8 = p at a ⊢
  generalize Cert.ReferenceMergeBwdIdeal.Read.val_main_v1 (F := Ideal) x1 x5 = q at e ⊢
  pointwise
  simp only [a, e]

theorem r35_at (i : Fin 8192) (j : Fin 1024) : Cert.ReferenceMergeBwdIdeal.Read.val_main_v35 (F := Ideal) x0 x4 x8 (ix2 i j) = under (zcol x4 1) (back x0 x8) (ix2 i j) := by
  have a := r30_at x0 x8
  have e := r21_at x4
  unfold Cert.ReferenceMergeBwdIdeal.Read.val_main_v35
  generalize Cert.ReferenceMergeBwdIdeal.Read.val_main_v30 (F := Ideal) x0 x8 = p at a ⊢
  generalize Cert.ReferenceMergeBwdIdeal.Read.val_main_v21 (F := Ideal) x4 = q at e ⊢
  pointwise
  simp only [a, e]
  exact mul_comm _ _

theorem ref49 : Cert.ReferenceMergeBwdIdeal.Read.val_main_v49 (F := Ideal) x0 x4 x8 = fun j => under (zcol x4 1) (back x0 x8) (ix2 (j 0) (j 1)) := by
  have e := r35_at x0 x4 x8
  unfold Cert.ReferenceMergeBwdIdeal.Read.val_main_v49
  generalize Cert.ReferenceMergeBwdIdeal.Read.val_main_v35 (F := Ideal) x0 x4 x8 = p at e ⊢
  refine funext fun j => Eq.trans ?_ (e (j 0) (j 1))
  refine Eq.trans (congrArg _ (eq_ix2 j)) ?_
  pointwise

theorem r52_at (i : Fin 8192) (j : Fin 512) : Cert.ReferenceMergeBwdIdeal.Read.val_main_v52 (F := Ideal) x0 x4 x6 x8 (ix2 i j) = dbranch (zcol x4 1) (back x0 x8) x6 (ix2 i j) := by
  refine (Cert.ReferenceMergeBwdIdeal.Read.val_main_v52_apply x0 x4 x6 x8 _).trans (show _ = nt (under (zcol x4 1) (back x0 x8)) x6 i j from Finset.sum_congr rfl fun k _ => ?_)
  refine congrArg₂ (· * ·) ((congrArg (Cert.ReferenceMergeBwdIdeal.Read.val_main_v35 (F := Ideal) x0 x4 x8) ?_).trans (r35_at x0 x4 x8 i k)) ((Cert.ReferenceMergeBwdIdeal.Read.val_main_v2_apply (F := Ideal) x6 _).trans (congrArg x6 ?_))
  · funext a; match a with
    | ⟨0, _⟩ => rfl
    | ⟨1, _⟩ => rfl
  · funext a; match a with
    | ⟨0, _⟩ => rfl
    | ⟨1, _⟩ => rfl

theorem ref52 : Cert.ReferenceMergeBwdIdeal.Read.val_main_v52 (F := Ideal) x0 x4 x6 x8 = fun j => dbranch (zcol x4 1) (back x0 x8) x6 (ix2 (j 0) (j 1)) :=
  funext fun j => (congrArg _ (eq_ix2 j)).trans (r52_at x0 x4 x6 x8 (j 0) (j 1))

theorem r36_at (i : Fin 8192) (j : Fin 1024) : Cert.ReferenceMergeBwdIdeal.Read.val_main_v36 (F := Ideal) x0 x2 x6 x8 (ix2 i j) = (back x0 x8) (ix2 i j) * nn x2 x6 i j := by
  have a := r30_at x0 x8
  have e := r3_at x2 x6
  unfold Cert.ReferenceMergeBwdIdeal.Read.val_main_v36
  generalize Cert.ReferenceMergeBwdIdeal.Read.val_main_v30 (F := Ideal) x0 x8 = p at a ⊢
  generalize Cert.ReferenceMergeBwdIdeal.Read.val_main_v3 (F := Ideal) x2 x6 = q at e ⊢
  pointwise
  simp only [a, e]

theorem r31_at (i : Fin 8192) (j : Fin 1024) : Cert.ReferenceMergeBwdIdeal.Read.val_main_v31 (F := Ideal) x0 x4 x8 (ix2 i j) = under (zcol x4 2) (back x0 x8) (ix2 i j) := by
  have a := r30_at x0 x8
  have e := r25_at x4
  unfold Cert.ReferenceMergeBwdIdeal.Read.val_main_v31
  generalize Cert.ReferenceMergeBwdIdeal.Read.val_main_v30 (F := Ideal) x0 x8 = p at a ⊢
  generalize Cert.ReferenceMergeBwdIdeal.Read.val_main_v25 (F := Ideal) x4 = q at e ⊢
  pointwise
  simp only [a, e]
  exact mul_comm _ _

theorem ref50 : Cert.ReferenceMergeBwdIdeal.Read.val_main_v50 (F := Ideal) x0 x4 x8 = fun j => under (zcol x4 2) (back x0 x8) (ix2 (j 0) (j 1)) := by
  have e := r31_at x0 x4 x8
  unfold Cert.ReferenceMergeBwdIdeal.Read.val_main_v50
  generalize Cert.ReferenceMergeBwdIdeal.Read.val_main_v31 (F := Ideal) x0 x4 x8 = p at e ⊢
  refine funext fun j => Eq.trans ?_ (e (j 0) (j 1))
  refine Eq.trans (congrArg _ (eq_ix2 j)) ?_
  pointwise

theorem r53_at (i : Fin 8192) (j : Fin 512) : Cert.ReferenceMergeBwdIdeal.Read.val_main_v53 (F := Ideal) x0 x4 x7 x8 (ix2 i j) = dbranch (zcol x4 2) (back x0 x8) x7 (ix2 i j) := by
  refine (Cert.ReferenceMergeBwdIdeal.Read.val_main_v53_apply x0 x4 x7 x8 _).trans (show _ = nt (under (zcol x4 2) (back x0 x8)) x7 i j from Finset.sum_congr rfl fun k _ => ?_)
  refine congrArg₂ (· * ·) ((congrArg (Cert.ReferenceMergeBwdIdeal.Read.val_main_v31 (F := Ideal) x0 x4 x8) ?_).trans (r31_at x0 x4 x8 i k)) ((Cert.ReferenceMergeBwdIdeal.Read.val_main_v4_apply (F := Ideal) x7 _).trans (congrArg x7 ?_))
  · funext a; match a with
    | ⟨0, _⟩ => rfl
    | ⟨1, _⟩ => rfl
  · funext a; match a with
    | ⟨0, _⟩ => rfl
    | ⟨1, _⟩ => rfl

theorem ref53 : Cert.ReferenceMergeBwdIdeal.Read.val_main_v53 (F := Ideal) x0 x4 x7 x8 = fun j => dbranch (zcol x4 2) (back x0 x8) x7 (ix2 (j 0) (j 1)) :=
  funext fun j => (congrArg _ (eq_ix2 j)).trans (r53_at x0 x4 x7 x8 (j 0) (j 1))

theorem r32_at (i : Fin 8192) (j : Fin 1024) : Cert.ReferenceMergeBwdIdeal.Read.val_main_v32 (F := Ideal) x0 x3 x7 x8 (ix2 i j) = (back x0 x8) (ix2 i j) * nn x3 x7 i j := by
  have a := r30_at x0 x8
  have e := r5_at x3 x7
  unfold Cert.ReferenceMergeBwdIdeal.Read.val_main_v32
  generalize Cert.ReferenceMergeBwdIdeal.Read.val_main_v30 (F := Ideal) x0 x8 = p at a ⊢
  generalize Cert.ReferenceMergeBwdIdeal.Read.val_main_v5 (F := Ideal) x3 x7 = q at e ⊢
  pointwise
  simp only [a, e]

theorem stack0_at (i : Fin 8192) (j : Fin 1024) : Cert.ReferenceMergeBwdIdeal.Read.val_main_v44 (F := Ideal) x0 x1 x2 x3 x5 x6 x7 x8 (ix3 i 0 j) = (back x0 x8) (ix2 i j) * nn x1 x5 i j := by
  refine Eq.trans ?_ (r41_at x0 x1 x5 x8 i j)
  unfold Cert.ReferenceMergeBwdIdeal.Read.val_main_v44 Cert.ReferenceMergeBwdIdeal.Read.val_main_v39 Cert.ReferenceMergeBwdIdeal.Read.val_main_v34 Cert.ReferenceMergeBwdIdeal.Read.val_main_v38 Cert.ReferenceMergeBwdIdeal.Read.val_main_v43 Cert.ReferenceMergeBwdIdeal.Read.val_main_v33 Cert.ReferenceMergeBwdIdeal.Read.val_main_v37 Cert.ReferenceMergeBwdIdeal.Read.val_main_v42 Cert.ReferenceMergeBwdIdeal.Read.val_main_cst_2 Cert.ReferenceMergeBwdIdeal.Read.val_main_cst_3 Cert.ReferenceMergeBwdIdeal.Read.val_main_cst_4
  generalize Cert.ReferenceMergeBwdIdeal.Read.val_main_v32 (F := Ideal) x0 x3 x7 x8 = p2
  generalize Cert.ReferenceMergeBwdIdeal.Read.val_main_v36 (F := Ideal) x0 x2 x6 x8 = p1
  generalize Cert.ReferenceMergeBwdIdeal.Read.val_main_v41 (F := Ideal) x0 x1 x5 x8 = p0
  pointwise

theorem col0_at (i : Fin 8192) (j : Fin 1024) : Cert.ReferenceMergeBwdIdeal.Read.val_main_v47 (F := Ideal) x0 x1 x2 x3 x4 x5 x6 x7 x8 (ix2 i ⟨j.val, by omega⟩) = dgate (zcol x4 0) (back x0 x8) x1 x5 (ix2 i j) := by
  have a := stack0_at x0 x1 x2 x3 x5 x6 x7 x8 i j
  have e := r15_at x4 i ⟨j.val, by omega⟩
  have ez : x4 (ix2 i ⟨j.val, by omega⟩) = zcol x4 0 (ix2 i j) := congrArg (fun k => x4 (ix2 i k)) (Fin.ext (by show j.val = 1024 * 0 + j.val; omega))
  have er : Cert.ReferenceMergeBwdIdeal.Read.val_main_v45 (F := Ideal) x0 x1 x2 x3 x5 x6 x7 x8 (ix2 i ⟨j.val, by omega⟩) = Cert.ReferenceMergeBwdIdeal.Read.val_main_v44 (F := Ideal) x0 x1 x2 x3 x5 x6 x7 x8 (ix3 i 0 j) := by
    unfold Cert.ReferenceMergeBwdIdeal.Read.val_main_v45
    generalize Cert.ReferenceMergeBwdIdeal.Read.val_main_v44 (F := Ideal) x0 x1 x2 x3 x5 x6 x7 x8 = p
    pointwise
    exact congrArg₂ (fun a b => p (ix3 i a b)) (Fin.ext (by show j.val / 1024 = 0; omega)) (Fin.ext (by show j.val % 1024 = j.val; omega))
  refine Eq.trans (b := Cert.ReferenceMergeBwdIdeal.Read.val_main_v45 (F := Ideal) x0 x1 x2 x3 x5 x6 x7 x8 (ix2 i ⟨j.val, by omega⟩) * Cert.ReferenceMergeBwdIdeal.Read.val_main_v15 (F := Ideal) x4 (ix2 i ⟨j.val, by omega⟩)) ?_ ?_
  · unfold Cert.ReferenceMergeBwdIdeal.Read.val_main_v47 Cert.ReferenceMergeBwdIdeal.Read.val_main_v46
    generalize Cert.ReferenceMergeBwdIdeal.Read.val_main_v45 (F := Ideal) x0 x1 x2 x3 x5 x6 x7 x8 = p
    generalize Cert.ReferenceMergeBwdIdeal.Read.val_main_v15 (F := Ideal) x4 = q
    pointwise
  · refine (congrArg₂ (· * ·) (er.trans a) (e.trans (congrArg (fun t => Ideal.logistic t * (1 - Ideal.logistic t)) ez))).trans ?_
    exact (mul_assoc _ _ _).symm

theorem stack1_at (i : Fin 8192) (j : Fin 1024) : Cert.ReferenceMergeBwdIdeal.Read.val_main_v44 (F := Ideal) x0 x1 x2 x3 x5 x6 x7 x8 (ix3 i 1 j) = (back x0 x8) (ix2 i j) * nn x2 x6 i j := by
  refine Eq.trans ?_ (r36_at x0 x2 x6 x8 i j)
  unfold Cert.ReferenceMergeBwdIdeal.Read.val_main_v44 Cert.ReferenceMergeBwdIdeal.Read.val_main_v39 Cert.ReferenceMergeBwdIdeal.Read.val_main_v34 Cert.ReferenceMergeBwdIdeal.Read.val_main_v38 Cert.ReferenceMergeBwdIdeal.Read.val_main_v43 Cert.ReferenceMergeBwdIdeal.Read.val_main_v33 Cert.ReferenceMergeBwdIdeal.Read.val_main_v37 Cert.ReferenceMergeBwdIdeal.Read.val_main_v42 Cert.ReferenceMergeBwdIdeal.Read.val_main_cst_2 Cert.ReferenceMergeBwdIdeal.Read.val_main_cst_3 Cert.ReferenceMergeBwdIdeal.Read.val_main_cst_4
  generalize Cert.ReferenceMergeBwdIdeal.Read.val_main_v32 (F := Ideal) x0 x3 x7 x8 = p2
  generalize Cert.ReferenceMergeBwdIdeal.Read.val_main_v36 (F := Ideal) x0 x2 x6 x8 = p1
  generalize Cert.ReferenceMergeBwdIdeal.Read.val_main_v41 (F := Ideal) x0 x1 x5 x8 = p0
  pointwise

theorem col1_at (i : Fin 8192) (j : Fin 1024) : Cert.ReferenceMergeBwdIdeal.Read.val_main_v47 (F := Ideal) x0 x1 x2 x3 x4 x5 x6 x7 x8 (ix2 i ⟨1024 + j.val, by omega⟩) = dgate (zcol x4 1) (back x0 x8) x2 x6 (ix2 i j) := by
  have a := stack1_at x0 x1 x2 x3 x5 x6 x7 x8 i j
  have e := r15_at x4 i ⟨1024 + j.val, by omega⟩
  have ez : x4 (ix2 i ⟨1024 + j.val, by omega⟩) = zcol x4 1 (ix2 i j) := congrArg (fun k => x4 (ix2 i k)) (Fin.ext (by show 1024 + j.val = 1024 * 1 + j.val; omega))
  have er : Cert.ReferenceMergeBwdIdeal.Read.val_main_v45 (F := Ideal) x0 x1 x2 x3 x5 x6 x7 x8 (ix2 i ⟨1024 + j.val, by omega⟩) = Cert.ReferenceMergeBwdIdeal.Read.val_main_v44 (F := Ideal) x0 x1 x2 x3 x5 x6 x7 x8 (ix3 i 1 j) := by
    unfold Cert.ReferenceMergeBwdIdeal.Read.val_main_v45
    generalize Cert.ReferenceMergeBwdIdeal.Read.val_main_v44 (F := Ideal) x0 x1 x2 x3 x5 x6 x7 x8 = p
    pointwise
    exact congrArg (fun a => p (ix3 i a j)) (Fin.ext (by show (1024 + j.val) / 1024 = 1; omega))
  refine Eq.trans (b := Cert.ReferenceMergeBwdIdeal.Read.val_main_v45 (F := Ideal) x0 x1 x2 x3 x5 x6 x7 x8 (ix2 i ⟨1024 + j.val, by omega⟩) * Cert.ReferenceMergeBwdIdeal.Read.val_main_v15 (F := Ideal) x4 (ix2 i ⟨1024 + j.val, by omega⟩)) ?_ ?_
  · unfold Cert.ReferenceMergeBwdIdeal.Read.val_main_v47 Cert.ReferenceMergeBwdIdeal.Read.val_main_v46
    generalize Cert.ReferenceMergeBwdIdeal.Read.val_main_v45 (F := Ideal) x0 x1 x2 x3 x5 x6 x7 x8 = p
    generalize Cert.ReferenceMergeBwdIdeal.Read.val_main_v15 (F := Ideal) x4 = q
    pointwise
  · refine (congrArg₂ (· * ·) (er.trans a) (e.trans (congrArg (fun t => Ideal.logistic t * (1 - Ideal.logistic t)) ez))).trans ?_
    exact (mul_assoc _ _ _).symm

theorem stack2_at (i : Fin 8192) (j : Fin 1024) : Cert.ReferenceMergeBwdIdeal.Read.val_main_v44 (F := Ideal) x0 x1 x2 x3 x5 x6 x7 x8 (ix3 i 2 j) = (back x0 x8) (ix2 i j) * nn x3 x7 i j := by
  refine Eq.trans ?_ (r32_at x0 x3 x7 x8 i j)
  unfold Cert.ReferenceMergeBwdIdeal.Read.val_main_v44 Cert.ReferenceMergeBwdIdeal.Read.val_main_v39 Cert.ReferenceMergeBwdIdeal.Read.val_main_v34 Cert.ReferenceMergeBwdIdeal.Read.val_main_v38 Cert.ReferenceMergeBwdIdeal.Read.val_main_v43 Cert.ReferenceMergeBwdIdeal.Read.val_main_v33 Cert.ReferenceMergeBwdIdeal.Read.val_main_v37 Cert.ReferenceMergeBwdIdeal.Read.val_main_v42 Cert.ReferenceMergeBwdIdeal.Read.val_main_cst_2 Cert.ReferenceMergeBwdIdeal.Read.val_main_cst_3 Cert.ReferenceMergeBwdIdeal.Read.val_main_cst_4
  generalize Cert.ReferenceMergeBwdIdeal.Read.val_main_v32 (F := Ideal) x0 x3 x7 x8 = p2
  generalize Cert.ReferenceMergeBwdIdeal.Read.val_main_v36 (F := Ideal) x0 x2 x6 x8 = p1
  generalize Cert.ReferenceMergeBwdIdeal.Read.val_main_v41 (F := Ideal) x0 x1 x5 x8 = p0
  pointwise

theorem col2_at (i : Fin 8192) (j : Fin 1024) : Cert.ReferenceMergeBwdIdeal.Read.val_main_v47 (F := Ideal) x0 x1 x2 x3 x4 x5 x6 x7 x8 (ix2 i ⟨2048 + j.val, by omega⟩) = dgate (zcol x4 2) (back x0 x8) x3 x7 (ix2 i j) := by
  have a := stack2_at x0 x1 x2 x3 x5 x6 x7 x8 i j
  have e := r15_at x4 i ⟨2048 + j.val, by omega⟩
  have ez : x4 (ix2 i ⟨2048 + j.val, by omega⟩) = zcol x4 2 (ix2 i j) := congrArg (fun k => x4 (ix2 i k)) (Fin.ext (by show 2048 + j.val = 1024 * 2 + j.val; omega))
  have er : Cert.ReferenceMergeBwdIdeal.Read.val_main_v45 (F := Ideal) x0 x1 x2 x3 x5 x6 x7 x8 (ix2 i ⟨2048 + j.val, by omega⟩) = Cert.ReferenceMergeBwdIdeal.Read.val_main_v44 (F := Ideal) x0 x1 x2 x3 x5 x6 x7 x8 (ix3 i 2 j) := by
    unfold Cert.ReferenceMergeBwdIdeal.Read.val_main_v45
    generalize Cert.ReferenceMergeBwdIdeal.Read.val_main_v44 (F := Ideal) x0 x1 x2 x3 x5 x6 x7 x8 = p
    pointwise
    exact congrArg (fun a => p (ix3 i a j)) (Fin.ext (by show (2048 + j.val) / 1024 = 2; omega))
  refine Eq.trans (b := Cert.ReferenceMergeBwdIdeal.Read.val_main_v45 (F := Ideal) x0 x1 x2 x3 x5 x6 x7 x8 (ix2 i ⟨2048 + j.val, by omega⟩) * Cert.ReferenceMergeBwdIdeal.Read.val_main_v15 (F := Ideal) x4 (ix2 i ⟨2048 + j.val, by omega⟩)) ?_ ?_
  · unfold Cert.ReferenceMergeBwdIdeal.Read.val_main_v47 Cert.ReferenceMergeBwdIdeal.Read.val_main_v46
    generalize Cert.ReferenceMergeBwdIdeal.Read.val_main_v45 (F := Ideal) x0 x1 x2 x3 x5 x6 x7 x8 = p
    generalize Cert.ReferenceMergeBwdIdeal.Read.val_main_v15 (F := Ideal) x4 = q
    pointwise
  · refine (congrArg₂ (· * ·) (er.trans a) (e.trans (congrArg (fun t => Ideal.logistic t * (1 - Ideal.logistic t)) ez))).trans ?_
    exact (mul_assoc _ _ _).symm

theorem ref47 : Cert.ReferenceMergeBwdIdeal.Read.val_main_v47 (F := Ideal) x0 x1 x2 x3 x4 x5 x6 x7 x8 = fun j => groups (dgate (zcol x4 0) (back x0 x8) x1 x5) (dgate (zcol x4 1) (back x0 x8) x2 x6) (dgate (zcol x4 2) (back x0 x8) x3 x7) (ix2 (j 0) (j 1)) :=
  funext fun j => (congrArg _ (eq_ix2 j)).trans (eq_groups (Cert.ReferenceMergeBwdIdeal.Read.val_main_v47 (F := Ideal) x0 x1 x2 x3 x4 x5 x6 x7 x8) (col0_at x0 x1 x2 x3 x4 x5 x6 x7 x8 (j 0)) (col1_at x0 x1 x2 x3 x4 x5 x6 x7 x8 (j 0)) (col2_at x0 x1 x2 x3 x4 x5 x6 x7 x8 (j 0)))

end Reference

/-! ## The claims -/

theorem frameR : Cert.quiescent_ReferenceMergeBwdIdeal := fun m ρ _ =>
  (θ_run Cert.ReferenceMergeBwdIdeal.defs _ _).mono (fun r h => ⟨fun c => (h c).2.2.2.2.2.2.2,
      Idealize.ShloMosaic.sem_eq_zero_of_no_sems (by decide) r.2⟩)
    (Cert.ReferenceMergeBwdIdeal.Value.run (F := Ideal) m ρ)

theorem algebraic : Cert.algebraic_KernelMergeBwdIdeal_ReferenceMergeBwdIdeal := by
  intro m ρ m' ρ' hpre hagree
  refine ⟨fun c => gatesOut m c, fun c => (dats m 0 c).arrAt 12 cfg0.N, fun c => (dats m 0 c).arrAt 13 cfg0.N, fun c => (dats m 0 c).arrAt 14 cfg0.N, fun c => (dats m 0 c).arrAt 15 cfg0.N, fun c => (dats m 0 c).arrAt 16 cfg0.N, fun c => (dats m 0 c).arrAt 17 cfg0.N, run m ρ, ?_⟩
  refine (θ_run Cert.ReferenceMergeBwdIdeal.defs _ _).mono (fun r h c => ?_) (Cert.ReferenceMergeBwdIdeal.Value.run (F := Ideal) m' ρ')
  obtain ⟨r0, r1, r2, r3, r4, r5, r6, kept⟩ := h c
  obtain ⟨a0, a1, a2, a3, a4, a5, a6, a7, a8⟩ := hagree c
  refine ⟨r0.trans ?_, r1.trans ?_, r2.trans ?_, r3.trans ?_, r4.trans ?_, r5.trans ?_, r6.trans ?_, kept⟩
  · refine (Cert.ReferenceMergeBwdIdeal.Read.val_main_v47_eq _ _ _ _ _ _ _ _ _).trans ?_
    rw [a0, a1, a2, a3, a4, a5, a6, a7, a8]
    exact (ref47 _ _ _ _ _ _ _ _ _).trans (gatesOut_eq m c).symm
  · refine (Cert.ReferenceMergeBwdIdeal.Read.val_main_v48_eq _ _ _).trans ?_
    rw [a0, a4, a8]
    exact (ref48 _ _ _).trans (arr12 m c).symm
  · refine (Cert.ReferenceMergeBwdIdeal.Read.val_main_v49_eq _ _ _).trans ?_
    rw [a0, a4, a8]
    exact (ref49 _ _ _).trans (arr13 m c).symm
  · refine (Cert.ReferenceMergeBwdIdeal.Read.val_main_v50_eq _ _ _).trans ?_
    rw [a0, a4, a8]
    exact (ref50 _ _ _).trans (arr14 m c).symm
  · refine (Cert.ReferenceMergeBwdIdeal.Read.val_main_v51_eq _ _ _ _).trans ?_
    rw [a0, a4, a5, a8]
    exact (ref51 _ _ _ _).trans (arr15 m c).symm
  · refine (Cert.ReferenceMergeBwdIdeal.Read.val_main_v52_eq _ _ _ _).trans ?_
    rw [a0, a4, a6, a8]
    exact (ref52 _ _ _ _).trans (arr16 m c).symm
  · refine (Cert.ReferenceMergeBwdIdeal.Read.val_main_v53_eq _ _ _ _).trans ?_
    rw [a0, a4, a7, a8]
    exact (ref53 _ _ _ _).trans (arr17 m c).symm

end Cert.MergeBwd

end
-- ==== Proof.OutDw.lean ====
/-
  The gradient of the output projection's weight: one product, accumulated over blocks of rows.
-/
module

public import proofs.«01_k».proof.Defs
public import proofs.«01_k».proof.Proof.Lits
public import proofs.«01_k».proof.Proof.Products
public import proofs.«01_k».proof.Proof.Gen.KernelOutDwIdeal.Value
public import proofs.«01_k».proof.Proof.Gen.ReferenceOutDwIdeal.Run
public import proofs.«01_k».proof.Proof.Gen.ReferenceOutDwIdeal.Read
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.OutDw

open Cert.KernelOutDwIdeal Cert.KernelOutDwIdeal.Gen Idealize.ShloMosaic Idealize.ShloMosaic.TcCoe Cert.Lits Cert.Products
open Idealize.SL.Sem
open Idealize.ShloMosaic.Pipeline (Dat)
open scoped BigOperators

theorem pay_at (v0 : Vec Ideal S1024x1024 .f32) (v1 : Vec Ideal S1024x1024 .bf16) (r : Fin 1024) (s : Fin 1024) :
    k0_pay1 v0 v1 (ix2 r s) = tn v1 v0 r s := by
  unfold k0_pay1
  pointwise
  rfl

theorem pay2_at (v0 : Vec Ideal S1024x1024 .f32) (v1 : Vec Ideal S1024x1024 .bf16) (v2 : Vec Ideal S1024x1024 .f32) (r : Fin 1024) (s : Fin 1024) :
    k0_pay2 v0 v1 v2 (ix2 r s) = v2 (ix2 r s) + tn v1 v0 r s := by
  rw [← pay_at v0 v1]
  unfold k0_pay2
  pointwise

theorem out_A {F : FTy → Type} [FloatOps F] (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : cond0_0 i) (hc1 : ¬cond0_1 i)
    (x0 : Vec F S1024x1024 .bf16) (x1 : Vec F S1024x1024 .f32) :
    out0_A_2 c i arg3 harg3 arg4 harg4 arg5 harg5 hc0 hc1 x0 x1 = k0_pay1 x1 x0 := by
  unfold out0_A_2
  rw [View.read_writes_eq_canon _ _ _ (cover0_A_2 c i arg3 harg3 arg4 harg4 arg5 harg5 hc0 hc1 x0 x1)]
  unfold kernelRun0_A
  dsimp only
  sl_unfold_run_names
  rw [View.canon_unit_zero (S := S1024x1024) off2]
  simp only [View.readAt_eq_ld, harg3.read_unread, harg4.read_unread, harg5.read_unread, View.ld_unit_zero (S := S1024x1024) off2]

theorem out_B {F : FTy → Type} [FloatOps F] (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond0_0 i) (hc1 : cond0_1 i)
    (x0 : Vec F S1024x1024 .bf16) (x1 : Vec F S1024x1024 .f32) (xo2 : Vec F S1024x1024 .f32) :
    out0_B_2 c i arg3 harg3 arg4 harg4 arg5 harg5 hc0 hc1 x0 x1 xo2 = k0_pay2 x1 x0 xo2 := by
  unfold out0_B_2
  rw [View.read_writes_eq_canon _ _ _ (cover0_B_2 c i arg3 harg3 arg4 harg4 arg5 harg5 hc0 hc1 x0 x1 xo2)]
  unfold kernelRun0_B
  dsimp only
  sl_unfold_run_names
  rw [View.canon_unit_zero (S := S1024x1024) off2]
  simp only [View.readAt_eq_ld, harg3.read_unread, harg4.read_unread, harg5.read_unread, View.ld_unit_zero (S := S1024x1024) off2]

variable (m : (ℓ : Loc nD τ sig) → Buf (Elt Ideal) ℓ)

theorem idx : ∀ t : Fin cfg0.N, win0_0.index t = ![t.val % 8, 0] ∧ win0_1.index t = ![t.val % 8, 0] ∧ win0_2.index t = ![0, 0] :=
  (by decide +kernel : ∀ t : Fin grid0.N, win0_0.index t = ![t.val % 8, 0] ∧ win0_1.index t = ![t.val % 8, 0] ∧ win0_2.index t = ![0, 0])

theorem blk0 (c : Dev nD) (t : Fin cfg0.N) (r : Fin 1024) (s : Fin 1024) :
    iblk m c 0 t (ix2 r s) = m ((c : Thread nD τ).loc main_arg0) (ix2 ⟨1024 * (t.val % 8) + r, by have h : t.val < 8 := t.isLt; omega⟩ s) := by
  blk_ext [iblk, V, (idx t).1]

theorem blk1 (c : Dev nD) (t : Fin cfg0.N) (r : Fin 1024) (s : Fin 1024) :
    iblk m c 1 t (ix2 r s) = m ((c : Thread nD τ).loc main_arg1) (ix2 ⟨1024 * (t.val % 8) + r, by have h : t.val < 8 := t.isLt; omega⟩ s) := by
  blk_ext [iblk, V, (idx t).2.1]

/-- A grid point's product of its blocks. -/
def part (c : Dev nD) (t : Fin cfg0.N) (y : S1024x1024.Idx) : EReal :=
  tn (iblk m c 0 t) (iblk m c 1 t) (y 0) (y 1)

theorem step_A (c : Dev nD) (t : Fin cfg0.N) (h : t.val % 8 = 0) (y : S1024x1024.Idx) : outsAt0 m c t.val t.isLt y = 0 + part m c t y := by
  have hN : t.val < 8 := t.isLt
  rw [outsAt0_A m c t (by omega) (by omega)]
  rw [zero_add]
  refine (congrFun (out_A (F := Ideal) ..) y).trans ?_
  rw [eq_ix2 y]
  exact pay_at _ _ (y 0) (y 1)

theorem step_B (c : Dev nD) (t : Fin cfg0.N) (h : ¬t.val % 8 = 0) (y : S1024x1024.Idx) :
    outsAt0 m c t.val t.isLt y = outsAt0 m c (t.val - 1) (Nat.lt_of_le_of_lt (Nat.sub_le _ _) t.isLt) y + part m c t y := by
  have hN : t.val < 8 := t.isLt
  rw [outsAt0_B m c t (by omega) (by omega)]
  refine (congrFun (out_B (F := Ideal) ..) y).trans ?_
  rw [eq_ix2 y]
  exact pay2_at _ _ _ (y 0) (y 1)

theorem arr2 (c : Dev nD) : (dats m 0 c).arrAt 2 cfg0.N
    = fun j : S1024x1024.Idx => tn (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  have hr : t.val % 8 = 8 - 1 := (flush0_2 t).mp hf
  have hN : t.val < 8 := t.isLt
  refine (Pipeline.eq_sum_fin_of_reset_step_apply_of_flush (outsAt0 m c) 8 (fun _ => 0) (part m c) (step_A m c) (step_B m c) t hr y).trans ?_
  rw [zero_add]
  refine tn_stretches (fun l k => ⟨1024 * ((8 * (t.val / 8) + l.val) % 8) + k.val, by omega⟩) (fun l k => blk0 m c _ k (y 0)) (fun l k => blk1 m c _ k (y 1)) (fun l k => by dsimp only; omega) (by norm_num) (fun l k => Fin.ext ?_) (fun l k => Fin.ext ?_)
  · have h : (y 0 : ℕ) < 1024 := (y 0).isLt
    blk_simp [(idx t).2.2]
  · have h : (y 1 : ℕ) < 1024 := (y 1).isLt
    blk_simp [(idx t).2.2]

theorem ref_at (x0 : S8192x1024.Idx → EReal) (x1 : S8192x1024.Idx → EReal) :
    Cert.ReferenceOutDwIdeal.Read.val_main_v4 (F := Ideal) x0 x1 = fun j => tn x0 x1 (j 0) (j 1) := by
  funext j
  refine (Cert.ReferenceOutDwIdeal.Read.val_main_v4_apply (F := Ideal) x0 x1 j).trans ?_
  refine (Cert.ReferenceOutDwIdeal.Read.val_main_v3_apply x0 x1 _).trans (Finset.sum_congr rfl fun k _ => ?_)
  refine (mul_comm _ _).trans (congrArg₂ (· * ·) ((Cert.ReferenceOutDwIdeal.Read.val_main_v1_apply (F := Ideal) x0 _).trans (congrArg x0 ?_)) (congrArg x1 ?_))
  · funext a; match a with
    | ⟨0, _⟩ => rfl
    | ⟨1, _⟩ => rfl
  · funext a; match a with
    | ⟨0, _⟩ => rfl
    | ⟨1, _⟩ => rfl

theorem frameR : Cert.quiescent_ReferenceOutDwIdeal := fun m ρ _ =>
  (θ_run Cert.ReferenceOutDwIdeal.defs _ _).mono (fun r h => ⟨fun c => (h c).2,
      Idealize.ShloMosaic.sem_eq_zero_of_no_sems (by decide) r.2⟩)
    (Cert.ReferenceOutDwIdeal.Value.run (F := Ideal) m ρ)

theorem algebraic : Cert.algebraic_KernelOutDwIdeal_ReferenceOutDwIdeal := by
  intro m ρ m' ρ' hpre hagree
  refine ⟨fun c => (dats m 0 c).arrAt 2 cfg0.N, Cert.KernelOutDwIdeal.Value.run_blocks (F := Ideal) m ρ, ?_⟩
  refine (θ_run Cert.ReferenceOutDwIdeal.defs _ _).mono (fun r h c => ?_) (Cert.ReferenceOutDwIdeal.Value.run (F := Ideal) m' ρ')
  obtain ⟨r0, kept⟩ := h c
  obtain ⟨a0, a1⟩ := hagree c
  refine ⟨r0.trans ?_, kept⟩
  refine (Cert.ReferenceOutDwIdeal.Read.val_main_v4_eq _ _).trans ?_
  rw [a0, a1]
  exact (ref_at _ _).trans (arr2 m c).symm

end Cert.OutDw

end
-- ==== Proof.BrDw.lean ====
/-
  The gradient of a branch's output weight: one product, accumulated over blocks of rows.
-/
module

public import proofs.«01_k».proof.Defs
public import proofs.«01_k».proof.Proof.Lits
public import proofs.«01_k».proof.Proof.Products
public import proofs.«01_k».proof.Proof.Gen.KernelBrDwIdeal.Value
public import proofs.«01_k».proof.Proof.Gen.ReferenceBrDwIdeal.Run
public import proofs.«01_k».proof.Proof.Gen.ReferenceBrDwIdeal.Read
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.BrDw

open Cert.KernelBrDwIdeal Cert.KernelBrDwIdeal.Gen Idealize.ShloMosaic Idealize.ShloMosaic.TcCoe Cert.Lits Cert.Products
open Idealize.SL.Sem
open Idealize.ShloMosaic.Pipeline (Dat)
open scoped BigOperators

theorem pay_at (v0 : Vec Ideal S1024x1024 .bf16) (v1 : Vec Ideal S1024x512 .f32) (r : Fin 512) (s : Fin 1024) :
    k0_pay1 v0 v1 (ix2 r s) = tn v1 v0 r s := by
  unfold k0_pay1
  pointwise
  rfl

theorem pay2_at (v0 : Vec Ideal S1024x1024 .bf16) (v1 : Vec Ideal S1024x512 .f32) (v2 : Vec Ideal S512x1024 .f32) (r : Fin 512) (s : Fin 1024) :
    k0_pay2 v0 v1 v2 (ix2 r s) = v2 (ix2 r s) + tn v1 v0 r s := by
  rw [← pay_at v0 v1]
  unfold k0_pay2
  pointwise

theorem out_A {F : FTy → Type} [FloatOps F] (c : Dev nD) (i : grid0.Coords) (arg3 : Memref sig .tc .vmem S1024x512 .f32) (harg3 : arg3.IsWhole) (arg4 : Memref sig .tc .vmem S1024x1024 .bf16) (harg4 : arg4.IsWhole) (arg5 : Memref sig .tc .vmem S512x1024 .f32) (harg5 : arg5.IsWhole) (hc0 : cond0_0 i) (hc1 : ¬cond0_1 i)
    (x0 : Vec F S1024x512 .f32) (x1 : Vec F S1024x1024 .bf16) :
    out0_A_2 c i arg3 harg3 arg4 harg4 arg5 harg5 hc0 hc1 x0 x1 = k0_pay1 x1 x0 := by
  unfold out0_A_2
  rw [View.read_writes_eq_canon _ _ _ (cover0_A_2 c i arg3 harg3 arg4 harg4 arg5 harg5 hc0 hc1 x0 x1)]
  unfold kernelRun0_A
  dsimp only
  sl_unfold_run_names
  rw [View.canon_unit_zero (S := S512x1024) off2]
  simp only [View.readAt_eq_ld, harg3.read_unread, harg4.read_unread, harg5.read_unread, View.ld_unit_zero (S := S1024x512) off2, View.ld_unit_zero (S := S1024x1024) off2, View.ld_unit_zero (S := S512x1024) off2]

theorem out_B {F : FTy → Type} [FloatOps F] (c : Dev nD) (i : grid0.Coords) (arg3 : Memref sig .tc .vmem S1024x512 .f32) (harg3 : arg3.IsWhole) (arg4 : Memref sig .tc .vmem S1024x1024 .bf16) (harg4 : arg4.IsWhole) (arg5 : Memref sig .tc .vmem S512x1024 .f32) (harg5 : arg5.IsWhole) (hc0 : ¬cond0_0 i) (hc1 : cond0_1 i)
    (x0 : Vec F S1024x512 .f32) (x1 : Vec F S1024x1024 .bf16) (xo2 : Vec F S512x1024 .f32) :
    out0_B_2 c i arg3 harg3 arg4 harg4 arg5 harg5 hc0 hc1 x0 x1 xo2 = k0_pay2 x1 x0 xo2 := by
  unfold out0_B_2
  rw [View.read_writes_eq_canon _ _ _ (cover0_B_2 c i arg3 harg3 arg4 harg4 arg5 harg5 hc0 hc1 x0 x1 xo2)]
  unfold kernelRun0_B
  dsimp only
  sl_unfold_run_names
  rw [View.canon_unit_zero (S := S512x1024) off2]
  simp only [View.readAt_eq_ld, harg3.read_unread, harg4.read_unread, harg5.read_unread, View.ld_unit_zero (S := S1024x512) off2, View.ld_unit_zero (S := S1024x1024) off2, View.ld_unit_zero (S := S512x1024) off2]

variable (m : (ℓ : Loc nD τ sig) → Buf (Elt Ideal) ℓ)

theorem idx : ∀ t : Fin cfg0.N, win0_0.index t = ![t.val % 8, 0] ∧ win0_1.index t = ![t.val % 8, 0] ∧ win0_2.index t = ![0, 0] :=
  (by decide +kernel : ∀ t : Fin grid0.N, win0_0.index t = ![t.val % 8, 0] ∧ win0_1.index t = ![t.val % 8, 0] ∧ win0_2.index t = ![0, 0])

theorem blk0 (c : Dev nD) (t : Fin cfg0.N) (r : Fin 1024) (s : Fin 512) :
    iblk m c 0 t (ix2 r s) = m ((c : Thread nD τ).loc main_arg0) (ix2 ⟨1024 * (t.val % 8) + r, by have h : t.val < 8 := t.isLt; omega⟩ s) := by
  blk_ext [iblk, V, (idx t).1]

theorem blk1 (c : Dev nD) (t : Fin cfg0.N) (r : Fin 1024) (s : Fin 1024) :
    iblk m c 1 t (ix2 r s) = m ((c : Thread nD τ).loc main_arg1) (ix2 ⟨1024 * (t.val % 8) + r, by have h : t.val < 8 := t.isLt; omega⟩ s) := by
  blk_ext [iblk, V, (idx t).2.1]

/-- A grid point's product of its blocks. -/
def part (c : Dev nD) (t : Fin cfg0.N) (y : S512x1024.Idx) : EReal :=
  tn (iblk m c 0 t) (iblk m c 1 t) (y 0) (y 1)

theorem step_A (c : Dev nD) (t : Fin cfg0.N) (h : t.val % 8 = 0) (y : S512x1024.Idx) : outsAt0 m c t.val t.isLt y = 0 + part m c t y := by
  have hN : t.val < 8 := t.isLt
  rw [outsAt0_A m c t (by omega) (by omega)]
  rw [zero_add]
  refine (congrFun (out_A (F := Ideal) ..) y).trans ?_
  rw [eq_ix2 y]
  exact pay_at _ _ (y 0) (y 1)

theorem step_B (c : Dev nD) (t : Fin cfg0.N) (h : ¬t.val % 8 = 0) (y : S512x1024.Idx) :
    outsAt0 m c t.val t.isLt y = outsAt0 m c (t.val - 1) (Nat.lt_of_le_of_lt (Nat.sub_le _ _) t.isLt) y + part m c t y := by
  have hN : t.val < 8 := t.isLt
  rw [outsAt0_B m c t (by omega) (by omega)]
  refine (congrFun (out_B (F := Ideal) ..) y).trans ?_
  rw [eq_ix2 y]
  exact pay2_at _ _ _ (y 0) (y 1)

theorem arr2 (c : Dev nD) : (dats m 0 c).arrAt 2 cfg0.N
    = fun j : S512x1024.Idx => tn (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  have hr : t.val % 8 = 8 - 1 := (flush0_2 t).mp hf
  have hN : t.val < 8 := t.isLt
  refine (Pipeline.eq_sum_fin_of_reset_step_apply_of_flush (outsAt0 m c) 8 (fun _ => 0) (part m c) (step_A m c) (step_B m c) t hr y).trans ?_
  rw [zero_add]
  refine tn_stretches (fun l k => ⟨1024 * ((8 * (t.val / 8) + l.val) % 8) + k.val, by omega⟩) (fun l k => blk0 m c _ k (y 0)) (fun l k => blk1 m c _ k (y 1)) (fun l k => by dsimp only; omega) (by norm_num) (fun l k => Fin.ext ?_) (fun l k => Fin.ext ?_)
  · have h : (y 0 : ℕ) < 512 := (y 0).isLt
    blk_simp [(idx t).2.2]
  · have h : (y 1 : ℕ) < 1024 := (y 1).isLt
    blk_simp [(idx t).2.2]

theorem ref_at (x0 : S8192x512.Idx → EReal) (x1 : S8192x1024.Idx → EReal) :
    Cert.ReferenceBrDwIdeal.Read.val_main_v4 (F := Ideal) x0 x1 = fun j => tn x0 x1 (j 0) (j 1) := by
  funext j
  refine (Cert.ReferenceBrDwIdeal.Read.val_main_v4_apply (F := Ideal) x0 x1 j).trans ?_
  refine (Cert.ReferenceBrDwIdeal.Read.val_main_v3_apply x0 x1 _).trans (Finset.sum_congr rfl fun k _ => ?_)
  refine (mul_comm _ _).trans (congrArg₂ (· * ·) (congrArg x0 ?_) ((Cert.ReferenceBrDwIdeal.Read.val_main_v2_apply (F := Ideal) x1 _).trans (congrArg x1 ?_)))
  · funext a; match a with
    | ⟨0, _⟩ => rfl
    | ⟨1, _⟩ => rfl
  · funext a; match a with
    | ⟨0, _⟩ => rfl
    | ⟨1, _⟩ => rfl

theorem frameR : Cert.quiescent_ReferenceBrDwIdeal := fun m ρ _ =>
  (θ_run Cert.ReferenceBrDwIdeal.defs _ _).mono (fun r h => ⟨fun c => (h c).2,
      Idealize.ShloMosaic.sem_eq_zero_of_no_sems (by decide) r.2⟩)
    (Cert.ReferenceBrDwIdeal.Value.run (F := Ideal) m ρ)

theorem algebraic : Cert.algebraic_KernelBrDwIdeal_ReferenceBrDwIdeal := by
  intro m ρ m' ρ' hpre hagree
  refine ⟨fun c => (dats m 0 c).arrAt 2 cfg0.N, Cert.KernelBrDwIdeal.Value.run_blocks (F := Ideal) m ρ, ?_⟩
  refine (θ_run Cert.ReferenceBrDwIdeal.defs _ _).mono (fun r h c => ?_) (Cert.ReferenceBrDwIdeal.Value.run (F := Ideal) m' ρ')
  obtain ⟨r0, kept⟩ := h c
  obtain ⟨a0, a1⟩ := hagree c
  refine ⟨r0.trans ?_, kept⟩
  refine (Cert.ReferenceBrDwIdeal.Read.val_main_v4_eq _ _).trans ?_
  rw [a0, a1]
  exact (ref_at _ _).trans (arr2 m c).symm

end Cert.BrDw

end
-- ==== Proof.Adam.lean ====
/-
  The optimiser's step at one element: the moments and the change of the weight, and the two bias corrections.
-/
module

public import proofs.«01_k».proof.Proof.Lits

@[expose] public section

noncomputable section

namespace Cert.Adam

open Idealize.ShloMosaic

/-- The first moment's correction, `1 - 0.9 ^ 10` as a single-precision number. -/
theorem lit_d1 : Ideal.ofBits .f32 0x3F26BD02#32 = ((5463681 / 8388608 : ℝ) : EReal) := by
  simp [Ideal.ofBits, Ideal.ieee, -EReal.coe_mul]; norm_num
/-- The second moment's correction, `1 - 0.999 ^ 10` as a single-precision number. -/
theorem lit_d2 : Ideal.ofBits .f32 0x3C231ACC#32 = ((2672307 / 268435456 : ℝ) : EReal) := by
  simp [Ideal.ofBits, Ideal.ieee, -EReal.coe_mul]; norm_num

/-- Multiplying by a correction's reciprocal is dividing by it. -/
theorem corrected1 (x : EReal) : x * (((5463681 / 8388608)⁻¹ : ℝ) : EReal) = Ideal.div x (Ideal.ofBits .f32 0x3F26BD02#32) := by
  rw [lit_d1, Ideal.div_coe (by norm_num), one_div]
theorem corrected2 (x : EReal) : x * (((2672307 / 268435456)⁻¹ : ℝ) : EReal) = Ideal.div x (Ideal.ofBits .f32 0x3C231ACC#32) := by
  rw [lit_d2, Ideal.div_coe (by norm_num), one_div]

/-- The new first moment. -/
def mom1 (g m : EReal) : EReal := Ideal.ofBits .f32 0x3F666666#32 * m + Ideal.ofBits .f32 0x3DCCCCCD#32 * g
/-- The new second moment. -/
def mom2 (g v : EReal) : EReal := Ideal.ofBits .f32 0x3F7FBE77#32 * v + Ideal.ofBits .f32 0x3A83126F#32 * (g * g)
/-- The change of the weight. -/
def delta (w g m v : EReal) : EReal :=
  Ideal.ofBits .f32 0xBA83126F#32 * (Ideal.div (Ideal.div (mom1 g m) (Ideal.ofBits .f32 0x3F26BD02#32))
    (Ideal.sqrt (Ideal.div (mom2 g v) (Ideal.ofBits .f32 0x3C231ACC#32)) + Ideal.ofBits .f32 0x322BCC77#32) + Ideal.ofBits .f32 0x3C23D70A#32 * w)

end Cert.Adam

end
-- ==== Proof.AdamIn.lean ====
/-
  The optimiser's step on one device's columns of the input projection's weight: transposed, updated a block of columns at each grid point, transposed back.
-/
module

public import proofs.«01_k».proof.Defs
public import proofs.«01_k».proof.Proof.Lits
public import proofs.«01_k».proof.Proof.Gen.KernelAdamInIdeal.Frame
public import proofs.«01_k».proof.Proof.Gen.ReferenceAdamInIdeal.Run
public import proofs.«01_k».proof.Proof.Gen.ReferenceAdamInIdeal.Read
public import proofs.«01_k».proof.Proof.Adam
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.AdamIn

open Cert.KernelAdamInIdeal Cert.KernelAdamInIdeal.Gen Idealize.ShloMosaic Idealize.ShloMosaic.TcCoe Cert.Adam
open Idealize.SL.Sem
open Idealize.ShloMosaic.Pipeline (Dat)

/-- The corrections' reciprocals, as they are named. -/
theorem named_c1 : Named.named (F := Ideal) κ "c1" (φ := .f32) 0x3FC48605#32 = (((5463681 / 8388608)⁻¹ : ℝ) : EReal) :=
  IdealRules.named_const.ideal_named_scalar _ _ _ _ rfl
theorem named_c2 : Named.named (F := Ideal) κ "c2" (φ := .f32) 0x42C8E6D3#32 = (((2672307 / 268435456)⁻¹ : ℝ) : EReal) :=
  IdealRules.named_const.ideal_named_scalar _ _ _ _ rfl

theorem preserves : Cert.preserves_KernelAdamIn_KernelAdamInIdeal :=
  ⟨IdealRules.named_const.statement κ "c1" .f32 0x3FC48605#32 (((5463681 / 8388608)⁻¹ : ℝ) : EReal) rfl,
    IdealRules.named_const.statement κ "c2" .f32 0x42C8E6D3#32 (((2672307 / 268435456)⁻¹ : ℝ) : EReal) rfl⟩

theorem off3 : (![0, 0, 0] : Fin 3 → Nat) = fun _ => 0 := by decide

/-! ## A grid point's block -/

section

variable (w g m v : Vec Ideal S1x1794x256 .f32)

theorem pay2_at (r : Fin 1794) (s : Fin 256) : k0_pay2 g m (ix3 0 r s) = mom1 (g (ix3 0 r s)) (m (ix3 0 r s)) := by
  unfold k0_pay2 k0_pay1
  pointwise
  rfl

theorem pay3_at (r : Fin 1794) (s : Fin 256) : k0_pay3 g v (ix3 0 r s) = mom2 (g (ix3 0 r s)) (v (ix3 0 r s)) := by
  unfold k0_pay3 k0_pay1
  pointwise
  rfl

theorem pay4_at (r : Fin 1794) (s : Fin 256) :
    k0_pay4 g m v w (ix3 0 r s) = delta (w (ix3 0 r s)) (g (ix3 0 r s)) (m (ix3 0 r s)) (v (ix3 0 r s)) := by
  have e := pay2_at g m r s
  have e' := pay3_at g v r s
  unfold k0_pay4
  rw [named_c1, named_c2]
  generalize k0_pay2 g m = p at e ⊢
  generalize k0_pay3 g v = q at e' ⊢
  pointwise
  simp only [e, e']
  exact congrArg₂ (fun a b => Ideal.ofBits .f32 0xBA83126F#32 * (Ideal.div a (Ideal.sqrt b + Ideal.ofBits .f32 0x322BCC77#32) + Ideal.ofBits .f32 0x3C23D70A#32 * w (ix3 0 r s)))
    (corrected1 _) (corrected2 _)

theorem eq_at (y : S1x1794x256.Idx) : y = ix3 0 (y 1) (y 2) :=
  (eq_ix3 y).trans (congrArg (fun a => ix3 a (y 1) (y 2)) (Fin.ext (by have h : (y 0).val < 1 := (y 0).isLt; show (y 0).val = 0; omega)))

theorem out4_at (x0 x1 x2 x3 : Vec Ideal S1x1794x256 .f32) (y : S1x1794x256.Idx) : out0_4 x0 x1 x2 x3 y = delta (x0 (ix3 0 (y 1) (y 2))) (x1 (ix3 0 (y 1) (y 2))) (x2 (ix3 0 (y 1) (y 2))) (x3 (ix3 0 (y 1) (y 2))) := by
  unfold out0_4
  rw [View.canon_unit_zero (S := S1x1794x256) off3]
  simp only [View.ld_unit_zero (S := S1x1794x256) off3]
  exact (congrArg _ (eq_at y)).trans (pay4_at x0 x1 x2 x3 (y 1) (y 2))

theorem out5_at (x0 x1 x2 x3 : Vec Ideal S1x1794x256 .f32) (y : S1x1794x256.Idx) : out0_5 x0 x1 x2 x3 y = mom1 (x1 (ix3 0 (y 1) (y 2))) (x2 (ix3 0 (y 1) (y 2))) := by
  unfold out0_5
  rw [View.canon_unit_zero (S := S1x1794x256) off3]
  simp only [View.ld_unit_zero (S := S1x1794x256) off3]
  exact (congrArg _ (eq_at y)).trans (pay2_at x1 x2 (y 1) (y 2))

theorem out6_at (x0 x1 x2 x3 : Vec Ideal S1x1794x256 .f32) (y : S1x1794x256.Idx) : out0_6 x0 x1 x2 x3 y = mom2 (x1 (ix3 0 (y 1) (y 2))) (x3 (ix3 0 (y 1) (y 2))) := by
  unfold out0_6
  rw [View.canon_unit_zero (S := S1x1794x256) off3]
  simp only [View.ld_unit_zero (S := S1x1794x256) off3]
  exact (congrArg _ (eq_at y)).trans (pay3_at x1 x3 (y 1) (y 2))

end

/-! ## The blocks of the arrays -/

variable (m : (ℓ : Loc nD τ sig) → Buf (Elt Ideal) ℓ)

theorem idx : ∀ t : Fin cfg0.N, win0_0.index t = ![0, 0, t.val] ∧ win0_1.index t = ![0, 0, t.val] ∧ win0_2.index t = ![0, 0, t.val] ∧ win0_3.index t = ![0, 0, t.val] ∧ win0_4.index t = ![0, 0, t.val] ∧ win0_5.index t = ![0, 0, t.val] ∧ win0_6.index t = ![0, 0, t.val] :=
  (by decide +kernel : ∀ t : Fin grid0.N, win0_0.index t = ![0, 0, t.val] ∧ win0_1.index t = ![0, 0, t.val] ∧ win0_2.index t = ![0, 0, t.val] ∧ win0_3.index t = ![0, 0, t.val] ∧ win0_4.index t = ![0, 0, t.val] ∧ win0_5.index t = ![0, 0, t.val] ∧ win0_6.index t = ![0, 0, t.val])

/-- An array, transposed. -/
def turn (A : S1x1024x1794.Idx → EReal) : S1x1794x1024.Idx → EReal := transpose S1x1794x1024 [0, 2, 1] A transposes_S1x1024x1794_S1x1794x1024_0_2_1
/-- An array, transposed back. -/
def back (A : S1x1794x1024.Idx → EReal) : S1x1024x1794.Idx → EReal := transpose S1x1024x1794 [0, 2, 1] A transposes_S1x1794x1024_S1x1024x1794_0_2_1

theorem turn_at (A : S1x1024x1794.Idx → EReal) (r : Fin 1794) (s : Fin 1024) : turn A (ix3 0 r s) = A (ix3 0 s r) := by
  unfold turn
  pointwise

theorem back_at (A : S1x1794x1024.Idx → EReal) (r : Fin 1024) (s : Fin 1794) : back A (ix3 0 r s) = A (ix3 0 s r) := by
  unfold back
  pointwise

theorem arr0 (c : Dev nD) : V m c main_v0 = turn (m ((c : Thread nD τ).loc main_arg0)) := by
  show StableHlo.after (List.flatten [hostOps0]) _ _ = _
  simp only [hostOps0, List.flatten_cons, List.flatten_nil, List.append_nil, StableHlo.after_cons, StableHlo.after_nil]
  rw [StableHlo.unary_result_ne]
  rw [StableHlo.unary_result_ne]
  rw [StableHlo.unary_result_ne]
  refine (StableHlo.unary_result main_arg0 main_v0 _ _ _ _).trans ?_
  refine congrArg turn ?_
  · rfl
  all_goals decide

theorem arr1 (c : Dev nD) : V m c main_v1 = turn (m ((c : Thread nD τ).loc main_arg1)) := by
  show StableHlo.after (List.flatten [hostOps0]) _ _ = _
  simp only [hostOps0, List.flatten_cons, List.flatten_nil, List.append_nil, StableHlo.after_cons, StableHlo.after_nil]
  rw [StableHlo.unary_result_ne]
  rw [StableHlo.unary_result_ne]
  refine (StableHlo.unary_result main_arg1 main_v1 _ _ _ _).trans ?_
  refine congrArg turn ?_
  rw [StableHlo.unary_result_ne]
  all_goals decide

theorem arr2 (c : Dev nD) : V m c main_v2 = turn (m ((c : Thread nD τ).loc main_arg2)) := by
  show StableHlo.after (List.flatten [hostOps0]) _ _ = _
  simp only [hostOps0, List.flatten_cons, List.flatten_nil, List.append_nil, StableHlo.after_cons, StableHlo.after_nil]
  rw [StableHlo.unary_result_ne]
  refine (StableHlo.unary_result main_arg2 main_v2 _ _ _ _).trans ?_
  refine congrArg turn ?_
  rw [StableHlo.unary_result_ne]
  rw [StableHlo.unary_result_ne]
  all_goals decide

theorem arr3 (c : Dev nD) : V m c main_v3 = turn (m ((c : Thread nD τ).loc main_arg3)) := by
  show StableHlo.after (List.flatten [hostOps0]) _ _ = _
  simp only [hostOps0, List.flatten_cons, List.flatten_nil, List.append_nil, StableHlo.after_cons, StableHlo.after_nil]
  refine (StableHlo.unary_result main_arg3 main_v3 _ _ _ _).trans ?_
  refine congrArg turn ?_
  rw [StableHlo.unary_result_ne]
  rw [StableHlo.unary_result_ne]
  rw [StableHlo.unary_result_ne]
  all_goals decide

theorem blk0 (c : Dev nD) (t : Fin cfg0.N) (r : Fin 1794) (s : Fin 256) :
    iblk m c 0 t (ix3 0 r s) = m ((c : Thread nD τ).loc main_arg0) (ix3 0 ⟨256 * t.val + s, by have h : t.val < 4 := t.isLt; omega⟩ r) := by
  refine Eq.trans (b := V m c main_v0 (ix3 0 r ⟨256 * t.val + s, by have h : t.val < 4 := t.isLt; omega⟩)) ?_ ((congrFun (arr0 m c) _).trans (turn_at _ _ _))
  generalize hA : V m c main_v0 = A
  have hA' : V m c (Pipeline.arrRef spec0 0) = A := hA
  blk_ext [iblk, hA', (idx t).1]

theorem blk1 (c : Dev nD) (t : Fin cfg0.N) (r : Fin 1794) (s : Fin 256) :
    iblk m c 1 t (ix3 0 r s) = m ((c : Thread nD τ).loc main_arg1) (ix3 0 ⟨256 * t.val + s, by have h : t.val < 4 := t.isLt; omega⟩ r) := by
  refine Eq.trans (b := V m c main_v1 (ix3 0 r ⟨256 * t.val + s, by have h : t.val < 4 := t.isLt; omega⟩)) ?_ ((congrFun (arr1 m c) _).trans (turn_at _ _ _))
  generalize hA : V m c main_v1 = A
  have hA' : V m c (Pipeline.arrRef spec0 1) = A := hA
  blk_ext [iblk, hA', (idx t).2.1]

theorem blk2 (c : Dev nD) (t : Fin cfg0.N) (r : Fin 1794) (s : Fin 256) :
    iblk m c 2 t (ix3 0 r s) = m ((c : Thread nD τ).loc main_arg2) (ix3 0 ⟨256 * t.val + s, by have h : t.val < 4 := t.isLt; omega⟩ r) := by
  refine Eq.trans (b := V m c main_v2 (ix3 0 r ⟨256 * t.val + s, by have h : t.val < 4 := t.isLt; omega⟩)) ?_ ((congrFun (arr2 m c) _).trans (turn_at _ _ _))
  generalize hA : V m c main_v2 = A
  have hA' : V m c (Pipeline.arrRef spec0 2) = A := hA
  blk_ext [iblk, hA', (idx t).2.2.1]

theorem blk3 (c : Dev nD) (t : Fin cfg0.N) (r : Fin 1794) (s : Fin 256) :
    iblk m c 3 t (ix3 0 r s) = m ((c : Thread nD τ).loc main_arg3) (ix3 0 ⟨256 * t.val + s, by have h : t.val < 4 := t.isLt; omega⟩ r) := by
  refine Eq.trans (b := V m c main_v3 (ix3 0 r ⟨256 * t.val + s, by have h : t.val < 4 := t.isLt; omega⟩)) ?_ ((congrFun (arr3 m c) _).trans (turn_at _ _ _))
  generalize hA : V m c main_v3 = A
  have hA' : V m c (Pipeline.arrRef spec0 3) = A := hA
  blk_ext [iblk, hA', (idx t).2.2.2.1]

/-- What the call leaves, in the layout of its arguments. -/
def want4 (c : Dev nD) : S1x1024x1794.Idx → EReal := fun i => delta (m ((c : Thread nD τ).loc main_arg0) i) (m ((c : Thread nD τ).loc main_arg1) i) (m ((c : Thread nD τ).loc main_arg2) i) (m ((c : Thread nD τ).loc main_arg3) i)

theorem arr_4 (c : Dev nD) : (dats m 0 c).arrAt 4 cfg0.N = fun j : S1x1794x1024.Idx => want4 m c (ix3 0 (j 2) (j 1)) := by
  refine (dats m 0 c).arrAt_eq_of_covers 4 _ (by decide +kernel) fun t hf y => ?_
  blk_simp
  rw [after0_4]
  refine (out4_at ..).trans ?_
  rw [blk0 m c t (y 1) (y 2), blk1 m c t (y 1) (y 2), blk2 m c t (y 1) (y 2), blk3 m c t (y 1) (y 2)]
  refine congrArg (want4 m c) (congrArg₂ (ix3 0) (Fin.ext ?_) (Fin.ext ?_))
  all_goals blk_simp [(idx t).2.2.2.2.1]
  all_goals dsimp only
  all_goals omega

theorem turned4 (c : Dev nD) : back ((dats m 0 c).arrAt 4 cfg0.N) = want4 m c := by
  rw [arr_4]
  refine funext fun i => ?_
  have e : i = ix3 0 (i 1) (i 2) := (eq_ix3 i).trans (congrArg (fun a => ix3 a (i 1) (i 2)) (Fin.ext (by have h : (i 0).val < 1 := (i 0).isLt; show (i 0).val = 0; omega)))
  rw [e]
  exact back_at _ (i 1) (i 2)

/-- What the call leaves, in the layout of its arguments. -/
def want5 (c : Dev nD) : S1x1024x1794.Idx → EReal := fun i => mom1 (m ((c : Thread nD τ).loc main_arg1) i) (m ((c : Thread nD τ).loc main_arg2) i)

theorem arr_5 (c : Dev nD) : (dats m 0 c).arrAt 5 cfg0.N = fun j : S1x1794x1024.Idx => want5 m c (ix3 0 (j 2) (j 1)) := by
  refine (dats m 0 c).arrAt_eq_of_covers 5 _ (by decide +kernel) fun t hf y => ?_
  blk_simp
  rw [after0_5]
  refine (out5_at ..).trans ?_
  refine (congrArg₂ mom1 (blk1 m c t (y 1) (y 2)) (blk2 m c t (y 1) (y 2))).trans ?_
  refine congrArg (want5 m c) (congrArg₂ (ix3 0) (Fin.ext ?_) (Fin.ext ?_))
  all_goals blk_simp [(idx t).2.2.2.2.2.1]
  all_goals dsimp only
  all_goals omega

theorem turned5 (c : Dev nD) : back ((dats m 0 c).arrAt 5 cfg0.N) = want5 m c := by
  rw [arr_5]
  refine funext fun i => ?_
  have e : i = ix3 0 (i 1) (i 2) := (eq_ix3 i).trans (congrArg (fun a => ix3 a (i 1) (i 2)) (Fin.ext (by have h : (i 0).val < 1 := (i 0).isLt; show (i 0).val = 0; omega)))
  rw [e]
  exact back_at _ (i 1) (i 2)

/-- What the call leaves, in the layout of its arguments. -/
def want6 (c : Dev nD) : S1x1024x1794.Idx → EReal := fun i => mom2 (m ((c : Thread nD τ).loc main_arg1) i) (m ((c : Thread nD τ).loc main_arg3) i)

theorem arr_6 (c : Dev nD) : (dats m 0 c).arrAt 6 cfg0.N = fun j : S1x1794x1024.Idx => want6 m c (ix3 0 (j 2) (j 1)) := by
  refine (dats m 0 c).arrAt_eq_of_covers 6 _ (by decide +kernel) fun t hf y => ?_
  blk_simp
  rw [after0_6]
  refine (out6_at ..).trans ?_
  refine (congrArg₂ mom2 (blk1 m c t (y 1) (y 2)) (blk3 m c t (y 1) (y 2))).trans ?_
  refine congrArg (want6 m c) (congrArg₂ (ix3 0) (Fin.ext ?_) (Fin.ext ?_))
  all_goals blk_simp [(idx t).2.2.2.2.2.2]
  all_goals dsimp only
  all_goals omega

theorem turned6 (c : Dev nD) : back ((dats m 0 c).arrAt 6 cfg0.N) = want6 m c := by
  rw [arr_6]
  refine funext fun i => ?_
  have e : i = ix3 0 (i 1) (i 2) := (eq_ix3 i).trans (congrArg (fun a => ix3 a (i 1) (i 2)) (Fin.ext (by have h : (i 0).val < 1 := (i 0).isLt; show (i 0).val = 0; omega)))
  rw [e]
  exact back_at _ (i 1) (i 2)

theorem tail4 (c : Dev nD) : Pipeline.afterTail₀ cfgs (dats m) 0 (V0 m) [hostOps1] c main_v5 = want4 m c := by
  refine Eq.trans ?_ (turned4 m c)
  unfold Pipeline.afterTail₀
  refine Eq.trans ?_ (congrArg back (Pipeline.withArrays_arr spec0 launch0.win.arr_inj c (V0 m c) (fun w => (dats m 0 c).arrAt w cfg0.N) 4))
  show StableHlo.after hostOps1 _ _ = _
  unfold hostOps1
  simp only [StableHlo.after_cons, StableHlo.after_nil]
  rw [StableHlo.unary_result_ne]
  rw [StableHlo.unary_result_ne]
  refine (StableHlo.unary_result main_v4_0 main_v5 _ _ _ _).trans ?_
  · rfl
  all_goals decide

theorem tail5 (c : Dev nD) : Pipeline.afterTail₀ cfgs (dats m) 0 (V0 m) [hostOps1] c main_v6 = want5 m c := by
  refine Eq.trans ?_ (turned5 m c)
  unfold Pipeline.afterTail₀
  refine Eq.trans ?_ (congrArg back (Pipeline.withArrays_arr spec0 launch0.win.arr_inj c (V0 m c) (fun w => (dats m 0 c).arrAt w cfg0.N) 5))
  show StableHlo.after hostOps1 _ _ = _
  unfold hostOps1
  simp only [StableHlo.after_cons, StableHlo.after_nil]
  rw [StableHlo.unary_result_ne]
  refine (StableHlo.unary_result main_v4_1 main_v6 _ _ _ _).trans ?_
  refine congrArg back ?_
  rw [StableHlo.unary_result_ne]
  all_goals decide

theorem tail6 (c : Dev nD) : Pipeline.afterTail₀ cfgs (dats m) 0 (V0 m) [hostOps1] c main_v7 = want6 m c := by
  refine Eq.trans ?_ (turned6 m c)
  unfold Pipeline.afterTail₀
  refine Eq.trans ?_ (congrArg back (Pipeline.withArrays_arr spec0 launch0.win.arr_inj c (V0 m c) (fun w => (dats m 0 c).arrAt w cfg0.N) 6))
  show StableHlo.after hostOps1 _ _ = _
  unfold hostOps1
  simp only [StableHlo.after_cons, StableHlo.after_nil]
  refine (StableHlo.unary_result main_v4_2 main_v7 _ _ _ _).trans ?_
  refine congrArg back ?_
  rw [StableHlo.unary_result_ne]
  rw [StableHlo.unary_result_ne]
  all_goals decide

theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v5) = want4 m c
      ∧ r.2.mem ((c.tc : Thread nD τ).loc main_v6) = want5 m c
      ∧ r.2.mem ((c.tc : Thread nD τ).loc main_v7) = want6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).2 main_v5 (by decide)).trans (tail4 m c), ((h.1 c).2 main_v6 (by decide)).trans (tail5 m c), ((h.1 c).2 main_v7 (by decide)).trans (tail6 m c), h.2 c⟩)
    (θ_run_and (run_main (F := Ideal) m ρ) (unchanged (F := Ideal) m ρ))

section Reference

variable (w g m v : S1x1024x1794.Idx → EReal)

/-! ## The reference's results -/

theorem ref_delta : Cert.ReferenceAdamInIdeal.Read.val_main_v23 (F := Ideal) w g m v = fun i => delta (w i) (g i) (m i) (v i) := by
  funext i
  simp only [Cert.ReferenceAdamInIdeal.Read.val_main_v0_apply, Cert.ReferenceAdamInIdeal.Read.val_main_v1_apply, Cert.ReferenceAdamInIdeal.Read.val_main_v2_apply, Cert.ReferenceAdamInIdeal.Read.val_main_v3_apply, Cert.ReferenceAdamInIdeal.Read.val_main_v4_apply, Cert.ReferenceAdamInIdeal.Read.val_main_v5_apply, Cert.ReferenceAdamInIdeal.Read.val_main_v6_apply, Cert.ReferenceAdamInIdeal.Read.val_main_v7_apply, Cert.ReferenceAdamInIdeal.Read.val_main_v8_apply, Cert.ReferenceAdamInIdeal.Read.val_main_v9_apply, Cert.ReferenceAdamInIdeal.Read.val_main_v10_apply, Cert.ReferenceAdamInIdeal.Read.val_main_v11_apply, Cert.ReferenceAdamInIdeal.Read.val_main_v12_apply, Cert.ReferenceAdamInIdeal.Read.val_main_v13_apply, Cert.ReferenceAdamInIdeal.Read.val_main_v14_apply, Cert.ReferenceAdamInIdeal.Read.val_main_v15_apply, Cert.ReferenceAdamInIdeal.Read.val_main_v16_apply, Cert.ReferenceAdamInIdeal.Read.val_main_v17_apply, Cert.ReferenceAdamInIdeal.Read.val_main_v18_apply, Cert.ReferenceAdamInIdeal.Read.val_main_v19_apply, Cert.ReferenceAdamInIdeal.Read.val_main_v20_apply, Cert.ReferenceAdamInIdeal.Read.val_main_v21_apply, Cert.ReferenceAdamInIdeal.Read.val_main_v22_apply, Cert.ReferenceAdamInIdeal.Read.val_main_v23_apply, Cert.ReferenceAdamInIdeal.Read.val_main_cst_apply, Cert.ReferenceAdamInIdeal.Read.val_main_cst_0_apply, Cert.ReferenceAdamInIdeal.Read.val_main_cst_1_apply, Cert.ReferenceAdamInIdeal.Read.val_main_cst_2_apply, Cert.ReferenceAdamInIdeal.Read.val_main_cst_3_apply, Cert.ReferenceAdamInIdeal.Read.val_main_cst_4_apply, Cert.ReferenceAdamInIdeal.Read.val_main_cst_5_apply, Cert.ReferenceAdamInIdeal.Read.val_main_cst_6_apply, Cert.ReferenceAdamInIdeal.Read.val_main_cst_7_apply]
  rfl

theorem ref_mom1 : Cert.ReferenceAdamInIdeal.Read.val_main_v4 (F := Ideal) g m = fun i => mom1 (g i) (m i) := by
  funext i
  simp only [Cert.ReferenceAdamInIdeal.Read.val_main_v0_apply, Cert.ReferenceAdamInIdeal.Read.val_main_v1_apply, Cert.ReferenceAdamInIdeal.Read.val_main_v2_apply, Cert.ReferenceAdamInIdeal.Read.val_main_v3_apply, Cert.ReferenceAdamInIdeal.Read.val_main_v4_apply, Cert.ReferenceAdamInIdeal.Read.val_main_cst_apply, Cert.ReferenceAdamInIdeal.Read.val_main_cst_0_apply]
  rfl

theorem ref_mom2 : Cert.ReferenceAdamInIdeal.Read.val_main_v10 (F := Ideal) g v = fun i => mom2 (g i) (v i) := by
  funext i
  simp only [Cert.ReferenceAdamInIdeal.Read.val_main_v5_apply, Cert.ReferenceAdamInIdeal.Read.val_main_v6_apply, Cert.ReferenceAdamInIdeal.Read.val_main_v7_apply, Cert.ReferenceAdamInIdeal.Read.val_main_v8_apply, Cert.ReferenceAdamInIdeal.Read.val_main_v9_apply, Cert.ReferenceAdamInIdeal.Read.val_main_v10_apply, Cert.ReferenceAdamInIdeal.Read.val_main_cst_1_apply, Cert.ReferenceAdamInIdeal.Read.val_main_cst_2_apply]
  rfl

end Reference

/-! ## The claims -/

theorem frameR : Cert.quiescent_ReferenceAdamInIdeal := fun m ρ _ =>
  (θ_run Cert.ReferenceAdamInIdeal.defs _ _).mono (fun r h => ⟨fun c => (h c).2.2.2,
      Idealize.ShloMosaic.sem_eq_zero_of_no_sems (by decide) r.2⟩)
    (Cert.ReferenceAdamInIdeal.Value.run (F := Ideal) m ρ)

theorem algebraic : Cert.algebraic_KernelAdamInIdeal_ReferenceAdamInIdeal := by
  intro m ρ m' ρ' hpre hagree
  refine ⟨fun c => want4 m c, fun c => want5 m c, fun c => want6 m c, run m ρ, ?_⟩
  refine (θ_run Cert.ReferenceAdamInIdeal.defs _ _).mono (fun r h c => ?_) (Cert.ReferenceAdamInIdeal.Value.run (F := Ideal) m' ρ')
  obtain ⟨r0, r1, r2, kept⟩ := h c
  obtain ⟨a0, a1, a2, a3⟩ := hagree c
  refine ⟨r0.trans ?_, r1.trans ?_, r2.trans ?_, kept⟩
  · refine (Cert.ReferenceAdamInIdeal.Read.val_main_v23_eq _ _ _ _).trans ?_
    rw [a0, a1, a2, a3]
    exact ref_delta _ _ _ _
  · refine (Cert.ReferenceAdamInIdeal.Read.val_main_v4_eq _ _).trans ?_
    rw [a1, a2]
    exact ref_mom1 _ _
  · refine (Cert.ReferenceAdamInIdeal.Read.val_main_v10_eq _ _).trans ?_
    rw [a1, a3]
    exact ref_mom2 _ _

end Cert.AdamIn

end
-- ==== Proof.AdamRows.lean ====
/-
  The optimiser's step on one device's rows of the output projection's weight, or of the memory's projection.
-/
module

public import proofs.«01_k».proof.Defs
public import proofs.«01_k».proof.Proof.Lits
public import proofs.«01_k».proof.Proof.Gen.KernelAdamRowsIdeal.Value
public import proofs.«01_k».proof.Proof.Gen.ReferenceAdamRowsIdeal.Run
public import proofs.«01_k».proof.Proof.Gen.ReferenceAdamRowsIdeal.Read
public import proofs.«01_k».proof.Proof.Adam
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.AdamRows

open Cert.KernelAdamRowsIdeal Cert.KernelAdamRowsIdeal.Gen Idealize.ShloMosaic Idealize.ShloMosaic.TcCoe Cert.Adam
open Idealize.SL.Sem

/-- The corrections' reciprocals, as they are named. -/
theorem named_c1 : Named.named (F := Ideal) κ "c1" (φ := .f32) 0x3FC48605#32 = (((5463681 / 8388608)⁻¹ : ℝ) : EReal) :=
  IdealRules.named_const.ideal_named_scalar _ _ _ _ rfl
theorem named_c2 : Named.named (F := Ideal) κ "c2" (φ := .f32) 0x42C8E6D3#32 = (((2672307 / 268435456)⁻¹ : ℝ) : EReal) :=
  IdealRules.named_const.ideal_named_scalar _ _ _ _ rfl

theorem preserves : Cert.preserves_KernelAdamRows_KernelAdamRowsIdeal :=
  ⟨IdealRules.named_const.statement κ "c1" .f32 0x3FC48605#32 (((5463681 / 8388608)⁻¹ : ℝ) : EReal) rfl,
    IdealRules.named_const.statement κ "c2" .f32 0x42C8E6D3#32 (((2672307 / 268435456)⁻¹ : ℝ) : EReal) rfl⟩

variable (w g m v : S1x256x1024.Idx → EReal)

/-- What the call leaves: the change of the weight, and the two moments. -/
theorem kernel_delta : Cert.KernelAdamRowsIdeal.Value.G4 (F := Ideal) g m v w = fun i => delta (w i) (g i) (m i) (v i) := by
  funext i
  dsimp only [Cert.KernelAdamRowsIdeal.Value.G4]
  rw [named_c1, named_c2]
  exact congrArg₂ (fun a b => Ideal.ofBits .f32 0xBA83126F#32 * (Ideal.div a (Ideal.sqrt b + Ideal.ofBits .f32 0x322BCC77#32) + Ideal.ofBits .f32 0x3C23D70A#32 * w i))
    (corrected1 (mom1 (g i) (m i))) (corrected2 (mom2 (g i) (v i)))

theorem kernel_mom1 : Cert.KernelAdamRowsIdeal.Value.G5 (F := Ideal) g m = fun i => mom1 (g i) (m i) := rfl
theorem kernel_mom2 : Cert.KernelAdamRowsIdeal.Value.G6 (F := Ideal) g v = fun i => mom2 (g i) (v i) := rfl

/-! ## The reference's results -/

theorem ref_delta : Cert.ReferenceAdamRowsIdeal.Read.val_main_v23 (F := Ideal) w g m v = fun i => delta (w i) (g i) (m i) (v i) := by
  funext i
  simp only [Cert.ReferenceAdamRowsIdeal.Read.val_main_v0_apply, Cert.ReferenceAdamRowsIdeal.Read.val_main_v1_apply, Cert.ReferenceAdamRowsIdeal.Read.val_main_v2_apply, Cert.ReferenceAdamRowsIdeal.Read.val_main_v3_apply, Cert.ReferenceAdamRowsIdeal.Read.val_main_v4_apply, Cert.ReferenceAdamRowsIdeal.Read.val_main_v5_apply, Cert.ReferenceAdamRowsIdeal.Read.val_main_v6_apply, Cert.ReferenceAdamRowsIdeal.Read.val_main_v7_apply, Cert.ReferenceAdamRowsIdeal.Read.val_main_v8_apply, Cert.ReferenceAdamRowsIdeal.Read.val_main_v9_apply, Cert.ReferenceAdamRowsIdeal.Read.val_main_v10_apply, Cert.ReferenceAdamRowsIdeal.Read.val_main_v11_apply, Cert.ReferenceAdamRowsIdeal.Read.val_main_v12_apply, Cert.ReferenceAdamRowsIdeal.Read.val_main_v13_apply, Cert.ReferenceAdamRowsIdeal.Read.val_main_v14_apply, Cert.ReferenceAdamRowsIdeal.Read.val_main_v15_apply, Cert.ReferenceAdamRowsIdeal.Read.val_main_v16_apply, Cert.ReferenceAdamRowsIdeal.Read.val_main_v17_apply, Cert.ReferenceAdamRowsIdeal.Read.val_main_v18_apply, Cert.ReferenceAdamRowsIdeal.Read.val_main_v19_apply, Cert.ReferenceAdamRowsIdeal.Read.val_main_v20_apply, Cert.ReferenceAdamRowsIdeal.Read.val_main_v21_apply, Cert.ReferenceAdamRowsIdeal.Read.val_main_v22_apply, Cert.ReferenceAdamRowsIdeal.Read.val_main_v23_apply, Cert.ReferenceAdamRowsIdeal.Read.val_main_cst_apply, Cert.ReferenceAdamRowsIdeal.Read.val_main_cst_0_apply, Cert.ReferenceAdamRowsIdeal.Read.val_main_cst_1_apply, Cert.ReferenceAdamRowsIdeal.Read.val_main_cst_2_apply, Cert.ReferenceAdamRowsIdeal.Read.val_main_cst_3_apply, Cert.ReferenceAdamRowsIdeal.Read.val_main_cst_4_apply, Cert.ReferenceAdamRowsIdeal.Read.val_main_cst_5_apply, Cert.ReferenceAdamRowsIdeal.Read.val_main_cst_6_apply, Cert.ReferenceAdamRowsIdeal.Read.val_main_cst_7_apply]
  rfl

theorem ref_mom1 : Cert.ReferenceAdamRowsIdeal.Read.val_main_v4 (F := Ideal) g m = fun i => mom1 (g i) (m i) := by
  funext i
  simp only [Cert.ReferenceAdamRowsIdeal.Read.val_main_v0_apply, Cert.ReferenceAdamRowsIdeal.Read.val_main_v1_apply, Cert.ReferenceAdamRowsIdeal.Read.val_main_v2_apply, Cert.ReferenceAdamRowsIdeal.Read.val_main_v3_apply, Cert.ReferenceAdamRowsIdeal.Read.val_main_v4_apply, Cert.ReferenceAdamRowsIdeal.Read.val_main_cst_apply, Cert.ReferenceAdamRowsIdeal.Read.val_main_cst_0_apply]
  rfl

theorem ref_mom2 : Cert.ReferenceAdamRowsIdeal.Read.val_main_v10 (F := Ideal) g v = fun i => mom2 (g i) (v i) := by
  funext i
  simp only [Cert.ReferenceAdamRowsIdeal.Read.val_main_v5_apply, Cert.ReferenceAdamRowsIdeal.Read.val_main_v6_apply, Cert.ReferenceAdamRowsIdeal.Read.val_main_v7_apply, Cert.ReferenceAdamRowsIdeal.Read.val_main_v8_apply, Cert.ReferenceAdamRowsIdeal.Read.val_main_v9_apply, Cert.ReferenceAdamRowsIdeal.Read.val_main_v10_apply, Cert.ReferenceAdamRowsIdeal.Read.val_main_cst_1_apply, Cert.ReferenceAdamRowsIdeal.Read.val_main_cst_2_apply]
  rfl

/-! ## The claims -/

theorem frameR : Cert.quiescent_ReferenceAdamRowsIdeal := fun m ρ _ =>
  (θ_run Cert.ReferenceAdamRowsIdeal.defs _ _).mono (fun r h => ⟨fun c => (h c).2.2.2,
      Idealize.ShloMosaic.sem_eq_zero_of_no_sems (by decide) r.2⟩)
    (Cert.ReferenceAdamRowsIdeal.Value.run (F := Ideal) m ρ)

theorem algebraic : Cert.algebraic_KernelAdamRowsIdeal_ReferenceAdamRowsIdeal := by
  intro m ρ m' ρ' hpre hagree
  refine ⟨_, _, _, Cert.KernelAdamRowsIdeal.Value.run (F := Ideal) m ρ, ?_⟩
  refine (θ_run Cert.ReferenceAdamRowsIdeal.defs _ _).mono (fun r h c => ?_) (Cert.ReferenceAdamRowsIdeal.Value.run (F := Ideal) m' ρ')
  obtain ⟨r0, r1, r2, kept⟩ := h c
  obtain ⟨a0, a1, a2, a3⟩ := hagree c
  refine ⟨r0.trans ?_, r1.trans ?_, r2.trans ?_, kept⟩
  · refine (Cert.ReferenceAdamRowsIdeal.Read.val_main_v23_eq _ _ _ _).trans ?_
    rw [a0, a1, a2, a3]
    exact (ref_delta _ _ _ _).trans (kernel_delta _ _ _ _).symm
  · refine (Cert.ReferenceAdamRowsIdeal.Read.val_main_v4_eq _ _).trans ?_
    rw [a1, a2]
    exact (ref_mom1 _ _).trans (kernel_mom1 _ _).symm
  · refine (Cert.ReferenceAdamRowsIdeal.Read.val_main_v10_eq _ _).trans ?_
    rw [a1, a3]
    exact (ref_mom2 _ _).trans (kernel_mom2 _ _).symm

end Cert.AdamRows

end
-- ==== Proof.AdamBr.lean ====
/-
  The optimiser's step on one device's columns of a branch's output weight.
-/
module

public import proofs.«01_k».proof.Defs
public import proofs.«01_k».proof.Proof.Lits
public import proofs.«01_k».proof.Proof.Gen.KernelAdamBrIdeal.Value
public import proofs.«01_k».proof.Proof.Gen.ReferenceAdamBrIdeal.Run
public import proofs.«01_k».proof.Proof.Gen.ReferenceAdamBrIdeal.Read
public import proofs.«01_k».proof.Proof.Adam
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.AdamBr

open Cert.KernelAdamBrIdeal Cert.KernelAdamBrIdeal.Gen Idealize.ShloMosaic Idealize.ShloMosaic.TcCoe Cert.Adam
open Idealize.SL.Sem

/-- The corrections' reciprocals, as they are named. -/
theorem named_c1 : Named.named (F := Ideal) κ "c1" (φ := .f32) 0x3FC48605#32 = (((5463681 / 8388608)⁻¹ : ℝ) : EReal) :=
  IdealRules.named_const.ideal_named_scalar _ _ _ _ rfl
theorem named_c2 : Named.named (F := Ideal) κ "c2" (φ := .f32) 0x42C8E6D3#32 = (((2672307 / 268435456)⁻¹ : ℝ) : EReal) :=
  IdealRules.named_const.ideal_named_scalar _ _ _ _ rfl

theorem preserves : Cert.preserves_KernelAdamBr_KernelAdamBrIdeal :=
  ⟨IdealRules.named_const.statement κ "c1" .f32 0x3FC48605#32 (((5463681 / 8388608)⁻¹ : ℝ) : EReal) rfl,
    IdealRules.named_const.statement κ "c2" .f32 0x42C8E6D3#32 (((2672307 / 268435456)⁻¹ : ℝ) : EReal) rfl⟩

variable (w g m v : S1x512x256.Idx → EReal)

/-- What the call leaves: the change of the weight, and the two moments. -/
theorem kernel_delta : Cert.KernelAdamBrIdeal.Value.G4 (F := Ideal) g m v w = fun i => delta (w i) (g i) (m i) (v i) := by
  funext i
  dsimp only [Cert.KernelAdamBrIdeal.Value.G4]
  rw [named_c1, named_c2]
  exact congrArg₂ (fun a b => Ideal.ofBits .f32 0xBA83126F#32 * (Ideal.div a (Ideal.sqrt b + Ideal.ofBits .f32 0x322BCC77#32) + Ideal.ofBits .f32 0x3C23D70A#32 * w i))
    (corrected1 (mom1 (g i) (m i))) (corrected2 (mom2 (g i) (v i)))

theorem kernel_mom1 : Cert.KernelAdamBrIdeal.Value.G5 (F := Ideal) g m = fun i => mom1 (g i) (m i) := rfl
theorem kernel_mom2 : Cert.KernelAdamBrIdeal.Value.G6 (F := Ideal) g v = fun i => mom2 (g i) (v i) := rfl

/-! ## The reference's results -/

theorem ref_delta : Cert.ReferenceAdamBrIdeal.Read.val_main_v23 (F := Ideal) w g m v = fun i => delta (w i) (g i) (m i) (v i) := by
  funext i
  simp only [Cert.ReferenceAdamBrIdeal.Read.val_main_v0_apply, Cert.ReferenceAdamBrIdeal.Read.val_main_v1_apply, Cert.ReferenceAdamBrIdeal.Read.val_main_v2_apply, Cert.ReferenceAdamBrIdeal.Read.val_main_v3_apply, Cert.ReferenceAdamBrIdeal.Read.val_main_v4_apply, Cert.ReferenceAdamBrIdeal.Read.val_main_v5_apply, Cert.ReferenceAdamBrIdeal.Read.val_main_v6_apply, Cert.ReferenceAdamBrIdeal.Read.val_main_v7_apply, Cert.ReferenceAdamBrIdeal.Read.val_main_v8_apply, Cert.ReferenceAdamBrIdeal.Read.val_main_v9_apply, Cert.ReferenceAdamBrIdeal.Read.val_main_v10_apply, Cert.ReferenceAdamBrIdeal.Read.val_main_v11_apply, Cert.ReferenceAdamBrIdeal.Read.val_main_v12_apply, Cert.ReferenceAdamBrIdeal.Read.val_main_v13_apply, Cert.ReferenceAdamBrIdeal.Read.val_main_v14_apply, Cert.ReferenceAdamBrIdeal.Read.val_main_v15_apply, Cert.ReferenceAdamBrIdeal.Read.val_main_v16_apply, Cert.ReferenceAdamBrIdeal.Read.val_main_v17_apply, Cert.ReferenceAdamBrIdeal.Read.val_main_v18_apply, Cert.ReferenceAdamBrIdeal.Read.val_main_v19_apply, Cert.ReferenceAdamBrIdeal.Read.val_main_v20_apply, Cert.ReferenceAdamBrIdeal.Read.val_main_v21_apply, Cert.ReferenceAdamBrIdeal.Read.val_main_v22_apply, Cert.ReferenceAdamBrIdeal.Read.val_main_v23_apply, Cert.ReferenceAdamBrIdeal.Read.val_main_cst_apply, Cert.ReferenceAdamBrIdeal.Read.val_main_cst_0_apply, Cert.ReferenceAdamBrIdeal.Read.val_main_cst_1_apply, Cert.ReferenceAdamBrIdeal.Read.val_main_cst_2_apply, Cert.ReferenceAdamBrIdeal.Read.val_main_cst_3_apply, Cert.ReferenceAdamBrIdeal.Read.val_main_cst_4_apply, Cert.ReferenceAdamBrIdeal.Read.val_main_cst_5_apply, Cert.ReferenceAdamBrIdeal.Read.val_main_cst_6_apply, Cert.ReferenceAdamBrIdeal.Read.val_main_cst_7_apply]
  rfl

theorem ref_mom1 : Cert.ReferenceAdamBrIdeal.Read.val_main_v4 (F := Ideal) g m = fun i => mom1 (g i) (m i) := by
  funext i
  simp only [Cert.ReferenceAdamBrIdeal.Read.val_main_v0_apply, Cert.ReferenceAdamBrIdeal.Read.val_main_v1_apply, Cert.ReferenceAdamBrIdeal.Read.val_main_v2_apply, Cert.ReferenceAdamBrIdeal.Read.val_main_v3_apply, Cert.ReferenceAdamBrIdeal.Read.val_main_v4_apply, Cert.ReferenceAdamBrIdeal.Read.val_main_cst_apply, Cert.ReferenceAdamBrIdeal.Read.val_main_cst_0_apply]
  rfl

theorem ref_mom2 : Cert.ReferenceAdamBrIdeal.Read.val_main_v10 (F := Ideal) g v = fun i => mom2 (g i) (v i) := by
  funext i
  simp only [Cert.ReferenceAdamBrIdeal.Read.val_main_v5_apply, Cert.ReferenceAdamBrIdeal.Read.val_main_v6_apply, Cert.ReferenceAdamBrIdeal.Read.val_main_v7_apply, Cert.ReferenceAdamBrIdeal.Read.val_main_v8_apply, Cert.ReferenceAdamBrIdeal.Read.val_main_v9_apply, Cert.ReferenceAdamBrIdeal.Read.val_main_v10_apply, Cert.ReferenceAdamBrIdeal.Read.val_main_cst_1_apply, Cert.ReferenceAdamBrIdeal.Read.val_main_cst_2_apply]
  rfl

/-! ## The claims -/

theorem frameR : Cert.quiescent_ReferenceAdamBrIdeal := fun m ρ _ =>
  (θ_run Cert.ReferenceAdamBrIdeal.defs _ _).mono (fun r h => ⟨fun c => (h c).2.2.2,
      Idealize.ShloMosaic.sem_eq_zero_of_no_sems (by decide) r.2⟩)
    (Cert.ReferenceAdamBrIdeal.Value.run (F := Ideal) m ρ)

theorem algebraic : Cert.algebraic_KernelAdamBrIdeal_ReferenceAdamBrIdeal := by
  intro m ρ m' ρ' hpre hagree
  refine ⟨_, _, _, Cert.KernelAdamBrIdeal.Value.run (F := Ideal) m ρ, ?_⟩
  refine (θ_run Cert.ReferenceAdamBrIdeal.defs _ _).mono (fun r h c => ?_) (Cert.ReferenceAdamBrIdeal.Value.run (F := Ideal) m' ρ')
  obtain ⟨r0, r1, r2, kept⟩ := h c
  obtain ⟨a0, a1, a2, a3⟩ := hagree c
  refine ⟨r0.trans ?_, r1.trans ?_, r2.trans ?_, kept⟩
  · refine (Cert.ReferenceAdamBrIdeal.Read.val_main_v23_eq _ _ _ _).trans ?_
    rw [a0, a1, a2, a3]
    exact (ref_delta _ _ _ _).trans (kernel_delta _ _ _ _).symm
  · refine (Cert.ReferenceAdamBrIdeal.Read.val_main_v4_eq _ _).trans ?_
    rw [a1, a2]
    exact (ref_mom1 _ _).trans (kernel_mom1 _ _).symm
  · refine (Cert.ReferenceAdamBrIdeal.Read.val_main_v10_eq _ _).trans ?_
    rw [a1, a3]
    exact (ref_mom2 _ _).trans (kernel_mom2 _ _).symm

end Cert.AdamBr

end
-- ==== Proof.AdamUp.lean ====
/-
  The optimiser's step on one device's columns of the up projection's weight.
-/
module

public import proofs.«01_k».proof.Defs
public import proofs.«01_k».proof.Proof.Lits
public import proofs.«01_k».proof.Proof.Gen.KernelAdamUpIdeal.Value
public import proofs.«01_k».proof.Proof.Gen.ReferenceAdamUpIdeal.Run
public import proofs.«01_k».proof.Proof.Gen.ReferenceAdamUpIdeal.Read
public import proofs.«01_k».proof.Proof.Adam
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.AdamUp

open Cert.KernelAdamUpIdeal Cert.KernelAdamUpIdeal.Gen Idealize.ShloMosaic Idealize.ShloMosaic.TcCoe Cert.Adam
open Idealize.SL.Sem

/-- The corrections' reciprocals, as they are named. -/
theorem named_c1 : Named.named (F := Ideal) κ "c1" (φ := .f32) 0x3FC48605#32 = (((5463681 / 8388608)⁻¹ : ℝ) : EReal) :=
  IdealRules.named_const.ideal_named_scalar _ _ _ _ rfl
theorem named_c2 : Named.named (F := Ideal) κ "c2" (φ := .f32) 0x42C8E6D3#32 = (((2672307 / 268435456)⁻¹ : ℝ) : EReal) :=
  IdealRules.named_const.ideal_named_scalar _ _ _ _ rfl

theorem preserves : Cert.preserves_KernelAdamUp_KernelAdamUpIdeal :=
  ⟨IdealRules.named_const.statement κ "c1" .f32 0x3FC48605#32 (((5463681 / 8388608)⁻¹ : ℝ) : EReal) rfl,
    IdealRules.named_const.statement κ "c2" .f32 0x42C8E6D3#32 (((2672307 / 268435456)⁻¹ : ℝ) : EReal) rfl⟩

variable (w g m v : S1x1024x1408.Idx → EReal)

/-- What the call leaves: the change of the weight, and the two moments. -/
theorem kernel_delta : Cert.KernelAdamUpIdeal.Value.G4 (F := Ideal) g m v w = fun i => delta (w i) (g i) (m i) (v i) := by
  funext i
  dsimp only [Cert.KernelAdamUpIdeal.Value.G4]
  rw [named_c1, named_c2]
  exact congrArg₂ (fun a b => Ideal.ofBits .f32 0xBA83126F#32 * (Ideal.div a (Ideal.sqrt b + Ideal.ofBits .f32 0x322BCC77#32) + Ideal.ofBits .f32 0x3C23D70A#32 * w i))
    (corrected1 (mom1 (g i) (m i))) (corrected2 (mom2 (g i) (v i)))

theorem kernel_mom1 : Cert.KernelAdamUpIdeal.Value.G5 (F := Ideal) g m = fun i => mom1 (g i) (m i) := rfl
theorem kernel_mom2 : Cert.KernelAdamUpIdeal.Value.G6 (F := Ideal) g v = fun i => mom2 (g i) (v i) := rfl

/-! ## The reference's results -/

theorem ref_delta : Cert.ReferenceAdamUpIdeal.Read.val_main_v23 (F := Ideal) w g m v = fun i => delta (w i) (g i) (m i) (v i) := by
  funext i
  simp only [Cert.ReferenceAdamUpIdeal.Read.val_main_v0_apply, Cert.ReferenceAdamUpIdeal.Read.val_main_v1_apply, Cert.ReferenceAdamUpIdeal.Read.val_main_v2_apply, Cert.ReferenceAdamUpIdeal.Read.val_main_v3_apply, Cert.ReferenceAdamUpIdeal.Read.val_main_v4_apply, Cert.ReferenceAdamUpIdeal.Read.val_main_v5_apply, Cert.ReferenceAdamUpIdeal.Read.val_main_v6_apply, Cert.ReferenceAdamUpIdeal.Read.val_main_v7_apply, Cert.ReferenceAdamUpIdeal.Read.val_main_v8_apply, Cert.ReferenceAdamUpIdeal.Read.val_main_v9_apply, Cert.ReferenceAdamUpIdeal.Read.val_main_v10_apply, Cert.ReferenceAdamUpIdeal.Read.val_main_v11_apply, Cert.ReferenceAdamUpIdeal.Read.val_main_v12_apply, Cert.ReferenceAdamUpIdeal.Read.val_main_v13_apply, Cert.ReferenceAdamUpIdeal.Read.val_main_v14_apply, Cert.ReferenceAdamUpIdeal.Read.val_main_v15_apply, Cert.ReferenceAdamUpIdeal.Read.val_main_v16_apply, Cert.ReferenceAdamUpIdeal.Read.val_main_v17_apply, Cert.ReferenceAdamUpIdeal.Read.val_main_v18_apply, Cert.ReferenceAdamUpIdeal.Read.val_main_v19_apply, Cert.ReferenceAdamUpIdeal.Read.val_main_v20_apply, Cert.ReferenceAdamUpIdeal.Read.val_main_v21_apply, Cert.ReferenceAdamUpIdeal.Read.val_main_v22_apply, Cert.ReferenceAdamUpIdeal.Read.val_main_v23_apply, Cert.ReferenceAdamUpIdeal.Read.val_main_cst_apply, Cert.ReferenceAdamUpIdeal.Read.val_main_cst_0_apply, Cert.ReferenceAdamUpIdeal.Read.val_main_cst_1_apply, Cert.ReferenceAdamUpIdeal.Read.val_main_cst_2_apply, Cert.ReferenceAdamUpIdeal.Read.val_main_cst_3_apply, Cert.ReferenceAdamUpIdeal.Read.val_main_cst_4_apply, Cert.ReferenceAdamUpIdeal.Read.val_main_cst_5_apply, Cert.ReferenceAdamUpIdeal.Read.val_main_cst_6_apply, Cert.ReferenceAdamUpIdeal.Read.val_main_cst_7_apply]
  rfl

theorem ref_mom1 : Cert.ReferenceAdamUpIdeal.Read.val_main_v4 (F := Ideal) g m = fun i => mom1 (g i) (m i) := by
  funext i
  simp only [Cert.ReferenceAdamUpIdeal.Read.val_main_v0_apply, Cert.ReferenceAdamUpIdeal.Read.val_main_v1_apply, Cert.ReferenceAdamUpIdeal.Read.val_main_v2_apply, Cert.ReferenceAdamUpIdeal.Read.val_main_v3_apply, Cert.ReferenceAdamUpIdeal.Read.val_main_v4_apply, Cert.ReferenceAdamUpIdeal.Read.val_main_cst_apply, Cert.ReferenceAdamUpIdeal.Read.val_main_cst_0_apply]
  rfl

theorem ref_mom2 : Cert.ReferenceAdamUpIdeal.Read.val_main_v10 (F := Ideal) g v = fun i => mom2 (g i) (v i) := by
  funext i
  simp only [Cert.ReferenceAdamUpIdeal.Read.val_main_v5_apply, Cert.ReferenceAdamUpIdeal.Read.val_main_v6_apply, Cert.ReferenceAdamUpIdeal.Read.val_main_v7_apply, Cert.ReferenceAdamUpIdeal.Read.val_main_v8_apply, Cert.ReferenceAdamUpIdeal.Read.val_main_v9_apply, Cert.ReferenceAdamUpIdeal.Read.val_main_v10_apply, Cert.ReferenceAdamUpIdeal.Read.val_main_cst_1_apply, Cert.ReferenceAdamUpIdeal.Read.val_main_cst_2_apply]
  rfl

/-! ## The claims -/

theorem frameR : Cert.quiescent_ReferenceAdamUpIdeal := fun m ρ _ =>
  (θ_run Cert.ReferenceAdamUpIdeal.defs _ _).mono (fun r h => ⟨fun c => (h c).2.2.2,
      Idealize.ShloMosaic.sem_eq_zero_of_no_sems (by decide) r.2⟩)
    (Cert.ReferenceAdamUpIdeal.Value.run (F := Ideal) m ρ)

theorem algebraic : Cert.algebraic_KernelAdamUpIdeal_ReferenceAdamUpIdeal := by
  intro m ρ m' ρ' hpre hagree
  refine ⟨_, _, _, Cert.KernelAdamUpIdeal.Value.run (F := Ideal) m ρ, ?_⟩
  refine (θ_run Cert.ReferenceAdamUpIdeal.defs _ _).mono (fun r h c => ?_) (Cert.ReferenceAdamUpIdeal.Value.run (F := Ideal) m' ρ')
  obtain ⟨r0, r1, r2, kept⟩ := h c
  obtain ⟨a0, a1, a2, a3⟩ := hagree c
  refine ⟨r0.trans ?_, r1.trans ?_, r2.trans ?_, kept⟩
  · refine (Cert.ReferenceAdamUpIdeal.Read.val_main_v23_eq _ _ _ _).trans ?_
    rw [a0, a1, a2, a3]
    exact (ref_delta _ _ _ _).trans (kernel_delta _ _ _ _).symm
  · refine (Cert.ReferenceAdamUpIdeal.Read.val_main_v4_eq _ _).trans ?_
    rw [a1, a2]
    exact (ref_mom1 _ _).trans (kernel_mom1 _ _).symm
  · refine (Cert.ReferenceAdamUpIdeal.Read.val_main_v10_eq _ _).trans ?_
    rw [a1, a3]
    exact (ref_mom2 _ _).trans (kernel_mom2 _ _).symm

end Cert.AdamUp

end
-- ==== Proof.AdamDown.lean ====
/-
  The optimiser's step on one device's rows of the down projection's weight.
-/
module

public import proofs.«01_k».proof.Defs
public import proofs.«01_k».proof.Proof.Lits
public import proofs.«01_k».proof.Proof.Gen.KernelAdamDownIdeal.Value
public import proofs.«01_k».proof.Proof.Gen.ReferenceAdamDownIdeal.Run
public import proofs.«01_k».proof.Proof.Gen.ReferenceAdamDownIdeal.Read
public import proofs.«01_k».proof.Proof.Adam
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.AdamDown

open Cert.KernelAdamDownIdeal Cert.KernelAdamDownIdeal.Gen Idealize.ShloMosaic Idealize.ShloMosaic.TcCoe Cert.Adam
open Idealize.SL.Sem

/-- The corrections' reciprocals, as they are named. -/
theorem named_c1 : Named.named (F := Ideal) κ "c1" (φ := .f32) 0x3FC48605#32 = (((5463681 / 8388608)⁻¹ : ℝ) : EReal) :=
  IdealRules.named_const.ideal_named_scalar _ _ _ _ rfl
theorem named_c2 : Named.named (F := Ideal) κ "c2" (φ := .f32) 0x42C8E6D3#32 = (((2672307 / 268435456)⁻¹ : ℝ) : EReal) :=
  IdealRules.named_const.ideal_named_scalar _ _ _ _ rfl

theorem preserves : Cert.preserves_KernelAdamDown_KernelAdamDownIdeal :=
  ⟨IdealRules.named_const.statement κ "c1" .f32 0x3FC48605#32 (((5463681 / 8388608)⁻¹ : ℝ) : EReal) rfl,
    IdealRules.named_const.statement κ "c2" .f32 0x42C8E6D3#32 (((2672307 / 268435456)⁻¹ : ℝ) : EReal) rfl⟩

variable (w g m v : S1x704x1024.Idx → EReal)

/-- What the call leaves: the change of the weight, and the two moments. -/
theorem kernel_delta : Cert.KernelAdamDownIdeal.Value.G4 (F := Ideal) g m v w = fun i => delta (w i) (g i) (m i) (v i) := by
  funext i
  dsimp only [Cert.KernelAdamDownIdeal.Value.G4]
  rw [named_c1, named_c2]
  exact congrArg₂ (fun a b => Ideal.ofBits .f32 0xBA83126F#32 * (Ideal.div a (Ideal.sqrt b + Ideal.ofBits .f32 0x322BCC77#32) + Ideal.ofBits .f32 0x3C23D70A#32 * w i))
    (corrected1 (mom1 (g i) (m i))) (corrected2 (mom2 (g i) (v i)))

theorem kernel_mom1 : Cert.KernelAdamDownIdeal.Value.G5 (F := Ideal) g m = fun i => mom1 (g i) (m i) := rfl
theorem kernel_mom2 : Cert.KernelAdamDownIdeal.Value.G6 (F := Ideal) g v = fun i => mom2 (g i) (v i) := rfl

/-! ## The reference's results -/

theorem ref_delta : Cert.ReferenceAdamDownIdeal.Read.val_main_v23 (F := Ideal) w g m v = fun i => delta (w i) (g i) (m i) (v i) := by
  funext i
  simp only [Cert.ReferenceAdamDownIdeal.Read.val_main_v0_apply, Cert.ReferenceAdamDownIdeal.Read.val_main_v1_apply, Cert.ReferenceAdamDownIdeal.Read.val_main_v2_apply, Cert.ReferenceAdamDownIdeal.Read.val_main_v3_apply, Cert.ReferenceAdamDownIdeal.Read.val_main_v4_apply, Cert.ReferenceAdamDownIdeal.Read.val_main_v5_apply, Cert.ReferenceAdamDownIdeal.Read.val_main_v6_apply, Cert.ReferenceAdamDownIdeal.Read.val_main_v7_apply, Cert.ReferenceAdamDownIdeal.Read.val_main_v8_apply, Cert.ReferenceAdamDownIdeal.Read.val_main_v9_apply, Cert.ReferenceAdamDownIdeal.Read.val_main_v10_apply, Cert.ReferenceAdamDownIdeal.Read.val_main_v11_apply, Cert.ReferenceAdamDownIdeal.Read.val_main_v12_apply, Cert.ReferenceAdamDownIdeal.Read.val_main_v13_apply, Cert.ReferenceAdamDownIdeal.Read.val_main_v14_apply, Cert.ReferenceAdamDownIdeal.Read.val_main_v15_apply, Cert.ReferenceAdamDownIdeal.Read.val_main_v16_apply, Cert.ReferenceAdamDownIdeal.Read.val_main_v17_apply, Cert.ReferenceAdamDownIdeal.Read.val_main_v18_apply, Cert.ReferenceAdamDownIdeal.Read.val_main_v19_apply, Cert.ReferenceAdamDownIdeal.Read.val_main_v20_apply, Cert.ReferenceAdamDownIdeal.Read.val_main_v21_apply, Cert.ReferenceAdamDownIdeal.Read.val_main_v22_apply, Cert.ReferenceAdamDownIdeal.Read.val_main_v23_apply, Cert.ReferenceAdamDownIdeal.Read.val_main_cst_apply, Cert.ReferenceAdamDownIdeal.Read.val_main_cst_0_apply, Cert.ReferenceAdamDownIdeal.Read.val_main_cst_1_apply, Cert.ReferenceAdamDownIdeal.Read.val_main_cst_2_apply, Cert.ReferenceAdamDownIdeal.Read.val_main_cst_3_apply, Cert.ReferenceAdamDownIdeal.Read.val_main_cst_4_apply, Cert.ReferenceAdamDownIdeal.Read.val_main_cst_5_apply, Cert.ReferenceAdamDownIdeal.Read.val_main_cst_6_apply, Cert.ReferenceAdamDownIdeal.Read.val_main_cst_7_apply]
  rfl

theorem ref_mom1 : Cert.ReferenceAdamDownIdeal.Read.val_main_v4 (F := Ideal) g m = fun i => mom1 (g i) (m i) := by
  funext i
  simp only [Cert.ReferenceAdamDownIdeal.Read.val_main_v0_apply, Cert.ReferenceAdamDownIdeal.Read.val_main_v1_apply, Cert.ReferenceAdamDownIdeal.Read.val_main_v2_apply, Cert.ReferenceAdamDownIdeal.Read.val_main_v3_apply, Cert.ReferenceAdamDownIdeal.Read.val_main_v4_apply, Cert.ReferenceAdamDownIdeal.Read.val_main_cst_apply, Cert.ReferenceAdamDownIdeal.Read.val_main_cst_0_apply]
  rfl

theorem ref_mom2 : Cert.ReferenceAdamDownIdeal.Read.val_main_v10 (F := Ideal) g v = fun i => mom2 (g i) (v i) := by
  funext i
  simp only [Cert.ReferenceAdamDownIdeal.Read.val_main_v5_apply, Cert.ReferenceAdamDownIdeal.Read.val_main_v6_apply, Cert.ReferenceAdamDownIdeal.Read.val_main_v7_apply, Cert.ReferenceAdamDownIdeal.Read.val_main_v8_apply, Cert.ReferenceAdamDownIdeal.Read.val_main_v9_apply, Cert.ReferenceAdamDownIdeal.Read.val_main_v10_apply, Cert.ReferenceAdamDownIdeal.Read.val_main_cst_1_apply, Cert.ReferenceAdamDownIdeal.Read.val_main_cst_2_apply]
  rfl

/-! ## The claims -/

theorem frameR : Cert.quiescent_ReferenceAdamDownIdeal := fun m ρ _ =>
  (θ_run Cert.ReferenceAdamDownIdeal.defs _ _).mono (fun r h => ⟨fun c => (h c).2.2.2,
      Idealize.ShloMosaic.sem_eq_zero_of_no_sems (by decide) r.2⟩)
    (Cert.ReferenceAdamDownIdeal.Value.run (F := Ideal) m ρ)

theorem algebraic : Cert.algebraic_KernelAdamDownIdeal_ReferenceAdamDownIdeal := by
  intro m ρ m' ρ' hpre hagree
  refine ⟨_, _, _, Cert.KernelAdamDownIdeal.Value.run (F := Ideal) m ρ, ?_⟩
  refine (θ_run Cert.ReferenceAdamDownIdeal.defs _ _).mono (fun r h c => ?_) (Cert.ReferenceAdamDownIdeal.Value.run (F := Ideal) m' ρ')
  obtain ⟨r0, r1, r2, kept⟩ := h c
  obtain ⟨a0, a1, a2, a3⟩ := hagree c
  refine ⟨r0.trans ?_, r1.trans ?_, r2.trans ?_, kept⟩
  · refine (Cert.ReferenceAdamDownIdeal.Read.val_main_v23_eq _ _ _ _).trans ?_
    rw [a0, a1, a2, a3]
    exact (ref_delta _ _ _ _).trans (kernel_delta _ _ _ _).symm
  · refine (Cert.ReferenceAdamDownIdeal.Read.val_main_v4_eq _ _).trans ?_
    rw [a1, a2]
    exact (ref_mom1 _ _).trans (kernel_mom1 _ _).symm
  · refine (Cert.ReferenceAdamDownIdeal.Read.val_main_v10_eq _ _).trans ?_
    rw [a1, a3]
    exact (ref_mom2 _ _).trans (kernel_mom2 _ _).symm

end Cert.AdamDown

end
-- ==== Proof.AdamConv.lean ====
/-
  The optimiser's step on one device's columns of the convolution's weight.
-/
module

public import proofs.«01_k».proof.Defs
public import proofs.«01_k».proof.Proof.Lits
public import proofs.«01_k».proof.Proof.Gen.KernelAdamConvIdeal.Value
public import proofs.«01_k».proof.Proof.Gen.ReferenceAdamConvIdeal.Run
public import proofs.«01_k».proof.Proof.Gen.ReferenceAdamConvIdeal.Read
public import proofs.«01_k».proof.Proof.Adam
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.AdamConv

open Cert.KernelAdamConvIdeal Cert.KernelAdamConvIdeal.Gen Idealize.ShloMosaic Idealize.ShloMosaic.TcCoe Cert.Adam
open Idealize.SL.Sem

/-- The corrections' reciprocals, as they are named. -/
theorem named_c1 : Named.named (F := Ideal) κ "c1" (φ := .f32) 0x3FC48605#32 = (((5463681 / 8388608)⁻¹ : ℝ) : EReal) :=
  IdealRules.named_const.ideal_named_scalar _ _ _ _ rfl
theorem named_c2 : Named.named (F := Ideal) κ "c2" (φ := .f32) 0x42C8E6D3#32 = (((2672307 / 268435456)⁻¹ : ℝ) : EReal) :=
  IdealRules.named_const.ideal_named_scalar _ _ _ _ rfl

theorem preserves : Cert.preserves_KernelAdamConv_KernelAdamConvIdeal :=
  ⟨IdealRules.named_const.statement κ "c1" .f32 0x3FC48605#32 (((5463681 / 8388608)⁻¹ : ℝ) : EReal) rfl,
    IdealRules.named_const.statement κ "c2" .f32 0x42C8E6D3#32 (((2672307 / 268435456)⁻¹ : ℝ) : EReal) rfl⟩

variable (w g m v : S1x3x704.Idx → EReal)

/-- What the call leaves: the change of the weight, and the two moments. -/
theorem kernel_delta : Cert.KernelAdamConvIdeal.Value.G4 (F := Ideal) g m v w = fun i => delta (w i) (g i) (m i) (v i) := by
  funext i
  dsimp only [Cert.KernelAdamConvIdeal.Value.G4]
  rw [named_c1, named_c2]
  exact congrArg₂ (fun a b => Ideal.ofBits .f32 0xBA83126F#32 * (Ideal.div a (Ideal.sqrt b + Ideal.ofBits .f32 0x322BCC77#32) + Ideal.ofBits .f32 0x3C23D70A#32 * w i))
    (corrected1 (mom1 (g i) (m i))) (corrected2 (mom2 (g i) (v i)))

theorem kernel_mom1 : Cert.KernelAdamConvIdeal.Value.G5 (F := Ideal) g m = fun i => mom1 (g i) (m i) := rfl
theorem kernel_mom2 : Cert.KernelAdamConvIdeal.Value.G6 (F := Ideal) g v = fun i => mom2 (g i) (v i) := rfl

/-! ## The reference's results -/

theorem ref_delta : Cert.ReferenceAdamConvIdeal.Read.val_main_v23 (F := Ideal) w g m v = fun i => delta (w i) (g i) (m i) (v i) := by
  funext i
  simp only [Cert.ReferenceAdamConvIdeal.Read.val_main_v0_apply, Cert.ReferenceAdamConvIdeal.Read.val_main_v1_apply, Cert.ReferenceAdamConvIdeal.Read.val_main_v2_apply, Cert.ReferenceAdamConvIdeal.Read.val_main_v3_apply, Cert.ReferenceAdamConvIdeal.Read.val_main_v4_apply, Cert.ReferenceAdamConvIdeal.Read.val_main_v5_apply, Cert.ReferenceAdamConvIdeal.Read.val_main_v6_apply, Cert.ReferenceAdamConvIdeal.Read.val_main_v7_apply, Cert.ReferenceAdamConvIdeal.Read.val_main_v8_apply, Cert.ReferenceAdamConvIdeal.Read.val_main_v9_apply, Cert.ReferenceAdamConvIdeal.Read.val_main_v10_apply, Cert.ReferenceAdamConvIdeal.Read.val_main_v11_apply, Cert.ReferenceAdamConvIdeal.Read.val_main_v12_apply, Cert.ReferenceAdamConvIdeal.Read.val_main_v13_apply, Cert.ReferenceAdamConvIdeal.Read.val_main_v14_apply, Cert.ReferenceAdamConvIdeal.Read.val_main_v15_apply, Cert.ReferenceAdamConvIdeal.Read.val_main_v16_apply, Cert.ReferenceAdamConvIdeal.Read.val_main_v17_apply, Cert.ReferenceAdamConvIdeal.Read.val_main_v18_apply, Cert.ReferenceAdamConvIdeal.Read.val_main_v19_apply, Cert.ReferenceAdamConvIdeal.Read.val_main_v20_apply, Cert.ReferenceAdamConvIdeal.Read.val_main_v21_apply, Cert.ReferenceAdamConvIdeal.Read.val_main_v22_apply, Cert.ReferenceAdamConvIdeal.Read.val_main_v23_apply, Cert.ReferenceAdamConvIdeal.Read.val_main_cst_apply, Cert.ReferenceAdamConvIdeal.Read.val_main_cst_0_apply, Cert.ReferenceAdamConvIdeal.Read.val_main_cst_1_apply, Cert.ReferenceAdamConvIdeal.Read.val_main_cst_2_apply, Cert.ReferenceAdamConvIdeal.Read.val_main_cst_3_apply, Cert.ReferenceAdamConvIdeal.Read.val_main_cst_4_apply, Cert.ReferenceAdamConvIdeal.Read.val_main_cst_5_apply, Cert.ReferenceAdamConvIdeal.Read.val_main_cst_6_apply, Cert.ReferenceAdamConvIdeal.Read.val_main_cst_7_apply]
  rfl

theorem ref_mom1 : Cert.ReferenceAdamConvIdeal.Read.val_main_v4 (F := Ideal) g m = fun i => mom1 (g i) (m i) := by
  funext i
  simp only [Cert.ReferenceAdamConvIdeal.Read.val_main_v0_apply, Cert.ReferenceAdamConvIdeal.Read.val_main_v1_apply, Cert.ReferenceAdamConvIdeal.Read.val_main_v2_apply, Cert.ReferenceAdamConvIdeal.Read.val_main_v3_apply, Cert.ReferenceAdamConvIdeal.Read.val_main_v4_apply, Cert.ReferenceAdamConvIdeal.Read.val_main_cst_apply, Cert.ReferenceAdamConvIdeal.Read.val_main_cst_0_apply]
  rfl

theorem ref_mom2 : Cert.ReferenceAdamConvIdeal.Read.val_main_v10 (F := Ideal) g v = fun i => mom2 (g i) (v i) := by
  funext i
  simp only [Cert.ReferenceAdamConvIdeal.Read.val_main_v5_apply, Cert.ReferenceAdamConvIdeal.Read.val_main_v6_apply, Cert.ReferenceAdamConvIdeal.Read.val_main_v7_apply, Cert.ReferenceAdamConvIdeal.Read.val_main_v8_apply, Cert.ReferenceAdamConvIdeal.Read.val_main_v9_apply, Cert.ReferenceAdamConvIdeal.Read.val_main_v10_apply, Cert.ReferenceAdamConvIdeal.Read.val_main_cst_1_apply, Cert.ReferenceAdamConvIdeal.Read.val_main_cst_2_apply]
  rfl

/-! ## The claims -/

theorem frameR : Cert.quiescent_ReferenceAdamConvIdeal := fun m ρ _ =>
  (θ_run Cert.ReferenceAdamConvIdeal.defs _ _).mono (fun r h => ⟨fun c => (h c).2.2.2,
      Idealize.ShloMosaic.sem_eq_zero_of_no_sems (by decide) r.2⟩)
    (Cert.ReferenceAdamConvIdeal.Value.run (F := Ideal) m ρ)

theorem algebraic : Cert.algebraic_KernelAdamConvIdeal_ReferenceAdamConvIdeal := by
  intro m ρ m' ρ' hpre hagree
  refine ⟨_, _, _, Cert.KernelAdamConvIdeal.Value.run (F := Ideal) m ρ, ?_⟩
  refine (θ_run Cert.ReferenceAdamConvIdeal.defs _ _).mono (fun r h c => ?_) (Cert.ReferenceAdamConvIdeal.Value.run (F := Ideal) m' ρ')
  obtain ⟨r0, r1, r2, kept⟩ := h c
  obtain ⟨a0, a1, a2, a3⟩ := hagree c
  refine ⟨r0.trans ?_, r1.trans ?_, r2.trans ?_, kept⟩
  · refine (Cert.ReferenceAdamConvIdeal.Read.val_main_v23_eq _ _ _ _).trans ?_
    rw [a0, a1, a2, a3]
    exact (ref_delta _ _ _ _).trans (kernel_delta _ _ _ _).symm
  · refine (Cert.ReferenceAdamConvIdeal.Read.val_main_v4_eq _ _).trans ?_
    rw [a1, a2]
    exact (ref_mom1 _ _).trans (kernel_mom1 _ _).symm
  · refine (Cert.ReferenceAdamConvIdeal.Read.val_main_v10_eq _ _).trans ?_
    rw [a1, a3]
    exact (ref_mom2 _ _).trans (kernel_mom2 _ _).symm

end Cert.AdamConv

end
-- ==== Proof.KvProj.lean ====
/-
  The memory's keys and values: one product, at one grid point.
-/
module

public import proofs.«01_k».proof.Defs
public import proofs.«01_k».proof.Proof.Lits
public import proofs.«01_k».proof.Proof.Products
public import proofs.«01_k».proof.Proof.Gen.KernelKvProjIdeal.Value
public import proofs.«01_k».proof.Proof.Gen.ReferenceKvProjIdeal.Run
public import proofs.«01_k».proof.Proof.Gen.ReferenceKvProjIdeal.Read
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.KvProj

open Cert.KernelKvProjIdeal Cert.KernelKvProjIdeal.Gen Idealize.ShloMosaic Idealize.ShloMosaic.TcCoe Cert.Lits Cert.Products
open Idealize.SL.Sem
open Idealize.ShloMosaic.Pipeline (Dat)
open scoped BigOperators

theorem pay_at (v0 : Vec Ideal S1024x1024 .bf16) (v1 : Vec Ideal S1024x1024 .bf16) (r : Fin 1024) (s : Fin 1024) :
    k0_pay1 v0 v1 (ix2 r s) = nn v1 v0 r s := by
  unfold k0_pay1
  pointwise
  rfl

/-- A grid point's block of the product. -/
theorem out_at (x0 : Vec Ideal S1024x1024 .bf16) (x1 : Vec Ideal S1024x1024 .bf16) (y : S1024x1024.Idx) :
    out0_2 x0 x1 y = nn x0 x1 (y 0) (y 1) := by
  unfold out0_2
  rw [View.canon_unit_zero (S := S1024x1024) off2]
  rw [View.ld_unit_zero (S := S1024x1024) off2, View.ld_unit_zero (S := S1024x1024) off2]
  rw [eq_ix2 y]
  exact pay_at x1 x0 (y 0) (y 1)

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0])

theorem blk0 (c : Dev nD) (t : Fin cfg0.N) (r : Fin 1024) (s : Fin 1024) :
    iblk m c 0 t (ix2 r s) = m ((c : Thread nD τ).loc main_arg0) (ix2 r s) := by
  blk_ext [iblk, V, (idx t).1]

theorem blk1 (c : Dev nD) (t : Fin cfg0.N) (r : Fin 1024) (s : Fin 1024) :
    iblk m c 1 t (ix2 r s) = m ((c : Thread nD τ).loc main_arg1) (ix2 r s) := by
  blk_ext [iblk, V, (idx t).2.1]

theorem arr2 (c : Dev nD) : (dats m 0 c).arrAt 2 cfg0.N
    = fun j : S1024x1024.Idx => nn (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  refine (out_at ..).trans (nn_of (blk0 m c t (y 0)) (fun k => blk1 m c t k (y 1)) (Fin.ext ?_) (Fin.ext ?_))
  · have h : (y 0 : ℕ) < 1024 := (y 0).isLt
    blk_simp [(idx t).2.2]
  · have h : (y 1 : ℕ) < 1024 := (y 1).isLt
    blk_simp [(idx t).2.2]

theorem ref_at (x0 : S1024x1024.Idx → EReal) (x1 : S1024x1024.Idx → EReal) :
    Cert.ReferenceKvProjIdeal.Read.val_main_v2 (F := Ideal) x0 x1 = fun j => nn x0 x1 (j 0) (j 1) := by
  funext j
  refine (Cert.ReferenceKvProjIdeal.Read.val_main_v2_apply x0 x1 j).trans (Finset.sum_congr rfl fun k _ => ?_)
  refine congrArg₂ (· * ·) ((Cert.ReferenceKvProjIdeal.Read.val_main_v0_apply (F := Ideal) x0 _).trans (congrArg x0 ?_)) ((Cert.ReferenceKvProjIdeal.Read.val_main_v1_apply (F := Ideal) x1 _).trans (congrArg x1 ?_))
  · funext a; match a with
    | ⟨0, _⟩ => rfl
    | ⟨1, _⟩ => rfl
  · funext a; match a with
    | ⟨0, _⟩ => rfl
    | ⟨1, _⟩ => rfl

theorem frameR : Cert.quiescent_ReferenceKvProjIdeal := fun m ρ _ =>
  (θ_run Cert.ReferenceKvProjIdeal.defs _ _).mono (fun r h => ⟨fun c => (h c).2,
      Idealize.ShloMosaic.sem_eq_zero_of_no_sems (by decide) r.2⟩)
    (Cert.ReferenceKvProjIdeal.Value.run (F := Ideal) m ρ)

theorem algebraic : Cert.algebraic_KernelKvProjIdeal_ReferenceKvProjIdeal := by
  intro m ρ m' ρ' hpre hagree
  refine ⟨fun c => (dats m 0 c).arrAt 2 cfg0.N, Cert.KernelKvProjIdeal.Value.run_blocks (F := Ideal) m ρ, ?_⟩
  refine (θ_run Cert.ReferenceKvProjIdeal.defs _ _).mono (fun r h c => ?_) (Cert.ReferenceKvProjIdeal.Value.run (F := Ideal) m' ρ')
  obtain ⟨r0, kept⟩ := h c
  obtain ⟨a0, a1⟩ := hagree c
  refine ⟨r0.trans ?_, kept⟩
  refine (Cert.ReferenceKvProjIdeal.Read.val_main_v2_eq _ _).trans ?_
  rw [a0, a1]
  exact (ref_at _ _).trans (arr2 m c).symm

end Cert.KvProj

end
-- ==== Proof.KvDw.lean ====
/-
  The gradient of the memory projection's weight: one product, at one grid point.
-/
module

public import proofs.«01_k».proof.Defs
public import proofs.«01_k».proof.Proof.Lits
public import proofs.«01_k».proof.Proof.Products
public import proofs.«01_k».proof.Proof.Gen.KernelKvDwIdeal.Value
public import proofs.«01_k».proof.Proof.Gen.ReferenceKvDwIdeal.Run
public import proofs.«01_k».proof.Proof.Gen.ReferenceKvDwIdeal.Read
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.KvDw

open Cert.KernelKvDwIdeal Cert.KernelKvDwIdeal.Gen Idealize.ShloMosaic Idealize.ShloMosaic.TcCoe Cert.Lits Cert.Products
open Idealize.SL.Sem
open Idealize.ShloMosaic.Pipeline (Dat)
open scoped BigOperators

theorem pay_at (v0 : Vec Ideal S1024x1024 .f32) (v1 : Vec Ideal S1024x1024 .bf16) (r : Fin 1024) (s : Fin 1024) :
    k0_pay1 v0 v1 (ix2 r s) = tn v1 v0 r s := by
  unfold k0_pay1
  pointwise
  rfl

/-- A grid point's block of the product. -/
theorem out_at (x0 : Vec Ideal S1024x1024 .bf16) (x1 : Vec Ideal S1024x1024 .f32) (y : S1024x1024.Idx) :
    out0_2 x0 x1 y = tn x0 x1 (y 0) (y 1) := by
  unfold out0_2
  rw [View.canon_unit_zero (S := S1024x1024) off2]
  rw [View.ld_unit_zero (S := S1024x1024) off2, View.ld_unit_zero (S := S1024x1024) off2]
  rw [eq_ix2 y]
  exact pay_at x1 x0 (y 0) (y 1)

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0])

theorem blk0 (c : Dev nD) (t : Fin cfg0.N) (r : Fin 1024) (s : Fin 1024) :
    iblk m c 0 t (ix2 r s) = m ((c : Thread nD τ).loc main_arg0) (ix2 r s) := by
  blk_ext [iblk, V, (idx t).1]

theorem blk1 (c : Dev nD) (t : Fin cfg0.N) (r : Fin 1024) (s : Fin 1024) :
    iblk m c 1 t (ix2 r s) = m ((c : Thread nD τ).loc main_arg1) (ix2 r s) := by
  blk_ext [iblk, V, (idx t).2.1]

theorem arr2 (c : Dev nD) : (dats m 0 c).arrAt 2 cfg0.N
    = fun j : S1024x1024.Idx => tn (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  refine (out_at ..).trans (tn_of (fun k => blk0 m c t k (y 0)) (fun k => blk1 m c t k (y 1)) (Fin.ext ?_) (Fin.ext ?_))
  · have h : (y 0 : ℕ) < 1024 := (y 0).isLt
    blk_simp [(idx t).2.2]
  · have h : (y 1 : ℕ) < 1024 := (y 1).isLt
    blk_simp [(idx t).2.2]

theorem ref_at (x0 : S1024x1024.Idx → EReal) (x1 : S1024x1024.Idx → EReal) :
    Cert.ReferenceKvDwIdeal.Read.val_main_v4 (F := Ideal) x0 x1 = fun j => tn x0 x1 (j 0) (j 1) := by
  funext j
  refine (Cert.ReferenceKvDwIdeal.Read.val_main_v4_apply (F := Ideal) x0 x1 j).trans ?_
  refine (Cert.ReferenceKvDwIdeal.Read.val_main_v3_apply x0 x1 _).trans (Finset.sum_congr rfl fun k _ => ?_)
  refine (mul_comm _ _).trans (congrArg₂ (· * ·) ((Cert.ReferenceKvDwIdeal.Read.val_main_v1_apply (F := Ideal) x0 _).trans (congrArg x0 ?_)) (congrArg x1 ?_))
  · funext a; match a with
    | ⟨0, _⟩ => rfl
    | ⟨1, _⟩ => rfl
  · funext a; match a with
    | ⟨0, _⟩ => rfl
    | ⟨1, _⟩ => rfl

theorem frameR : Cert.quiescent_ReferenceKvDwIdeal := fun m ρ _ =>
  (θ_run Cert.ReferenceKvDwIdeal.defs _ _).mono (fun r h => ⟨fun c => (h c).2,
      Idealize.ShloMosaic.sem_eq_zero_of_no_sems (by decide) r.2⟩)
    (Cert.ReferenceKvDwIdeal.Value.run (F := Ideal) m ρ)

theorem algebraic : Cert.algebraic_KernelKvDwIdeal_ReferenceKvDwIdeal := by
  intro m ρ m' ρ' hpre hagree
  refine ⟨fun c => (dats m 0 c).arrAt 2 cfg0.N, Cert.KernelKvDwIdeal.Value.run_blocks (F := Ideal) m ρ, ?_⟩
  refine (θ_run Cert.ReferenceKvDwIdeal.defs _ _).mono (fun r h c => ?_) (Cert.ReferenceKvDwIdeal.Value.run (F := Ideal) m' ρ')
  obtain ⟨r0, kept⟩ := h c
  obtain ⟨a0, a1⟩ := hagree c
  refine ⟨r0.trans ?_, kept⟩
  refine (Cert.ReferenceKvDwIdeal.Read.val_main_v4_eq _ _).trans ?_
  rw [a0, a1]
  exact (ref_at _ _).trans (arr2 m c).symm

end Cert.KvDw

end
-- ==== Proof.KvDx.lean ====
/-
  The gradient of the memory projection's input: one product, at one grid point.
-/
module

public import proofs.«01_k».proof.Defs
public import proofs.«01_k».proof.Proof.Lits
public import proofs.«01_k».proof.Proof.Products
public import proofs.«01_k».proof.Proof.Gen.KernelKvDxIdeal.Value
public import proofs.«01_k».proof.Proof.Gen.ReferenceKvDxIdeal.Run
public import proofs.«01_k».proof.Proof.Gen.ReferenceKvDxIdeal.Read
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.KvDx

open Cert.KernelKvDxIdeal Cert.KernelKvDxIdeal.Gen Idealize.ShloMosaic Idealize.ShloMosaic.TcCoe Cert.Lits Cert.Products
open Idealize.SL.Sem
open Idealize.ShloMosaic.Pipeline (Dat)
open scoped BigOperators

theorem pay_at (v0 : Vec Ideal S1024x1024 .bf16) (v1 : Vec Ideal S1024x1024 .f32) (r : Fin 1024) (s : Fin 1024) :
    k0_pay1 v0 v1 (ix2 r s) = nt v1 v0 r s := by
  unfold k0_pay1
  pointwise
  rfl

/-- A grid point's block of the product. -/
theorem out_at (x0 : Vec Ideal S1024x1024 .f32) (x1 : Vec Ideal S1024x1024 .bf16) (y : S1024x1024.Idx) :
    out0_2 x0 x1 y = nt x0 x1 (y 0) (y 1) := by
  unfold out0_2
  rw [View.canon_unit_zero (S := S1024x1024) off2]
  rw [View.ld_unit_zero (S := S1024x1024) off2, View.ld_unit_zero (S := S1024x1024) off2]
  rw [eq_ix2 y]
  exact pay_at x1 x0 (y 0) (y 1)

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0])

theorem blk0 (c : Dev nD) (t : Fin cfg0.N) (r : Fin 1024) (s : Fin 1024) :
    iblk m c 0 t (ix2 r s) = m ((c : Thread nD τ).loc main_arg0) (ix2 r s) := by
  blk_ext [iblk, V, (idx t).1]

theorem blk1 (c : Dev nD) (t : Fin cfg0.N) (r : Fin 1024) (s : Fin 1024) :
    iblk m c 1 t (ix2 r s) = m ((c : Thread nD τ).loc main_arg1) (ix2 r s) := by
  blk_ext [iblk, V, (idx t).2.1]

theorem arr2 (c : Dev nD) : (dats m 0 c).arrAt 2 cfg0.N
    = fun j : S1024x1024.Idx => nt (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  refine (out_at ..).trans (nt_of (blk0 m c t (y 0)) (blk1 m c t (y 1)) (Fin.ext ?_) (Fin.ext ?_))
  · have h : (y 0 : ℕ) < 1024 := (y 0).isLt
    blk_simp [(idx t).2.2]
  · have h : (y 1 : ℕ) < 1024 := (y 1).isLt
    blk_simp [(idx t).2.2]

theorem ref_at (x0 : S1024x1024.Idx → EReal) (x1 : S1024x1024.Idx → EReal) :
    Cert.ReferenceKvDxIdeal.Read.val_main_v3 (F := Ideal) x0 x1 = fun j => nt x0 x1 (j 0) (j 1) := by
  funext j
  refine (Cert.ReferenceKvDxIdeal.Read.val_main_v3_apply x0 x1 j).trans (Finset.sum_congr rfl fun k _ => ?_)
  refine congrArg₂ (· * ·) (congrArg x0 ?_) ((Cert.ReferenceKvDxIdeal.Read.val_main_v1_apply (F := Ideal) x1 _).trans (congrArg x1 ?_))
  · funext a; match a with
    | ⟨0, _⟩ => rfl
    | ⟨1, _⟩ => rfl
  · funext a; match a with
    | ⟨0, _⟩ => rfl
    | ⟨1, _⟩ => rfl

theorem frameR : Cert.quiescent_ReferenceKvDxIdeal := fun m ρ _ =>
  (θ_run Cert.ReferenceKvDxIdeal.defs _ _).mono (fun r h => ⟨fun c => (h c).2,
      Idealize.ShloMosaic.sem_eq_zero_of_no_sems (by decide) r.2⟩)
    (Cert.ReferenceKvDxIdeal.Value.run (F := Ideal) m ρ)

theorem algebraic : Cert.algebraic_KernelKvDxIdeal_ReferenceKvDxIdeal := by
  intro m ρ m' ρ' hpre hagree
  refine ⟨fun c => (dats m 0 c).arrAt 2 cfg0.N, Cert.KernelKvDxIdeal.Value.run_blocks (F := Ideal) m ρ, ?_⟩
  refine (θ_run Cert.ReferenceKvDxIdeal.defs _ _).mono (fun r h c => ?_) (Cert.ReferenceKvDxIdeal.Value.run (F := Ideal) m' ρ')
  obtain ⟨r0, kept⟩ := h c
  obtain ⟨a0, a1⟩ := hagree c
  refine ⟨r0.trans ?_, kept⟩
  refine (Cert.ReferenceKvDxIdeal.Read.val_main_v3_eq _ _).trans ?_
  rw [a0, a1]
  exact (ref_at _ _).trans (arr2 m c).symm

end Cert.KvDx

end
-- ==== Proof.MemFwd.lean ====
/-
  The memory attention's forward pass: at each grid point one head of one batch row, its normalised queries and keys, its
  weights and their product with the values.
-/
module

public import proofs.«01_k».proof.Defs
public import proofs.«01_k».proof.Proof.Lits
public import proofs.«01_k».proof.Proof.Products
public import proofs.«01_k».proof.Proof.Gen.KernelMemFwdIdeal.Value
public import proofs.«01_k».proof.Proof.Gen.ReferenceMemFwdIdeal.Run
public import proofs.«01_k».proof.Proof.Gen.ReferenceMemFwdIdeal.Read
public import proofs.«01_k».proof.Proof.MemEq
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.MemFwd

open Cert.KernelMemFwdIdeal Cert.KernelMemFwdIdeal.Gen Idealize.ShloMosaic Idealize.ShloMosaic.TcCoe Cert.Lits
open Cert.MemMath Cert.Arith
open Cert.MemBlock (rows row)
open Cert.MemArrays (zq ck cv head Z C G at4 ix3_of inHead)
open Cert.MemRef (hd pl)
open Cert.MemEq (ext3)
open Idealize.SL.Sem
open Idealize.ShloMosaic.Pipeline (Dat)
open scoped BigOperators

/-! ## A grid point's block -/

/-- A head's result: each query's weights times the values. -/
def out (q : Fin 2048 → Fin 128 → EReal) (k v : Fin 256 → Fin 128 → EReal) (gq gk : Fin 128 → EReal) (t : Fin 2048) (i : Fin 128) : EReal :=
  ∑ m, Kp 128 eps scale q k gq gk t m * v m i

section Block

variable (q : Vec Ideal S1x2048x128 .f32) (k v : Vec Ideal S1x256x128 .f32) (gq gk : Vec Ideal S1x128 .f32)

theorem gain_at (i : Fin 128) : k0_pay2 gq (ix2 0 i) = row gq i * (scale : EReal) := by
  unfold k0_pay2
  pointwise
  rw [lit_scale]
  rfl

theorem keys_at (m : Fin 256) (i : Fin 128) : k0_pay3 gk k (ix2 m i) = Kk 128 eps (rows k) (row gk) m i := by
  unfold k0_pay3
  pointwise
  rw [lit_128, lit_eps]
  rfl

theorem vals_at (m : Fin 256) (i : Fin 128) : k0_pay4 v (ix2 m i) = rows v m i := by
  unfold k0_pay4
  pointwise
  rfl

theorem queries_at (t : Fin 2048) (i : Fin 128) : k0_pay5 q (ix2 t i) = rows q t i * rs 128 eps (rows q t) := by
  unfold k0_pay5
  pointwise
  rw [lit_128, lit_eps]
  rfl

theorem pay_at (t : Fin 2048) (i : Fin 128) :
    k0_pay1 (k0_pay2 gq) (k0_pay3 gk k) (k0_pay4 v) (k0_pay5 q) (ix3 0 t i) = out (rows q) (rows k) (rows v) (row gq) (row gk) t i := by
  have eg := gain_at gq
  have ek := keys_at k gk
  have ev := vals_at v
  have eq := queries_at q
  generalize k0_pay2 gq = a at eg ⊢
  generalize k0_pay3 gk k = b at ek ⊢
  generalize k0_pay4 v = d at ev ⊢
  generalize k0_pay5 q = e at eq ⊢
  unfold k0_pay1
  pointwise
  simp only [eg, ek, ev, eq, lit_bot]
  rfl

theorem offq : k0_off1 = fun _ => 0 := by decide

theorem out_eq : out0_5 q k v gq gk = k0_pay1 (k0_pay2 gq) (k0_pay3 gk k) (k0_pay4 v) (k0_pay5 q) := by
  unfold out0_5
  rw [View.canon_unit_zero (S := S1x2048x128) offq]
  rw [View.ld_unit_zero (S := S1x128) Cert.Products.off2, View.ld_unit_zero (S := S1x128) Cert.Products.off2,
    View.ld_unit_zero (S := S1x256x128) Cert.Products.off3, View.ld_unit_zero (S := S1x256x128) Cert.Products.off3,
    View.ld_unit_zero (S := S1x2048x128) offq]

end Block

/-! ## The blocks of the arrays -/

variable (m : (ℓ : Loc nD τ sig) → Buf (Elt Ideal) ℓ)

/-- The batch row of a grid point. -/
def pb (t : Fin cfg0.N) : Fin 4 := ⟨t.val / 4, by have h : t.val < 16 := t.isLt; omega⟩
/-- The head of a grid point. -/
def ph (t : Fin cfg0.N) : Fin 4 := ⟨t.val % 4, by omega⟩

theorem idx : ∀ t : Fin cfg0.N, win0_0.index t = ![t.val / 4, 0, 52 + t.val % 4] ∧ win0_1.index t = ![t.val / 4, 0, t.val % 4] ∧ win0_2.index t = ![t.val / 4, 0, 4 + t.val % 4] ∧ win0_3.index t = ![0, 0] ∧ win0_4.index t = ![0, 0] ∧ win0_5.index t = ![t.val / 4, 0, t.val % 4] :=
  (by decide +kernel : ∀ t : Fin grid0.N, win0_0.index t = ![t.val / 4, 0, 52 + t.val % 4] ∧ win0_1.index t = ![t.val / 4, 0, t.val % 4] ∧ win0_2.index t = ![t.val / 4, 0, 4 + t.val % 4] ∧ win0_3.index t = ![0, 0] ∧ win0_4.index t = ![0, 0] ∧ win0_5.index t = ![t.val / 4, 0, t.val % 4])

theorem blk0 (c : Dev nD) (t : Fin cfg0.N) : rows (iblk m c 0 t) = zq (m ((c : Thread nD τ).loc main_arg0)) (pb t) (ph t) := by
  funext r i
  unfold rows zq head
  blk_ext [iblk, V, (idx t).1, pb, ph]

theorem blk1 (c : Dev nD) (t : Fin cfg0.N) : rows (iblk m c 1 t) = ck (m ((c : Thread nD τ).loc main_arg1)) (pb t) (ph t) := by
  funext r i
  unfold rows ck head
  blk_ext [iblk, V, (idx t).2.1, pb, ph]

theorem blk2 (c : Dev nD) (t : Fin cfg0.N) : rows (iblk m c 2 t) = cv (m ((c : Thread nD τ).loc main_arg1)) (pb t) (ph t) := by
  funext r i
  unfold rows cv head
  blk_ext [iblk, V, (idx t).2.2.1, pb, ph]

theorem blk3 (c : Dev nD) (t : Fin cfg0.N) : row (iblk m c 3 t) = row (m ((c : Thread nD τ).loc main_arg2)) := by
  funext i
  unfold row
  blk_ext [iblk, V, (idx t).2.2.2.1]

theorem blk4 (c : Dev nD) (t : Fin cfg0.N) : row (iblk m c 4 t) = row (m ((c : Thread nD τ).loc main_arg3)) := by
  funext i
  unfold row
  blk_ext [iblk, V, (idx t).2.2.2.2.1]

/-- The result of one head of one batch row, of the whole arrays. -/
def outAt (x0 : Z) (x1 : C) (x2 x3 : G) (b h : Fin 4) : Fin 2048 → Fin 128 → EReal :=
  out (zq x0 b h) (ck x1 b h) (cv x1 b h) (row x2) (row x3)

theorem point (c : Dev nD) (t : Fin cfg0.N) (y : S1x2048x128.Idx) :
    out0_5 (iblk m c 0 t) (iblk m c 1 t) (iblk m c 2 t) (iblk m c 3 t) (iblk m c 4 t) y
      = outAt (m ((c : Thread nD τ).loc main_arg0)) (m ((c : Thread nD τ).loc main_arg1)) (m ((c : Thread nD τ).loc main_arg2))
          (m ((c : Thread nD τ).loc main_arg3)) (pb t) (ph t) (y 1) (y 2) := by
  rw [ix3_of y, out_eq]
  refine (pay_at ..).trans ?_
  simp only [blk0, blk1, blk2, blk3, blk4]
  rfl

theorem arr5 (c : Dev nD) : (dats m 0 c).arrAt 5 cfg0.N
    = fun j : S4x2048x512.Idx => outAt (m ((c : Thread nD τ).loc main_arg0)) (m ((c : Thread nD τ).loc main_arg1)) (m ((c : Thread nD τ).loc main_arg2))
        (m ((c : Thread nD τ).loc main_arg3)) (j 0) ⟨(j 2 : ℕ) / 128, by have : (j 2 : ℕ) < 512 := (j 2).isLt; omega⟩ (j 1) (inHead (j 2)) := by
  refine (dats m 0 c).arrAt_eq_of_covers 5 _ (by decide +kernel) fun t hf y => ?_
  blk_simp
  rw [after0_5]
  have h2 : (y 2 : ℕ) < 128 := (y 2).isLt
  have h0 : (y 0 : ℕ) < 1 := (y 0).isLt
  refine (point m c t y).trans (at4 (outAt (m ((c : Thread nD τ).loc main_arg0)) (m ((c : Thread nD τ).loc main_arg1)) (m ((c : Thread nD τ).loc main_arg2)) (m ((c : Thread nD τ).loc main_arg3))) (Fin.ext ?_) (Fin.ext ?_) (Fin.ext ?_) (Fin.ext ?_))
  · blk_simp [(idx t).2.2.2.2.2, pb]
  · blk_simp [(idx t).2.2.2.2.2, ph]; dsimp only; omega
  · blk_simp [(idx t).2.2.2.2.2]
  · blk_simp [(idx t).2.2.2.2.2, inHead]; dsimp only; omega

/-! ## The reference's result -/

section Reference

open Cert.ReferenceMemFwdIdeal.Read

variable (x0 : Z) (x1 : C) (x2 x3 : G)

theorem v5_at (b : Fin 4) (t : Fin 2048) (h : Fin 4) (i : Fin 128) : val_main_v5 (F := Ideal) x0 (ix4 b t h i) = zq x0 b h t i := by
  unfold val_main_v5 val_main_v2
  pointwise
  unfold zq head
  exact congrArg x0 (congrArg (ix3 b t) (Fin.ext (by dsimp only; omega)))

theorem v19_at (b : Fin 4) (m : Fin 256) (h : Fin 4) (i : Fin 128) : val_main_v19 (F := Ideal) x1 (ix4 b m h i) = ck x1 b h m i := by
  unfold val_main_v19 val_main_v0
  pointwise
  unfold ck head
  exact congrArg x1 (congrArg (ix3 b m) (Fin.ext (by dsimp only; omega)))

theorem v33_at (b : Fin 4) (m : Fin 256) (h : Fin 4) (i : Fin 128) : val_main_v33 (F := Ideal) x1 (ix4 b m h i) = cv x1 b h m i := by
  unfold val_main_v33 val_main_v1
  pointwise
  unfold cv head
  exact congrArg x1 (congrArg (ix3 b m) (Fin.ext (by dsimp only; omega)))

theorem v3_at (i : Fin 128) : val_main_v3 (F := Ideal) x2 (ix1 i) = row x2 i := by
  unfold val_main_v3
  pointwise
  rfl

theorem v4_at (i : Fin 128) : val_main_v4 (F := Ideal) x3 (ix1 i) = row x3 i := by
  unfold val_main_v4
  pointwise
  rfl

theorem v13_at (b : Fin 4) (t : Fin 2048) (h : Fin 4) (z : Fin 1) : val_main_v13 (F := Ideal) x0 (ix4 b t h z) = rs 128 eps (zq x0 b h t) := by
  have e5 := v5_at x0
  unfold val_main_v13 val_main_v12 val_main_v11 val_main_v10 val_main_v9 val_main_v8 val_main_v7 val_main_v6 val_main_cst val_main_cst_0 val_main_cst_1
  generalize val_main_v5 (F := Ideal) x0 = p5 at e5 ⊢
  pointwise
  simp only [e5, lit_128, lit_eps, lit_scale, lit_bot, lit_zero, zero_add]
  all_goals rfl

theorem v18_at (b : Fin 4) (t : Fin 2048) (h : Fin 4) (i : Fin 128) : val_main_v18 (F := Ideal) x0 x2 (ix4 b t h i) = Rq 128 eps (zq x0 b h) (row x2) t i := by
  have e5 := v5_at x0
  have e13 := v13_at x0
  have e3 := v3_at x2
  unfold val_main_v18 val_main_v17 val_main_v16 val_main_v15 val_main_v14
  generalize val_main_v5 (F := Ideal) x0 = p5 at e5 ⊢
  generalize val_main_v13 (F := Ideal) x0 = p13 at e13 ⊢
  generalize val_main_v3 (F := Ideal) x2 = p3 at e3 ⊢
  pointwise
  simp only [e5, e13, e3, lit_128, lit_eps, lit_scale, lit_bot, lit_zero, zero_add]
  all_goals rfl

theorem v27_at (b : Fin 4) (m : Fin 256) (h : Fin 4) (z : Fin 1) : val_main_v27 (F := Ideal) x1 (ix4 b m h z) = rs 128 eps (ck x1 b h m) := by
  have e19 := v19_at x1
  unfold val_main_v27 val_main_v26 val_main_v25 val_main_v24 val_main_v23 val_main_v22 val_main_v21 val_main_v20 val_main_cst_2 val_main_cst_3 val_main_cst_4
  generalize val_main_v19 (F := Ideal) x1 = p19 at e19 ⊢
  pointwise
  simp only [e19, lit_128, lit_eps, lit_scale, lit_bot, lit_zero, zero_add]
  all_goals rfl

theorem v32_at (b : Fin 4) (m : Fin 256) (h : Fin 4) (i : Fin 128) : val_main_v32 (F := Ideal) x1 x3 (ix4 b m h i) = Kk 128 eps (ck x1 b h) (row x3) m i := by
  have e19 := v19_at x1
  have e27 := v27_at x1
  have e4 := v4_at x3
  unfold val_main_v32 val_main_v31 val_main_v30 val_main_v29 val_main_v28
  generalize val_main_v19 (F := Ideal) x1 = p19 at e19 ⊢
  generalize val_main_v27 (F := Ideal) x1 = p27 at e27 ⊢
  generalize val_main_v4 (F := Ideal) x3 = p4 at e4 ⊢
  pointwise
  simp only [e19, e27, e4, lit_128, lit_eps, lit_scale, lit_bot, lit_zero, zero_add]
  all_goals rfl

theorem v36_at (b h : Fin 4) (t : Fin 2048) (m : Fin 256) : val_main_v36 (F := Ideal) x0 x1 x2 x3 (ix4 b h t m) = Rs 128 eps scale (zq x0 b h) (ck x1 b h) (row x2) (row x3) t m := by
  have e18 := v18_at x0 x2
  have e32 := v32_at x1 x3
  unfold val_main_v36 val_main_v35 val_main_v34 val_main_cst_5
  generalize val_main_v18 (F := Ideal) x0 x2 = p18 at e18 ⊢
  generalize val_main_v32 (F := Ideal) x1 x3 = p32 at e32 ⊢
  pointwise
  simp only [e18, e32, lit_128, lit_eps, lit_scale, lit_bot, lit_zero, zero_add]
  all_goals rfl

theorem v37_at (b h : Fin 4) (t : Fin 2048) : val_main_v37 (F := Ideal) x0 x1 x2 x3 (ix3 b h t) = Finset.univ.fold max ⊥ (Rs 128 eps scale (zq x0 b h) (ck x1 b h) (row x2) (row x3) t) := by
  have e36 := v36_at x0 x1 x2 x3
  unfold val_main_v37 val_main_cst_6
  generalize val_main_v36 (F := Ideal) x0 x1 x2 x3 = p36 at e36 ⊢
  pointwise
  simp only [e36, lit_128, lit_eps, lit_scale, lit_bot, lit_zero, zero_add]
  all_goals rfl

theorem v39_at (b h : Fin 4) (t : Fin 2048) : val_main_v39 (F := Ideal) x0 x1 x2 x3 (ix3 b h t) = max ⊥ (Finset.univ.fold max ⊥ (Rs 128 eps scale (zq x0 b h) (ck x1 b h) (row x2) (row x3) t)) := by
  rw [val_main_v39_apply, val_main_v38_apply, v37_at]
  unfold val_main_cst_7
  exact congrArg (fun z => max z _) lit_bot

theorem v43_at (b h : Fin 4) (t : Fin 2048) (m : Fin 256) : val_main_v43 (F := Ideal) x0 x1 x2 x3 (ix4 b h t m) = Rexpo (Rs 128 eps scale (zq x0 b h) (ck x1 b h) (row x2) (row x3) t) m := by
  have e36 := v36_at x0 x1 x2 x3
  have e39 := v39_at x0 x1 x2 x3
  unfold val_main_v43 val_main_v42 val_main_v41 val_main_v40
  generalize val_main_v36 (F := Ideal) x0 x1 x2 x3 = p36 at e36 ⊢
  generalize val_main_v39 (F := Ideal) x0 x1 x2 x3 = p39 at e39 ⊢
  pointwise
  simp only [e36, e39, lit_128, lit_eps, lit_scale, lit_bot, lit_zero, zero_add]
  all_goals rfl

theorem v45_at (b h : Fin 4) (t : Fin 2048) (z : Fin 1) : val_main_v45 (F := Ideal) x0 x1 x2 x3 (ix4 b h t z) = ∑ m', Rexpo (Rs 128 eps scale (zq x0 b h) (ck x1 b h) (row x2) (row x3) t) m' := by
  have e43 := v43_at x0 x1 x2 x3
  unfold val_main_v45 val_main_v44 val_main_cst_8
  generalize val_main_v43 (F := Ideal) x0 x1 x2 x3 = p43 at e43 ⊢
  pointwise
  simp only [e43, lit_128, lit_eps, lit_scale, lit_bot, lit_zero, zero_add]
  all_goals rfl

theorem v47_at (b h : Fin 4) (t : Fin 2048) (m : Fin 256) : val_main_v47 (F := Ideal) x0 x1 x2 x3 (ix4 b h t m) = Rp 128 eps scale (zq x0 b h) (ck x1 b h) (row x2) (row x3) t m := by
  have e43 := v43_at x0 x1 x2 x3
  have e45 := v45_at x0 x1 x2 x3
  unfold val_main_v47 val_main_v46
  generalize val_main_v43 (F := Ideal) x0 x1 x2 x3 = p43 at e43 ⊢
  generalize val_main_v45 (F := Ideal) x0 x1 x2 x3 = p45 at e45 ⊢
  pointwise
  simp only [e43, e45, lit_128, lit_eps, lit_scale, lit_bot, lit_zero, zero_add]
  all_goals rfl

theorem v49_at (b : Fin 4) (t : Fin 2048) (h : Fin 4) (i : Fin 128) : val_main_v49 (F := Ideal) x0 x1 x2 x3 (ix4 b t h i) = ∑ m, cv x1 b h m i * Rp 128 eps scale (zq x0 b h) (ck x1 b h) (row x2) (row x3) t m := by
  have e33 := v33_at x1
  have e47 := v47_at x0 x1 x2 x3
  unfold val_main_v49 val_main_v48
  generalize val_main_v33 (F := Ideal) x1 = p33 at e33 ⊢
  generalize val_main_v47 (F := Ideal) x0 x1 x2 x3 = p47 at e47 ⊢
  pointwise
  simp only [e33, e47, lit_128, lit_eps, lit_scale, lit_bot, lit_zero, zero_add]
  all_goals rfl

theorem v50_at (b : Fin 4) (t : Fin 2048) (j : Fin 512) : val_main_v50 (F := Ideal) x0 x1 x2 x3 (ix3 b t j) = ∑ m, cv x1 b (hd j) m (pl j) * Rp 128 eps scale (zq x0 b (hd j)) (ck x1 b (hd j)) (row x2) (row x3) t m := by
  have e49 := v49_at x0 x1 x2 x3
  unfold val_main_v50
  generalize val_main_v49 (F := Ideal) x0 x1 x2 x3 = p49 at e49 ⊢
  pointwise
  simp only [e49, lit_128, lit_eps, lit_scale, lit_bot, lit_zero, zero_add]
  all_goals rfl

theorem ref_at : val_main_v50 (F := Ideal) x0 x1 x2 x3 = fun j : S4x2048x512.Idx =>
    outAt x0 x1 x2 x3 (j 0) ⟨(j 2 : ℕ) / 128, by have : (j 2 : ℕ) < 512 := (j 2).isLt; omega⟩ (j 1) (inHead (j 2)) := by
  refine ext3 fun b t j => (v50_at ..).trans ?_
  rw [p_eq scale_nonneg]
  exact Finset.sum_congr rfl fun m _ => mul_comm _ _

end Reference

/-! ## The claims -/

theorem frameR : Cert.quiescent_ReferenceMemFwdIdeal := fun m ρ _ =>
  (θ_run Cert.ReferenceMemFwdIdeal.defs _ _).mono (fun r h => ⟨fun c => (h c).2,
      Idealize.ShloMosaic.sem_eq_zero_of_no_sems (by decide) r.2⟩)
    (Cert.ReferenceMemFwdIdeal.Value.run (F := Ideal) m ρ)

theorem algebraic : Cert.algebraic_KernelMemFwdIdeal_ReferenceMemFwdIdeal := by
  intro m ρ m' ρ' hpre hagree
  refine ⟨fun c => (dats m 0 c).arrAt 5 cfg0.N, Cert.KernelMemFwdIdeal.Value.run_blocks (F := Ideal) m ρ, ?_⟩
  refine (θ_run Cert.ReferenceMemFwdIdeal.defs _ _).mono (fun r h c => ?_) (Cert.ReferenceMemFwdIdeal.Value.run (F := Ideal) m' ρ')
  obtain ⟨r0, kept⟩ := h c
  obtain ⟨a0, a1, a2, a3⟩ := hagree c
  refine ⟨r0.trans ?_, kept⟩
  refine (Cert.ReferenceMemFwdIdeal.Read.val_main_v50_eq _ _).trans ?_
  rw [a0, a1, a2, a3]
  exact (ref_at _ _ _ _).trans (arr5 m c).symm

end Cert.MemFwd

end
-- ==== Proof.NormFwd.lean ====
/-
  The first norm's forward pass, over blocks of rows.
-/
module

public import proofs.«01_k».proof.Defs
public import proofs.«01_k».proof.Proof.Lits
public import proofs.«01_k».proof.Proof.Products
public import proofs.«01_k».proof.Proof.Gen.KernelNormFwdIdeal.Value
public import proofs.«01_k».proof.Proof.Gen.ReferenceNormFwdIdeal.Run
public import proofs.«01_k».proof.Proof.Gen.ReferenceNormFwdIdeal.Read
public import proofs.«01_k».proof.Proof.Norms
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.NormFwd

open Cert.KernelNormFwdIdeal Cert.KernelNormFwdIdeal.Gen Idealize.ShloMosaic Idealize.ShloMosaic.TcCoe Cert.Lits Cert.Products Cert.Norms Cert.Arith
open Idealize.SL.Sem
open Idealize.ShloMosaic.Pipeline (Dat)
open scoped BigOperators

theorem pay_at (x : Vec Ideal S1024x1024 .f32) (g : Vec Ideal S1x1024 .f32) (r s : Fin 1024) : k0_pay1 x g (ix2 r s) = scaled x g r s := by
  unfold k0_pay1
  pointwise
  rw [lit_1024, lit_eps]
  rfl

/-- A grid point's block. -/
theorem out_at (x0 : Vec Ideal S1024x1024 .f32) (x1 : Vec Ideal S1x1024 .f32) (y : S1024x1024.Idx) :
    out0_2 x0 x1 y = scaled x0 x1 (y 0) (y 1) := by
  unfold out0_2
  rw [View.canon_unit_zero (S := S1024x1024) off2]
  rw [View.ld_unit_zero (S := S1024x1024) off2, View.ld_unit_zero (S := S1x1024) off2]
  rw [eq_ix2 y]
  exact pay_at x0 x1 (y 0) (y 1)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem blk0 (c : Dev nD) (t : Fin cfg0.N) (r s : Fin 1024) :
    iblk m c 0 t (ix2 r s) = m ((c : Thread nD τ).loc main_arg0) (ix2 ⟨1024 * t.val + r, by have h : t.val < 8 := t.isLt; omega⟩ s) := by
  blk_ext [iblk, V, (idx t).1]

theorem blk1 (c : Dev nD) (t : Fin cfg0.N) (z : Fin 1) (s : Fin 1024) :
    iblk m c 1 t (ix2 z s) = m ((c : Thread nD τ).loc main_arg1) (ix2 z s) := by
  blk_ext [iblk, V, (idx t).2.1]

theorem arr2 (c : Dev nD) : (dats m 0 c).arrAt 2 cfg0.N
    = fun j : S8192x1024.Idx => scaled (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  refine (out_at ..).trans (scaled_of (blk0 m c t (y 0)) (blk1 m c t 0) (Fin.ext ?_) (Fin.ext ?_))
  · have h : (y 0 : ℕ) < 1024 := (y 0).isLt
    blk_simp [(idx t).2.2]
    dsimp only
    omega
  · have h : (y 1 : ℕ) < 1024 := (y 1).isLt
    blk_simp [(idx t).2.2]

section Reference

open Cert.ReferenceNormFwdIdeal.Read

variable (x0 : S8192x1024.Idx → EReal) (x1 : S1x1024.Idx → EReal)

theorem r8_at (i : Fin 8192) (z : Fin 1) : val_main_v8 (F := Ideal) x0 (ix2 i z) = inv x0 i := by
  unfold val_main_v8 val_main_v7 val_main_v6 val_main_v5 val_main_v4 val_main_v3 val_main_v2 val_main_v1 val_main_cst val_main_cst_0 val_main_cst_1
  pointwise
  simp only [lit_1024, lit_eps, lit_zero, zero_add]
  rfl

theorem r14_at (i : Fin 8192) (s : Fin 1024) : val_main_v14 (F := Ideal) x0 x1 (ix2 i s) = scaled x0 x1 i s := by
  have e := r8_at x0
  unfold val_main_v14 val_main_v13 val_main_v12 val_main_v11 val_main_v10 val_main_v9 val_main_v0
  generalize val_main_v8 (F := Ideal) x0 = p at e ⊢
  pointwise
  simp only [e]
  rfl

theorem ref_at : val_main_v14 (F := Ideal) x0 x1 = fun j => scaled x0 x1 (j 0) (j 1) :=
  funext fun j => (congrArg _ (eq_ix2 j)).trans (r14_at x0 x1 (j 0) (j 1))

end Reference

theorem frameR : Cert.quiescent_ReferenceNormFwdIdeal := fun m ρ _ =>
  (θ_run Cert.ReferenceNormFwdIdeal.defs _ _).mono (fun r h => ⟨fun c => (h c).2,
      Idealize.ShloMosaic.sem_eq_zero_of_no_sems (by decide) r.2⟩)
    (Cert.ReferenceNormFwdIdeal.Value.run (F := Ideal) m ρ)

theorem algebraic : Cert.algebraic_KernelNormFwdIdeal_ReferenceNormFwdIdeal := by
  intro m ρ m' ρ' hpre hagree
  refine ⟨fun c => (dats m 0 c).arrAt 2 cfg0.N, Cert.KernelNormFwdIdeal.Value.run_blocks (F := Ideal) m ρ, ?_⟩
  refine (θ_run Cert.ReferenceNormFwdIdeal.defs _ _).mono (fun r h c => ?_) (Cert.ReferenceNormFwdIdeal.Value.run (F := Ideal) m' ρ')
  obtain ⟨r0, kept⟩ := h c
  obtain ⟨a0, a1⟩ := hagree c
  refine ⟨r0.trans ?_, kept⟩
  refine (Cert.ReferenceNormFwdIdeal.Read.val_main_v14_eq _ _).trans ?_
  rw [a0, a1]
  exact (ref_at _ _).trans (arr2 m c).symm

end Cert.NormFwd

end
-- ==== Proof.NormMemFwd.lean ====
/-
  The memory's norm, forward, at one grid point.
-/
module

public import proofs.«01_k».proof.Defs
public import proofs.«01_k».proof.Proof.Lits
public import proofs.«01_k».proof.Proof.Products
public import proofs.«01_k».proof.Proof.Gen.KernelNormMemFwdIdeal.Value
public import proofs.«01_k».proof.Proof.Gen.ReferenceNormMemFwdIdeal.Run
public import proofs.«01_k».proof.Proof.Gen.ReferenceNormMemFwdIdeal.Read
public import proofs.«01_k».proof.Proof.Norms
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.NormMemFwd

open Cert.KernelNormMemFwdIdeal Cert.KernelNormMemFwdIdeal.Gen Idealize.ShloMosaic Idealize.ShloMosaic.TcCoe Cert.Lits Cert.Products Cert.Norms Cert.Arith
open Idealize.SL.Sem
open Idealize.ShloMosaic.Pipeline (Dat)
open scoped BigOperators

theorem pay_at (x : Vec Ideal S1024x1024 .f32) (g : Vec Ideal S1x1024 .f32) (r s : Fin 1024) : k0_pay1 x g (ix2 r s) = scaled x g r s := by
  unfold k0_pay1
  pointwise
  rw [lit_1024, lit_eps]
  rfl

/-- A grid point's block. -/
theorem out_at (x0 : Vec Ideal S1024x1024 .f32) (x1 : Vec Ideal S1x1024 .f32) (y : S1024x1024.Idx) :
    out0_2 x0 x1 y = scaled x0 x1 (y 0) (y 1) := by
  unfold out0_2
  rw [View.canon_unit_zero (S := S1024x1024) off2]
  rw [View.ld_unit_zero (S := S1024x1024) off2, View.ld_unit_zero (S := S1x1024) off2]
  rw [eq_ix2 y]
  exact pay_at x0 x1 (y 0) (y 1)

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0])

theorem blk0 (c : Dev nD) (t : Fin cfg0.N) (r s : Fin 1024) :
    iblk m c 0 t (ix2 r s) = m ((c : Thread nD τ).loc main_arg0) (ix2 r s) := by
  blk_ext [iblk, V, (idx t).1]

theorem blk1 (c : Dev nD) (t : Fin cfg0.N) (z : Fin 1) (s : Fin 1024) :
    iblk m c 1 t (ix2 z s) = m ((c : Thread nD τ).loc main_arg1) (ix2 z s) := by
  blk_ext [iblk, V, (idx t).2.1]

theorem arr2 (c : Dev nD) : (dats m 0 c).arrAt 2 cfg0.N
    = fun j : S1024x1024.Idx => scaled (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  refine (out_at ..).trans (scaled_of (blk0 m c t (y 0)) (blk1 m c t 0) (Fin.ext ?_) (Fin.ext ?_))
  · have h : (y 0 : ℕ) < 1024 := (y 0).isLt
    blk_simp [(idx t).2.2]
  · have h : (y 1 : ℕ) < 1024 := (y 1).isLt
    blk_simp [(idx t).2.2]

section Reference

open Cert.ReferenceNormMemFwdIdeal.Read

variable (x0 : S1024x1024.Idx → EReal) (x1 : S1x1024.Idx → EReal)

theorem r8_at (i : Fin 1024) (z : Fin 1) : val_main_v8 (F := Ideal) x0 (ix2 i z) = inv x0 i := by
  unfold val_main_v8 val_main_v7 val_main_v6 val_main_v5 val_main_v4 val_main_v3 val_main_v2 val_main_v1 val_main_cst val_main_cst_0 val_main_cst_1
  pointwise
  simp only [lit_1024, lit_eps, lit_zero, zero_add]
  rfl

theorem r14_at (i : Fin 1024) (s : Fin 1024) : val_main_v14 (F := Ideal) x0 x1 (ix2 i s) = scaled x0 x1 i s := by
  have e := r8_at x0
  unfold val_main_v14 val_main_v13 val_main_v12 val_main_v11 val_main_v10 val_main_v9 val_main_v0
  generalize val_main_v8 (F := Ideal) x0 = p at e ⊢
  pointwise
  simp only [e]
  rfl

theorem ref_at : val_main_v14 (F := Ideal) x0 x1 = fun j => scaled x0 x1 (j 0) (j 1) :=
  funext fun j => (congrArg _ (eq_ix2 j)).trans (r14_at x0 x1 (j 0) (j 1))

end Reference

theorem frameR : Cert.quiescent_ReferenceNormMemFwdIdeal := fun m ρ _ =>
  (θ_run Cert.ReferenceNormMemFwdIdeal.defs _ _).mono (fun r h => ⟨fun c => (h c).2,
      Idealize.ShloMosaic.sem_eq_zero_of_no_sems (by decide) r.2⟩)
    (Cert.ReferenceNormMemFwdIdeal.Value.run (F := Ideal) m ρ)

theorem algebraic : Cert.algebraic_KernelNormMemFwdIdeal_ReferenceNormMemFwdIdeal := by
  intro m ρ m' ρ' hpre hagree
  refine ⟨fun c => (dats m 0 c).arrAt 2 cfg0.N, Cert.KernelNormMemFwdIdeal.Value.run_blocks (F := Ideal) m ρ, ?_⟩
  refine (θ_run Cert.ReferenceNormMemFwdIdeal.defs _ _).mono (fun r h c => ?_) (Cert.ReferenceNormMemFwdIdeal.Value.run (F := Ideal) m' ρ')
  obtain ⟨r0, kept⟩ := h c
  obtain ⟨a0, a1⟩ := hagree c
  refine ⟨r0.trans ?_, kept⟩
  refine (Cert.ReferenceNormMemFwdIdeal.Read.val_main_v14_eq _ _).trans ?_
  rw [a0, a1]
  exact (ref_at _ _).trans (arr2 m c).symm

end Cert.NormMemFwd

end
-- ==== Proof.NormMemBwd.lean ====
/-
  The backward pass of the memory's normalisation, at one grid point: the gradient of its input and of its gains.
-/
module

public import proofs.«01_k».proof.Defs
public import proofs.«01_k».proof.Proof.Lits
public import proofs.«01_k».proof.Proof.Products
public import proofs.«01_k».proof.Proof.Gen.KernelNormMemBwdIdeal.Value
public import proofs.«01_k».proof.Proof.Gen.ReferenceNormMemBwdIdeal.Run
public import proofs.«01_k».proof.Proof.Gen.ReferenceNormMemBwdIdeal.Read
public import proofs.«01_k».proof.Proof.Norms
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.NormMemBwd

open Cert.KernelNormMemBwdIdeal Cert.KernelNormMemBwdIdeal.Gen Idealize.ShloMosaic Idealize.ShloMosaic.TcCoe Cert.Lits Cert.Products Cert.Norms Cert.Arith
open Idealize.SL.Sem
open Idealize.ShloMosaic.Pipeline (Dat)
open scoped BigOperators

/-! ## The grid point's blocks -/

theorem inv_at (v0 : Vec Ideal S1024x1024 .f32) (r : Fin 1024) (z : Fin 1) : k0_pay2 v0 (ix2 r z) = inv v0 r := by
  unfold k0_pay2
  pointwise
  simp only [lit_1024, lit_eps, lit_mhalf, lit_zero, zero_add]
  rfl

theorem pay3_at (x d : Vec Ideal S1024x1024 .f32) (g : Vec Ideal S1x1024 .f32) (r s : Fin 1024) :
    k0_pay3 x d g (ix2 r s) = dxK x d g r s := by
  have e := inv_at x
  unfold k0_pay3
  generalize k0_pay2 x = p at e ⊢
  pointwise
  simp only [e, lit_1024, lit_eps, lit_mhalf, lit_zero, zero_add]
  rfl

theorem pay4_at (x d : Vec Ideal S1024x1024 .f32) (z : Fin 1) (s : Fin 1024) : k0_pay4 x d (ix2 z s) = dgSum x d s := by
  have e := inv_at x
  unfold k0_pay4
  generalize k0_pay2 x = p at e ⊢
  pointwise
  simp only [e, lit_1024, lit_eps, lit_mhalf, lit_zero, zero_add]
  rfl

theorem out_A_3 {F : FTy → Type} [FloatOps F] (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : cond0_0 i) (hc1 : ¬cond0_1 i)
    (x0 : Vec F S1024x1024 .f32) (x1 : Vec F S1024x1024 .f32) (x2 : Vec F S1x1024 .f32) :
    out0_A_3 c i arg1 harg1 arg2 harg2 arg3 harg3 arg4 harg4 arg5 harg5 hc0 hc1 x0 x1 x2 = k0_pay3 x0 x1 x2 := by
  unfold out0_A_3
  rw [View.read_writes_eq_canon _ _ _ (cover0_A_3 c i arg1 harg1 arg2 harg2 arg3 harg3 arg4 harg4 arg5 harg5 hc0 hc1 x0 x1 x2)]
  unfold kernelRun0_A
  dsimp only
  sl_unfold_run_names
  rw [View.canon_unit_zero (S := S1024x1024) off2]
  simp only [View.readAt_eq_ld, harg1.read_unread, harg2.read_unread, harg3.read_unread, harg4.read_unread, harg5.read_unread, View.ld_unit_zero (S := S1024x1024) off2, View.ld_unit_zero (S := S1x1024) off2]

theorem out_A_4 {F : FTy → Type} [FloatOps F] (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (hc0 : cond0_0 i) (hc1 : ¬cond0_1 i)
    (x0 : Vec F S1024x1024 .f32) (x1 : Vec F S1024x1024 .f32) (x2 : Vec F S1x1024 .f32) :
    out0_A_4 c i arg1 harg1 arg2 harg2 arg3 harg3 arg4 harg4 arg5 harg5 hc0 hc1 x0 x1 x2 = k0_pay4 x0 x1 := by
  unfold out0_A_4
  rw [View.read_writes_eq_canon _ _ _ (cover0_A_4 c i arg1 harg1 arg2 harg2 arg3 harg3 arg4 harg4 arg5 harg5 hc0 hc1 x0 x1 x2)]
  unfold kernelRun0_A
  dsimp only
  sl_unfold_run_names
  rw [View.canon_unit_zero (S := S1x1024) off2]
  simp only [View.readAt_eq_ld, harg1.read_unread, harg2.read_unread, harg3.read_unread, harg4.read_unread, harg5.read_unread, View.ld_unit_zero (S := S1024x1024) off2, View.ld_unit_zero (S := S1x1024) off2]

/-! ## The blocks of the arrays -/

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0])

theorem blk0 (c : Dev nD) (t : Fin cfg0.N) (r s : Fin 1024) : iblk m c 0 t (ix2 r s) = m ((c : Thread nD τ).loc main_arg0) (ix2 r s) := by
  blk_ext [iblk, V, (idx t).1]

theorem blk1 (c : Dev nD) (t : Fin cfg0.N) (r s : Fin 1024) : iblk m c 1 t (ix2 r s) = m ((c : Thread nD τ).loc main_arg1) (ix2 r s) := by
  blk_ext [iblk, V, (idx t).2.1]

theorem blk2 (c : Dev nD) (t : Fin cfg0.N) (z : Fin 1) (s : Fin 1024) : iblk m c 2 t (ix2 z s) = m ((c : Thread nD τ).loc main_arg2) (ix2 z s) := by
  blk_ext [iblk, V, (idx t).2.2.1]

theorem arr3 (c : Dev nD) : (dats m 0 c).arrAt 3 cfg0.N
    = fun j : S1024x1024.Idx => dxK (m ((c : Thread nD τ).loc main_arg0)) (m ((c : Thread nD τ).loc main_arg1)) (m ((c : Thread nD τ).loc main_arg2)) (j 0) (j 1) := by
  refine (dats m 0 c).arrAt_eq_of_covers 3 _ (by decide +kernel) fun t hf y => ?_
  blk_simp
  rw [after0_3]
  unfold outsAt0
  dsimp only
  refine (congrFun (out_A_3 (F := Ideal) ..) y).trans ?_
  refine ((congrArg _ (eq_ix2 y)).trans (pay3_at _ _ _ (y 0) (y 1))).trans (dxK_of (blk0 m c t (y 0)) (blk1 m c t (y 0)) (blk2 m c t 0) (Fin.ext ?_) (Fin.ext ?_))
  all_goals blk_simp [(idx t).2.2.2.1]

theorem arr4 (c : Dev nD) : (dats m 0 c).arrAt 4 cfg0.N
    = fun j : S1x1024.Idx => dgSum (m ((c : Thread nD τ).loc main_arg0)) (m ((c : Thread nD τ).loc main_arg1)) (j 1) := by
  refine (dats m 0 c).arrAt_eq_of_covers 4 _ (by decide +kernel) fun t hf y => ?_
  blk_simp
  rw [after0_4]
  unfold outsAt0
  dsimp only
  refine (congrFun (out_A_4 (F := Ideal) ..) y).trans ?_
  refine ((congrArg _ (eq_ix2 y)).trans (pay4_at _ _ (y 0) (y 1))).trans
    (Finset.sum_congr rfl fun i _ => dgRow_of (blk0 m c t i) (blk1 m c t i) rfl (Fin.ext ?_))
  blk_simp [(idx t).2.2.2.2]

/-! ## The reference's results -/

section Reference

open Cert.ReferenceNormMemBwdIdeal.Read

variable (x0 x1 : S1024x1024.Idx → EReal) (x2 : S1x1024.Idx → EReal)

theorem r7_at (i : Fin 1024) (z : Fin 1) : val_main_v7 (F := Ideal) x0 (ix2 i z) = msq 1024 eps (row x0 i) := by
  unfold val_main_v7 val_main_v6 val_main_v5 val_main_v4 val_main_v3 val_main_v2 val_main_v1 val_main_cst val_main_cst_0 val_main_cst_1
  pointwise
  simp only [lit_1024, lit_eps, lit_mhalf, lit_zero, zero_add]
  rfl

theorem r8_at (i : Fin 1024) (z : Fin 1) : val_main_v8 (F := Ideal) x0 (ix2 i z) = inv x0 i := by
  have e := r7_at x0
  unfold val_main_v8
  generalize val_main_v7 (F := Ideal) x0 = p at e ⊢
  pointwise
  simp only [e]
  rfl

theorem r11_at (i : Fin 1024) (z : Fin 1) : val_main_v11 (F := Ideal) x0 (ix2 i z) = ((-(1 / 2) : ℝ) : EReal) * Ideal.div (inv x0 i) (msq 1024 eps (row x0 i)) := by
  have e := r7_at x0
  have e' := r8_at x0
  unfold val_main_v11 val_main_v10 val_main_v9 val_main_cst_2
  generalize val_main_v7 (F := Ideal) x0 = p at e ⊢
  generalize val_main_v8 (F := Ideal) x0 = q at e' ⊢
  pointwise
  simp only [e, e', lit_1024, lit_eps, lit_mhalf, lit_zero, zero_add]

theorem r21_at (i : Fin 1024) (j : Fin 1024) : val_main_v21 (F := Ideal) x1 x2 (ix2 i j) = x1 (ix2 i j) * x2 (ix2 0 j) := by
  unfold val_main_v21 val_main_v20 val_main_v14 val_main_v0
  pointwise

theorem r31_at (i : Fin 1024) : val_main_v31 (F := Ideal) x0 x1 x2 (ix1 i)
    = coefR 1024 eps (row x0 i) (fun k => x1 (ix2 i k) * x2 (ix2 0 k)) := by
  have e := r11_at x0
  have e' := r21_at x1 x2
  unfold val_main_v31 val_main_v30 val_main_v29 val_main_v28 val_main_v25 val_main_v24 val_main_v23 val_main_cst_5 val_main_cst_6 val_main_cst_7
  generalize val_main_v11 (F := Ideal) x0 = p at e ⊢
  generalize val_main_v21 (F := Ideal) x1 x2 = q at e' ⊢
  pointwise
  simp only [e, e', Fin.sum_univ_one, lit_1024, lit_eps, lit_mhalf, lit_zero, zero_add]
  rfl

theorem ref_dx_at (i : Fin 1024) (s : Fin 1024) : val_main_v36 (F := Ideal) x0 x1 x2 (ix2 i s) = dxK x0 x1 x2 i s := by
  rw [dx_eq]
  have e := r8_at x0
  have e' := r21_at x1 x2
  have e'' := r31_at x0 x1 x2
  unfold val_main_v36 val_main_v35 val_main_v34 val_main_v33 val_main_v32 val_main_v27 val_main_v26
  generalize val_main_v8 (F := Ideal) x0 = p at e ⊢
  generalize val_main_v21 (F := Ideal) x1 x2 = q at e' ⊢
  generalize val_main_v31 (F := Ideal) x0 x1 x2 = o at e'' ⊢
  pointwise
  simp only [e, e', e'']
  rfl

theorem ref_dg_at (z : Fin 1) (s : Fin 1024) : val_main_v37 (F := Ideal) x0 x1 (ix2 z s) = dgSum x0 x1 s := by
  have e := r8_at x0
  unfold val_main_v37 val_main_v22 val_main_v19 val_main_v18 val_main_v17 val_main_v13 val_main_v12 val_main_cst_3 val_main_cst_4
  generalize val_main_v8 (F := Ideal) x0 = p at e ⊢
  pointwise
  simp only [e, Fin.sum_univ_one, lit_1024, lit_eps, lit_mhalf, lit_zero, zero_add]
  refine Finset.sum_congr rfl fun i _ => ?_
  unfold dgRow
  ac_rfl

theorem ref_dx : val_main_v36 (F := Ideal) x0 x1 x2 = fun j => dxK x0 x1 x2 (j 0) (j 1) :=
  funext fun j => (congrArg _ (eq_ix2 j)).trans (ref_dx_at x0 x1 x2 (j 0) (j 1))

theorem ref_dg : val_main_v37 (F := Ideal) x0 x1 = fun j => dgSum x0 x1 (j 1) :=
  funext fun j => (congrArg _ (eq_ix2 j)).trans (ref_dg_at x0 x1 (j 0) (j 1))

end Reference

/-! ## The claims -/

theorem frameR : Cert.quiescent_ReferenceNormMemBwdIdeal := fun m ρ _ =>
  (θ_run Cert.ReferenceNormMemBwdIdeal.defs _ _).mono (fun r h => ⟨fun c => (h c).2.2,
      Idealize.ShloMosaic.sem_eq_zero_of_no_sems (by decide) r.2⟩)
    (Cert.ReferenceNormMemBwdIdeal.Value.run (F := Ideal) m ρ)

theorem algebraic : Cert.algebraic_KernelNormMemBwdIdeal_ReferenceNormMemBwdIdeal := by
  intro m ρ m' ρ' hpre hagree
  refine ⟨fun c => (dats m 0 c).arrAt 3 cfg0.N, fun c => (dats m 0 c).arrAt 4 cfg0.N, Cert.KernelNormMemBwdIdeal.Value.run_blocks (F := Ideal) m ρ, ?_⟩
  refine (θ_run Cert.ReferenceNormMemBwdIdeal.defs _ _).mono (fun r h c => ?_) (Cert.ReferenceNormMemBwdIdeal.Value.run (F := Ideal) m' ρ')
  obtain ⟨r0, r1, kept⟩ := h c
  obtain ⟨a0, a1, a2⟩ := hagree c
  refine ⟨r0.trans ?_, r1.trans ?_, kept⟩
  · refine (Cert.ReferenceNormMemBwdIdeal.Read.val_main_v36_eq _ _ _).trans ?_
    rw [a0, a1, a2]
    exact (ref_dx _ _ _).trans (arr3 m c).symm
  · refine (Cert.ReferenceNormMemBwdIdeal.Read.val_main_v37_eq _ _).trans ?_
    rw [a0, a1]
    exact (ref_dg _ _).trans (arr4 m c).symm

end Cert.NormMemBwd

end
-- ==== Proof.Forget.lean ====
/-
  The forget gates' columns of the input projection, padded to 128: one product, a block of it at each grid point.
-/
module

public import proofs.«01_k».proof.Defs
public import proofs.«01_k».proof.Proof.Lits
public import proofs.«01_k».proof.Proof.Products
public import proofs.«01_k».proof.Proof.Gen.KernelForgetIdeal.Value
public import proofs.«01_k».proof.Proof.Gen.ReferenceForgetIdeal.Run
public import proofs.«01_k».proof.Proof.Gen.ReferenceForgetIdeal.Read
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.Forget

open Cert.KernelForgetIdeal Cert.KernelForgetIdeal.Gen Idealize.ShloMosaic Idealize.ShloMosaic.TcCoe Cert.Lits Cert.Products
open Idealize.SL.Sem
open Idealize.ShloMosaic.Pipeline (Dat)
open scoped BigOperators

theorem pay_at (v0 : Vec Ideal S1024x128 .bf16) (v1 : Vec Ideal S2048x1024 .bf16) (r : Fin 2048) (s : Fin 128) :
    k0_pay1 v0 v1 (ix2 r s) = nn v1 v0 r s := by
  unfold k0_pay1
  pointwise
  rfl

/-- A grid point's block of the product. -/
theorem out_at (x0 : Vec Ideal S2048x1024 .bf16) (x1 : Vec Ideal S1024x128 .bf16) (y : S2048x128.Idx) :
    out0_2 x0 x1 y = nn x0 x1 (y 0) (y 1) := by
  unfold out0_2
  rw [View.canon_unit_zero (S := S2048x128) off2]
  rw [View.ld_unit_zero (S := S2048x1024) off2, View.ld_unit_zero (S := S1024x128) off2]
  rw [eq_ix2 y]
  exact pay_at x1 x0 (y 0) (y 1)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem blk0 (c : Dev nD) (t : Fin cfg0.N) (r : Fin 2048) (s : Fin 1024) :
    iblk m c 0 t (ix2 r s) = m ((c : Thread nD τ).loc main_arg0) (ix2 ⟨2048 * (t.val) + r, by have h : t.val < 4 := t.isLt; omega⟩ s) := by
  blk_ext [iblk, V, (idx t).1]

theorem blk1 (c : Dev nD) (t : Fin cfg0.N) (r : Fin 1024) (s : Fin 128) :
    iblk m c 1 t (ix2 r s) = m ((c : Thread nD τ).loc main_arg1) (ix2 r s) := by
  blk_ext [iblk, V, (idx t).2.1]

theorem arr2 (c : Dev nD) : (dats m 0 c).arrAt 2 cfg0.N
    = fun j : S8192x128.Idx => nn (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  refine (out_at ..).trans (nn_of (blk0 m c t (y 0)) (fun k => blk1 m c t k (y 1)) (Fin.ext ?_) (Fin.ext ?_))
  · have h : (y 0 : ℕ) < 2048 := (y 0).isLt
    blk_simp [(idx t).2.2]
    dsimp only
    omega
  · have h : (y 1 : ℕ) < 128 := (y 1).isLt
    blk_simp [(idx t).2.2]

theorem ref_at (x0 : S8192x1024.Idx → EReal) (x1 : S1024x128.Idx → EReal) :
    Cert.ReferenceForgetIdeal.Read.val_main_v2 (F := Ideal) x0 x1 = fun j => nn x0 x1 (j 0) (j 1) := by
  funext j
  refine (Cert.ReferenceForgetIdeal.Read.val_main_v2_apply x0 x1 j).trans (Finset.sum_congr rfl fun k _ => ?_)
  refine congrArg₂ (· * ·) ((Cert.ReferenceForgetIdeal.Read.val_main_v0_apply (F := Ideal) x0 _).trans (congrArg x0 ?_)) ((Cert.ReferenceForgetIdeal.Read.val_main_v1_apply (F := Ideal) x1 _).trans (congrArg x1 ?_))
  · funext a; match a with
    | ⟨0, _⟩ => rfl
    | ⟨1, _⟩ => rfl
  · funext a; match a with
    | ⟨0, _⟩ => rfl
    | ⟨1, _⟩ => rfl

theorem frameR : Cert.quiescent_ReferenceForgetIdeal := fun m ρ _ =>
  (θ_run Cert.ReferenceForgetIdeal.defs _ _).mono (fun r h => ⟨fun c => (h c).2,
      Idealize.ShloMosaic.sem_eq_zero_of_no_sems (by decide) r.2⟩)
    (Cert.ReferenceForgetIdeal.Value.run (F := Ideal) m ρ)

theorem algebraic : Cert.algebraic_KernelForgetIdeal_ReferenceForgetIdeal := by
  intro m ρ m' ρ' hpre hagree
  refine ⟨fun c => (dats m 0 c).arrAt 2 cfg0.N, Cert.KernelForgetIdeal.Value.run_blocks (F := Ideal) m ρ, ?_⟩
  refine (θ_run Cert.ReferenceForgetIdeal.defs _ _).mono (fun r h c => ?_) (Cert.ReferenceForgetIdeal.Value.run (F := Ideal) m' ρ')
  obtain ⟨r0, kept⟩ := h c
  obtain ⟨a0, a1⟩ := hagree c
  refine ⟨r0.trans ?_, kept⟩
  refine (Cert.ReferenceForgetIdeal.Read.val_main_v2_eq _ _).trans ?_
  rw [a0, a1]
  exact (ref_at _ _).trans (arr2 m c).symm

end Cert.Forget

end
-- ==== Proof.ForgetDw.lean ====
/-
  The gradient of the forget gates' weight: one product, accumulated over blocks of rows.
-/
module

public import proofs.«01_k».proof.Defs
public import proofs.«01_k».proof.Proof.Lits
public import proofs.«01_k».proof.Proof.Products
public import proofs.«01_k».proof.Proof.Gen.KernelForgetDwIdeal.Value
public import proofs.«01_k».proof.Proof.Gen.ReferenceForgetDwIdeal.Run
public import proofs.«01_k».proof.Proof.Gen.ReferenceForgetDwIdeal.Read
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.ForgetDw

open Cert.KernelForgetDwIdeal Cert.KernelForgetDwIdeal.Gen Idealize.ShloMosaic Idealize.ShloMosaic.TcCoe Cert.Lits Cert.Products
open Idealize.SL.Sem
open Idealize.ShloMosaic.Pipeline (Dat)
open scoped BigOperators

theorem pay_at (v0 : Vec Ideal S1024x128 .bf16) (v1 : Vec Ideal S1024x1024 .bf16) (r : Fin 1024) (s : Fin 128) :
    k0_pay1 v0 v1 (ix2 r s) = tn v1 v0 r s := by
  unfold k0_pay1
  pointwise
  rfl

theorem pay2_at (v0 : Vec Ideal S1024x128 .bf16) (v1 : Vec Ideal S1024x1024 .bf16) (v2 : Vec Ideal S1024x128 .f32) (r : Fin 1024) (s : Fin 128) :
    k0_pay2 v0 v1 v2 (ix2 r s) = v2 (ix2 r s) + tn v1 v0 r s := by
  rw [← pay_at v0 v1]
  unfold k0_pay2
  pointwise

theorem out_A {F : FTy → Type} [FloatOps F] (c : Dev nD) (i : grid0.Coords) (arg3 : Memref sig .tc .vmem S1024x1024 .bf16) (harg3 : arg3.IsWhole) (arg4 : Memref sig .tc .vmem S1024x128 .bf16) (harg4 : arg4.IsWhole) (arg5 : Memref sig .tc .vmem S1024x128 .f32) (harg5 : arg5.IsWhole) (hc0 : cond0_0 i) (hc1 : ¬cond0_1 i)
    (x0 : Vec F S1024x1024 .bf16) (x1 : Vec F S1024x128 .bf16) :
    out0_A_2 c i arg3 harg3 arg4 harg4 arg5 harg5 hc0 hc1 x0 x1 = k0_pay1 x1 x0 := by
  unfold out0_A_2
  rw [View.read_writes_eq_canon _ _ _ (cover0_A_2 c i arg3 harg3 arg4 harg4 arg5 harg5 hc0 hc1 x0 x1)]
  unfold kernelRun0_A
  dsimp only
  sl_unfold_run_names
  rw [View.canon_unit_zero (S := S1024x128) off2]
  simp only [View.readAt_eq_ld, harg3.read_unread, harg4.read_unread, harg5.read_unread, View.ld_unit_zero (S := S1024x1024) off2, View.ld_unit_zero (S := S1024x128) off2]

theorem out_B {F : FTy → Type} [FloatOps F] (c : Dev nD) (i : grid0.Coords) (arg3 : Memref sig .tc .vmem S1024x1024 .bf16) (harg3 : arg3.IsWhole) (arg4 : Memref sig .tc .vmem S1024x128 .bf16) (harg4 : arg4.IsWhole) (arg5 : Memref sig .tc .vmem S1024x128 .f32) (harg5 : arg5.IsWhole) (hc0 : ¬cond0_0 i) (hc1 : cond0_1 i)
    (x0 : Vec F S1024x1024 .bf16) (x1 : Vec F S1024x128 .bf16) (xo2 : Vec F S1024x128 .f32) :
    out0_B_2 c i arg3 harg3 arg4 harg4 arg5 harg5 hc0 hc1 x0 x1 xo2 = k0_pay2 x1 x0 xo2 := by
  unfold out0_B_2
  rw [View.read_writes_eq_canon _ _ _ (cover0_B_2 c i arg3 harg3 arg4 harg4 arg5 harg5 hc0 hc1 x0 x1 xo2)]
  unfold kernelRun0_B
  dsimp only
  sl_unfold_run_names
  rw [View.canon_unit_zero (S := S1024x128) off2]
  simp only [View.readAt_eq_ld, harg3.read_unread, harg4.read_unread, harg5.read_unread, View.ld_unit_zero (S := S1024x1024) off2, View.ld_unit_zero (S := S1024x128) off2]

variable (m : (ℓ : Loc nD τ sig) → Buf (Elt Ideal) ℓ)

theorem idx : ∀ t : Fin cfg0.N, win0_0.index t = ![t.val % 8, 0] ∧ win0_1.index t = ![t.val % 8, 0] ∧ win0_2.index t = ![0, 0] :=
  (by decide +kernel : ∀ t : Fin grid0.N, win0_0.index t = ![t.val % 8, 0] ∧ win0_1.index t = ![t.val % 8, 0] ∧ win0_2.index t = ![0, 0])

theorem blk0 (c : Dev nD) (t : Fin cfg0.N) (r : Fin 1024) (s : Fin 1024) :
    iblk m c 0 t (ix2 r s) = m ((c : Thread nD τ).loc main_arg0) (ix2 ⟨1024 * (t.val % 8) + r, by have h : t.val < 8 := t.isLt; omega⟩ s) := by
  blk_ext [iblk, V, (idx t).1]

theorem blk1 (c : Dev nD) (t : Fin cfg0.N) (r : Fin 1024) (s : Fin 128) :
    iblk m c 1 t (ix2 r s) = m ((c : Thread nD τ).loc main_arg1) (ix2 ⟨1024 * (t.val % 8) + r, by have h : t.val < 8 := t.isLt; omega⟩ s) := by
  blk_ext [iblk, V, (idx t).2.1]

/-- A grid point's product of its blocks. -/
def part (c : Dev nD) (t : Fin cfg0.N) (y : S1024x128.Idx) : EReal :=
  tn (iblk m c 0 t) (iblk m c 1 t) (y 0) (y 1)

theorem step_A (c : Dev nD) (t : Fin cfg0.N) (h : t.val % 8 = 0) (y : S1024x128.Idx) : outsAt0 m c t.val t.isLt y = 0 + part m c t y := by
  have hN : t.val < 8 := t.isLt
  rw [outsAt0_A m c t (by omega) (by omega)]
  rw [zero_add]
  refine (congrFun (out_A (F := Ideal) ..) y).trans ?_
  rw [eq_ix2 y]
  exact pay_at _ _ (y 0) (y 1)

theorem step_B (c : Dev nD) (t : Fin cfg0.N) (h : ¬t.val % 8 = 0) (y : S1024x128.Idx) :
    outsAt0 m c t.val t.isLt y = outsAt0 m c (t.val - 1) (Nat.lt_of_le_of_lt (Nat.sub_le _ _) t.isLt) y + part m c t y := by
  have hN : t.val < 8 := t.isLt
  rw [outsAt0_B m c t (by omega) (by omega)]
  refine (congrFun (out_B (F := Ideal) ..) y).trans ?_
  rw [eq_ix2 y]
  exact pay2_at _ _ _ (y 0) (y 1)

theorem arr2 (c : Dev nD) : (dats m 0 c).arrAt 2 cfg0.N
    = fun j : S1024x128.Idx => tn (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  have hr : t.val % 8 = 8 - 1 := (flush0_2 t).mp hf
  have hN : t.val < 8 := t.isLt
  refine (Pipeline.eq_sum_fin_of_reset_step_apply_of_flush (outsAt0 m c) 8 (fun _ => 0) (part m c) (step_A m c) (step_B m c) t hr y).trans ?_
  rw [zero_add]
  refine tn_stretches (fun l k => ⟨1024 * ((8 * (t.val / 8) + l.val) % 8) + k.val, by omega⟩) (fun l k => blk0 m c _ k (y 0)) (fun l k => blk1 m c _ k (y 1)) (fun l k => by dsimp only; omega) (by norm_num) (fun l k => Fin.ext ?_) (fun l k => Fin.ext ?_)
  · have h : (y 0 : ℕ) < 1024 := (y 0).isLt
    blk_simp [(idx t).2.2]
  · have h : (y 1 : ℕ) < 128 := (y 1).isLt
    blk_simp [(idx t).2.2]

theorem ref_at (x0 : S8192x1024.Idx → EReal) (x1 : S8192x128.Idx → EReal) :
    Cert.ReferenceForgetDwIdeal.Read.val_main_v5 (F := Ideal) x0 x1 = fun j => tn x0 x1 (j 0) (j 1) := by
  funext j
  refine (Cert.ReferenceForgetDwIdeal.Read.val_main_v5_apply (F := Ideal) x0 x1 j).trans ?_
  refine (Cert.ReferenceForgetDwIdeal.Read.val_main_v4_apply x0 x1 _).trans (Finset.sum_congr rfl fun k _ => ?_)
  refine (mul_comm _ _).trans (congrArg₂ (· * ·) ((Cert.ReferenceForgetDwIdeal.Read.val_main_v1_apply (F := Ideal) x0 _).trans (congrArg x0 ?_)) ((Cert.ReferenceForgetDwIdeal.Read.val_main_v3_apply (F := Ideal) x1 _).trans (congrArg x1 ?_)))
  · funext a; match a with
    | ⟨0, _⟩ => rfl
    | ⟨1, _⟩ => rfl
  · funext a; match a with
    | ⟨0, _⟩ => rfl
    | ⟨1, _⟩ => rfl

theorem frameR : Cert.quiescent_ReferenceForgetDwIdeal := fun m ρ _ =>
  (θ_run Cert.ReferenceForgetDwIdeal.defs _ _).mono (fun r h => ⟨fun c => (h c).2,
      Idealize.ShloMosaic.sem_eq_zero_of_no_sems (by decide) r.2⟩)
    (Cert.ReferenceForgetDwIdeal.Value.run (F := Ideal) m ρ)

theorem algebraic : Cert.algebraic_KernelForgetDwIdeal_ReferenceForgetDwIdeal := by
  intro m ρ m' ρ' hpre hagree
  refine ⟨fun c => (dats m 0 c).arrAt 2 cfg0.N, Cert.KernelForgetDwIdeal.Value.run_blocks (F := Ideal) m ρ, ?_⟩
  refine (θ_run Cert.ReferenceForgetDwIdeal.defs _ _).mono (fun r h c => ?_) (Cert.ReferenceForgetDwIdeal.Value.run (F := Ideal) m' ρ')
  obtain ⟨r0, kept⟩ := h c
  obtain ⟨a0, a1⟩ := hagree c
  refine ⟨r0.trans ?_, kept⟩
  refine (Cert.ReferenceForgetDwIdeal.Read.val_main_v5_eq _ _).trans ?_
  rw [a0, a1]
  exact (ref_at _ _).trans (arr2 m c).symm

end Cert.ForgetDw

end
-- ==== Proof.ForgetDx.lean ====
/-
  The forget gates' part of the gradient of the input projection's input: one product, a block of it at each grid point.
-/
module

public import proofs.«01_k».proof.Defs
public import proofs.«01_k».proof.Proof.Lits
public import proofs.«01_k».proof.Proof.Products
public import proofs.«01_k».proof.Proof.Gen.KernelForgetDxIdeal.Value
public import proofs.«01_k».proof.Proof.Gen.ReferenceForgetDxIdeal.Run
public import proofs.«01_k».proof.Proof.Gen.ReferenceForgetDxIdeal.Read
public import Idealize.ShloMosaic.Lib.Pipeline.ValueKit.Partial
public import Idealize.ShloMosaic.Lib.Pipeline.ValueKit.Acc
public import Idealize.ShloMosaic.Lib.ValueIdx
public import Idealize.ShloMosaic.Lib.Pointwise
public import Idealize.ShloMosaic.PureOps.Ideal.Laws
public import Idealize.ShloMosaic.Lib.Claim
public import Idealize.ShloMosaic.Adequacy
public import Idealize.ShloMosaic.Init

@[expose] public section

set_option maxRecDepth 16384

noncomputable section

namespace Cert.ForgetDx

open Cert.KernelForgetDxIdeal Cert.KernelForgetDxIdeal.Gen Idealize.ShloMosaic Idealize.ShloMosaic.TcCoe Cert.Lits Cert.Products
open Idealize.SL.Sem
open Idealize.ShloMosaic.Pipeline (Dat)
open scoped BigOperators

theorem pay_at (v0 : Vec Ideal S1024x128 .bf16) (v1 : Vec Ideal S2048x128 .bf16) (r : Fin 2048) (s : Fin 1024) :
    k0_pay1 v0 v1 (ix2 r s) = nt v1 v0 r s := by
  unfold k0_pay1
  pointwise
  rfl

/-- A grid point's block of the product. -/
theorem out_at (x0 : Vec Ideal S2048x128 .bf16) (x1 : Vec Ideal S1024x128 .bf16) (y : S2048x1024.Idx) :
    out0_2 x0 x1 y = nt x0 x1 (y 0) (y 1) := by
  unfold out0_2
  rw [View.canon_unit_zero (S := S2048x1024) off2]
  rw [View.ld_unit_zero (S := S2048x128) off2, View.ld_unit_zero (S := S1024x128) off2]
  rw [eq_ix2 y]
  exact pay_at x1 x0 (y 0) (y 1)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem blk0 (c : Dev nD) (t : Fin cfg0.N) (r : Fin 2048) (s : Fin 128) :
    iblk m c 0 t (ix2 r s) = m ((c : Thread nD τ).loc main_arg0) (ix2 ⟨2048 * (t.val) + r, by have h : t.val < 4 := t.isLt; omega⟩ s) := by
  blk_ext [iblk, V, (idx t).1]

theorem blk1 (c : Dev nD) (t : Fin cfg0.N) (r : Fin 1024) (s : Fin 128) :
    iblk m c 1 t (ix2 r s) = m ((c : Thread nD τ).loc main_arg1) (ix2 r s) := by
  blk_ext [iblk, V, (idx t).2.1]

theorem arr2 (c : Dev nD) : (dats m 0 c).arrAt 2 cfg0.N
    = fun j : S8192x1024.Idx => nt (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  refine (out_at ..).trans (nt_of (blk0 m c t (y 0)) (blk1 m c t (y 1)) (Fin.ext ?_) (Fin.ext ?_))
  · have h : (y 0 : ℕ) < 2048 := (y 0).isLt
    blk_simp [(idx t).2.2]
    dsimp only
    omega
  · have h : (y 1 : ℕ) < 1024 := (y 1).isLt
    blk_simp [(idx t).2.2]

theorem ref_at (x0 : S8192x128.Idx → EReal) (x1 : S1024x128.Idx → EReal) :
    Cert.ReferenceForgetDxIdeal.Read.val_main_v4 (F := Ideal) x0 x1 = fun j => nt x0 x1 (j 0) (j 1) := by
  funext j
  refine (Cert.ReferenceForgetDxIdeal.Read.val_main_v4_apply x0 x1 j).trans (Finset.sum_congr rfl fun k _ => ?_)
  refine congrArg₂ (· * ·) ((Cert.ReferenceForgetDxIdeal.Read.val_main_v3_apply (F := Ideal) x0 _).trans (congrArg x0 ?_)) ((Cert.ReferenceForgetDxIdeal.Read.val_main_v1_apply (F := Ideal) x1 _).trans (congrArg x1 ?_))
  · funext a; match a with
    | ⟨0, _⟩ => rfl
    | ⟨1, _⟩ => rfl
  · funext a; match a with
    | ⟨0, _⟩ => rfl
    | ⟨1, _⟩ => rfl

theorem frameR : Cert.quiescent_ReferenceForgetDxIdeal := fun m ρ _ =>
  (θ_run Cert.ReferenceForgetDxIdeal.defs _ _).mono (fun r h => ⟨fun c => (h c).2,
      Idealize.ShloMosaic.sem_eq_zero_of_no_sems (by decide) r.2⟩)
    (Cert.ReferenceForgetDxIdeal.Value.run (F := Ideal) m ρ)

theorem algebraic : Cert.algebraic_KernelForgetDxIdeal_ReferenceForgetDxIdeal := by
  intro m ρ m' ρ' hpre hagree
  refine ⟨fun c => (dats m 0 c).arrAt 2 cfg0.N, Cert.KernelForgetDxIdeal.Value.run_blocks (F := Ideal) m ρ, ?_⟩
  refine (θ_run Cert.ReferenceForgetDxIdeal.defs _ _).mono (fun r h c => ?_) (Cert.ReferenceForgetDxIdeal.Value.run (F := Ideal) m' ρ')
  obtain ⟨r0, kept⟩ := h c
  obtain ⟨a0, a1⟩ := hagree c
  refine ⟨r0.trans ?_, kept⟩
  refine (Cert.ReferenceForgetDxIdeal.Read.val_main_v4_eq _ _).trans ?_
  rw [a0, a1]
  exact (ref_at _ _).trans (arr2 m c).symm

end Cert.ForgetDx

end
-- ==== Proof.lean ====
/-
  The claims put together. For the memory attention's backward pass: the generated frames, and the equation of the
  kernel's arrays (`MemArrays`) with the reference's results (`MemRef`, `MemEq`) under finite gains. Every other call has a
  module of its own, with the equation of the arrays it leaves and its reference's results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_gains
public import proofs.«01_k».proof.Proof.MemEq
public import proofs.«01_k».proof.Proof.Gen.KernelLoss
public import proofs.«01_k».proof.Proof.Gen.KernelLoss.Frame
public import proofs.«01_k».proof.Proof.Gen.KernelLossIdeal
public import proofs.«01_k».proof.Proof.Gen.KernelLossIdeal.Frame
public import proofs.«01_k».proof.Proof.Gen.ReferenceLossIdeal
public import proofs.«01_k».proof.Proof.Gen.ReferenceLossIdeal.Run
public import proofs.«01_k».proof.Proof.Gen.ReferenceLossIdeal.Read
public import proofs.«01_k».proof.Proof.Gen.KernelDownDx
public import proofs.«01_k».proof.Proof.Gen.KernelDownDx.Frame
public import proofs.«01_k».proof.Proof.Gen.KernelDownDxIdeal
public import proofs.«01_k».proof.Proof.Gen.KernelDownDxIdeal.Frame
public import proofs.«01_k».proof.Proof.Gen.KernelDownDxIdeal.Value
public import proofs.«01_k».proof.Proof.Gen.ReferenceDownDxIdeal
public import proofs.«01_k».proof.Proof.Gen.ReferenceDownDxIdeal.Run
public import proofs.«01_k».proof.Proof.Gen.ReferenceDownDxIdeal.Read
public import proofs.«01_k».proof.Proof.Gen.KernelDownDw
public import proofs.«01_k».proof.Proof.Gen.KernelDownDw.Frame
public import proofs.«01_k».proof.Proof.Gen.KernelDownDwIdeal
public import proofs.«01_k».proof.Proof.Gen.KernelDownDwIdeal.Frame
public import proofs.«01_k».proof.Proof.Gen.KernelDownDwIdeal.Value
public import proofs.«01_k».proof.Proof.Gen.ReferenceDownDwIdeal
public import proofs.«01_k».proof.Proof.Gen.ReferenceDownDwIdeal.Run
public import proofs.«01_k».proof.Proof.Gen.ReferenceDownDwIdeal.Read
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.Gen.KernelUpDx
public import proofs.«01_k».proof.Proof.Gen.KernelUpDx.Frame
public import proofs.«01_k».proof.Proof.Gen.KernelUpDxIdeal
public import proofs.«01_k».proof.Proof.Gen.KernelUpDxIdeal.Frame
public import proofs.«01_k».proof.Proof.Gen.KernelUpDxIdeal.Value
public import proofs.«01_k».proof.Proof.Gen.ReferenceUpDxIdeal
public import proofs.«01_k».proof.Proof.Gen.ReferenceUpDxIdeal.Run
public import proofs.«01_k».proof.Proof.Gen.ReferenceUpDxIdeal.Read
public import proofs.«01_k».proof.Proof.Gen.KernelUpDw
public import proofs.«01_k».proof.Proof.Gen.KernelUpDw.Frame
public import proofs.«01_k».proof.Proof.Gen.KernelUpDwIdeal
public import proofs.«01_k».proof.Proof.Gen.KernelUpDwIdeal.Frame
public import proofs.«01_k».proof.Proof.Gen.KernelUpDwIdeal.Value
public import proofs.«01_k».proof.Proof.Gen.ReferenceUpDwIdeal
public import proofs.«01_k».proof.Proof.Gen.ReferenceUpDwIdeal.Run
public import proofs.«01_k».proof.Proof.Gen.ReferenceUpDwIdeal.Read
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelInDw
public import proofs.«01_k».proof.Proof.Gen.KernelInDw.Frame
public import proofs.«01_k».proof.Proof.Gen.KernelInDwIdeal
public import proofs.«01_k».proof.Proof.Gen.KernelInDwIdeal.Frame
public import proofs.«01_k».proof.Proof.Gen.KernelInDwIdeal.Value
public import proofs.«01_k».proof.Proof.Gen.ReferenceInDwIdeal
public import proofs.«01_k».proof.Proof.Gen.ReferenceInDwIdeal.Run
public import proofs.«01_k».proof.Proof.Gen.ReferenceInDwIdeal.Read
public import proofs.«01_k».proof.Proof.Gen.KernelInDx
public import proofs.«01_k».proof.Proof.Gen.KernelInDx.Frame
public import proofs.«01_k».proof.Proof.Gen.KernelInDxIdeal
public import proofs.«01_k».proof.Proof.Gen.KernelInDxIdeal.Frame
public import proofs.«01_k».proof.Proof.Gen.KernelInDxIdeal.Value
public import proofs.«01_k».proof.Proof.Gen.ReferenceInDxIdeal
public import proofs.«01_k».proof.Proof.Gen.ReferenceInDxIdeal.Run
public import proofs.«01_k».proof.Proof.Gen.ReferenceInDxIdeal.Read
public import proofs.«01_k».proof.Proof.Gen.KernelNorm
public import proofs.«01_k».proof.Proof.Gen.KernelNorm.Frame
public import proofs.«01_k».proof.Proof.Gen.KernelNormIdeal
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.ReferenceNormIdeal.Read
public import proofs.«01_k».proof.Proof.Gen.KernelMerge
public import proofs.«01_k».proof.Proof.Gen.KernelMerge.Frame
public import proofs.«01_k».proof.Proof.Gen.KernelMergeIdeal
public import proofs.«01_k».proof.Proof.Gen.KernelMergeIdeal.Frame
public import proofs.«01_k».proof.Proof.Gen.KernelMergeIdeal.Value
public import proofs.«01_k».proof.Proof.Gen.ReferenceMergeIdeal
public import proofs.«01_k».proof.Proof.Gen.ReferenceMergeIdeal.Run
public import proofs.«01_k».proof.Proof.Gen.ReferenceMergeIdeal.Read
public import proofs.«01_k».proof.Proof.Gen.KernelMergeBwd
public import proofs.«01_k».proof.Proof.Gen.KernelMergeBwd.Frame
public import proofs.«01_k».proof.Proof.Gen.KernelMergeBwdIdeal
public import proofs.«01_k».proof.Proof.Gen.KernelMergeBwdIdeal.Frame
public import proofs.«01_k».proof.Proof.Gen.ReferenceMergeBwdIdeal
public import proofs.«01_k».proof.Proof.Gen.ReferenceMergeBwdIdeal.Run
public import proofs.«01_k».proof.Proof.Gen.ReferenceMergeBwdIdeal.Read
public import proofs.«01_k».proof.Proof.Gen.KernelOutDw
public import proofs.«01_k».proof.Proof.Gen.KernelOutDw.Frame
public import proofs.«01_k».proof.Proof.Gen.KernelOutDwIdeal
public import proofs.«01_k».proof.Proof.Gen.KernelOutDwIdeal.Frame
public import proofs.«01_k».proof.Proof.Gen.KernelOutDwIdeal.Value
public import proofs.«01_k».proof.Proof.Gen.ReferenceOutDwIdeal
public import proofs.«01_k».proof.Proof.Gen.ReferenceOutDwIdeal.Run
public import proofs.«01_k».proof.Proof.Gen.ReferenceOutDwIdeal.Read
public import proofs.«01_k».proof.Proof.Gen.KernelBrDw
public import proofs.«01_k».proof.Proof.Gen.KernelBrDw.Frame
public import proofs.«01_k».proof.Proof.Gen.KernelBrDwIdeal
public import proofs.«01_k».proof.Proof.Gen.KernelBrDwIdeal.Frame
public import proofs.«01_k».proof.Proof.Gen.KernelBrDwIdeal.Value
public import proofs.«01_k».proof.Proof.Gen.ReferenceBrDwIdeal
public import proofs.«01_k».proof.Proof.Gen.ReferenceBrDwIdeal.Run
public import proofs.«01_k».proof.Proof.Gen.ReferenceBrDwIdeal.Read
public import proofs.«01_k».proof.Proof.Gen.KernelAdamIn
public import proofs.«01_k».proof.Proof.Gen.KernelAdamIn.Frame
public import proofs.«01_k».proof.Proof.Gen.KernelAdamInIdeal
public import proofs.«01_k».proof.Proof.Gen.KernelAdamInIdeal.Frame
public import proofs.«01_k».proof.Proof.Gen.ReferenceAdamInIdeal
public import proofs.«01_k».proof.Proof.Gen.ReferenceAdamInIdeal.Run
public import proofs.«01_k».proof.Proof.Gen.ReferenceAdamInIdeal.Read
public import proofs.«01_k».proof.Proof.Gen.KernelAdamRows
public import proofs.«01_k».proof.Proof.Gen.KernelAdamRows.Frame
public import proofs.«01_k».proof.Proof.Gen.KernelAdamRowsIdeal
public import proofs.«01_k».proof.Proof.Gen.KernelAdamRowsIdeal.Frame
public import proofs.«01_k».proof.Proof.Gen.KernelAdamRowsIdeal.Value
public import proofs.«01_k».proof.Proof.Gen.ReferenceAdamRowsIdeal
public import proofs.«01_k».proof.Proof.Gen.ReferenceAdamRowsIdeal.Run
public import proofs.«01_k».proof.Proof.Gen.ReferenceAdamRowsIdeal.Read
public import proofs.«01_k».proof.Proof.Gen.KernelAdamBr
public import proofs.«01_k».proof.Proof.Gen.KernelAdamBr.Frame
public import proofs.«01_k».proof.Proof.Gen.KernelAdamBrIdeal
public import proofs.«01_k».proof.Proof.Gen.KernelAdamBrIdeal.Frame
public import proofs.«01_k».proof.Proof.Gen.KernelAdamBrIdeal.Value
public import proofs.«01_k».proof.Proof.Gen.ReferenceAdamBrIdeal
public import proofs.«01_k».proof.Proof.Gen.ReferenceAdamBrIdeal.Run
public import proofs.«01_k».proof.Proof.Gen.ReferenceAdamBrIdeal.Read
public import proofs.«01_k».proof.Proof.Gen.KernelAdamUp
public import proofs.«01_k».proof.Proof.Gen.KernelAdamUp.Frame
public import proofs.«01_k».proof.Proof.Gen.KernelAdamUpIdeal
public import proofs.«01_k».proof.Proof.Gen.KernelAdamUpIdeal.Frame
public import proofs.«01_k».proof.Proof.Gen.KernelAdamUpIdeal.Value
public import proofs.«01_k».proof.Proof.Gen.ReferenceAdamUpIdeal
public import proofs.«01_k».proof.Proof.Gen.ReferenceAdamUpIdeal.Run
public import proofs.«01_k».proof.Proof.Gen.ReferenceAdamUpIdeal.Read
public import proofs.«01_k».proof.Proof.Gen.KernelAdamDown
public import proofs.«01_k».proof.Proof.Gen.KernelAdamDown.Frame
public import proofs.«01_k».proof.Proof.Gen.KernelAdamDownIdeal
public import proofs.«01_k».proof.Proof.Gen.KernelAdamDownIdeal.Frame
public import proofs.«01_k».proof.Proof.Gen.KernelAdamDownIdeal.Value
public import proofs.«01_k».proof.Proof.Gen.ReferenceAdamDownIdeal
public import proofs.«01_k».proof.Proof.Gen.ReferenceAdamDownIdeal.Run
public import proofs.«01_k».proof.Proof.Gen.ReferenceAdamDownIdeal.Read
public import proofs.«01_k».proof.Proof.Gen.KernelAdamConv
public import proofs.«01_k».proof.Proof.Gen.KernelAdamConv.Frame
public import proofs.«01_k».proof.Proof.Gen.KernelAdamConvIdeal
public import proofs.«01_k».proof.Proof.Gen.KernelAdamConvIdeal.Frame
public import proofs.«01_k».proof.Proof.Gen.KernelAdamConvIdeal.Value
public import proofs.«01_k».proof.Proof.Gen.ReferenceAdamConvIdeal
public import proofs.«01_k».proof.Proof.Gen.ReferenceAdamConvIdeal.Run
public import proofs.«01_k».proof.Proof.Gen.ReferenceAdamConvIdeal.Read
public import proofs.«01_k».proof.Proof.Gen.KernelKvProj
public import proofs.«01_k».proof.Proof.Gen.KernelKvProj.Frame
public import proofs.«01_k».proof.Proof.Gen.KernelKvProjIdeal
public import proofs.«01_k».proof.Proof.Gen.KernelKvProjIdeal.Frame
public import proofs.«01_k».proof.Proof.Gen.KernelKvProjIdeal.Value
public import proofs.«01_k».proof.Proof.Gen.ReferenceKvProjIdeal
public import proofs.«01_k».proof.Proof.Gen.ReferenceKvProjIdeal.Run
public import proofs.«01_k».proof.Proof.Gen.ReferenceKvProjIdeal.Read
public import proofs.«01_k».proof.Proof.Gen.KernelKvDw
public import proofs.«01_k».proof.Proof.Gen.KernelKvDw.Frame
public import proofs.«01_k».proof.Proof.Gen.KernelKvDwIdeal
public import proofs.«01_k».proof.Proof.Gen.KernelKvDwIdeal.Frame
public import proofs.«01_k».proof.Proof.Gen.KernelKvDwIdeal.Value
public import proofs.«01_k».proof.Proof.Gen.ReferenceKvDwIdeal
public import proofs.«01_k».proof.Proof.Gen.ReferenceKvDwIdeal.Run
public import proofs.«01_k».proof.Proof.Gen.ReferenceKvDwIdeal.Read
public import proofs.«01_k».proof.Proof.Gen.KernelKvDx
public import proofs.«01_k».proof.Proof.Gen.KernelKvDx.Frame
public import proofs.«01_k».proof.Proof.Gen.KernelKvDxIdeal
public import proofs.«01_k».proof.Proof.Gen.KernelKvDxIdeal.Frame
public import proofs.«01_k».proof.Proof.Gen.KernelKvDxIdeal.Value
public import proofs.«01_k».proof.Proof.Gen.ReferenceKvDxIdeal
public import proofs.«01_k».proof.Proof.Gen.ReferenceKvDxIdeal.Run
public import proofs.«01_k».proof.Proof.Gen.ReferenceKvDxIdeal.Read
public import proofs.«01_k».proof.Proof.Gen.KernelMemFwd
public import proofs.«01_k».proof.Proof.Gen.KernelMemFwd.Frame
public import proofs.«01_k».proof.Proof.Gen.KernelMemFwdIdeal
public import proofs.«01_k».proof.Proof.Gen.KernelMemFwdIdeal.Frame
public import proofs.«01_k».proof.Proof.Gen.KernelMemFwdIdeal.Value
public import proofs.«01_k».proof.Proof.Gen.ReferenceMemFwdIdeal
public import proofs.«01_k».proof.Proof.Gen.ReferenceMemFwdIdeal.Run
public import proofs.«01_k».proof.Proof.Gen.ReferenceMemFwdIdeal.Read
public import proofs.«01_k».proof.Proof.Gen.KernelNormFwd
public import proofs.«01_k».proof.Proof.Gen.KernelNormFwd.Frame
public import proofs.«01_k».proof.Proof.Gen.KernelNormFwdIdeal
public import proofs.«01_k».proof.Proof.Gen.KernelNormFwdIdeal.Frame
public import proofs.«01_k».proof.Proof.Gen.KernelNormFwdIdeal.Value
public import proofs.«01_k».proof.Proof.Gen.ReferenceNormFwdIdeal
public import proofs.«01_k».proof.Proof.Gen.ReferenceNormFwdIdeal.Run
public import proofs.«01_k».proof.Proof.Gen.ReferenceNormFwdIdeal.Read
public import proofs.«01_k».proof.Proof.Gen.KernelNormMemFwd
public import proofs.«01_k».proof.Proof.Gen.KernelNormMemFwd.Frame
public import proofs.«01_k».proof.Proof.Gen.KernelNormMemFwdIdeal
public import proofs.«01_k».proof.Proof.Gen.KernelNormMemFwdIdeal.Frame
public import proofs.«01_k».proof.Proof.Gen.KernelNormMemFwdIdeal.Value
public import proofs.«01_k».proof.Proof.Gen.ReferenceNormMemFwdIdeal
public import proofs.«01_k».proof.Proof.Gen.ReferenceNormMemFwdIdeal.Run
public import proofs.«01_k».proof.Proof.Gen.ReferenceNormMemFwdIdeal.Read
public import proofs.«01_k».proof.Proof.Gen.KernelNormMemBwd
public import proofs.«01_k».proof.Proof.Gen.KernelNormMemBwd.Frame
public import proofs.«01_k».proof.Proof.Gen.KernelNormMemBwdIdeal
public import proofs.«01_k».proof.Proof.Gen.KernelNormMemBwdIdeal.Frame
public import proofs.«01_k».proof.Proof.Gen.KernelNormMemBwdIdeal.Value
public import proofs.«01_k».proof.Proof.Gen.ReferenceNormMemBwdIdeal
public import proofs.«01_k».proof.Proof.Gen.ReferenceNormMemBwdIdeal.Run
public import proofs.«01_k».proof.Proof.Gen.ReferenceNormMemBwdIdeal.Read
public import proofs.«01_k».proof.Proof.Gen.KernelForget
public import proofs.«01_k».proof.Proof.Gen.KernelForget.Frame
public import proofs.«01_k».proof.Proof.Gen.KernelForgetIdeal
public import proofs.«01_k».proof.Proof.Gen.KernelForgetIdeal.Frame
public import proofs.«01_k».proof.Proof.Gen.KernelForgetIdeal.Value
public import proofs.«01_k».proof.Proof.Gen.ReferenceForgetIdeal
public import proofs.«01_k».proof.Proof.Gen.ReferenceForgetIdeal.Run
public import proofs.«01_k».proof.Proof.Gen.ReferenceForgetIdeal.Read
public import proofs.«01_k».proof.Proof.Gen.KernelForgetDw
public import proofs.«01_k».proof.Proof.Gen.KernelForgetDw.Frame
public import proofs.«01_k».proof.Proof.Gen.KernelForgetDwIdeal
public import proofs.«01_k».proof.Proof.Gen.KernelForgetDwIdeal.Frame
public import proofs.«01_k».proof.Proof.Gen.KernelForgetDwIdeal.Value
public import proofs.«01_k».proof.Proof.Gen.ReferenceForgetDwIdeal
public import proofs.«01_k».proof.Proof.Gen.ReferenceForgetDwIdeal.Run
public import proofs.«01_k».proof.Proof.Gen.ReferenceForgetDwIdeal.Read
public import proofs.«01_k».proof.Proof.Gen.KernelForgetDx
public import proofs.«01_k».proof.Proof.Gen.KernelForgetDx.Frame
public import proofs.«01_k».proof.Proof.Gen.KernelForgetDxIdeal
public import proofs.«01_k».proof.Proof.Gen.KernelForgetDxIdeal.Frame
public import proofs.«01_k».proof.Proof.Gen.KernelForgetDxIdeal.Value
public import proofs.«01_k».proof.Proof.Gen.ReferenceForgetDxIdeal
public import proofs.«01_k».proof.Proof.Gen.ReferenceForgetDxIdeal.Run
public import proofs.«01_k».proof.Proof.Gen.ReferenceForgetDxIdeal.Read
public import proofs.«01_k».proof.Proof.Loss
public import proofs.«01_k».proof.Proof.DownDx
public import proofs.«01_k».proof.Proof.DownDw
public import proofs.«01_k».proof.Proof.Up
public import proofs.«01_k».proof.Proof.UpDx
public import proofs.«01_k».proof.Proof.UpDw
public import proofs.«01_k».proof.Proof.In
public import proofs.«01_k».proof.Proof.InDw
public import proofs.«01_k».proof.Proof.InDx
public import proofs.«01_k».proof.Proof.Norm
public import proofs.«01_k».proof.Proof.Merge
public import proofs.«01_k».proof.Proof.MergeBwd
public import proofs.«01_k».proof.Proof.OutDw
public import proofs.«01_k».proof.Proof.BrDw
public import proofs.«01_k».proof.Proof.AdamIn
public import proofs.«01_k».proof.Proof.AdamRows
public import proofs.«01_k».proof.Proof.AdamBr
public import proofs.«01_k».proof.Proof.AdamUp
public import proofs.«01_k».proof.Proof.AdamDown
public import proofs.«01_k».proof.Proof.AdamConv
public import proofs.«01_k».proof.Proof.KvProj
public import proofs.«01_k».proof.Proof.KvDw
public import proofs.«01_k».proof.Proof.KvDx
public import proofs.«01_k».proof.Proof.MemFwd
public import proofs.«01_k».proof.Proof.NormFwd
public import proofs.«01_k».proof.Proof.NormMemFwd
public import proofs.«01_k».proof.Proof.NormMemBwd
public import proofs.«01_k».proof.Proof.Forget
public import proofs.«01_k».proof.Proof.ForgetDw
public import proofs.«01_k».proof.Proof.ForgetDx

@[expose] public section

noncomputable section

namespace Cert.Proof

open Idealize.ShloMosaic Idealize.SL.Sem Idealize.ShloMosaic.TcCoe

theorem frameR : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The kernel's array `w` after its run. -/
abbrev out (m : (ℓ : Loc Cert.KernelIdeal.nD Cert.KernelIdeal.τ Cert.KernelIdeal.sig) → Buf (Elt Ideal) ℓ) (c : Dev Cert.KernelIdeal.nD) (w : Fin Cert.KernelIdeal.cfg0.W) :=
  (Cert.KernelIdeal.Gen.dats m 0 c).arrAt w Cert.KernelIdeal.cfg0.N

theorem algebraic : Cert.algebraic_KernelIdeal_ReferenceIdeal_pre_finite_gains := by
  intro m ρ m' ρ' hpre hagree
  refine ⟨fun c => out m c 6, fun c => out m c 7, fun c => out m c 8, fun c => out m c 9, fun c => out m c 10,
    Cert.KernelIdeal.Value.run_blocks (F := Ideal) m ρ, ?_⟩
  refine (θ_run Cert.ReferenceIdeal.defs _ _).mono (fun r h c => ?_) (Cert.ReferenceIdeal.Value.run (F := Ideal) m' ρ')
  obtain ⟨r0, r1, r2, r3, r4, kept⟩ := h c
  obtain ⟨a0, a1, a2, a3, a4, a5⟩ := hagree c
  have g3 (i : Fin 128) := (Cert.Gains.real _ _ _ _ _ _ (hpre c) (ix2 0 i)).1
  have g4 (i : Fin 128) := (Cert.Gains.real _ _ _ _ _ _ (hpre c) (ix2 0 i)).2
  refine ⟨r0.trans ?_, r1.trans ?_, r2.trans ?_, r3.trans ?_, r4.trans ?_, kept⟩
  · refine (Cert.ReferenceIdeal.Read.val_main_v144_eq (StableHlo.launchContents m' c)).trans ?_
    show Cert.ReferenceIdeal.Read.val_main_v144 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) = _
    rw [a0, a1, a2, a3, a4, a5]
    exact (Cert.MemEq.queries _ _ _ _ _ g3 g4 _).trans (Cert.MemArrays.arr6 m c).symm
  · refine (Cert.ReferenceIdeal.Read.val_main_v118_eq (StableHlo.launchContents m' c)).trans ?_
    show Cert.ReferenceIdeal.Read.val_main_v118 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) = _
    rw [a0, a1, a2, a3, a4]
    exact (Cert.MemEq.keys _ _ _ _ _ g3 g4).trans (Cert.MemArrays.arr7 m c).symm
  · refine (Cert.ReferenceIdeal.Read.val_main_v97_eq (StableHlo.launchContents m' c)).trans ?_
    show Cert.ReferenceIdeal.Read.val_main_v97 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) = _
    rw [a0, a1, a2, a3, a4]
    exact (Cert.MemEq.vals _ _ _ _ _ g3 g4).trans (Cert.MemArrays.arr8 m c).symm
  · refine (Cert.ReferenceIdeal.Read.val_main_v141_eq (StableHlo.launchContents m' c)).trans ?_
    show Cert.ReferenceIdeal.Read.val_main_v141 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) = _
    rw [a0, a1, a2, a3, a4]
    exact (Cert.MemEq.gainQ _ _ _ _ _ g3 g4).trans (Cert.MemArrays.arr9 m c).symm
  · refine (Cert.ReferenceIdeal.Read.val_main_v140_eq (StableHlo.launchContents m' c)).trans ?_
    show Cert.ReferenceIdeal.Read.val_main_v140 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) = _
    rw [a0, a1, a2, a3, a4]
    exact (Cert.MemEq.gainK _ _ _ _ _ g3 g4).trans (Cert.MemArrays.arr10 m c).symm

theorem claim : Cert.Claim := ⟨Cert.Kernel.Gen.facts, Cert.KernelIdeal.Gen.facts, Cert.ReferenceIdeal.Gen.facts,
  Cert.KernelLoss.Gen.facts, Cert.KernelLossIdeal.Gen.facts, Cert.ReferenceLossIdeal.Gen.facts,
  Cert.KernelDownDx.Gen.facts, Cert.KernelDownDxIdeal.Gen.facts, Cert.ReferenceDownDxIdeal.Gen.facts,
  Cert.KernelDownDw.Gen.facts, Cert.KernelDownDwIdeal.Gen.facts, Cert.ReferenceDownDwIdeal.Gen.facts,
  Cert.KernelUp.Gen.facts, Cert.KernelUpIdeal.Gen.facts, Cert.ReferenceUpIdeal.Gen.facts,
  Cert.KernelUpDx.Gen.facts, Cert.KernelUpDxIdeal.Gen.facts, Cert.ReferenceUpDxIdeal.Gen.facts,
  Cert.KernelUpDw.Gen.facts, Cert.KernelUpDwIdeal.Gen.facts, Cert.ReferenceUpDwIdeal.Gen.facts,
  Cert.KernelIn.Gen.facts, Cert.KernelInIdeal.Gen.facts, Cert.ReferenceInIdeal.Gen.facts,
  Cert.KernelInDw.Gen.facts, Cert.KernelInDwIdeal.Gen.facts, Cert.ReferenceInDwIdeal.Gen.facts,
  Cert.KernelInDx.Gen.facts, Cert.KernelInDxIdeal.Gen.facts, Cert.ReferenceInDxIdeal.Gen.facts,
  Cert.KernelNorm.Gen.facts, Cert.KernelNormIdeal.Gen.facts, Cert.ReferenceNormIdeal.Gen.facts,
  Cert.KernelMerge.Gen.facts, Cert.KernelMergeIdeal.Gen.facts, Cert.ReferenceMergeIdeal.Gen.facts,
  Cert.KernelMergeBwd.Gen.facts, Cert.KernelMergeBwdIdeal.Gen.facts, Cert.ReferenceMergeBwdIdeal.Gen.facts,
  Cert.KernelOutDw.Gen.facts, Cert.KernelOutDwIdeal.Gen.facts, Cert.ReferenceOutDwIdeal.Gen.facts,
  Cert.KernelBrDw.Gen.facts, Cert.KernelBrDwIdeal.Gen.facts, Cert.ReferenceBrDwIdeal.Gen.facts,
  Cert.KernelAdamIn.Gen.facts, Cert.KernelAdamInIdeal.Gen.facts, Cert.ReferenceAdamInIdeal.Gen.facts,
  Cert.KernelAdamRows.Gen.facts, Cert.KernelAdamRowsIdeal.Gen.facts, Cert.ReferenceAdamRowsIdeal.Gen.facts,
  Cert.KernelAdamBr.Gen.facts, Cert.KernelAdamBrIdeal.Gen.facts, Cert.ReferenceAdamBrIdeal.Gen.facts,
  Cert.KernelAdamUp.Gen.facts, Cert.KernelAdamUpIdeal.Gen.facts, Cert.ReferenceAdamUpIdeal.Gen.facts,
  Cert.KernelAdamDown.Gen.facts, Cert.KernelAdamDownIdeal.Gen.facts, Cert.ReferenceAdamDownIdeal.Gen.facts,
  Cert.KernelAdamConv.Gen.facts, Cert.KernelAdamConvIdeal.Gen.facts, Cert.ReferenceAdamConvIdeal.Gen.facts,
  Cert.KernelKvProj.Gen.facts, Cert.KernelKvProjIdeal.Gen.facts, Cert.ReferenceKvProjIdeal.Gen.facts,
  Cert.KernelKvDw.Gen.facts, Cert.KernelKvDwIdeal.Gen.facts, Cert.ReferenceKvDwIdeal.Gen.facts,
  Cert.KernelKvDx.Gen.facts, Cert.KernelKvDxIdeal.Gen.facts, Cert.ReferenceKvDxIdeal.Gen.facts,
  Cert.KernelMemFwd.Gen.facts, Cert.KernelMemFwdIdeal.Gen.facts, Cert.ReferenceMemFwdIdeal.Gen.facts,
  Cert.KernelNormFwd.Gen.facts, Cert.KernelNormFwdIdeal.Gen.facts, Cert.ReferenceNormFwdIdeal.Gen.facts,
  Cert.KernelNormMemFwd.Gen.facts, Cert.KernelNormMemFwdIdeal.Gen.facts, Cert.ReferenceNormMemFwdIdeal.Gen.facts,
  Cert.KernelNormMemBwd.Gen.facts, Cert.KernelNormMemBwdIdeal.Gen.facts, Cert.ReferenceNormMemBwdIdeal.Gen.facts,
  Cert.KernelForget.Gen.facts, Cert.KernelForgetIdeal.Gen.facts, Cert.ReferenceForgetIdeal.Gen.facts,
  Cert.KernelForgetDw.Gen.facts, Cert.KernelForgetDwIdeal.Gen.facts, Cert.ReferenceForgetDwIdeal.Gen.facts,
  Cert.KernelForgetDx.Gen.facts, Cert.KernelForgetDxIdeal.Gen.facts, Cert.ReferenceForgetDxIdeal.Gen.facts, Cert.Pre_finite_gains.Gen.facts,
  fun m ρ _ => Cert.Kernel.Gen.frame m ρ, fun m ρ _ => Cert.KernelIdeal.Gen.frame m ρ, fun m ρ _ => Cert.KernelIdeal.Gen.frame m ρ,
  frameR, fun m ρ _ => frameR m ρ trivial,
  fun m ρ _ => Cert.KernelLoss.Gen.frame m ρ, fun m ρ _ => Cert.KernelLossIdeal.Gen.frame m ρ, Cert.Loss.frameR,
  fun m ρ _ => Cert.KernelDownDx.Gen.frame m ρ, fun m ρ _ => Cert.KernelDownDxIdeal.Gen.frame m ρ, Cert.DownDx.frameR,
  fun m ρ _ => Cert.KernelDownDw.Gen.frame m ρ, fun m ρ _ => Cert.KernelDownDwIdeal.Gen.frame m ρ, Cert.DownDw.frameR,
  fun m ρ _ => Cert.KernelUp.Gen.frame m ρ, fun m ρ _ => Cert.KernelUpIdeal.Gen.frame m ρ, Cert.Up.frameR,
  fun m ρ _ => Cert.KernelUpDx.Gen.frame m ρ, fun m ρ _ => Cert.KernelUpDxIdeal.Gen.frame m ρ, Cert.UpDx.frameR,
  fun m ρ _ => Cert.KernelUpDw.Gen.frame m ρ, fun m ρ _ => Cert.KernelUpDwIdeal.Gen.frame m ρ, Cert.UpDw.frameR,
  fun m ρ _ => Cert.KernelIn.Gen.frame m ρ, fun m ρ _ => Cert.KernelInIdeal.Gen.frame m ρ, Cert.In.frameR,
  fun m ρ _ => Cert.KernelInDw.Gen.frame m ρ, fun m ρ _ => Cert.KernelInDwIdeal.Gen.frame m ρ, Cert.InDw.frameR,
  fun m ρ _ => Cert.KernelInDx.Gen.frame m ρ, fun m ρ _ => Cert.KernelInDxIdeal.Gen.frame m ρ, Cert.InDx.frameR,
  fun m ρ _ => Cert.KernelNorm.Gen.frame m ρ, fun m ρ _ => Cert.KernelNormIdeal.Gen.frame m ρ, Cert.Norm.frameR,
  fun m ρ _ => Cert.KernelMerge.Gen.frame m ρ, fun m ρ _ => Cert.KernelMergeIdeal.Gen.frame m ρ, Cert.Merge.frameR,
  fun m ρ _ => Cert.KernelMergeBwd.Gen.frame m ρ, fun m ρ _ => Cert.KernelMergeBwdIdeal.Gen.frame m ρ, Cert.MergeBwd.frameR,
  fun m ρ _ => Cert.KernelOutDw.Gen.frame m ρ, fun m ρ _ => Cert.KernelOutDwIdeal.Gen.frame m ρ, Cert.OutDw.frameR,
  fun m ρ _ => Cert.KernelBrDw.Gen.frame m ρ, fun m ρ _ => Cert.KernelBrDwIdeal.Gen.frame m ρ, Cert.BrDw.frameR,
  fun m ρ _ => Cert.KernelAdamIn.Gen.frame m ρ, fun m ρ _ => Cert.KernelAdamInIdeal.Gen.frame m ρ, Cert.AdamIn.frameR,
  fun m ρ _ => Cert.KernelAdamRows.Gen.frame m ρ, fun m ρ _ => Cert.KernelAdamRowsIdeal.Gen.frame m ρ, Cert.AdamRows.frameR,
  fun m ρ _ => Cert.KernelAdamBr.Gen.frame m ρ, fun m ρ _ => Cert.KernelAdamBrIdeal.Gen.frame m ρ, Cert.AdamBr.frameR,
  fun m ρ _ => Cert.KernelAdamUp.Gen.frame m ρ, fun m ρ _ => Cert.KernelAdamUpIdeal.Gen.frame m ρ, Cert.AdamUp.frameR,
  fun m ρ _ => Cert.KernelAdamDown.Gen.frame m ρ, fun m ρ _ => Cert.KernelAdamDownIdeal.Gen.frame m ρ, Cert.AdamDown.frameR,
  fun m ρ _ => Cert.KernelAdamConv.Gen.frame m ρ, fun m ρ _ => Cert.KernelAdamConvIdeal.Gen.frame m ρ, Cert.AdamConv.frameR,
  fun m ρ _ => Cert.KernelKvProj.Gen.frame m ρ, fun m ρ _ => Cert.KernelKvProjIdeal.Gen.frame m ρ, Cert.KvProj.frameR,
  fun m ρ _ => Cert.KernelKvDw.Gen.frame m ρ, fun m ρ _ => Cert.KernelKvDwIdeal.Gen.frame m ρ, Cert.KvDw.frameR,
  fun m ρ _ => Cert.KernelKvDx.Gen.frame m ρ, fun m ρ _ => Cert.KernelKvDxIdeal.Gen.frame m ρ, Cert.KvDx.frameR,
  fun m ρ _ => Cert.KernelMemFwd.Gen.frame m ρ, fun m ρ _ => Cert.KernelMemFwdIdeal.Gen.frame m ρ, Cert.MemFwd.frameR,
  fun m ρ _ => Cert.KernelNormFwd.Gen.frame m ρ, fun m ρ _ => Cert.KernelNormFwdIdeal.Gen.frame m ρ, Cert.NormFwd.frameR,
  fun m ρ _ => Cert.KernelNormMemFwd.Gen.frame m ρ, fun m ρ _ => Cert.KernelNormMemFwdIdeal.Gen.frame m ρ, Cert.NormMemFwd.frameR,
  fun m ρ _ => Cert.KernelNormMemBwd.Gen.frame m ρ, fun m ρ _ => Cert.KernelNormMemBwdIdeal.Gen.frame m ρ, Cert.NormMemBwd.frameR,
  fun m ρ _ => Cert.KernelForget.Gen.frame m ρ, fun m ρ _ => Cert.KernelForgetIdeal.Gen.frame m ρ, Cert.Forget.frameR,
  fun m ρ _ => Cert.KernelForgetDw.Gen.frame m ρ, fun m ρ _ => Cert.KernelForgetDwIdeal.Gen.frame m ρ, Cert.ForgetDw.frameR,
  fun m ρ _ => Cert.KernelForgetDx.Gen.frame m ρ, fun m ρ _ => Cert.KernelForgetDxIdeal.Gen.frame m ρ, Cert.ForgetDx.frameR,
  trivial, algebraic,
  trivial, Cert.Loss.algebraic,
  trivial, Cert.DownDx.algebraic,
  trivial, Cert.DownDw.algebraic,
  trivial, Cert.Up.algebraic,
  trivial, Cert.UpDx.algebraic,
  trivial, Cert.UpDw.algebraic,
  trivial, Cert.In.algebraic,
  trivial, Cert.InDw.algebraic,
  trivial, Cert.InDx.algebraic,
  trivial, Cert.Norm.algebraic,
  trivial, Cert.Merge.algebraic,
  trivial, Cert.MergeBwd.algebraic,
  trivial, Cert.OutDw.algebraic,
  trivial, Cert.BrDw.algebraic,
  Cert.AdamIn.preserves, Cert.AdamIn.algebraic,
  Cert.AdamRows.preserves, Cert.AdamRows.algebraic,
  Cert.AdamBr.preserves, Cert.AdamBr.algebraic,
  Cert.AdamUp.preserves, Cert.AdamUp.algebraic,
  Cert.AdamDown.preserves, Cert.AdamDown.algebraic,
  Cert.AdamConv.preserves, Cert.AdamConv.algebraic,
  trivial, Cert.KvProj.algebraic,
  trivial, Cert.KvDw.algebraic,
  trivial, Cert.KvDx.algebraic,
  trivial, Cert.MemFwd.algebraic,
  trivial, Cert.NormFwd.algebraic,
  trivial, Cert.NormMemFwd.algebraic,
  trivial, Cert.NormMemBwd.algebraic,
  trivial, Cert.Forget.algebraic,
  trivial, Cert.ForgetDw.algebraic,
  trivial, Cert.ForgetDx.algebraic⟩

end Cert.Proof

end
